-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)) (v3 : (c : Dev Cert.KernelIdeal.nD) → Buf (Elt Ideal) ((c.tc : Thread Cert.KernelIdeal.nD Cert.KernelIdeal.τ).loc Cert.KernelIdeal.main_v27_3)) (v4 : (c : Dev Cert.KernelIdeal.nD) → Buf (Elt Ideal) ((c.tc : Thread Cert.KernelIdeal.nD Cert.KernelIdeal.τ).loc Cert.KernelIdeal.main_v27_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_v27_3) = v3 c
          ∧ r.2.mem ((c.tc : Thread Cert.KernelIdeal.nD Cert.KernelIdeal.τ).loc Cert.KernelIdeal.main_v27_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_v119) = v2 c
          ∧ r.2.mem ((c.tc : Thread Cert.ReferenceIdeal.nD Cert.ReferenceIdeal.τ).loc Cert.ReferenceIdeal.main_v120) = v3 c
          ∧ r.2.mem ((c.tc : Thread Cert.ReferenceIdeal.nD Cert.ReferenceIdeal.τ).loc Cert.ReferenceIdeal.main_v121) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v18) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_v21) = v1 c
          ∧ r.2.mem ((c.tc : Thread Cert.Reference6Ideal.nD Cert.Reference6Ideal.τ).loc Cert.Reference6Ideal.main_v23) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)) (v3 : (c : Dev Cert.Kernel7Ideal.nD) → Buf (Elt Ideal) ((c.tc : Thread Cert.Kernel7Ideal.nD Cert.Kernel7Ideal.τ).loc Cert.Kernel7Ideal.main_v1_3)) (v4 : (c : Dev Cert.Kernel7Ideal.nD) → Buf (Elt Ideal) ((c.tc : Thread Cert.Kernel7Ideal.nD Cert.Kernel7Ideal.τ).loc Cert.Kernel7Ideal.main_v1_4)) (v5 : (c : Dev Cert.Kernel7Ideal.nD) → Buf (Elt Ideal) ((c.tc : Thread Cert.Kernel7Ideal.nD Cert.Kernel7Ideal.τ).loc Cert.Kernel7Ideal.main_v1_5)) (v6 : (c : Dev Cert.Kernel7Ideal.nD) → Buf (Elt Ideal) ((c.tc : Thread Cert.Kernel7Ideal.nD Cert.Kernel7Ideal.τ).loc Cert.Kernel7Ideal.main_v1_6)) (v7 : (c : Dev Cert.Kernel7Ideal.nD) → Buf (Elt Ideal) ((c.tc : Thread Cert.Kernel7Ideal.nD Cert.Kernel7Ideal.τ).loc Cert.Kernel7Ideal.main_v1_7)) (v8 : (c : Dev Cert.Kernel7Ideal.nD) → Buf (Elt Ideal) ((c.tc : Thread Cert.Kernel7Ideal.nD Cert.Kernel7Ideal.τ).loc Cert.Kernel7Ideal.main_v1_8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_v1_3) = v3 c
          ∧ r.2.mem ((c.tc : Thread Cert.Kernel7Ideal.nD Cert.Kernel7Ideal.τ).loc Cert.Kernel7Ideal.main_v1_4) = v4 c
          ∧ r.2.mem ((c.tc : Thread Cert.Kernel7Ideal.nD Cert.Kernel7Ideal.τ).loc Cert.Kernel7Ideal.main_v1_5) = v5 c
          ∧ r.2.mem ((c.tc : Thread Cert.Kernel7Ideal.nD Cert.Kernel7Ideal.τ).loc Cert.Kernel7Ideal.main_v1_6) = v6 c
          ∧ r.2.mem ((c.tc : Thread Cert.Kernel7Ideal.nD Cert.Kernel7Ideal.τ).loc Cert.Kernel7Ideal.main_v1_7) = v7 c
          ∧ r.2.mem ((c.tc : Thread Cert.Kernel7Ideal.nD Cert.Kernel7Ideal.τ).loc Cert.Kernel7Ideal.main_v1_8) = v8 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v78) = v0 c
          ∧ r.2.mem ((c.tc : Thread Cert.Reference7Ideal.nD Cert.Reference7Ideal.τ).loc Cert.Reference7Ideal.main_v95) = v1 c
          ∧ r.2.mem ((c.tc : Thread Cert.Reference7Ideal.nD Cert.Reference7Ideal.τ).loc Cert.Reference7Ideal.main_v96) = v2 c
          ∧ r.2.mem ((c.tc : Thread Cert.Reference7Ideal.nD Cert.Reference7Ideal.τ).loc Cert.Reference7Ideal.main_v97) = v3 c
          ∧ r.2.mem ((c.tc : Thread Cert.Reference7Ideal.nD Cert.Reference7Ideal.τ).loc Cert.Reference7Ideal.main_v98) = v4 c
          ∧ r.2.mem ((c.tc : Thread Cert.Reference7Ideal.nD Cert.Reference7Ideal.τ).loc Cert.Reference7Ideal.main_v99) = v5 c
          ∧ r.2.mem ((c.tc : Thread Cert.Reference7Ideal.nD Cert.Reference7Ideal.τ).loc Cert.Reference7Ideal.main_v100) = v6 c
          ∧ r.2.mem ((c.tc : Thread Cert.Reference7Ideal.nD Cert.Reference7Ideal.τ).loc Cert.Reference7Ideal.main_v102) = v7 c
          ∧ r.2.mem ((c.tc : Thread Cert.Reference7Ideal.nD Cert.Reference7Ideal.τ).loc Cert.Reference7Ideal.main_v103) = v8 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v44) = v0 c
          ∧ r.2.mem ((c.tc : Thread Cert.Reference8Ideal.nD Cert.Reference8Ideal.τ).loc Cert.Reference8Ideal.main_v46) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v25)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v25) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v55) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v9_0)) (v1 : (c : Dev Cert.Kernel10Ideal.nD) → Buf (Elt Ideal) ((c.tc : Thread Cert.Kernel10Ideal.nD Cert.Kernel10Ideal.τ).loc Cert.Kernel10Ideal.main_v9_1)) (v2 : (c : Dev Cert.Kernel10Ideal.nD) → Buf (Elt Ideal) ((c.tc : Thread Cert.Kernel10Ideal.nD Cert.Kernel10Ideal.τ).loc Cert.Kernel10Ideal.main_v9_2)) (v3 : (c : Dev Cert.Kernel10Ideal.nD) → Buf (Elt Ideal) ((c.tc : Thread Cert.Kernel10Ideal.nD Cert.Kernel10Ideal.τ).loc Cert.Kernel10Ideal.main_v9_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9_0) = v0 c
          ∧ r.2.mem ((c.tc : Thread Cert.Kernel10Ideal.nD Cert.Kernel10Ideal.τ).loc Cert.Kernel10Ideal.main_v9_1) = v1 c
          ∧ r.2.mem ((c.tc : Thread Cert.Kernel10Ideal.nD Cert.Kernel10Ideal.τ).loc Cert.Kernel10Ideal.main_v9_2) = v2 c
          ∧ r.2.mem ((c.tc : Thread Cert.Kernel10Ideal.nD Cert.Kernel10Ideal.τ).loc Cert.Kernel10Ideal.main_v9_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v26) = v0 c
          ∧ r.2.mem ((c.tc : Thread Cert.Reference10Ideal.nD Cert.Reference10Ideal.τ).loc Cert.Reference10Ideal.main_v27) = v1 c
          ∧ r.2.mem ((c.tc : Thread Cert.Reference10Ideal.nD Cert.Reference10Ideal.τ).loc Cert.Reference10Ideal.main_v28) = v2 c
          ∧ r.2.mem ((c.tc : Thread Cert.Reference10Ideal.nD Cert.Reference10Ideal.τ).loc Cert.Reference10Ideal.main_v29) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_v5) = v2 c
          ∧ r.2.mem ((c.tc : Thread Cert.Reference11Ideal.nD Cert.Reference11Ideal.τ).loc Cert.Reference11Ideal.main_v11) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S8192x16384 : Shape := ⟨2, ![8192, 16384]⟩
abbrev S8192x2048 : Shape := ⟨2, ![8192, 2048]⟩
abbrev S1x2048 : Shape := ⟨2, ![1, 2048]⟩
abbrev S1x16x128x128 : Shape := ⟨4, ![1, 16, 128, 128]⟩
abbrev S1x16x128 : Shape := ⟨3, ![1, 16, 128]⟩
abbrev S8192x6144 : Shape := ⟨2, ![8192, 6144]⟩
abbrev S_ : Shape := ⟨0, ![]⟩

class Facts : Prop where
  slices_S8192x16384_S8192x6144_0_0 : S8192x16384.Slices ![0, 0] S8192x6144
  bcast_S_S8192x6144 : S_.BroadcastsInDim S8192x6144 (![] : Fin 0 → Fin S8192x6144.rank)
  bcast_S_S8192x2048 : S_.BroadcastsInDim S8192x2048 (![] : Fin 0 → Fin S8192x2048.rank)
  bcast_S_S1x2048 : S_.BroadcastsInDim S1x2048 (![] : Fin 0 → Fin S1x2048.rank)
  bcast_S_S1x16x128x128 : S_.BroadcastsInDim S1x16x128x128 (![] : Fin 0 → Fin S1x16x128x128.rank)
  bcast_S_S1x16x128 : S_.BroadcastsInDim S1x16x128 (![] : Fin 0 → Fin S1x16x128.rank)

variable [Facts]

def fn_part1 {F : FTy → Type} [FloatOps F] (main_v3 : IVec S8192x6144 1) (main_v6 : IVec S8192x2048 1) (main_v9 : IVec S1x2048 1) (main_v12 : IVec S1x2048 1) (main_v15 : IVec S1x16x128x128 1) (main_v16 : FVec F S1x16x128 .f32) (main_v17 : FVec F S1x16x128 .f32) : IVec S8192x6144 1 × IVec S8192x2048 1 × IVec S1x2048 1 × IVec S1x2048 1 × IVec S1x16x128x128 1 × IVec S1x16x128 1 :=
  let main_v18 : IVec S1x16x128 1 := cmpf .olt main_v16 main_v17
  (main_v3, main_v6, main_v9, main_v12, main_v15, main_v18)

def fn {F : FTy → Type} [FloatOps F] (main_arg0 : FVec F S8192x16384 .bf16) (main_arg1 : FVec F S8192x2048 .bf16) (main_arg2 : FVec F S1x2048 .f32) (main_arg3 : FVec F S1x2048 .f32) (main_arg4 : FVec F S1x16x128x128 .f32) (main_arg5 : FVec F S1x16x128 .f32) : IVec S8192x6144 1 × IVec S8192x2048 1 × IVec S1x2048 1 × IVec S1x2048 1 × IVec S1x16x128x128 1 × IVec S1x16x128 1 :=
  let main_v0 : FVec F S8192x6144 .bf16 := (extractStridedSlice S8192x6144 ![0, 0] · slices_S8192x16384_S8192x6144_0_0) main_arg0
  let main_v1 : FVec F S8192x6144 .bf16 := Host.absf main_v0
  let main_cst : FVec F S_ .bf16 := constant S_ .bf16 0x7F80#16
  let main_v2 : FVec F S8192x6144 .bf16 := broadcastInDim S8192x6144 ![] bcast_S_S8192x6144 main_cst
  let main_v3 : IVec S8192x6144 1 := cmpf .olt main_v1 main_v2
  let main_v4 : FVec F S8192x2048 .bf16 := Host.absf main_arg1
  let main_cst_0 : FVec F S_ .bf16 := constant S_ .bf16 0x7F80#16
  let main_v5 : FVec F S8192x2048 .bf16 := broadcastInDim S8192x2048 ![] bcast_S_S8192x2048 main_cst_0
  let main_v6 : IVec S8192x2048 1 := cmpf .olt main_v4 main_v5
  let main_v7 : FVec F S1x2048 .f32 := Host.absf main_arg2
  let main_cst_1 : FVec F S_ .f32 := constant S_ .f32 0x7F800000#32
  let main_v8 : FVec F S1x2048 .f32 := broadcastInDim S1x2048 ![] bcast_S_S1x2048 main_cst_1
  let main_v9 : IVec S1x2048 1 := cmpf .olt main_v7 main_v8
  let main_v10 : FVec F S1x2048 .f32 := Host.absf main_arg3
  let main_cst_2 : FVec F S_ .f32 := constant S_ .f32 0x7F800000#32
  let main_v11 : FVec F S1x2048 .f32 := broadcastInDim S1x2048 ![] bcast_S_S1x2048 main_cst_2
  let main_v12 : IVec S1x2048 1 := cmpf .olt main_v10 main_v11
  let main_v13 : FVec F S1x16x128x128 .f32 := Host.absf main_arg4
  let main_cst_3 : FVec F S_ .f32 := constant S_ .f32 0x7F800000#32
  let main_v14 : FVec F S1x16x128x128 .f32 := broadcastInDim S1x16x128x128 ![] bcast_S_S1x16x128x128 main_cst_3
  let main_v15 : IVec S1x16x128x128 1 := cmpf .olt main_v13 main_v14
  let main_v16 : FVec F S1x16x128 .f32 := Host.absf main_arg5
  let main_cst_4 : FVec F S_ .f32 := constant S_ .f32 0x7F800000#32
  let main_v17 : FVec F S1x16x128 .f32 := broadcastInDim S1x16x128 ![] bcast_S_S1x16x128 main_cst_4
  fn_part1 (F := F) main_v3 main_v6 main_v9 main_v12 main_v15 main_v16 main_v17
-- ==== Kernel.lean ====
abbrev S8192x16384 : Shape := ⟨2, ![8192, 16384]⟩
abbrev S8192x2048 : Shape := ⟨2, ![8192, 2048]⟩
abbrev S1x2048 : Shape := ⟨2, ![1, 2048]⟩
abbrev S1x16x128x128 : Shape := ⟨4, ![1, 16, 128, 128]⟩
abbrev S1x16x128 : Shape := ⟨3, ![1, 16, 128]⟩
abbrev S16x128 : Shape := ⟨2, ![16, 128]⟩
abbrev S_ : Shape := ⟨0, ![]⟩
abbrev S16x128x128 : Shape := ⟨3, ![16, 128, 128]⟩
abbrev S2048x128 : Shape := ⟨2, ![2048, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S128x16 : Shape := ⟨2, ![128, 16]⟩
abbrev S128x16x128 : Shape := ⟨3, ![128, 16, 128]⟩
abbrev S128x2048 : Shape := ⟨2, ![128, 2048]⟩
abbrev S8192x6144 : Shape := ⟨2, ![8192, 6144]⟩
abbrev S8x2048 : Shape := ⟨2, ![8, 2048]⟩
abbrev S512x2048 : Shape := ⟨2, ![512, 2048]⟩
abbrev S512x6144 : Shape := ⟨2, ![512, 6144]⟩
abbrev S512 : Shape := ⟨1, ![512]⟩
abbrev S512x1 : Shape := ⟨2, ![512, 1]⟩
abbrev S2048 : Shape := ⟨1, ![2048]⟩

abbrev nBuf : Space → Nat
  | .hbm => 56
  | .vmem => 26
  | .smem => 0
  | _ => 0

abbrev bufTy : (tb : Table) → Fin (tcTables nBuf tb) → BufTy
  | .hbm, ⟨0, _⟩ => ⟨S8192x16384, .bf16⟩
  | .hbm, ⟨1, _⟩ => ⟨S8192x2048, .bf16⟩
  | .hbm, ⟨2, _⟩ => ⟨S1x2048, .f32⟩
  | .hbm, ⟨3, _⟩ => ⟨S1x2048, .f32⟩
  | .hbm, ⟨4, _⟩ => ⟨S1x16x128x128, .f32⟩
  | .hbm, ⟨5, _⟩ => ⟨S1x16x128, .f32⟩
  | .hbm, ⟨6, _⟩ => ⟨S16x128, .i32⟩
  | .hbm, ⟨7, _⟩ => ⟨S16x128, .i32⟩
  | .hbm, ⟨8, _⟩ => ⟨S_, .i32⟩
  | .hbm, ⟨9, _⟩ => ⟨S16x128, .i32⟩
  | .hbm, ⟨10, _⟩ => ⟨S16x128, .i32⟩
  | .hbm, ⟨11, _⟩ => ⟨S16x128, .i1⟩
  | .hbm, ⟨12, _⟩ => ⟨S16x128, .f32⟩
  | .hbm, ⟨13, _⟩ => ⟨S16x128x128, .f32⟩
  | .hbm, ⟨14, _⟩ => ⟨S2048x128, .f32⟩
  | .hbm, ⟨15, _⟩ => ⟨S128, .i32⟩
  | .hbm, ⟨16, _⟩ => ⟨S_, .i32⟩
  | .hbm, ⟨17, _⟩ => ⟨S_, .i32⟩
  | .hbm, ⟨18, _⟩ => ⟨S128, .i32⟩
  | .hbm, ⟨19, _⟩ => ⟨S128, .i32⟩
  | .hbm, ⟨20, _⟩ => ⟨S128, .i32⟩
  | .hbm, ⟨21, _⟩ => ⟨S_, .i32⟩
  | .hbm, ⟨22, _⟩ => ⟨S128, .i32⟩
  | .hbm, ⟨23, _⟩ => ⟨S128, .i1⟩
  | .hbm, ⟨24, _⟩ => ⟨S128, .i32⟩
  | .hbm, ⟨25, _⟩ => ⟨S128, .i32⟩
  | .hbm, ⟨26, _⟩ => ⟨S_, .i32⟩
  | .hbm, ⟨27, _⟩ => ⟨S128, .i32⟩
  | .hbm, ⟨28, _⟩ => ⟨S128, .i1⟩
  | .hbm, ⟨29, _⟩ => ⟨S128, .i1⟩
  | .hbm, ⟨30, _⟩ => ⟨S_, .i32⟩
  | .hbm, ⟨31, _⟩ => ⟨S128, .i32⟩
  | .hbm, ⟨32, _⟩ => ⟨S128, .i32⟩
  | .hbm, ⟨33, _⟩ => ⟨S128, .i32⟩
  | .hbm, ⟨34, _⟩ => ⟨S1x128, .i32⟩
  | .hbm, ⟨35, _⟩ => ⟨S128x1, .i32⟩
  | .hbm, ⟨36, _⟩ => ⟨S128x128, .i32⟩
  | .hbm, ⟨37, _⟩ => ⟨S128x128, .i32⟩
  | .hbm, ⟨38, _⟩ => ⟨S128x128, .i1⟩
  | .hbm, ⟨39, _⟩ => ⟨S128x128, .f32⟩
  | .hbm, ⟨40, _⟩ => ⟨S16x128x128, .f32⟩
  | .hbm, ⟨41, _⟩ => ⟨S1x128x128, .f32⟩
  | .hbm, ⟨42, _⟩ => ⟨S16x128x128, .f32⟩
  | .hbm, ⟨43, _⟩ => ⟨S16x128x128, .f32⟩
  | .hbm, ⟨44, _⟩ => ⟨S16x128x128, .bf16⟩
  | .hbm, ⟨45, _⟩ => ⟨S16x128x128, .f32⟩
  | .hbm, ⟨46, _⟩ => ⟨S16x128x128, .bf16⟩
  | .hbm, ⟨47, _⟩ => ⟨S16x128, .f32⟩
  | .hbm, ⟨48, _⟩ => ⟨S128x16, .f32⟩
  | .hbm, ⟨49, _⟩ => ⟨S128x16x128, .f32⟩
  | .hbm, ⟨50, _⟩ => ⟨S128x2048, .f32⟩
  | .hbm, ⟨51, _⟩ => ⟨S8192x6144, .bf16⟩
  | .hbm, ⟨52, _⟩ => ⟨S16x128x128, .f32⟩
  | .hbm, ⟨53, _⟩ => ⟨S128x128, .f32⟩
  | .hbm, ⟨54, _⟩ => ⟨S8x2048, .f32⟩
  | .hbm, ⟨55, _⟩ => ⟨S8x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S16x128x128, .bf16⟩
  | .local _ .vmem, ⟨11, _⟩ => ⟨S16x128x128, .bf16⟩
  | .local _ .vmem, ⟨12, _⟩ => ⟨S128x2048, .f32⟩
  | .local _ .vmem, ⟨13, _⟩ => ⟨S128x128, .f32⟩
  | .local _ .vmem, ⟨14, _⟩ => ⟨S2048x128, .f32⟩
  | .local _ .vmem, ⟨15, _⟩ => ⟨S512x6144, .bf16⟩
  | .local _ .vmem, ⟨16, _⟩ => ⟨S512x6144, .bf16⟩
  | .local _ .vmem, ⟨17, _⟩ => ⟨S16x128x128, .f32⟩
  | .local _ .vmem, ⟨18, _⟩ => ⟨S128x128, .f32⟩
  | .local _ .vmem, ⟨19, _⟩ => ⟨S8x2048, .f32⟩
  | .local _ .vmem, ⟨20, _⟩ => ⟨S8x2048, .f32⟩
  | .local _ .vmem, ⟨21, _⟩ => ⟨S512x2048, .bf16⟩
  | .local _ .vmem, ⟨22, _⟩ => ⟨S512x2048, .f32⟩
  | .local _ .vmem, ⟨23, _⟩ => ⟨S512x2048, .bf16⟩
  | .local _ .vmem, ⟨24, _⟩ => ⟨S512x2048, .f32⟩
  | .local _ .vmem, ⟨25, _⟩ => ⟨S128x2048, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27_0 : Ref sig .tc := ⟨.hbm, 51, rfl⟩
abbrev main_v27_1 : Ref sig .tc := ⟨.hbm, 52, rfl⟩
abbrev main_v27_2 : Ref sig .tc := ⟨.hbm, 53, rfl⟩
abbrev main_v27_3 : Ref sig .tc := ⟨.hbm, 54, rfl⟩
abbrev main_v27_4 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem14_0 : DmaSem sig := 19
abbrev cc0_sem15_0 : DmaSem sig := 20

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v1726 : BitVec 1 := Scalar.cmpi .eq arg0 c15_i32
  let v1727 : BitVec 32 := Scalar.extui v1726
  let c0_i32_1763 : BitVec 32 := 0#32
  let v1728 : BitVec 1 := Scalar.cmpi .ne v1727 c0_i32_1763
  v1728

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x6144 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S16x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S8192x16384 : Shape := ⟨2, ![8192, 16384]⟩
abbrev S8192x2048 : Shape := ⟨2, ![8192, 2048]⟩
abbrev S1x2048 : Shape := ⟨2, ![1, 2048]⟩
abbrev S1x16x128x128 : Shape := ⟨4, ![1, 16, 128, 128]⟩
abbrev S1x16x128 : Shape := ⟨3, ![1, 16, 128]⟩
abbrev S2048 : Shape := ⟨1, ![2048]⟩
abbrev S16x128x128 : Shape := ⟨3, ![16, 128, 128]⟩
abbrev S16x128 : Shape := ⟨2, ![16, 128]⟩
abbrev S_ : Shape := ⟨0, ![]⟩
abbrev S8192 : Shape := ⟨1, ![8192]⟩
abbrev S8192x1 : Shape := ⟨2, ![8192, 1]⟩
abbrev S64x128x16x128 : Shape := ⟨4, ![64, 128, 16, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S16x64x128x128 : Shape := ⟨4, ![16, 64, 128, 128]⟩
abbrev S128x16 : Shape := ⟨2, ![128, 16]⟩
abbrev S1x128x16x1 : Shape := ⟨4, ![1, 128, 16, 1]⟩
abbrev S8192x6144 : Shape := ⟨2, ![8192, 6144]⟩
abbrev S8x2048 : Shape := ⟨2, ![8, 2048]⟩

abbrev nBuf : Space → Nat
  | .hbm => 192
  | .vmem => 0
  | .smem => 0
  | _ => 0

abbrev hbmTy0_0 (i : Nat) : BufTy := match i % 128 with
  | 0 => ⟨S8192x16384, .bf16⟩
  | 1 => ⟨S8192x2048, .bf16⟩
  | 2 => ⟨S1x2048, .f32⟩
  | 3 => ⟨S1x2048, .f32⟩
  | 4 => ⟨S1x16x128x128, .f32⟩
  | 5 => ⟨S1x16x128, .f32⟩
  | 6 => ⟨S8192x2048, .bf16⟩
  | 7 => ⟨S8192x2048, .f32⟩
  | 8 => ⟨S8192x2048, .bf16⟩
  | 9 => ⟨S8192x2048, .f32⟩
  | 10 => ⟨S8192x2048, .bf16⟩
  | 11 => ⟨S8192x2048, .f32⟩
  | 12 => ⟨S2048, .f32⟩
  | 13 => ⟨S2048, .f32⟩
  | 14 => ⟨S16x128x128, .f32⟩
  | 15 => ⟨S16x128, .f32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S8192x2048, .f32⟩
  | 23 => ⟨S8192x2048, .f32⟩
  | 24 => ⟨S8192x2048, .f32⟩
  | 25 => ⟨S_, .f32⟩
  | 26 => ⟨S8192x2048, .f32⟩
  | 27 => ⟨S8192x2048, .f32⟩
  | 28 => ⟨S_, .f32⟩
  | 29 => ⟨S8192, .f32⟩
  | 30 => ⟨S8192x1, .f32⟩
  | 31 => ⟨S_, .f32⟩
  | 32 => ⟨S8192x1, .f32⟩
  | 33 => ⟨S8192x1, .f32⟩
  | 34 => ⟨S8192x2048, .f32⟩
  | 35 => ⟨S8192x2048, .f32⟩
  | 36 => ⟨S_, .f32⟩
  | 37 => ⟨S8192x1, .f32⟩
  | 38 => ⟨S8192x1, .f32⟩
  | 39 => ⟨S8192x1, .f32⟩
  | 40 => ⟨S8192x1, .f32⟩
  | 41 => ⟨S_, .f32⟩
  | 42 => ⟨S8192x1, .f32⟩
  | 43 => ⟨S8192x1, .f32⟩
  | 44 => ⟨S8192x2048, .f32⟩
  | 45 => ⟨S8192x2048, .f32⟩
  | 46 => ⟨S1x2048, .f32⟩
  | 47 => ⟨S8192x2048, .f32⟩
  | 48 => ⟨S8192x2048, .f32⟩
  | 49 => ⟨S1x2048, .f32⟩
  | 50 => ⟨S8192x2048, .f32⟩
  | 51 => ⟨S8192x2048, .f32⟩
  | 52 => ⟨S64x128x16x128, .f32⟩
  | 53 => ⟨S128, .i32⟩
  | 54 => ⟨S_, .i32⟩
  | 55 => ⟨S_, .i32⟩
  | 56 => ⟨S128, .i32⟩
  | 57 => ⟨S128, .i32⟩
  | 58 => ⟨S128, .i32⟩
  | 59 => ⟨S_, .i32⟩
  | 60 => ⟨S128, .i32⟩
  | 61 => ⟨S128, .i1⟩
  | 62 => ⟨S128, .i32⟩
  | 63 => ⟨S128, .i32⟩
  | 64 => ⟨S_, .i32⟩
  | 65 => ⟨S128, .i32⟩
  | 66 => ⟨S128, .i1⟩
  | 67 => ⟨S128, .i1⟩
  | 68 => ⟨S_, .i32⟩
  | 69 => ⟨S128, .i32⟩
  | 70 => ⟨S128, .i32⟩
  | 71 => ⟨S128, .i32⟩
  | 72 => ⟨S1x128, .i32⟩
  | 73 => ⟨S128x1, .i32⟩
  | 74 => ⟨S128x128, .i32⟩
  | 75 => ⟨S128x128, .i32⟩
  | 76 => ⟨S128x128, .i1⟩
  | 77 => ⟨S1x128x128, .i1⟩
  | 78 => ⟨S_, .f32⟩
  | 79 => ⟨S16x128x128, .f32⟩
  | 80 => ⟨S16x128x128, .i1⟩
  | 81 => ⟨S16x128x128, .f32⟩
  | 82 => ⟨S_, .f32⟩
  | 83 => ⟨S16x128x128, .f32⟩
  | 84 => ⟨S16x64x128x128, .f32⟩
  | 85 => ⟨S64x128x16x128, .f32⟩
  | 86 => ⟨S128x16, .f32⟩
  | 87 => ⟨S1x128x16x1, .f32⟩
  | 88 => ⟨S64x128x16x128, .f32⟩
  | 89 => ⟨S64x128x16x128, .f32⟩
  | 90 => ⟨S8192x2048, .f32⟩
  | 91 => ⟨S8192x2048, .f32⟩
  | 92 => ⟨S8192x2048, .f32⟩
  | 93 => ⟨S8192x2048, .f32⟩
  | 94 => ⟨S_, .f32⟩
  | 95 => ⟨S8192x2048, .f32⟩
  | 96 => ⟨S8192x2048, .f32⟩
  | 97 => ⟨S_, .f32⟩
  | 98 => ⟨S8192x2048, .f32⟩
  | 99 => ⟨S8192x2048, .f32⟩
  | 100 => ⟨S_, .f32⟩
  | 101 => ⟨S8192x2048, .f32⟩
  | 102 => ⟨S8192x2048, .f32⟩
  | 103 => ⟨S8192x2048, .f32⟩
  | 104 => ⟨S8192x2048, .f32⟩
  | 105 => ⟨S8192x2048, .f32⟩
  | 106 => ⟨S8192x2048, .f32⟩
  | 107 => ⟨S8192x2048, .f32⟩
  | 108 => ⟨S8192x2048, .f32⟩
  | 109 => ⟨S8192x2048, .f32⟩
  | 110 => ⟨S8192x2048, .f32⟩
  | 111 => ⟨S8192x2048, .f32⟩
  | 112 => ⟨S8192x2048, .f32⟩
  | 113 => ⟨S8192x2048, .f32⟩
  | 114 => ⟨S8192x2048, .f32⟩
  | 115 => ⟨S64x128x16x128, .f32⟩
  | 116 => ⟨S_, .f32⟩
  | 117 => ⟨S128x16, .f32⟩
  | 118 => ⟨S1x128x16x1, .f32⟩
  | 119 => ⟨S_, .f32⟩
  | 120 => ⟨S128x16, .f32⟩
  | 121 => ⟨S16x128, .f32⟩
  | 122 => ⟨S16x64x128x128, .f32⟩
  | 123 => ⟨S16x128x128, .f32⟩
  | 124 => ⟨S16x64x128x128, .f32⟩
  | 125 => ⟨S64x128x16x128, .f32⟩
  | 126 => ⟨S_, .f32⟩
  | 127 => ⟨S16x128x128, .f32⟩
  | _ => ⟨S8192x16384, .bf16⟩

abbrev hbmTy0_1 (i : Nat) : BufTy := match i % 128 with
  | 0 => ⟨S16x128x128, .f32⟩
  | 1 => ⟨S8192x2048, .f32⟩
  | 2 => ⟨S_, .f32⟩
  | 3 => ⟨S2048, .f32⟩
  | 4 => ⟨S1x2048, .f32⟩
  | 5 => ⟨S_, .f32⟩
  | 6 => ⟨S2048, .f32⟩
  | 7 => ⟨S8192x2048, .f32⟩
  | 8 => ⟨S_, .f32⟩
  | 9 => ⟨S2048, .f32⟩
  | 10 => ⟨S1x2048, .f32⟩
  | 11 => ⟨S8192x2048, .f32⟩
  | 12 => ⟨S8192x2048, .f32⟩
  | 13 => ⟨S_, .f32⟩
  | 14 => ⟨S2048, .f32⟩
  | 15 => ⟨S8192x2048, .f32⟩
  | 16 => ⟨S_, .f32⟩
  | 17 => ⟨S8192, .f32⟩
  | 18 => ⟨S8192x1, .f32⟩
  | 19 => ⟨S8192x2048, .f32⟩
  | 20 => ⟨S8192x2048, .f32⟩
  | 21 => ⟨S8192x1, .f32⟩
  | 22 => ⟨S8192x2048, .f32⟩
  | 23 => ⟨S_, .f32⟩
  | 24 => ⟨S8192, .f32⟩
  | 25 => ⟨S8192x1, .f32⟩
  | 26 => ⟨S_, .f32⟩
  | 27 => ⟨S8192x1, .f32⟩
  | 28 => ⟨S8192x1, .f32⟩
  | 29 => ⟨S_, .f32⟩
  | 30 => ⟨S8192, .f32⟩
  | 31 => ⟨S8192x2048, .f32⟩
  | 32 => ⟨S8192x2048, .f32⟩
  | 33 => ⟨S8192x2048, .f32⟩
  | 34 => ⟨S_, .f32⟩
  | 35 => ⟨S8192, .f32⟩
  | 36 => ⟨S8192x1, .f32⟩
  | 37 => ⟨S8192x2048, .f32⟩
  | 38 => ⟨S8192x1, .f32⟩
  | 39 => ⟨S_, .f32⟩
  | 40 => ⟨S8192x1, .f32⟩
  | 41 => ⟨S8192x1, .f32⟩
  | 42 => ⟨S_, .f32⟩
  | 43 => ⟨S8192, .f32⟩
  | 44 => ⟨S8192x2048, .f32⟩
  | 45 => ⟨S8192x2048, .f32⟩
  | 46 => ⟨S1x16x128, .f32⟩
  | 47 => ⟨S1x16x128x128, .f32⟩
  | 48 => ⟨S1x2048, .f32⟩
  | 49 => ⟨S1x2048, .f32⟩
  | 50 => ⟨S8192x6144, .f32⟩
  | 51 => ⟨S8192x6144, .bf16⟩
  | 52 => ⟨S16x128x128, .f32⟩
  | 53 => ⟨S16x128, .f32⟩
  | 54 => ⟨S128x16, .f32⟩
  | 55 => ⟨S_, .i32⟩
  | 56 => ⟨S_, .f32⟩
  | 57 => ⟨S128x128, .f32⟩
  | 58 => ⟨S_, .i32⟩
  | 59 => ⟨S_, .f32⟩
  | 60 => ⟨S8x2048, .f32⟩
  | 61 => ⟨S_, .i32⟩
  | 62 => ⟨S_, .f32⟩
  | 63 => ⟨S8x2048, .f32⟩
  | _ => ⟨S8192x16384, .bf16⟩

abbrev hbmTy (i : Nat) : BufTy := match i / 128 with
  | 0 => hbmTy0_0 i
  | 1 => hbmTy0_1 i
  | _ => ⟨S8192x16384, .bf16⟩

abbrev bufTy : (tb : Table) → Fin (tcTables nBuf tb) → BufTy
  | .hbm, ⟨i, _⟩ => hbmTy i
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_v8 : Ref sig .tc := ⟨.hbm, 63, rfl⟩
abbrev main_call0_c : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_c_0 : Ref sig .tc := ⟨.hbm, 68, rfl⟩
abbrev main_call0_v12 : Ref sig .tc := ⟨.hbm, 69, rfl⟩
abbrev main_call0_v13 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_6 : Ref sig .tc := ⟨.hbm, 78, rfl⟩
abbrev main_v48 : Ref sig .tc := ⟨.hbm, 79, rfl⟩
abbrev main_v49_1 : Ref sig .tc := ⟨.hbm, 80, rfl⟩
abbrev main_v49_0 : Ref sig .tc := ⟨.hbm, 81, rfl⟩
abbrev main_call1_cst : Ref sig .tc := ⟨.hbm, 82, rfl⟩
abbrev main_v49_2 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_call2_v0 : Ref sig .tc := ⟨.hbm, 92, rfl⟩
abbrev main_call2_v1 : Ref sig .tc := ⟨.hbm, 93, rfl⟩
abbrev main_call2_cst : Ref sig .tc := ⟨.hbm, 94, rfl⟩
abbrev main_call2_v2 : Ref sig .tc := ⟨.hbm, 95, rfl⟩
abbrev main_call2_v3 : Ref sig .tc := ⟨.hbm, 96, rfl⟩
abbrev main_call2_cst_0 : Ref sig .tc := ⟨.hbm, 97, rfl⟩
abbrev main_call2_v4 : Ref sig .tc := ⟨.hbm, 98, rfl⟩
abbrev main_v58_2 : Ref sig .tc := ⟨.hbm, 99, rfl⟩
abbrev main_call2_cst_1 : Ref sig .tc := ⟨.hbm, 100, rfl⟩
abbrev main_call2_v6 : Ref sig .tc := ⟨.hbm, 101, rfl⟩
abbrev main_call2_v7 : Ref sig .tc := ⟨.hbm, 102, rfl⟩
abbrev main_v58_1 : Ref sig .tc := ⟨.hbm, 103, rfl⟩
abbrev main_v58_0 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_call3_v0 : Ref sig .tc := ⟨.hbm, 109, rfl⟩
abbrev main_call3_v1 : Ref sig .tc := ⟨.hbm, 110, rfl⟩
abbrev main_call3_v2 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_7 : Ref sig .tc := ⟨.hbm, 116, rfl⟩
abbrev main_v67 : Ref sig .tc := ⟨.hbm, 117, rfl⟩
abbrev main_v68 : Ref sig .tc := ⟨.hbm, 118, rfl⟩
abbrev main_cst_8 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_call4_cst : Ref sig .tc := ⟨.hbm, 126, rfl⟩
abbrev main_call4_v0 : Ref sig .tc := ⟨.hbm, 127, rfl⟩
abbrev main_v75 : Ref sig .tc := ⟨.hbm, 128, rfl⟩
abbrev main_v76 : Ref sig .tc := ⟨.hbm, 129, rfl⟩
abbrev main_cst_9 : Ref sig .tc := ⟨.hbm, 130, rfl⟩
abbrev main_v77 : Ref sig .tc := ⟨.hbm, 131, rfl⟩
abbrev main_v78 : Ref sig .tc := ⟨.hbm, 132, rfl⟩
abbrev main_cst_10 : Ref sig .tc := ⟨.hbm, 133, rfl⟩
abbrev main_v79 : Ref sig .tc := ⟨.hbm, 134, rfl⟩
abbrev main_v80 : Ref sig .tc := ⟨.hbm, 135, rfl⟩
abbrev main_cst_11 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_cst_12 : Ref sig .tc := ⟨.hbm, 141, rfl⟩
abbrev main_v85 : Ref sig .tc := ⟨.hbm, 142, rfl⟩
abbrev main_v86 : Ref sig .tc := ⟨.hbm, 143, rfl⟩
abbrev main_cst_13 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_cst_14 : Ref sig .tc := ⟨.hbm, 151, rfl⟩
abbrev main_v93 : Ref sig .tc := ⟨.hbm, 152, rfl⟩
abbrev main_v94 : Ref sig .tc := ⟨.hbm, 153, rfl⟩
abbrev main_cst_15 : Ref sig .tc := ⟨.hbm, 154, rfl⟩
abbrev main_v95 : Ref sig .tc := ⟨.hbm, 155, rfl⟩
abbrev main_v96 : Ref sig .tc := ⟨.hbm, 156, rfl⟩
abbrev main_cst_16 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_cst_17 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_cst_18 : Ref sig .tc := ⟨.hbm, 167, rfl⟩
abbrev main_v105 : Ref sig .tc := ⟨.hbm, 168, rfl⟩
abbrev main_v106 : Ref sig .tc := ⟨.hbm, 169, rfl⟩
abbrev main_cst_19 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_c_20 : Ref sig .tc := ⟨.hbm, 183, rfl⟩
abbrev main_call5_v0 : Ref sig .tc := ⟨.hbm, 184, rfl⟩
abbrev main_v119 : Ref sig .tc := ⟨.hbm, 185, rfl⟩
abbrev main_c_21 : Ref sig .tc := ⟨.hbm, 186, rfl⟩
abbrev main_call6_v0 : Ref sig .tc := ⟨.hbm, 187, rfl⟩
abbrev main_v120 : Ref sig .tc := ⟨.hbm, 188, rfl⟩
abbrev main_c_22 : Ref sig .tc := ⟨.hbm, 189, rfl⟩
abbrev main_call7_v0 : Ref sig .tc := ⟨.hbm, 190, rfl⟩
abbrev main_v121 : Ref sig .tc := ⟨.hbm, 191, rfl⟩

abbrev nD : Nat := 1
abbrev τ : Topo := Topo.v7x

variable {F : FTy → Type} [FloatOps F]
-- ==== Kernel2.lean ====
abbrev S8192x6144 : Shape := ⟨2, ![8192, 6144]⟩
abbrev S16384x2048 : Shape := ⟨2, ![16384, 2048]⟩
abbrev S8192x2048 : Shape := ⟨2, ![8192, 2048]⟩
abbrev S1024x6144 : Shape := ⟨2, ![1024, 6144]⟩
abbrev S6144x512 : Shape := ⟨2, ![6144, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S16384x2048, .bf16⟩
  | .hbm, ⟨2, _⟩ => ⟨S8192x2048, .f32⟩
  | .local _ .vmem, ⟨0, _⟩ => ⟨S1024x6144, .bf16⟩
  | .local _ .vmem, ⟨1, _⟩ => ⟨S1024x6144, .bf16⟩
  | .local _ .vmem, ⟨2, _⟩ => ⟨S6144x512, .bf16⟩
  | .local _ .vmem, ⟨3, _⟩ => ⟨S6144x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S6144x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x6144 : Shape := ⟨2, ![8192, 6144]⟩
abbrev S16384x2048 : Shape := ⟨2, ![16384, 2048]⟩
abbrev S6144x2048 : Shape := ⟨2, ![6144, 2048]⟩
abbrev S2048x6144 : Shape := ⟨2, ![2048, 6144]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S16384x2048, .bf16⟩
  | .hbm, ⟨2, _⟩ => ⟨S6144x2048, .bf16⟩
  | .hbm, ⟨3, _⟩ => ⟨S6144x2048, .f32⟩
  | .hbm, ⟨4, _⟩ => ⟨S2048x6144, .f32⟩
  | .hbm, ⟨5, _⟩ => ⟨S_, .f32⟩
  | .hbm, ⟨6, _⟩ => ⟨S8192x2048, .f32⟩
  | .hbm, ⟨7, _⟩ => ⟨S8192x6144, .f32⟩
  | .hbm, ⟨8, _⟩ => ⟨S8192x6144, .f32⟩
  | .hbm, ⟨9, _⟩ => ⟨S8192x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x4096 : Shape := ⟨2, ![8192, 4096]⟩
abbrev S16384x2048 : Shape := ⟨2, ![16384, 2048]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S16384x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg2 c3_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8192x4096 : Shape := ⟨2, ![8192, 4096]⟩
abbrev S16384x2048 : Shape := ⟨2, ![16384, 2048]⟩
abbrev S8192x2048 : Shape := ⟨2, ![8192, 2048]⟩
abbrev S4096x2048 : Shape := ⟨2, ![4096, 2048]⟩
abbrev S2048x4096 : Shape := ⟨2, ![2048, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S16384x2048, .bf16⟩
  | .hbm, ⟨2, _⟩ => ⟨S8192x2048, .f32⟩
  | .hbm, ⟨3, _⟩ => ⟨S4096x2048, .bf16⟩
  | .hbm, ⟨4, _⟩ => ⟨S4096x2048, .f32⟩
  | .hbm, ⟨5, _⟩ => ⟨S2048x4096, .f32⟩
  | .hbm, ⟨6, _⟩ => ⟨S_, .f32⟩
  | .hbm, ⟨7, _⟩ => ⟨S8192x2048, .f32⟩
  | .hbm, ⟨8, _⟩ => ⟨S8192x4096, .f32⟩
  | .hbm, ⟨9, _⟩ => ⟨S8192x4096, .f32⟩
  | .hbm, ⟨10, _⟩ => ⟨S8192x2048, .f32⟩
  | .hbm, ⟨11, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel4.lean ====
abbrev S8192x2048 : Shape := ⟨2, ![8192, 2048]⟩
abbrev S2048x2048 : Shape := ⟨2, ![2048, 2048]⟩
abbrev S8192x1024 : Shape := ⟨2, ![8192, 1024]⟩
abbrev S8192x512 : Shape := ⟨2, ![8192, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S8192x1024, .bf16⟩
  | .local _ .vmem, ⟨1, _⟩ => ⟨S8192x1024, .bf16⟩
  | .local _ .vmem, ⟨2, _⟩ => ⟨S8192x512, .bf16⟩
  | .local _ .vmem, ⟨3, _⟩ => ⟨S8192x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x2048 : Shape := ⟨2, ![8192, 2048]⟩
abbrev S1x2048 : Shape := ⟨2, ![1, 2048]⟩
abbrev S16384x2048 : Shape := ⟨2, ![16384, 2048]⟩
abbrev S8192x16384 : Shape := ⟨2, ![8192, 16384]⟩
abbrev S1024x2048 : Shape := ⟨2, ![1024, 2048]⟩
abbrev S2048x2048 : Shape := ⟨2, ![2048, 2048]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S16384x2048, .bf16⟩
  | .hbm, ⟨3, _⟩ => ⟨S8192x2048, .bf16⟩
  | .hbm, ⟨4, _⟩ => ⟨S8192x16384, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8192x2048 : Shape := ⟨2, ![8192, 2048]⟩
abbrev S1x2048 : Shape := ⟨2, ![1, 2048]⟩
abbrev S16384x2048 : Shape := ⟨2, ![16384, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S2048x16384 : Shape := ⟨2, ![2048, 16384]⟩
abbrev S8192x16384 : Shape := ⟨2, ![8192, 16384]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S16384x2048, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | .hbm, ⟨21, _⟩ => ⟨S16384x2048, .f32⟩
  | .hbm, ⟨22, _⟩ => ⟨S2048x16384, .f32⟩
  | .hbm, ⟨23, _⟩ => ⟨S8192x16384, .f32⟩
  | .hbm, ⟨24, _⟩ => ⟨S8192x16384, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel6.lean ====
abbrev S8192x6144 : Shape := ⟨2, ![8192, 6144]⟩
abbrev S8192x4096 : Shape := ⟨2, ![8192, 4096]⟩
abbrev S8192x2048 : Shape := ⟨2, ![8192, 2048]⟩
abbrev S6144x2048 : Shape := ⟨2, ![6144, 2048]⟩
abbrev S4096x2048 : Shape := ⟨2, ![4096, 2048]⟩
abbrev S3x8192x256 : Shape := ⟨3, ![3, 8192, 256]⟩
abbrev S2x256x2048 : Shape := ⟨3, ![2, 256, 2048]⟩
abbrev S3 : Shape := ⟨1, ![3]⟩
abbrev S1 : Shape := ⟨1, ![1]⟩
abbrev S_ : Shape := ⟨0, ![]⟩
abbrev S1x8192x256 : Shape := ⟨3, ![1, 8192, 256]⟩
abbrev S8192x256 : Shape := ⟨2, ![8192, 256]⟩
abbrev S256x2048 : Shape := ⟨2, ![256, 2048]⟩
abbrev S1x256x2048 : Shape := ⟨3, ![1, 256, 2048]⟩

abbrev nBuf : Space → Nat
  | .hbm => 7
  | .vmem => 3
  | .smem => 0
  | _ => 0

abbrev bufTy : (tb : Table) → Fin (tcTables nBuf tb) → BufTy
  | .hbm, ⟨0, _⟩ => ⟨S8192x6144, .bf16⟩
  | .hbm, ⟨1, _⟩ => ⟨S8192x4096, .bf16⟩
  | .hbm, ⟨2, _⟩ => ⟨S8192x6144, .bf16⟩
  | .hbm, ⟨3, _⟩ => ⟨S8192x2048, .bf16⟩
  | .hbm, ⟨4, _⟩ => ⟨S6144x2048, .bf16⟩
  | .hbm, ⟨5, _⟩ => ⟨S4096x2048, .bf16⟩
  | .hbm, ⟨6, _⟩ => ⟨S6144x2048, .bf16⟩
  | .local _ .vmem, ⟨0, _⟩ => ⟨S8192x2048, .bf16⟩
  | .local _ .vmem, ⟨1, _⟩ => ⟨S3x8192x256, .bf16⟩
  | .local _ .vmem, ⟨2, _⟩ => ⟨S2x256x2048, .bf16⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩

abbrev nD : Nat := 1
abbrev τ : Topo := Topo.v7x

variable {F : FTy → Type} [FloatOps F]

abbrev grid0 : Pipeline.Grid := .none

@[reducible] def k0_t1_loop : Scf.Loop 32 :=
  let c0_i32_10 : BitVec 32 := 0#32
  let c24_i32 : BitVec 32 := 24#32
  let v14 : BitVec 32 := Scalar.addi c0_i32_10 c24_i32
  let c1_i32_11 : BitVec 32 := 1#32
  ⟨c0_i32_10, v14, c1_i32_11⟩
def k0_mult1 (k0_t1 : Fin k0_t1_loop.trips) : BitVec 32 :=
  let c0_i32_10 : BitVec 32 := 0#32
  let c1_i32_11 : BitVec 32 := 1#32
  let arg12 : BitVec 32 := Scf.iv c0_i32_10 c1_i32_11 k0_t1
  let c256_i32_76 : BitVec 32 := 256#32
  let v67 : BitVec 32 := Scalar.muli arg12 c256_i32_76
  v67
def k0_off1 (k0_t1 : Fin k0_t1_loop.trips) (c3_i32_82 : BitVec 32) : Fin 1 → Nat :=
  let c0_i32_10 : BitVec 32 := 0#32
  let c1_i32_11 : BitVec 32 := 1#32
  let arg12 : BitVec 32 := Scf.iv c0_i32_10 c1_i32_11 k0_t1
  let c0_i32_83 : BitVec 32 := 0#32
  let v79 : BitVec 1 := Scalar.cmpi .eq c3_i32_82 c0_i32_83
  let c1_i32_84 : BitVec 32 := 1#32
  let v80 : BitVec 32 := Scalar.select v79 c1_i32_84 c3_i32_82
  let v81 : BitVec 32 := Scalar.remsi arg12 v80
  let c0_i32_86 : BitVec 32 := 0#32
  let v83 : BitVec 1 := Scalar.cmpi .slt v81 c0_i32_86
  let c0_i32_87 : BitVec 32 := 0#32
  let v84 : BitVec 1 := Scalar.cmpi .slt v80 c0_i32_87
  let v85 : BitVec 1 := Scalar.xori v83 v84
  let c0_i32_85 : BitVec 32 := 0#32
  let v82 : BitVec 1 := Scalar.cmpi .ne v81 c0_i32_85
  let v86 : BitVec 1 := Scalar.andi v85 v82
  let v87 : BitVec 32 := Scalar.addi v81 v80
  let v88 : BitVec 32 := Scalar.select v86 v87 v81
  ![v88.toNat]
def k0_off2 (k0_t1 : Fin k0_t1_loop.trips) : Fin 3 → Nat :=
  let c0_i32_10 : BitVec 32 := 0#32
  let c1_i32_11 : BitVec 32 := 1#32
  let arg12 : BitVec 32 := Scf.iv c0_i32_10 c1_i32_11 k0_t1
  let c3_i32 : BitVec 32 := 3#32
  let c0_i32_77 : BitVec 32 := 0#32
  let v69 : BitVec 1 := Scalar.cmpi .eq c3_i32 c0_i32_77
  let c1_i32_78 : BitVec 32 := 1#32
  let v70 : BitVec 32 := Scalar.select v69 c1_i32_78 c3_i32
  let v71 : BitVec 32 := Scalar.remsi arg12 v70
  let c0_i32_80 : BitVec 32 := 0#32
  let v73 : BitVec 1 := Scalar.cmpi .slt v71 c0_i32_80
  let c0_i32_81 : BitVec 32 := 0#32
  let v74 : BitVec 1 := Scalar.cmpi .slt v70 c0_i32_81
  let v75 : BitVec 1 := Scalar.xori v73 v74
  let c0_i32_79 : BitVec 32 := 0#32
  let v72 : BitVec 1 := Scalar.cmpi .ne v71 c0_i32_79
  let v76 : BitVec 1 := Scalar.andi v75 v72
  let v77 : BitVec 32 := Scalar.addi v71 v70
  let v78 : BitVec 32 := Scalar.select v76 v77 v71
  let c0_i32_88 : BitVec 32 := 0#32
  let c0_i32_89 : BitVec 32 := 0#32
  ![v78.toNat, 0, 0]
def k0_off3 (k0_t1 : Fin k0_t1_loop.trips) : Fin 2 → Nat :=
  let c0_i32_90 : BitVec 32 := 0#32
  let c0_i32_10 : BitVec 32 := 0#32
  let c1_i32_11 : BitVec 32 := 1#32
  let arg12 : BitVec 32 := Scf.iv c0_i32_10 c1_i32_11 k0_t1
  let c256_i32_76 : BitVec 32 := 256#32
  let v67 : BitVec 32 := Scalar.muli arg12 c256_i32_76
  let v68 : BitVec 32 := v67
  ![0, v68.toNat]
def k0_cond1 (k0_t1 : Fin k0_t1_loop.trips) : BitVec 1 :=
  let c0_i32_10 : BitVec 32 := 0#32
  let c1_i32_11 : BitVec 32 := 1#32
  let arg12 : BitVec 32 := Scf.iv c0_i32_10 c1_i32_11 k0_t1
  let c3_i32_91 : BitVec 32 := 3#32
  let v94 : BitVec 32 := Scalar.addi arg12 c3_i32_91
  let c1_i32_92 : BitVec 32 := 1#32
  let v95 : BitVec 32 := Scalar.subi v94 c1_i32_92
  let c24_i32_93 : BitVec 32 := 24#32
  let v96 : BitVec 1 := Scalar.cmpi .slt v95 c24_i32_93
  let v97 : BitVec 32 := Scalar.extui v96
  let c0_i32_94 : BitVec 32 := 0#32
  let v98 : BitVec 1 := Scalar.cmpi .ne v97 c0_i32_94
  v98

def k0_mult2 (k0_t1 : Fin k0_t1_loop.trips) : BitVec 32 :=
  let c0_i32_10 : BitVec 32 := 0#32
  let c1_i32_11 : BitVec 32 := 1#32
  let arg12 : BitVec 32 := Scf.iv c0_i32_10 c1_i32_11 k0_t1
  let c3_i32_130 : BitVec 32 := 3#32
  let v159 : BitVec 32 := Scalar.addi arg12 c3_i32_130
  let c1_i32_131 : BitVec 32 := 1#32
  let v160 : BitVec 32 := Scalar.subi v159 c1_i32_131
  let c256_i32_132 : BitVec 32 := 256#32
  let v161 : BitVec 32 := Scalar.muli v160 c256_i32_132
  v161
def k0_off4 (k0_t1 : Fin k0_t1_loop.trips) : Fin 1 → Nat :=
  let c0_i32_10 : BitVec 32 := 0#32
  let c1_i32_11 : BitVec 32 := 1#32
  let arg12 : BitVec 32 := Scf.iv c0_i32_10 c1_i32_11 k0_t1
  let c3_i32_130 : BitVec 32 := 3#32
  let v159 : BitVec 32 := Scalar.addi arg12 c3_i32_130
  let c1_i32_131 : BitVec 32 := 1#32
  let v160 : BitVec 32 := Scalar.subi v159 c1_i32_131
  let c3_i32_139 : BitVec 32 := 3#32
  let c0_i32_140 : BitVec 32 := 0#32
  let v173 : BitVec 1 := Scalar.cmpi .eq c3_i32_139 c0_i32_140
  let c1_i32_141 : BitVec 32 := 1#32
  let v174 : BitVec 32 := Scalar.select v173 c1_i32_141 c3_i32_139
  let v175 : BitVec 32 := Scalar.remsi v160 v174
  let c0_i32_143 : BitVec 32 := 0#32
  let v177 : BitVec 1 := Scalar.cmpi .slt v175 c0_i32_143
  let c0_i32_144 : BitVec 32 := 0#32
  let v178 : BitVec 1 := Scalar.cmpi .slt v174 c0_i32_144
  let v179 : BitVec 1 := Scalar.xori v177 v178
  let c0_i32_142 : BitVec 32 := 0#32
  let v176 : BitVec 1 := Scalar.cmpi .ne v175 c0_i32_142
  let v180 : BitVec 1 := Scalar.andi v179 v176
  let v181 : BitVec 32 := Scalar.addi v175 v174
  let v182 : BitVec 32 := Scalar.select v180 v181 v175
  ![v182.toNat]
def k0_off5 (k0_t1 : Fin k0_t1_loop.trips) : Fin 3 → Nat :=
  let c0_i32_10 : BitVec 32 := 0#32
  let c1_i32_11 : BitVec 32 := 1#32
  let arg12 : BitVec 32 := Scf.iv c0_i32_10 c1_i32_11 k0_t1
  let c3_i32_130 : BitVec 32 := 3#32
  let v159 : BitVec 32 := Scalar.addi arg12 c3_i32_130
  let c1_i32_131 : BitVec 32 := 1#32
  let v160 : BitVec 32 := Scalar.subi v159 c1_i32_131
  let c3_i32_133 : BitVec 32 := 3#32
  let c0_i32_134 : BitVec 32 := 0#32
  let v163 : BitVec 1 := Scalar.cmpi .eq c3_i32_133 c0_i32_134
  let c1_i32_135 : BitVec 32 := 1#32
  let v164 : BitVec 32 := Scalar.select v163 c1_i32_135 c3_i32_133
  let v165 : BitVec 32 := Scalar.remsi v160 v164
  let c0_i32_137 : BitVec 32 := 0#32
  let v167 : BitVec 1 := Scalar.cmpi .slt v165 c0_i32_137
  let c0_i32_138 : BitVec 32 := 0#32
  let v168 : BitVec 1 := Scalar.cmpi .slt v164 c0_i32_138
  let v169 : BitVec 1 := Scalar.xori v167 v168
  let c0_i32_136 : BitVec 32 := 0#32
  let v166 : BitVec 1 := Scalar.cmpi .ne v165 c0_i32_136
  let v170 : BitVec 1 := Scalar.andi v169 v166
  let v171 : BitVec 32 := Scalar.addi v165 v164
  let v172 : BitVec 32 := Scalar.select v170 v171 v165
  let c0_i32_145 : BitVec 32 := 0#32
  let c0_i32_146 : BitVec 32 := 0#32
  ![v172.toNat, 0, 0]
def k0_off6 (k0_t1 : Fin k0_t1_loop.trips) : Fin 2 → Nat :=
  let c0_i32_147 : BitVec 32 := 0#32
  let c0_i32_10 : BitVec 32 := 0#32
  let c1_i32_11 : BitVec 32 := 1#32
  let arg12 : BitVec 32 := Scf.iv c0_i32_10 c1_i32_11 k0_t1
  let c3_i32_130 : BitVec 32 := 3#32
  let v159 : BitVec 32 := Scalar.addi arg12 c3_i32_130
  let c1_i32_131 : BitVec 32 := 1#32
  let v160 : BitVec 32 := Scalar.subi v159 c1_i32_131
  let c256_i32_132 : BitVec 32 := 256#32
  let v161 : BitVec 32 := Scalar.muli v160 c256_i32_132
  let v162 : BitVec 32 := v161
  ![0, v162.toNat]
def k0_off7 (k0_t1 : Fin k0_t1_loop.trips) : Fin 3 → Nat :=
  let c0_i32_10 : BitVec 32 := 0#32
  let c1_i32_11 : BitVec 32 := 1#32
  let arg12 : BitVec 32 := Scf.iv c0_i32_10 c1_i32_11 k0_t1
  let c3_i32_95 : BitVec 32 := 3#32
  let c0_i32_96 : BitVec 32 := 0#32
  let v99 : BitVec 1 := Scalar.cmpi .eq c3_i32_95 c0_i32_96
  let c1_i32_97 : BitVec 32 := 1#32
  let v100 : BitVec 32 := Scalar.select v99 c1_i32_97 c3_i32_95
  let v101 : BitVec 32 := Scalar.remsi arg12 v100
  let c0_i32_99 : BitVec 32 := 0#32
  let v103 : BitVec 1 := Scalar.cmpi .slt v101 c0_i32_99
  let c0_i32_100 : BitVec 32 := 0#32
  let v104 : BitVec 1 := Scalar.cmpi .slt v100 c0_i32_100
  let v105 : BitVec 1 := Scalar.xori v103 v104
  let c0_i32_98 : BitVec 32 := 0#32
  let v102 : BitVec 1 := Scalar.cmpi .ne v101 c0_i32_98
  let v106 : BitVec 1 := Scalar.andi v105 v102
  let v107 : BitVec 32 := Scalar.addi v101 v100
  let v108 : BitVec 32 := Scalar.select v106 v107 v101
  let v109 : Index := Scalar.indexCast v108
  let c0 : Index := 0#32
  let c0_101 : Index := 0#32
  ![v109.toNat, 0, 0]
def k0_cond2 (k0_t1 : Fin k0_t1_loop.trips) : BitVec 1 :=
  let c0_i32_10 : BitVec 32 := 0#32
  let c1_i32_11 : BitVec 32 := 1#32
  let arg12 : BitVec 32 := Scf.iv c0_i32_10 c1_i32_11 k0_t1
  let c2_i32_104 : BitVec 32 := 2#32
  let v115 : BitVec 1 := Scalar.cmpi .sge arg12 c2_i32_104
  let v116 : BitVec 32 := Scalar.extui v115
  let c0_i32_105 : BitVec 32 := 0#32
  let v117 : BitVec 1 := Scalar.cmpi .ne v116 c0_i32_105
  v117

def k0_mult3 (k0_t1 : Fin k0_t1_loop.trips) : BitVec 32 :=
  let c0_i32_10 : BitVec 32 := 0#32
  let c1_i32_11 : BitVec 32 := 1#32
  let arg12 : BitVec 32 := Scf.iv c0_i32_10 c1_i32_11 k0_t1
  let c2_i32_130 : BitVec 32 := 2#32
  let v159 : BitVec 32 := Scalar.subi arg12 c2_i32_130
  let c256_i32_137 : BitVec 32 := 256#32
  let v170 : BitVec 32 := Scalar.muli v159 c256_i32_137
  v170
def k0_off8 (k0_t1 : Fin k0_t1_loop.trips) : Fin 1 → Nat :=
  let c0_i32_10 : BitVec 32 := 0#32
  let c1_i32_11 : BitVec 32 := 1#32
  let arg12 : BitVec 32 := Scf.iv c0_i32_10 c1_i32_11 k0_t1
  let c2_i32_130 : BitVec 32 := 2#32
  let v159 : BitVec 32 := Scalar.subi arg12 c2_i32_130
  let c2_i32_138 : BitVec 32 := 2#32
  let c0_i32_139 : BitVec 32 := 0#32
  let v172 : BitVec 1 := Scalar.cmpi .eq c2_i32_138 c0_i32_139
  let c1_i32_140 : BitVec 32 := 1#32
  let v173 : BitVec 32 := Scalar.select v172 c1_i32_140 c2_i32_138
  let v174 : BitVec 32 := Scalar.remsi v159 v173
  let c0_i32_142 : BitVec 32 := 0#32
  let v176 : BitVec 1 := Scalar.cmpi .slt v174 c0_i32_142
  let c0_i32_143 : BitVec 32 := 0#32
  let v177 : BitVec 1 := Scalar.cmpi .slt v173 c0_i32_143
  let v178 : BitVec 1 := Scalar.xori v176 v177
  let c0_i32_141 : BitVec 32 := 0#32
  let v175 : BitVec 1 := Scalar.cmpi .ne v174 c0_i32_141
  let v179 : BitVec 1 := Scalar.andi v178 v175
  let v180 : BitVec 32 := Scalar.addi v174 v173
  let v181 : BitVec 32 := Scalar.select v179 v180 v174
  ![v181.toNat]
def k0_off9 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c2_i32_130 : BitVec 32 := 2#32
  let v159 : BitVec 32 := Scalar.subi arg12 c2_i32_130
  let c256_i32_137 : BitVec 32 := 256#32
  let v170 : BitVec 32 := Scalar.muli v159 c256_i32_137
  let v171 : BitVec 32 := v170
  let c0_i32_144 : BitVec 32 := 0#32
  ![v171.toNat, 0]
def k0_off10 (k0_t1 : Fin k0_t1_loop.trips) : Fin 3 → Nat :=
  let c0_i32_10 : BitVec 32 := 0#32
  let c1_i32_11 : BitVec 32 := 1#32
  let arg12 : BitVec 32 := Scf.iv c0_i32_10 c1_i32_11 k0_t1
  let c2_i32_130 : BitVec 32 := 2#32
  let v159 : BitVec 32 := Scalar.subi arg12 c2_i32_130
  let c2_i32_131 : BitVec 32 := 2#32
  let c0_i32_132 : BitVec 32 := 0#32
  let v160 : BitVec 1 := Scalar.cmpi .eq c2_i32_131 c0_i32_132
  let c1_i32_133 : BitVec 32 := 1#32
  let v161 : BitVec 32 := Scalar.select v160 c1_i32_133 c2_i32_131
  let v162 : BitVec 32 := Scalar.remsi v159 v161
  let c0_i32_135 : BitVec 32 := 0#32
  let v164 : BitVec 1 := Scalar.cmpi .slt v162 c0_i32_135
  let c0_i32_136 : BitVec 32 := 0#32
  let v165 : BitVec 1 := Scalar.cmpi .slt v161 c0_i32_136
  let v166 : BitVec 1 := Scalar.xori v164 v165
  let c0_i32_134 : BitVec 32 := 0#32
  let v163 : BitVec 1 := Scalar.cmpi .ne v162 c0_i32_134
  let v167 : BitVec 1 := Scalar.andi v166 v163
  let v168 : BitVec 32 := Scalar.addi v162 v161
  let v169 : BitVec 32 := Scalar.select v167 v168 v162
  let c0_i32_145 : BitVec 32 := 0#32
  let c0_i32_146 : BitVec 32 := 0#32
  ![v169.toNat, 0, 0]
def k0_off11 (k0_t1 : Fin k0_t1_loop.trips) : Fin 3 → Nat :=
  let c0_i32_10 : BitVec 32 := 0#32
  let c1_i32_11 : BitVec 32 := 1#32
  let arg12 : BitVec 32 := Scf.iv c0_i32_10 c1_i32_11 k0_t1
  let c2_i32_106 : BitVec 32 := 2#32
  let c0_i32_107 : BitVec 32 := 0#32
  let v118 : BitVec 1 := Scalar.cmpi .eq c2_i32_106 c0_i32_107
  let c1_i32_108 : BitVec 32 := 1#32
  let v119 : BitVec 32 := Scalar.select v118 c1_i32_108 c2_i32_106
  let v120 : BitVec 32 := Scalar.remsi arg12 v119
  let c0_i32_110 : BitVec 32 := 0#32
  let v122 : BitVec 1 := Scalar.cmpi .slt v120 c0_i32_110
  let c0_i32_111 : BitVec 32 := 0#32
  let v123 : BitVec 1 := Scalar.cmpi .slt v119 c0_i32_111
  let v124 : BitVec 1 := Scalar.xori v122 v123
  let c0_i32_109 : BitVec 32 := 0#32
  let v121 : BitVec 1 := Scalar.cmpi .ne v120 c0_i32_109
  let v125 : BitVec 1 := Scalar.andi v124 v121
  let v126 : BitVec 32 := Scalar.addi v120 v119
  let v127 : BitVec 32 := Scalar.select v125 v126 v120
  let v128 : Index := Scalar.indexCast v127
  let c0_112 : Index := 0#32
  let c0_113 : Index := 0#32
  ![v128.toNat, 0, 0]
def k0_mult4 (k0_t1 : Fin k0_t1_loop.trips) : BitVec 32 :=
  let c0_i32_10 : BitVec 32 := 0#32
  let c1_i32_11 : BitVec 32 := 1#32
  let arg12 : BitVec 32 := Scf.iv c0_i32_10 c1_i32_11 k0_t1
  let c256_i32_120 : BitVec 32 := 256#32
  let v142 : BitVec 32 := Scalar.muli arg12 c256_i32_120
  v142
def k0_off12 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32_120 : BitVec 32 := 256#32
  let v142 : BitVec 32 := Scalar.muli arg12 c256_i32_120
  let v143 : BitVec 32 := v142
  let c0_i32_127 : BitVec 32 := 0#32
  ![v143.toNat, 0]
def k0_off13 (k0_t1 : Fin k0_t1_loop.trips) : Fin 3 → Nat :=
  let c0_i32_10 : BitVec 32 := 0#32
  let c1_i32_11 : BitVec 32 := 1#32
  let arg12 : BitVec 32 := Scf.iv c0_i32_10 c1_i32_11 k0_t1
  let c2_i32_114 : BitVec 32 := 2#32
  let c0_i32_115 : BitVec 32 := 0#32
  let v132 : BitVec 1 := Scalar.cmpi .eq c2_i32_114 c0_i32_115
  let c1_i32_116 : BitVec 32 := 1#32
  let v133 : BitVec 32 := Scalar.select v132 c1_i32_116 c2_i32_114
  let v134 : BitVec 32 := Scalar.remsi arg12 v133
  let c0_i32_118 : BitVec 32 := 0#32
  let v136 : BitVec 1 := Scalar.cmpi .slt v134 c0_i32_118
  let c0_i32_119 : BitVec 32 := 0#32
  let v137 : BitVec 1 := Scalar.cmpi .slt v133 c0_i32_119
  let v138 : BitVec 1 := Scalar.xori v136 v137
  let c0_i32_117 : BitVec 32 := 0#32
  let v135 : BitVec 1 := Scalar.cmpi .ne v134 c0_i32_117
  let v139 : BitVec 1 := Scalar.andi v138 v135
  let v140 : BitVec 32 := Scalar.addi v134 v133
  let v141 : BitVec 32 := Scalar.select v139 v140 v134
  let c0_i32_128 : BitVec 32 := 0#32
  let c0_i32_129 : BitVec 32 := 0#32
  ![v141.toNat, 0, 0]
@[reducible] def k0_t2_loop : Scf.Loop 32 :=
  let c0_i32_35 : BitVec 32 := 0#32
  let c16_i32 : BitVec 32 := 16#32
  let v35 : BitVec 32 := Scalar.addi c0_i32_35 c16_i32
  let c1_i32_36 : BitVec 32 := 1#32
  ⟨c0_i32_35, v35, c1_i32_36⟩
def k0_mult5 (k0_t2 : Fin k0_t2_loop.trips) : BitVec 32 :=
  let c0_i32_35 : BitVec 32 := 0#32
  let c1_i32_36 : BitVec 32 := 1#32
  let arg12 : BitVec 32 := Scf.iv c0_i32_35 c1_i32_36 k0_t2
  let c256_i32_76 : BitVec 32 := 256#32
  let v67 : BitVec 32 := Scalar.muli arg12 c256_i32_76
  v67
def k0_off14 (k0_t2 : Fin k0_t2_loop.trips) (c3_i32_82 : BitVec 32) : Fin 1 → Nat :=
  let c0_i32_35 : BitVec 32 := 0#32
  let c1_i32_36 : BitVec 32 := 1#32
  let arg12 : BitVec 32 := Scf.iv c0_i32_35 c1_i32_36 k0_t2
  let c0_i32_83 : BitVec 32 := 0#32
  let v79 : BitVec 1 := Scalar.cmpi .eq c3_i32_82 c0_i32_83
  let c1_i32_84 : BitVec 32 := 1#32
  let v80 : BitVec 32 := Scalar.select v79 c1_i32_84 c3_i32_82
  let v81 : BitVec 32 := Scalar.remsi arg12 v80
  let c0_i32_86 : BitVec 32 := 0#32
  let v83 : BitVec 1 := Scalar.cmpi .slt v81 c0_i32_86
  let c0_i32_87 : BitVec 32 := 0#32
  let v84 : BitVec 1 := Scalar.cmpi .slt v80 c0_i32_87
  let v85 : BitVec 1 := Scalar.xori v83 v84
  let c0_i32_85 : BitVec 32 := 0#32
  let v82 : BitVec 1 := Scalar.cmpi .ne v81 c0_i32_85
  let v86 : BitVec 1 := Scalar.andi v85 v82
  let v87 : BitVec 32 := Scalar.addi v81 v80
  let v88 : BitVec 32 := Scalar.select v86 v87 v81
  ![v88.toNat]
def k0_off15 (k0_t2 : Fin k0_t2_loop.trips) : Fin 3 → Nat :=
  let c0_i32_35 : BitVec 32 := 0#32
  let c1_i32_36 : BitVec 32 := 1#32
  let arg12 : BitVec 32 := Scf.iv c0_i32_35 c1_i32_36 k0_t2
  let c3_i32 : BitVec 32 := 3#32
  let c0_i32_77 : BitVec 32 := 0#32
  let v69 : BitVec 1 := Scalar.cmpi .eq c3_i32 c0_i32_77
  let c1_i32_78 : BitVec 32 := 1#32
  let v70 : BitVec 32 := Scalar.select v69 c1_i32_78 c3_i32
  let v71 : BitVec 32 := Scalar.remsi arg12 v70
  let c0_i32_80 : BitVec 32 := 0#32
  let v73 : BitVec 1 := Scalar.cmpi .slt v71 c0_i32_80
  let c0_i32_81 : BitVec 32 := 0#32
  let v74 : BitVec 1 := Scalar.cmpi .slt v70 c0_i32_81
  let v75 : BitVec 1 := Scalar.xori v73 v74
  let c0_i32_79 : BitVec 32 := 0#32
  let v72 : BitVec 1 := Scalar.cmpi .ne v71 c0_i32_79
  let v76 : BitVec 1 := Scalar.andi v75 v72
  let v77 : BitVec 32 := Scalar.addi v71 v70
  let v78 : BitVec 32 := Scalar.select v76 v77 v71
  let c0_i32_88 : BitVec 32 := 0#32
  let c0_i32_89 : BitVec 32 := 0#32
  ![v78.toNat, 0, 0]
def k0_off16 (k0_t2 : Fin k0_t2_loop.trips) : Fin 2 → Nat :=
  let c0_i32_90 : BitVec 32 := 0#32
  let c0_i32_35 : BitVec 32 := 0#32
  let c1_i32_36 : BitVec 32 := 1#32
  let arg12 : BitVec 32 := Scf.iv c0_i32_35 c1_i32_36 k0_t2
  let c256_i32_76 : BitVec 32 := 256#32
  let v67 : BitVec 32 := Scalar.muli arg12 c256_i32_76
  let v68 : BitVec 32 := v67
  ![0, v68.toNat]
def k0_cond3 (k0_t2 : Fin k0_t2_loop.trips) : BitVec 1 :=
  let c0_i32_35 : BitVec 32 := 0#32
  let c1_i32_36 : BitVec 32 := 1#32
  let arg12 : BitVec 32 := Scf.iv c0_i32_35 c1_i32_36 k0_t2
  let c3_i32_91 : BitVec 32 := 3#32
  let v94 : BitVec 32 := Scalar.addi arg12 c3_i32_91
  let c1_i32_92 : BitVec 32 := 1#32
  let v95 : BitVec 32 := Scalar.subi v94 c1_i32_92
  let c16_i32_93 : BitVec 32 := 16#32
  let v96 : BitVec 1 := Scalar.cmpi .slt v95 c16_i32_93
  let v97 : BitVec 32 := Scalar.extui v96
  let c0_i32_94 : BitVec 32 := 0#32
  let v98 : BitVec 1 := Scalar.cmpi .ne v97 c0_i32_94
  v98

def k0_mult6 (k0_t2 : Fin k0_t2_loop.trips) : BitVec 32 :=
  let c0_i32_35 : BitVec 32 := 0#32
  let c1_i32_36 : BitVec 32 := 1#32
  let arg12 : BitVec 32 := Scf.iv c0_i32_35 c1_i32_36 k0_t2
  let c3_i32_130 : BitVec 32 := 3#32
  let v159 : BitVec 32 := Scalar.addi arg12 c3_i32_130
  let c1_i32_131 : BitVec 32 := 1#32
  let v160 : BitVec 32 := Scalar.subi v159 c1_i32_131
  let c256_i32_132 : BitVec 32 := 256#32
  let v161 : BitVec 32 := Scalar.muli v160 c256_i32_132
  v161
def k0_off17 (k0_t2 : Fin k0_t2_loop.trips) : Fin 1 → Nat :=
  let c0_i32_35 : BitVec 32 := 0#32
  let c1_i32_36 : BitVec 32 := 1#32
  let arg12 : BitVec 32 := Scf.iv c0_i32_35 c1_i32_36 k0_t2
  let c3_i32_130 : BitVec 32 := 3#32
  let v159 : BitVec 32 := Scalar.addi arg12 c3_i32_130
  let c1_i32_131 : BitVec 32 := 1#32
  let v160 : BitVec 32 := Scalar.subi v159 c1_i32_131
  let c3_i32_139 : BitVec 32 := 3#32
  let c0_i32_140 : BitVec 32 := 0#32
  let v173 : BitVec 1 := Scalar.cmpi .eq c3_i32_139 c0_i32_140
  let c1_i32_141 : BitVec 32 := 1#32
  let v174 : BitVec 32 := Scalar.select v173 c1_i32_141 c3_i32_139
  let v175 : BitVec 32 := Scalar.remsi v160 v174
  let c0_i32_143 : BitVec 32 := 0#32
  let v177 : BitVec 1 := Scalar.cmpi .slt v175 c0_i32_143
  let c0_i32_144 : BitVec 32 := 0#32
  let v178 : BitVec 1 := Scalar.cmpi .slt v174 c0_i32_144
  let v179 : BitVec 1 := Scalar.xori v177 v178
  let c0_i32_142 : BitVec 32 := 0#32
  let v176 : BitVec 1 := Scalar.cmpi .ne v175 c0_i32_142
  let v180 : BitVec 1 := Scalar.andi v179 v176
  let v181 : BitVec 32 := Scalar.addi v175 v174
  let v182 : BitVec 32 := Scalar.select v180 v181 v175
  ![v182.toNat]
def k0_off18 (k0_t2 : Fin k0_t2_loop.trips) : Fin 3 → Nat :=
  let c0_i32_35 : BitVec 32 := 0#32
  let c1_i32_36 : BitVec 32 := 1#32
  let arg12 : BitVec 32 := Scf.iv c0_i32_35 c1_i32_36 k0_t2
  let c3_i32_130 : BitVec 32 := 3#32
  let v159 : BitVec 32 := Scalar.addi arg12 c3_i32_130
  let c1_i32_131 : BitVec 32 := 1#32
  let v160 : BitVec 32 := Scalar.subi v159 c1_i32_131
  let c3_i32_133 : BitVec 32 := 3#32
  let c0_i32_134 : BitVec 32 := 0#32
  let v163 : BitVec 1 := Scalar.cmpi .eq c3_i32_133 c0_i32_134
  let c1_i32_135 : BitVec 32 := 1#32
  let v164 : BitVec 32 := Scalar.select v163 c1_i32_135 c3_i32_133
  let v165 : BitVec 32 := Scalar.remsi v160 v164
  let c0_i32_137 : BitVec 32 := 0#32
  let v167 : BitVec 1 := Scalar.cmpi .slt v165 c0_i32_137
  let c0_i32_138 : BitVec 32 := 0#32
  let v168 : BitVec 1 := Scalar.cmpi .slt v164 c0_i32_138
  let v169 : BitVec 1 := Scalar.xori v167 v168
  let c0_i32_136 : BitVec 32 := 0#32
  let v166 : BitVec 1 := Scalar.cmpi .ne v165 c0_i32_136
  let v170 : BitVec 1 := Scalar.andi v169 v166
  let v171 : BitVec 32 := Scalar.addi v165 v164
  let v172 : BitVec 32 := Scalar.select v170 v171 v165
  let c0_i32_145 : BitVec 32 := 0#32
  let c0_i32_146 : BitVec 32 := 0#32
  ![v172.toNat, 0, 0]
def k0_off19 (k0_t2 : Fin k0_t2_loop.trips) : Fin 2 → Nat :=
  let c0_i32_147 : BitVec 32 := 0#32
  let c0_i32_35 : BitVec 32 := 0#32
  let c1_i32_36 : BitVec 32 := 1#32
  let arg12 : BitVec 32 := Scf.iv c0_i32_35 c1_i32_36 k0_t2
  let c3_i32_130 : BitVec 32 := 3#32
  let v159 : BitVec 32 := Scalar.addi arg12 c3_i32_130
  let c1_i32_131 : BitVec 32 := 1#32
  let v160 : BitVec 32 := Scalar.subi v159 c1_i32_131
  let c256_i32_132 : BitVec 32 := 256#32
  let v161 : BitVec 32 := Scalar.muli v160 c256_i32_132
  let v162 : BitVec 32 := v161
  ![0, v162.toNat]
def k0_off20 (k0_t2 : Fin k0_t2_loop.trips) : Fin 3 → Nat :=
  let c0_i32_35 : BitVec 32 := 0#32
  let c1_i32_36 : BitVec 32 := 1#32
  let arg12 : BitVec 32 := Scf.iv c0_i32_35 c1_i32_36 k0_t2
  let c3_i32_95 : BitVec 32 := 3#32
  let c0_i32_96 : BitVec 32 := 0#32
  let v99 : BitVec 1 := Scalar.cmpi .eq c3_i32_95 c0_i32_96
  let c1_i32_97 : BitVec 32 := 1#32
  let v100 : BitVec 32 := Scalar.select v99 c1_i32_97 c3_i32_95
  let v101 : BitVec 32 := Scalar.remsi arg12 v100
  let c0_i32_99 : BitVec 32 := 0#32
  let v103 : BitVec 1 := Scalar.cmpi .slt v101 c0_i32_99
  let c0_i32_100 : BitVec 32 := 0#32
  let v104 : BitVec 1 := Scalar.cmpi .slt v100 c0_i32_100
  let v105 : BitVec 1 := Scalar.xori v103 v104
  let c0_i32_98 : BitVec 32 := 0#32
  let v102 : BitVec 1 := Scalar.cmpi .ne v101 c0_i32_98
  let v106 : BitVec 1 := Scalar.andi v105 v102
  let v107 : BitVec 32 := Scalar.addi v101 v100
  let v108 : BitVec 32 := Scalar.select v106 v107 v101
  let v109 : Index := Scalar.indexCast v108
  let c0 : Index := 0#32
  let c0_101 : Index := 0#32
  ![v109.toNat, 0, 0]
def k0_cond4 (k0_t2 : Fin k0_t2_loop.trips) : BitVec 1 :=
  let c0_i32_35 : BitVec 32 := 0#32
  let c1_i32_36 : BitVec 32 := 1#32
  let arg12 : BitVec 32 := Scf.iv c0_i32_35 c1_i32_36 k0_t2
  let c2_i32_104 : BitVec 32 := 2#32
  let v115 : BitVec 1 := Scalar.cmpi .sge arg12 c2_i32_104
  let v116 : BitVec 32 := Scalar.extui v115
  let c0_i32_105 : BitVec 32 := 0#32
  let v117 : BitVec 1 := Scalar.cmpi .ne v116 c0_i32_105
  v117

def k0_mult7 (k0_t2 : Fin k0_t2_loop.trips) : BitVec 32 :=
  let c0_i32_35 : BitVec 32 := 0#32
  let c1_i32_36 : BitVec 32 := 1#32
  let arg12 : BitVec 32 := Scf.iv c0_i32_35 c1_i32_36 k0_t2
  let c2_i32_130 : BitVec 32 := 2#32
  let v159 : BitVec 32 := Scalar.subi arg12 c2_i32_130
  let c256_i32_137 : BitVec 32 := 256#32
  let v170 : BitVec 32 := Scalar.muli v159 c256_i32_137
  v170
def k0_off21 (k0_t2 : Fin k0_t2_loop.trips) : Fin 1 → Nat :=
  let c0_i32_35 : BitVec 32 := 0#32
  let c1_i32_36 : BitVec 32 := 1#32
  let arg12 : BitVec 32 := Scf.iv c0_i32_35 c1_i32_36 k0_t2
  let c2_i32_130 : BitVec 32 := 2#32
  let v159 : BitVec 32 := Scalar.subi arg12 c2_i32_130
  let c2_i32_138 : BitVec 32 := 2#32
  let c0_i32_139 : BitVec 32 := 0#32
  let v172 : BitVec 1 := Scalar.cmpi .eq c2_i32_138 c0_i32_139
  let c1_i32_140 : BitVec 32 := 1#32
  let v173 : BitVec 32 := Scalar.select v172 c1_i32_140 c2_i32_138
  let v174 : BitVec 32 := Scalar.remsi v159 v173
  let c0_i32_142 : BitVec 32 := 0#32
  let v176 : BitVec 1 := Scalar.cmpi .slt v174 c0_i32_142
  let c0_i32_143 : BitVec 32 := 0#32
  let v177 : BitVec 1 := Scalar.cmpi .slt v173 c0_i32_143
  let v178 : BitVec 1 := Scalar.xori v176 v177
  let c0_i32_141 : BitVec 32 := 0#32
  let v175 : BitVec 1 := Scalar.cmpi .ne v174 c0_i32_141
  let v179 : BitVec 1 := Scalar.andi v178 v175
  let v180 : BitVec 32 := Scalar.addi v174 v173
  let v181 : BitVec 32 := Scalar.select v179 v180 v174
  ![v181.toNat]
def k0_off22 (k0_t2 : Fin k0_t2_loop.trips) : Fin 2 → Nat :=
  let c0_i32_35 : BitVec 32 := 0#32
  let c1_i32_36 : BitVec 32 := 1#32
  let arg12 : BitVec 32 := Scf.iv c0_i32_35 c1_i32_36 k0_t2
  let c2_i32_130 : BitVec 32 := 2#32
  let v159 : BitVec 32 := Scalar.subi arg12 c2_i32_130
  let c256_i32_137 : BitVec 32 := 256#32
  let v170 : BitVec 32 := Scalar.muli v159 c256_i32_137
  let v171 : BitVec 32 := v170
  let c0_i32_144 : BitVec 32 := 0#32
  ![v171.toNat, 0]
def k0_off23 (k0_t2 : Fin k0_t2_loop.trips) : Fin 3 → Nat :=
  let c0_i32_35 : BitVec 32 := 0#32
  let c1_i32_36 : BitVec 32 := 1#32
  let arg12 : BitVec 32 := Scf.iv c0_i32_35 c1_i32_36 k0_t2
  let c2_i32_130 : BitVec 32 := 2#32
  let v159 : BitVec 32 := Scalar.subi arg12 c2_i32_130
  let c2_i32_131 : BitVec 32 := 2#32
  let c0_i32_132 : BitVec 32 := 0#32
  let v160 : BitVec 1 := Scalar.cmpi .eq c2_i32_131 c0_i32_132
  let c1_i32_133 : BitVec 32 := 1#32
  let v161 : BitVec 32 := Scalar.select v160 c1_i32_133 c2_i32_131
  let v162 : BitVec 32 := Scalar.remsi v159 v161
  let c0_i32_135 : BitVec 32 := 0#32
  let v164 : BitVec 1 := Scalar.cmpi .slt v162 c0_i32_135
  let c0_i32_136 : BitVec 32 := 0#32
  let v165 : BitVec 1 := Scalar.cmpi .slt v161 c0_i32_136
  let v166 : BitVec 1 := Scalar.xori v164 v165
  let c0_i32_134 : BitVec 32 := 0#32
  let v163 : BitVec 1 := Scalar.cmpi .ne v162 c0_i32_134
  let v167 : BitVec 1 := Scalar.andi v166 v163
  let v168 : BitVec 32 := Scalar.addi v162 v161
  let v169 : BitVec 32 := Scalar.select v167 v168 v162
  let c0_i32_145 : BitVec 32 := 0#32
  let c0_i32_146 : BitVec 32 := 0#32
  ![v169.toNat, 0, 0]
def k0_off24 (k0_t2 : Fin k0_t2_loop.trips) : Fin 3 → Nat :=
  let c0_i32_35 : BitVec 32 := 0#32
  let c1_i32_36 : BitVec 32 := 1#32
  let arg12 : BitVec 32 := Scf.iv c0_i32_35 c1_i32_36 k0_t2
  let c2_i32_106 : BitVec 32 := 2#32
  let c0_i32_107 : BitVec 32 := 0#32
  let v118 : BitVec 1 := Scalar.cmpi .eq c2_i32_106 c0_i32_107
  let c1_i32_108 : BitVec 32 := 1#32
  let v119 : BitVec 32 := Scalar.select v118 c1_i32_108 c2_i32_106
  let v120 : BitVec 32 := Scalar.remsi arg12 v119
  let c0_i32_110 : BitVec 32 := 0#32
  let v122 : BitVec 1 := Scalar.cmpi .slt v120 c0_i32_110
  let c0_i32_111 : BitVec 32 := 0#32
  let v123 : BitVec 1 := Scalar.cmpi .slt v119 c0_i32_111
  let v124 : BitVec 1 := Scalar.xori v122 v123
  let c0_i32_109 : BitVec 32 := 0#32
  let v121 : BitVec 1 := Scalar.cmpi .ne v120 c0_i32_109
  let v125 : BitVec 1 := Scalar.andi v124 v121
  let v126 : BitVec 32 := Scalar.addi v120 v119
  let v127 : BitVec 32 := Scalar.select v125 v126 v120
  let v128 : Index := Scalar.indexCast v127
  let c0_112 : Index := 0#32
  let c0_113 : Index := 0#32
  ![v128.toNat, 0, 0]
def k0_mult8 (k0_t2 : Fin k0_t2_loop.trips) : BitVec 32 :=
  let c0_i32_35 : BitVec 32 := 0#32
  let c1_i32_36 : BitVec 32 := 1#32
  let arg12 : BitVec 32 := Scf.iv c0_i32_35 c1_i32_36 k0_t2
  let c256_i32_120 : BitVec 32 := 256#32
  let v142 : BitVec 32 := Scalar.muli arg12 c256_i32_120
  v142
def k0_off25 (k0_t2 : Fin k0_t2_loop.trips) : Fin 2 → Nat :=
  let c0_i32_35 : BitVec 32 := 0#32
  let c1_i32_36 : BitVec 32 := 1#32
  let arg12 : BitVec 32 := Scf.iv c0_i32_35 c1_i32_36 k0_t2
  let c256_i32_120 : BitVec 32 := 256#32
  let v142 : BitVec 32 := Scalar.muli arg12 c256_i32_120
  let v143 : BitVec 32 := v142
  let c0_i32_127 : BitVec 32 := 0#32
  ![v143.toNat, 0]
def k0_off26 (k0_t2 : Fin k0_t2_loop.trips) : Fin 3 → Nat :=
  let c0_i32_35 : BitVec 32 := 0#32
  let c1_i32_36 : BitVec 32 := 1#32
  let arg12 : BitVec 32 := Scf.iv c0_i32_35 c1_i32_36 k0_t2
  let c2_i32_114 : BitVec 32 := 2#32
  let c0_i32_115 : BitVec 32 := 0#32
  let v132 : BitVec 1 := Scalar.cmpi .eq c2_i32_114 c0_i32_115
  let c1_i32_116 : BitVec 32 := 1#32
  let v133 : BitVec 32 := Scalar.select v132 c1_i32_116 c2_i32_114
  let v134 : BitVec 32 := Scalar.remsi arg12 v133
  let c0_i32_118 : BitVec 32 := 0#32
  let v136 : BitVec 1 := Scalar.cmpi .slt v134 c0_i32_118
  let c0_i32_119 : BitVec 32 := 0#32
  let v137 : BitVec 1 := Scalar.cmpi .slt v133 c0_i32_119
  let v138 : BitVec 1 := Scalar.xori v136 v137
  let c0_i32_117 : BitVec 32 := 0#32
  let v135 : BitVec 1 := Scalar.cmpi .ne v134 c0_i32_117
  let v139 : BitVec 1 := Scalar.andi v138 v135
  let v140 : BitVec 32 := Scalar.addi v134 v133
  let v141 : BitVec 32 := Scalar.select v139 v140 v134
  let c0_i32_128 : BitVec 32 := 0#32
  let c0_i32_129 : BitVec 32 := 0#32
  ![v141.toNat, 0, 0]
@[reducible] def k0_t3_loop : Scf.Loop 32 :=
  let c0_i32_60 : BitVec 32 := 0#32
  let c24_i32_61 : BitVec 32 := 24#32
  let v56 : BitVec 32 := Scalar.addi c0_i32_60 c24_i32_61
  let c1_i32_62 : BitVec 32 := 1#32
  ⟨c0_i32_60, v56, c1_i32_62⟩
def k0_mult9 (k0_t3 : Fin k0_t3_loop.trips) : BitVec 32 :=
  let c0_i32_60 : BitVec 32 := 0#32
  let c1_i32_62 : BitVec 32 := 1#32
  let arg12 : BitVec 32 := Scf.iv c0_i32_60 c1_i32_62 k0_t3
  let c256_i32_76 : BitVec 32 := 256#32
  let v67 : BitVec 32 := Scalar.muli arg12 c256_i32_76
  v67
def k0_off27 (k0_t3 : Fin k0_t3_loop.trips) (c3_i32_82 : BitVec 32) : Fin 1 → Nat :=
  let c0_i32_60 : BitVec 32 := 0#32
  let c1_i32_62 : BitVec 32 := 1#32
  let arg12 : BitVec 32 := Scf.iv c0_i32_60 c1_i32_62 k0_t3
  let c0_i32_83 : BitVec 32 := 0#32
  let v79 : BitVec 1 := Scalar.cmpi .eq c3_i32_82 c0_i32_83
  let c1_i32_84 : BitVec 32 := 1#32
  let v80 : BitVec 32 := Scalar.select v79 c1_i32_84 c3_i32_82
  let v81 : BitVec 32 := Scalar.remsi arg12 v80
  let c0_i32_86 : BitVec 32 := 0#32
  let v83 : BitVec 1 := Scalar.cmpi .slt v81 c0_i32_86
  let c0_i32_87 : BitVec 32 := 0#32
  let v84 : BitVec 1 := Scalar.cmpi .slt v80 c0_i32_87
  let v85 : BitVec 1 := Scalar.xori v83 v84
  let c0_i32_85 : BitVec 32 := 0#32
  let v82 : BitVec 1 := Scalar.cmpi .ne v81 c0_i32_85
  let v86 : BitVec 1 := Scalar.andi v85 v82
  let v87 : BitVec 32 := Scalar.addi v81 v80
  let v88 : BitVec 32 := Scalar.select v86 v87 v81
  ![v88.toNat]
def k0_off28 (k0_t3 : Fin k0_t3_loop.trips) : Fin 3 → Nat :=
  let c0_i32_60 : BitVec 32 := 0#32
  let c1_i32_62 : BitVec 32 := 1#32
  let arg12 : BitVec 32 := Scf.iv c0_i32_60 c1_i32_62 k0_t3
  let c3_i32 : BitVec 32 := 3#32
  let c0_i32_77 : BitVec 32 := 0#32
  let v69 : BitVec 1 := Scalar.cmpi .eq c3_i32 c0_i32_77
  let c1_i32_78 : BitVec 32 := 1#32
  let v70 : BitVec 32 := Scalar.select v69 c1_i32_78 c3_i32
  let v71 : BitVec 32 := Scalar.remsi arg12 v70
  let c0_i32_80 : BitVec 32 := 0#32
  let v73 : BitVec 1 := Scalar.cmpi .slt v71 c0_i32_80
  let c0_i32_81 : BitVec 32 := 0#32
  let v74 : BitVec 1 := Scalar.cmpi .slt v70 c0_i32_81
  let v75 : BitVec 1 := Scalar.xori v73 v74
  let c0_i32_79 : BitVec 32 := 0#32
  let v72 : BitVec 1 := Scalar.cmpi .ne v71 c0_i32_79
  let v76 : BitVec 1 := Scalar.andi v75 v72
  let v77 : BitVec 32 := Scalar.addi v71 v70
  let v78 : BitVec 32 := Scalar.select v76 v77 v71
  let c0_i32_88 : BitVec 32 := 0#32
  let c0_i32_89 : BitVec 32 := 0#32
  ![v78.toNat, 0, 0]
def k0_off29 (k0_t3 : Fin k0_t3_loop.trips) : Fin 2 → Nat :=
  let c0_i32_90 : BitVec 32 := 0#32
  let c0_i32_60 : BitVec 32 := 0#32
  let c1_i32_62 : BitVec 32 := 1#32
  let arg12 : BitVec 32 := Scf.iv c0_i32_60 c1_i32_62 k0_t3
  let c256_i32_76 : BitVec 32 := 256#32
  let v67 : BitVec 32 := Scalar.muli arg12 c256_i32_76
  let v68 : BitVec 32 := v67
  ![0, v68.toNat]
def k0_cond5 (k0_t3 : Fin k0_t3_loop.trips) : BitVec 1 :=
  let c0_i32_60 : BitVec 32 := 0#32
  let c1_i32_62 : BitVec 32 := 1#32
  let arg12 : BitVec 32 := Scf.iv c0_i32_60 c1_i32_62 k0_t3
  let c3_i32_91 : BitVec 32 := 3#32
  let v94 : BitVec 32 := Scalar.addi arg12 c3_i32_91
  let c1_i32_92 : BitVec 32 := 1#32
  let v95 : BitVec 32 := Scalar.subi v94 c1_i32_92
  let c24_i32_93 : BitVec 32 := 24#32
  let v96 : BitVec 1 := Scalar.cmpi .slt v95 c24_i32_93
  let v97 : BitVec 32 := Scalar.extui v96
  let c0_i32_94 : BitVec 32 := 0#32
  let v98 : BitVec 1 := Scalar.cmpi .ne v97 c0_i32_94
  v98

def k0_mult10 (k0_t3 : Fin k0_t3_loop.trips) : BitVec 32 :=
  let c0_i32_60 : BitVec 32 := 0#32
  let c1_i32_62 : BitVec 32 := 1#32
  let arg12 : BitVec 32 := Scf.iv c0_i32_60 c1_i32_62 k0_t3
  let c3_i32_130 : BitVec 32 := 3#32
  let v159 : BitVec 32 := Scalar.addi arg12 c3_i32_130
  let c1_i32_131 : BitVec 32 := 1#32
  let v160 : BitVec 32 := Scalar.subi v159 c1_i32_131
  let c256_i32_132 : BitVec 32 := 256#32
  let v161 : BitVec 32 := Scalar.muli v160 c256_i32_132
  v161
def k0_off30 (k0_t3 : Fin k0_t3_loop.trips) : Fin 1 → Nat :=
  let c0_i32_60 : BitVec 32 := 0#32
  let c1_i32_62 : BitVec 32 := 1#32
  let arg12 : BitVec 32 := Scf.iv c0_i32_60 c1_i32_62 k0_t3
  let c3_i32_130 : BitVec 32 := 3#32
  let v159 : BitVec 32 := Scalar.addi arg12 c3_i32_130
  let c1_i32_131 : BitVec 32 := 1#32
  let v160 : BitVec 32 := Scalar.subi v159 c1_i32_131
  let c3_i32_139 : BitVec 32 := 3#32
  let c0_i32_140 : BitVec 32 := 0#32
  let v173 : BitVec 1 := Scalar.cmpi .eq c3_i32_139 c0_i32_140
  let c1_i32_141 : BitVec 32 := 1#32
  let v174 : BitVec 32 := Scalar.select v173 c1_i32_141 c3_i32_139
  let v175 : BitVec 32 := Scalar.remsi v160 v174
  let c0_i32_143 : BitVec 32 := 0#32
  let v177 : BitVec 1 := Scalar.cmpi .slt v175 c0_i32_143
  let c0_i32_144 : BitVec 32 := 0#32
  let v178 : BitVec 1 := Scalar.cmpi .slt v174 c0_i32_144
  let v179 : BitVec 1 := Scalar.xori v177 v178
  let c0_i32_142 : BitVec 32 := 0#32
  let v176 : BitVec 1 := Scalar.cmpi .ne v175 c0_i32_142
  let v180 : BitVec 1 := Scalar.andi v179 v176
  let v181 : BitVec 32 := Scalar.addi v175 v174
  let v182 : BitVec 32 := Scalar.select v180 v181 v175
  ![v182.toNat]
def k0_off31 (k0_t3 : Fin k0_t3_loop.trips) : Fin 3 → Nat :=
  let c0_i32_60 : BitVec 32 := 0#32
  let c1_i32_62 : BitVec 32 := 1#32
  let arg12 : BitVec 32 := Scf.iv c0_i32_60 c1_i32_62 k0_t3
  let c3_i32_130 : BitVec 32 := 3#32
  let v159 : BitVec 32 := Scalar.addi arg12 c3_i32_130
  let c1_i32_131 : BitVec 32 := 1#32
  let v160 : BitVec 32 := Scalar.subi v159 c1_i32_131
  let c3_i32_133 : BitVec 32 := 3#32
  let c0_i32_134 : BitVec 32 := 0#32
  let v163 : BitVec 1 := Scalar.cmpi .eq c3_i32_133 c0_i32_134
  let c1_i32_135 : BitVec 32 := 1#32
  let v164 : BitVec 32 := Scalar.select v163 c1_i32_135 c3_i32_133
  let v165 : BitVec 32 := Scalar.remsi v160 v164
  let c0_i32_137 : BitVec 32 := 0#32
  let v167 : BitVec 1 := Scalar.cmpi .slt v165 c0_i32_137
  let c0_i32_138 : BitVec 32 := 0#32
  let v168 : BitVec 1 := Scalar.cmpi .slt v164 c0_i32_138
  let v169 : BitVec 1 := Scalar.xori v167 v168
  let c0_i32_136 : BitVec 32 := 0#32
  let v166 : BitVec 1 := Scalar.cmpi .ne v165 c0_i32_136
  let v170 : BitVec 1 := Scalar.andi v169 v166
  let v171 : BitVec 32 := Scalar.addi v165 v164
  let v172 : BitVec 32 := Scalar.select v170 v171 v165
  let c0_i32_145 : BitVec 32 := 0#32
  let c0_i32_146 : BitVec 32 := 0#32
  ![v172.toNat, 0, 0]
def k0_off32 (k0_t3 : Fin k0_t3_loop.trips) : Fin 2 → Nat :=
  let c0_i32_147 : BitVec 32 := 0#32
  let c0_i32_60 : BitVec 32 := 0#32
  let c1_i32_62 : BitVec 32 := 1#32
  let arg12 : BitVec 32 := Scf.iv c0_i32_60 c1_i32_62 k0_t3
  let c3_i32_130 : BitVec 32 := 3#32
  let v159 : BitVec 32 := Scalar.addi arg12 c3_i32_130
  let c1_i32_131 : BitVec 32 := 1#32
  let v160 : BitVec 32 := Scalar.subi v159 c1_i32_131
  let c256_i32_132 : BitVec 32 := 256#32
  let v161 : BitVec 32 := Scalar.muli v160 c256_i32_132
  let v162 : BitVec 32 := v161
  ![0, v162.toNat]
def k0_off33 (k0_t3 : Fin k0_t3_loop.trips) : Fin 3 → Nat :=
  let c0_i32_60 : BitVec 32 := 0#32
  let c1_i32_62 : BitVec 32 := 1#32
  let arg12 : BitVec 32 := Scf.iv c0_i32_60 c1_i32_62 k0_t3
  let c3_i32_95 : BitVec 32 := 3#32
  let c0_i32_96 : BitVec 32 := 0#32
  let v99 : BitVec 1 := Scalar.cmpi .eq c3_i32_95 c0_i32_96
  let c1_i32_97 : BitVec 32 := 1#32
  let v100 : BitVec 32 := Scalar.select v99 c1_i32_97 c3_i32_95
  let v101 : BitVec 32 := Scalar.remsi arg12 v100
  let c0_i32_99 : BitVec 32 := 0#32
  let v103 : BitVec 1 := Scalar.cmpi .slt v101 c0_i32_99
  let c0_i32_100 : BitVec 32 := 0#32
  let v104 : BitVec 1 := Scalar.cmpi .slt v100 c0_i32_100
  let v105 : BitVec 1 := Scalar.xori v103 v104
  let c0_i32_98 : BitVec 32 := 0#32
  let v102 : BitVec 1 := Scalar.cmpi .ne v101 c0_i32_98
  let v106 : BitVec 1 := Scalar.andi v105 v102
  let v107 : BitVec 32 := Scalar.addi v101 v100
  let v108 : BitVec 32 := Scalar.select v106 v107 v101
  let v109 : Index := Scalar.indexCast v108
  let c0 : Index := 0#32
  let c0_101 : Index := 0#32
  ![v109.toNat, 0, 0]
def k0_cond6 (k0_t3 : Fin k0_t3_loop.trips) : BitVec 1 :=
  let c0_i32_60 : BitVec 32 := 0#32
  let c1_i32_62 : BitVec 32 := 1#32
  let arg12 : BitVec 32 := Scf.iv c0_i32_60 c1_i32_62 k0_t3
  let c2_i32_104 : BitVec 32 := 2#32
  let v115 : BitVec 1 := Scalar.cmpi .sge arg12 c2_i32_104
  let v116 : BitVec 32 := Scalar.extui v115
  let c0_i32_105 : BitVec 32 := 0#32
  let v117 : BitVec 1 := Scalar.cmpi .ne v116 c0_i32_105
  v117

def k0_mult11 (k0_t3 : Fin k0_t3_loop.trips) : BitVec 32 :=
  let c0_i32_60 : BitVec 32 := 0#32
  let c1_i32_62 : BitVec 32 := 1#32
  let arg12 : BitVec 32 := Scf.iv c0_i32_60 c1_i32_62 k0_t3
  let c2_i32_130 : BitVec 32 := 2#32
  let v159 : BitVec 32 := Scalar.subi arg12 c2_i32_130
  let c256_i32_137 : BitVec 32 := 256#32
  let v170 : BitVec 32 := Scalar.muli v159 c256_i32_137
  v170
def k0_off34 (k0_t3 : Fin k0_t3_loop.trips) : Fin 1 → Nat :=
  let c0_i32_60 : BitVec 32 := 0#32
  let c1_i32_62 : BitVec 32 := 1#32
  let arg12 : BitVec 32 := Scf.iv c0_i32_60 c1_i32_62 k0_t3
  let c2_i32_130 : BitVec 32 := 2#32
  let v159 : BitVec 32 := Scalar.subi arg12 c2_i32_130
  let c2_i32_138 : BitVec 32 := 2#32
  let c0_i32_139 : BitVec 32 := 0#32
  let v172 : BitVec 1 := Scalar.cmpi .eq c2_i32_138 c0_i32_139
  let c1_i32_140 : BitVec 32 := 1#32
  let v173 : BitVec 32 := Scalar.select v172 c1_i32_140 c2_i32_138
  let v174 : BitVec 32 := Scalar.remsi v159 v173
  let c0_i32_142 : BitVec 32 := 0#32
  let v176 : BitVec 1 := Scalar.cmpi .slt v174 c0_i32_142
  let c0_i32_143 : BitVec 32 := 0#32
  let v177 : BitVec 1 := Scalar.cmpi .slt v173 c0_i32_143
  let v178 : BitVec 1 := Scalar.xori v176 v177
  let c0_i32_141 : BitVec 32 := 0#32
  let v175 : BitVec 1 := Scalar.cmpi .ne v174 c0_i32_141
  let v179 : BitVec 1 := Scalar.andi v178 v175
  let v180 : BitVec 32 := Scalar.addi v174 v173
  let v181 : BitVec 32 := Scalar.select v179 v180 v174
  ![v181.toNat]
def k0_off35 (k0_t3 : Fin k0_t3_loop.trips) : Fin 2 → Nat :=
  let c0_i32_60 : BitVec 32 := 0#32
  let c1_i32_62 : BitVec 32 := 1#32
  let arg12 : BitVec 32 := Scf.iv c0_i32_60 c1_i32_62 k0_t3
  let c2_i32_130 : BitVec 32 := 2#32
  let v159 : BitVec 32 := Scalar.subi arg12 c2_i32_130
  let c256_i32_137 : BitVec 32 := 256#32
  let v170 : BitVec 32 := Scalar.muli v159 c256_i32_137
  let v171 : BitVec 32 := v170
  let c0_i32_144 : BitVec 32 := 0#32
  ![v171.toNat, 0]
def k0_off36 (k0_t3 : Fin k0_t3_loop.trips) : Fin 3 → Nat :=
  let c0_i32_60 : BitVec 32 := 0#32
  let c1_i32_62 : BitVec 32 := 1#32
  let arg12 : BitVec 32 := Scf.iv c0_i32_60 c1_i32_62 k0_t3
  let c2_i32_130 : BitVec 32 := 2#32
  let v159 : BitVec 32 := Scalar.subi arg12 c2_i32_130
  let c2_i32_131 : BitVec 32 := 2#32
  let c0_i32_132 : BitVec 32 := 0#32
  let v160 : BitVec 1 := Scalar.cmpi .eq c2_i32_131 c0_i32_132
  let c1_i32_133 : BitVec 32 := 1#32
  let v161 : BitVec 32 := Scalar.select v160 c1_i32_133 c2_i32_131
  let v162 : BitVec 32 := Scalar.remsi v159 v161
  let c0_i32_135 : BitVec 32 := 0#32
  let v164 : BitVec 1 := Scalar.cmpi .slt v162 c0_i32_135
  let c0_i32_136 : BitVec 32 := 0#32
  let v165 : BitVec 1 := Scalar.cmpi .slt v161 c0_i32_136
  let v166 : BitVec 1 := Scalar.xori v164 v165
  let c0_i32_134 : BitVec 32 := 0#32
  let v163 : BitVec 1 := Scalar.cmpi .ne v162 c0_i32_134
  let v167 : BitVec 1 := Scalar.andi v166 v163
  let v168 : BitVec 32 := Scalar.addi v162 v161
  let v169 : BitVec 32 := Scalar.select v167 v168 v162
  let c0_i32_145 : BitVec 32 := 0#32
  let c0_i32_146 : BitVec 32 := 0#32
  ![v169.toNat, 0, 0]
def k0_off37 (k0_t3 : Fin k0_t3_loop.trips) : Fin 3 → Nat :=
  let c0_i32_60 : BitVec 32 := 0#32
  let c1_i32_62 : BitVec 32 := 1#32
  let arg12 : BitVec 32 := Scf.iv c0_i32_60 c1_i32_62 k0_t3
  let c2_i32_106 : BitVec 32 := 2#32
  let c0_i32_107 : BitVec 32 := 0#32
  let v118 : BitVec 1 := Scalar.cmpi .eq c2_i32_106 c0_i32_107
  let c1_i32_108 : BitVec 32 := 1#32
  let v119 : BitVec 32 := Scalar.select v118 c1_i32_108 c2_i32_106
  let v120 : BitVec 32 := Scalar.remsi arg12 v119
  let c0_i32_110 : BitVec 32 := 0#32
  let v122 : BitVec 1 := Scalar.cmpi .slt v120 c0_i32_110
  let c0_i32_111 : BitVec 32 := 0#32
  let v123 : BitVec 1 := Scalar.cmpi .slt v119 c0_i32_111
  let v124 : BitVec 1 := Scalar.xori v122 v123
  let c0_i32_109 : BitVec 32 := 0#32
  let v121 : BitVec 1 := Scalar.cmpi .ne v120 c0_i32_109
  let v125 : BitVec 1 := Scalar.andi v124 v121
  let v126 : BitVec 32 := Scalar.addi v120 v119
  let v127 : BitVec 32 := Scalar.select v125 v126 v120
  let v128 : Index := Scalar.indexCast v127
  let c0_112 : Index := 0#32
  let c0_113 : Index := 0#32
  ![v128.toNat, 0, 0]
def k0_mult12 (k0_t3 : Fin k0_t3_loop.trips) : BitVec 32 :=
  let c0_i32_60 : BitVec 32 := 0#32
  let c1_i32_62 : BitVec 32 := 1#32
  let arg12 : BitVec 32 := Scf.iv c0_i32_60 c1_i32_62 k0_t3
  let c256_i32_120 : BitVec 32 := 256#32
  let v142 : BitVec 32 := Scalar.muli arg12 c256_i32_120
  v142
def k0_off38 (k0_t3 : Fin k0_t3_loop.trips) : Fin 2 → Nat :=
  let c0_i32_60 : BitVec 32 := 0#32
  let c1_i32_62 : BitVec 32 := 1#32
  let arg12 : BitVec 32 := Scf.iv c0_i32_60 c1_i32_62 k0_t3
  let c256_i32_120 : BitVec 32 := 256#32
  let v142 : BitVec 32 := Scalar.muli arg12 c256_i32_120
  let v143 : BitVec 32 := v142
  let c0_i32_127 : BitVec 32 := 0#32
  ![v143.toNat, 0]
def k0_off39 (k0_t3 : Fin k0_t3_loop.trips) : Fin 3 → Nat :=
  let c0_i32_60 : BitVec 32 := 0#32
  let c1_i32_62 : BitVec 32 := 1#32
  let arg12 : BitVec 32 := Scf.iv c0_i32_60 c1_i32_62 k0_t3
  let c2_i32_114 : BitVec 32 := 2#32
  let c0_i32_115 : BitVec 32 := 0#32
  let v132 : BitVec 1 := Scalar.cmpi .eq c2_i32_114 c0_i32_115
  let c1_i32_116 : BitVec 32 := 1#32
  let v133 : BitVec 32 := Scalar.select v132 c1_i32_116 c2_i32_114
  let v134 : BitVec 32 := Scalar.remsi arg12 v133
  let c0_i32_118 : BitVec 32 := 0#32
  let v136 : BitVec 1 := Scalar.cmpi .slt v134 c0_i32_118
  let c0_i32_119 : BitVec 32 := 0#32
  let v137 : BitVec 1 := Scalar.cmpi .slt v133 c0_i32_119
  let v138 : BitVec 1 := Scalar.xori v136 v137
  let c0_i32_117 : BitVec 32 := 0#32
  let v135 : BitVec 1 := Scalar.cmpi .ne v134 c0_i32_117
  let v139 : BitVec 1 := Scalar.andi v138 v135
  let v140 : BitVec 32 := Scalar.addi v134 v133
  let v141 : BitVec 32 := Scalar.select v139 v140 v134
  let c0_i32_128 : BitVec 32 := 0#32
  let c0_i32_129 : BitVec 32 := 0#32
  ![v141.toNat, 0, 0]
-- ==== Reference6Ideal.lean ====
abbrev S8192x6144 : Shape := ⟨2, ![8192, 6144]⟩
abbrev S8192x4096 : Shape := ⟨2, ![8192, 4096]⟩
abbrev S8192x2048 : Shape := ⟨2, ![8192, 2048]⟩
abbrev S_ : Shape := ⟨0, ![]⟩
abbrev S2048x6144 : Shape := ⟨2, ![2048, 6144]⟩
abbrev S2048x4096 : Shape := ⟨2, ![2048, 4096]⟩
abbrev S6144x2048 : Shape := ⟨2, ![6144, 2048]⟩
abbrev S4096x2048 : Shape := ⟨2, ![4096, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x4096, .bf16⟩
  | .hbm, ⟨2, _⟩ => ⟨S8192x6144, .bf16⟩
  | .hbm, ⟨3, _⟩ => ⟨S8192x2048, .bf16⟩
  | .hbm, ⟨4, _⟩ => ⟨S_, .f32⟩
  | .hbm, ⟨5, _⟩ => ⟨S2048x6144, .f32⟩
  | .hbm, ⟨6, _⟩ => ⟨S_, .f32⟩
  | .hbm, ⟨7, _⟩ => ⟨S2048x4096, .f32⟩
  | .hbm, ⟨8, _⟩ => ⟨S_, .f32⟩
  | .hbm, ⟨9, _⟩ => ⟨S2048x6144, .f32⟩
  | .hbm, ⟨10, _⟩ => ⟨S8192x2048, .f32⟩
  | .hbm, ⟨11, _⟩ => ⟨S8192x6144, .f32⟩
  | .hbm, ⟨12, _⟩ => ⟨S8192x2048, .f32⟩
  | .hbm, ⟨13, _⟩ => ⟨S8192x4096, .f32⟩
  | .hbm, ⟨14, _⟩ => ⟨S8192x2048, .f32⟩
  | .hbm, ⟨15, _⟩ => ⟨S8192x6144, .f32⟩
  | .hbm, ⟨16, _⟩ => ⟨S8192x6144, .f32⟩
  | .hbm, ⟨17, _⟩ => ⟨S8192x4096, .f32⟩
  | .hbm, ⟨18, _⟩ => ⟨S8192x6144, .f32⟩
  | .hbm, ⟨19, _⟩ => ⟨S6144x2048, .f32⟩
  | .hbm, ⟨20, _⟩ => ⟨S2048x6144, .f32⟩
  | .hbm, ⟨21, _⟩ => ⟨S4096x2048, .f32⟩
  | .hbm, ⟨22, _⟩ => ⟨S2048x4096, .f32⟩
  | .hbm, ⟨23, _⟩ => ⟨S6144x2048, .f32⟩
  | .hbm, ⟨24, _⟩ => ⟨S2048x6144, .f32⟩
  | .hbm, ⟨25, _⟩ => ⟨S6144x2048, .f32⟩
  | .hbm, ⟨26, _⟩ => ⟨S6144x2048, .bf16⟩
  | .hbm, ⟨27, _⟩ => ⟨S4096x2048, .f32⟩
  | .hbm, ⟨28, _⟩ => ⟨S4096x2048, .bf16⟩
  | .hbm, ⟨29, _⟩ => ⟨S6144x2048, .f32⟩
  | .hbm, ⟨30, _⟩ => ⟨S6144x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel7.lean ====
abbrev S8192x2048 : Shape := ⟨2, ![8192, 2048]⟩
abbrev S8192x16384 : Shape := ⟨2, ![8192, 16384]⟩
abbrev S1x4096 : Shape := ⟨2, ![1, 4096]⟩
abbrev S2048x2048 : Shape := ⟨2, ![2048, 2048]⟩
abbrev S2048 : Shape := ⟨1, ![2048]⟩
abbrev S1x2048 : Shape := ⟨2, ![1, 2048]⟩
abbrev S8192x4096 : Shape := ⟨2, ![8192, 4096]⟩
abbrev S8x128 : Shape := ⟨2, ![8, 128]⟩
abbrev S8x2048 : Shape := ⟨2, ![8, 2048]⟩
abbrev S8x4096 : Shape := ⟨2, ![8, 4096]⟩
abbrev S256x2048 : Shape := ⟨2, ![256, 2048]⟩
abbrev S256x4096 : Shape := ⟨2, ![256, 4096]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 18
  | .vmem => 30
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .bf16⟩
  | .hbm, ⟨3, _⟩ => ⟨S8192x16384, .bf16⟩
  | .hbm, ⟨4, _⟩ => ⟨S8192x2048, .f32⟩
  | .hbm, ⟨5, _⟩ => ⟨S1x4096, .f32⟩
  | .hbm, ⟨6, _⟩ => ⟨S2048x2048, .bf16⟩
  | .hbm, ⟨7, _⟩ => ⟨S2048, .f32⟩
  | .hbm, ⟨8, _⟩ => ⟨S1x2048, .f32⟩
  | .hbm, ⟨9, _⟩ => ⟨S8192x2048, .f32⟩
  | .hbm, ⟨10, _⟩ => ⟨S8192x2048, .bf16⟩
  | .hbm, ⟨11, _⟩ => ⟨S8192x2048, .bf16⟩
  | .hbm, ⟨12, _⟩ => ⟨S8192x2048, .bf16⟩
  | .hbm, ⟨13, _⟩ => ⟨S8192x2048, .bf16⟩
  | .hbm, ⟨14, _⟩ => ⟨S8192x4096, .bf16⟩
  | .hbm, ⟨15, _⟩ => ⟨S8x128, .f32⟩
  | .hbm, ⟨16, _⟩ => ⟨S8x2048, .f32⟩
  | .hbm, ⟨17, _⟩ => ⟨S8x4096, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S1x4096, .f32⟩
  | .local _ .vmem, ⟨13, _⟩ => ⟨S2048x2048, .bf16⟩
  | .local _ .vmem, ⟨14, _⟩ => ⟨S1x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | .local _ .vmem, ⟨23, _⟩ => ⟨S256x2048, .bf16⟩
  | .local _ .vmem, ⟨24, _⟩ => ⟨S256x2048, .bf16⟩
  | .local _ .vmem, ⟨25, _⟩ => ⟨S256x4096, .bf16⟩
  | .local _ .vmem, ⟨26, _⟩ => ⟨S256x4096, .bf16⟩
  | .local _ .vmem, ⟨27, _⟩ => ⟨S8x128, .f32⟩
  | .local _ .vmem, ⟨28, _⟩ => ⟨S8x2048, .f32⟩
  | .local _ .vmem, ⟨29, _⟩ => ⟨S8x4096, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev main_v1_7 : Ref sig .tc := ⟨.hbm, 16, rfl⟩
abbrev main_v1_8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem16_0 : DmaSem sig := 28
abbrev cc0_sem17_0 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x4096 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference7Ideal.lean ====
abbrev S8192x2048 : Shape := ⟨2, ![8192, 2048]⟩
abbrev S8192x16384 : Shape := ⟨2, ![8192, 16384]⟩
abbrev S1x4096 : Shape := ⟨2, ![1, 4096]⟩
abbrev S2048x2048 : Shape := ⟨2, ![2048, 2048]⟩
abbrev S2048 : Shape := ⟨1, ![2048]⟩
abbrev S8192x4096 : Shape := ⟨2, ![8192, 4096]⟩
abbrev S4096 : Shape := ⟨1, ![4096]⟩
abbrev S_ : Shape := ⟨0, ![]⟩
abbrev S8192x2x2048 : Shape := ⟨3, ![8192, 2, 2048]⟩
abbrev S8192x1x2048 : Shape := ⟨3, ![8192, 1, 2048]⟩
abbrev S8192 : Shape := ⟨1, ![8192]⟩
abbrev S8192x1 : Shape := ⟨2, ![8192, 1]⟩
abbrev S1x2048 : Shape := ⟨2, ![1, 2048]⟩
abbrev S8x128 : Shape := ⟨2, ![8, 128]⟩
abbrev S8x2048 : Shape := ⟨2, ![8, 2048]⟩
abbrev S8x4096 : Shape := ⟨2, ![8, 4096]⟩

abbrev nBuf : Space → Nat
  | .hbm => 140
  | .vmem => 0
  | .smem => 0
  | _ => 0

abbrev hbmTy0_0 (i : Nat) : BufTy := match i % 128 with
  | 0 => ⟨S8192x2048, .f32⟩
  | 1 => ⟨S8192x2048, .bf16⟩
  | 2 => ⟨S8192x2048, .bf16⟩
  | 3 => ⟨S8192x16384, .bf16⟩
  | 4 => ⟨S8192x2048, .f32⟩
  | 5 => ⟨S1x4096, .f32⟩
  | 6 => ⟨S2048x2048, .bf16⟩
  | 7 => ⟨S2048, .f32⟩
  | 8 => ⟨S8192x2048, .f32⟩
  | 9 => ⟨S8192x2048, .f32⟩
  | 10 => ⟨S8192x4096, .bf16⟩
  | 11 => ⟨S8192x4096, .f32⟩
  | 12 => ⟨S4096, .f32⟩
  | 13 => ⟨S1x4096, .f32⟩
  | 14 => ⟨S8192x4096, .f32⟩
  | 15 => ⟨S8192x4096, .f32⟩
  | 16 => ⟨S8192x4096, .f32⟩
  | 17 => ⟨S8192x4096, .f32⟩
  | 18 => ⟨S_, .f32⟩
  | 19 => ⟨S8192x4096, .f32⟩
  | 20 => ⟨S8192x4096, .f32⟩
  | 21 => ⟨S_, .f32⟩
  | 22 => ⟨S8192x4096, .f32⟩
  | 23 => ⟨S8192x4096, .f32⟩
  | 24 => ⟨S_, .f32⟩
  | 25 => ⟨S8192x4096, .f32⟩
  | 26 => ⟨S8192x4096, .f32⟩
  | 27 => ⟨S8192x4096, .f32⟩
  | 28 => ⟨S8192x2x2048, .f32⟩
  | 29 => ⟨S8192x1x2048, .f32⟩
  | 30 => ⟨S8192x2048, .f32⟩
  | 31 => ⟨S8192x2048, .f32⟩
  | 32 => ⟨S8192x1x2048, .f32⟩
  | 33 => ⟨S8192x2048, .f32⟩
  | 34 => ⟨S8192x2048, .f32⟩
  | 35 => ⟨S8192x2048, .f32⟩
  | 36 => ⟨S2048x2048, .f32⟩
  | 37 => ⟨S8192x2048, .f32⟩
  | 38 => ⟨S8192x2048, .f32⟩
  | 39 => ⟨S8192x2048, .f32⟩
  | 40 => ⟨S_, .f32⟩
  | 41 => ⟨S8192, .f32⟩
  | 42 => ⟨S8192x1, .f32⟩
  | 43 => ⟨S_, .f32⟩
  | 44 => ⟨S8192x1, .f32⟩
  | 45 => ⟨S8192x1, .f32⟩
  | 46 => ⟨S_, .f32⟩
  | 47 => ⟨S8192x1, .f32⟩
  | 48 => ⟨S8192x1, .f32⟩
  | 49 => ⟨S8192x1, .f32⟩
  | 50 => ⟨S8192x1, .f32⟩
  | 51 => ⟨S_, .f32⟩
  | 52 => ⟨S8192x1, .f32⟩
  | 53 => ⟨S8192x1, .f32⟩
  | 54 => ⟨S8192x2048, .f32⟩
  | 55 => ⟨S8192x2048, .f32⟩
  | 56 => ⟨S1x2048, .f32⟩
  | 57 => ⟨S8192x2048, .f32⟩
  | 58 => ⟨S8192x2048, .f32⟩
  | 59 => ⟨S8192x2048, .f32⟩
  | 60 => ⟨S8192x2048, .f32⟩
  | 61 => ⟨S_, .f32⟩
  | 62 => ⟨S8192x2048, .f32⟩
  | 63 => ⟨S8192x2048, .f32⟩
  | 64 => ⟨S_, .f32⟩
  | 65 => ⟨S8192, .f32⟩
  | 66 => ⟨S_, .f32⟩
  | 67 => ⟨S8192, .f32⟩
  | 68 => ⟨S8192, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S8192, .f32⟩
  | 77 => ⟨S_, .f32⟩
  | 78 => ⟨S8192, .f32⟩
  | 79 => ⟨S8192, .f32⟩
  | 80 => ⟨S8192x2048, .f32⟩
  | 81 => ⟨S8192x2048, .f32⟩
  | 82 => ⟨S8192x2048, .f32⟩
  | 83 => ⟨S_, .f32⟩
  | 84 => ⟨S2048, .f32⟩
  | 85 => ⟨S1x2048, .f32⟩
  | 86 => ⟨S8192x2048, .f32⟩
  | 87 => ⟨S8192x2048, .f32⟩
  | 88 => ⟨S_, .f32⟩
  | 89 => ⟨S2048, .f32⟩
  | 90 => ⟨S8192x2048, .f32⟩
  | 91 => ⟨S_, .f32⟩
  | 92 => ⟨S8192, .f32⟩
  | 93 => ⟨S8192x1, .f32⟩
  | 94 => ⟨S8192x2048, .f32⟩
  | 95 => ⟨S8192x2048, .f32⟩
  | 96 => ⟨S8192x1, .f32⟩
  | 97 => ⟨S_, .f32⟩
  | 98 => ⟨S8192x1, .f32⟩
  | 99 => ⟨S8192x1, .f32⟩
  | 100 => ⟨S_, .f32⟩
  | 101 => ⟨S8192, .f32⟩
  | 102 => ⟨S8192x2048, .f32⟩
  | 103 => ⟨S8192x2048, .f32⟩
  | 104 => ⟨S8192x2048, .f32⟩
  | 105 => ⟨S8192x2048, .f32⟩
  | 106 => ⟨S8192x2048, .f32⟩
  | 107 => ⟨S8192x2048, .f32⟩
  | 108 => ⟨S8192x2048, .f32⟩
  | 109 => ⟨S8192x2048, .f32⟩
  | 110 => ⟨S8192x1x2048, .f32⟩
  | 111 => ⟨S_, .f32⟩
  | 112 => ⟨S8192x2x2048, .f32⟩
  | 113 => ⟨S8192x2048, .f32⟩
  | 114 => ⟨S8192x2048, .f32⟩
  | 115 => ⟨S8192x1x2048, .f32⟩
  | 116 => ⟨S_, .f32⟩
  | 117 => ⟨S8192x2x2048, .f32⟩
  | 118 => ⟨S8192x2x2048, .f32⟩
  | 119 => ⟨S8192x4096, .f32⟩
  | 120 => ⟨S8192x4096, .f32⟩
  | 121 => ⟨S_, .f32⟩
  | 122 => ⟨S4096, .f32⟩
  | 123 => ⟨S1x4096, .f32⟩
  | 124 => ⟨S_, .f32⟩
  | 125 => ⟨S4096, .f32⟩
  | 126 => ⟨S1x4096, .f32⟩
  | 127 => ⟨S8192x2048, .bf16⟩
  | _ => ⟨S8192x2048, .f32⟩

abbrev hbmTy0_1 (i : Nat) : BufTy := match i % 128 with
  | 0 => ⟨S8192x2048, .bf16⟩
  | 1 => ⟨S8192x2048, .bf16⟩
  | 2 => ⟨S8192x2048, .bf16⟩
  | 3 => ⟨S8192x4096, .bf16⟩
  | 4 => ⟨S8x128, .f32⟩
  | 5 => ⟨S1x2048, .f32⟩
  | 6 => ⟨S_, .i32⟩
  | 7 => ⟨S_, .f32⟩
  | 8 => ⟨S8x2048, .f32⟩
  | 9 => ⟨S_, .i32⟩
  | 10 => ⟨S_, .f32⟩
  | 11 => ⟨S8x4096, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_cst_11 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_14 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_15 : Ref sig .tc := ⟨.hbm, 88, rfl⟩
abbrev main_v64 : Ref sig .tc := ⟨.hbm, 89, rfl⟩
abbrev main_v65 : Ref sig .tc := ⟨.hbm, 90, rfl⟩
abbrev main_cst_16 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_17 : Ref sig .tc := ⟨.hbm, 97, rfl⟩
abbrev main_v71 : Ref sig .tc := ⟨.hbm, 98, rfl⟩
abbrev main_v72 : Ref sig .tc := ⟨.hbm, 99, rfl⟩
abbrev main_cst_18 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_19 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_20 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_21 : Ref sig .tc := ⟨.hbm, 121, rfl⟩
abbrev main_v91 : Ref sig .tc := ⟨.hbm, 122, rfl⟩
abbrev main_v92 : Ref sig .tc := ⟨.hbm, 123, rfl⟩
abbrev main_cst_22 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_c : Ref sig .tc := ⟨.hbm, 134, rfl⟩
abbrev main_call0_v0 : Ref sig .tc := ⟨.hbm, 135, rfl⟩
abbrev main_v102 : Ref sig .tc := ⟨.hbm, 136, rfl⟩
abbrev main_c_23 : Ref sig .tc := ⟨.hbm, 137, rfl⟩
abbrev main_call1_v0 : Ref sig .tc := ⟨.hbm, 138, rfl⟩
abbrev main_v103 : Ref sig .tc := ⟨.hbm, 139, rfl⟩

abbrev nD : Nat := 1
abbrev τ : Topo := Topo.v7x

variable {F : FTy → Type} [FloatOps F]
-- ==== Kernel8.lean ====
abbrev S8192x6144 : Shape := ⟨2, ![8192, 6144]⟩
abbrev S16384x2048 : Shape := ⟨2, ![16384, 2048]⟩
abbrev S8192x2048 : Shape := ⟨2, ![8192, 2048]⟩
abbrev S1x2048 : Shape := ⟨2, ![1, 2048]⟩
abbrev S8x2048 : Shape := ⟨2, ![8, 2048]⟩
abbrev S6144x2048 : Shape := ⟨2, ![6144, 2048]⟩
abbrev S2x256x6144 : Shape := ⟨3, ![2, 256, 6144]⟩
abbrev S2x256x2048 : Shape := ⟨3, ![2, 256, 2048]⟩
abbrev S2x4 : Shape := ⟨2, ![2, 4]⟩
abbrev S3 : Shape := ⟨1, ![3]⟩
abbrev S1 : Shape := ⟨1, ![1]⟩
abbrev S_ : Shape := ⟨0, ![]⟩
abbrev S1x1 : Shape := ⟨2, ![1, 1]⟩
abbrev S1x256x6144 : Shape := ⟨3, ![1, 256, 6144]⟩
abbrev S256x6144 : Shape := ⟨2, ![256, 6144]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 8
  | .vmem => 8
  | .smem => 0
  | _ => 0

abbrev bufTy : (tb : Table) → Fin (tcTables nBuf tb) → BufTy
  | .hbm, ⟨0, _⟩ => ⟨S8192x6144, .bf16⟩
  | .hbm, ⟨1, _⟩ => ⟨S16384x2048, .bf16⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S1x2048, .f32⟩
  | .hbm, ⟨6, _⟩ => ⟨S8192x2048, .f32⟩
  | .hbm, ⟨7, _⟩ => ⟨S8x2048, .f32⟩
  | .local _ .vmem, ⟨0, _⟩ => ⟨S1x2048, .f32⟩
  | .local _ .vmem, ⟨1, _⟩ => ⟨S8x2048, .f32⟩
  | .local _ .vmem, ⟨2, _⟩ => ⟨S6144x2048, .bf16⟩
  | .local _ .vmem, ⟨3, _⟩ => ⟨S2x256x6144, .bf16⟩
  | .local _ .vmem, ⟨4, _⟩ => ⟨S2x256x2048, .f32⟩
  | .local _ .vmem, ⟨5, _⟩ => ⟨S2x256x2048, .f32⟩
  | .local _ .vmem, ⟨6, _⟩ => ⟨S2x256x2048, .f32⟩
  | .local _ .vmem, ⟨7, _⟩ => ⟨S2x256x2048, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_30 : BitVec 32 := 0#32
  let c32_i32 : BitVec 32 := 32#32
  let v28 : BitVec 32 := Scalar.addi c0_i32_30 c32_i32
  let c1_i32_31 : BitVec 32 := 1#32
  ⟨c0_i32_30, v28, c1_i32_31⟩
def k0_mult1 (k0_t1 : Fin k0_t1_loop.trips) : BitVec 32 :=
  let c0_i32_30 : BitVec 32 := 0#32
  let c1_i32_31 : BitVec 32 := 1#32
  let arg16 : BitVec 32 := Scf.iv c0_i32_30 c1_i32_31 k0_t1
  let c256_i32 : BitVec 32 := 256#32
  let v49 : BitVec 32 := Scalar.muli arg16 c256_i32
  v49
def k0_off1 (k0_t1 : Fin k0_t1_loop.trips) : Fin 2 → Nat :=
  let c0_i32_30 : BitVec 32 := 0#32
  let c1_i32_31 : BitVec 32 := 1#32
  let arg16 : BitVec 32 := Scf.iv c0_i32_30 c1_i32_31 k0_t1
  let c2_i32_49 : BitVec 32 := 2#32
  let c0_i32_50 : BitVec 32 := 0#32
  let v51 : BitVec 1 := Scalar.cmpi .eq c2_i32_49 c0_i32_50
  let c1_i32_51 : BitVec 32 := 1#32
  let v52 : BitVec 32 := Scalar.select v51 c1_i32_51 c2_i32_49
  let v53 : BitVec 32 := Scalar.remsi arg16 v52
  let c0_i32_53 : BitVec 32 := 0#32
  let v55 : BitVec 1 := Scalar.cmpi .slt v53 c0_i32_53
  let c0_i32_54 : BitVec 32 := 0#32
  let v56 : BitVec 1 := Scalar.cmpi .slt v52 c0_i32_54
  let v57 : BitVec 1 := Scalar.xori v55 v56
  let c0_i32_52 : BitVec 32 := 0#32
  let v54 : BitVec 1 := Scalar.cmpi .ne v53 c0_i32_52
  let v58 : BitVec 1 := Scalar.andi v57 v54
  let v59 : BitVec 32 := Scalar.addi v53 v52
  let v60 : BitVec 32 := Scalar.select v58 v59 v53
  let c0_i32_55 : BitVec 32 := 0#32
  ![v60.toNat, 0]
def k0_off2 (k0_t1 : Fin k0_t1_loop.trips) : Fin 3 → Nat :=
  let c0_i32_30 : BitVec 32 := 0#32
  let c1_i32_31 : BitVec 32 := 1#32
  let arg16 : BitVec 32 := Scf.iv c0_i32_30 c1_i32_31 k0_t1
  let c2_i32_49 : BitVec 32 := 2#32
  let c0_i32_50 : BitVec 32 := 0#32
  let v51 : BitVec 1 := Scalar.cmpi .eq c2_i32_49 c0_i32_50
  let c1_i32_51 : BitVec 32 := 1#32
  let v52 : BitVec 32 := Scalar.select v51 c1_i32_51 c2_i32_49
  let v53 : BitVec 32 := Scalar.remsi arg16 v52
  let c0_i32_53 : BitVec 32 := 0#32
  let v55 : BitVec 1 := Scalar.cmpi .slt v53 c0_i32_53
  let c0_i32_54 : BitVec 32 := 0#32
  let v56 : BitVec 1 := Scalar.cmpi .slt v52 c0_i32_54
  let v57 : BitVec 1 := Scalar.xori v55 v56
  let c0_i32_52 : BitVec 32 := 0#32
  let v54 : BitVec 1 := Scalar.cmpi .ne v53 c0_i32_52
  let v58 : BitVec 1 := Scalar.andi v57 v54
  let v59 : BitVec 32 := Scalar.addi v53 v52
  let v60 : BitVec 32 := Scalar.select v58 v59 v53
  let c0_i32_56 : BitVec 32 := 0#32
  let c0_i32_57 : BitVec 32 := 0#32
  ![v60.toNat, 0, 0]
def k0_off3 (k0_t1 : Fin k0_t1_loop.trips) : Fin 2 → Nat :=
  let c0_i32_30 : BitVec 32 := 0#32
  let c1_i32_31 : BitVec 32 := 1#32
  let arg16 : BitVec 32 := Scf.iv c0_i32_30 c1_i32_31 k0_t1
  let c256_i32 : BitVec 32 := 256#32
  let v49 : BitVec 32 := Scalar.muli arg16 c256_i32
  let v50 : BitVec 32 := v49
  let c0_i32_58 : BitVec 32 := 0#32
  ![v50.toNat, 0]
def k0_off4 (k0_t1 : Fin k0_t1_loop.trips) : Fin 2 → Nat :=
  let c0_i32_30 : BitVec 32 := 0#32
  let c1_i32_31 : BitVec 32 := 1#32
  let arg16 : BitVec 32 := Scf.iv c0_i32_30 c1_i32_31 k0_t1
  let c2_i32_49 : BitVec 32 := 2#32
  let c0_i32_50 : BitVec 32 := 0#32
  let v51 : BitVec 1 := Scalar.cmpi .eq c2_i32_49 c0_i32_50
  let c1_i32_51 : BitVec 32 := 1#32
  let v52 : BitVec 32 := Scalar.select v51 c1_i32_51 c2_i32_49
  let v53 : BitVec 32 := Scalar.remsi arg16 v52
  let c0_i32_53 : BitVec 32 := 0#32
  let v55 : BitVec 1 := Scalar.cmpi .slt v53 c0_i32_53
  let c0_i32_54 : BitVec 32 := 0#32
  let v56 : BitVec 1 := Scalar.cmpi .slt v52 c0_i32_54
  let v57 : BitVec 1 := Scalar.xori v55 v56
  let c0_i32_52 : BitVec 32 := 0#32
  let v54 : BitVec 1 := Scalar.cmpi .ne v53 c0_i32_52
  let v58 : BitVec 1 := Scalar.andi v57 v54
  let v59 : BitVec 32 := Scalar.addi v53 v52
  let v60 : BitVec 32 := Scalar.select v58 v59 v53
  let c1_i32_59 : BitVec 32 := 1#32
  ![v60.toNat, 1]
def k0_off5 (k0_t1 : Fin k0_t1_loop.trips) : Fin 3 → Nat :=
  let c0_i32_30 : BitVec 32 := 0#32
  let c1_i32_31 : BitVec 32 := 1#32
  let arg16 : BitVec 32 := Scf.iv c0_i32_30 c1_i32_31 k0_t1
  let c2_i32_49 : BitVec 32 := 2#32
  let c0_i32_50 : BitVec 32 := 0#32
  let v51 : BitVec 1 := Scalar.cmpi .eq c2_i32_49 c0_i32_50
  let c1_i32_51 : BitVec 32 := 1#32
  let v52 : BitVec 32 := Scalar.select v51 c1_i32_51 c2_i32_49
  let v53 : BitVec 32 := Scalar.remsi arg16 v52
  let c0_i32_53 : BitVec 32 := 0#32
  let v55 : BitVec 1 := Scalar.cmpi .slt v53 c0_i32_53
  let c0_i32_54 : BitVec 32 := 0#32
  let v56 : BitVec 1 := Scalar.cmpi .slt v52 c0_i32_54
  let v57 : BitVec 1 := Scalar.xori v55 v56
  let c0_i32_52 : BitVec 32 := 0#32
  let v54 : BitVec 1 := Scalar.cmpi .ne v53 c0_i32_52
  let v58 : BitVec 1 := Scalar.andi v57 v54
  let v59 : BitVec 32 := Scalar.addi v53 v52
  let v60 : BitVec 32 := Scalar.select v58 v59 v53
  let c0_i32_60 : BitVec 32 := 0#32
  let c0_i32_61 : BitVec 32 := 0#32
  ![v60.toNat, 0, 0]
def k0_off6 (k0_t1 : Fin k0_t1_loop.trips) : Fin 2 → Nat :=
  let c0_i32_30 : BitVec 32 := 0#32
  let c1_i32_31 : BitVec 32 := 1#32
  let arg16 : BitVec 32 := Scf.iv c0_i32_30 c1_i32_31 k0_t1
  let c256_i32 : BitVec 32 := 256#32
  let v49 : BitVec 32 := Scalar.muli arg16 c256_i32
  let v50 : BitVec 32 := v49
  let c0_i32_62 : BitVec 32 := 0#32
  ![v50.toNat, 0]
def k0_off7 (k0_t1 : Fin k0_t1_loop.trips) : Fin 2 → Nat :=
  let c0_i32_30 : BitVec 32 := 0#32
  let c1_i32_31 : BitVec 32 := 1#32
  let arg16 : BitVec 32 := Scf.iv c0_i32_30 c1_i32_31 k0_t1
  let c2_i32_49 : BitVec 32 := 2#32
  let c0_i32_50 : BitVec 32 := 0#32
  let v51 : BitVec 1 := Scalar.cmpi .eq c2_i32_49 c0_i32_50
  let c1_i32_51 : BitVec 32 := 1#32
  let v52 : BitVec 32 := Scalar.select v51 c1_i32_51 c2_i32_49
  let v53 : BitVec 32 := Scalar.remsi arg16 v52
  let c0_i32_53 : BitVec 32 := 0#32
  let v55 : BitVec 1 := Scalar.cmpi .slt v53 c0_i32_53
  let c0_i32_54 : BitVec 32 := 0#32
  let v56 : BitVec 1 := Scalar.cmpi .slt v52 c0_i32_54
  let v57 : BitVec 1 := Scalar.xori v55 v56
  let c0_i32_52 : BitVec 32 := 0#32
  let v54 : BitVec 1 := Scalar.cmpi .ne v53 c0_i32_52
  let v58 : BitVec 1 := Scalar.andi v57 v54
  let v59 : BitVec 32 := Scalar.addi v53 v52
  let v60 : BitVec 32 := Scalar.select v58 v59 v53
  let c2_i32_63 : BitVec 32 := 2#32
  ![v60.toNat, 2]
def k0_off8 (k0_t1 : Fin k0_t1_loop.trips) : Fin 2 → Nat :=
  let c0_i32_30 : BitVec 32 := 0#32
  let c1_i32_31 : BitVec 32 := 1#32
  let arg16 : BitVec 32 := Scf.iv c0_i32_30 c1_i32_31 k0_t1
  let c2_i32_49 : BitVec 32 := 2#32
  let c0_i32_50 : BitVec 32 := 0#32
  let v51 : BitVec 1 := Scalar.cmpi .eq c2_i32_49 c0_i32_50
  let c1_i32_51 : BitVec 32 := 1#32
  let v52 : BitVec 32 := Scalar.select v51 c1_i32_51 c2_i32_49
  let v53 : BitVec 32 := Scalar.remsi arg16 v52
  let c0_i32_53 : BitVec 32 := 0#32
  let v55 : BitVec 1 := Scalar.cmpi .slt v53 c0_i32_53
  let c0_i32_54 : BitVec 32 := 0#32
  let v56 : BitVec 1 := Scalar.cmpi .slt v52 c0_i32_54
  let v57 : BitVec 1 := Scalar.xori v55 v56
  let c0_i32_52 : BitVec 32 := 0#32
  let v54 : BitVec 1 := Scalar.cmpi .ne v53 c0_i32_52
  let v58 : BitVec 1 := Scalar.andi v57 v54
  let v59 : BitVec 32 := Scalar.addi v53 v52
  let v60 : BitVec 32 := Scalar.select v58 v59 v53
  let c3_i32_67 : BitVec 32 := 3#32
  ![v60.toNat, 3]
def k0_cond1 (k0_t1 : Fin k0_t1_loop.trips) : BitVec 1 :=
  let c0_i32_30 : BitVec 32 := 0#32
  let c1_i32_31 : BitVec 32 := 1#32
  let arg16 : BitVec 32 := Scf.iv c0_i32_30 c1_i32_31 k0_t1
  let c1_i32_71 : BitVec 32 := 1#32
  let v81 : BitVec 32 := Scalar.addi arg16 c1_i32_71
  let c32_i32_72 : BitVec 32 := 32#32
  let v82 : BitVec 1 := Scalar.cmpi .slt v81 c32_i32_72
  let v83 : BitVec 32 := Scalar.extui v82
  let c0_i32_73 : BitVec 32 := 0#32
  let v84 : BitVec 1 := Scalar.cmpi .ne v83 c0_i32_73
  v84

def k0_mult2 (k0_t1 : Fin k0_t1_loop.trips) : BitVec 32 :=
  let c0_i32_30 : BitVec 32 := 0#32
  let c1_i32_31 : BitVec 32 := 1#32
  let arg16 : BitVec 32 := Scf.iv c0_i32_30 c1_i32_31 k0_t1
  let c1_i32_117 : BitVec 32 := 1#32
  let v165 : BitVec 32 := Scalar.addi arg16 c1_i32_117
  let c256_i32_118 : BitVec 32 := 256#32
  let v166 : BitVec 32 := Scalar.muli v165 c256_i32_118
  v166
def k0_off9 (k0_t1 : Fin k0_t1_loop.trips) : Fin 2 → Nat :=
  let c0_i32_30 : BitVec 32 := 0#32
  let c1_i32_31 : BitVec 32 := 1#32
  let arg16 : BitVec 32 := Scf.iv c0_i32_30 c1_i32_31 k0_t1
  let c1_i32_117 : BitVec 32 := 1#32
  let v165 : BitVec 32 := Scalar.addi arg16 c1_i32_117
  let c2_i32_119 : BitVec 32 := 2#32
  let c0_i32_120 : BitVec 32 := 0#32
  let v168 : BitVec 1 := Scalar.cmpi .eq c2_i32_119 c0_i32_120
  let c1_i32_121 : BitVec 32 := 1#32
  let v169 : BitVec 32 := Scalar.select v168 c1_i32_121 c2_i32_119
  let v170 : BitVec 32 := Scalar.remsi v165 v169
  let c0_i32_123 : BitVec 32 := 0#32
  let v172 : BitVec 1 := Scalar.cmpi .slt v170 c0_i32_123
  let c0_i32_124 : BitVec 32 := 0#32
  let v173 : BitVec 1 := Scalar.cmpi .slt v169 c0_i32_124
  let v174 : BitVec 1 := Scalar.xori v172 v173
  let c0_i32_122 : BitVec 32 := 0#32
  let v171 : BitVec 1 := Scalar.cmpi .ne v170 c0_i32_122
  let v175 : BitVec 1 := Scalar.andi v174 v171
  let v176 : BitVec 32 := Scalar.addi v170 v169
  let v177 : BitVec 32 := Scalar.select v175 v176 v170
  let c0_i32_125 : BitVec 32 := 0#32
  ![v177.toNat, 0]
def k0_off10 (k0_t1 : Fin k0_t1_loop.trips) : Fin 3 → Nat :=
  let c0_i32_30 : BitVec 32 := 0#32
  let c1_i32_31 : BitVec 32 := 1#32
  let arg16 : BitVec 32 := Scf.iv c0_i32_30 c1_i32_31 k0_t1
  let c1_i32_117 : BitVec 32 := 1#32
  let v165 : BitVec 32 := Scalar.addi arg16 c1_i32_117
  let c2_i32_119 : BitVec 32 := 2#32
  let c0_i32_120 : BitVec 32 := 0#32
  let v168 : BitVec 1 := Scalar.cmpi .eq c2_i32_119 c0_i32_120
  let c1_i32_121 : BitVec 32 := 1#32
  let v169 : BitVec 32 := Scalar.select v168 c1_i32_121 c2_i32_119
  let v170 : BitVec 32 := Scalar.remsi v165 v169
  let c0_i32_123 : BitVec 32 := 0#32
  let v172 : BitVec 1 := Scalar.cmpi .slt v170 c0_i32_123
  let c0_i32_124 : BitVec 32 := 0#32
  let v173 : BitVec 1 := Scalar.cmpi .slt v169 c0_i32_124
  let v174 : BitVec 1 := Scalar.xori v172 v173
  let c0_i32_122 : BitVec 32 := 0#32
  let v171 : BitVec 1 := Scalar.cmpi .ne v170 c0_i32_122
  let v175 : BitVec 1 := Scalar.andi v174 v171
  let v176 : BitVec 32 := Scalar.addi v170 v169
  let v177 : BitVec 32 := Scalar.select v175 v176 v170
  let c0_i32_126 : BitVec 32 := 0#32
  let c0_i32_127 : BitVec 32 := 0#32
  ![v177.toNat, 0, 0]
def k0_off11 (k0_t1 : Fin k0_t1_loop.trips) : Fin 2 → Nat :=
  let c0_i32_30 : BitVec 32 := 0#32
  let c1_i32_31 : BitVec 32 := 1#32
  let arg16 : BitVec 32 := Scf.iv c0_i32_30 c1_i32_31 k0_t1
  let c1_i32_117 : BitVec 32 := 1#32
  let v165 : BitVec 32 := Scalar.addi arg16 c1_i32_117
  let c256_i32_118 : BitVec 32 := 256#32
  let v166 : BitVec 32 := Scalar.muli v165 c256_i32_118
  let v167 : BitVec 32 := v166
  let c0_i32_128 : BitVec 32 := 0#32
  ![v167.toNat, 0]
def k0_off12 (k0_t1 : Fin k0_t1_loop.trips) : Fin 2 → Nat :=
  let c0_i32_30 : BitVec 32 := 0#32
  let c1_i32_31 : BitVec 32 := 1#32
  let arg16 : BitVec 32 := Scf.iv c0_i32_30 c1_i32_31 k0_t1
  let c1_i32_117 : BitVec 32 := 1#32
  let v165 : BitVec 32 := Scalar.addi arg16 c1_i32_117
  let c2_i32_119 : BitVec 32 := 2#32
  let c0_i32_120 : BitVec 32 := 0#32
  let v168 : BitVec 1 := Scalar.cmpi .eq c2_i32_119 c0_i32_120
  let c1_i32_121 : BitVec 32 := 1#32
  let v169 : BitVec 32 := Scalar.select v168 c1_i32_121 c2_i32_119
  let v170 : BitVec 32 := Scalar.remsi v165 v169
  let c0_i32_123 : BitVec 32 := 0#32
  let v172 : BitVec 1 := Scalar.cmpi .slt v170 c0_i32_123
  let c0_i32_124 : BitVec 32 := 0#32
  let v173 : BitVec 1 := Scalar.cmpi .slt v169 c0_i32_124
  let v174 : BitVec 1 := Scalar.xori v172 v173
  let c0_i32_122 : BitVec 32 := 0#32
  let v171 : BitVec 1 := Scalar.cmpi .ne v170 c0_i32_122
  let v175 : BitVec 1 := Scalar.andi v174 v171
  let v176 : BitVec 32 := Scalar.addi v170 v169
  let v177 : BitVec 32 := Scalar.select v175 v176 v170
  let c1_i32_129 : BitVec 32 := 1#32
  ![v177.toNat, 1]
def k0_off13 (k0_t1 : Fin k0_t1_loop.trips) : Fin 3 → Nat :=
  let c0_i32_30 : BitVec 32 := 0#32
  let c1_i32_31 : BitVec 32 := 1#32
  let arg16 : BitVec 32 := Scf.iv c0_i32_30 c1_i32_31 k0_t1
  let c1_i32_117 : BitVec 32 := 1#32
  let v165 : BitVec 32 := Scalar.addi arg16 c1_i32_117
  let c2_i32_119 : BitVec 32 := 2#32
  let c0_i32_120 : BitVec 32 := 0#32
  let v168 : BitVec 1 := Scalar.cmpi .eq c2_i32_119 c0_i32_120
  let c1_i32_121 : BitVec 32 := 1#32
  let v169 : BitVec 32 := Scalar.select v168 c1_i32_121 c2_i32_119
  let v170 : BitVec 32 := Scalar.remsi v165 v169
  let c0_i32_123 : BitVec 32 := 0#32
  let v172 : BitVec 1 := Scalar.cmpi .slt v170 c0_i32_123
  let c0_i32_124 : BitVec 32 := 0#32
  let v173 : BitVec 1 := Scalar.cmpi .slt v169 c0_i32_124
  let v174 : BitVec 1 := Scalar.xori v172 v173
  let c0_i32_122 : BitVec 32 := 0#32
  let v171 : BitVec 1 := Scalar.cmpi .ne v170 c0_i32_122
  let v175 : BitVec 1 := Scalar.andi v174 v171
  let v176 : BitVec 32 := Scalar.addi v170 v169
  let v177 : BitVec 32 := Scalar.select v175 v176 v170
  let c0_i32_130 : BitVec 32 := 0#32
  let c0_i32_131 : BitVec 32 := 0#32
  ![v177.toNat, 0, 0]
def k0_off14 (k0_t1 : Fin k0_t1_loop.trips) : Fin 2 → Nat :=
  let c0_i32_30 : BitVec 32 := 0#32
  let c1_i32_31 : BitVec 32 := 1#32
  let arg16 : BitVec 32 := Scf.iv c0_i32_30 c1_i32_31 k0_t1
  let c1_i32_117 : BitVec 32 := 1#32
  let v165 : BitVec 32 := Scalar.addi arg16 c1_i32_117
  let c256_i32_118 : BitVec 32 := 256#32
  let v166 : BitVec 32 := Scalar.muli v165 c256_i32_118
  let v167 : BitVec 32 := v166
  let c0_i32_132 : BitVec 32 := 0#32
  ![v167.toNat, 0]
def k0_off15 (k0_t1 : Fin k0_t1_loop.trips) : Fin 2 → Nat :=
  let c0_i32_30 : BitVec 32 := 0#32
  let c1_i32_31 : BitVec 32 := 1#32
  let arg16 : BitVec 32 := Scf.iv c0_i32_30 c1_i32_31 k0_t1
  let c1_i32_117 : BitVec 32 := 1#32
  let v165 : BitVec 32 := Scalar.addi arg16 c1_i32_117
  let c2_i32_119 : BitVec 32 := 2#32
  let c0_i32_120 : BitVec 32 := 0#32
  let v168 : BitVec 1 := Scalar.cmpi .eq c2_i32_119 c0_i32_120
  let c1_i32_121 : BitVec 32 := 1#32
  let v169 : BitVec 32 := Scalar.select v168 c1_i32_121 c2_i32_119
  let v170 : BitVec 32 := Scalar.remsi v165 v169
  let c0_i32_123 : BitVec 32 := 0#32
  let v172 : BitVec 1 := Scalar.cmpi .slt v170 c0_i32_123
  let c0_i32_124 : BitVec 32 := 0#32
  let v173 : BitVec 1 := Scalar.cmpi .slt v169 c0_i32_124
  let v174 : BitVec 1 := Scalar.xori v172 v173
  let c0_i32_122 : BitVec 32 := 0#32
  let v171 : BitVec 1 := Scalar.cmpi .ne v170 c0_i32_122
  let v175 : BitVec 1 := Scalar.andi v174 v171
  let v176 : BitVec 32 := Scalar.addi v170 v169
  let v177 : BitVec 32 := Scalar.select v175 v176 v170
  let c2_i32_133 : BitVec 32 := 2#32
  ![v177.toNat, 2]
def k0_off16 (k0_t1 : Fin k0_t1_loop.trips) : Fin 2 → Nat :=
  let c0_i32_30 : BitVec 32 := 0#32
  let c1_i32_31 : BitVec 32 := 1#32
  let arg16 : BitVec 32 := Scf.iv c0_i32_30 c1_i32_31 k0_t1
  let c1_i32_117 : BitVec 32 := 1#32
  let v165 : BitVec 32 := Scalar.addi arg16 c1_i32_117
  let c2_i32_119 : BitVec 32 := 2#32
  let c0_i32_120 : BitVec 32 := 0#32
  let v168 : BitVec 1 := Scalar.cmpi .eq c2_i32_119 c0_i32_120
  let c1_i32_121 : BitVec 32 := 1#32
  let v169 : BitVec 32 := Scalar.select v168 c1_i32_121 c2_i32_119
  let v170 : BitVec 32 := Scalar.remsi v165 v169
  let c0_i32_123 : BitVec 32 := 0#32
  let v172 : BitVec 1 := Scalar.cmpi .slt v170 c0_i32_123
  let c0_i32_124 : BitVec 32 := 0#32
  let v173 : BitVec 1 := Scalar.cmpi .slt v169 c0_i32_124
  let v174 : BitVec 1 := Scalar.xori v172 v173
  let c0_i32_122 : BitVec 32 := 0#32
  let v171 : BitVec 1 := Scalar.cmpi .ne v170 c0_i32_122
  let v175 : BitVec 1 := Scalar.andi v174 v171
  let v176 : BitVec 32 := Scalar.addi v170 v169
  let v177 : BitVec 32 := Scalar.select v175 v176 v170
  let c3_i32_137 : BitVec 32 := 3#32
  ![v177.toNat, 3]
def k0_off17 (k0_t1 : Fin k0_t1_loop.trips) : Fin 3 → Nat :=
  let c0_i32_30 : BitVec 32 := 0#32
  let c1_i32_31 : BitVec 32 := 1#32
  let arg16 : BitVec 32 := Scf.iv c0_i32_30 c1_i32_31 k0_t1
  let c2_i32_43 : BitVec 32 := 2#32
  let c0_i32_44 : BitVec 32 := 0#32
  let v39 : BitVec 1 := Scalar.cmpi .eq c2_i32_43 c0_i32_44
  let c1_i32_45 : BitVec 32 := 1#32
  let v40 : BitVec 32 := Scalar.select v39 c1_i32_45 c2_i32_43
  let v41 : BitVec 32 := Scalar.remsi arg16 v40
  let c0_i32_47 : BitVec 32 := 0#32
  let v43 : BitVec 1 := Scalar.cmpi .slt v41 c0_i32_47
  let c0_i32_48 : BitVec 32 := 0#32
  let v44 : BitVec 1 := Scalar.cmpi .slt v40 c0_i32_48
  let v45 : BitVec 1 := Scalar.xori v43 v44
  let c0_i32_46 : BitVec 32 := 0#32
  let v42 : BitVec 1 := Scalar.cmpi .ne v41 c0_i32_46
  let v46 : BitVec 1 := Scalar.andi v45 v42
  let v47 : BitVec 32 := Scalar.addi v41 v40
  let v48 : BitVec 32 := Scalar.select v46 v47 v41
  let v85 : Index := Scalar.indexCast v48
  let c0_74 : Index := 0#32
  let c0_75 : Index := 0#32
  ![v85.toNat, 0, 0]
def k0_off18 (k0_t1 : Fin k0_t1_loop.trips) : Fin 3 → Nat :=
  let c0_i32_30 : BitVec 32 := 0#32
  let c1_i32_31 : BitVec 32 := 1#32
  let arg16 : BitVec 32 := Scf.iv c0_i32_30 c1_i32_31 k0_t1
  let c2_i32_43 : BitVec 32 := 2#32
  let c0_i32_44 : BitVec 32 := 0#32
  let v39 : BitVec 1 := Scalar.cmpi .eq c2_i32_43 c0_i32_44
  let c1_i32_45 : BitVec 32 := 1#32
  let v40 : BitVec 32 := Scalar.select v39 c1_i32_45 c2_i32_43
  let v41 : BitVec 32 := Scalar.remsi arg16 v40
  let c0_i32_47 : BitVec 32 := 0#32
  let v43 : BitVec 1 := Scalar.cmpi .slt v41 c0_i32_47
  let c0_i32_48 : BitVec 32 := 0#32
  let v44 : BitVec 1 := Scalar.cmpi .slt v40 c0_i32_48
  let v45 : BitVec 1 := Scalar.xori v43 v44
  let c0_i32_46 : BitVec 32 := 0#32
  let v42 : BitVec 1 := Scalar.cmpi .ne v41 c0_i32_46
  let v46 : BitVec 1 := Scalar.andi v45 v42
  let v47 : BitVec 32 := Scalar.addi v41 v40
  let v48 : BitVec 32 := Scalar.select v46 v47 v41
  let v88 : Index := Scalar.indexCast v48
  let c0_76 : Index := 0#32
  let c0_77 : Index := 0#32
  ![v88.toNat, 0, 0]
def k0_cond2 (k0_t1 : Fin k0_t1_loop.trips) : BitVec 1 :=
  let c0_i32_30 : BitVec 32 := 0#32
  let c1_i32_31 : BitVec 32 := 1#32
  let arg16 : BitVec 32 := Scf.iv c0_i32_30 c1_i32_31 k0_t1
  let c2_i32_97 : BitVec 32 := 2#32
  let v131 : BitVec 1 := Scalar.cmpi .sge arg16 c2_i32_97
  let v132 : BitVec 32 := Scalar.extui v131
  let c0_i32_98 : BitVec 32 := 0#32
  let v133 : BitVec 1 := Scalar.cmpi .ne v132 c0_i32_98
  v133

def k0_mult3 (k0_t1 : Fin k0_t1_loop.trips) : BitVec 32 :=
  let c0_i32_30 : BitVec 32 := 0#32
  let c1_i32_31 : BitVec 32 := 1#32
  let arg16 : BitVec 32 := Scf.iv c0_i32_30 c1_i32_31 k0_t1
  let c2_i32_117 : BitVec 32 := 2#32
  let v165 : BitVec 32 := Scalar.subi arg16 c2_i32_117
  let c256_i32_124 : BitVec 32 := 256#32
  let v176 : BitVec 32 := Scalar.muli v165 c256_i32_124
  v176
def k0_off19 (k0_t1 : Fin k0_t1_loop.trips) : Fin 1 → Nat :=
  let c0_i32_30 : BitVec 32 := 0#32
  let c1_i32_31 : BitVec 32 := 1#32
  let arg16 : BitVec 32 := Scf.iv c0_i32_30 c1_i32_31 k0_t1
  let c2_i32_117 : BitVec 32 := 2#32
  let v165 : BitVec 32 := Scalar.subi arg16 c2_i32_117
  let c2_i32_125 : BitVec 32 := 2#32
  let c0_i32_126 : BitVec 32 := 0#32
  let v178 : BitVec 1 := Scalar.cmpi .eq c2_i32_125 c0_i32_126
  let c1_i32_127 : BitVec 32 := 1#32
  let v179 : BitVec 32 := Scalar.select v178 c1_i32_127 c2_i32_125
  let v180 : BitVec 32 := Scalar.remsi v165 v179
  let c0_i32_129 : BitVec 32 := 0#32
  let v182 : BitVec 1 := Scalar.cmpi .slt v180 c0_i32_129
  let c0_i32_130 : BitVec 32 := 0#32
  let v183 : BitVec 1 := Scalar.cmpi .slt v179 c0_i32_130
  let v184 : BitVec 1 := Scalar.xori v182 v183
  let c0_i32_128 : BitVec 32 := 0#32
  let v181 : BitVec 1 := Scalar.cmpi .ne v180 c0_i32_128
  let v185 : BitVec 1 := Scalar.andi v184 v181
  let v186 : BitVec 32 := Scalar.addi v180 v179
  let v187 : BitVec 32 := Scalar.select v185 v186 v180
  ![v187.toNat]
def k0_off20 (k0_t1 : Fin k0_t1_loop.trips) : Fin 2 → Nat :=
  let c0_i32_30 : BitVec 32 := 0#32
  let c1_i32_31 : BitVec 32 := 1#32
  let arg16 : BitVec 32 := Scf.iv c0_i32_30 c1_i32_31 k0_t1
  let c2_i32_117 : BitVec 32 := 2#32
  let v165 : BitVec 32 := Scalar.subi arg16 c2_i32_117
  let c256_i32_124 : BitVec 32 := 256#32
  let v176 : BitVec 32 := Scalar.muli v165 c256_i32_124
  let v177 : BitVec 32 := v176
  let c0_i32_131 : BitVec 32 := 0#32
  ![v177.toNat, 0]
def k0_off21 (k0_t1 : Fin k0_t1_loop.trips) : Fin 3 → Nat :=
  let c0_i32_30 : BitVec 32 := 0#32
  let c1_i32_31 : BitVec 32 := 1#32
  let arg16 : BitVec 32 := Scf.iv c0_i32_30 c1_i32_31 k0_t1
  let c2_i32_117 : BitVec 32 := 2#32
  let v165 : BitVec 32 := Scalar.subi arg16 c2_i32_117
  let c2_i32_118 : BitVec 32 := 2#32
  let c0_i32_119 : BitVec 32 := 0#32
  let v166 : BitVec 1 := Scalar.cmpi .eq c2_i32_118 c0_i32_119
  let c1_i32_120 : BitVec 32 := 1#32
  let v167 : BitVec 32 := Scalar.select v166 c1_i32_120 c2_i32_118
  let v168 : BitVec 32 := Scalar.remsi v165 v167
  let c0_i32_122 : BitVec 32 := 0#32
  let v170 : BitVec 1 := Scalar.cmpi .slt v168 c0_i32_122
  let c0_i32_123 : BitVec 32 := 0#32
  let v171 : BitVec 1 := Scalar.cmpi .slt v167 c0_i32_123
  let v172 : BitVec 1 := Scalar.xori v170 v171
  let c0_i32_121 : BitVec 32 := 0#32
  let v169 : BitVec 1 := Scalar.cmpi .ne v168 c0_i32_121
  let v173 : BitVec 1 := Scalar.andi v172 v169
  let v174 : BitVec 32 := Scalar.addi v168 v167
  let v175 : BitVec 32 := Scalar.select v173 v174 v168
  let c0_i32_132 : BitVec 32 := 0#32
  let c0_i32_133 : BitVec 32 := 0#32
  ![v175.toNat, 0, 0]
def k0_mult4 (k0_t1 : Fin k0_t1_loop.trips) : BitVec 32 :=
  let c0_i32_30 : BitVec 32 := 0#32
  let c1_i32_31 : BitVec 32 := 1#32
  let arg16 : BitVec 32 := Scf.iv c0_i32_30 c1_i32_31 k0_t1
  let c256_i32_107 : BitVec 32 := 256#32
  let v148 : BitVec 32 := Scalar.muli arg16 c256_i32_107
  v148
def k0_off22 (k0_t1 : Fin k0_t1_loop.trips) : Fin 1 → Nat :=
  let c0_i32_30 : BitVec 32 := 0#32
  let c1_i32_31 : BitVec 32 := 1#32
  let arg16 : BitVec 32 := Scf.iv c0_i32_30 c1_i32_31 k0_t1
  let c2_i32_108 : BitVec 32 := 2#32
  let c0_i32_109 : BitVec 32 := 0#32
  let v150 : BitVec 1 := Scalar.cmpi .eq c2_i32_108 c0_i32_109
  let c1_i32_110 : BitVec 32 := 1#32
  let v151 : BitVec 32 := Scalar.select v150 c1_i32_110 c2_i32_108
  let v152 : BitVec 32 := Scalar.remsi arg16 v151
  let c0_i32_112 : BitVec 32 := 0#32
  let v154 : BitVec 1 := Scalar.cmpi .slt v152 c0_i32_112
  let c0_i32_113 : BitVec 32 := 0#32
  let v155 : BitVec 1 := Scalar.cmpi .slt v151 c0_i32_113
  let v156 : BitVec 1 := Scalar.xori v154 v155
  let c0_i32_111 : BitVec 32 := 0#32
  let v153 : BitVec 1 := Scalar.cmpi .ne v152 c0_i32_111
  let v157 : BitVec 1 := Scalar.andi v156 v153
  let v158 : BitVec 32 := Scalar.addi v152 v151
  let v159 : BitVec 32 := Scalar.select v157 v158 v152
  ![v159.toNat]
abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference8Ideal.lean ====
abbrev S8192x6144 : Shape := ⟨2, ![8192, 6144]⟩
abbrev S16384x2048 : Shape := ⟨2, ![16384, 2048]⟩
abbrev S8192x2048 : Shape := ⟨2, ![8192, 2048]⟩
abbrev S1x2048 : Shape := ⟨2, ![1, 2048]⟩
abbrev S6144x2048 : Shape := ⟨2, ![6144, 2048]⟩
abbrev S2048x6144 : Shape := ⟨2, ![2048, 6144]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8x2048 : Shape := ⟨2, ![8, 2048]⟩

abbrev nBuf : Space → Nat
  | .hbm => 64
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S16384x2048, .bf16⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S1x2048, .f32⟩
  | .hbm, ⟨6, _⟩ => ⟨S6144x2048, .bf16⟩
  | .hbm, ⟨7, _⟩ => ⟨S6144x2048, .f32⟩
  | .hbm, ⟨8, _⟩ => ⟨S2048x6144, .f32⟩
  | .hbm, ⟨9, _⟩ => ⟨S2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x6144, .f32⟩
  | .hbm, ⟨31, _⟩ => ⟨S8192x6144, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S2048, .f32⟩
  | .hbm, ⟨42, _⟩ => ⟨S8192x2048, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S1x2048, .f32⟩
  | .hbm, ⟨61, _⟩ => ⟨S_, .i32⟩
  | .hbm, ⟨62, _⟩ => ⟨S_, .f32⟩
  | .hbm, ⟨63, _⟩ => ⟨S8x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c : Ref sig .tc := ⟨.hbm, 61, rfl⟩
abbrev main_call0_v0 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Kernel9.lean ====
abbrev S8192x16384 : Shape := ⟨2, ![8192, 16384]⟩
abbrev S1x2048 : Shape := ⟨2, ![1, 2048]⟩
abbrev S1x16x128x128 : Shape := ⟨4, ![1, 16, 128, 128]⟩
abbrev S1x16x128 : Shape := ⟨3, ![1, 16, 128]⟩
abbrev S16x128x128 : Shape := ⟨3, ![16, 128, 128]⟩
abbrev S16x128 : Shape := ⟨2, ![16, 128]⟩
abbrev S_ : Shape := ⟨0, ![]⟩
abbrev S2048x128 : Shape := ⟨2, ![2048, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S128x16 : Shape := ⟨2, ![128, 16]⟩
abbrev S128x16x128 : Shape := ⟨3, ![128, 16, 128]⟩
abbrev S128x2048 : Shape := ⟨2, ![128, 2048]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩

abbrev nBuf : Space → Nat
  | .hbm => 49
  | .vmem => 14
  | .smem => 0
  | _ => 0

abbrev bufTy : (tb : Table) → Fin (tcTables nBuf tb) → BufTy
  | .hbm, ⟨0, _⟩ => ⟨S8192x16384, .bf16⟩
  | .hbm, ⟨1, _⟩ => ⟨S1x2048, .f32⟩
  | .hbm, ⟨2, _⟩ => ⟨S1x2048, .f32⟩
  | .hbm, ⟨3, _⟩ => ⟨S1x16x128x128, .f32⟩
  | .hbm, ⟨4, _⟩ => ⟨S1x16x128, .f32⟩
  | .hbm, ⟨5, _⟩ => ⟨S16x128x128, .f32⟩
  | .hbm, ⟨6, _⟩ => ⟨S16x128, .i32⟩
  | .hbm, ⟨7, _⟩ => ⟨S16x128, .i32⟩
  | .hbm, ⟨8, _⟩ => ⟨S_, .i32⟩
  | .hbm, ⟨9, _⟩ => ⟨S16x128, .i32⟩
  | .hbm, ⟨10, _⟩ => ⟨S16x128, .i32⟩
  | .hbm, ⟨11, _⟩ => ⟨S16x128, .i1⟩
  | .hbm, ⟨12, _⟩ => ⟨S16x128, .f32⟩
  | .hbm, ⟨13, _⟩ => ⟨S16x128x128, .f32⟩
  | .hbm, ⟨14, _⟩ => ⟨S2048x128, .f32⟩
  | .hbm, ⟨15, _⟩ => ⟨S128, .i32⟩
  | .hbm, ⟨16, _⟩ => ⟨S_, .i32⟩
  | .hbm, ⟨17, _⟩ => ⟨S_, .i32⟩
  | .hbm, ⟨18, _⟩ => ⟨S128, .i32⟩
  | .hbm, ⟨19, _⟩ => ⟨S128, .i32⟩
  | .hbm, ⟨20, _⟩ => ⟨S128, .i32⟩
  | .hbm, ⟨21, _⟩ => ⟨S_, .i32⟩
  | .hbm, ⟨22, _⟩ => ⟨S128, .i32⟩
  | .hbm, ⟨23, _⟩ => ⟨S128, .i1⟩
  | .hbm, ⟨24, _⟩ => ⟨S128, .i32⟩
  | .hbm, ⟨25, _⟩ => ⟨S128, .i32⟩
  | .hbm, ⟨26, _⟩ => ⟨S_, .i32⟩
  | .hbm, ⟨27, _⟩ => ⟨S128, .i32⟩
  | .hbm, ⟨28, _⟩ => ⟨S128, .i1⟩
  | .hbm, ⟨29, _⟩ => ⟨S128, .i1⟩
  | .hbm, ⟨30, _⟩ => ⟨S_, .i32⟩
  | .hbm, ⟨31, _⟩ => ⟨S128, .i32⟩
  | .hbm, ⟨32, _⟩ => ⟨S128, .i32⟩
  | .hbm, ⟨33, _⟩ => ⟨S128, .i32⟩
  | .hbm, ⟨34, _⟩ => ⟨S1x128, .i32⟩
  | .hbm, ⟨35, _⟩ => ⟨S128x1, .i32⟩
  | .hbm, ⟨36, _⟩ => ⟨S128x128, .i32⟩
  | .hbm, ⟨37, _⟩ => ⟨S128x128, .i32⟩
  | .hbm, ⟨38, _⟩ => ⟨S128x128, .i1⟩
  | .hbm, ⟨39, _⟩ => ⟨S128x128, .f32⟩
  | .hbm, ⟨40, _⟩ => ⟨S1x128x128, .f32⟩
  | .hbm, ⟨41, _⟩ => ⟨S16x128x128, .f32⟩
  | .hbm, ⟨42, _⟩ => ⟨S16x128x128, .f32⟩
  | .hbm, ⟨43, _⟩ => ⟨S16x128x128, .bf16⟩
  | .hbm, ⟨44, _⟩ => ⟨S16x128, .f32⟩
  | .hbm, ⟨45, _⟩ => ⟨S128x16, .f32⟩
  | .hbm, ⟨46, _⟩ => ⟨S128x16x128, .f32⟩
  | .hbm, ⟨47, _⟩ => ⟨S128x2048, .f32⟩
  | .hbm, ⟨48, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S1x2048, .f32⟩
  | .local _ .vmem, ⟨8, _⟩ => ⟨S16x128x128, .bf16⟩
  | .local _ .vmem, ⟨9, _⟩ => ⟨S128x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S8192x16384 : Shape := ⟨2, ![8192, 16384]⟩
abbrev S1x2048 : Shape := ⟨2, ![1, 2048]⟩
abbrev S1x16x128x128 : Shape := ⟨4, ![1, 16, 128, 128]⟩
abbrev S1x16x128 : Shape := ⟨3, ![1, 16, 128]⟩
abbrev S8192x2048 : Shape := ⟨2, ![8192, 2048]⟩
abbrev S2048 : Shape := ⟨1, ![2048]⟩
abbrev S16x128x128 : Shape := ⟨3, ![16, 128, 128]⟩
abbrev S16x128 : Shape := ⟨2, ![16, 128]⟩
abbrev S_ : Shape := ⟨0, ![]⟩
abbrev S8192 : Shape := ⟨1, ![8192]⟩
abbrev S8192x1 : Shape := ⟨2, ![8192, 1]⟩
abbrev S64x128x16x128 : Shape := ⟨4, ![64, 128, 16, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S16x64x128x128 : Shape := ⟨4, ![16, 64, 128, 128]⟩
abbrev S128x16 : Shape := ⟨2, ![128, 16]⟩
abbrev S1x128x16x1 : Shape := ⟨4, ![1, 128, 16, 1]⟩

abbrev nBuf : Space → Nat
  | .hbm => 93
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S1x2048, .f32⟩
  | .hbm, ⟨2, _⟩ => ⟨S1x2048, .f32⟩
  | .hbm, ⟨3, _⟩ => ⟨S1x16x128x128, .f32⟩
  | .hbm, ⟨4, _⟩ => ⟨S1x16x128, .f32⟩
  | .hbm, ⟨5, _⟩ => ⟨S8192x2048, .bf16⟩
  | .hbm, ⟨6, _⟩ => ⟨S8192x2048, .f32⟩
  | .hbm, ⟨7, _⟩ => ⟨S8192x2048, .bf16⟩
  | .hbm, ⟨8, _⟩ => ⟨S8192x2048, .f32⟩
  | .hbm, ⟨9, _⟩ => ⟨S8192x2048, .bf16⟩
  | .hbm, ⟨10, _⟩ => ⟨S8192x2048, .f32⟩
  | .hbm, ⟨11, _⟩ => ⟨S2048, .f32⟩
  | .hbm, ⟨12, _⟩ => ⟨S2048, .f32⟩
  | .hbm, ⟨13, _⟩ => ⟨S16x128x128, .f32⟩
  | .hbm, ⟨14, _⟩ => ⟨S16x128, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S1x2048, .f32⟩
  | .hbm, ⟨39, _⟩ => ⟨S8192x2048, .f32⟩
  | .hbm, ⟨40, _⟩ => ⟨S8192x2048, .f32⟩
  | .hbm, ⟨41, _⟩ => ⟨S1x2048, .f32⟩
  | .hbm, ⟨42, _⟩ => ⟨S8192x2048, .f32⟩
  | .hbm, ⟨43, _⟩ => ⟨S8192x2048, .f32⟩
  | .hbm, ⟨44, _⟩ => ⟨S64x128x16x128, .f32⟩
  | .hbm, ⟨45, _⟩ => ⟨S128, .i32⟩
  | .hbm, ⟨46, _⟩ => ⟨S_, .i32⟩
  | .hbm, ⟨47, _⟩ => ⟨S_, .i32⟩
  | .hbm, ⟨48, _⟩ => ⟨S128, .i32⟩
  | .hbm, ⟨49, _⟩ => ⟨S128, .i32⟩
  | .hbm, ⟨50, _⟩ => ⟨S128, .i32⟩
  | .hbm, ⟨51, _⟩ => ⟨S_, .i32⟩
  | .hbm, ⟨52, _⟩ => ⟨S128, .i32⟩
  | .hbm, ⟨53, _⟩ => ⟨S128, .i1⟩
  | .hbm, ⟨54, _⟩ => ⟨S128, .i32⟩
  | .hbm, ⟨55, _⟩ => ⟨S128, .i32⟩
  | .hbm, ⟨56, _⟩ => ⟨S_, .i32⟩
  | .hbm, ⟨57, _⟩ => ⟨S128, .i32⟩
  | .hbm, ⟨58, _⟩ => ⟨S128, .i1⟩
  | .hbm, ⟨59, _⟩ => ⟨S128, .i1⟩
  | .hbm, ⟨60, _⟩ => ⟨S_, .i32⟩
  | .hbm, ⟨61, _⟩ => ⟨S128, .i32⟩
  | .hbm, ⟨62, _⟩ => ⟨S128, .i32⟩
  | .hbm, ⟨63, _⟩ => ⟨S128, .i32⟩
  | .hbm, ⟨64, _⟩ => ⟨S1x128, .i32⟩
  | .hbm, ⟨65, _⟩ => ⟨S128x1, .i32⟩
  | .hbm, ⟨66, _⟩ => ⟨S128x128, .i32⟩
  | .hbm, ⟨67, _⟩ => ⟨S128x128, .i32⟩
  | .hbm, ⟨68, _⟩ => ⟨S128x128, .i1⟩
  | .hbm, ⟨69, _⟩ => ⟨S1x128x128, .i1⟩
  | .hbm, ⟨70, _⟩ => ⟨S_, .f32⟩
  | .hbm, ⟨71, _⟩ => ⟨S16x128x128, .f32⟩
  | .hbm, ⟨72, _⟩ => ⟨S16x128x128, .i1⟩
  | .hbm, ⟨73, _⟩ => ⟨S16x128x128, .f32⟩
  | .hbm, ⟨74, _⟩ => ⟨S16x64x128x128, .f32⟩
  | .hbm, ⟨75, _⟩ => ⟨S64x128x16x128, .f32⟩
  | .hbm, ⟨76, _⟩ => ⟨S128x16, .f32⟩
  | .hbm, ⟨77, _⟩ => ⟨S1x128x16x1, .f32⟩
  | .hbm, ⟨78, _⟩ => ⟨S64x128x16x128, .f32⟩
  | .hbm, ⟨79, _⟩ => ⟨S64x128x16x128, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S8192x2048, .f32⟩
  | .hbm, ⟨84, _⟩ => ⟨S_, .f32⟩
  | .hbm, ⟨85, _⟩ => ⟨S8192x2048, .f32⟩
  | .hbm, ⟨86, _⟩ => ⟨S8192x2048, .f32⟩
  | .hbm, ⟨87, _⟩ => ⟨S_, .f32⟩
  | .hbm, ⟨88, _⟩ => ⟨S8192x2048, .f32⟩
  | .hbm, ⟨89, _⟩ => ⟨S8192x2048, .f32⟩
  | .hbm, ⟨90, _⟩ => ⟨S8192x2048, .f32⟩
  | .hbm, ⟨91, _⟩ => ⟨S8192x2048, .f32⟩
  | .hbm, ⟨92, _⟩ => ⟨S8192x2048, .bf16⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_c : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_0 : Ref sig .tc := ⟨.hbm, 60, rfl⟩
abbrev main_call0_v12 : Ref sig .tc := ⟨.hbm, 61, rfl⟩
abbrev main_call0_v13 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_4 : Ref sig .tc := ⟨.hbm, 70, rfl⟩
abbrev main_v43 : Ref sig .tc := ⟨.hbm, 71, rfl⟩
abbrev main_call1_v0 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_call2_v0 : Ref sig .tc := ⟨.hbm, 82, rfl⟩
abbrev main_call2_v1 : Ref sig .tc := ⟨.hbm, 83, rfl⟩
abbrev main_call2_cst : Ref sig .tc := ⟨.hbm, 84, rfl⟩
abbrev main_call2_v2 : Ref sig .tc := ⟨.hbm, 85, rfl⟩
abbrev main_call2_v3 : Ref sig .tc := ⟨.hbm, 86, rfl⟩
abbrev main_call2_cst_0 : Ref sig .tc := ⟨.hbm, 87, rfl⟩
abbrev main_call2_v4 : Ref sig .tc := ⟨.hbm, 88, rfl⟩
abbrev main_call2_v5 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩

abbrev nD : Nat := 1
abbrev τ : Topo := Topo.v7x

variable {F : FTy → Type} [FloatOps F]
-- ==== Kernel10.lean ====
abbrev S8x16x128 : Shape := ⟨3, ![8, 16, 128]⟩
abbrev S1x2048 : Shape := ⟨2, ![1, 2048]⟩
abbrev S2048 : Shape := ⟨1, ![2048]⟩
abbrev S_ : Shape := ⟨0, ![]⟩
abbrev S16x128 : Shape := ⟨2, ![16, 128]⟩
abbrev S1x16x128 : Shape := ⟨3, ![1, 16, 128]⟩

abbrev nBuf : Space → Nat
  | .hbm => 23
  | .vmem => 8
  | .smem => 0
  | _ => 0

abbrev bufTy : (tb : Table) → Fin (tcTables nBuf tb) → BufTy
  | .hbm, ⟨0, _⟩ => ⟨S8x16x128, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048, .f32⟩
  | .hbm, ⟨5, _⟩ => ⟨S_, .i32⟩
  | .hbm, ⟨6, _⟩ => ⟨S_, .f32⟩
  | .hbm, ⟨7, _⟩ => ⟨S2048, .f32⟩
  | .hbm, ⟨8, _⟩ => ⟨S16x128, .f32⟩
  | .hbm, ⟨9, _⟩ => ⟨S2048, .f32⟩
  | .hbm, ⟨10, _⟩ => ⟨S_, .i32⟩
  | .hbm, ⟨11, _⟩ => ⟨S_, .f32⟩
  | .hbm, ⟨12, _⟩ => ⟨S2048, .f32⟩
  | .hbm, ⟨13, _⟩ => ⟨S16x128, .f32⟩
  | .hbm, ⟨14, _⟩ => ⟨S2048, .f32⟩
  | .hbm, ⟨15, _⟩ => ⟨S_, .i32⟩
  | .hbm, ⟨16, _⟩ => ⟨S_, .f32⟩
  | .hbm, ⟨17, _⟩ => ⟨S2048, .f32⟩
  | .hbm, ⟨18, _⟩ => ⟨S16x128, .f32⟩
  | .hbm, ⟨19, _⟩ => ⟨S16x128, .f32⟩
  | .hbm, ⟨20, _⟩ => ⟨S16x128, .f32⟩
  | .hbm, ⟨21, _⟩ => ⟨S16x128, .f32⟩
  | .hbm, ⟨22, _⟩ => ⟨S16x128, .f32⟩
  | .local _ .vmem, ⟨0, _⟩ => ⟨S8x16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S8x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference10Ideal.lean ====
abbrev S8x16x128 : Shape := ⟨3, ![8, 16, 128]⟩
abbrev S1x2048 : Shape := ⟨2, ![1, 2048]⟩
abbrev S_ : Shape := ⟨0, ![]⟩
abbrev S16x128 : Shape := ⟨2, ![16, 128]⟩

abbrev nBuf : Space → Nat
  | .hbm => 44
  | .vmem => 0
  | .smem => 0
  | _ => 0

abbrev bufTy : (tb : Table) → Fin (tcTables nBuf tb) → BufTy
  | .hbm, ⟨0, _⟩ => ⟨S8x16x128, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S16x128, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S_, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S_, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S_, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S_, .f32⟩
  | .hbm, ⟨30, _⟩ => ⟨S1x2048, .f32⟩
  | .hbm, ⟨31, _⟩ => ⟨S1x2048, .f32⟩
  | .hbm, ⟨32, _⟩ => ⟨S1x2048, .f32⟩
  | .hbm, ⟨33, _⟩ => ⟨S_, .f32⟩
  | .hbm, ⟨34, _⟩ => ⟨S1x2048, .f32⟩
  | .hbm, ⟨35, _⟩ => ⟨S1x2048, .f32⟩
  | .hbm, ⟨36, _⟩ => ⟨S1x2048, .f32⟩
  | .hbm, ⟨37, _⟩ => ⟨S_, .f32⟩
  | .hbm, ⟨38, _⟩ => ⟨S1x2048, .f32⟩
  | .hbm, ⟨39, _⟩ => ⟨S1x2048, .f32⟩
  | .hbm, ⟨40, _⟩ => ⟨S16x128, .f32⟩
  | .hbm, ⟨41, _⟩ => ⟨S16x128, .f32⟩
  | .hbm, ⟨42, _⟩ => ⟨S16x128, .f32⟩
  | .hbm, ⟨43, _⟩ => ⟨S16x128, .f32⟩
  | _, _ => ⟨S8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel11.lean ====
abbrev S8x2232x128 : Shape := ⟨3, ![8, 2232, 128]⟩
abbrev S2232x128 : Shape := ⟨2, ![2232, 128]⟩
abbrev S1x2232x128 : Shape := ⟨3, ![1, 2232, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x2232x128, .f32⟩
  | .hbm, ⟨1, _⟩ => ⟨S2232x128, .f32⟩
  | .hbm, ⟨2, _⟩ => ⟨S2232x128, .f32⟩
  | .hbm, ⟨3, _⟩ => ⟨S2232x128, .f32⟩
  | .hbm, ⟨4, _⟩ => ⟨S2232x128, .f32⟩
  | .hbm, ⟨5, _⟩ => ⟨S2232x128, .f32⟩
  | .hbm, ⟨6, _⟩ => ⟨S2232x128, .f32⟩
  | .hbm, ⟨7, _⟩ => ⟨S2232x128, .f32⟩
  | .local _ .vmem, ⟨0, _⟩ => ⟨S8x2232x128, .f32⟩
  | .local _ .vmem, ⟨1, _⟩ => ⟨S2232x128, .f32⟩
  | .local _ .vmem, ⟨2, _⟩ => ⟨S2232x128, .f32⟩
  | .local _ .vmem, ⟨3, _⟩ => ⟨S2232x128, .f32⟩
  | .local _ .vmem, ⟨4, _⟩ => ⟨S2232x128, .f32⟩
  | .local _ .vmem, ⟨5, _⟩ => ⟨S2232x128, .f32⟩
  | .local _ .vmem, ⟨6, _⟩ => ⟨S2232x128, .f32⟩
  | .local _ .vmem, ⟨7, _⟩ => ⟨S2232x128, .f32⟩
  | _, _ => ⟨S8x2232x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2232x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2232x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2232x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2232x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2232x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2232x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2232x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2232x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference11Ideal.lean ====
abbrev S8x2232x128 : Shape := ⟨3, ![8, 2232, 128]⟩
abbrev S2232x128 : Shape := ⟨2, ![2232, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2232x128, .f32⟩
  | .hbm, ⟨1, _⟩ => ⟨S2232x128, .f32⟩
  | .hbm, ⟨2, _⟩ => ⟨S2232x128, .f32⟩
  | .hbm, ⟨3, _⟩ => ⟨S2232x128, .f32⟩
  | .hbm, ⟨4, _⟩ => ⟨S_, .f32⟩
  | .hbm, ⟨5, _⟩ => ⟨S2232x128, .f32⟩
  | .hbm, ⟨6, _⟩ => ⟨S_, .f32⟩
  | .hbm, ⟨7, _⟩ => ⟨S2232x128, .f32⟩
  | .hbm, ⟨8, _⟩ => ⟨S2232x128, .f32⟩
  | .hbm, ⟨9, _⟩ => ⟨S_, .f32⟩
  | .hbm, ⟨10, _⟩ => ⟨S2232x128, .f32⟩
  | .hbm, ⟨11, _⟩ => ⟨S2232x128, .f32⟩
  | .hbm, ⟨12, _⟩ => ⟨S2232x128, .f32⟩
  | .hbm, ⟨13, _⟩ => ⟨S_, .f32⟩
  | .hbm, ⟨14, _⟩ => ⟨S2232x128, .f32⟩
  | .hbm, ⟨15, _⟩ => ⟨S2232x128, .f32⟩
  | .hbm, ⟨16, _⟩ => ⟨S2232x128, .f32⟩
  | .hbm, ⟨17, _⟩ => ⟨S_, .f32⟩
  | .hbm, ⟨18, _⟩ => ⟨S2232x128, .f32⟩
  | .hbm, ⟨19, _⟩ => ⟨S2232x128, .f32⟩
  | .hbm, ⟨20, _⟩ => ⟨S2232x128, .f32⟩
  | .hbm, ⟨21, _⟩ => ⟨S_, .f32⟩
  | .hbm, ⟨22, _⟩ => ⟨S2232x128, .f32⟩
  | .hbm, ⟨23, _⟩ => ⟨S2232x128, .f32⟩
  | .hbm, ⟨24, _⟩ => ⟨S_, .f32⟩
  | .hbm, ⟨25, _⟩ => ⟨S2232x128, .f32⟩
  | .hbm, ⟨26, _⟩ => ⟨S2232x128, .f32⟩
  | .hbm, ⟨27, _⟩ => ⟨S2232x128, .f32⟩
  | .hbm, ⟨28, _⟩ => ⟨S_, .f32⟩
  | .hbm, ⟨29, _⟩ => ⟨S2232x128, .f32⟩
  | .hbm, ⟨30, _⟩ => ⟨S2232x128, .f32⟩
  | .hbm, ⟨31, _⟩ => ⟨S2232x128, .f32⟩
  | .hbm, ⟨32, _⟩ => ⟨S_, .f32⟩
  | .hbm, ⟨33, _⟩ => ⟨S2232x128, .f32⟩
  | .hbm, ⟨34, _⟩ => ⟨S2232x128, .f32⟩
  | .hbm, ⟨35, _⟩ => ⟨S2232x128, .f32⟩
  | .hbm, ⟨36, _⟩ => ⟨S_, .f32⟩
  | .hbm, ⟨37, _⟩ => ⟨S2232x128, .f32⟩
  | .hbm, ⟨38, _⟩ => ⟨S2232x128, .f32⟩
  | _, _ => ⟨S8x2232x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.DxnSgu.lean ====
/- The gradient that reaches the normalised input through the gating unit's part of the projection: `Kernel2Ideal`'s run
   leaves, block by block, the product of the gradient and the weights, which is what the derivative of the reference is. -/
module

public import proofs.«01_k».proof.Defs
public import proofs.«01_k».proof.Proof.Gen.Kernel2Ideal.Value
public import proofs.«01_k».proof.Proof.Gen.Reference2Ideal.Run
public import Idealize.ShloMosaic.Lib.Pointwise
public import Idealize.ShloMosaic.Lib.WholeRead
public import Idealize.ShloMosaic.Lib.Pipeline.Value
public import Idealize.ShloMosaic.Lib.Pipeline.ReadBack
public import Idealize.ShloMosaic.Lib.Quiescent
public import Idealize.ShloMosaic.Lib.Tactic

@[expose] public section

set_option maxRecDepth 16384

noncomputable section

namespace Cert.Kernel2Ideal.DxnSgu

open Idealize.ShloMosaic Idealize.ShloMosaic.TcCoe Idealize.SL.Sem
open Cert.Kernel2Ideal Cert.Kernel2Ideal.Gen

/-- The product, one entry: the gradient's row against the weights' column. -/
def prod (A : S8192x6144.Idx → EReal) (B : S16384x2048.Idx → EReal) : S8192x2048.Idx → EReal := fun i =>
  ∑ k : Fin 6144, A (ix2 (i 0) k) * B (ix2 ⟨k, by omega⟩ (i 1))

theorem hz : (![0, 0] : Fin 2 → Nat) = fun _ => 0 := funext fun a => by fin_cases a <;> rfl

section
variable (c : Dev nD) (i : grid0.Coords) (arg3 : Memref sig .tc .vmem S1024x6144 .bf16) (harg3 : arg3.IsWhole) (arg4 : Memref sig .tc .vmem S6144x512 .bf16) (harg4 : arg4.IsWhole) (arg5 : Memref sig .tc .vmem S1024x512 .f32) (harg5 : arg5.IsWhole) (arg6 : Memref sig .tc .vmem S1024x512 .f32) (harg6 : arg6.IsWhole)
  (x0 : Vec Ideal S1024x6144 .bf16) (x1 : Vec Ideal S6144x512 .bf16)

/-- What a point leaves in its output block: the product of its two input blocks. -/
theorem out_at (y : S1024x512.Idx) : out0_A_2 (F := Ideal) c i arg3 harg3 arg4 harg4 arg5 harg5 arg6 harg6 x0 x1 y
    = ∑ k : Fin 6144, x0 (ix2 (y 0) k) * x1 (ix2 k (y 1)) := by
  unfold out0_A_2
  rw [View.read_writes_junk_eq_canon]
  show View.canon (_ :: []) y = _
  rw [View.canon_unit_zero hz]
  simp only [View.readAt_eq_ld, harg3.read_unread, harg4.read_unread]
  rw [View.ld_unit_zero hz, View.ld_unit_zero hz]
  pointwise [k0_pay1]
end

variable (m : (ℓ : Loc nD τ sig) → Buf (Elt Ideal) ℓ) (ρ : Dev nD → PrngReg)

/-- The grid point's place: block row `t / 4`, block column `t % 4`. -/
theorem idx_facts (t : Fin cfg0.N) : win0_0.index t = ![t.val / 4, 0] ∧ win0_1.index t = ![0, t.val % 4] ∧ win0_2.index t = ![t.val / 4, t.val % 4] :=
  (by decide +kernel : ∀ t : Fin grid0.N, win0_0.index t = ![t.val / 4, 0] ∧ win0_1.index t = ![0, t.val % 4] ∧ win0_2.index t = ![t.val / 4, t.val % 4]) t

/-- The gradient's block at an index. -/
theorem in0_at (c : Dev nD) (t : Fin cfg0.N) (y : S1024x6144.Idx) (h : 1024 * (t.val / 4) + (y 0 : Nat) < 8192) :
    iblk m c 0 t y = m ((c : Thread nD τ).loc main_arg0) (ix2 ⟨1024 * (t.val / 4) + (y 0 : Nat), h⟩ (y 1)) := by
  obtain ⟨e, -, -⟩ := idx_facts t
  show m ((c : Thread nD τ).loc main_arg0) _ = _
  congr 1
  funext a; apply Fin.ext
  match a with
  | ⟨0, _⟩ => show win0_0.index t 0 * 1024 + 1 * (y 0 : Nat) = 1024 * (t.val / 4) + (y 0 : Nat); rw [e]; simp; omega
  | ⟨1, _⟩ => show win0_0.index t 1 * 6144 + 1 * (y 1 : Nat) = (y 1 : Nat); rw [e]; simp

/-- The weights' block at an index: the same rows whatever the point, the point's columns. -/
theorem in1_at (c : Dev nD) (t : Fin cfg0.N) (y : S6144x512.Idx) (h0 : (y 0 : Nat) < 16384) (h : 512 * (t.val % 4) + (y 1 : Nat) < 2048) :
    X0_1 m c t y = m ((c : Thread nD τ).loc main_arg1) (ix2 ⟨(y 0 : Nat), h0⟩ ⟨512 * (t.val % 4) + (y 1 : Nat), h⟩) := by
  obtain ⟨-, e, -⟩ := idx_facts t
  unfold X0_1 Pipeline.Window.fill
  rw [dif_pos (moved0_1 t y)]
  show m ((c : Thread nD τ).loc main_arg1) _ = _
  congr 1
  funext a; apply Fin.ext
  match a with
  | ⟨0, _⟩ => show win0_1.index t 0 * 6144 + 1 * (y 0 : Nat) = (y 0 : Nat); rw [e]; simp
  | ⟨1, _⟩ => show win0_1.index t 1 * 512 + 1 * (y 1 : Nat) = 512 * (t.val % 4) + (y 1 : Nat); rw [e]; simp; omega

/-- The whole result. -/
abbrev G (c : Dev nD) : S8192x2048.Idx → EReal := prod (m ((c : Thread nD τ).loc main_arg0)) (m ((c : Thread nD τ).loc main_arg1))

/-- What a point writes back is its block of the whole result. -/
theorem flushed_eq (c : Dev nD) (t : Fin cfg0.N) : (Gen.dats m 0 c).flushed 2 t = ((cfg0.win 2).blk t).view.read (Elt Ideal) (G m c) := by
  rw [Value.flushed2_A]
  funext y
  have ht : t.val < 32 := lt_of_lt_of_eq t.isLt N_0
  obtain ⟨-, -, e⟩ := idx_facts t
  have hy0 : (y 0 : Nat) < 1024 := (y 0).isLt
  have hy1 : (y 1 : Nat) < 512 := (y 1).isLt
  show out0_A_2 (F := Ideal) c (grid0.coords t) _ _ _ _ _ _ _ _ _ _ ((cfg0.win 2).xinj (grid0.coords t) y) = G m c (((cfg0.win 2).blk t).view.emb y)
  have hb : ((cfg0.win 2).blk t).view.emb y = ix2 ⟨1024 * (t.val / 4) + (y 0 : Nat), by omega⟩ ⟨512 * (t.val % 4) + (y 1 : Nat), by omega⟩ := by
    funext a; apply Fin.ext
    match a with
    | ⟨0, _⟩ => show win0_2.index t 0 * 1024 + 1 * (y 0 : Nat) = 1024 * (t.val / 4) + (y 0 : Nat); rw [e]; simp; omega
    | ⟨1, _⟩ => show win0_2.index t 1 * 512 + 1 * (y 1 : Nat) = 512 * (t.val % 4) + (y 1 : Nat); rw [e]; simp; omega
  rw [out_at, hb]
  refine Finset.sum_congr (M := EReal) rfl fun k _ => ?_
  congr 1
  · exact in0_at m c t _ (by show 1024 * (t.val / 4) + (y 0 : Nat) < 8192; omega)
  · exact in1_at m c t _ (by show (k : Nat) < 16384; omega) (by show 512 * (t.val % 4) + (y 1 : Nat) < 2048; omega)

/-- Every index of the result is in the block of one point. -/
theorem cover (i : S8192x2048.Idx) : ∃ t : Fin cfg0.N, (cfg0.win 2).flush t = true ∧ i ∈ ((cfg0.win 2).blk t).view.set := by
  have h0 : (i 0 : Nat) < 8192 := (i 0).isLt
  have h1 : (i 1 : Nat) < 2048 := (i 1).isLt
  obtain ⟨t, ht⟩ : ∃ t : Fin cfg0.N, t.val = 4 * ((i 0 : Nat) / 1024) + (i 1 : Nat) / 512 := ⟨⟨_, lt_of_lt_of_eq (by omega) N_0.symm⟩, rfl⟩
  refine ⟨t, flush0_2 t, ?_⟩
  obtain ⟨-, -, e⟩ := idx_facts t
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024; rw [e]; simp; omega
  | ⟨1, _⟩ => show win0_2.index t 1 * 512 ≤ (i 1 : Nat) ∧ (i 1 : Nat) < win0_2.index t 1 * 512 + 512; rw [e]; simp; omega

/-- The result array after the run. -/
theorem final (c : Dev nD) : (Gen.dats m 0 c).arrAt 2 cfg0.N = G m c :=
  (Gen.dats m 0 c).arrAt_eq_of_cover 2 _ (fun t _ => flushed_eq m c t) cover

end Cert.Kernel2Ideal.DxnSgu

namespace Cert.Reference2Ideal.DxnSgu

open Idealize.ShloMosaic Idealize.ShloMosaic.TcCoe Idealize.SL.Sem
open Cert.Reference2Ideal Cert.Reference2Ideal.Gen

/-- The reference's derivative at an index. -/
theorem ref_eq (A : S8192x6144.Idx → EReal) (B : S16384x2048.Idx → EReal) :
    (Host.dotGeneral (F := Ideal) dot_S8192x6144_S2048x6144_S8192x2048_1_1_0_0_n_n none (extf (F := Ideal) .f32 (A : FVec Ideal S8192x6144 .bf16) bitsLt_bf16_f32)
      (transpose S2048x6144 [1, 0] (extf (F := Ideal) .f32 (extractStridedSlice S6144x2048 ![0, 0] (B : FVec Ideal S16384x2048 .bf16) slices_S16384x2048_S6144x2048_0_0) bitsLt_bf16_f32) transposes_S6144x2048_S2048x6144_1_0) : FVec Ideal S8192x2048 .f32)
    = Cert.Kernel2Ideal.DxnSgu.prod A B := by
  funext j
  pointwise [Cert.Kernel2Ideal.DxnSgu.prod]

end Cert.Reference2Ideal.DxnSgu

namespace Cert.DxnSgu

open Idealize.ShloMosaic Idealize.ShloMosaic.TcCoe Idealize.SL.Sem

theorem frameR : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Kernel2Ideal.DxnSgu.G m c, (θ_run Cert.Kernel2Ideal.defs _ _).mono
    (fun r h c => ⟨(h c).1.trans (Cert.Kernel2Ideal.DxnSgu.final m c), (h c).2⟩) (Cert.Kernel2Ideal.Value.run_blocks m g), ?_⟩
  refine (θ_run Cert.Reference2Ideal.defs _ _).mono (fun r h c => ?_) (Cert.Reference2Ideal.Value.run (F := Ideal) m' g')
  obtain ⟨h0, hk⟩ := h c
  obtain ⟨e0, e1⟩ := hagree c
  refine ⟨h0.trans ?_, hk⟩
  rw [e0, e1]
  exact Cert.Reference2Ideal.DxnSgu.ref_eq _ _

end Cert.DxnSgu
-- ==== Proof.DxnGate.lean ====
/- The gradient that reaches the normalised input through the gates' part of the projection, added to what has reached it
   already: `Kernel3Ideal`'s run leaves, block by block, the product taken in two halves and the sum, which is what the
   derivative of the reference is. -/
module

public import proofs.«01_k».proof.Defs
public import proofs.«01_k».proof.Proof.Gen.Kernel3Ideal.Value
public import proofs.«01_k».proof.Proof.Gen.Reference3Ideal.Run
public import Idealize.ShloMosaic.Lib.Pointwise
public import Idealize.ShloMosaic.Lib.WholeRead
public import Idealize.ShloMosaic.Lib.Pipeline.Value
public import Idealize.ShloMosaic.Lib.Pipeline.ReadBack
public import Idealize.ShloMosaic.Lib.Quiescent
public import Idealize.ShloMosaic.Lib.Tactic

@[expose] public section

set_option maxRecDepth 16384

noncomputable section

namespace Cert.Kernel3Ideal.DxnGate

open Idealize.ShloMosaic Idealize.ShloMosaic.TcCoe Idealize.SL.Sem
open Cert.Kernel3Ideal Cert.Kernel3Ideal.Gen

/-- The product, one entry, added to the entry of the third array. -/
def prod (A : S8192x4096.Idx → EReal) (B : S16384x2048.Idx → EReal) (D : S8192x2048.Idx → EReal) : S8192x2048.Idx → EReal := fun i =>
  (∑ k : Fin 4096, A (ix2 (i 0) k) * B (ix2 ⟨6144 + k, by omega⟩ (i 1))) + D i

/-- The product of two blocks. -/
def bprod (x0 : Vec Ideal S1024x2048 .bf16) (x1 : Vec Ideal S2048x1024 .bf16) : S1024x1024.Idx → EReal := fun y =>
  ∑ k : Fin 2048, x0 (ix2 (y 0) k) * x1 (ix2 k (y 1))

theorem hz : (![0, 0] : Fin 2 → Nat) = fun _ => 0 := funext fun a => by fin_cases a <;> rfl

section
variable (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
  (x0 : Vec Ideal S1024x2048 .bf16) (x1 : Vec Ideal S2048x1024 .bf16) (x2 xs : Vec Ideal S1024x1024 .f32)

/-- What an even point leaves in the scratch: the product of its two blocks. -/
theorem sout_at (hc0 : cond0_0 i) (hc1 : ¬cond0_1 i) (hc2 : ¬cond0_2 i) (y : S1024x1024.Idx) :
    sout0_A_0 (F := Ideal) c i arg3 harg3 arg4 harg4 arg5 harg5 arg6 harg6 arg7 harg7 hc0 hc1 hc2 x0 x1 x2 y = bprod x0 x1 y := by
  unfold sout0_A_0
  rw [View.read_writes_junk_eq_canon]
  show View.canon (_ :: []) y = _
  rw [View.canon_unit_zero hz]
  simp only [View.readAt_eq_ld, harg3.read_unread, harg4.read_unread]
  rw [View.ld_unit_zero hz, View.ld_unit_zero hz]
  pointwise [k0_pay1, k0_pay2, bprod]

/-- What an odd point leaves in its output block: the scratch, the product of its two blocks and the block to add. -/
theorem out_at (hc0 : ¬cond0_0 i) (hc1 : ¬cond0_1 i) (hc2 : cond0_2 i) (y : S1024x1024.Idx) :
    out0_B_3 (F := Ideal) c i arg3 harg3 arg4 harg4 arg5 harg5 arg6 harg6 arg7 harg7 hc0 hc1 hc2 x0 x1 x2 xs y
    = xs y + bprod x0 x1 y + x2 y := by
  unfold out0_B_3
  rw [View.read_writes_junk_eq_canon]
  show View.canon (_ :: []) y = _
  rw [View.canon_unit_zero hz]
  simp only [View.readAt_eq_ld, harg3.read_unread, harg4.read_unread, harg5.read_unread, harg7.read_unread]
  rw [View.ld_unit_zero hz, View.ld_unit_zero hz, View.ld_unit_zero hz, View.ld_unit_zero hz]
  pointwise [k0_pay1, k0_pay4, bprod]
end

variable (m : (ℓ : Loc nD τ sig) → Buf (Elt Ideal) ℓ) (ρ : Dev nD → PrngReg)

/-- The grid point's place: block row `t / 4`, block column `t / 2 % 2`, half `t % 2`. -/
theorem idx_facts (t : Fin cfg0.N) : win0_0.index t = ![t.val / 4, t.val % 2] ∧ win0_1.index t = ![3 + t.val % 2, t.val / 2 % 2]
    ∧ win0_2.index t = ![t.val / 4, t.val / 2 % 2] ∧ win0_3.index t = ![t.val / 4, t.val / 2 % 2] :=
  (by decide +kernel : ∀ t : Fin grid0.N, win0_0.index t = ![t.val / 4, t.val % 2] ∧ win0_1.index t = ![3 + t.val % 2, t.val / 2 % 2]
    ∧ win0_2.index t = ![t.val / 4, t.val / 2 % 2] ∧ win0_3.index t = ![t.val / 4, t.val / 2 % 2]) t

/-- The gradient's block at an index. -/
theorem in0_at (c : Dev nD) (t : Fin cfg0.N) (y : S1024x2048.Idx) (h0 : 1024 * (t.val / 4) + (y 0 : Nat) < 8192) (h1 : 2048 * (t.val % 2) + (y 1 : Nat) < 4096) :
    iblk m c 0 t y = m ((c : Thread nD τ).loc main_arg0) (ix2 ⟨1024 * (t.val / 4) + (y 0 : Nat), h0⟩ ⟨2048 * (t.val % 2) + (y 1 : Nat), h1⟩) := by
  obtain ⟨e, -⟩ := idx_facts t
  show m ((c : Thread nD τ).loc main_arg0) _ = _
  congr 1
  funext a; apply Fin.ext
  match a with
  | ⟨0, _⟩ => show win0_0.index t 0 * 1024 + 1 * (y 0 : Nat) = 1024 * (t.val / 4) + (y 0 : Nat); rw [e]; simp; omega
  | ⟨1, _⟩ => show win0_0.index t 1 * 2048 + 1 * (y 1 : Nat) = 2048 * (t.val % 2) + (y 1 : Nat); rw [e]; simp; omega

/-- The weights' block at an index: the rows from 6144 on. -/
theorem in1_at (c : Dev nD) (t : Fin cfg0.N) (y : S2048x1024.Idx) (h0 : 6144 + (2048 * (t.val % 2) + (y 0 : Nat)) < 16384) (h1 : 1024 * (t.val / 2 % 2) + (y 1 : Nat) < 2048) :
    iblk m c 1 t y = m ((c : Thread nD τ).loc main_arg1) (ix2 ⟨6144 + (2048 * (t.val % 2) + (y 0 : Nat)), h0⟩ ⟨1024 * (t.val / 2 % 2) + (y 1 : Nat), h1⟩) := by
  obtain ⟨-, e, -⟩ := idx_facts t
  show m ((c : Thread nD τ).loc main_arg1) _ = _
  congr 1
  funext a; apply Fin.ext
  match a with
  | ⟨0, _⟩ => show win0_1.index t 0 * 2048 + 1 * (y 0 : Nat) = 6144 + (2048 * (t.val % 2) + (y 0 : Nat)); rw [e]; simp; omega
  | ⟨1, _⟩ => show win0_1.index t 1 * 1024 + 1 * (y 1 : Nat) = 1024 * (t.val / 2 % 2) + (y 1 : Nat); rw [e]; simp; omega

/-- The block to add at an index. -/
theorem in2_at (c : Dev nD) (t : Fin cfg0.N) (y : S1024x1024.Idx) (h0 : 1024 * (t.val / 4) + (y 0 : Nat) < 8192) (h1 : 1024 * (t.val / 2 % 2) + (y 1 : Nat) < 2048) :
    iblk m c 2 t y = m ((c : Thread nD τ).loc main_arg2) (ix2 ⟨1024 * (t.val / 4) + (y 0 : Nat), h0⟩ ⟨1024 * (t.val / 2 % 2) + (y 1 : Nat), h1⟩) := by
  obtain ⟨-, -, e, -⟩ := idx_facts t
  show m ((c : Thread nD τ).loc main_arg2) _ = _
  congr 1
  funext a; apply Fin.ext
  match a with
  | ⟨0, _⟩ => show win0_2.index t 0 * 1024 + 1 * (y 0 : Nat) = 1024 * (t.val / 4) + (y 0 : Nat); rw [e]; simp; omega
  | ⟨1, _⟩ => show win0_2.index t 1 * 1024 + 1 * (y 1 : Nat) = 1024 * (t.val / 2 % 2) + (y 1 : Nat); rw [e]; simp; omega

/-- The three arrays and the whole result. -/
abbrev gA (c : Dev nD) : S8192x4096.Idx → EReal := m ((c : Thread nD τ).loc main_arg0)
abbrev gB (c : Dev nD) : S16384x2048.Idx → EReal := m ((c : Thread nD τ).loc main_arg1)
abbrev gD (c : Dev nD) : S8192x2048.Idx → EReal := m ((c : Thread nD τ).loc main_arg2)
abbrev G (c : Dev nD) : S8192x2048.Idx → EReal := prod (gA m c) (gB m c) (gD m c)

/-- A point's product at an index: half `b` of the whole sum. -/
theorem half (c : Dev nD) (t : Fin cfg0.N) (y : S1024x1024.Idx) (r : Fin 8192) (q : Fin 2048) (b : Nat) (hb : b < 2)
    (h0 : (r : Nat) = 1024 * (t.val / 4) + (y 0 : Nat)) (h1 : (q : Nat) = 1024 * (t.val / 2 % 2) + (y 1 : Nat)) (h2 : t.val % 2 = b) :
    bprod (iblk m c 0 t) (iblk m c 1 t) y
    = ∑ k : Fin 2048, gA m c (ix2 r ⟨2048 * b + (k : Nat), by omega⟩) * gB m c (ix2 ⟨6144 + (2048 * b + (k : Nat)), by omega⟩ q) := by
  subst h2
  obtain ⟨r, hr⟩ := r
  obtain ⟨q, hq⟩ := q
  obtain rfl : r = _ := h0
  obtain rfl : q = _ := h1
  refine Finset.sum_congr (M := EReal) rfl fun k _ => ?_
  congr 1
  · exact in0_at m c t (ix2 (y 0) k) _ (by show 2048 * (t.val % 2) + (k : Nat) < 4096; omega)
  · exact in1_at m c t (ix2 k (y 1)) (by show 6144 + (2048 * (t.val % 2) + (k : Nat)) < 16384; omega) _

/-- A sum of 4096 in halves. -/
theorem halves (f : Fin 4096 → EReal) : ∑ k, f k = (∑ k : Fin 2048, f ⟨k, by omega⟩) + ∑ k : Fin 2048, f ⟨2048 + k, by omega⟩ :=
  Fin.sum_univ_add (a := 2048) (b := 2048) f

/-- The two halves and the third array. -/
theorem prod_halves (A : S8192x4096.Idx → EReal) (B : S16384x2048.Idx → EReal) (D : S8192x2048.Idx → EReal) (r : Fin 8192) (q : Fin 2048) :
    (∑ k : Fin 2048, A (ix2 r ⟨2048 * 0 + (k : Nat), by omega⟩) * B (ix2 ⟨6144 + (2048 * 0 + (k : Nat)), by omega⟩ q))
    + (∑ k : Fin 2048, A (ix2 r ⟨2048 * 1 + (k : Nat), by omega⟩) * B (ix2 ⟨6144 + (2048 * 1 + (k : Nat)), by omega⟩ q)) + D (ix2 r q)
    = prod A B D (ix2 r q) := by
  show _ = (∑ k : Fin 4096, A (ix2 r k) * B (ix2 ⟨6144 + k, by omega⟩ q)) + D (ix2 r q)
  rw [halves]
  simp only [Nat.mul_zero, Nat.zero_add, Nat.mul_one]

/-- What an even point leaves in the scratch, at the point's number. -/
theorem scratch_at (c : Dev nD) (s : Fin cfg0.N) (h : s.val % 2 = 0) (y : S1024x1024.Idx) :
    (outsAt0 m c s.val s.isLt).2 y = bprod (iblk m c 0 s) (iblk m c 1 s) y := by
  rw [outsAt0_A m c s h (by omega)]
  dsimp only
  rw [sout_at]

/-- What an odd point writes back is its block of the whole result. -/
theorem flushed_eq (c : Dev nD) (t : Fin cfg0.N) (hf : (cfg0.win 3).flush t = true) :
    (Gen.dats m 0 c).flushed 3 t = ((cfg0.win 3).blk t).view.read (Elt Ideal) (G m c) := by
  have ho : t.val % 2 = 1 := (flush0_3 t).mp hf
  have ht : t.val < 32 := lt_of_lt_of_eq t.isLt N_0
  rw [Value.flushed3_B m c t (by omega) ho]
  funext y
  obtain ⟨s, hs⟩ : ∃ s : Fin cfg0.N, s.val = t.val - 1 := ⟨⟨t.val - 1, Nat.lt_of_le_of_lt (Nat.sub_le _ _) t.isLt⟩, rfl⟩
  have es : outsAt0 m c (t.val - 1) (Nat.lt_of_le_of_lt (Nat.sub_le _ _) t.isLt) = outsAt0 m c s.val s.isLt := by congr 1; exact hs.symm
  obtain ⟨-, -, -, e⟩ := idx_facts t
  have hy0 : (y 0 : Nat) < 1024 := (y 0).isLt
  have hy1 : (y 1 : Nat) < 1024 := (y 1).isLt
  show out0_B_3 (F := Ideal) c (grid0.coords t) _ _ _ _ _ _ _ _ _ _ _ _ _ _ _ _ _ ((cfg0.win 3).xinj (grid0.coords t) y) = G m c (((cfg0.win 3).blk t).view.emb y)
  have hb : ((cfg0.win 3).blk t).view.emb y = ix2 ⟨1024 * (t.val / 4) + (y 0 : Nat), by omega⟩ ⟨1024 * (t.val / 2 % 2) + (y 1 : Nat), by omega⟩ := by
    funext a; apply Fin.ext
    match a with
    | ⟨0, _⟩ => show win0_3.index t 0 * 1024 + 1 * (y 0 : Nat) = 1024 * (t.val / 4) + (y 0 : Nat); rw [e]; simp; omega
    | ⟨1, _⟩ => show win0_3.index t 1 * 1024 + 1 * (y 1 : Nat) = 1024 * (t.val / 2 % 2) + (y 1 : Nat); rw [e]; simp; omega
  obtain ⟨r, hr⟩ : ∃ r : Fin 8192, (r : Nat) = 1024 * (t.val / 4) + (y 0 : Nat) := ⟨⟨_, by omega⟩, rfl⟩
  obtain ⟨q, hq⟩ : ∃ q : Fin 2048, (q : Nat) = 1024 * (t.val / 2 % 2) + (y 1 : Nat) := ⟨⟨_, by omega⟩, rfl⟩
  have hi : ((cfg0.win 3).blk t).view.emb y = ix2 r q := by
    rw [hb]; funext a; apply Fin.ext
    match a with
    | ⟨0, _⟩ => exact hr.symm
    | ⟨1, _⟩ => exact hq.symm
  rw [out_at, hi, es, scratch_at m c s (by omega)]
  rw [half m c s _ r q 0 (by decide) (by show (r : Nat) = 1024 * (s.val / 4) + (y 0 : Nat); omega) (by show (q : Nat) = 1024 * (s.val / 2 % 2) + (y 1 : Nat); omega) (by omega)]
  rw [half m c t _ r q 1 (by decide) hr hq ho]
  rw [in2_at m c t _ (by show 1024 * (t.val / 4) + (y 0 : Nat) < 8192; omega) (by show 1024 * (t.val / 2 % 2) + (y 1 : Nat) < 2048; omega)]
  refine Eq.trans ?_ (prod_halves (gA m c) (gB m c) (gD m c) r q)
  congr 1
  show gD m c _ = gD m c _
  congr 1
  funext a; apply Fin.ext
  match a with
  | ⟨0, _⟩ => exact hr.symm
  | ⟨1, _⟩ => exact hq.symm

/-- Every index of the result is in the block of one odd point. -/
theorem cover (i : S8192x2048.Idx) : ∃ t : Fin cfg0.N, (cfg0.win 3).flush t = true ∧ i ∈ ((cfg0.win 3).blk t).view.set :=
  (Value.covered_iff3 i).2 (by have h0 : (i 0 : Nat) < 8192 := (i 0).isLt; have h1 : (i 1 : Nat) < 2048 := (i 1).isLt; omega)

/-- The result array after the run. -/
theorem final (c : Dev nD) : (Gen.dats m 0 c).arrAt 3 cfg0.N = G m c :=
  (Gen.dats m 0 c).arrAt_eq_of_cover 3 _ (fun t hf => flushed_eq m c t hf) cover

end Cert.Kernel3Ideal.DxnGate

namespace Cert.Reference3Ideal.DxnGate

open Idealize.ShloMosaic Idealize.ShloMosaic.TcCoe Idealize.SL.Sem
open Cert.Reference3Ideal Cert.Reference3Ideal.Gen

/-- The reference's derivative at an index. -/
theorem ref_eq (A : S8192x4096.Idx → EReal) (B : S16384x2048.Idx → EReal) (D : S8192x2048.Idx → EReal) :
    (addf (F := Ideal) (D : FVec Ideal S8192x2048 .f32) (Host.dotGeneral (F := Ideal) dot_S8192x4096_S2048x4096_S8192x2048_1_1_0_0_n_n none
      (extf (F := Ideal) .f32 (A : FVec Ideal S8192x4096 .bf16) bitsLt_bf16_f32)
      (transpose S2048x4096 [1, 0] (extf (F := Ideal) .f32 (extractStridedSlice S4096x2048 ![6144, 0] (B : FVec Ideal S16384x2048 .bf16) slices_S16384x2048_S4096x2048_6144_0) bitsLt_bf16_f32) transposes_S4096x2048_S2048x4096_1_0)) : FVec Ideal S8192x2048 .f32)
    = Cert.Kernel3Ideal.DxnGate.prod A B D := by
  funext j
  pointwise [Cert.Kernel3Ideal.DxnGate.prod]
  exact add_comm _ _

end Cert.Reference3Ideal.DxnGate

namespace Cert.DxnGate

open Idealize.ShloMosaic Idealize.ShloMosaic.TcCoe Idealize.SL.Sem

theorem frameR : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Kernel3Ideal.DxnGate.G m c, (θ_run Cert.Kernel3Ideal.defs _ _).mono
    (fun r h c => ⟨(h c).1.trans (Cert.Kernel3Ideal.DxnGate.final m c), (h c).2⟩) (Cert.Kernel3Ideal.Value.run_blocks m g), ?_⟩
  refine (θ_run Cert.Reference3Ideal.defs _ _).mono (fun r h c => ?_) (Cert.Reference3Ideal.Value.run (F := Ideal) m' g')
  obtain ⟨h0, hk⟩ := h c
  obtain ⟨e0, e1, e2⟩ := hagree c
  refine ⟨h0.trans ?_, hk⟩
  rw [e0, e1, e2]
  exact Cert.Reference3Ideal.DxnGate.ref_eq _ _ _

end Cert.DxnGate
-- ==== Proof.DwOut.lean ====
/- The gradient of the output projection's weights: `Kernel4Ideal`'s run leaves, block by block, the transposed product of the
   mixed activations and the gradient, which is what the derivative of the reference is. -/
module

public import proofs.«01_k».proof.Defs
public import proofs.«01_k».proof.Proof.Gen.Kernel4Ideal.Value
public import proofs.«01_k».proof.Proof.Gen.Reference4Ideal.Run
public import Idealize.ShloMosaic.Lib.Pointwise
public import Idealize.ShloMosaic.Lib.WholeRead
public import Idealize.ShloMosaic.Lib.Pipeline.Value
public import Idealize.ShloMosaic.Lib.Pipeline.ReadBack
public import Idealize.ShloMosaic.Lib.Quiescent
public import Idealize.ShloMosaic.Lib.Tactic

@[expose] public section

set_option maxRecDepth 16384

noncomputable section

namespace Cert.Kernel4Ideal.DwOut

open Idealize.ShloMosaic Idealize.ShloMosaic.TcCoe Idealize.SL.Sem
open Cert.Kernel4Ideal Cert.Kernel4Ideal.Gen

/-- The transposed product, one entry: the activations' column against the gradient's column. -/
def prod (A B : S8192x2048.Idx → EReal) : S2048x2048.Idx → EReal := fun i =>
  ∑ k : Fin 8192, A (ix2 k (i 0)) * B (ix2 k (i 1))

theorem hz : (![0, 0] : Fin 2 → Nat) = fun _ => 0 := funext fun a => by fin_cases a <;> rfl

section
variable (c : Dev nD) (i : grid0.Coords) (arg3 : Memref sig .tc .vmem S8192x1024 .bf16) (harg3 : arg3.IsWhole) (arg4 : Memref sig .tc .vmem S8192x512 .bf16) (harg4 : arg4.IsWhole) (arg5 : Memref sig .tc .vmem S1024x512 .bf16) (harg5 : arg5.IsWhole) (arg6 : Memref sig .tc .vmem S1024x512 .f32) (harg6 : arg6.IsWhole)
  (x0 : Vec Ideal S8192x1024 .bf16) (x1 : Vec Ideal S8192x512 .bf16)

/-- What a point leaves in its output block: the transposed product of its two input blocks. -/
theorem out_at (y : S1024x512.Idx) : out0_A_2 (F := Ideal) c i arg3 harg3 arg4 harg4 arg5 harg5 arg6 harg6 x0 x1 y
    = ∑ k : Fin 8192, x0 (ix2 k (y 0)) * x1 (ix2 k (y 1)) := by
  unfold out0_A_2
  rw [View.read_writes_junk_eq_canon]
  show View.canon (_ :: []) y = _
  rw [View.canon_unit_zero hz]
  simp only [View.readAt_eq_ld, harg3.read_unread, harg4.read_unread]
  rw [View.ld_unit_zero hz, View.ld_unit_zero hz]
  pointwise [k0_pay1]
end

variable (m : (ℓ : Loc nD τ sig) → Buf (Elt Ideal) ℓ) (ρ : Dev nD → PrngReg)

/-- The grid point's place: block row `t / 4`, block column `t % 4`. -/
theorem idx_facts (t : Fin cfg0.N) : win0_0.index t = ![0, t.val / 4] ∧ win0_1.index t = ![0, t.val % 4] ∧ win0_2.index t = ![t.val / 4, t.val % 4] :=
  (by decide +kernel : ∀ t : Fin grid0.N, win0_0.index t = ![0, t.val / 4] ∧ win0_1.index t = ![0, t.val % 4] ∧ win0_2.index t = ![t.val / 4, t.val % 4]) t

/-- The activations' block at an index: every row, the point's columns. -/
theorem in0_at (c : Dev nD) (t : Fin cfg0.N) (y : S8192x1024.Idx) (h : 1024 * (t.val / 4) + (y 1 : Nat) < 2048) :
    iblk m c 0 t y = m ((c : Thread nD τ).loc main_arg0) (ix2 (y 0) ⟨1024 * (t.val / 4) + (y 1 : Nat), h⟩) := by
  obtain ⟨e, -, -⟩ := idx_facts t
  show m ((c : Thread nD τ).loc main_arg0) _ = _
  congr 1
  funext a; apply Fin.ext
  match a with
  | ⟨0, _⟩ => show win0_0.index t 0 * 8192 + 1 * (y 0 : Nat) = (y 0 : Nat); rw [e]; simp
  | ⟨1, _⟩ => show win0_0.index t 1 * 1024 + 1 * (y 1 : Nat) = 1024 * (t.val / 4) + (y 1 : Nat); rw [e]; simp; omega

/-- The gradient's block at an index: every row, the point's columns. -/
theorem in1_at (c : Dev nD) (t : Fin cfg0.N) (y : S8192x512.Idx) (h : 512 * (t.val % 4) + (y 1 : Nat) < 2048) :
    iblk m c 1 t y = m ((c : Thread nD τ).loc main_arg1) (ix2 (y 0) ⟨512 * (t.val % 4) + (y 1 : Nat), h⟩) := by
  obtain ⟨-, e, -⟩ := idx_facts t
  show m ((c : Thread nD τ).loc main_arg1) _ = _
  congr 1
  funext a; apply Fin.ext
  match a with
  | ⟨0, _⟩ => show win0_1.index t 0 * 8192 + 1 * (y 0 : Nat) = (y 0 : Nat); rw [e]; simp
  | ⟨1, _⟩ => show win0_1.index t 1 * 512 + 1 * (y 1 : Nat) = 512 * (t.val % 4) + (y 1 : Nat); rw [e]; simp; omega

/-- The whole result. -/
abbrev G (c : Dev nD) : S2048x2048.Idx → EReal := prod (m ((c : Thread nD τ).loc main_arg0)) (m ((c : Thread nD τ).loc main_arg1))

/-- What a point writes back is its block of the whole result. -/
theorem flushed_eq (c : Dev nD) (t : Fin cfg0.N) : (Gen.dats m 0 c).flushed 2 t = ((cfg0.win 2).blk t).view.read (Elt Ideal) (G m c) := by
  rw [Value.flushed2_A]
  funext y
  have ht : t.val < 8 := lt_of_lt_of_eq t.isLt N_0
  obtain ⟨-, -, e⟩ := idx_facts t
  have hy0 : (y 0 : Nat) < 1024 := (y 0).isLt
  have hy1 : (y 1 : Nat) < 512 := (y 1).isLt
  show out0_A_2 (F := Ideal) c (grid0.coords t) _ _ _ _ _ _ _ _ _ _ ((cfg0.win 2).xinj (grid0.coords t) y) = G m c (((cfg0.win 2).blk t).view.emb y)
  have hb : ((cfg0.win 2).blk t).view.emb y = ix2 ⟨1024 * (t.val / 4) + (y 0 : Nat), by omega⟩ ⟨512 * (t.val % 4) + (y 1 : Nat), by omega⟩ := by
    funext a; apply Fin.ext
    match a with
    | ⟨0, _⟩ => show win0_2.index t 0 * 1024 + 1 * (y 0 : Nat) = 1024 * (t.val / 4) + (y 0 : Nat); rw [e]; simp; omega
    | ⟨1, _⟩ => show win0_2.index t 1 * 512 + 1 * (y 1 : Nat) = 512 * (t.val % 4) + (y 1 : Nat); rw [e]; simp; omega
  rw [out_at, hb]
  refine Finset.sum_congr (M := EReal) rfl fun k _ => ?_
  congr 1
  · exact in0_at m c t _ (by show 1024 * (t.val / 4) + (y 0 : Nat) < 2048; omega)
  · exact in1_at m c t _ (by show 512 * (t.val % 4) + (y 1 : Nat) < 2048; omega)

/-- Every index of the result is in the block of one point. -/
theorem cover (i : S2048x2048.Idx) : ∃ t : Fin cfg0.N, (cfg0.win 2).flush t = true ∧ i ∈ ((cfg0.win 2).blk t).view.set := by
  have h0 : (i 0 : Nat) < 2048 := (i 0).isLt
  have h1 : (i 1 : Nat) < 2048 := (i 1).isLt
  obtain ⟨t, ht⟩ : ∃ t : Fin cfg0.N, t.val = 4 * ((i 0 : Nat) / 1024) + (i 1 : Nat) / 512 := ⟨⟨_, lt_of_lt_of_eq (by omega) N_0.symm⟩, rfl⟩
  refine ⟨t, flush0_2 t, ?_⟩
  obtain ⟨-, -, e⟩ := idx_facts t
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024; rw [e]; simp; omega
  | ⟨1, _⟩ => show win0_2.index t 1 * 512 ≤ (i 1 : Nat) ∧ (i 1 : Nat) < win0_2.index t 1 * 512 + 512; rw [e]; simp; omega

/-- The result array after the run. -/
theorem final (c : Dev nD) : (Gen.dats m 0 c).arrAt 2 cfg0.N = G m c :=
  (Gen.dats m 0 c).arrAt_eq_of_cover 2 _ (fun t _ => flushed_eq m c t) cover

end Cert.Kernel4Ideal.DwOut

namespace Cert.Reference4Ideal.DwOut

open Idealize.ShloMosaic Idealize.ShloMosaic.TcCoe Idealize.SL.Sem
open Cert.Reference4Ideal Cert.Reference4Ideal.Gen

/-- The reference's derivative at an index. -/
theorem ref_eq (A B : S8192x2048.Idx → EReal) :
    (truncf (F := Ideal) .bf16 (transpose S2048x2048 [1, 0] (Host.dotGeneral (F := Ideal) dot_S8192x2048_S8192x2048_S2048x2048_0_0_1_1_n_n none
      (extf (F := Ideal) .f32 (B : FVec Ideal S8192x2048 .bf16) bitsLt_bf16_f32) (extf (F := Ideal) .f32 (A : FVec Ideal S8192x2048 .bf16) bitsLt_bf16_f32))
      transposes_S2048x2048_S2048x2048_1_0) bitsLt_bf16_f32 : FVec Ideal S2048x2048 .bf16)
    = Cert.Kernel4Ideal.DwOut.prod A B := by
  funext j
  pointwise [Cert.Kernel4Ideal.DwOut.prod]
  exact Finset.sum_congr rfl fun k _ => mul_comm _ _

end Cert.Reference4Ideal.DwOut

namespace Cert.DwOut

open Idealize.ShloMosaic Idealize.ShloMosaic.TcCoe Idealize.SL.Sem

theorem frameR : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal (hKernel4Ideal := Cert.Kernel4Ideal.Gen.facts)
    (hReference4Ideal := Cert.Reference4Ideal.Gen.facts) := by
  intro m g m' g' _ hagree
  refine ⟨fun c => Cert.Kernel4Ideal.DwOut.G m c, (θ_run Cert.Kernel4Ideal.defs _ _).mono
    (fun r h c => ⟨(h c).1.trans (Cert.Kernel4Ideal.DwOut.final m c), (h c).2⟩) (Cert.Kernel4Ideal.Value.run_blocks m g), ?_⟩
  refine (θ_run Cert.Reference4Ideal.defs _ _).mono (fun r h c => ?_) (Cert.Reference4Ideal.Value.run (F := Ideal) m' g')
  obtain ⟨h0, hk⟩ := h c
  obtain ⟨e0, e1⟩ := hagree c
  refine ⟨h0.trans ?_, hk⟩
  rw [e0, e1]
  exact Cert.Reference4Ideal.DwOut.ref_eq _ _

end Cert.DwOut
-- ==== Proof.InProj.lean ====
/- The projection of the normalised input: `Kernel5Ideal`'s run, over any float values. The first of the eight points of a
   row block normalises the block of the input into a scratch buffer and into the block of the first result; every point
   multiplies the scratch buffer with its block of the weights. The first result is written back by the last of the eight
   points, which holds what the first one left. -/
module

public import proofs.«01_k».proof.Defs
public import proofs.«01_k».proof.Proof.Gen.Kernel5Ideal.Skeleton
public import proofs.«01_k».proof.Proof.Gen.Kernel5Ideal.Frame
public import Idealize.ShloMosaic.Lib.Pipeline.TableIdle
public import Idealize.ShloMosaic.Lib.Pipeline.Value
public import Idealize.ShloMosaic.Lib.Pipeline.ReadBack
public import Idealize.ShloMosaic.Lib.Quiescent
public import Idealize.ShloMosaic.Lib.Claim

@[expose] public section

set_option maxRecDepth 16384

noncomputable section

namespace Cert.Kernel5Ideal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

theorem mem_whole {s : Shape} {off : Fin s.rank → Nat} (h : off = fun _ => 0) (inb : ∀ a, off a + s.size a ≤ s.size a) (y : s.Idx) :
    y ∈ (Rect.unit off s.size inb).set := by
  subst h
  rw [Rect.mem_set_unit]
  exact fun a => ⟨Nat.zero_le _, by rw [Nat.zero_add]; exact (y a).isLt⟩

/-- A buffer stored whole holds what was stored. -/
theorem read_whole {s : Shape} {e : EltTy} {sp : Space} (M : Memref sig .tc sp s e) (f) {off : Fin s.rank → Nat}
    (h : off = fun _ => 0) (inb : ∀ a, off a + s.size a ≤ s.size a) (w : s.Idx → Elt F e) :
    M.view.read (Elt F) (M.view.writes (Elt F) f [⟨Rect.unit off s.size inb, w⟩]) = w := by
  rw [View.read_writes_eq_canon, View.canon_unit_zero h]
  exact fun y => ⟨_, List.mem_singleton_self _, mem_whole h inb y⟩

section
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x2048 .bf16) (harg7 : arg7.IsWhole)
  (x : Vec F S1024x2048 .f32) (w : Vec F S1x2048 .f32) (b : Vec F S2048x2048 .bf16)

set_option maxHeartbeats 1600000 in
/-- The body at the first point of a row block. -/
theorem run_A (hc : k0_cond1 i = 1#1) (E : Set ℕ) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x ∗ owns (c : Thread nD τ) arg3 fullShare w ∗ owns (c : Thread nD τ) arg4 fullShare b
            ∗ owns (c : Thread nD τ) arg5 fullShare (k0_pay1 x w) ∗ owns (c : Thread nD τ) arg6 fullShare (k0_pay3 (k0_pay2 x w) b)
            ∗ owns (c : Thread nD τ) arg7 fullShare (k0_pay2 x w)) -∗ K ⟨⟩))
      ⊢ wp frame (wpE (defs₀ (F := F)) Variants.none c none) E (cc0_in_proj i arg2 harg2 arg3 harg3 arg4 harg4 arg5 harg5 arg6 harg6 arg7 harg7) K := by
  simp only [cc0_in_proj_eq_skeleton]; unfold cc0_in_proj_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf2; obtain rfl := harg3.eq_unread hf3; obtain rfl := harg4.eq_unread hf4
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (read_whole arg5 _ hz _ _).trans ?_
    simp only [View.readAt_eq_ld, harg2.read_unread, harg3.read_unread]
    rw [View.ld_unit_zero hz, View.ld_unit_zero hz]
  isplitl [H6]
  · iexists _; isplitr
    swap; · iexact H6
    ipureintro
    refine (read_whole arg6 _ hz _ _).trans ?_
    unfold run_A.sl.v3 run_A.sl.H7_1
    rw [View.readCov_eq_canon', View.canon_unit_zero hz]
    refine congrArg₂ k0_pay3 ?_ ?_
    · refine (show _ = View.ld (Val := Elt F) (e' := .bf16) (k0_pay2 _ _) (Rect.unit ![0, 0] S1024x2048.size inb_S1024x2048_S1024x2048_0_0) from rfl).trans ?_
      rw [View.ld_unit_zero hz]
      simp only [View.readAt_eq_ld, harg2.read_unread, harg3.read_unread]
      rw [View.ld_unit_zero hz, View.ld_unit_zero hz]
    · simp only [View.readAt_eq_ld, harg4.read_unread]
      rw [View.ld_unit_zero hz]
  iexists _; isplitr
  swap; · iexact H7
  ipureintro
  refine (read_whole arg7 _ hz _ _).trans ?_
  simp only [View.readAt_eq_ld, harg2.read_unread, harg3.read_unread]
  rw [View.ld_unit_zero hz, View.ld_unit_zero hz]

/-- The body at a later point of the row block: the scratch buffer is read and kept, the first result's block not touched. -/
theorem run_B (s : Vec F S1024x2048 .bf16) (hc : ¬k0_cond1 i = 1#1) (E : Set ℕ) (K : PUnit → sProp 𝕄) :
    iprop(owns (c : Thread nD τ) arg4 fullShare b ∗ (∃ d, owns (c : Thread nD τ) arg6 fullShare d) ∗ owns (c : Thread nD τ) arg7 fullShare s
        ∗ (iprop(owns (c : Thread nD τ) arg4 fullShare b ∗ owns (c : Thread nD τ) arg6 fullShare (k0_pay3 s b)
            ∗ owns (c : Thread nD τ) arg7 fullShare s) -∗ K ⟨⟩))
      ⊢ wp frame (wpE (defs₀ (F := F)) Variants.none c none) E (cc0_in_proj i arg2 harg2 arg3 harg3 arg4 harg4 arg5 harg5 arg6 harg6 arg7 harg7) K := by
  simp only [cc0_in_proj_eq_skeleton]; unfold cc0_in_proj_skel
  unfold owns
  iintro ⟨⟨%f4, %hf4, H4⟩, ⟨%d6, %f6, -, H6⟩, ⟨%f7, %hf7, H7⟩, Hk⟩
  obtain rfl := harg4.eq_unread hf4; obtain rfl := harg7.eq_unread hf7
  sl_exec (disch := first | sl_exact hc)
  sl_step
  iapply Hk
  isplitl [H4]
  · iexists _; isplitr; · ipureintro; exact harg4.read_unread _
    iexact H4
  isplitl [H6]
  · iexists _; isplitr
    swap; · iexact H6
    ipureintro
    refine (read_whole arg6 _ hz _ _).trans ?_
    simp only [View.readAt_eq_ld, harg4.read_unread, harg7.read_unread]
    rw [View.ld_unit_zero hz, View.ld_unit_zero hz]
  iexists _; isplitr; · ipureintro; exact harg7.read_unread _
  iexact H7
end

/-! ## The pipeline's proof data -/

variable (m : (ℓ : Loc nD τ sig) → Buf (Elt F) ℓ) (ρ : Dev nD → PrngReg)

/-- The first point of `t`'s row block. -/
abbrev base (t : Fin cfg0.N) : Fin cfg0.N := ⟨t.val - t.val % 8, Nat.lt_of_le_of_lt (Nat.sub_le _ _) t.isLt⟩

theorem base_first (t : Fin cfg0.N) (h : t.val % 8 = 0) : base t = t := Fin.ext (by show t.val - t.val % 8 = t.val; omega)

theorem base_later (t : Fin cfg0.N) (h : ¬t.val % 8 = 0) (hl) : base t = base ⟨t.val - 1, hl⟩ :=
  Fin.ext (by show t.val - t.val % 8 = t.val - 1 - (t.val - 1) % 8; omega)

/-- The normalised block of `t`'s row block, as the first result's buffer and as the scratch buffer hold it, -/
def xs1 (c : Dev nD) (t : Fin cfg0.N) : Vec F S1024x2048 .bf16 := k0_pay1 (iblk m c 0 (base t)) (iblk m c 1 (base t))
def xs2 (c : Dev nD) (t : Fin cfg0.N) : Vec F S1024x2048 .bf16 := k0_pay2 (iblk m c 0 (base t)) (iblk m c 1 (base t))
/-- and the product `t` leaves. -/
def pr (c : Dev nD) (t : Fin cfg0.N) : Vec F S1024x2048 .bf16 := k0_pay3 (xs2 m c t) (iblk m c 2 t)

/-- The first point of a row block is the one that normalises. -/
theorem cond_iff : ∀ t : Fin cfg0.N, k0_cond1 (grid0.coords t) = 1#1 ↔ t.val % 8 = 0 :=
  (by decide +kernel : ∀ t : Fin grid0.N, k0_cond1 (grid0.coords t) = 1#1 ↔ t.val % 8 = 0)

theorem idle3 (t : Fin cfg0.N) : cfg0.idle 3 (grid0.coords t) = !(decide (t.val % 8 = 0)) :=
  (by decide +kernel : ∀ t : Fin grid0.N, cfg0.idle 3 (grid0.coords t) = !(decide (t.val % 8 = 0))) t

/-- The first result's buffer holds nothing of the body's at the first points of the row blocks only. -/
theorem fresh3 (n : ℕ) (hn : n ≤ cfg0.N) : cfg0.fresh 3 n = decide (n % 8 = 0) :=
  cfg0.fresh_tab 3 (fun n => decide (n % 8 = 0)) rfl
    (by decide +kernel : ∀ t : Fin grid0.N, decide ((t.val + 1) % 8 = 0) = ((cfg0.win 3).flush t || (cfg0.idle 3 (cfg0.grid.coords t) && decide (t.val % 8 = 0)))) n hn

abbrev scM : Memref sig .tc .vmem S1024x2048 .bf16 := Memref.whole cc0_scratch0

/-- The invariant before a point: the scratch buffer at what the point before left, and the generator register. -/
def PhiS (c : Dev nD) : (n : ℕ) → n ≤ cfg0.N → sProp 𝕄
  | 0, _ => Pipeline.ΦA spec0 c
  | n + 1, hn => iprop(owns (c : Thread nD τ) scM fullShare (xs2 m c ⟨n, hn⟩) ∗ (∃ r, prngReg c r))

theorem PhiS_pos (c : Dev nD) (n : ℕ) (h : n ≤ cfg0.N) (hn : n ≠ 0) :
    PhiS m c n h = iprop(owns (c : Thread nD τ) scM fullShare (xs2 m c ⟨n - 1, by omega⟩) ∗ (∃ r, prngReg c r)) := by
  cases n with
  | zero => exact absurd rfl hn
  | succ n => rfl

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- Before any point the scratch buffer holds something. -/
theorem PhiS_any (c : Dev nD) (n : ℕ) (h : n ≤ cfg0.N) : PhiS m c n h ⊢ (Pipeline.ΦA spec0 c : sProp 𝕄) := by
  cases n with
  | zero => exact Idealize.SL.BI.Entails.refl _
  | succ n =>
    rw [PhiS_pos m c _ _ (Nat.succ_ne_zero n), PhiA_eq]
    iintro ⟨H, Hg⟩
    isplitl [H]
    · iexists _; iexact H
    iexact Hg

theorem PhiS_split (c : Dev nD) (n : ℕ) (h : n ≤ cfg0.N) {R Q : sProp 𝕄}
    (hk : iprop(((∃ d, owns (c : Thread nD τ) scM fullShare d) ∗ (∃ r, prngReg c r)) ∗ R) ⊢ Q) : iprop(PhiS m c n h ∗ R) ⊢ Q :=
  (sep_mono_l ((PhiS_any m c n h).trans (by rw [PhiA_eq]))).trans hk

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => xs1 m c t
    | ⟨4, _⟩ => pr m c t
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = xs1 m c t := by dsimp only [dats]
theorem after4 (c : Dev nD) (t : Fin cfg0.N) : (dats m 0 c).after 4 t = pr m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- The first result's buffer at a later point of a row block: what the first point left. -/
theorem before3 (c : Dev nD) (t : Fin cfg0.N) (h : ¬t.val % 8 = 0) (d) : (dats m 0 c).before 3 t d = xs1 m c t := by
  rw [(dats m 0 c).before_out_traj 3 rfl (fun _ _ => rfl) (fun t ht hi hf => ?_) t.val t rfl d]
  · rw [fresh3 _ (Nat.le_of_lt t.isLt), decide_eq_false h, if_neg Bool.false_ne_true, after3]
    unfold xs1; rw [base_later t h]
  · rw [fresh3 _ (Nat.le_of_lt t.isLt)] at hf
    rw [after3, after3]; unfold xs1; rw [base_later t (of_decide_eq_false hf)]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- A window that is live at a point is left at what the proof data says. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The first result's buffer, handed back as it was found at a later point of a row block. -/
theorem leaves3 (c : Dev nD) (t : Fin cfg0.N) (h : ¬t.val % 8 = 0) :
    (owns (c : Thread nD τ) (st0_3 t) fullShare (xs1 m c t) : sProp 𝕄) ⊢ (dats m 0 c).leavesExact 3 t := by
  have hi : cfg0.idle 3 (grid0.coords t) = true := by rw [idle3, decide_eq_false h]; rfl
  by_cases hf : (cfg0.win 3).flush t = true
  · unfold Dat.leavesExact; rw [hi, hf, after3]
  · rw [Dat.leavesExact_idle (dats m 0 c) 3 t hi (Bool.not_eq_true _ ▸ hf)]
    iintro H
    iexists (fun _ => Classical.arbitrary _)
    rw [before3 m c t h]
    iexact H

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = iprop(owns (c : Thread nD τ) scM fullShare (xs2 m c t) ∗ (∃ r, prngReg c r)) from rfl]
  rw [show (dats m 0 c).Φ t.castSucc = PhiS m c t.val (Nat.le_of_lt t.isLt) from by
    dsimp only [dats]; exact Pipeline.Dat.Φ_castSucc (PhiS m c) t]
  rw [leaves_live m c 0 t rfl, leaves_live m c 1 t rfl, leaves_live m c 2 t rfl, leaves_live m c 4 t rfl, after0, after1, after2, after4]
  by_cases h : t.val % 8 = 0
  · rw [leaves_live m c 3 t (by rw [idle3, decide_eq_true h]; rfl), after3]
    have e1 : xs1 m c t = k0_pay1 (iblk m c 0 t) (iblk m c 1 t) := by unfold xs1; rw [base_first t h]
    have e2 : xs2 m c t = k0_pay2 (iblk m c 0 t) (iblk m c 1 t) := by unfold xs2; rw [base_first t h]
    unfold pr
    rw [e1, e2]
    refine PhiS_split m c _ _ ?_
    iintro ⟨⟨HS, Hg⟩, Ho, ⟨%d0, H0⟩, ⟨%d1, H1⟩, ⟨%d2, H2⟩, ⟨%d3, H3⟩, ⟨%d4, H4⟩⟩
    iapply (run_A c (grid0.coords t) _ _ _ _ _ _ _ _ _ _ _ _ (iblk m c 0 t) (iblk m c 1 t) (iblk m c 2 t) ((cond_iff t).mpr h) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · have hz : t.val ≠ 0 := fun e => h (by rw [e])
    rw [PhiS_pos m c _ _ hz]
    have e2 : xs2 m c ⟨t.val - 1, Nat.lt_of_le_of_lt (Nat.sub_le _ _) t.isLt⟩ = xs2 m c t := by unfold xs2; rw [base_later t h]
    rw [e2]
    simp only [before3 m c t h]
    unfold pr
    iintro ⟨⟨HS, Hg⟩, Ho, ⟨%d0, H0⟩, ⟨%d1, H1⟩, ⟨%d2, H2⟩, ⟨%d3, H3⟩, ⟨%d4, H4⟩⟩
    iapply (run_B c (grid0.coords t) _ _ _ _ _ _ _ _ _ _ _ _ (iblk m c 2 t) (xs2 m c t) (fun e => h ((cond_iff t).mp e)) Set.univ _)
    isplitl [H2]; · iexact H2
    isplitl [H4]; · iexists _; iexact H4
    isplitl [HS]; · iexact HS
    iintro ⟨H2, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iapply (leaves3 m c t h); iexact H3
    iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hout (c : Dev nD) : (dats m 0 c).Φ (Fin.last cfg0.N) ⊢ Pipeline.ΦA spec0 c := by
  rw [show (dats m 0 c).Φ (Fin.last cfg0.N) = PhiS m c cfg0.N (le_refl _) from rfl]
  exact PhiS_any m c _ _

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Idealize.SL.BI.Entails.refl _) (hout := fun c => hout m c)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.Kernel5Ideal.InProj
-- ==== Proof.InProjValue.lean ====
/- The projection of the normalised input: what `Kernel5Ideal`'s run leaves is the normalised input and its product with
   the weights, which is what the reference computes. -/
module

public import proofs.«01_k».proof.Proof.InProj
public import proofs.«01_k».proof.Proof.Gen.Reference5Ideal.Run
public import proofs.«01_k».proof.Proof.Gen.Kernel5
public import Idealize.ShloMosaic.Lib.Pointwise
public import Idealize.ShloMosaic.Lib.WholeRead
public import Idealize.ShloMosaic.Lib.Tactic

@[expose] public section

set_option maxRecDepth 16384

noncomputable section

namespace Cert.Kernel5Ideal.InProj

open Idealize.ShloMosaic Idealize.ShloMosaic.TcCoe Idealize.SL.Sem
open Cert.Kernel5Ideal Cert.Kernel5Ideal.Gen

/-- One entry of a row scaled to mean square one, weighted. -/
def scaled (x : Fin 2048 → EReal) (w : Fin 2048 → EReal) (d : Fin 2048) : EReal :=
  x d * Ideal.rsqrt (Ideal.div (∑ k, x k * x k) (Ideal.ofBits .f32 0x45000000#32) + Ideal.ofBits .f32 0x3727C5AC#32) * w d

/-- The normalised input, -/
def nrm (X : S8192x2048.Idx → EReal) (W : S1x2048.Idx → EReal) : S8192x2048.Idx → EReal := fun i =>
  scaled (fun k => X (ix2 (i 0) k)) (fun k => W (ix2 0 k)) (i 1)
/-- and its product with the weights, one entry: a row of the normalised input against a row of the weights. -/
def prj (X : S8192x2048.Idx → EReal) (W : S1x2048.Idx → EReal) (B : S16384x2048.Idx → EReal) : S8192x16384.Idx → EReal := fun i =>
  ∑ k : Fin 2048, scaled (fun k => X (ix2 (i 0) k)) (fun k => W (ix2 0 k)) k * B (ix2 (i 1) k)

theorem pay1_at (x : Vec Ideal S1024x2048 .f32) (w : Vec Ideal S1x2048 .f32) (y : S1024x2048.Idx) :
    k0_pay1 (F := Ideal) x w y = scaled (fun k => x (ix2 (y 0) k)) (fun k => w (ix2 0 k)) (y 1) := by
  pointwise [k0_pay1, scaled]

theorem pay2_at (x : Vec Ideal S1024x2048 .f32) (w : Vec Ideal S1x2048 .f32) (y : S1024x2048.Idx) :
    k0_pay2 (F := Ideal) x w y = scaled (fun k => x (ix2 (y 0) k)) (fun k => w (ix2 0 k)) (y 1) := by
  pointwise [k0_pay2, k0_pay1, scaled]

theorem pay3_at (s : Vec Ideal S1024x2048 .bf16) (b : Vec Ideal S2048x2048 .bf16) (y : S1024x2048.Idx) :
    k0_pay3 (F := Ideal) s b y = ∑ k : Fin 2048, s (ix2 (y 0) k) * b (ix2 (y 1) k) := by
  pointwise [k0_pay3]

variable (m : (ℓ : Loc nD τ sig) → Buf (Elt Ideal) ℓ) (ρ : Dev nD → PrngReg)

/-- The grid point's place: block row `t / 8`, block column `t % 8`. -/
theorem idx_facts (t : Fin cfg0.N) : win0_0.index t = ![t.val / 8, 0] ∧ win0_1.index t = ![0, 0] ∧ win0_2.index t = ![t.val % 8, 0]
    ∧ win0_3.index t = ![t.val / 8, 0] ∧ win0_4.index t = ![t.val / 8, t.val % 8] :=
  (by decide +kernel : ∀ t : Fin grid0.N, win0_0.index t = ![t.val / 8, 0] ∧ win0_1.index t = ![0, 0] ∧ win0_2.index t = ![t.val % 8, 0]
    ∧ win0_3.index t = ![t.val / 8, 0] ∧ win0_4.index t = ![t.val / 8, t.val % 8]) t

/-- The input's block at an index. -/
theorem in0_at (c : Dev nD) (t : Fin cfg0.N) (y : S1024x2048.Idx) (h : 1024 * (t.val / 8) + (y 0 : Nat) < 8192) :
    iblk m c 0 t y = m ((c : Thread nD τ).loc main_arg0) (ix2 ⟨1024 * (t.val / 8) + (y 0 : Nat), h⟩ (y 1)) := by
  obtain ⟨e, -⟩ := idx_facts t
  show m ((c : Thread nD τ).loc main_arg0) _ = _
  congr 1
  funext a; apply Fin.ext
  match a with
  | ⟨0, _⟩ => show win0_0.index t 0 * 1024 + 1 * (y 0 : Nat) = 1024 * (t.val / 8) + (y 0 : Nat); rw [e]; simp; omega
  | ⟨1, _⟩ => show win0_0.index t 1 * 2048 + 1 * (y 1 : Nat) = (y 1 : Nat); rw [e]; simp

/-- The norm's weights. -/
theorem in1_at (c : Dev nD) (t : Fin cfg0.N) (y : S1x2048.Idx) : iblk m c 1 t y = m ((c : Thread nD τ).loc main_arg1) y := by
  obtain ⟨-, e, -⟩ := idx_facts t
  show m ((c : Thread nD τ).loc main_arg1) _ = _
  congr 1
  funext a; apply Fin.ext
  match a with
  | ⟨0, _⟩ => show win0_1.index t 0 * 1 + 1 * (y 0 : Nat) = (y 0 : Nat); rw [e]; simp
  | ⟨1, _⟩ => show win0_1.index t 1 * 2048 + 1 * (y 1 : Nat) = (y 1 : Nat); rw [e]; simp

/-- The projection's weights: a block of rows. -/
theorem in2_at (c : Dev nD) (t : Fin cfg0.N) (y : S2048x2048.Idx) (h : 2048 * (t.val % 8) + (y 0 : Nat) < 16384) :
    iblk m c 2 t y = m ((c : Thread nD τ).loc main_arg2) (ix2 ⟨2048 * (t.val % 8) + (y 0 : Nat), h⟩ (y 1)) := by
  obtain ⟨-, -, e, -⟩ := idx_facts t
  show m ((c : Thread nD τ).loc main_arg2) _ = _
  congr 1
  funext a; apply Fin.ext
  match a with
  | ⟨0, _⟩ => show win0_2.index t 0 * 2048 + 1 * (y 0 : Nat) = 2048 * (t.val % 8) + (y 0 : Nat); rw [e]; simp; omega
  | ⟨1, _⟩ => show win0_2.index t 1 * 2048 + 1 * (y 1 : Nat) = (y 1 : Nat); rw [e]; simp

/-- The whole results. -/
abbrev G3 (c : Dev nD) : S8192x2048.Idx → EReal := nrm (m ((c : Thread nD τ).loc main_arg0)) (m ((c : Thread nD τ).loc main_arg1))
abbrev G4 (c : Dev nD) : S8192x16384.Idx → EReal :=
  prj (m ((c : Thread nD τ).loc main_arg0)) (m ((c : Thread nD τ).loc main_arg1)) (m ((c : Thread nD τ).loc main_arg2))

/-- The row the first point of `t`'s row block normalises. -/
theorem row_at (c : Dev nD) (t : Fin cfg0.N) (r : Fin 1024) (d : Fin 2048) (h : 1024 * (t.val / 8) + (r : Nat) < 8192) :
    scaled (fun k => iblk m c 0 (base t) (ix2 r k)) (fun k => iblk m c 1 (base t) (ix2 0 k)) d
      = scaled (fun k => m ((c : Thread nD τ).loc main_arg0) (ix2 ⟨1024 * (t.val / 8) + (r : Nat), h⟩ k))
          (fun k => m ((c : Thread nD τ).loc main_arg1) (ix2 0 k)) d := by
  have hb : (t.val - t.val % 8) / 8 = t.val / 8 := by omega
  congr 1
  · funext k
    refine (in0_at m c (base t) (ix2 r k) (by show 1024 * ((t.val - t.val % 8) / 8) + (r : Nat) < 8192; rw [hb]; exact h)).trans ?_
    congr 2
    apply Fin.ext
    show 1024 * ((t.val - t.val % 8) / 8) + (r : Nat) = 1024 * (t.val / 8) + (r : Nat)
    rw [hb]
  · funext k
    exact in1_at m c (base t) (ix2 0 k)

theorem flushed3 (c : Dev nD) (t : Fin cfg0.N) : (dats m 0 c).flushed 3 t = ((cfg0.win 3).blk t).view.read (Elt Ideal) (G3 m c) := by
  have ht : t.val < 64 := lt_of_lt_of_eq t.isLt N_0
  obtain ⟨-, -, -, e, -⟩ := idx_facts t
  funext y
  have hy0 : (y 0 : Nat) < 1024 := (y 0).isLt
  have hb : ((cfg0.win 3).blk t).view.emb y = ix2 ⟨1024 * (t.val / 8) + (y 0 : Nat), by omega⟩ (y 1) := by
    funext a; apply Fin.ext
    match a with
    | ⟨0, _⟩ => show win0_3.index t 0 * 1024 + 1 * (y 0 : Nat) = 1024 * (t.val / 8) + (y 0 : Nat); rw [e]; simp; omega
    | ⟨1, _⟩ => show win0_3.index t 1 * 2048 + 1 * (y 1 : Nat) = (y 1 : Nat); rw [e]; simp
  show xs1 m c t ((cfg0.win 3).xinj (grid0.coords t) y) = G3 m c (((cfg0.win 3).blk t).view.emb y)
  rw [hb]
  unfold xs1
  rw [pay1_at]
  exact row_at m c t (y 0) (y 1) (by omega)

theorem flushed4 (c : Dev nD) (t : Fin cfg0.N) : (dats m 0 c).flushed 4 t = ((cfg0.win 4).blk t).view.read (Elt Ideal) (G4 m c) := by
  have ht : t.val < 64 := lt_of_lt_of_eq t.isLt N_0
  obtain ⟨-, -, -, -, e⟩ := idx_facts t
  funext y
  have hy0 : (y 0 : Nat) < 1024 := (y 0).isLt
  have hy1 : (y 1 : Nat) < 2048 := (y 1).isLt
  have hb : ((cfg0.win 4).blk t).view.emb y = ix2 ⟨1024 * (t.val / 8) + (y 0 : Nat), by omega⟩ ⟨2048 * (t.val % 8) + (y 1 : Nat), by omega⟩ := by
    funext a; apply Fin.ext
    match a with
    | ⟨0, _⟩ => show win0_4.index t 0 * 1024 + 1 * (y 0 : Nat) = 1024 * (t.val / 8) + (y 0 : Nat); rw [e]; simp; omega
    | ⟨1, _⟩ => show win0_4.index t 1 * 2048 + 1 * (y 1 : Nat) = 2048 * (t.val % 8) + (y 1 : Nat); rw [e]; simp; omega
  show pr m c t ((cfg0.win 4).xinj (grid0.coords t) y) = G4 m c (((cfg0.win 4).blk t).view.emb y)
  rw [hb]
  unfold pr xs2
  rw [pay3_at]
  refine Finset.sum_congr (M := EReal) rfl fun k _ => ?_
  congr 1
  · rw [pay2_at]
    exact row_at m c t (y 0) k (by omega)
  · exact in2_at m c t _ (by show 2048 * (t.val % 8) + (y 1 : Nat) < 16384; omega)

theorem cover3 (i : S8192x2048.Idx) : ∃ t : Fin cfg0.N, (cfg0.win 3).flush t = true ∧ i ∈ ((cfg0.win 3).blk t).view.set := by
  have h0 : (i 0 : Nat) < 8192 := (i 0).isLt
  have h1 : (i 1 : Nat) < 2048 := (i 1).isLt
  obtain ⟨t, ht⟩ : ∃ t : Fin cfg0.N, t.val = 8 * ((i 0 : Nat) / 1024) + 7 := ⟨⟨_, lt_of_lt_of_eq (by omega) N_0.symm⟩, rfl⟩
  refine ⟨t, (flush0_3 t).2 (by omega), ?_⟩
  obtain ⟨-, -, -, e, -⟩ := idx_facts t
  show i ∈ ((View.whole main_v0_0).slice (win0_3.rect t)).set
  rw [View.set_slice_whole, Rect.mem_set_unit]
  intro a
  match a with
  | ⟨0, _⟩ => show win0_3.index t 0 * 1024 ≤ (i 0 : Nat) ∧ (i 0 : Nat) < win0_3.index t 0 * 1024 + 1024; rw [e]; simp; omega
  | ⟨1, _⟩ => show win0_3.index t 1 * 2048 ≤ (i 1 : Nat) ∧ (i 1 : Nat) < win0_3.index t 1 * 2048 + 2048; rw [e]; simp; omega

theorem cover4 (i : S8192x16384.Idx) : ∃ t : Fin cfg0.N, (cfg0.win 4).flush t = true ∧ i ∈ ((cfg0.win 4).blk t).view.set := by
  have h0 : (i 0 : Nat) < 8192 := (i 0).isLt
  have h1 : (i 1 : Nat) < 16384 := (i 1).isLt
  obtain ⟨t, ht⟩ : ∃ t : Fin cfg0.N, t.val = 8 * ((i 0 : Nat) / 1024) + (i 1 : Nat) / 2048 := ⟨⟨_, lt_of_lt_of_eq (by omega) N_0.symm⟩, rfl⟩
  refine ⟨t, flush0_4 t, ?_⟩
  obtain ⟨-, -, -, -, e⟩ := idx_facts t
  show i ∈ ((View.whole main_v0_1).slice (win0_4.rect t)).set
  rw [View.set_slice_whole, Rect.mem_set_unit]
  intro a
  match a with
  | ⟨0, _⟩ => show win0_4.index t 0 * 1024 ≤ (i 0 : Nat) ∧ (i 0 : Nat) < win0_4.index t 0 * 1024 + 1024; rw [e]; simp; omega
  | ⟨1, _⟩ => show win0_4.index t 1 * 2048 ≤ (i 1 : Nat) ∧ (i 1 : Nat) < win0_4.index t 1 * 2048 + 2048; rw [e]; simp; omega

theorem final3 (c : Dev nD) : (dats m 0 c).arrAt 3 cfg0.N = G3 m c :=
  (dats m 0 c).arrAt_eq_of_cover 3 _ (fun t _ => flushed3 m c t) cover3

theorem final4 (c : Dev nD) : (dats m 0 c).arrAt 4 cfg0.N = G4 m c :=
  (dats m 0 c).arrAt_eq_of_cover 4 _ (fun t _ => flushed4 m c t) cover4

theorem run_value : θ_run defs (onTc (τ := τ) (main (F := Ideal))) ⟨m, fun _ => 0, ρ⟩ fun r => ∀ c : Dev nD,
      r.2.mem ((c : Thread nD τ).loc main_v0_0) = G3 m c
      ∧ r.2.mem ((c : Thread nD τ).loc main_v0_1) = G4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans (final3 m c), ((h.1 c).1 4).trans (final4 m c), h.2.1 c⟩)
    (θ_run_and (run_main m ρ) (frame m ρ))

end Cert.Kernel5Ideal.InProj

namespace Cert.Reference5Ideal.InProj

open Idealize.ShloMosaic Idealize.ShloMosaic.TcCoe Idealize.SL.Sem
open Cert.Reference5Ideal Cert.Reference5Ideal.Gen

/-- The reference's normalised input, as its operations compose. -/
abbrev xnT (X : FVec Ideal S8192x2048 .f32) (W : FVec Ideal S1x2048 .f32) : FVec Ideal S8192x2048 .f32 :=
  mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32))))))
    (broadcastInDim S8192x2048 ![0, 1] bcast_S1x2048_S8192x2048_0_1 (broadcastInDim S1x2048 ![1] bcast_S2048_S1x2048_1 (shapeCast _ W shapeCasts_S1x2048_S2048)))

theorem xnT_at (X : FVec Ideal S8192x2048 .f32) (W : FVec Ideal S1x2048 .f32) (j : S8192x2048.Idx) :
    xnT X W j = Cert.Kernel5Ideal.InProj.nrm X W j := by
  pointwise [xnT, Cert.Kernel5Ideal.InProj.nrm, Cert.Kernel5Ideal.InProj.scaled]

theorem ref0 (X : FVec Ideal S8192x2048 .f32) (W : FVec Ideal S1x2048 .f32) :
    (truncf (F := Ideal) .bf16 (xnT X W) bitsLt_bf16_f32 : FVec Ideal S8192x2048 .bf16) = Cert.Kernel5Ideal.InProj.nrm X W := by
  funext j
  exact xnT_at X W j

theorem ref1 (X : FVec Ideal S8192x2048 .f32) (W : FVec Ideal S1x2048 .f32) (B : FVec Ideal S16384x2048 .bf16) (A : FVec Ideal S8192x2048 .f32)
    (hA : A = Cert.Kernel5Ideal.InProj.nrm X W) :
    (truncf (F := Ideal) .bf16 (Host.dotGeneral (F := Ideal) dot_S8192x2048_S2048x16384_S8192x16384_1_0_0_1_n_n none A
      (transpose S2048x16384 [1, 0] (extf (F := Ideal) .f32 B bitsLt_bf16_f32) transposes_S16384x2048_S2048x16384_1_0)) bitsLt_bf16_f32 : FVec Ideal S8192x16384 .bf16)
    = Cert.Kernel5Ideal.InProj.prj X W B := by
  funext j
  have e : Cert.Kernel5Ideal.InProj.prj X W B j = ∑ k : Fin 2048, A (ix2 (j 0) k) * B (ix2 (j 1) k) := by rw [hA]; rfl
  rw [e]
  pointwise []

end Cert.Reference5Ideal.InProj

namespace Cert.InProj

open Idealize.ShloMosaic Idealize.ShloMosaic.TcCoe Idealize.SL.Sem

theorem frameI : Cert.quiescent_Kernel5Ideal (hKernel5Ideal := Cert.Kernel5Ideal.Gen.facts) := fun m ρ _ =>
  Cert.Kernel5Ideal.InProj.frame m ρ

section
attribute [local instance] Cert.Kernel5.Gen.facts Cert.Kernel5Ideal.Gen.facts

/-- The two programs have the same text: their body tables are equal, -/
theorem defs₀_eq : Cert.Kernel5.defs₀ (F := Bits) = Cert.Kernel5Ideal.defs₀ (F := Bits) := by
  unfold Cert.Kernel5.defs₀ Cert.Kernel5Ideal.defs₀
  refine congrArg Defs.onTc ?_
  funext l a
  match l, a with
  | ⟨0, _⟩, (t, s) => rfl

theorem defs_eq : Cert.Kernel5.defs (F := Bits) = Cert.Kernel5Ideal.defs (F := Bits) := by
  unfold Cert.Kernel5.defs Cert.Kernel5Ideal.defs
  rw [defs₀_eq]
  rfl
end

/-- so the run of the one is the run of the other. -/
theorem frame : Cert.quiescent_Kernel5 (hKernel5 := Cert.Kernel5.Gen.facts) := fun m ρ _ => by
  rw [defs_eq]
  exact Cert.Kernel5Ideal.InProj.frame (F := Bits) m ρ

theorem frameR : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem algebraic : Cert.algebraic_Kernel5Ideal_Reference5Ideal (hKernel5Ideal := Cert.Kernel5Ideal.Gen.facts)
    (hReference5Ideal := Cert.Reference5Ideal.Gen.facts) := by
  intro m g m' g' _ hagree
  refine ⟨fun c => Cert.Kernel5Ideal.InProj.G3 m c, fun c => Cert.Kernel5Ideal.InProj.G4 m c, Cert.Kernel5Ideal.InProj.run_value m g, ?_⟩
  refine (θ_run Cert.Reference5Ideal.defs _ _).mono (fun r h c => ?_) (Cert.Reference5Ideal.Value.run (F := Ideal) m' g')
  obtain ⟨h0, h1, hk⟩ := h c
  obtain ⟨e0, e1, e2⟩ := hagree c
  rw [e0, e1] at h0
  rw [e0, e1, e2] at h1
  exact ⟨h0.trans (Cert.Reference5Ideal.InProj.ref0 _ _),
    h1.trans (Cert.Reference5Ideal.InProj.ref1 _ _ _ _ (funext fun j => Cert.Reference5Ideal.InProj.xnT_at _ _ j)), hk⟩

end Cert.InProj
-- ==== Proof.DwIn.lean ====
/- The gradient of the weights of the input projection: `Kernel6Ideal`'s run, over any float values. -/
module

public import proofs.«01_k».proof.Defs
public import proofs.«01_k».proof.Proof.Gen.Kernel6Ideal.Skeleton
public import proofs.«01_k».proof.Proof.Gen.Kernel6Ideal.Launch
public import proofs.«01_k».proof.Proof.Gen.Kernel6Ideal.Points
public import Idealize.ShloMosaic.Lib.Pipeline.KitQuiescent
public import Idealize.ShloMosaic.Lib.Ring.Trips
public import Idealize.ShloMosaic.Lib.DeliveryRep
public import Idealize.ShloMosaic.Lib.VecWindow
public import Idealize.ShloMosaic.Lib.Claim
public import Idealize.ShloMosaic.Lib.Pipeline.Frame

@[expose] public section

set_option maxRecDepth 16384

noncomputable section

namespace Cert.Kernel6Ideal.DwIn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)
open Idealize.ShloMosaic.Ring (sl bk sl_add homeSet homeSet_out homeSet_succ homeSet_succ_tail bkL_not_mem_erase bk_not_mem_erase bk_not_mem_homeSet roleAt roleAt_of_lt roleAt_of_le roleBAt roleBAt_of_le roleBAt_of_lt aheadSet behindSet aheadSet_open bk_not_mem_aheadSet_succ behindSet_close behindSet_boot bk_not_mem_behindSet bigSep_put bk_eq_mk bk_val mem_homeSet mem_behindSet aheadSet_zero aheadSet_end homeSet_last free3_of_roles)
open Cert.Kernel6Ideal Cert.Kernel6Ideal.Gen

variable {F : FTy → Type} [FloatOps F]

local notation "𝕄" => MT nD τ sig Unit (Elt F) ℕ (UD sig nD τ) ℕ

/-- A view held by exactly its own elements. -/
abbrev own {sp : Space} {s : Shape} (c : Dev nD) (M : Memref sig .tc sp s .bf16) (f : Buf (Elt F) (M.view.loc (c : Thread nD τ))) : sProp 𝕄 :=
  M.view.loc (c : Thread nD τ) ↦[M.view.set]{fullShare} f

/-- A slot of the buffer of columns, as the copies into it spell it. -/
abbrev slotA (M8 : Memref sig .tc .vmem S3x8192x256 .bf16) (o : Fin 3 → ℕ) (h : ∀ a, o a + S1x8192x256.size a ≤ S3x8192x256.size a) :
    Memref sig .tc .vmem S8192x256 .bf16 :=
  (M8.slice (Rect.unit (s := S3x8192x256) o S1x8192x256.size h) (fun _ => rfl)).squeeze S8192x256 squeezes_S1x8192x256_S8192x256

/-- A slot of the buffer of results. -/
abbrev slotO (M9 : Memref sig .tc .vmem S2x256x2048 .bf16) (o : Fin 3 → ℕ) (h : ∀ a, o a + S1x256x2048.size a ≤ S2x256x2048.size a) :
    Memref sig .tc .vmem S256x2048 .bf16 :=
  (M9.slice (Rect.unit (s := S2x256x2048) o S1x256x2048.size h) (fun _ => rfl)).squeeze S256x2048 squeezes_S1x256x2048_S256x2048

/-- The copy of `src` into `dst` on `sm`, in flight: it delivers both views holding `X`. -/
abbrev flies {sp sp' : Space} {s : Shape} (c : Dev nD) (sm : DmaSem sig) (src : Memref sig .tc sp s .bf16) (dst : Memref sig .tc sp' s .bf16)
    (X : s.Idx → Elt F .bf16) : sProp 𝕄 :=
  Transfers.Flight (countersEmb (U := UD sig nD τ)) (c : Thread nD τ) (.dma sm) () (dst.view.amount (SemLoc.dma (sig := sig) sm))
    iprop(own c dst (dst.view.rep X) ∗ own c src (src.view.rep X))

theorem slotA_sub (M8 : Memref sig .tc .vmem S3x8192x256 .bf16) (o : Fin 3 → ℕ) (h h' : ∀ a, o a + S1x8192x256.size a ≤ S3x8192x256.size a) :
    (M8.access (Rect.unit (s := S3x8192x256) o S1x8192x256.size h')).set ⊆ (slotA M8 o h).view.set := by
  exact (View.set_reshape (M8.view.slice (Rect.unit (s := S3x8192x256) o S1x8192x256.size h)) squeezes_S1x8192x256_S8192x256.numel_eq).ge

theorem slotO_sub (M9 : Memref sig .tc .vmem S2x256x2048 .bf16) (o : Fin 3 → ℕ) (h h' : ∀ a, o a + S1x256x2048.size a ≤ S2x256x2048.size a) :
    (M9.access (Rect.unit (s := S2x256x2048) o S1x256x2048.size h')).set ⊆ (slotO M9 o h).view.set := by
  exact (View.set_reshape (M9.view.slice (Rect.unit (s := S2x256x2048) o S1x256x2048.size h)) squeezes_S1x256x2048_S256x2048.numel_eq).ge

/-- A slot read at the buffer's rank. -/
theorem readAt_slotA (M8 : Memref sig .tc .vmem S3x8192x256 .bf16) (o : Fin 3 → ℕ) (h h' : ∀ a, o a + S1x8192x256.size a ≤ S3x8192x256.size a)
    (g : M8.view.ty.Contents (Elt F)) :
    M8.view.readAt (Elt F) (Rect.unit (s := S3x8192x256) o S1x8192x256.size h').toLoadRect g
      = shapeCast S1x8192x256 ((slotA M8 o h).view.read (Elt F) g) (by decide) := by
  funext j
  show _ = M8.view.read (Elt F) g ((Rect.unit (s := S3x8192x256) o S1x8192x256.size h).emb (Shape.reshapeEquiv _ (Shape.reshapeEquiv _ j)))
  rw [Shape.reshapeEquiv_reshapeEquiv, Shape.reshapeEquiv_self]
  rfl

/-- A slot written at the buffer's rank. -/
theorem read_slotO (M9 : Memref sig .tc .vmem S2x256x2048 .bf16) (o : Fin 3 → ℕ) (h h' : ∀ a, o a + S1x256x2048.size a ≤ S2x256x2048.size a)
    (g : M9.view.ty.Contents (Elt F)) (w : Vec F S1x256x2048 .bf16) :
    (slotO M9 o h).view.read (Elt F) (M9.view.writes (Elt F) g [⟨Rect.unit (s := S2x256x2048) o S1x256x2048.size h', w⟩])
      = shapeCast S256x2048 w (by decide) := by
  funext j
  show M9.view.read (Elt F) (M9.view.writes (Elt F) g _) ((Rect.unit (s := S2x256x2048) o S1x256x2048.size h).emb (Shape.reshapeEquiv _ j)) = _
  exact View.read_slice_write_emb (v := M9.view) (Rect.unit (s := S2x256x2048) o S1x256x2048.size h') g w (Finset.mem_univ _)

/-- A store of a slot at the buffer's rank leaves the slot holding what was stored. -/
theorem store_slotO (c : Dev nD) (M9 : Memref sig .tc .vmem S2x256x2048 .bf16) (o : Fin 3 → ℕ) (h h' : ∀ a, o a + S1x256x2048.size a ≤ S2x256x2048.size a)
    (w : Vec F S1x256x2048 .bf16) (hx) (hm) (f : Buf (Elt F) ((slotO M9 o h).view.loc (c : Thread nD τ)))
    (k : PUnit → Prog (TpuEff nD τ sig (Elt F) Λ₀ .tc) Unit) (Q : Unit → sProp 𝕄) :
    iprop(own c (slotO M9 o h) f ∗ (own c (slotO M9 o h) ((slotO M9 o h).view.rep (shapeCast S256x2048 w (by decide)))
        -∗ wp frame (wpE (defs₀ (F := F)) Variants.none c none) Set.univ (k ⟨⟩) Q))
      ⊢ wp frame (wpE (defs₀ (F := F)) Variants.none c none) Set.univ
          (Prog.lift (.store M9 (Rect.unit (s := S2x256x2048) o S1x256x2048.size h') w Finset.univ hx hm) >>= k) Q := by
  iintro ⟨H, Hk⟩
  iapply (wp_store Variants.none (c : Thread nD τ) none Set.univ (m := M9) (r := Rect.unit (s := S2x256x2048) o S1x256x2048.size h')
    (S := (slotO M9 o h).view.set) (by rw [View.setOn_univ]; exact slotO_sub M9 o h h')) $$ H
  iintro H
  iapply Hk
  iapply (pointsTo_rep_of_read (c : Thread nD τ) (slotO M9 o h) _ fullShare _ (read_slotO M9 o h h' f w))
  iexact H

/-- A step, then the rest. -/
theorem seq_run {β : Type} {p : Prog (TpuEff nD τ sig (Elt F) Λ₀ .tc) PUnit} {k : PUnit → Prog (TpuEff nD τ sig (Elt F) Λ₀ .tc) β} {P R : sProp 𝕄} {Q : β → sProp 𝕄}
    {c : Dev nD} (h : P ⊢ wp frame (wpE (defs₀ (F := F)) Variants.none c none) Set.univ p (fun _ => R)) :
    iprop(P ∗ (R -∗ wp frame (wpE (defs₀ (F := F)) Variants.none c none) Set.univ (k ⟨⟩) Q))
      ⊢ wp frame (wpE (defs₀ (F := F)) Variants.none c none) Set.univ (p >>= k) Q := by
  rw [wp_bind]
  iintro ⟨HP, Hk⟩
  iapply (wp_wand_r Idealize.ShloMosaic.frame (wpE (defs₀ (F := F)) Variants.none c none) Set.univ)
  isplitl [HP]; · iapply h; iexact HP
  iintro %_ H
  iapply Hk; iexact H

section Trip
variable (M7 : Memref sig .tc .vmem S8192x2048 .bf16) (M8 : Memref sig .tc .vmem S3x8192x256 .bf16) (M9 : Memref sig .tc .vmem S2x256x2048 .bf16)
  (bA : Memref sig .tc .hbm S8192x256 .bf16) (bO : Memref sig .tc .hbm S256x2048 .bf16) (sA sO : DmaSem sig)
  (oA oA' : Fin 3 → ℕ) (hA : ∀ a, oA a + S1x8192x256.size a ≤ S3x8192x256.size a) (hA' : ∀ a, oA' a + S1x8192x256.size a ≤ S3x8192x256.size a)
  (oO oO' : Fin 3 → ℕ) (hO : ∀ a, oO a + S1x256x2048.size a ≤ S2x256x2048.size a) (hO' : ∀ a, oO' a + S1x256x2048.size a ≤ S2x256x2048.size a)
  (w1 : bA.view.WordExact) (w2 : (slotA M8 oA hA).view.WordExact)
  (w3 : (M9.access (Rect.unit (s := S2x256x2048) oO' S1x256x2048.size hO')).StoreExact Finset.univ)
  (w4 : (slotO M9 oO hO).view.WordExact) (w5 : bO.view.WordExact)
  (fetch drain : Prog (TpuEff nD τ sig (Elt F) Λ₀ .tc) PUnit)

/-- One block of columns: it is waited for, a further one asked for, the product taken and stored, and the copy out started. -/
def trip : Prog (TpuEff nD τ sig (Elt F) Λ₀ .tc) Unit := do
  Prog.lift (.waitDma2 sA bA (slotA M8 oA hA) w1 w2)
  fetch
  let v110 : Vec F S1x8192x256 .bf16 ← Prog.lift (.load M8 (Rect.unit (s := S3x8192x256) oA' S1x8192x256.size hA').toLoadRect (View.loadsAt_vmem h_S1x8192x256))
  let v112 : Vec F S8192x2048 .bf16 ← Prog.lift (.load M7 (Rect.unit (s := S8192x2048) ![0, 0] S8192x2048.size inb_S8192x2048_S8192x2048_0_0).toLoadRect (View.loadsAt_vmem h_S8192x2048))
  drain
  let v129 : Vec F S1x256x2048 .bf16 ← Prog.lift (.load M9 (Rect.unit (s := S2x256x2048) oO' S1x256x2048.size hO').toLoadRect (View.loadsAt_vmem h_S1x256x2048))
  Prog.lift (.store M9 (Rect.unit (s := S2x256x2048) oO' S1x256x2048.size hO') (k0_pay1 v110 v112) Finset.univ (View.stores_vmem h_S1x256x2048 w3 (fun _ => rfl)) (.inl rfl))
  Prog.lift (.enqueueDma (slotO M9 oO hO) (.here bO) (.dma sO) w4 w5 ⟨Or.inl rfl, trivial⟩)
  pure ⟨⟩

set_option maxHeartbeats 1600000 in
theorem trip_run (c : Dev nD) (eA : oA' = oA) (eO : oO' = oO) (X : Vec F S8192x256 .bf16) (xn : Vec F S8192x2048 .bf16)
    (W : Waits sig Unit) (Pf Qf Pd Qd : sProp 𝕄)
    (hf : Pf ⊢ wp frame (wpE (defs₀ (F := F)) Variants.none c none) Set.univ fetch (fun _ => Qf))
    (hd : ∀ W, iprop(Pd ∗ owes (c : Thread nD τ) 0 W) ⊢ wp frame (wpE (defs₀ (F := F)) Variants.none c none) Set.univ drain
      (fun _ => iprop(Qd ∗ (∃ f, own c (slotO M9 oO hO) f) ∗ semVal ((c : Thread nD τ), SemLoc.dma sO) 0 ∗ ∃ W, owes (c : Thread nD τ) 0 W)))
    (fO : Buf (Elt F) (bO.view.loc (c : Thread nD τ))) (K : Unit → sProp 𝕄) :
    iprop(flies c sA bA (slotA M8 oA hA) X ∗ own c M7 (M7.view.rep xn) ∗ own c bO fO ∗ Pf ∗ Pd ∗ owes (c : Thread nD τ) 0 W
        ∗ (iprop(semVal ((c : Thread nD τ), SemLoc.dma sA) 0 ∗ own c (slotA M8 oA hA) ((slotA M8 oA hA).view.rep X) ∗ own c bA (bA.view.rep X) ∗
            own c M7 (M7.view.rep xn)
            ∗ flies c sO (slotO M9 oO hO) bO (shapeCast S256x2048 (k0_pay1 (shapeCast S1x8192x256 X (by decide)) xn) (by decide)) ∗ Qf ∗ Qd ∗ ∃ W, owes (c : Thread nD τ) 0 W) -∗ K ⟨⟩))
      ⊢ wp frame (wpE (defs₀ (F := F)) Variants.none c none) Set.univ
          (trip M7 M8 M9 bA bO sA sO oA oA' hA hA' oO oO' hO hO' w1 w2 w3 w4 w5 fetch drain) K := by
  subst eA; subst eO
  have hinA := slotA_sub M8 oA' hA hA'
  have hinO := slotO_sub M9 oO' hO hO'
  unfold trip
  iintro ⟨HA, H7, HO, Hf, Hd, Hw, Hk⟩
  sl_exec
  rw [wp_bind]
  iapply (wp_wand_r Idealize.ShloMosaic.frame (wpE (defs₀ (F := F)) Variants.none c none) Set.univ)
  isplitl [Hf]; · iapply hf; iexact Hf
  iintro %_ Hf
  beta_reduce
  sl_exec
  rw [wp_bind]
  iapply (wp_wand_r Idealize.ShloMosaic.frame (wpE (defs₀ (F := F)) Variants.none c none) Set.univ)
  isplitl [Hd Hw]
  · iapply hd; isplitl [Hd]; · iexact Hd
    iexact Hw
  iintro %_ ⟨Hd, ⟨%f9, H9⟩, HsO, ⟨%W', Hw⟩⟩
  beta_reduce
  sl_exec
  iapply (store_slotO c M9 oO' hO hO' _ _ _ f9)
  isplitl [H9]; · iexact H9
  iintro H9
  rw [show trip_run.sl.v110 M8 oA' hA' X hA = shapeCast S1x8192x256 X (by decide) from
      (readAt_slotA M8 oA' hA hA' _).trans (by rw [View.read_rep]),
    View.readAt_rep_full M7.view xn]
  sl_exec
  ihave HsO := (Transfers.Flight_mono (countersEmb (U := UD sig nD τ)) (c : Thread nD τ)
    (delivery_rep (c : Thread nD τ) (slotO M9 oO' hO) bO fullShare fullShare _ fO _ _ rfl (View.read_rep _ _))) $$ [HsO]
  · iexact HsO
  rw [show ∀ p : Prog (TpuEff nD τ sig (Elt F) Λ₀ .tc) Unit, (Prog.ret PUnit.unit).bind (fun _ => p) = p from fun _ => rfl]
  sl_step
  iapply Hk
  isplitl [HA]; · iexact HA
  isplitl [HA_dst]; · iexact HA_dst
  isplitl [HA_src]; · iexact HA_src
  isplitl [H7]; · iexact H7
  isplitl [HsO]; · iexact HsO
  isplitl [Hf]; · iexact Hf
  isplitl [Hd]; · iexact Hd
  iexists _; iexact Hw

end Trip

/-! ## One segment: the blocks of one array's columns, in turn -/

section Segment
variable (M7 : Memref sig .tc .vmem S8192x2048 .bf16) (M8 : Memref sig .tc .vmem S3x8192x256 .bf16) (M9 : Memref sig .tc .vmem S2x256x2048 .bf16)
  (sA : Fin 3 → DmaSem sig) (sO : Fin 2 → DmaSem sig)
  (oA : Fin 3 → Fin 3 → ℕ) (hA : ∀ s a, oA s a + S1x8192x256.size a ≤ S3x8192x256.size a)
  (oO : Fin 2 → Fin 3 → ℕ) (hO : ∀ s a, oO s a + S1x256x2048.size a ≤ S2x256x2048.size a)
  {NB : ℕ} [NeZero NB] (bA : Fin NB → Memref sig .tc .hbm S8192x256 .bf16) (bO : Fin NB → Memref sig .tc .hbm S256x2048 .bf16)
  (w1 : ∀ b, (bA b).view.WordExact) (w2 : ∀ s, (slotA M8 (oA s) (hA s)).view.WordExact)
  (w3 : ∀ s, (M9.access (Rect.unit (s := S2x256x2048) (oO s) S1x256x2048.size (hO s))).StoreExact Finset.univ)
  (w4 : ∀ s, (slotO M9 (oO s) (hO s)).view.WordExact) (w5 : ∀ b, (bO b).view.WordExact)

/-- The copy of a block of columns into its slot, started. -/
abbrev ask (b : Fin NB) (s : Fin 3) : Prog (TpuEff nD τ sig (Elt F) Λ₀ .tc) PUnit :=
  Prog.lift (.enqueueDma (bA b) (.here (slotA M8 (oA s) (hA s))) (.dma (sA s)) (w1 b) (w2 s) ⟨Or.inl rfl, trivial⟩)

/-- The copy out of a slot of results, waited for. -/
abbrev settle (b : Fin NB) (s : Fin 2) : Prog (TpuEff nD τ sig (Elt F) Λ₀ .tc) PUnit :=
  Prog.lift (.waitDma2 (sO s) (slotO M9 (oO s) (hO s)) (bO b) (w4 s) (w5 b))

/-- The trip of block `k`. -/
abbrev segTrip (k : ℕ) : Prog (TpuEff nD τ sig (Elt F) Λ₀ .tc) Unit :=
  trip M7 M8 M9 (bA (bk NB k)) (bO (bk NB k)) (sA (sl 3 k)) (sO (sl 2 k)) (oA (sl 3 k)) (oA (sl 3 k)) (hA _) (hA _) (oO (sl 2 k)) (oO (sl 2 k)) (hO _) (hO _)
    (w1 _) (w2 _) (w3 _) (w4 _) (w5 _)
    (if k + 2 < NB then ask M8 sA oA hA bA w1 w2 (bk NB (k + 2)) (sl 3 (k + 2)) else pure ⟨⟩)
    (if 2 ≤ k then settle M9 sO oO hO bO w4 w5 (bk NB (k - 2)) (sl 2 k) else pure ⟨⟩)

variable (c : Dev nD) (X : Fin NB → Vec F S8192x256 .bf16) (xn : Vec F S8192x2048 .bf16)

/-- The result of a block of columns. -/
abbrev res (x : Vec F S8192x256 .bf16) (xn : Vec F S8192x2048 .bf16) : Vec F S256x2048 .bf16 :=
  shapeCast S256x2048 (k0_pay1 (shapeCast S1x8192x256 x (by decide)) xn) (by decide)

abbrev freeA (s : Fin 3) : sProp 𝕄 :=
  iprop(semVal ((c : Thread nD τ), SemLoc.dma (sA s)) 0 ∗ ∃ f, own c (slotA M8 (oA s) (hA s)) f)
abbrev inflA (s : Fin 3) (b : Fin NB) : sProp 𝕄 := flies c (sA s) (bA b) (slotA M8 (oA s) (hA s)) (X b)
abbrev homeA (b : Fin NB) : sProp 𝕄 := own c (bA b) ((bA b).view.rep (X b))
abbrev freeO (s : Fin 2) : sProp 𝕄 :=
  iprop(semVal ((c : Thread nD τ), SemLoc.dma (sO s)) 0 ∗ ∃ f, own c (slotO M9 (oO s) (hO s)) f)
abbrev inflO (s : Fin 2) (b : Fin NB) : sProp 𝕄 := flies c (sO s) (slotO M9 (oO s) (hO s)) (bO b) (res (X b) xn)
abbrev aheadO (b : Fin NB) : sProp 𝕄 := iprop(∃ f, own c (bO b) f)
abbrev behindO (b : Fin NB) : sProp 𝕄 := own c (bO b) ((bO b).view.rep (res (X b) xn))

/-- Before trip `p`. -/
def inv (p : ℕ) : sProp 𝕄 :=
  iprop(bigSep (homeSet 2 p) (homeA bA c X)
    ∗ roleAt (freeA M8 sA oA hA c (sl 3 p)) (inflA M8 sA oA hA bA c X (sl 3 p)) p
    ∗ roleAt (freeA M8 sA oA hA c (sl 3 (p + 1))) (inflA M8 sA oA hA bA c X (sl 3 (p + 1))) (p + 1)
    ∗ freeA M8 sA oA hA c (sl 3 (p + 2))
    ∗ bigSep (aheadSet p) (aheadO bO c) ∗ bigSep (behindSet 2 p) (behindO bO c X xn)
    ∗ roleBAt 2 (freeO M9 sO oO hO c (sl 2 p)) (inflO M9 sO oO hO bO c X xn (sl 2 p)) p
    ∗ roleBAt 1 (freeO M9 sO oO hO c (sl 2 (p + 1))) (inflO M9 sO oO hO bO c X xn (sl 2 (p + 1))) p
    ∗ own c M7 (M7.view.rep xn) ∗ ∃ W, owes (c : Thread nD τ) 0 W)

theorem role_next (fr : sProp 𝕄) (infl : Fin NB → sProp 𝕄) (k : ℕ) : roleBAt 2 fr infl (k + 1) = roleBAt 1 fr infl k := by
  by_cases h : 1 ≤ k
  · rw [roleBAt_of_le _ _ _ _ h, roleBAt_of_le _ _ _ _ (by omega), show k + 1 - 2 = k - 1 by omega]
  · rw [roleBAt_of_lt _ _ _ _ (by omega), roleBAt_of_lt _ _ _ _ (by omega)]

theorem home_here (p : ℕ) : bigSep (homeSet (NB := NB) 2 p) (homeA bA c X)
    = iprop((if p + 2 < NB then homeA bA c X (bk NB (p + 2)) else emp) ∗ bigSep (if p + 2 < NB then (homeSet 2 p).erase (bk NB (p + 2)) else homeSet 2 p) (homeA bA c X)) := by
  split
  · conv_lhs => rw [homeSet_out 2 p ‹_›, BI.bigSep_insert (bkL_not_mem_erase 2 p)]
    rfl
  · exact (BI.equiv_iff.mp BI.emp_sep).symm

theorem home_next (p : ℕ) (hp : p < NB) : bigSep (homeSet (NB := NB) 2 (p + 1)) (homeA bA c X)
    = iprop(homeA bA c X (bk NB p) ∗ bigSep (if p + 2 < NB then (homeSet 2 p).erase (bk NB (p + 2)) else homeSet 2 p) (homeA bA c X)) := by
  split
  · rw [homeSet_succ 2 p ‹_›, BI.bigSep_insert (bk_not_mem_erase 2 p (by omega) (by decide))]; rfl
  · rw [homeSet_succ_tail 2 p (by omega) hp, BI.bigSep_insert (bk_not_mem_homeSet 2 p hp (by decide))]; rfl

theorem behind_next (p : ℕ) (hp : p < NB) : bigSep (behindSet (NB := NB) 2 (p + 1)) (behindO bO c X xn)
    = iprop((if 2 ≤ p then behindO bO c X xn (bk NB (p - 2)) else emp) ∗ bigSep (behindSet 2 p) (behindO bO c X xn)) := by
  split
  · rw [behindSet_close 2 p ‹_› hp, BI.bigSep_insert (bk_not_mem_behindSet 2 p ‹_› hp)]; rfl
  · rw [behindSet_boot 2 (p + 1) (by omega), behindSet_boot 2 p (by omega)]; exact (BI.equiv_iff.mp BI.emp_sep).symm

theorem ask_run (b : Fin NB) (s : Fin 3) :
    iprop(homeA bA c X b ∗ freeA M8 sA oA hA c s)
      ⊢ wp frame (wpE (defs₀ (F := F)) Variants.none c none) Set.univ (ask M8 sA oA hA bA w1 w2 b s) (fun _ => inflA M8 sA oA hA bA c X s b) := by
  unfold ask
  iintro ⟨Hb, Hs, ⟨%f, H8⟩⟩
  sl_exec
  sl_step
  ihave Hs := (Transfers.Flight_mono (countersEmb (U := UD sig nD τ)) (c : Thread nD τ)
    (delivery_rep (c : Thread nD τ) (bA b) (slotA M8 (oA s) (hA s)) fullShare fullShare _ f _ _ rfl (View.read_rep _ _))) $$ [Hs]
  · iexact Hs
  iexact Hs

theorem settle_run (b : Fin NB) (s : Fin 2) (W : Waits sig Unit) :
    iprop(inflO M9 sO oO hO bO c X xn s b ∗ owes (c : Thread nD τ) 0 W)
      ⊢ wp frame (wpE (defs₀ (F := F)) Variants.none c none) Set.univ (settle M9 sO oO hO bO w4 w5 b s)
        (fun _ => iprop(behindO bO c X xn b ∗ (∃ f, own c (slotO M9 (oO s) (hO s)) f) ∗ semVal ((c : Thread nD τ), SemLoc.dma (sO s)) 0 ∗ ∃ W, owes (c : Thread nD τ) 0 W)) := by
  unfold settle
  iintro ⟨Hf, Hw⟩
  sl_exec
  sl_step
  isplitl [Hf_dst]; · iexact Hf_dst
  isplitl [Hf_src]; · iexists _; iexact Hf_src
  isplitl [Hf]; · iexact Hf
  iexists _; iexact Hw

set_option maxHeartbeats 1600000 in
theorem seg_step (k : ℕ) (hk : k < NB) :
    inv M7 M8 M9 sA sO oA hA oO hO bA bO c X xn k
      ⊢ wp frame (wpE (defs₀ (F := F)) Variants.none c none) Set.univ (segTrip M7 M8 M9 sA sO oA hA oO hO bA bO w1 w2 w3 w4 w5 k)
        (fun _ => inv M7 M8 M9 sA sO oA hA oO hO bA bO c X xn (k + 1)) := by
  unfold inv
  rw [home_here, home_next _ _ _ _ hk, behind_next _ _ _ _ _ hk, aheadSet_open k hk, bigSep_put (bk_not_mem_aheadSet_succ k hk),
    roleAt_of_lt _ _ k hk, roleBAt_of_le 1 _ _ (k + 1) (by omega), show sl 2 (k + 1 + 1) = sl 2 k from sl_add 2 k, show sl 3 (k + 1 + 2) = sl 3 k from sl_add 3 k,
    Nat.add_sub_cancel, role_next]
  iintro ⟨⟨Hh, HA⟩, Hf0, Hf1, Hf2, ⟨⟨%fO, Ha⟩, Has⟩, Hb, Hg0, Hg1, H7, ⟨%W, Hw⟩⟩
  unfold segTrip
  iapply (trip_run (hA := hA _) (hA' := hA _) (hO := hO _) (hO' := hO _) (w1 := w1 _) (w2 := w2 _) (w3 := w3 _) (w4 := w4 _) (w5 := w5 _) (c := c) (eA := rfl) (eO := rfl)
    (X := X (bk NB k)) (xn := xn) (W := W)
    (Pf := iprop((if k + 2 < NB then homeA bA c X (bk NB (k + 2)) else emp) ∗ freeA M8 sA oA hA c (sl 3 (k + 2))))
    (Qf := roleAt (freeA M8 sA oA hA c (sl 3 (k + 2))) (inflA M8 sA oA hA bA c X (sl 3 (k + 2))) (k + 2))
    (Pd := roleBAt 2 (freeO M9 sO oO hO c (sl 2 k)) (inflO M9 sO oO hO bO c X xn (sl 2 k)) k)
    (Qd := iprop(if 2 ≤ k then behindO bO c X xn (bk NB (k - 2)) else emp))
    (hf := by
      split
      · rw [roleAt_of_lt _ _ _ ‹_›]; exact ask_run (F := F) M8 sA oA hA bA w1 w2 c X _ _
      · rw [roleAt_of_le _ _ _ (by omega)]
        iintro ⟨_, H⟩
        sl_step
        iexact H)
    (hd := by
      intro W
      split
      · rw [roleBAt_of_le _ _ _ _ ‹_›]; exact settle_run (F := F) M9 sO oO hO bO w4 w5 c X xn _ _ W
      · rw [roleBAt_of_lt _ _ _ _ (by omega)]
        iintro ⟨⟨Hs, H9⟩, Hw⟩
        sl_step
        isplitr; · exact .rfl
        isplitl [H9]; · iexact H9
        isplitl [Hs]; · iexact Hs
        iexists _; iexact Hw)
    (fO := fO) (K := _))
  isplitl [Hf0]; · iexact Hf0
  isplitl [H7]; · iexact H7
  isplitl [Ha]; · iexact Ha
  isplitl [Hh Hf2]; · isplitl [Hh] <;> iassumption
  isplitl [Hg0]; · iexact Hg0
  isplitl [Hw]; · iexact Hw
  iintro ⟨HsA, H8, HbA, H7, HO, Hf, Hd, Hw⟩
  isplitl [HbA HA]; · isplitl [HbA] <;> iassumption
  isplitl [Hf1]; · iexact Hf1
  isplitl [Hf]; · iexact Hf
  isplitl [HsA H8]
  · isplitl [HsA]; · iexact HsA
    iexists _; iexact H8
  isplitl [Has]; · iexact Has
  isplitl [Hd Hb]; · isplitl [Hd] <;> iassumption
  isplitl [Hg1]; · iexact Hg1
  isplitl [HO]; · iexact HO
  isplitl [H7]; · iexact H7
  iexact Hw

/-! The ring before the first trip, after the last one, and when its last copies out have been waited for. -/

theorem home_open (h : 2 ≤ NB) : bigSep Finset.univ (homeA bA c X)
    = iprop(homeA bA c X (bk NB 0) ∗ homeA bA c X (bk NB 1) ∗ bigSep (homeSet 2 0) (homeA bA c X)) := by
  have b0 := bk_val (NB := NB) (show 0 < NB by omega)
  have b1 := bk_val (NB := NB) (show 1 < NB by omega)
  have e : (Finset.univ : Finset (Fin NB)) = insert (bk NB 0) (insert (bk NB 1) (homeSet 2 0)) := by
    ext u; simp only [Finset.mem_univ, Finset.mem_insert, mem_homeSet, true_iff, Fin.ext_iff, b0, b1]; omega
  have h0 : bk NB 0 ∉ insert (bk NB 1) (homeSet (NB := NB) 2 0) := by
    simp only [Finset.mem_insert, mem_homeSet, Fin.ext_iff, b0, b1]; omega
  have h1 : bk NB 1 ∉ homeSet (NB := NB) 2 0 := by simp only [mem_homeSet, b1]; omega
  rw [e, bigSep_put h0, bigSep_put h1]

theorem behind_close (h : 2 ≤ NB) : bigSep Finset.univ (behindO bO c X xn)
    = iprop(behindO bO c X xn (bk NB (NB - 2)) ∗ behindO bO c X xn (bk NB (NB - 1)) ∗ bigSep (behindSet 2 NB) (behindO bO c X xn)) := by
  have b2 := bk_val (NB := NB) (show NB - 2 < NB by omega)
  have b1 := bk_val (NB := NB) (show NB - 1 < NB by omega)
  have e : (Finset.univ : Finset (Fin NB)) = insert (bk NB (NB - 2)) (insert (bk NB (NB - 1)) (behindSet 2 NB)) := by
    ext u; have := u.isLt; simp only [Finset.mem_univ, Finset.mem_insert, mem_behindSet, true_iff, Fin.ext_iff, b2, b1]; omega
  have h2 : bk NB (NB - 2) ∉ insert (bk NB (NB - 1)) (behindSet (NB := NB) 2 NB) := by
    simp only [Finset.mem_insert, mem_behindSet, Fin.ext_iff, b2, b1]; omega
  have h1 : bk NB (NB - 1) ∉ behindSet (NB := NB) 2 NB := by simp only [mem_behindSet, b1]; omega
  rw [e, bigSep_put h2, bigSep_put h1]

/-- The loop of a segment: the first two blocks are on their way in, the last two results are on their way out. -/
theorem seg_loop (h2 : 2 ≤ NB) (hNB : NB % 2 = 0) (lp : Scf.Loop 32) (hok : lp.OK) (body : Fin lp.trips → PUnit → Prog (TpuEff nD τ sig (Elt F) Λ₀ .tc) PUnit)
    (htr : lp.trips = NB) (hb : ∀ k, body k ⟨⟩ = segTrip M7 M8 M9 sA sO oA hA oO hO bA bO w1 w2 w3 w4 w5 k.val) :
    iprop(inflA M8 sA oA hA bA c X 0 (bk NB 0) ∗ inflA M8 sA oA hA bA c X 1 (bk NB 1) ∗ freeA M8 sA oA hA c 2 ∗ bigSep (homeSet 2 0) (homeA bA c X)
        ∗ bigSep Finset.univ (aheadO bO c) ∗ freeO M9 sO oO hO c 0 ∗ freeO M9 sO oO hO c 1 ∗ own c M7 (M7.view.rep xn) ∗ ∃ W, owes (c : Thread nD τ) 0 W)
      ⊢ wp frame (wpE (defs₀ (F := F)) Variants.none c none) Set.univ (Scf.Loop.for lp hok ⟨⟩ body)
        (fun _ => iprop(freeA M8 sA oA hA c 0 ∗ freeA M8 sA oA hA c 1 ∗ freeA M8 sA oA hA c 2 ∗ bigSep Finset.univ (homeA bA c X)
          ∗ bigSep (behindSet 2 NB) (behindO bO c X xn) ∗ inflO M9 sO oO hO bO c X xn 0 (bk NB (NB - 2)) ∗ inflO M9 sO oO hO bO c X xn 1 (bk NB (NB - 1))
          ∗ own c M7 (M7.view.rep xn) ∗ ∃ W, owes (c : Thread nD τ) 0 W)) := by
  have hstep : ∀ k : Fin lp.trips, inv M7 M8 M9 sA sO oA hA oO hO bA bO c X xn k.val
      ⊢ wp frame (wpE (defs₀ (F := F)) Variants.none c none) Set.univ (body k ⟨⟩) (fun _ => inv M7 M8 M9 sA sO oA hA oO hO bA bO c X xn (k.val + 1)) := by
    intro k; rw [hb k]; exact seg_step (F := F) M7 M8 M9 sA sO oA hA oO hO bA bO w1 w2 w3 w4 w5 c X xn k.val (htr ▸ k.isLt)
  have h := exec_loop_last (M := 𝕄) frame (wpE (defs₀ (F := F)) Variants.none c none) Set.univ lp.lb lp.ub lp.st hok ⟨⟩ body
    ⟨fun k _ => inv M7 M8 M9 sA sO oA hA oO hO bA bO c X xn k, fun k _ => hstep k⟩ (Q := fun _ => inv M7 M8 M9 sA sO oA hA oO hO bA bO c X xn lp.trips)
  have h' : inv M7 M8 M9 sA sO oA hA oO hO bA bO c X xn 0
      ⊢ iprop((∀ acc : PUnit, inv M7 M8 M9 sA sO oA hA oO hO bA bO c X xn lp.trips -∗ inv M7 M8 M9 sA sO oA hA oO hO bA bO c X xn lp.trips)
        -∗ wp frame (wpE (defs₀ (F := F)) Variants.none c none) Set.univ (Scf.Loop.for lp hok ⟨⟩ body) (fun _ => inv M7 M8 M9 sA sO oA hA oO hO bA bO c X xn lp.trips)) := h
  iintro ⟨Hi0, Hi1, Hf, Hh, Ha, Hg0, Hg1, H7, Hw⟩
  iapply (wp_wand_r Idealize.ShloMosaic.frame (wpE (defs₀ (F := F)) Variants.none c none) Set.univ)
  isplitl [Hi0 Hi1 Hf Hh Ha Hg0 Hg1 H7 Hw]
  · iapply h' $$ [Hi0 Hi1 Hf Hh Ha Hg0 Hg1 H7 Hw]
    · unfold inv
      rw [roleAt_of_lt _ _ 0 (by omega), roleAt_of_lt _ _ (0 + 1) (by omega), roleBAt_of_lt _ _ _ 0 (by omega), roleBAt_of_lt _ _ _ 0 (by omega),
        aheadSet_zero, behindSet_boot 2 0 (by omega), BI.bigSep_empty]
      isplitl [Hh]; · iexact Hh
      isplitl [Hi0]; · iexact Hi0
      isplitl [Hi1]; · iexact Hi1
      isplitl [Hf]; · iexact Hf
      isplitl [Ha]; · iexact Ha
      isplitr; · exact .rfl
      isplitl [Hg0]; · iexact Hg0
      isplitl [Hg1]; · iexact Hg1
      isplitl [H7]; · iexact H7
      iexact Hw
    iintro %acc H
    iexact H
  iintro %_ H
  rw [htr]
  unfold inv
  rw [roleAt_of_le _ _ NB le_rfl, roleAt_of_le _ _ (NB + 1) (by omega), roleBAt_of_le _ _ _ NB (by omega), roleBAt_of_le _ _ _ NB (by omega),
    aheadSet_end NB le_rfl, homeSet_last 2 NB le_rfl, BI.bigSep_empty,
    show sl 2 NB = 0 from Fin.ext hNB, show sl 2 (NB + 1) = 1 from Fin.ext (show (NB + 1) % 2 = 1 by omega)]
  icases H with ⟨Hh, Hf0, Hf1, Hf2, _, Hb, Hg0, Hg1, H7, Hw⟩
  ihave Hf := (free3_of_roles (fun s => freeA M8 sA oA hA c s) NB) $$ [Hf0 Hf1 Hf2]
  · isplitl [Hf0]; · iexact Hf0
    isplitl [Hf1] <;> iassumption
  icases Hf with ⟨Hf0, Hf1, Hf2⟩
  isplitl [Hf0]; · iexact Hf0
  isplitl [Hf1]; · iexact Hf1
  isplitl [Hf2]; · iexact Hf2
  isplitl [Hh]; · iexact Hh
  isplitl [Hb]; · iexact Hb
  isplitl [Hg0]; · iexact Hg0
  isplitl [Hg1]; · iexact Hg1
  isplitl [H7]; · iexact H7
  iexact Hw

/-- The first two blocks asked for, then the rest. -/
theorem seg_open (h : 2 ≤ NB) {β : Type} (k : Prog (TpuEff nD τ sig (Elt F) Λ₀ .tc) β) (Q : β → sProp 𝕄) :
    iprop(bigSep Finset.univ (homeA bA c X) ∗ freeA M8 sA oA hA c 0 ∗ freeA M8 sA oA hA c 1
        ∗ (iprop(inflA M8 sA oA hA bA c X 0 (bk NB 0) ∗ inflA M8 sA oA hA bA c X 1 (bk NB 1) ∗ bigSep (homeSet 2 0) (homeA bA c X))
            -∗ wp frame (wpE (defs₀ (F := F)) Variants.none c none) Set.univ k Q))
      ⊢ wp frame (wpE (defs₀ (F := F)) Variants.none c none) Set.univ
          (ask M8 sA oA hA bA w1 w2 (bk NB 0) 0 >>= fun _ => ask M8 sA oA hA bA w1 w2 (bk NB 1) 1 >>= fun _ => k) Q := by
  rw [home_open _ _ _ h]
  iintro ⟨⟨H0, H1, Hh⟩, Hf0, Hf1, Hk⟩
  iapply (seq_run (ask_run (F := F) M8 sA oA hA bA w1 w2 c X (bk NB 0) 0))
  isplitl [H0 Hf0]
  · isplitl [H0] <;> iassumption
  iintro Hi0
  iapply (seq_run (ask_run (F := F) M8 sA oA hA bA w1 w2 c X (bk NB 1) 1))
  isplitl [H1 Hf1]
  · isplitl [H1] <;> iassumption
  iintro Hi1
  iapply Hk
  isplitl [Hi0]; · iexact Hi0
  isplitl [Hi1] <;> iassumption

/-- A copy out waited for, then the rest. -/
theorem seg_settle (b : Fin NB) (s : Fin 2) {β : Type} (k : Prog (TpuEff nD τ sig (Elt F) Λ₀ .tc) β) (Q : β → sProp 𝕄) :
    iprop(inflO M9 sO oO hO bO c X xn s b ∗ (∃ W, owes (c : Thread nD τ) 0 W)
        ∗ (iprop(behindO bO c X xn b ∗ freeO M9 sO oO hO c s ∗ ∃ W, owes (c : Thread nD τ) 0 W)
            -∗ wp frame (wpE (defs₀ (F := F)) Variants.none c none) Set.univ k Q))
      ⊢ wp frame (wpE (defs₀ (F := F)) Variants.none c none) Set.univ (settle M9 sO oO hO bO w4 w5 b s >>= fun _ => k) Q := by
  iintro ⟨Hi, ⟨%W, Hw⟩, Hk⟩
  iapply (seq_run (settle_run (F := F) M9 sO oO hO bO w4 w5 c X xn b s W))
  isplitl [Hi Hw]
  · isplitl [Hi] <;> iassumption
  iintro ⟨Hb, Hf, Hs, Hw⟩
  iapply Hk
  isplitl [Hb]; · iexact Hb
  isplitl [Hf Hs]
  · isplitl [Hs] <;> iassumption
  iexact Hw

/-- A whole segment: every slot is free before it and after it. -/
theorem seg_all (h2 : 2 ≤ NB) (hNB : NB % 2 = 0) (lp : Scf.Loop 32) (hok : lp.OK) (body : Fin lp.trips → PUnit → Prog (TpuEff nD τ sig (Elt F) Λ₀ .tc) PUnit)
    (htr : lp.trips = NB) (hb : ∀ k, body k ⟨⟩ = segTrip M7 M8 M9 sA sO oA hA oO hO bA bO w1 w2 w3 w4 w5 k.val) {β : Type}
    (k : Prog (TpuEff nD τ sig (Elt F) Λ₀ .tc) β) (Q : β → sProp 𝕄) :
    iprop(freeA M8 sA oA hA c 0 ∗ freeA M8 sA oA hA c 1 ∗ freeA M8 sA oA hA c 2 ∗ freeO M9 sO oO hO c 0 ∗ freeO M9 sO oO hO c 1 ∗ own c M7 (M7.view.rep xn)
        ∗ bigSep Finset.univ (homeA bA c X) ∗ bigSep Finset.univ (aheadO bO c) ∗ (∃ W, owes (c : Thread nD τ) 0 W)
        ∗ (iprop((freeA M8 sA oA hA c 0 ∗ freeA M8 sA oA hA c 1 ∗ freeA M8 sA oA hA c 2 ∗ freeO M9 sO oO hO c 0 ∗ freeO M9 sO oO hO c 1) ∗ own c M7 (M7.view.rep xn)
              ∗ bigSep Finset.univ (homeA bA c X) ∗ bigSep Finset.univ (behindO bO c X xn) ∗ ∃ W, owes (c : Thread nD τ) 0 W)
            -∗ wp frame (wpE (defs₀ (F := F)) Variants.none c none) Set.univ k Q))
      ⊢ wp frame (wpE (defs₀ (F := F)) Variants.none c none) Set.univ
          (ask M8 sA oA hA bA w1 w2 (bk NB 0) 0 >>= fun _ => ask M8 sA oA hA bA w1 w2 (bk NB 1) 1 >>= fun _ => Scf.Loop.for lp hok ⟨⟩ body >>= fun _ =>
            settle M9 sO oO hO bO w4 w5 (bk NB (NB - 2)) 0 >>= fun _ => settle M9 sO oO hO bO w4 w5 (bk NB (NB - 1)) 1 >>= fun _ => k) Q := by
  rw [behind_close bO c X xn h2]
  iintro ⟨Ha0, Ha1, Ha2, Ho0, Ho1, H7, Hh, Hr, Hw, Hk⟩
  iapply (seg_open (F := F) M8 sA oA hA bA w1 w2 c X h2)
  isplitl [Hh]; · iexact Hh
  isplitl [Ha0]; · iexact Ha0
  isplitl [Ha1]; · iexact Ha1
  iintro ⟨Hi0, Hi1, Hh⟩
  iapply (seq_run (seg_loop (F := F) M7 M8 M9 sA sO oA hA oO hO bA bO w1 w2 w3 w4 w5 c X xn h2 hNB lp hok body htr hb))
  isplitl [Hi0 Hi1 Ha2 Hh Hr Ho0 Ho1 H7 Hw]
  · isplitl [Hi0]; · iexact Hi0
    isplitl [Hi1]; · iexact Hi1
    isplitl [Ha2]; · iexact Ha2
    isplitl [Hh]; · iexact Hh
    isplitl [Hr]; · iexact Hr
    isplitl [Ho0]; · iexact Ho0
    isplitl [Ho1]; · iexact Ho1
    isplitl [H7] <;> iassumption
  iintro ⟨Ha0, Ha1, Ha2, Hh, Hb, Ho0, Ho1, H7, Hw⟩
  iapply (seg_settle (F := F) M9 sO oO hO bO w4 w5 c X xn (bk NB (NB - 2)) 0)
  isplitl [Ho0]; · iexact Ho0
  isplitl [Hw]; · iexact Hw
  iintro ⟨Hb0, Ho0, Hw⟩
  iapply (seg_settle (F := F) M9 sO oO hO bO w4 w5 c X xn (bk NB (NB - 1)) 1)
  isplitl [Ho1]; · iexact Ho1
  isplitl [Hw]; · iexact Hw
  iintro ⟨Hb1, Ho1, Hw⟩
  iapply Hk
  isplitl [Ha0 Ha1 Ha2 Ho0 Ho1]
  · isplitl [Ha0]; · iexact Ha0
    isplitl [Ha1]; · iexact Ha1
    isplitl [Ha2]; · iexact Ha2
    isplitl [Ho0] <;> iassumption
  isplitl [H7]; · iexact H7
  isplitl [Hh]; · iexact Hh
  isplitl [Hb0 Hb1 Hb]
  · isplitl [Hb0]; · iexact Hb0
    isplitl [Hb1] <;> iassumption
  iexact Hw

end Segment

/-! ## The slots, the blocks and the semaphores, by number -/

abbrev offA (s : Fin 3) : Fin 3 → ℕ := ![s.val, 0, 0]
abbrev offO (s : Fin 2) : Fin 3 → ℕ := ![s.val, 0, 0]
theorem inbA : ∀ s a, offA s a + S1x8192x256.size a ≤ S3x8192x256.size a := by decide +kernel
theorem inbO : ∀ s a, offO s a + S1x256x2048.size a ≤ S2x256x2048.size a := by decide +kernel

theorem inb24 : ∀ (b : Fin 24) a, (![0, 256 * b.val] : Fin 2 → ℕ) a + S8192x256.size a ≤ S8192x6144.size a := by decide +kernel
theorem inb16 : ∀ (b : Fin 16) a, (![0, 256 * b.val] : Fin 2 → ℕ) a + S8192x256.size a ≤ S8192x4096.size a := by decide +kernel
theorem inr24 : ∀ (b : Fin 24) a, (![256 * b.val, 0] : Fin 2 → ℕ) a + S256x2048.size a ≤ S6144x2048.size a := by decide +kernel
theorem inr16 : ∀ (b : Fin 16) a, (![256 * b.val, 0] : Fin 2 → ℕ) a + S256x2048.size a ≤ S4096x2048.size a := by decide +kernel

/-- Block `b` of the columns of an array 6144 (4096) wide. -/
abbrev col24 (A : Memref sig .tc .hbm S8192x6144 .bf16) (b : Fin 24) : Memref sig .tc .hbm S8192x256 .bf16 :=
  A.slice (Rect.unit (s := S8192x6144) ![0, 256 * b.val] S8192x256.size (inb24 b)) (fun _ => rfl)
abbrev col16 (A : Memref sig .tc .hbm S8192x4096 .bf16) (b : Fin 16) : Memref sig .tc .hbm S8192x256 .bf16 :=
  A.slice (Rect.unit (s := S8192x4096) ![0, 256 * b.val] S8192x256.size (inb16 b)) (fun _ => rfl)
/-- Block `b` of the rows of a result. -/
abbrev row24 (A : Memref sig .tc .hbm S6144x2048 .bf16) (b : Fin 24) : Memref sig .tc .hbm S256x2048 .bf16 :=
  A.slice (Rect.unit (s := S6144x2048) ![256 * b.val, 0] S256x2048.size (inr24 b)) (fun _ => rfl)
abbrev row16 (A : Memref sig .tc .hbm S4096x2048 .bf16) (b : Fin 16) : Memref sig .tc .hbm S256x2048 .bf16 :=
  A.slice (Rect.unit (s := S4096x2048) ![256 * b.val, 0] S256x2048.size (inr16 b)) (fun _ => rfl)

abbrev semAt (S : DmaSems sig S3) (o : Fin 1 → ℕ) (h : ∀ a, o a + S1.size a ≤ S3.size a) : DmaSem sig :=
  ((S.slice (Rect.unit (s := S3) o S1.size h)).squeeze S_ squeezes_S1_S_).sem
theorem inbS3 : ∀ (s : Fin 3) a, (![s.val] : Fin 1 → ℕ) a + S1.size a ≤ S3.size a := by decide +kernel
theorem inbS2 : ∀ (s : Fin 2) a, (![s.val] : Fin 1 → ℕ) a + S1.size a ≤ S3.size a := by decide +kernel
abbrev semA (S : DmaSems sig S3) (s : Fin 3) : DmaSem sig := semAt S ![s.val] (inbS3 s)
abbrev semO (S : DmaSems sig S3) (s : Fin 2) : DmaSem sig := semAt S ![s.val] (inbS2 s)

theorem semAt_congr (S : DmaSems sig S3) {o o' : Fin 1 → ℕ} (h h') (e : o = o') : semAt S o h = semAt S o' h' := by subst e; rfl
theorem slice_congr {sp : Space} {s : Shape} (A : Memref sig .tc sp s .bf16) {o o' : Fin s.rank → ℕ} {sz : Fin s.rank → ℕ} (h h') (e : o = o') :
    A.slice (Rect.unit (s := s) o sz h) (fun _ => rfl) = A.slice (Rect.unit (s := s) o' sz h') (fun _ => rfl) := by subst e; rfl
theorem words_congr {s : Shape} {o o' : Fin s.rank → ℕ} {sz : Fin s.rank → ℕ} {n : ℕ} {h} (h') (e : o = o')
    (w : (Rect.unit (s := s) o sz h).WholeWords n) : (Rect.unit (s := s) o' sz h').WholeWords n := by subst e; exact w
theorem packed_congr {s : Shape} {o o' : Fin s.rank → ℕ} {sz : Fin s.rank → ℕ} {n : ℕ} {h} (h') (e : o = o')
    (w : (Rect.unit (s := s) o sz h).PackedRows n) : (Rect.unit (s := s) o' sz h').PackedRows n := by subst e; exact w

theorem trip_congr (M7 : Memref sig .tc .vmem S8192x2048 .bf16) (M8 : Memref sig .tc .vmem S3x8192x256 .bf16) (M9 : Memref sig .tc .vmem S2x256x2048 .bf16)
    {bA bA' : Memref sig .tc .hbm S8192x256 .bf16} {bO bO' : Memref sig .tc .hbm S256x2048 .bf16} {sA sA' sO sO' : DmaSem sig}
    {oA oA7 oA' oO oO11 oO' : Fin 3 → ℕ} {hA hA7 hA' hO hO11 hO'} {w1 w1' w2 w2' w3 w3' w4 w4' w5 w5'}
    {fetch fetch' drain drain' : Prog (TpuEff nD τ sig (Elt F) Λ₀ .tc) PUnit}
    (e1 : bA = bA') (e2 : bO = bO') (e3 : sA = sA') (e4 : sO = sO') (e5 : oA = oA') (e6 : oA7 = oA') (e7 : oO = oO') (e8 : oO11 = oO')
    (e9 : fetch = fetch') (e10 : drain = drain') :
    trip M7 M8 M9 bA bO sA sO oA oA7 hA hA7 oO oO11 hO hO11 w1 w2 w3 w4 w5 fetch drain
      = trip M7 M8 M9 bA' bO' sA' sO' oA' oA' hA' hA' oO' oO' hO' hO' w1' w2' w3' w4' w5' fetch' drain' := by
  subst e1 e2 e3 e4 e5 e6 e7 e8 e9 e10; rfl

theorem ask_congr (M8 : Memref sig .tc .vmem S3x8192x256 .bf16) {bA bA' : Memref sig .tc .hbm S8192x256 .bf16} {sA sA' : DmaSem sig}
    {oA oA' : Fin 3 → ℕ} {hA hA'} {w1 w1' w2 w2'} {h h'} (e1 : bA = bA') (e2 : sA = sA') (e3 : oA = oA') :
    (Prog.lift (.enqueueDma bA (.here (slotA M8 oA hA)) (.dma sA) w1 w2 h) : Prog (TpuEff nD τ sig (Elt F) Λ₀ .tc) PUnit)
      = Prog.lift (.enqueueDma bA' (.here (slotA M8 oA' hA')) (.dma sA') w1' w2' h') := by
  subst e1 e2 e3; rfl

theorem settle_congr (M9 : Memref sig .tc .vmem S2x256x2048 .bf16) {bO bO' : Memref sig .tc .hbm S256x2048 .bf16} {sO sO' : DmaSem sig}
    {oO oO' : Fin 3 → ℕ} {hO hO'} {w4 w4' w5 w5'} (e1 : bO = bO') (e2 : sO = sO') (e3 : oO = oO') :
    (Prog.lift (.waitDma2 sO (slotO M9 oO hO) bO w4 w5) : Prog (TpuEff nD τ sig (Elt F) Λ₀ .tc) PUnit)
      = Prog.lift (.waitDma2 sO' (slotO M9 oO' hO') bO' w4' w5') := by
  subst e1 e2 e3; rfl

/-- A guarded step, its guard read as a fact of the trip's number. -/
theorem guard_eq {b : BitVec 1} {P : Prop} [Decidable P] (hc : b = 1#1 ↔ P) {p : b = 1#1 → Prog (TpuEff nD τ sig (Elt F) Λ₀ .tc) PUnit}
    {q : Prog (TpuEff nD τ sig (Elt F) Λ₀ .tc) PUnit} (h : P → ∀ c, p c = q) :
    (if c : b = 1#1 then p c else pure ⟨⟩) = if P then q else pure ⟨⟩ := by
  by_cases c : P
  · rw [dif_pos (hc.2 c), if_pos c, h c]
  · rw [dif_neg (mt hc.1 c), if_neg c]

/-! A trip as the program writes it, its offsets given and not yet read. -/

section Written
variable (NB : ℕ) [NeZero NB] (k : ℕ)

/-- The offsets of the block in hand, of its semaphores and of its slots. -/
abbrev Here (col row : Fin 2 → ℕ) (semA semO : Fin 1 → ℕ) (slA slA' slO slO' : Fin 3 → ℕ) : Prop :=
  col = ![0, 256 * (bk NB k).val] ∧ row = ![256 * (bk NB k).val, 0] ∧ semA = ![(sl 3 k).val] ∧ semO = ![(sl 2 k).val]
    ∧ slA = offA (sl 3 k) ∧ slA' = offA (sl 3 k) ∧ slO = offO (sl 2 k) ∧ slO' = offO (sl 2 k)
/-- The offsets of the block two ahead. -/
abbrev Fetch (col : Fin 2 → ℕ) (sem : Fin 1 → ℕ) (slot : Fin 3 → ℕ) : Prop :=
  col = ![0, 256 * (bk NB (k + 2)).val] ∧ sem = ![(sl 3 (k + 2)).val] ∧ slot = offA (sl 3 (k + 2))
/-- The offsets of the result two behind. -/
abbrev Drain (row : Fin 2 → ℕ) (sem : Fin 1 → ℕ) (slot : Fin 3 → ℕ) : Prop :=
  row = ![256 * (bk NB (k - 2)).val, 0] ∧ sem = ![(sl 2 k).val] ∧ slot = offO (sl 2 k)
/-- A guard says when, and then the offsets are these. -/
abbrev Guard (b : BitVec 1) (P Q : Prop) : Prop := (b = 1#1 ↔ P) ∧ (P → Q)

theorem written_eq {dA dO : Fin 2 → ℕ} (A : Memref sig .tc .hbm ⟨2, dA⟩ .bf16) (hA : A.IsWhole) (O : Memref sig .tc .hbm ⟨2, dO⟩ .bf16) (hO : O.IsWhole)
    (M7 : Memref sig .tc .vmem S8192x2048 .bf16) (M8 : Memref sig .tc .vmem S3x8192x256 .bf16) (h8 : M8.IsWhole) (M9 : Memref sig .tc .vmem S2x256x2048 .bf16) (h9 : M9.IsWhole)
    (SA SO : DmaSems sig S3) (inA : ∀ (b : Fin NB) a, (![0, 256 * b.val] : Fin 2 → ℕ) a + S8192x256.size a ≤ dA a)
    (inO : ∀ (b : Fin NB) a, (![256 * b.val, 0] : Fin 2 → ℕ) a + S256x2048.size a ≤ dO a) (w1 w2 w3 w4 w5)
    {col row col' row' : Fin 2 → ℕ} {semA' semO' semF semD : Fin 1 → ℕ} {slA slA' slO slO' slF slD : Fin 3 → ℕ} {b1 b2 : BitVec 1}
    (here : Here NB k col row semA' semO' slA slA' slO slO') (fetch : Guard b1 (k + 2 < NB) (Fetch NB k col' semF slF)) (drain : Guard b2 (2 ≤ k) (Drain NB k row' semD slD))
    (iA isA iO isO) (jA : ∀ a, slA a + _ ≤ _) (jA' : ∀ a, slA' a + _ ≤ _) (jO : ∀ a, slO a + _ ≤ _) (jO' : ∀ a, slO' a + _ ≤ _)
    (u1 : (Rect.unit (s := ⟨2, dA⟩) col S8192x256.size iA).WholeWords (EltTy.packing .bf16)) (u2 : (Rect.unit (s := S3x8192x256) slA S1x8192x256.size jA).WholeWords (EltTy.packing .bf16))
    (u3 : (Rect.unit (s := S2x256x2048) slO' S1x256x2048.size jO').PackedRows (EltTy.packing .bf16)) (u4 : (Rect.unit (s := S2x256x2048) slO S1x256x2048.size jO).WholeWords (EltTy.packing .bf16))
    (u5 : (Rect.unit (s := ⟨2, dO⟩) row S256x2048.size iO).WholeWords (EltTy.packing .bf16))
    (iF : b1 = 1#1 → ∀ a, col' a + S8192x256.size a ≤ dA a) (isF : b1 = 1#1 → ∀ a, semF a + S1.size a ≤ S3.size a) (jF : b1 = 1#1 → ∀ a, slF a + S1x8192x256.size a ≤ S3x8192x256.size a)
    (u6 : ∀ h, (Rect.unit (s := ⟨2, dA⟩) col' S8192x256.size (iF h)).WholeWords (EltTy.packing .bf16))
    (u7 : ∀ h, (Rect.unit (s := S3x8192x256) slF S1x8192x256.size (jF h)).WholeWords (EltTy.packing .bf16))
    (iD : b2 = 1#1 → ∀ a, row' a + S256x2048.size a ≤ dO a) (isD : b2 = 1#1 → ∀ a, semD a + S1.size a ≤ S3.size a) (jD : b2 = 1#1 → ∀ a, slD a + S1x256x2048.size a ≤ S2x256x2048.size a)
    (u8 : ∀ h, (Rect.unit (s := S2x256x2048) slD S1x256x2048.size (jD h)).WholeWords (EltTy.packing .bf16))
    (u9 : ∀ h, (Rect.unit (s := ⟨2, dO⟩) row' S256x2048.size (iD h)).WholeWords (EltTy.packing .bf16)) :
    trip (F := F) M7 M8 M9 (A.slice (Rect.unit (s := ⟨2, dA⟩) col S8192x256.size iA) (fun _ => rfl)) (O.slice (Rect.unit (s := ⟨2, dO⟩) row S256x2048.size iO) (fun _ => rfl))
        (semAt SA semA' isA) (semAt SO semO' isO) slA slA' jA jA' slO slO' jO jO' (hA.wordExact_slice rfl _ u1) ((h8.wordExact_slice rfl _ u2).reshape _ _)
        (h9.storeExact_slice rfl _ u3) ((h9.wordExact_slice rfl _ u4).reshape _ _) (hO.wordExact_slice rfl _ u5)
        (if h : b1 = 1#1 then Prog.lift (.enqueueDma (A.slice (Rect.unit (s := ⟨2, dA⟩) col' S8192x256.size (iF h)) (fun _ => rfl))
          (.here (slotA M8 slF (jF h))) (.dma (semAt SA semF (isF h))) (hA.wordExact_slice rfl _ (u6 h)) ((h8.wordExact_slice rfl _ (u7 h)).reshape _ _) ⟨Or.inl rfl, trivial⟩) else pure ⟨⟩)
        (if h : b2 = 1#1 then Prog.lift (.waitDma2 (semAt SO semD (isD h)) (slotO M9 slD (jD h)) (O.slice (Rect.unit (s := ⟨2, dO⟩) row' S256x2048.size (iD h)) (fun _ => rfl))
          ((h9.wordExact_slice rfl _ (u8 h)).reshape _ _) (hO.wordExact_slice rfl _ (u9 h))) else pure ⟨⟩)
      = segTrip (F := F) (NB := NB) M7 M8 M9 (semA SA) (semO SO) offA inbA offO inbO (fun b => A.slice (Rect.unit (s := ⟨2, dA⟩) ![0, 256 * b.val] S8192x256.size (inA b)) (fun _ => rfl))
          (fun b => O.slice (Rect.unit (s := ⟨2, dO⟩) ![256 * b.val, 0] S256x2048.size (inO b)) (fun _ => rfl)) w1 w2 w3 w4 w5 k := by
  obtain ⟨e1, e2, e3, e4, e5, e6, e7, e8⟩ := here
  exact trip_congr M7 M8 M9 (slice_congr _ _ _ e1) (slice_congr _ _ _ e2) (semAt_congr _ _ _ e3) (semAt_congr _ _ _ e4) e5 e6 e7 e8
    (guard_eq fetch.1 fun c _ => have f := fetch.2 c; ask_congr M8 (slice_congr _ _ _ f.1) (semAt_congr _ _ _ f.2.1) f.2.2)
    (guard_eq drain.1 fun c _ => have f := drain.2 c; settle_congr M9 (slice_congr _ _ _ f.1) (semAt_congr _ _ _ f.2.1) f.2.2)

end Written

section Body
variable (arg0 : Memref sig .tc .hbm S8192x6144 .bf16) (harg0 : arg0.IsWhole) (arg1 : Memref sig .tc .hbm S8192x4096 .bf16) (harg1 : arg1.IsWhole)
  (arg2 : Memref sig .tc .hbm S8192x6144 .bf16) (harg2 : arg2.IsWhole) (arg3 : Memref sig .tc .hbm S8192x2048 .bf16) (harg3 : arg3.IsWhole)
  (arg4 : Memref sig .tc .hbm S6144x2048 .bf16) (harg4 : arg4.IsWhole) (arg5 : Memref sig .tc .hbm S4096x2048 .bf16) (harg5 : arg5.IsWhole)
  (arg6 : Memref sig .tc .hbm S6144x2048 .bf16) (harg6 : arg6.IsWhole) (arg7 : Memref sig .tc .vmem S8192x2048 .bf16) (harg7 : arg7.IsWhole)
  (arg8 : Memref sig .tc .vmem S3x8192x256 .bf16) (harg8 : arg8.IsWhole) (arg9 : Memref sig .tc .vmem S2x256x2048 .bf16) (harg9 : arg9.IsWhole)
  (arg10 arg11 : DmaSems sig S3)

/-! The loops' offsets, read at each trip. -/

theorem t1_here : ∀ k : Fin k0_t1_loop.trips, Here 24 k.val (k0_off3 k) (k0_off12 k) (k0_off1 k 3#32) (k0_off1 k 2#32) (k0_off2 k) (k0_off7 k) (k0_off13 k)
    (k0_off11 k) := by decide +kernel
theorem t1_fetch : ∀ k : Fin k0_t1_loop.trips, Guard (k0_cond1 k) (k.val + 2 < 24) (Fetch 24 k.val (k0_off6 k) (k0_off4 k) (k0_off5 k)) := by decide +kernel
theorem t1_drain : ∀ k : Fin k0_t1_loop.trips, Guard (k0_cond2 k) (2 ≤ k.val) (Drain 24 k.val (k0_off9 k) (k0_off8 k) (k0_off10 k)) := by decide +kernel

theorem t2_here : ∀ k : Fin k0_t2_loop.trips, Here 16 k.val (k0_off16 k) (k0_off25 k) (k0_off14 k 3#32) (k0_off14 k 2#32) (k0_off15 k) (k0_off20 k) (k0_off26 k)
    (k0_off24 k) := by decide +kernel
theorem t2_fetch : ∀ k : Fin k0_t2_loop.trips, Guard (k0_cond3 k) (k.val + 2 < 16) (Fetch 16 k.val (k0_off19 k) (k0_off17 k) (k0_off18 k)) := by decide +kernel
theorem t2_drain : ∀ k : Fin k0_t2_loop.trips, Guard (k0_cond4 k) (2 ≤ k.val) (Drain 16 k.val (k0_off22 k) (k0_off21 k) (k0_off23 k)) := by decide +kernel

theorem t3_here : ∀ k : Fin k0_t3_loop.trips, Here 24 k.val (k0_off29 k) (k0_off38 k) (k0_off27 k 3#32) (k0_off27 k 2#32) (k0_off28 k) (k0_off33 k) (k0_off39 k)
    (k0_off37 k) := by decide +kernel
theorem t3_fetch : ∀ k : Fin k0_t3_loop.trips, Guard (k0_cond5 k) (k.val + 2 < 24) (Fetch 24 k.val (k0_off32 k) (k0_off30 k) (k0_off31 k)) := by decide +kernel
theorem t3_drain : ∀ k : Fin k0_t3_loop.trips, Guard (k0_cond6 k) (2 ≤ k.val) (Drain 24 k.val (k0_off35 k) (k0_off34 k) (k0_off36 k)) := by decide +kernel

theorem wA24 (A : Memref sig .tc .hbm S8192x6144 .bf16) (h : A.IsWhole) (b : Fin 24) : (col24 A b).view.WordExact :=
  h.wordExact_slice rfl _ (words_congr (inb24 b) ((t1_here b).1.trans (by rw [bk_eq_mk b.isLt])) (k0_off3_wordsbf16 b))
theorem wA16 (A : Memref sig .tc .hbm S8192x4096 .bf16) (h : A.IsWhole) (b : Fin 16) : (col16 A b).view.WordExact :=
  h.wordExact_slice rfl _ (words_congr (inb16 b) ((t2_here b).1.trans (by rw [bk_eq_mk b.isLt])) (k0_off16_wordsbf16 b))
theorem wO24 (A : Memref sig .tc .hbm S6144x2048 .bf16) (h : A.IsWhole) (b : Fin 24) : (row24 A b).view.WordExact :=
  h.wordExact_slice rfl _ (words_congr (inr24 b) ((t1_here b).2.1.trans (by rw [bk_eq_mk b.isLt])) (k0_off12_wordsbf16 b))
theorem wO16 (A : Memref sig .tc .hbm S4096x2048 .bf16) (h : A.IsWhole) (b : Fin 16) : (row16 A b).view.WordExact :=
  h.wordExact_slice rfl _ (words_congr (inr16 b) ((t2_here b).2.1.trans (by rw [bk_eq_mk b.isLt])) (k0_off25_wordsbf16 b))
theorem t1_slotA : ∀ s : Fin 3, k0_off2 (s.castLE (by decide)) = offA s := by decide +kernel
theorem t1_slotO : ∀ s : Fin 2, k0_off13 (s.castLE (by decide)) = offO s ∧ k0_off11 (s.castLE (by decide)) = offO s := by decide +kernel
theorem wSA (M : Memref sig .tc .vmem S3x8192x256 .bf16) (h : M.IsWhole) (s : Fin 3) : (slotA M (offA s) (inbA s)).view.WordExact :=
  (h.wordExact_slice rfl _ (words_congr (inbA s) (t1_slotA s) (k0_off2_wordsbf16 _))).reshape _ _
theorem wSO (M : Memref sig .tc .vmem S2x256x2048 .bf16) (h : M.IsWhole) (s : Fin 2) : (slotO M (offO s) (inbO s)).view.WordExact :=
  (h.wordExact_slice rfl _ (words_congr (inbO s) (t1_slotO s).1 (k0_off13_wordsbf16 _))).reshape _ _
theorem wSt (M : Memref sig .tc .vmem S2x256x2048 .bf16) (h : M.IsWhole) (s : Fin 2) :
    (M.access (Rect.unit (s := S2x256x2048) (offO s) S1x256x2048.size (inbO s))).StoreExact Finset.univ :=
  h.storeExact_slice rfl _ (packed_congr (inbO s) (t1_slotO s).2 (k0_off11_packedbf16 _))

theorem t1_trip (w1 w2 w3 w4 w5) (k : Fin k0_t1_loop.trips) :
    k0_t1_body arg0 harg0 arg1 harg1 arg2 harg2 arg3 harg3 arg4 harg4 arg5 harg5 arg6 harg6 arg7 harg7 arg8 harg8 arg9 harg9 arg10 arg11 k ⟨⟩
      = segTrip (F := F) (NB := 24) arg7 arg8 arg9 (semA arg10) (semO arg11) offA inbA offO inbO (col24 arg0) (row24 arg4) w1 w2 w3 w4 w5 k.val := by
  refine Eq.trans ?_ (written_eq 24 k.val arg0 harg0 arg4 harg4 arg7 arg8 harg8 arg9 harg9 arg10 arg11 inb24 inr24 w1 w2 w3 w4 w5 (t1_here k) (t1_fetch k) (t1_drain k)
    (k0_off3_inb k) (k0_off1_inb k 1) (k0_off12_inb k) (k0_off1_inb k 0) (k0_off2_inb k) (k0_off7_inb k) (k0_off13_inb k) (k0_off11_inb k)
    (k0_off3_wordsbf16 k) (k0_off2_wordsbf16 k) (k0_off11_packedbf16 k) (k0_off13_wordsbf16 k) (k0_off12_wordsbf16 k)
    (k0_off6_inb k) (k0_off4_inb k) (k0_off5_inb k) (k0_off6_wordsbf16 k) (k0_off5_wordsbf16 k)
    (k0_off9_inb k) (k0_off8_inb k) (k0_off10_inb k) (k0_off10_wordsbf16 k) (k0_off9_wordsbf16 k))
  unfold k0_t1_body
  rw [k0_part1_eq_skeleton, k0_part2_eq_skeleton]
  unfold k0_part1_skel k0_part2_skel trip
  by_cases c1 : k0_cond1 k = 1#1 <;> by_cases c2 : k0_cond2 k = 1#1 <;> simp only [c1, c2, dite_true, dite_false] <;> rfl

theorem t2_trip (w1 w2 w3 w4 w5) (k : Fin k0_t2_loop.trips) :
    k0_t2_body arg0 harg0 arg1 harg1 arg2 harg2 arg3 harg3 arg4 harg4 arg5 harg5 arg6 harg6 arg7 harg7 arg8 harg8 arg9 harg9 arg10 arg11 k ⟨⟩
      = segTrip (F := F) (NB := 16) arg7 arg8 arg9 (semA arg10) (semO arg11) offA inbA offO inbO (col16 arg1) (row16 arg5) w1 w2 w3 w4 w5 k.val := by
  refine Eq.trans ?_ (written_eq 16 k.val arg1 harg1 arg5 harg5 arg7 arg8 harg8 arg9 harg9 arg10 arg11 inb16 inr16 w1 w2 w3 w4 w5 (t2_here k) (t2_fetch k) (t2_drain k)
    (k0_off16_inb k) (k0_off14_inb k 1) (k0_off25_inb k) (k0_off14_inb k 0) (k0_off15_inb k) (k0_off20_inb k) (k0_off26_inb k) (k0_off24_inb k)
    (k0_off16_wordsbf16 k) (k0_off15_wordsbf16 k) (k0_off24_packedbf16 k) (k0_off26_wordsbf16 k) (k0_off25_wordsbf16 k)
    (k0_off19_inb k) (k0_off17_inb k) (k0_off18_inb k) (k0_off19_wordsbf16 k) (k0_off18_wordsbf16 k)
    (k0_off22_inb k) (k0_off21_inb k) (k0_off23_inb k) (k0_off23_wordsbf16 k) (k0_off22_wordsbf16 k))
  unfold k0_t2_body
  rw [k0_part3_eq_skeleton, k0_part4_eq_skeleton]
  unfold k0_part3_skel k0_part4_skel trip
  by_cases c1 : k0_cond3 k = 1#1 <;> by_cases c2 : k0_cond4 k = 1#1 <;> simp only [c1, c2, dite_true, dite_false] <;> rfl

theorem t3_trip (w1 w2 w3 w4 w5) (k : Fin k0_t3_loop.trips) :
    k0_t3_body arg0 harg0 arg1 harg1 arg2 harg2 arg3 harg3 arg4 harg4 arg5 harg5 arg6 harg6 arg7 harg7 arg8 harg8 arg9 harg9 arg10 arg11 k ⟨⟩
      = segTrip (F := F) (NB := 24) arg7 arg8 arg9 (semA arg10) (semO arg11) offA inbA offO inbO (col24 arg2) (row24 arg6) w1 w2 w3 w4 w5 k.val := by
  refine Eq.trans ?_ (written_eq 24 k.val arg2 harg2 arg6 harg6 arg7 arg8 harg8 arg9 harg9 arg10 arg11 inb24 inr24 w1 w2 w3 w4 w5 (t3_here k) (t3_fetch k) (t3_drain k)
    (k0_off29_inb k) (k0_off27_inb k 1) (k0_off38_inb k) (k0_off27_inb k 0) (k0_off28_inb k) (k0_off33_inb k) (k0_off39_inb k) (k0_off37_inb k)
    (k0_off29_wordsbf16 k) (k0_off28_wordsbf16 k) (k0_off37_packedbf16 k) (k0_off39_wordsbf16 k) (k0_off38_wordsbf16 k)
    (k0_off32_inb k) (k0_off30_inb k) (k0_off31_inb k) (k0_off32_wordsbf16 k) (k0_off31_wordsbf16 k)
    (k0_off35_inb k) (k0_off34_inb k) (k0_off36_inb k) (k0_off36_wordsbf16 k) (k0_off35_wordsbf16 k))
  unfold k0_t3_body
  rw [k0_part5_eq_skeleton, k0_part6_eq_skeleton]
  unfold k0_part5_skel k0_part6_skel trip
  by_cases c1 : k0_cond5 k = 1#1 <;> by_cases c2 : k0_cond6 k = 1#1 <;> simp only [c1, c2, dite_true, dite_false] <;> rfl

/-- The first part: the other operand and the first two blocks of the first array asked for, the first segment's trips, its last but one result. -/
theorem part7_eq (w1 w2 w4 w5) :
    k0_part7 arg0 harg0 arg1 harg1 arg2 harg2 arg3 harg3 arg4 harg4 arg5 harg5 arg6 harg6 arg7 harg7 arg8 harg8 arg9 harg9 arg10 arg11
      = (do
        Prog.lift (.enqueueDma arg3 (.here arg7) (.dma (semAt arg11 ![2] inb_S3_S1_2)) harg3.wordExact harg7.wordExact ⟨Or.inl rfl, trivial⟩)
        ask (F := F) arg8 (semA arg10) offA inbA (col24 arg0) w1 w2 (bk 24 0) 0
        ask (F := F) arg8 (semA arg10) offA inbA (col24 arg0) w1 w2 (bk 24 1) 1
        Prog.lift (.waitDma2 (semAt arg11 ![2] inb_S3_S1_2) arg3 arg7 harg3.wordExact harg7.wordExact)
        Scf.Loop.for k0_t1_loop k0_t1_ok ⟨⟩ (k0_t1_body arg0 harg0 arg1 harg1 arg2 harg2 arg3 harg3 arg4 harg4 arg5 harg5 arg6 harg6 arg7 harg7 arg8 harg8 arg9 harg9 arg10 arg11)
        settle (F := F) arg9 (semO arg11) offO inbO (row24 arg4) w4 w5 (bk 24 22) 0
        pure ⟨⟩) := rfl

theorem part8_eq (w1 w2 w4 w5 w5') :
    k0_part8 arg0 harg0 arg1 harg1 arg2 harg2 arg3 harg3 arg4 harg4 arg5 harg5 arg6 harg6 arg7 harg7 arg8 harg8 arg9 harg9 arg10 arg11
      = (do
        settle (F := F) arg9 (semO arg11) offO inbO (row24 arg4) w4 w5 (bk 24 23) 1
        ask (F := F) arg8 (semA arg10) offA inbA (col16 arg1) w1 w2 (bk 16 0) 0
        ask (F := F) arg8 (semA arg10) offA inbA (col16 arg1) w1 w2 (bk 16 1) 1
        Scf.Loop.for k0_t2_loop k0_t2_ok ⟨⟩ (k0_t2_body arg0 harg0 arg1 harg1 arg2 harg2 arg3 harg3 arg4 harg4 arg5 harg5 arg6 harg6 arg7 harg7 arg8 harg8 arg9 harg9 arg10 arg11)
        settle (F := F) arg9 (semO arg11) offO inbO (row16 arg5) w4 w5' (bk 16 14) 0
        settle (F := F) arg9 (semO arg11) offO inbO (row16 arg5) w4 w5' (bk 16 15) 1
        pure ⟨⟩) := rfl

theorem body_eq (w1 w2 w4 w5) :
    cc0_dw_in arg0 harg0 arg1 harg1 arg2 harg2 arg3 harg3 arg4 harg4 arg5 harg5 arg6 harg6 arg7 harg7 arg8 harg8 arg9 harg9 arg10 arg11
      = (do
        k0_part7 arg0 harg0 arg1 harg1 arg2 harg2 arg3 harg3 arg4 harg4 arg5 harg5 arg6 harg6 arg7 harg7 arg8 harg8 arg9 harg9 arg10 arg11
        k0_part8 arg0 harg0 arg1 harg1 arg2 harg2 arg3 harg3 arg4 harg4 arg5 harg5 arg6 harg6 arg7 harg7 arg8 harg8 arg9 harg9 arg10 arg11
        ask (F := F) arg8 (semA arg10) offA inbA (col24 arg2) w1 w2 (bk 24 0) 0
        ask (F := F) arg8 (semA arg10) offA inbA (col24 arg2) w1 w2 (bk 24 1) 1
        Scf.Loop.for k0_t3_loop k0_t3_ok ⟨⟩ (k0_t3_body arg0 harg0 arg1 harg1 arg2 harg2 arg3 harg3 arg4 harg4 arg5 harg5 arg6 harg6 arg7 harg7 arg8 harg8 arg9 harg9 arg10 arg11)
        settle (F := F) arg9 (semO arg11) offO inbO (row24 arg6) w4 w5 (bk 24 22) 0
        settle (F := F) arg9 (semO arg11) offO inbO (row24 arg6) w4 w5 (bk 24 23) 1
        pure ⟨⟩) := rfl

variable (c : Dev nD) (X0 : Fin 24 → Vec F S8192x256 .bf16) (X1 : Fin 16 → Vec F S8192x256 .bf16) (X2 : Fin 24 → Vec F S8192x256 .bf16) (xn : Vec F S8192x2048 .bf16)

/-- Between segments: every slot is free, the second operand is in its buffer. -/
def rest : sProp 𝕄 :=
  iprop(freeA (F := F) arg8 (semA arg10) offA inbA c 0 ∗ freeA (F := F) arg8 (semA arg10) offA inbA c 1 ∗ freeA (F := F) arg8 (semA arg10) offA inbA c 2
    ∗ freeO (F := F) arg9 (semO arg11) offO inbO c 0 ∗ freeO (F := F) arg9 (semO arg11) offO inbO c 1)

theorem xn_ask_run (S : DmaSem sig) :
    iprop(semVal ((c : Thread nD τ), SemLoc.dma S) 0 ∗ own c arg3 (arg3.view.rep xn) ∗ ∃ f, own c arg7 f)
      ⊢ wp frame (wpE (defs₀ (F := F)) Variants.none c none) Set.univ
        (Prog.lift (.enqueueDma arg3 (.here arg7) (.dma S) harg3.wordExact harg7.wordExact ⟨Or.inl rfl, trivial⟩)) (fun _ => flies c S arg3 arg7 xn) := by
  iintro ⟨Hs, H3, ⟨%f, H7⟩⟩
  sl_exec
  sl_step
  ihave Hs := (Transfers.Flight_mono (countersEmb (U := UD sig nD τ)) (c : Thread nD τ)
    (delivery_rep (c : Thread nD τ) arg3 arg7 fullShare fullShare _ f _ _ rfl (View.read_rep _ _))) $$ [Hs]
  · iexact Hs
  iexact Hs

theorem xn_wait_run (S : DmaSem sig) (W : Waits sig Unit) :
    iprop(flies c S arg3 arg7 xn ∗ owes (c : Thread nD τ) 0 W)
      ⊢ wp frame (wpE (defs₀ (F := F)) Variants.none c none) Set.univ (Prog.lift (.waitDma2 S arg3 arg7 harg3.wordExact harg7.wordExact))
        (fun _ => iprop(semVal ((c : Thread nD τ), SemLoc.dma S) 0 ∗ own c arg3 (arg3.view.rep xn) ∗ own c arg7 (arg7.view.rep xn) ∗ ∃ W, owes (c : Thread nD τ) 0 W)) := by
  iintro ⟨Hf, Hw⟩
  sl_exec
  sl_step
  isplitl [Hf]; · iexact Hf
  isplitl [Hf_src]; · iexact Hf_src
  isplitl [Hf_dst]; · iexact Hf_dst
  iexists _; iexact Hw

theorem part7_run :
    iprop(rest (F := F) arg8 arg9 arg10 arg11 c ∗ semVal ((c : Thread nD τ), SemLoc.dma (semAt arg11 ![2] inb_S3_S1_2)) 0
        ∗ own c arg3 (arg3.view.rep xn) ∗ (∃ f, own c arg7 f) ∗ bigSep Finset.univ (homeA (col24 arg0) c X0) ∗ bigSep Finset.univ (aheadO (F := F) (row24 arg4) c)
        ∗ ∃ W, owes (c : Thread nD τ) 0 W)
      ⊢ wp frame (wpE (defs₀ (F := F)) Variants.none c none) Set.univ
        (k0_part7 arg0 harg0 arg1 harg1 arg2 harg2 arg3 harg3 arg4 harg4 arg5 harg5 arg6 harg6 arg7 harg7 arg8 harg8 arg9 harg9 arg10 arg11)
        (fun _ => iprop(freeA (F := F) arg8 (semA arg10) offA inbA c 0 ∗ freeA (F := F) arg8 (semA arg10) offA inbA c 1 ∗ freeA (F := F) arg8 (semA arg10) offA inbA c 2
          ∗ freeO (F := F) arg9 (semO arg11) offO inbO c 0 ∗ inflO arg9 (semO arg11) offO inbO (row24 arg4) c X0 xn 1 (bk 24 23)
          ∗ semVal ((c : Thread nD τ), SemLoc.dma (semAt arg11 ![2] inb_S3_S1_2)) 0 ∗ own c arg3 (arg3.view.rep xn) ∗ own c arg7 (arg7.view.rep xn)
          ∗ bigSep Finset.univ (homeA (col24 arg0) c X0) ∗ behindO (row24 arg4) c X0 xn (bk 24 22) ∗ bigSep (behindSet 2 24) (behindO (row24 arg4) c X0 xn)
          ∗ ∃ W, owes (c : Thread nD τ) 0 W)) := by
  rw [part7_eq arg0 harg0 arg1 harg1 arg2 harg2 arg3 harg3 arg4 harg4 arg5 harg5 arg6 harg6 arg7 harg7 arg8 harg8 arg9 harg9 arg10 arg11
    (wA24 arg0 harg0) (wSA arg8 harg8) (wSO arg9 harg9) (wO24 arg4 harg4)]
  unfold rest
  iintro ⟨⟨Ha0, Ha1, Ha2, Ho0, Ho1⟩, HsX, H3, ⟨%f7, H7⟩, Hh, Hr, Hw⟩
  iapply (seq_run (xn_ask_run (F := F) arg3 harg3 arg7 harg7 c xn _))
  isplitl [HsX H3 H7]
  · isplitl [HsX]; · iexact HsX
    isplitl [H3]; · iexact H3
    iexists f7; iexact H7
  iintro HsX
  iapply (seg_open (F := F) arg8 (semA arg10) offA inbA (col24 arg0) (wA24 arg0 harg0) (wSA arg8 harg8) c X0 (by decide))
  isplitl [Hh]; · iexact Hh
  isplitl [Ha0]; · iexact Ha0
  isplitl [Ha1]; · iexact Ha1
  iintro ⟨Hi0, Hi1, Hh⟩
  icases Hw with ⟨%W, Hw⟩
  iapply (seq_run (xn_wait_run (F := F) arg3 harg3 arg7 harg7 c xn _ W))
  isplitl [HsX Hw]
  · isplitl [HsX] <;> iassumption
  iintro ⟨HsX, H3, H7, Hw⟩
  iapply (seq_run (seg_loop (F := F) arg7 arg8 arg9 (semA arg10) (semO arg11) offA inbA offO inbO (col24 arg0) (row24 arg4)
    (wA24 arg0 harg0) (wSA arg8 harg8) (wSt arg9 harg9) (wSO arg9 harg9) (wO24 arg4 harg4) c X0 xn (by decide) (by decide) k0_t1_loop k0_t1_ok _ (by decide)
    (t1_trip (F := F) arg0 harg0 arg1 harg1 arg2 harg2 arg3 harg3 arg4 harg4 arg5 harg5 arg6 harg6 arg7 harg7 arg8 harg8 arg9 harg9 arg10 arg11 _ _ _ _ _)))
  isplitl [Hi0 Hi1 Ha2 Hh Hr Ho0 Ho1 H7 Hw]
  · isplitl [Hi0]; · iexact Hi0
    isplitl [Hi1]; · iexact Hi1
    isplitl [Ha2]; · iexact Ha2
    isplitl [Hh]; · iexact Hh
    isplitl [Hr]; · iexact Hr
    isplitl [Ho0]; · iexact Ho0
    isplitl [Ho1]; · iexact Ho1
    isplitl [H7]; · iexact H7
    iexact Hw
  iintro ⟨Ha0, Ha1, Ha2, Hh, Hb, Ho0, Ho1, H7, Hw⟩
  iapply (seg_settle (F := F) arg9 (semO arg11) offO inbO (row24 arg4) (wSO arg9 harg9) (wO24 arg4 harg4) c X0 xn (bk 24 22) 0)
  isplitl [Ho0]; · iexact Ho0
  isplitl [Hw]; · iexact Hw
  iintro ⟨Hb0, Ho0, Hw⟩
  sl_step
  isplitl [Ha0]; · iexact Ha0
  isplitl [Ha1]; · iexact Ha1
  isplitl [Ha2]; · iexact Ha2
  isplitl [Ho0]; · iexact Ho0
  isplitl [Ho1]; · iexact Ho1
  isplitl [HsX]; · iexact HsX
  isplitl [H3]; · iexact H3
  isplitl [H7]; · iexact H7
  isplitl [Hh]; · iexact Hh
  isplitl [Hb0]; · iexact Hb0
  isplitl [Hb]; · iexact Hb
  iexact Hw

theorem part8_run :
    iprop(freeA (F := F) arg8 (semA arg10) offA inbA c 0 ∗ freeA (F := F) arg8 (semA arg10) offA inbA c 1 ∗ freeA (F := F) arg8 (semA arg10) offA inbA c 2
        ∗ freeO (F := F) arg9 (semO arg11) offO inbO c 0 ∗ inflO arg9 (semO arg11) offO inbO (row24 arg4) c X0 xn 1 (bk 24 23) ∗ own c arg7 (arg7.view.rep xn)
        ∗ behindO (row24 arg4) c X0 xn (bk 24 22) ∗ bigSep (behindSet 2 24) (behindO (row24 arg4) c X0 xn)
        ∗ bigSep Finset.univ (homeA (col16 arg1) c X1) ∗ bigSep Finset.univ (aheadO (F := F) (row16 arg5) c) ∗ ∃ W, owes (c : Thread nD τ) 0 W)
      ⊢ wp frame (wpE (defs₀ (F := F)) Variants.none c none) Set.univ
        (k0_part8 arg0 harg0 arg1 harg1 arg2 harg2 arg3 harg3 arg4 harg4 arg5 harg5 arg6 harg6 arg7 harg7 arg8 harg8 arg9 harg9 arg10 arg11)
        (fun _ => iprop(rest (F := F) arg8 arg9 arg10 arg11 c ∗ own c arg7 (arg7.view.rep xn) ∗ bigSep Finset.univ (behindO (row24 arg4) c X0 xn)
          ∗ bigSep Finset.univ (homeA (col16 arg1) c X1) ∗ bigSep Finset.univ (behindO (row16 arg5) c X1 xn) ∗ ∃ W, owes (c : Thread nD τ) 0 W)) := by
  rw [part8_eq arg0 harg0 arg1 harg1 arg2 harg2 arg3 harg3 arg4 harg4 arg5 harg5 arg6 harg6 arg7 harg7 arg8 harg8 arg9 harg9 arg10 arg11
    (wA16 arg1 harg1) (wSA arg8 harg8) (wSO arg9 harg9) (wO24 arg4 harg4) (wO16 arg5 harg5)]
  unfold rest
  rw [behind_close (row24 arg4) c X0 xn (by decide)]
  iintro ⟨Ha0, Ha1, Ha2, Ho0, Ho1, H7, Hb0, Hb, Hh, Hr, Hw⟩
  iapply (seg_settle (F := F) arg9 (semO arg11) offO inbO (row24 arg4) (wSO arg9 harg9) (wO24 arg4 harg4) c X0 xn (bk 24 23) 1)
  isplitl [Ho1]; · iexact Ho1
  isplitl [Hw]; · iexact Hw
  iintro ⟨Hb1, Ho1, Hw⟩
  iapply (seg_all (F := F) arg7 arg8 arg9 (semA arg10) (semO arg11) offA inbA offO inbO (col16 arg1) (row16 arg5) (wA16 arg1 harg1) (wSA arg8 harg8) (wSt arg9 harg9)
    (wSO arg9 harg9) (wO16 arg5 harg5) c X1 xn (by decide) (by decide) k0_t2_loop k0_t2_ok _ (by decide)
    (t2_trip (F := F) arg0 harg0 arg1 harg1 arg2 harg2 arg3 harg3 arg4 harg4 arg5 harg5 arg6 harg6 arg7 harg7 arg8 harg8 arg9 harg9 arg10 arg11 _ _ _ _ _))
  isplitl [Ha0]; · iexact Ha0
  isplitl [Ha1]; · iexact Ha1
  isplitl [Ha2]; · iexact Ha2
  isplitl [Ho0]; · iexact Ho0
  isplitl [Ho1]; · iexact Ho1
  isplitl [H7]; · iexact H7
  isplitl [Hh]; · iexact Hh
  isplitl [Hr]; · iexact Hr
  isplitl [Hw]; · iexact Hw
  iintro ⟨Hf, H7, Hh, Hc, Hw⟩
  sl_step
  isplitl [Hf]; · iexact Hf
  isplitl [H7]; · iexact H7
  isplitl [Hb0 Hb1 Hb]
  · isplitl [Hb0]; · iexact Hb0
    isplitl [Hb1] <;> iassumption
  isplitl [Hh]; · iexact Hh
  isplitl [Hc] <;> iassumption

theorem body_run :
    iprop(rest (F := F) arg8 arg9 arg10 arg11 c ∗ semVal ((c : Thread nD τ), SemLoc.dma (semAt arg11 ![2] inb_S3_S1_2)) 0
        ∗ own c arg3 (arg3.view.rep xn) ∗ (∃ f, own c arg7 f) ∗ bigSep Finset.univ (homeA (col24 arg0) c X0) ∗ bigSep Finset.univ (homeA (col16 arg1) c X1)
        ∗ bigSep Finset.univ (homeA (col24 arg2) c X2) ∗ bigSep Finset.univ (aheadO (F := F) (row24 arg4) c) ∗ bigSep Finset.univ (aheadO (F := F) (row16 arg5) c)
        ∗ bigSep Finset.univ (aheadO (F := F) (row24 arg6) c) ∗ ∃ W, owes (c : Thread nD τ) 0 W)
      ⊢ wp frame (wpE (defs₀ (F := F)) Variants.none c none) Set.univ
        (cc0_dw_in arg0 harg0 arg1 harg1 arg2 harg2 arg3 harg3 arg4 harg4 arg5 harg5 arg6 harg6 arg7 harg7 arg8 harg8 arg9 harg9 arg10 arg11)
        (fun _ => iprop(rest (F := F) arg8 arg9 arg10 arg11 c ∗ semVal ((c : Thread nD τ), SemLoc.dma (semAt arg11 ![2] inb_S3_S1_2)) 0
          ∗ own c arg3 (arg3.view.rep xn) ∗ own c arg7 (arg7.view.rep xn) ∗ bigSep Finset.univ (homeA (col24 arg0) c X0) ∗ bigSep Finset.univ (homeA (col16 arg1) c X1)
          ∗ bigSep Finset.univ (homeA (col24 arg2) c X2) ∗ bigSep Finset.univ (behindO (row24 arg4) c X0 xn) ∗ bigSep Finset.univ (behindO (row16 arg5) c X1 xn)
          ∗ bigSep Finset.univ (behindO (row24 arg6) c X2 xn) ∗ ∃ W, owes (c : Thread nD τ) 0 W)) := by
  rw [body_eq arg0 harg0 arg1 harg1 arg2 harg2 arg3 harg3 arg4 harg4 arg5 harg5 arg6 harg6 arg7 harg7 arg8 harg8 arg9 harg9 arg10 arg11
    (wA24 arg2 harg2) (wSA arg8 harg8) (wSO arg9 harg9) (wO24 arg6 harg6)]
  iintro ⟨Hf, HsX, H3, H7, Hh0, Hh1, Hh, Hr0, Hr1, Hr, Hw⟩
  iapply (seq_run (part7_run (F := F) arg0 harg0 arg1 harg1 arg2 harg2 arg3 harg3 arg4 harg4 arg5 harg5 arg6 harg6 arg7 harg7 arg8 harg8 arg9 harg9 arg10 arg11 c X0 xn))
  isplitl [Hf HsX H3 H7 Hh0 Hr0 Hw]
  · isplitl [Hf]; · iexact Hf
    isplitl [HsX]; · iexact HsX
    isplitl [H3]; · iexact H3
    isplitl [H7]; · iexact H7
    isplitl [Hh0]; · iexact Hh0
    isplitl [Hr0] <;> iassumption
  iintro ⟨Ha0, Ha1, Ha2, Ho0, Ho1, HsX, H3, H7, Hh0, Hb0, Hb, Hw⟩
  iapply (seq_run (part8_run (F := F) arg0 harg0 arg1 harg1 arg2 harg2 arg3 harg3 arg4 harg4 arg5 harg5 arg6 harg6 arg7 harg7 arg8 harg8 arg9 harg9 arg10 arg11 c X0 X1 xn))
  isplitl [Ha0 Ha1 Ha2 Ho0 Ho1 H7 Hb0 Hb Hh1 Hr1 Hw]
  · isplitl [Ha0]; · iexact Ha0
    isplitl [Ha1]; · iexact Ha1
    isplitl [Ha2]; · iexact Ha2
    isplitl [Ho0]; · iexact Ho0
    isplitl [Ho1]; · iexact Ho1
    isplitl [H7]; · iexact H7
    isplitl [Hb0]; · iexact Hb0
    isplitl [Hb]; · iexact Hb
    isplitl [Hh1]; · iexact Hh1
    isplitl [Hr1] <;> iassumption
  unfold rest
  iintro ⟨⟨Ha0, Ha1, Ha2, Ho0, Ho1⟩, H7, Hb, Hh1, Hd, Hw⟩
  iapply (seg_all (F := F) arg7 arg8 arg9 (semA arg10) (semO arg11) offA inbA offO inbO (col24 arg2) (row24 arg6) (wA24 arg2 harg2) (wSA arg8 harg8) (wSt arg9 harg9)
    (wSO arg9 harg9) (wO24 arg6 harg6) c X2 xn (by decide) (by decide) k0_t3_loop k0_t3_ok _ (by decide)
    (t3_trip (F := F) arg0 harg0 arg1 harg1 arg2 harg2 arg3 harg3 arg4 harg4 arg5 harg5 arg6 harg6 arg7 harg7 arg8 harg8 arg9 harg9 arg10 arg11 _ _ _ _ _))
  isplitl [Ha0]; · iexact Ha0
  isplitl [Ha1]; · iexact Ha1
  isplitl [Ha2]; · iexact Ha2
  isplitl [Ho0]; · iexact Ho0
  isplitl [Ho1]; · iexact Ho1
  isplitl [H7]; · iexact H7
  isplitl [Hh]; · iexact Hh
  isplitl [Hr]; · iexact Hr
  isplitl [Hw]; · iexact Hw
  iintro ⟨Hf, H7, Hh, Hc, Hw⟩
  sl_step
  isplitl [Hf]; · iexact Hf
  isplitl [HsX]; · iexact HsX
  isplitl [H3]; · iexact H3
  isplitl [H7]; · iexact H7
  isplitl [Hh0]; · iexact Hh0
  isplitl [Hh1]; · iexact Hh1
  isplitl [Hh]; · iexact Hh
  isplitl [Hb]; · iexact Hb
  isplitl [Hd]; · iexact Hd
  isplitl [Hc] <;> iassumption

end Body

/-! ## The arrays by blocks, the scratch buffers by slots -/

section Blocks
variable (c : Dev nD)

theorem of_eq {P Q : sProp 𝕄} (e : P = Q) : P ⊢ Q := e ▸ .rfl

/-- Pieces of a shape that make it up, without overlap. -/
structure Tiles {s : Shape} {NB : ℕ} (R : Fin NB → Rect s) : Prop where
  disj : ∀ b b', b ≠ b' → Disjoint (R b).set (R b').set
  cover : Finset.univ.biUnion (fun b => (R b).set) = Finset.univ

variable (r : Ref sig .tc) {NB : ℕ} (R : Fin NB → Rect r.ty.shape)

/-- A buffer is its pieces, -/
theorem tiles_split (h : Tiles R) (f : Buf (Elt F) ((c : Thread nD τ).loc r)) :
    ((c : Thread nD τ).loc r ↦{fullShare} f : sProp 𝕄)
      = bigSep Finset.univ fun b => (c : Thread nD τ).loc r ↦[((View.whole r).slice (R b)).set]{fullShare} f := by
  rw [Ring.pointsTo_blocks (fun b => (R b).set) h.disj h.cover f]
  exact BI.bigSep_congr fun b _ => by rw [View.set_slice_whole]

/-- and pieces held apart are the buffer, which reads as each of them there. -/
theorem tiles_join (h : Tiles R) (fs : Fin NB → Buf (Elt F) ((c : Thread nD τ).loc r)) (f₀ : Buf (Elt F) ((c : Thread nD τ).loc r)) :
    bigSep Finset.univ (fun b => ((c : Thread nD τ).loc r ↦[((View.whole r).slice (R b)).set]{fullShare} fs b : sProp 𝕄))
      ⊢ iprop(∃ g, ⌜∀ b, ∀ i ∈ ((View.whole r).slice (R b)).set, g i = fs b i⌝ ∗ (c : Thread nD τ).loc r ↦{fullShare} g) := by
  have hs : ∀ b, ((View.whole r).slice (R b)).set = (R b).set := fun b => View.set_slice_whole _ _
  have e : bigSep Finset.univ (fun b => ((c : Thread nD τ).loc r ↦[((View.whole r).slice (R b)).set]{fullShare} fs b : sProp 𝕄))
      = bigSep Finset.univ (fun b => ((c : Thread nD τ).loc r ↦[(R b).set]{fullShare} fs b : sProp 𝕄)) :=
    BI.bigSep_congr fun b _ => by rw [hs b]
  rw [e]
  refine (pointsTo_biUnion_join (ℓ := (c : Thread nD τ).loc r) Finset.univ (fun b => (R b).set) fs f₀ fun b _ b' _ hb => h.disj b b' hb).trans ?_
  rw [h.cover]
  iintro ⟨%g, %hg, H⟩
  iexists g
  isplitr
  · ipureintro; exact fun b i hi => hg b (Finset.mem_univ _) i (hs b ▸ hi)
  iexact H

theorem tiles_col24 : Tiles fun b => Rect.unit (s := S8192x6144) ![0, 256 * b.val] S8192x256.size (inb24 b) where
  disj := Ring.lead_disjoint (s := S8192x6144) (1 : Fin 2) 256 (fun b : Fin 24 => ![0, 256 * b.val]) S8192x256.size inb24 (fun _ => rfl) rfl
  cover := Ring.lead_cover (s := S8192x6144) (1 : Fin 2) 256 (fun b : Fin 24 => ![0, 256 * b.val]) S8192x256.size inb24 (fun _ => rfl) (by decide +kernel) rfl (by decide +kernel) (by decide +kernel)
theorem tiles_col16 : Tiles fun b => Rect.unit (s := S8192x4096) ![0, 256 * b.val] S8192x256.size (inb16 b) where
  disj := Ring.lead_disjoint (s := S8192x4096) (1 : Fin 2) 256 (fun b : Fin 16 => ![0, 256 * b.val]) S8192x256.size inb16 (fun _ => rfl) rfl
  cover := Ring.lead_cover (s := S8192x4096) (1 : Fin 2) 256 (fun b : Fin 16 => ![0, 256 * b.val]) S8192x256.size inb16 (fun _ => rfl) (by decide +kernel) rfl (by decide +kernel) (by decide +kernel)
theorem tiles_row24 : Tiles fun b => Rect.unit (s := S6144x2048) ![256 * b.val, 0] S256x2048.size (inr24 b) where
  disj := Ring.lead_disjoint (s := S6144x2048) (0 : Fin 2) 256 (fun b : Fin 24 => ![256 * b.val, 0]) S256x2048.size inr24 (fun _ => rfl) rfl
  cover := Ring.lead_cover (s := S6144x2048) (0 : Fin 2) 256 (fun b : Fin 24 => ![256 * b.val, 0]) S256x2048.size inr24 (fun _ => rfl) (by decide +kernel) rfl (by decide +kernel) (by decide +kernel)
theorem tiles_row16 : Tiles fun b => Rect.unit (s := S4096x2048) ![256 * b.val, 0] S256x2048.size (inr16 b) where
  disj := Ring.lead_disjoint (s := S4096x2048) (0 : Fin 2) 256 (fun b : Fin 16 => ![256 * b.val, 0]) S256x2048.size inr16 (fun _ => rfl) rfl
  cover := Ring.lead_cover (s := S4096x2048) (0 : Fin 2) 256 (fun b : Fin 16 => ![256 * b.val, 0]) S256x2048.size inr16 (fun _ => rfl) (by decide +kernel) rfl (by decide +kernel) (by decide +kernel)
theorem tiles_slotA : Tiles fun b => Rect.unit (s := S3x8192x256) (offA b) S1x8192x256.size (inbA b) where
  disj := Ring.lead_disjoint (s := S3x8192x256) (0 : Fin 3) 1 offA S1x8192x256.size inbA (fun b => (Nat.one_mul b.val).symm) rfl
  cover := Ring.lead_cover (s := S3x8192x256) (0 : Fin 3) 1 offA S1x8192x256.size inbA (fun b => (Nat.one_mul b.val).symm) (by decide +kernel) rfl (by decide +kernel) (by decide +kernel)
theorem tiles_slotO : Tiles fun b => Rect.unit (s := S2x256x2048) (offO b) S1x256x2048.size (inbO b) where
  disj := Ring.lead_disjoint (s := S2x256x2048) (0 : Fin 3) 1 offO S1x256x2048.size inbO (fun b => (Nat.one_mul b.val).symm) rfl
  cover := Ring.lead_cover (s := S2x256x2048) (0 : Fin 3) 1 offO S1x256x2048.size inbO (fun b => (Nat.one_mul b.val).symm) (by decide +kernel) rfl (by decide +kernel) (by decide +kernel)

/-- An operand, held whole, is its blocks of columns, each at what it reads as. -/
theorem homes_eq {NB : ℕ} (bA : Fin NB → Memref sig .tc .hbm S8192x256 .bf16) (r : Ref sig .tc) (R : Fin NB → Rect r.ty.shape) (h : Tiles R)
    (f : Buf (Elt F) ((c : Thread nD τ).loc r)) (g : (b : Fin NB) → Buf (Elt F) ((bA b).view.loc (c : Thread nD τ)))
    (e : ∀ b, ((c : Thread nD τ).loc r ↦[((View.whole r).slice (R b)).set]{fullShare} f : sProp 𝕄) = own c (bA b) (g b)) :
    ((c : Thread nD τ).loc r ↦{fullShare} f : sProp 𝕄) = bigSep Finset.univ (homeA bA c fun b => (bA b).view.read (Elt F) (g b)) := by
  rw [tiles_split c r R h f]
  exact BI.bigSep_congr fun b _ => (e b).trans (pointsTo_rep (c : Thread nD τ) (bA b) (g b) fullShare)

/-- A result held whole gives its blocks of rows, -/
theorem ahead_of {NB : ℕ} (bO : Fin NB → Memref sig .tc .hbm S256x2048 .bf16) (r : Ref sig .tc) (R : Fin NB → Rect r.ty.shape) (h : Tiles R)
    (f : Buf (Elt F) ((c : Thread nD τ).loc r)) (g : (b : Fin NB) → Buf (Elt F) ((bO b).view.loc (c : Thread nD τ)))
    (e : ∀ b, ((c : Thread nD τ).loc r ↦[((View.whole r).slice (R b)).set]{fullShare} f : sProp 𝕄) = own c (bO b) (g b)) :
    ((c : Thread nD τ).loc r ↦{fullShare} f : sProp 𝕄) ⊢ bigSep Finset.univ (aheadO (F := F) bO c) := by
  rw [tiles_split c r R h f]
  refine BI.bigSep_mono fun b _ => ?_
  rw [e b]
  show own c (bO b) (g b) ⊢ iprop(∃ f, own c (bO b) f)
  iintro H
  iexists g b
  iexact H

end Blocks

section Whole
variable (c : Dev nD)

theorem homes0 (f : Buf (Elt F) ((c : Thread nD τ).loc main_arg0)) : ((c : Thread nD τ).loc main_arg0 ↦{fullShare} f : sProp 𝕄)
    = bigSep Finset.univ (homeA (col24 (Memref.whole main_arg0)) c fun b => (col24 (Memref.whole main_arg0) b).view.read (Elt F) f) :=
  homes_eq c (col24 (Memref.whole main_arg0)) main_arg0 _ tiles_col24 f (fun _ => f) fun _ => rfl
theorem homes1 (f : Buf (Elt F) ((c : Thread nD τ).loc main_arg1)) : ((c : Thread nD τ).loc main_arg1 ↦{fullShare} f : sProp 𝕄)
    = bigSep Finset.univ (homeA (col16 (Memref.whole main_arg1)) c fun b => (col16 (Memref.whole main_arg1) b).view.read (Elt F) f) :=
  homes_eq c (col16 (Memref.whole main_arg1)) main_arg1 _ tiles_col16 f (fun _ => f) fun _ => rfl
theorem homes2 (f : Buf (Elt F) ((c : Thread nD τ).loc main_arg2)) : ((c : Thread nD τ).loc main_arg2 ↦{fullShare} f : sProp 𝕄)
    = bigSep Finset.univ (homeA (col24 (Memref.whole main_arg2)) c fun b => (col24 (Memref.whole main_arg2) b).view.read (Elt F) f) :=
  homes_eq c (col24 (Memref.whole main_arg2)) main_arg2 _ tiles_col24 f (fun _ => f) fun _ => rfl

theorem ahead0 (f : Buf (Elt F) ((c : Thread nD τ).loc main_v0_0)) :
    ((c : Thread nD τ).loc main_v0_0 ↦{fullShare} f : sProp 𝕄) ⊢ bigSep Finset.univ (aheadO (F := F) (row24 (Memref.whole main_v0_0)) c) :=
  ahead_of c _ main_v0_0 _ tiles_row24 f (fun _ => f) fun _ => rfl
theorem ahead1 (f : Buf (Elt F) ((c : Thread nD τ).loc main_v0_1)) :
    ((c : Thread nD τ).loc main_v0_1 ↦{fullShare} f : sProp 𝕄) ⊢ bigSep Finset.univ (aheadO (F := F) (row16 (Memref.whole main_v0_1)) c) :=
  ahead_of c _ main_v0_1 _ tiles_row16 f (fun _ => f) fun _ => rfl
theorem ahead2 (f : Buf (Elt F) ((c : Thread nD τ).loc main_v0_2)) :
    ((c : Thread nD τ).loc main_v0_2 ↦{fullShare} f : sProp 𝕄) ⊢ bigSep Finset.univ (aheadO (F := F) (row24 (Memref.whole main_v0_2)) c) :=
  ahead_of c _ main_v0_2 _ tiles_row24 f (fun _ => f) fun _ => rfl

theorem read_of_agree {sp : Space} {s : Shape} (M : Memref sig .tc sp s .bf16) (X : s.Idx → Elt F .bf16) (g : M.view.ty.Contents (Elt F))
    (h : ∀ i ∈ M.view.set, g i = M.view.rep X i) : M.view.read (Elt F) g = X :=
  (View.read_congr h).trans (View.read_rep _ _)

/-- The blocks of a result, each holding its product, are the result, of which `Good` holds. -/
theorem done_of {NB : ℕ} (bO : Fin NB → Memref sig .tc .hbm S256x2048 .bf16) (X : Fin NB → Vec F S8192x256 .bf16) (xn : Vec F S8192x2048 .bf16)
    (r : Ref sig .tc) (R : Fin NB → Rect r.ty.shape) (h : Tiles R) (fs : Fin NB → Buf (Elt F) ((c : Thread nD τ).loc r)) (f₀ : Buf (Elt F) ((c : Thread nD τ).loc r))
    (e : ∀ b, behindO bO c X xn b = ((c : Thread nD τ).loc r ↦[((View.whole r).slice (R b)).set]{fullShare} fs b : sProp 𝕄))
    (Good : Buf (Elt F) ((c : Thread nD τ).loc r) → Prop) (hG : ∀ g, (∀ b, ∀ i ∈ ((View.whole r).slice (R b)).set, g i = fs b i) → Good g) :
    bigSep Finset.univ (behindO bO c X xn) ⊢ iprop(∃ g, ⌜Good g⌝ ∗ (c : Thread nD τ).loc r ↦{fullShare} g) := by
  rw [BI.bigSep_congr fun b _ => e b]
  refine (tiles_join c r R h fs f₀).trans ?_
  iintro ⟨%g, %hg, H⟩
  iexists g
  isplitr
  · ipureintro; exact hG g hg
  iexact H

variable (xn : Vec F S8192x2048 .bf16)

theorem done0 (X : Fin 24 → Vec F S8192x256 .bf16) (f₀ : Buf (Elt F) ((c : Thread nD τ).loc main_v0_0)) :
    bigSep Finset.univ (behindO (row24 (Memref.whole main_v0_0)) c X xn)
      ⊢ iprop(∃ g : Buf (Elt F) ((c : Thread nD τ).loc main_v0_0), ⌜∀ b, (row24 (Memref.whole main_v0_0) b).view.read (Elt F) g = res (X b) xn⌝
          ∗ (c : Thread nD τ).loc main_v0_0 ↦{fullShare} g) :=
  done_of c (row24 (Memref.whole main_v0_0)) X xn main_v0_0 _ tiles_row24 (fun b => (row24 (Memref.whole main_v0_0) b).view.rep (res (X b) xn)) f₀
    (fun _ => rfl) _ fun g hg b => read_of_agree (row24 (Memref.whole main_v0_0) b) _ g (hg b)
theorem done1 (X : Fin 16 → Vec F S8192x256 .bf16) (f₀ : Buf (Elt F) ((c : Thread nD τ).loc main_v0_1)) :
    bigSep Finset.univ (behindO (row16 (Memref.whole main_v0_1)) c X xn)
      ⊢ iprop(∃ g : Buf (Elt F) ((c : Thread nD τ).loc main_v0_1), ⌜∀ b, (row16 (Memref.whole main_v0_1) b).view.read (Elt F) g = res (X b) xn⌝
          ∗ (c : Thread nD τ).loc main_v0_1 ↦{fullShare} g) :=
  done_of c (row16 (Memref.whole main_v0_1)) X xn main_v0_1 _ tiles_row16 (fun b => (row16 (Memref.whole main_v0_1) b).view.rep (res (X b) xn)) f₀
    (fun _ => rfl) _ fun g hg b => read_of_agree (row16 (Memref.whole main_v0_1) b) _ g (hg b)
theorem done2 (X : Fin 24 → Vec F S8192x256 .bf16) (f₀ : Buf (Elt F) ((c : Thread nD τ).loc main_v0_2)) :
    bigSep Finset.univ (behindO (row24 (Memref.whole main_v0_2)) c X xn)
      ⊢ iprop(∃ g : Buf (Elt F) ((c : Thread nD τ).loc main_v0_2), ⌜∀ b, (row24 (Memref.whole main_v0_2) b).view.read (Elt F) g = res (X b) xn⌝
          ∗ (c : Thread nD τ).loc main_v0_2 ↦{fullShare} g) :=
  done_of c (row24 (Memref.whole main_v0_2)) X xn main_v0_2 _ tiles_row24 (fun b => (row24 (Memref.whole main_v0_2) b).view.rep (res (X b) xn)) f₀
    (fun _ => rfl) _ fun g hg b => read_of_agree (row24 (Memref.whole main_v0_2) b) _ g (hg b)

end Whole

end Cert.Kernel6Ideal.DwIn

end
-- ==== Proof.DwInRun.lean ====
/- The gradient of the weights of the input projection: the launch. The arrays of `@main` split into blocks, the scratch
   buffers into slots, the body's run between them. -/
module

public import proofs.«01_k».proof.Proof.DwIn

@[expose] public section

set_option maxRecDepth 16384

noncomputable section

namespace Cert.Kernel6Ideal.DwIn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose UD)
open Cert.Kernel6Ideal Cert.Kernel6Ideal.Gen

variable {F : FTy → Type} [FloatOps F]

local notation "𝕄" => MT nD τ sig Unit (Elt F) ℕ (UD sig nD τ) ℕ

/-! ## The scratch buffers and the semaphores -/

section Scratch
variable (c : Dev nD)

theorem own_arg3 (f : Buf (Elt F) ((c : Thread nD τ).loc main_arg3)) : ((c : Thread nD τ).loc main_arg3 ↦{fullShare} f : sProp 𝕄)
    = own c (Memref.whole main_arg3) ((Memref.whole main_arg3).view.rep ((Memref.whole main_arg3).view.read (Elt F) f)) :=
  (congrArg (fun S => ((c : Thread nD τ).loc main_arg3 ↦[S]{fullShare} f : sProp 𝕄)) (View.set_whole main_arg3).symm).trans
    (pointsTo_rep (c : Thread nD τ) (Memref.whole main_arg3) f fullShare)

theorem own_scratch0 (f : Buf (Elt F) ((c : Thread nD τ).loc cc0_scratch0)) :
    ((c : Thread nD τ).loc cc0_scratch0 ↦{fullShare} f : sProp 𝕄) = own c (Memref.whole cc0_scratch0) f :=
  congrArg (fun S => ((c : Thread nD τ).loc cc0_scratch0 ↦[S]{fullShare} f : sProp 𝕄)) (View.set_whole cc0_scratch0).symm

abbrev sA (s : Fin 3) : Memref sig .tc .vmem S8192x256 .bf16 := slotA (Memref.whole cc0_scratch1) (offA s) (inbA s)
abbrev sO (s : Fin 2) : Memref sig .tc .vmem S256x2048 .bf16 := slotO (Memref.whole cc0_scratch2) (offO s) (inbO s)

theorem own_slotA (s : Fin 3) (f : Buf (Elt F) ((c : Thread nD τ).loc cc0_scratch1)) : (own c (sA s) f : sProp 𝕄)
    = ((c : Thread nD τ).loc cc0_scratch1 ↦[(Rect.unit (s := S3x8192x256) (offA s) S1x8192x256.size (inbA s)).set]{fullShare} f) :=
  congrArg (fun S => ((c : Thread nD τ).loc cc0_scratch1 ↦[S]{fullShare} f : sProp 𝕄)) ((View.set_reshape _ _).trans (View.set_slice_whole cc0_scratch1 _))
theorem own_slotO (s : Fin 2) (f : Buf (Elt F) ((c : Thread nD τ).loc cc0_scratch2)) : (own c (sO s) f : sProp 𝕄)
    = ((c : Thread nD τ).loc cc0_scratch2 ↦[(Rect.unit (s := S2x256x2048) (offO s) S1x256x2048.size (inbO s)).set]{fullShare} f) :=
  congrArg (fun S => ((c : Thread nD τ).loc cc0_scratch2 ↦[S]{fullShare} f : sProp 𝕄)) ((View.set_reshape _ _).trans (View.set_slice_whole cc0_scratch2 _))

abbrev bA (c : Dev nD) : Loc nD τ sig := (c : Thread nD τ).loc cc0_scratch1
abbrev bO (c : Dev nD) : Loc nD τ sig := (c : Thread nD τ).loc cc0_scratch2
abbrev JA (s : Fin 3) : Finset (Idx (bA c)) := (Rect.unit (s := S3x8192x256) (offA s) S1x8192x256.size (inbA s)).set
abbrev JO (s : Fin 2) : Finset (Idx (bO c)) := (Rect.unit (s := S2x256x2048) (offO s) S1x256x2048.size (inbO s)).set

theorem slotsA_split : iprop(∃ f : Buf (Elt F) (bA c), bA c ↦{fullShare} f) ⊢ (iprop((∃ f, own c (sA 0) f) ∗ (∃ f, own c (sA 1) f) ∗ ∃ f, own c (sA 2) f) : sProp 𝕄) :=
  Ring.slots3_split (ℓ := bA c) (q := fullShare) (JA c) tiles_slotA.disj tiles_slotA.cover (fun f => own c (sA 0) f) (fun f => own c (sA 1) f) (fun f => own c (sA 2) f)
    (own_slotA c 0) (own_slotA c 1) (own_slotA c 2)
theorem slotsA_join : (iprop((∃ f, own c (sA 0) f) ∗ (∃ f, own c (sA 1) f) ∗ ∃ f, own c (sA 2) f) : sProp 𝕄) ⊢ iprop(∃ f : Buf (Elt F) (bA c), bA c ↦{fullShare} f) :=
  Ring.slots3_join (ℓ := bA c) (q := fullShare) (JA c) tiles_slotA.disj tiles_slotA.cover (fun f => own c (sA 0) f) (fun f => own c (sA 1) f) (fun f => own c (sA 2) f)
    (own_slotA c 0) (own_slotA c 1) (own_slotA c 2)
theorem slotsO_split : iprop(∃ f : Buf (Elt F) (bO c), bO c ↦{fullShare} f) ⊢ (iprop((∃ f, own c (sO 0) f) ∗ ∃ f, own c (sO 1) f) : sProp 𝕄) :=
  Ring.slots2_split (ℓ := bO c) (q := fullShare) (JO c) tiles_slotO.disj tiles_slotO.cover (fun f => own c (sO 0) f) (fun f => own c (sO 1) f) (own_slotO c 0) (own_slotO c 1)
theorem slotsO_join : (iprop((∃ f, own c (sO 0) f) ∗ ∃ f, own c (sO 1) f) : sProp 𝕄) ⊢ iprop(∃ f : Buf (Elt F) (bO c), bO c ↦{fullShare} f) :=
  Ring.slots2_join (ℓ := bO c) (q := fullShare) (JO c) tiles_slotO.disj tiles_slotO.cover (fun f => own c (sO 0) f) (fun f => own c (sO 1) f) (own_slotO c 0) (own_slotO c 1)

/-- The kernel's own semaphores: three of the copies in, two of the copies out, one of the second operand's. -/
abbrev osem : Fin 6 → SemLoc sig :=
  ![.dma (semA cc0_scratch3 0), .dma (semA cc0_scratch3 1), .dma (semA cc0_scratch3 2), .dma (semO cc0_scratch4 0), .dma (semO cc0_scratch4 1),
    .dma (semAt cc0_scratch4 ![2] inb_S3_S1_2)]

theorem ownSemFacts : Pipeline.OwnSemFacts cfg0.spec osem := by decide

theorem ownSems0_eq : (Pipeline.ownSems0 (Ix := Unit) (Name := ℕ) (U := UD sig nD τ) (Lvl := ℕ) (Val := Elt F) (τ := τ) osem c : sProp 𝕄)
    = iprop(semVal ((c : Thread nD τ), SemLoc.dma (semA cc0_scratch3 0)) 0 ∗ semVal ((c : Thread nD τ), SemLoc.dma (semA cc0_scratch3 1)) 0
        ∗ semVal ((c : Thread nD τ), SemLoc.dma (semA cc0_scratch3 2)) 0 ∗ semVal ((c : Thread nD τ), SemLoc.dma (semO cc0_scratch4 0)) 0
        ∗ semVal ((c : Thread nD τ), SemLoc.dma (semO cc0_scratch4 1)) 0 ∗ semVal ((c : Thread nD τ), SemLoc.dma (semAt cc0_scratch4 ![2] inb_S3_S1_2)) 0) := by
  rw [Pipeline.ownSems0_eq_of_list c osem [0, 1, 2, 3, 4, 5] (by decide) (by decide)]; rfl

/-- The slots and their semaphores, between segments. -/
theorem rest_eq : (rest (F := F) (Memref.whole cc0_scratch1) (Memref.whole cc0_scratch2) cc0_scratch3 cc0_scratch4 c : sProp 𝕄)
    = iprop((semVal ((c : Thread nD τ), SemLoc.dma (semA cc0_scratch3 0)) 0 ∗ ∃ f, own c (sA 0) f)
        ∗ (semVal ((c : Thread nD τ), SemLoc.dma (semA cc0_scratch3 1)) 0 ∗ ∃ f, own c (sA 1) f)
        ∗ (semVal ((c : Thread nD τ), SemLoc.dma (semA cc0_scratch3 2)) 0 ∗ ∃ f, own c (sA 2) f)
        ∗ (semVal ((c : Thread nD τ), SemLoc.dma (semO cc0_scratch4 0)) 0 ∗ ∃ f, own c (sO 0) f)
        ∗ (semVal ((c : Thread nD τ), SemLoc.dma (semO cc0_scratch4 1)) 0 ∗ ∃ f, own c (sO 1) f)) := rfl

theorem rest_open : iprop((Pipeline.ownSems0 (Ix := Unit) (Name := ℕ) (U := UD sig nD τ) (Lvl := ℕ) (Val := Elt F) (τ := τ) osem c : sProp 𝕄)
      ∗ Pipeline.scopedRest (Ix := Unit) (Name := ℕ) (U := UD sig nD τ) (Lvl := ℕ) (Val := Elt F) cfg0.spec c)
    ⊢ iprop(rest (F := F) (Memref.whole cc0_scratch1) (Memref.whole cc0_scratch2) cc0_scratch3 cc0_scratch4 c
        ∗ semVal ((c : Thread nD τ), SemLoc.dma (semAt cc0_scratch4 ![2] inb_S3_S1_2)) 0 ∗ ∃ f, own c (Memref.whole cc0_scratch0) f) := by
  rw [ownSems0_eq, scopedRest0_eq, rest_eq]
  iintro ⟨⟨S0, S1, S2, T0, T1, T2⟩, ⟨%f, H0⟩, H1, H2⟩
  ihave HA := (slotsA_split (F := F) c) $$ H1
  icases HA with ⟨A0, A1, A2⟩
  ihave HO := (slotsO_split (F := F) c) $$ H2
  icases HO with ⟨O0, O1⟩
  isplitr [T2 H0]
  · isplitl [S0 A0]; · isplitl [S0] <;> iassumption
    isplitl [S1 A1]; · isplitl [S1] <;> iassumption
    isplitl [S2 A2]; · isplitl [S2] <;> iassumption
    isplitl [T0 O0]; · isplitl [T0] <;> iassumption
    isplitl [T1] <;> iassumption
  isplitl [T2]; · iexact T2
  iexists f
  iapply (of_eq (own_scratch0 c f)); iexact H0

theorem rest_close :
    iprop(rest (F := F) (Memref.whole cc0_scratch1) (Memref.whole cc0_scratch2) cc0_scratch3 cc0_scratch4 c
        ∗ semVal ((c : Thread nD τ), SemLoc.dma (semAt cc0_scratch4 ![2] inb_S3_S1_2)) 0 ∗ ∃ f, own c (Memref.whole cc0_scratch0) f)
    ⊢ iprop((Pipeline.ownSems0 (Ix := Unit) (Name := ℕ) (U := UD sig nD τ) (Lvl := ℕ) (Val := Elt F) (τ := τ) osem c : sProp 𝕄)
      ∗ Pipeline.scopedRest (Ix := Unit) (Name := ℕ) (U := UD sig nD τ) (Lvl := ℕ) (Val := Elt F) cfg0.spec c) := by
  rw [ownSems0_eq, scopedRest0_eq, rest_eq]
  iintro ⟨⟨⟨S0, A0⟩, ⟨S1, A1⟩, ⟨S2, A2⟩, ⟨T0, O0⟩, ⟨T1, O1⟩⟩, T2, ⟨%f, H0⟩⟩
  isplitr [A0 A1 A2 O0 O1 H0]
  · isplitl [S0]; · iexact S0
    isplitl [S1]; · iexact S1
    isplitl [S2]; · iexact S2
    isplitl [T0]; · iexact T0
    isplitl [T1] <;> iassumption
  isplitl [H0]
  · iexists f
    iapply (of_eq (own_scratch0 c f).symm); iexact H0
  isplitl [A0 A1 A2]
  · iapply (slotsA_join (F := F) c)
    isplitl [A0]; · iexact A0
    isplitl [A1] <;> iassumption
  iapply (slotsO_join (F := F) c)
  isplitl [O0] <;> iassumption

end Scratch

/-! ## What the launch hands the body, what the body hands back -/

variable (m : (ℓ : Loc nD τ sig) → Buf (Elt F) ℓ) (ρ : Dev nD → PrngReg)

def cols0 (c : Dev nD) (b : Fin 24) : Vec F S8192x256 .bf16 := (col24 (Memref.whole main_arg0) b).view.read (Elt F) (m ((c : Thread nD τ).loc main_arg0))
def cols1 (c : Dev nD) (b : Fin 16) : Vec F S8192x256 .bf16 := (col16 (Memref.whole main_arg1) b).view.read (Elt F) (m ((c : Thread nD τ).loc main_arg1))
def cols2 (c : Dev nD) (b : Fin 24) : Vec F S8192x256 .bf16 := (col24 (Memref.whole main_arg2) b).view.read (Elt F) (m ((c : Thread nD τ).loc main_arg2))
def xnAt (c : Dev nD) : Vec F S8192x2048 .bf16 := (Memref.whole main_arg3).view.read (Elt F) (m ((c : Thread nD τ).loc main_arg3))

/-- A result holds, block of rows by block of rows, the product of the block of columns with the second operand. -/
def Good0 (c : Dev nD) (g : Buf (Elt F) ((c : Thread nD τ).loc main_v0_0)) : Prop :=
  ∀ b, (row24 (Memref.whole main_v0_0) b).view.read (Elt F) g = res (cols0 m c b) (xnAt m c)
def Good1 (c : Dev nD) (g : Buf (Elt F) ((c : Thread nD τ).loc main_v0_1)) : Prop :=
  ∀ b, (row16 (Memref.whole main_v0_1) b).view.read (Elt F) g = res (cols1 m c b) (xnAt m c)
def Good2 (c : Dev nD) (g : Buf (Elt F) ((c : Thread nD τ).loc main_v0_2)) : Prop :=
  ∀ b, (row24 (Memref.whole main_v0_2) b).view.read (Elt F) g = res (cols2 m c b) (xnAt m c)

/-- The operands, unchanged. -/
def kept (c : Dev nD) : sProp 𝕄 :=
  iprop(((c : Thread nD τ).loc main_arg0 ↦{fullShare} m ((c : Thread nD τ).loc main_arg0)) ∗ ((c : Thread nD τ).loc main_arg1 ↦{fullShare} m ((c : Thread nD τ).loc main_arg1))
    ∗ ((c : Thread nD τ).loc main_arg2 ↦{fullShare} m ((c : Thread nD τ).loc main_arg2)) ∗ ((c : Thread nD τ).loc main_arg3 ↦{fullShare} m ((c : Thread nD τ).loc main_arg3)))
/-- The results, done. -/
def dones (c : Dev nD) : sProp 𝕄 :=
  iprop((∃ g, ⌜Good0 m c g⌝ ∗ ((c : Thread nD τ).loc main_v0_0 ↦{fullShare} g)) ∗ (∃ g, ⌜Good1 m c g⌝ ∗ ((c : Thread nD τ).loc main_v0_1 ↦{fullShare} g))
    ∗ ∃ g, ⌜Good2 m c g⌝ ∗ ((c : Thread nD τ).loc main_v0_2 ↦{fullShare} g))

abbrev sems (c : Dev nD) : sProp 𝕄 := Pipeline.ownSems0 (Ix := Unit) (Name := ℕ) (U := UD sig nD τ) (Lvl := ℕ) (Val := Elt F) (τ := τ) osem c
abbrev scr (c : Dev nD) : sProp 𝕄 := Pipeline.scopedRest (Ix := Unit) (Name := ℕ) (U := UD sig nD τ) (Lvl := ℕ) (Val := Elt F) cfg0.spec c
abbrev mem (c : Dev nD) : sProp 𝕄 :=
  Pipeline.unscopedRest (Ix := Unit) (Name := ℕ) (U := UD sig nD τ) (Lvl := ℕ) cfg0.spec c fun b => m ((c : Thread nD τ).loc b)

def before (c : Dev nD) : sProp 𝕄 := iprop((mem m c ∗ sems c) ∗ scr c)
def after (c : Dev nD) : sProp 𝕄 := iprop((kept m c ∗ dones m c) ∗ sems c ∗ scr c)

set_option maxHeartbeats 1600000 in
theorem body_in (c : Dev nD) : iprop(before m c ∗ ∃ W, owes (c : Thread nD τ) 0 W)
    ⊢ iprop(rest (F := F) (Memref.whole cc0_scratch1) (Memref.whole cc0_scratch2) cc0_scratch3 cc0_scratch4 c
        ∗ semVal ((c : Thread nD τ), SemLoc.dma (semAt cc0_scratch4 ![2] inb_S3_S1_2)) 0
        ∗ own c (Memref.whole main_arg3) ((Memref.whole main_arg3).view.rep (xnAt m c)) ∗ (∃ f, own c (Memref.whole cc0_scratch0) f)
        ∗ bigSep Finset.univ (homeA (col24 (Memref.whole main_arg0)) c (cols0 m c)) ∗ bigSep Finset.univ (homeA (col16 (Memref.whole main_arg1)) c (cols1 m c))
        ∗ bigSep Finset.univ (homeA (col24 (Memref.whole main_arg2)) c (cols2 m c)) ∗ bigSep Finset.univ (aheadO (F := F) (row24 (Memref.whole main_v0_0)) c)
        ∗ bigSep Finset.univ (aheadO (F := F) (row16 (Memref.whole main_v0_1)) c) ∗ bigSep Finset.univ (aheadO (F := F) (row24 (Memref.whole main_v0_2)) c)
        ∗ ∃ W, owes (c : Thread nD τ) 0 W) := by
  unfold before mem
  rw [unscopedRest0_eq]
  iintro ⟨⟨⟨⟨H0, H1, H2, H3, R0, R1, R2⟩, HS⟩, HB⟩, HW⟩
  ihave Hr := (rest_open (F := F) c) $$ [HS HB]
  · isplitl [HS] <;> iassumption
  icases Hr with ⟨Hr, Hx, Hy⟩
  isplitl [Hr]; · iexact Hr
  isplitl [Hx]; · iexact Hx
  isplitl [H3]; · iapply (of_eq (own_arg3 c _)); iexact H3
  isplitl [Hy]; · iexact Hy
  isplitl [H0]; · iapply (of_eq (homes0 c _)); iexact H0
  isplitl [H1]; · iapply (of_eq (homes1 c _)); iexact H1
  isplitl [H2]; · iapply (of_eq (homes2 c _)); iexact H2
  isplitl [R0]; · iapply (ahead0 c _); iexact R0
  isplitl [R1]; · iapply (ahead1 c _); iexact R1
  isplitl [R2]; · iapply (ahead2 c _); iexact R2
  iexact HW

set_option maxHeartbeats 1600000 in
theorem body_out (c : Dev nD) :
    iprop(rest (F := F) (Memref.whole cc0_scratch1) (Memref.whole cc0_scratch2) cc0_scratch3 cc0_scratch4 c
        ∗ semVal ((c : Thread nD τ), SemLoc.dma (semAt cc0_scratch4 ![2] inb_S3_S1_2)) 0
        ∗ own c (Memref.whole main_arg3) ((Memref.whole main_arg3).view.rep (xnAt m c))
        ∗ own c (Memref.whole cc0_scratch0) ((Memref.whole cc0_scratch0).view.rep (xnAt m c))
        ∗ bigSep Finset.univ (homeA (col24 (Memref.whole main_arg0)) c (cols0 m c)) ∗ bigSep Finset.univ (homeA (col16 (Memref.whole main_arg1)) c (cols1 m c))
        ∗ bigSep Finset.univ (homeA (col24 (Memref.whole main_arg2)) c (cols2 m c))
        ∗ bigSep Finset.univ (behindO (row24 (Memref.whole main_v0_0)) c (cols0 m c) (xnAt m c))
        ∗ bigSep Finset.univ (behindO (row16 (Memref.whole main_v0_1)) c (cols1 m c) (xnAt m c))
        ∗ bigSep Finset.univ (behindO (row24 (Memref.whole main_v0_2)) c (cols2 m c) (xnAt m c)) ∗ ∃ W, owes (c : Thread nD τ) 0 W)
    ⊢ (iprop(after m c ∗ ∃ W, owes (c : Thread nD τ) 0 W) : sProp 𝕄) := by
  unfold after kept dones
  iintro ⟨Hr, Hx, H3, Hy, H0, H1, H2, R0, R1, R2, HW⟩
  isplitr [HW]
  · isplitr [Hr Hx Hy]
    · isplitl [H0 H1 H2 H3]
      · isplitl [H0]; · iapply (of_eq (homes0 c _).symm); iexact H0
        isplitl [H1]; · iapply (of_eq (homes1 c _).symm); iexact H1
        isplitl [H2]; · iapply (of_eq (homes2 c _).symm); iexact H2
        iapply (of_eq (own_arg3 c _).symm); iexact H3
      isplitl [R0]; · iapply (done0 c (xnAt m c) (cols0 m c) (m _)); iexact R0
      isplitl [R1]; · iapply (done1 c (xnAt m c) (cols1 m c) (m _)); iexact R1
      iapply (done2 c (xnAt m c) (cols2 m c) (m _)); iexact R2
    iapply (rest_close (F := F) c)
    isplitl [Hr]; · iexact Hr
    isplitl [Hx]; · iexact Hx
    iexists _; iexact Hy
  iexact HW

/-! ## The launch -/

/-- The proof data: no window, everything handed over before the one point and handed back after it. -/
def dats (_ : Fin 1) (c : Dev nD) : Dat τ (Elt F) Unit ℕ (UD sig nD τ) ℕ cfg0 c where
  A w := w.elim0
  after w := w.elim0
  Φ t := if t.val = 0 then before m c else after m c
  q _ := fullShare
  owed _ := 0

theorem defs₀_row (t : Fin cfg0.N) : defs₀ (F := F) .tc cfg0.body (cfg0.bodyArgs t (cfg0.slots t)) = bodyAt0 t := by
  unfold defs₀; rw [Defs.onTc_tc]

theorem point_run (c : Dev nD) (t : Fin cfg0.N) : iprop(before m c ∗ ∃ W, owes (c : Thread nD τ) 0 W)
    ⊢ wp frame (wpE (defs₀ (F := F)) Variants.none c none) Set.univ (bodyAt0 t) (fun _ => iprop(after m c ∗ ∃ W, owes (c : Thread nD τ) 0 W)) :=
  (body_in m c).trans ((body_run (F := F) _ _ _ _ _ _ _ _ _ _ _ _ _ _ _ _ _ _ _ _ _ _ c (cols0 m c) (cols1 m c) (cols2 m c) (xnAt m c)).trans
    (wp_mono _ _ _ fun _ => body_out m c))

theorem body_obligation (c : Dev nD) : BodyObligationLoose (dats m 0 c) (defs₀ (F := F)) Variants.none () Set.univ := fun t => by
  have h0 : (dats m 0 c).Φ t.castSucc = before m c := by
    rw [fin_N0 t]; rfl
  have h1 : (dats m 0 c).Φ t.succ = after m c := by
    rw [fin_N0 t]; rfl
  rw [h0, h1, defs₀_row]
  refine (show _ ⊢ iprop(before m c ∗ ∃ W, owes (c : Thread nD τ) 0 W) from ?_).trans ((point_run m c t).trans (wp_mono _ _ _ fun _ => ?_))
  · unfold Dat.owesAt Pipeline.owesWithin
    rw [show (dats m 0 c).owed t.castSucc = 0 from rfl]
    iintro ⟨H, ⟨%W, -, HW⟩, -⟩
    isplitl [H]; · iexact H
    iexists W; iexact HW
  · unfold Dat.owesAt Pipeline.owesWithin
    rw [show (dats m 0 c).owed t.succ = 0 from rfl]
    iintro ⟨H, ⟨%W, HW⟩⟩
    isplitl [H]; · iexact H
    isplitl [HW]
    · iexists W; isplitr; · ipureintro; exact fun _ _ => Or.inl trivial
      iexact HW
    rw [Finset.univ_eq_empty, BI.bigSep_empty]
    iempintro

/-- What a final memory holds. -/
def Final (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3))
  ∧ Good0 m c (s.mem ((c : Thread nD τ).loc main_v0_0)) ∧ Good1 m c (s.mem ((c : Thread nD τ).loc main_v0_1)) ∧ Good2 m c (s.mem ((c : Thread nD τ).loc main_v0_2))

set_option backward.isDefEq.respectTransparency.types false in
/-- From any memory with zero counters, every execution ends with the operands unchanged, the results done and every counter at zero. -/
theorem run : θ_run defs (onTc (τ := τ) (main (F := F))) ⟨m, fun _ => 0, ρ⟩ (fun r => (∀ c, Final m c r.2) ∧ r.2.sem = fun _ => 0) :=
  Pipeline.θ_run_region_kit_quiescent cfgs (dats m) () (0 : Fin 1) launch0 ownSemFacts embL defs₀ Variants.none m ρ main
    (hbody := body_obligation m) (hshare := fun _ w => w.elim0) (howed := fun _ _ => rfl)
    (G := fun _ => iprop(emp)) (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := Pipeline.hmain_region cfgs 0 defs₀ Variants.none m main fun c => (main_chain c).trans rfl)
    (hA := fun _ w => w.elim0)
    (X := fun c => iprop(mem m c ∗ sems c)) (Y := fun c => iprop(kept m c ∗ dones m c)) (Z := fun _ => iprop(emp))
    (hX := fun c => by
      iintro ⟨H0, HS, -, -, -⟩; imodintro
      isplitl [H0 HS]
      · isplitl [H0] <;> iassumption
      iempintro)
    (hin := fun c => .rfl)
    (hout := fun c => by
      rw [show (dats m 0 c).Φ (Fin.last cfg0.N) = after m c from by
        show (if (Fin.last cfg0.N).val = 0 then before m c else after m c) = after m c
        exact if_neg (by decide)]
      exact .rfl)
    (QY := fun c s => Final m c s)
    (hY := fun c s' => by
      unfold kept dones
      iintro ⟨⟨⟨H0, H1, H2, H3⟩, ⟨%g0, %e0, R0⟩, ⟨%g1, %e1, R1⟩, ⟨%g2, %e2, R2⟩⟩, -, HSI⟩
      icombine HSI H0 gives %h0
      icombine HSI H1 gives %h1
      icombine HSI H2 gives %h2
      icombine HSI H3 gives %h3
      icombine HSI R0 gives %r0
      icombine HSI R1 gives %r1
      icombine HSI R2 gives %r2
      imodintro
      isplitr
      · ipureintro
        have r0 := Buf.eq_of_forall_mem_univ r0
        have r1 := Buf.eq_of_forall_mem_univ r1
        have r2 := Buf.eq_of_forall_mem_univ r2
        exact ⟨⟨Buf.eq_of_forall_mem_univ h0, Buf.eq_of_forall_mem_univ h1, Buf.eq_of_forall_mem_univ h2, Buf.eq_of_forall_mem_univ h3⟩,
          r0 ▸ e0, r1 ▸ e1, r2 ▸ e2⟩
      iexact HSI)
    (hQ := fun s h hz => ⟨fun c => (h c).2, hz⟩)

end Cert.Kernel6Ideal.DwIn

end
-- ==== Proof.DwInValue.lean ====
/- The gradient of the weights of the input projection: each result `Kernel6Ideal`'s run leaves is the transpose of a
   gradient times the normalised input, which is what the reference's derivative is. -/
module

public import proofs.«01_k».proof.Proof.DwInRun
public import proofs.«01_k».proof.Proof.Gen.Reference6Ideal.Run
public import proofs.«01_k».proof.Proof.Gen.Kernel6
public import Idealize.ShloMosaic.Lib.Pointwise
public import Idealize.ShloMosaic.Lib.WholeRead
public import Idealize.ShloMosaic.Lib.Tactic

@[expose] public section

set_option maxRecDepth 16384

noncomputable section

namespace Cert.Kernel6Ideal.DwIn

open Idealize.ShloMosaic Idealize.ShloMosaic.TcCoe Idealize.SL.Sem
open Cert.Kernel6Ideal Cert.Kernel6Ideal.Gen

/-- One entry of the transpose of `A` times `B`. -/
def along (A B : Fin 8192 → EReal) : EReal := ∑ k, A k * B k

def prod24 (A : S8192x6144.Idx → EReal) (B : S8192x2048.Idx → EReal) : S6144x2048.Idx → EReal := fun i =>
  along (fun k => A (ix2 k (i 0))) fun k => B (ix2 k (i 1))
def prod16 (A : S8192x4096.Idx → EReal) (B : S8192x2048.Idx → EReal) : S4096x2048.Idx → EReal := fun i =>
  along (fun k => A (ix2 k (i 0))) fun k => B (ix2 k (i 1))

theorem res_at (x : Vec Ideal S8192x256 .bf16) (xn : Vec Ideal S8192x2048 .bf16) (y : S256x2048.Idx) :
    res (F := Ideal) x xn y = along (fun k => x (ix2 k (y 0))) fun k => xn (ix2 k (y 1)) := by
  pointwise [res, k0_pay1, along]

/-- A result whose every block of rows is a product is the whole product. -/
theorem whole24 (A : S8192x6144.Idx → EReal) (B : S8192x2048.Idx → EReal) (g : S6144x2048.Idx → EReal)
    (h : ∀ (b : Fin 24) (y : S256x2048.Idx) (l : 256 * b.val + (y 0).val < 6144), g (ix2 ⟨256 * b.val + (y 0).val, l⟩ (y 1))
      = along (fun k => A (ix2 k ⟨256 * b.val + (y 0).val, l⟩)) fun k => B (ix2 k (y 1))) : g = prod24 A B := by
  funext i
  have hi : (i 0 : ℕ) < 6144 := (i 0).isLt
  have e : 256 * ((i 0 : ℕ) / 256) + (i 0 : ℕ) % 256 = (i 0 : ℕ) := Nat.div_add_mod _ _
  have hb := h ⟨(i 0 : ℕ) / 256, by omega⟩ (ix2 ⟨(i 0 : ℕ) % 256, Nat.mod_lt _ (by decide)⟩ (i 1)) (lt_of_eq_of_lt e hi)
  have e0 : (⟨256 * ((i 0 : ℕ) / 256) + (i 0 : ℕ) % 256, lt_of_eq_of_lt e hi⟩ : Fin 6144) = i 0 := Fin.ext e
  have ei : (ix2 ⟨256 * ((i 0 : ℕ) / 256) + (i 0 : ℕ) % 256, lt_of_eq_of_lt e hi⟩ (i 1) : S6144x2048.Idx) = i :=
    funext fun a => by match a with | ⟨0, _⟩ => exact e0 | ⟨1, _⟩ => rfl
  exact (congrArg g ei).symm.trans (hb.trans (congrArg (fun q : Fin 6144 => along (fun k => A (ix2 k q)) fun k => B (ix2 k (i 1))) e0))

theorem whole16 (A : S8192x4096.Idx → EReal) (B : S8192x2048.Idx → EReal) (g : S4096x2048.Idx → EReal)
    (h : ∀ (b : Fin 16) (y : S256x2048.Idx) (l : 256 * b.val + (y 0).val < 4096), g (ix2 ⟨256 * b.val + (y 0).val, l⟩ (y 1))
      = along (fun k => A (ix2 k ⟨256 * b.val + (y 0).val, l⟩)) fun k => B (ix2 k (y 1))) : g = prod16 A B := by
  funext i
  have hi : (i 0 : ℕ) < 4096 := (i 0).isLt
  have e : 256 * ((i 0 : ℕ) / 256) + (i 0 : ℕ) % 256 = (i 0 : ℕ) := Nat.div_add_mod _ _
  have hb := h ⟨(i 0 : ℕ) / 256, by omega⟩ (ix2 ⟨(i 0 : ℕ) % 256, Nat.mod_lt _ (by decide)⟩ (i 1)) (lt_of_eq_of_lt e hi)
  have e0 : (⟨256 * ((i 0 : ℕ) / 256) + (i 0 : ℕ) % 256, lt_of_eq_of_lt e hi⟩ : Fin 4096) = i 0 := Fin.ext e
  have ei : (ix2 ⟨256 * ((i 0 : ℕ) / 256) + (i 0 : ℕ) % 256, lt_of_eq_of_lt e hi⟩ (i 1) : S4096x2048.Idx) = i :=
    funext fun a => by match a with | ⟨0, _⟩ => exact e0 | ⟨1, _⟩ => rfl
  exact (congrArg g ei).symm.trans (hb.trans (congrArg (fun q : Fin 4096 => along (fun k => A (ix2 k q)) fun k => B (ix2 k (i 1))) e0))

variable (m : (ℓ : Loc nD τ sig) → Buf (Elt Ideal) ℓ) (ρ : Dev nD → PrngReg)

/-- A block of columns at an index, and where an index of a block of rows lies. -/
theorem cols0_at (c : Dev nD) (b : Fin 24) (k : Fin 8192) (q : Fin 256) (l : 256 * b.val + q.val < 6144) :
    cols0 m c b (ix2 k q) = m ((c : Thread nD τ).loc main_arg0) (ix2 k ⟨256 * b.val + q.val, l⟩) := by
  show m ((c : Thread nD τ).loc main_arg0) _ = _
  congr 1
  funext a; apply Fin.ext
  match a with
  | ⟨0, _⟩ => show 0 + 1 * k.val = k.val; omega
  | ⟨1, _⟩ => show 256 * b.val + 1 * q.val = 256 * b.val + q.val; omega
theorem cols1_at (c : Dev nD) (b : Fin 16) (k : Fin 8192) (q : Fin 256) (l : 256 * b.val + q.val < 4096) :
    cols1 m c b (ix2 k q) = m ((c : Thread nD τ).loc main_arg1) (ix2 k ⟨256 * b.val + q.val, l⟩) := by
  show m ((c : Thread nD τ).loc main_arg1) _ = _
  congr 1
  funext a; apply Fin.ext
  match a with
  | ⟨0, _⟩ => show 0 + 1 * k.val = k.val; omega
  | ⟨1, _⟩ => show 256 * b.val + 1 * q.val = 256 * b.val + q.val; omega
theorem cols2_at (c : Dev nD) (b : Fin 24) (k : Fin 8192) (q : Fin 256) (l : 256 * b.val + q.val < 6144) :
    cols2 m c b (ix2 k q) = m ((c : Thread nD τ).loc main_arg2) (ix2 k ⟨256 * b.val + q.val, l⟩) := by
  show m ((c : Thread nD τ).loc main_arg2) _ = _
  congr 1
  funext a; apply Fin.ext
  match a with
  | ⟨0, _⟩ => show 0 + 1 * k.val = k.val; omega
  | ⟨1, _⟩ => show 256 * b.val + 1 * q.val = 256 * b.val + q.val; omega

theorem row24_place (b : Fin 24) (y : S256x2048.Idx) (l : 256 * b.val + (y 0).val < 6144) :
    (Rect.unit (s := S6144x2048) ![256 * b.val, 0] S256x2048.size (inr24 b)).emb y = ix2 ⟨256 * b.val + (y 0).val, l⟩ (y 1) := by
  funext a; apply Fin.ext
  match a with
  | ⟨0, _⟩ => show 256 * b.val + 1 * (y 0).val = 256 * b.val + (y 0).val; omega
  | ⟨1, _⟩ => show 0 + 1 * (y 1).val = (y 1).val; omega
theorem row16_place (b : Fin 16) (y : S256x2048.Idx) (l : 256 * b.val + (y 0).val < 4096) :
    (Rect.unit (s := S4096x2048) ![256 * b.val, 0] S256x2048.size (inr16 b)).emb y = ix2 ⟨256 * b.val + (y 0).val, l⟩ (y 1) := by
  funext a; apply Fin.ext
  match a with
  | ⟨0, _⟩ => show 256 * b.val + 1 * (y 0).val = 256 * b.val + (y 0).val; omega
  | ⟨1, _⟩ => show 0 + 1 * (y 1).val = (y 1).val; omega

/-- The whole results. -/
abbrev G0 (c : Dev nD) : S6144x2048.Idx → EReal := prod24 (m ((c : Thread nD τ).loc main_arg0)) (m ((c : Thread nD τ).loc main_arg3))
abbrev G1 (c : Dev nD) : S4096x2048.Idx → EReal := prod16 (m ((c : Thread nD τ).loc main_arg1)) (m ((c : Thread nD τ).loc main_arg3))
abbrev G2 (c : Dev nD) : S6144x2048.Idx → EReal := prod24 (m ((c : Thread nD τ).loc main_arg2)) (m ((c : Thread nD τ).loc main_arg3))

theorem final0 (c : Dev nD) (g : Buf (Elt Ideal) ((c : Thread nD τ).loc main_v0_0)) (h : Good0 m c g) : g = G0 m c :=
  whole24 _ _ g fun b y l => by
    refine ((congrArg g (row24_place b y l)).symm.trans (congrFun (h b) y)).trans ((res_at _ _ y).trans ?_)
    exact congrArg (fun A : Fin 8192 → EReal => along A _) (funext fun k => cols0_at m c b k (y 0) l)
theorem final1 (c : Dev nD) (g : Buf (Elt Ideal) ((c : Thread nD τ).loc main_v0_1)) (h : Good1 m c g) : g = G1 m c :=
  whole16 _ _ g fun b y l => by
    refine ((congrArg g (row16_place b y l)).symm.trans (congrFun (h b) y)).trans ((res_at _ _ y).trans ?_)
    exact congrArg (fun A : Fin 8192 → EReal => along A _) (funext fun k => cols1_at m c b k (y 0) l)
theorem final2 (c : Dev nD) (g : Buf (Elt Ideal) ((c : Thread nD τ).loc main_v0_2)) (h : Good2 m c g) : g = G2 m c :=
  whole24 _ _ g fun b y l => by
    refine ((congrArg g (row24_place b y l)).symm.trans (congrFun (h b) y)).trans ((res_at _ _ y).trans ?_)
    exact congrArg (fun A : Fin 8192 → EReal => along A _) (funext fun k => cols2_at m c b k (y 0) l)

theorem run_value : θ_run defs (onTc (τ := τ) (main (F := Ideal))) ⟨m, fun _ => 0, ρ⟩ fun r => ∀ c : Dev nD,
      r.2.mem ((c : Thread nD τ).loc main_v0_0) = G0 m c
      ∧ r.2.mem ((c : Thread nD τ).loc main_v0_1) = G1 m c
      ∧ r.2.mem ((c : Thread nD τ).loc main_v0_2) = G2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨final0 m c _ (h.1 c).2.1, final1 m c _ (h.1 c).2.2.1, final2 m c _ (h.1 c).2.2.2, (h.1 c).1⟩) (run m ρ)

end Cert.Kernel6Ideal.DwIn

namespace Cert.Reference6Ideal.DwIn

open Idealize.ShloMosaic Idealize.ShloMosaic.TcCoe Idealize.SL.Sem
open Cert.Reference6Ideal Cert.Reference6Ideal.Gen

theorem ref24 (A : S8192x6144.Idx → EReal) (B : S8192x2048.Idx → EReal) :
    (truncf (F := Ideal) .bf16 (transpose S6144x2048 [1, 0] (transpose S2048x6144 [1, 0] (Host.dotGeneral (F := Ideal) dot_S8192x6144_S8192x2048_S6144x2048_0_0_1_1_n_n none
      (extf (F := Ideal) .f32 (A : FVec Ideal S8192x6144 .bf16) bitsLt_bf16_f32) (extf (F := Ideal) .f32 (B : FVec Ideal S8192x2048 .bf16) bitsLt_bf16_f32))
      transposes_S6144x2048_S2048x6144_1_0) transposes_S2048x6144_S6144x2048_1_0) bitsLt_bf16_f32 : FVec Ideal S6144x2048 .bf16)
    = Cert.Kernel6Ideal.DwIn.prod24 A B := by
  funext j
  pointwise [Cert.Kernel6Ideal.DwIn.prod24, Cert.Kernel6Ideal.DwIn.along]

theorem ref16 (A : S8192x4096.Idx → EReal) (B : S8192x2048.Idx → EReal) :
    (truncf (F := Ideal) .bf16 (transpose S4096x2048 [1, 0] (transpose S2048x4096 [1, 0] (Host.dotGeneral (F := Ideal) dot_S8192x4096_S8192x2048_S4096x2048_0_0_1_1_n_n none
      (extf (F := Ideal) .f32 (A : FVec Ideal S8192x4096 .bf16) bitsLt_bf16_f32) (extf (F := Ideal) .f32 (B : FVec Ideal S8192x2048 .bf16) bitsLt_bf16_f32))
      transposes_S4096x2048_S2048x4096_1_0) transposes_S2048x4096_S4096x2048_1_0) bitsLt_bf16_f32 : FVec Ideal S4096x2048 .bf16)
    = Cert.Kernel6Ideal.DwIn.prod16 A B := by
  funext j
  pointwise [Cert.Kernel6Ideal.DwIn.prod16, Cert.Kernel6Ideal.DwIn.along]

end Cert.Reference6Ideal.DwIn

namespace Cert.DwIn

open Idealize.ShloMosaic Idealize.ShloMosaic.TcCoe Idealize.SL.Sem

theorem frameI : Cert.quiescent_Kernel6Ideal (hKernel6Ideal := Cert.Kernel6Ideal.Gen.facts) := fun m ρ _ =>
  (θ_run Cert.Kernel6Ideal.defs _ _).mono (fun r h => ⟨fun c => (h.1 c).1, h.2⟩) (Cert.Kernel6Ideal.DwIn.run m ρ)

section
attribute [local instance] Cert.Kernel6.Gen.facts Cert.Kernel6Ideal.Gen.facts

/-- The two programs have the same text: their body tables are equal, -/
theorem defs₀_eq : Cert.Kernel6.defs₀ (F := Bits) = Cert.Kernel6Ideal.defs₀ (F := Bits) := by
  unfold Cert.Kernel6.defs₀ Cert.Kernel6Ideal.defs₀
  refine congrArg Defs.onTc ?_
  funext l a
  match l, a with
  | ⟨0, _⟩, (t, s) => rfl

theorem defs_eq : Cert.Kernel6.defs (F := Bits) = Cert.Kernel6Ideal.defs (F := Bits) := by
  unfold Cert.Kernel6.defs Cert.Kernel6Ideal.defs
  rw [defs₀_eq]
end

/-- so the run of the one is the run of the other. -/
theorem frame : Cert.quiescent_Kernel6 (hKernel6 := Cert.Kernel6.Gen.facts) := fun m ρ _ => by
  rw [defs_eq]
  exact (θ_run Cert.Kernel6Ideal.defs _ _).mono (fun r h => ⟨fun c => (h.1 c).1, h.2⟩) (Cert.Kernel6Ideal.DwIn.run (F := Bits) m ρ)

theorem frameR : Cert.quiescent_Reference6Ideal (hReference6Ideal := Cert.Reference6Ideal.Gen.facts) := fun m ρ _ =>
  (θ_run Cert.Reference6Ideal.defs _ _).mono (fun r h => ⟨fun c => (h c).2.2.2, sem_eq_zero_of_no_sems (by decide) r.2⟩)
    (Cert.Reference6Ideal.Value.run (F := Ideal) m ρ)

theorem algebraic : Cert.algebraic_Kernel6Ideal_Reference6Ideal (hKernel6Ideal := Cert.Kernel6Ideal.Gen.facts)
    (hReference6Ideal := Cert.Reference6Ideal.Gen.facts) := by
  intro m g m' g' _ hagree
  refine ⟨fun c => Cert.Kernel6Ideal.DwIn.G0 m c, fun c => Cert.Kernel6Ideal.DwIn.G1 m c, fun c => Cert.Kernel6Ideal.DwIn.G2 m c,
    Cert.Kernel6Ideal.DwIn.run_value m g, ?_⟩
  refine (θ_run Cert.Reference6Ideal.defs _ _).mono (fun r h c => ?_) (Cert.Reference6Ideal.Value.run (F := Ideal) m' g')
  obtain ⟨h0, h1, h2, hk⟩ := h c
  obtain ⟨e0, e1, e2, e3⟩ := hagree c
  rw [e0, e3] at h0
  rw [e1, e3] at h1
  rw [e2, e3] at h2
  exact ⟨h0.trans (Cert.Reference6Ideal.DwIn.ref24 _ _), h1.trans (Cert.Reference6Ideal.DwIn.ref16 _ _), h2.trans (Cert.Reference6Ideal.DwIn.ref24 _ _), hk⟩

end Cert.DwIn
-- ==== Proof.HeadMath.lean ====
/- The gradient of a row's normalisation by its root mean square, in the two spellings the programs use, over the extended
   reals: they agree whatever the row holds, infinities among it. -/
module

public import Idealize.ShloMosaic.Lib.Pointwise

@[expose] public section

noncomputable section

namespace Cert.Norm

open Idealize.ShloMosaic

/-! ## A positive real factor -/

theorem real_mul_sum {ι : Type*} (s : Finset ι) {a : ℝ} (ha : 0 ≤ a) (f : ι → EReal) : ∑ k ∈ s, (a : EReal) * f k = (a : EReal) * ∑ k ∈ s, f k := by
  classical
  induction s using Finset.induction_on with
  | empty => simp
  | insert b s hb ih =>
    rw [Finset.sum_insert hb, Finset.sum_insert hb, ih, EReal.left_distrib_of_nonneg_of_ne_top (EReal.coe_nonneg.2 ha) (EReal.coe_ne_top a)]

theorem twice (x : EReal) : x + x = ((2 : ℝ) : EReal) * x := by
  have := EReal.right_distrib_of_nonneg (a := 1) (b := 1) (c := x) zero_le_one zero_le_one
  rw [one_mul] at this
  rw [← this, ← EReal.coe_one, ← EReal.coe_add]
  norm_num

/-! ## The constants -/

theorem c2048 : Ideal.ofBits .f32 0x45000000#32 = ((2048 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num
theorem cmh : Ideal.ofBits .f32 0xBF000000#32 = ((-1 / 2 : ℝ) : EReal) := by
  simp [Ideal.ofBits, Ideal.ieee, -EReal.coe_mul]; norm_num
theorem ch : Ideal.ofBits .f32 0x3F000000#32 = ((1 / 2 : ℝ) : EReal) := by
  simp [Ideal.ofBits, Ideal.ieee, -EReal.coe_mul]; norm_num
theorem cinv : Ideal.ofBits .f32 0x3A000000#32 = ((1 / 2048 : ℝ) : EReal) := by
  simp [Ideal.ofBits, Ideal.ieee, -EReal.coe_mul]; norm_num
theorem ceps : ∃ e : ℝ, 0 < e ∧ Ideal.ofBits .f32 0x3727C5AC#32 = (e : EReal) := by
  refine ⟨10995116 / 2 ^ 40, by norm_num, ?_⟩
  simp [Ideal.ofBits, Ideal.ieee, -EReal.coe_mul]; norm_num

theorem div_2048 (x : EReal) : Ideal.div x (Ideal.ofBits .f32 0x45000000#32) = x * ((1 / 2048 : ℝ) : EReal) := by
  rw [c2048, Ideal.div_coe (by norm_num)]

/-! ## A row's mean square and its reciprocal root -/

/-- The mean of the squares, and the small number. -/
def ms (H : Fin 2048 → EReal) : EReal :=
  Ideal.div (∑ k, H k * H k) (Ideal.ofBits .f32 0x45000000#32) + Ideal.ofBits .f32 0x3727C5AC#32
/-- The reciprocal of its root. -/
def rr (H : Fin 2048 → EReal) : EReal := Ideal.rsqrt (ms H)
/-- The row, normalised. -/
def nrm (H : Fin 2048 → EReal) (k : Fin 2048) : EReal := H k * rr H

theorem sq_nonneg' (x : EReal) : 0 ≤ x * x := by
  rcases le_total 0 x with h | h
  · exact mul_nonneg h h
  · have h' : 0 ≤ -x := by rw [← neg_zero]; exact EReal.neg_le_neg_iff.2 h
    have := mul_nonneg h' h'
    rwa [neg_mul_neg] at this

theorem ms_cases (H : Fin 2048 → EReal) : ms H = ⊤ ∨ ∃ v : ℝ, 0 < v ∧ ms H = (v : EReal) := by
  obtain ⟨e, he, hw⟩ := ceps
  unfold ms
  rw [div_2048, hw]
  have h0 : 0 ≤ ∑ k, H k * H k := Finset.sum_nonneg fun k _ => sq_nonneg' _
  generalize (∑ k, H k * H k) = s at h0
  induction s with
  | bot => exact absurd h0 (by simp)
  | top => left; rw [EReal.top_mul_coe_of_pos (by norm_num)]; rfl
  | coe s =>
    right
    refine ⟨s * (1 / 2048) + e, ?_, by rw [← EReal.coe_mul, ← EReal.coe_add]⟩
    have : 0 ≤ s := EReal.coe_nonneg.1 h0
    positivity

/-- The gradient through the normalisation, as the kernel spells it. -/
def back (H G : Fin 2048 → EReal) (k : Fin 2048) : EReal :=
  rr H * (G k - nrm H k * Ideal.div (∑ j, G j * nrm H j) (Ideal.ofBits .f32 0x45000000#32))
/-- The gradient of the mean square, as the reference spells it. -/
def refq (H G : Fin 2048 → EReal) : EReal :=
  Ideal.div ((∑ j, H j * G j) * (Ideal.ofBits .f32 0xBF000000#32 * Ideal.div (rr H) (ms H))) (Ideal.ofBits .f32 0x45000000#32)

theorem back_eq (H G : Fin 2048 → EReal) (k : Fin 2048) : G k * rr H + H k * refq H G + refq H G * H k = back H G k := by
  unfold back refq nrm
  simp only [div_2048]
  rcases ms_cases H with hm | ⟨v, hv, hm⟩
  · have hr : rr H = 0 := by unfold rr; rw [hm]; rfl
    rw [hr, hm]
    have : Ideal.div 0 ⊤ = 0 := by simp [Ideal.div]
    simp [this]
  · obtain ⟨s, hs0, hs, hr⟩ : ∃ s : ℝ, 0 ≤ s ∧ s * s = v⁻¹ ∧ rr H = (s : EReal) := by
      refine ⟨(Real.sqrt v)⁻¹, by positivity, by rw [← mul_inv, Real.mul_self_sqrt hv.le], ?_⟩
      unfold rr
      rw [hm, Ideal.rsqrt_coe, if_neg (not_lt.2 hv.le), if_neg hv.ne']
    rw [hr, hm, Ideal.div_coe hv.ne', cmh]
    have e1 : ∑ j, G j * (H j * (s : EReal)) = (s : EReal) * ∑ j, H j * G j := by
      rw [← real_mul_sum _ hs0]
      exact Finset.sum_congr rfl fun j _ => by rw [← mul_assoc, mul_comm (s : EReal), mul_comm (H j)]
    rw [e1]
    generalize (∑ j, H j * G j) = S
    rw [mul_comm (_ * _) (H k), add_assoc, twice, sub_eq_add_neg, EReal.left_distrib_of_nonneg_of_ne_top (EReal.coe_nonneg.2 hs0) (EReal.coe_ne_top s),
      mul_comm (G k)]
    congr 1
    have e2 : ((2 : ℝ) : EReal) * (H k * (S * (((-1 / 2 : ℝ) : EReal) * ((s : EReal) * ((1 / v : ℝ) : EReal))) * ((1 / 2048 : ℝ) : EReal)))
        = H k * S * ((-(s * s * s * (1 / 2048)) : ℝ) : EReal) := by
      rw [show (-(s * s * s * (1 / 2048)) : ℝ) = 2 * ((-1 / 2) * (s * (1 / v)) * (1 / 2048)) from by rw [one_div v, ← hs]; ring]
      simp only [EReal.coe_mul]
      ac_rfl
    have e3 : (s : EReal) * -(H k * (s : EReal) * ((s : EReal) * S * ((1 / 2048 : ℝ) : EReal))) = H k * S * ((-(s * s * s * (1 / 2048)) : ℝ) : EReal) := by
      rw [mul_neg, EReal.coe_neg, mul_neg]
      simp only [EReal.coe_mul]
      congr 1
      ac_rfl
    exact e2.trans e3.symm

end Cert.Norm

namespace Cert.Head

open Idealize.ShloMosaic Cert.Norm

/-! ## One row of the step's last layer, forward and backward -/

/-- What a row brings: the residual, the two branches, their gates' values and the target. -/
structure Row where
  (x ya yb l0 l1 t : Fin 2048 → EReal)
/-- What every row shares: the gates' biases, the last gain and the output matrix. -/
structure Wts where
  (b0 b1 f : Fin 2048 → EReal)
  (w : Fin 2048 → Fin 2048 → EReal)

variable (R : Row) (W : Wts)

/-- The sigmoid. -/
def sg (z : EReal) : EReal := Ideal.div 1 (1 + Ideal.exp (0 - z))
def g0 (k : Fin 2048) : EReal := sg (R.l0 k + W.b0 k)
def g1 (k : Fin 2048) : EReal := sg (R.l1 k + W.b1 k)
/-- The gated sum of the branches. -/
def mb (k : Fin 2048) : EReal := g0 R W k * R.ya k + g1 R W k * R.yb k
/-- The residual stream after the layer. -/
def h (k : Fin 2048) : EReal := R.x k + ∑ j, mb R W j * W.w j k
/-- The normalised row. -/
def hn (k : Fin 2048) : EReal := nrm (h R W) k
/-- The error. -/
def err (k : Fin 2048) : EReal := hn R W k * W.f k - R.t k
/-- The mean of its squares. -/
def ls : EReal := Ideal.div (∑ k, err R W k * err R W k) (Ideal.ofBits .f32 0x45000000#32)
/-- The gradient of the scaled row. -/
def df (k : Fin 2048) : EReal := err R W k * Ideal.ofBits .f32 0x3A000000#32
/-- The row's part of the gradient of the last gain. -/
def dfw (k : Fin 2048) : EReal := df R W k * hn R W k
/-- The gradient of the normalised row. -/
def dhn (k : Fin 2048) : EReal := df R W k * W.f k
/-- The gradient of the residual stream. -/
def dh (k : Fin 2048) : EReal := back (h R W) (dhn R W) k
/-- The gradient of the gated sum. -/
def dm (k : Fin 2048) : EReal := ∑ j, dh R W j * W.w k j
def dya (k : Fin 2048) : EReal := dm R W k * g0 R W k
def dyb (k : Fin 2048) : EReal := dm R W k * g1 R W k
def dl0 (k : Fin 2048) : EReal := dm R W k * R.ya k * g0 R W k * (1 - g0 R W k)
def dl1 (k : Fin 2048) : EReal := dm R W k * R.yb k * g1 R W k * (1 - g1 R W k)

/-- The gates' gradient, both halves side by side. -/
def dl (k : Fin 4096) : EReal := if h : (k : Nat) < 2048 then dl0 R W ⟨k, h⟩ else dl1 R W ⟨k - 2048, by omega⟩

/-! ## All the rows -/

/-- The operands, read as tables of extended reals. -/
structure Ops where
  (x ya yb : Fin 8192 → Fin 2048 → EReal)
  (p : Fin 8192 → Fin 16384 → EReal)
  (t : Fin 8192 → Fin 2048 → EReal)
  (b : Fin 4096 → EReal)
  (w : Fin 2048 → Fin 2048 → EReal)
  (f : Fin 2048 → EReal)

/-- One row of the operands: the gates' values start at columns 6144 and 8192 of the projection. -/
def Ops.row (a : Ops) (r : Fin 8192) : Row :=
  ⟨a.x r, a.ya r, a.yb r, fun k => a.p r ⟨6144 + k, by omega⟩, fun k => a.p r ⟨8192 + k, by omega⟩, a.t r⟩
def Ops.wts (a : Ops) : Wts := ⟨fun k => a.b ⟨k, by omega⟩, fun k => a.b ⟨2048 + k, by omega⟩, a.f, a.w⟩

/-- Row `r` of block `t`. -/
def prow (t : Nat) (r : Fin 256) : Fin 8192 := ⟨(256 * t + r) % 8192, Nat.mod_lt _ (by decide)⟩

/-- A sum over the rows, block by block. -/
theorem sum_rows (f : Fin 8192 → EReal) : (∑ r, f r) = ∑ t ∈ Finset.range 32, ∑ r, f (prow t r) := by
  rw [Finset.sum_range (f := fun t => ∑ r, f (prow t r)), ← Fintype.sum_prod_type' (f := fun (t : Fin 32) (r : Fin 256) => f (prow t r))]
  refine (Fintype.sum_equiv (finProdFinEquiv (m := 32) (n := 256)) _ _ fun k => congrArg f (Fin.ext ?_)).symm
  have := k.1.isLt; have := k.2.isLt
  simp only [prow, finProdFinEquiv_apply_val]
  omega

end Cert.Head

end
-- ==== Proof.HeadBlocks.lean ====
/- The block values of the last layer: what one grid point of `Kernel7Ideal` computes, row by row. -/
module

public import proofs.«01_k».proof.Proof.Gen.Kernel7Ideal.Frame
public import proofs.«01_k».proof.Proof.HeadMath
public import Idealize.ShloMosaic.Lib.Pointwise
public import Idealize.ShloMosaic.Lib.WholeRead
public import Idealize.ShloMosaic.Lib.Pipeline.Value
public import Idealize.ShloMosaic.Lib.Pipeline.ReadBack
public import Idealize.ShloMosaic.Lib.Pipeline.ValueKit.Acc
public import Idealize.ShloMosaic.Lib.Tactic

@[expose] public section

set_option maxRecDepth 16384

noncomputable section

namespace Cert.Kernel7Ideal.Head

open Idealize.ShloMosaic Idealize.ShloMosaic.TcCoe Idealize.SL.Sem
open Cert.Kernel7Ideal Cert.Kernel7Ideal.Gen Cert.Norm Cert.Head

theorem hz2 : (![0, 0] : Fin 2 → Nat) = fun _ => 0 := funext fun a => by fin_cases a <;> rfl

/-! ## The payloads over a tile -/

variable (x0 : Vec Ideal S256x2048 .f32) (x1 x2 x3 x4 : Vec Ideal S256x2048 .bf16) (x5 : Vec Ideal S256x2048 .f32)
  (lo hi : Vec Ideal S1x2048 .f32) (x7 : Vec Ideal S2048x2048 .bf16) (x8 : Vec Ideal S1x2048 .f32)

/-- Row `r` of the point's blocks. -/
def trow (r : Fin 256) : Row :=
  ⟨fun k => x0 (ix2 r k), fun k => x1 (ix2 r k), fun k => x2 (ix2 r k), fun k => x3 (ix2 r k), fun k => x4 (ix2 r k), fun k => x5 (ix2 r k)⟩
/-- The shared blocks. -/
def twts : Wts := ⟨fun k => lo (ix2 0 k), fun k => hi (ix2 0 k), fun k => x8 (ix2 0 k), fun a b => x7 (ix2 a b)⟩

/-- A row function over the tile. -/
def tile (R : Fin 256 → Row) (W : Wts) (f : Row → Wts → Fin 2048 → EReal) : S256x2048.Idx → EReal := fun j => f (R (j 0)) W (j 1)

theorem pay12_eq : k0_pay12 (F := Ideal) x3 lo = tile (trow x0 x1 x2 x3 x4 x5) (twts lo hi x7 x8) g0 := by
  funext j
  pointwise [k0_pay12, tile, g0, sg, trow, twts]

theorem pay13_eq : k0_pay13 (F := Ideal) x4 hi = tile (trow x0 x1 x2 x3 x4 x5) (twts lo hi x7 x8) g1 := by
  funext j
  pointwise [k0_pay13, tile, g1, sg, trow, twts]

theorem pay14_eq : k0_pay14 (F := Ideal) x1 x2 x3 lo x4 hi = tile (trow x0 x1 x2 x3 x4 x5) (twts lo hi x7 x8) mb := by
  funext j
  unfold k0_pay14
  rw [pay12_eq x0 x1 x2 x3 x4 x5 lo hi x7 x8, pay13_eq x0 x1 x2 x3 x4 x5 lo hi x7 x8]
  pointwise [k0_pay10, k0_pay11, tile, mb, trow]

theorem pay15_eq : k0_pay15 (F := Ideal) (tile (trow x0 x1 x2 x3 x4 x5) (twts lo hi x7 x8) mb) x0 x7 = tile (trow x0 x1 x2 x3 x4 x5) (twts lo hi x7 x8) h := by
  funext j
  pointwise [k0_pay15, tile, h, trow, twts]

theorem pay16_eq : k0_pay16 (F := Ideal) (tile (trow x0 x1 x2 x3 x4 x5) (twts lo hi x7 x8) mb) x0 x7 = fun j => rr (h ((trow x0 x1 x2 x3 x4 x5) (j 0)) (twts lo hi x7 x8)) := by
  funext j
  unfold k0_pay16
  rw [pay15_eq]
  pointwise [tile, rr, ms]

theorem pay17_eq : k0_pay17 (F := Ideal) (tile (trow x0 x1 x2 x3 x4 x5) (twts lo hi x7 x8) mb) x0 x7 = tile (trow x0 x1 x2 x3 x4 x5) (twts lo hi x7 x8) hn := by
  funext j
  unfold k0_pay17
  rw [pay15_eq, pay16_eq]
  pointwise [tile, hn, nrm]

theorem pay18_eq : k0_pay18 (F := Ideal) (tile (trow x0 x1 x2 x3 x4 x5) (twts lo hi x7 x8) mb) x0 x7 x8 x5 = tile (trow x0 x1 x2 x3 x4 x5) (twts lo hi x7 x8) err := by
  funext j
  unfold k0_pay18
  rw [pay17_eq]
  pointwise [tile, err, trow, twts]

theorem pay20_eq : k0_pay20 (F := Ideal) (tile (trow x0 x1 x2 x3 x4 x5) (twts lo hi x7 x8) mb) x0 x7 x8 x5 = tile (trow x0 x1 x2 x3 x4 x5) (twts lo hi x7 x8) df := by
  funext j
  unfold k0_pay20
  rw [pay18_eq]
  pointwise [tile, df]

theorem pay21_eq (v : Vec Ideal S1x2048 .f32) : k0_pay21 (F := Ideal) (tile (trow x0 x1 x2 x3 x4 x5) (twts lo hi x7 x8) hn) (tile (trow x0 x1 x2 x3 x4 x5) (twts lo hi x7 x8) df) v
    = fun j => v j + ∑ r, dfw ((trow x0 x1 x2 x3 x4 x5) r) (twts lo hi x7 x8) (j 1) := by
  funext j
  pointwise [k0_pay21, tile, dfw]

theorem pay22_eq : k0_pay22 (F := Ideal) (fun j => rr (h ((trow x0 x1 x2 x3 x4 x5) (j 0)) (twts lo hi x7 x8))) (tile (trow x0 x1 x2 x3 x4 x5) (twts lo hi x7 x8) hn) (tile (trow x0 x1 x2 x3 x4 x5) (twts lo hi x7 x8) df) x8 = tile (trow x0 x1 x2 x3 x4 x5) (twts lo hi x7 x8) dh := by
  funext j
  pointwise [k0_pay22, tile, dh, back, dhn, hn, trow, twts]

theorem pay24_eq : k0_pay24 (F := Ideal) (fun j => rr (h ((trow x0 x1 x2 x3 x4 x5) (j 0)) (twts lo hi x7 x8))) (tile (trow x0 x1 x2 x3 x4 x5) (twts lo hi x7 x8) hn) (tile (trow x0 x1 x2 x3 x4 x5) (twts lo hi x7 x8) df) x8 x7 = tile (trow x0 x1 x2 x3 x4 x5) (twts lo hi x7 x8) dm := by
  funext j
  unfold k0_pay24 k0_pay23
  rw [pay22_eq]
  pointwise [tile, dm, twts]

theorem pay27_eq : k0_pay27 (F := Ideal) (k0_pay10 x1) (tile (trow x0 x1 x2 x3 x4 x5) (twts lo hi x7 x8) g0) (fun j => rr (h (trow x0 x1 x2 x3 x4 x5 (j 0)) (twts lo hi x7 x8))) (tile (trow x0 x1 x2 x3 x4 x5) (twts lo hi x7 x8) hn) (tile (trow x0 x1 x2 x3 x4 x5) (twts lo hi x7 x8) df) x8 x7
    = fun j => dm (trow x0 x1 x2 x3 x4 x5 (j 0)) (twts lo hi x7 x8) (j 1) * x1 j * g0 (trow x0 x1 x2 x3 x4 x5 (j 0)) (twts lo hi x7 x8) (j 1) := by
  funext j
  unfold k0_pay27
  rw [pay24_eq]
  pointwise [k0_pay10, tile]

theorem pay19_eq (v : Vec Ideal S8x128 .f32) : k0_pay19 (F := Ideal) (tile (trow x0 x1 x2 x3 x4 x5) (twts lo hi x7 x8) mb) x0 x7 x8 x5 v
    = fun j => v j + Ideal.ofBits .f32 0x3F000000#32 * ∑ r, ls ((trow x0 x1 x2 x3 x4 x5) r) (twts lo hi x7 x8) := by
  funext j
  unfold k0_pay19
  rw [pay18_eq]
  pointwise [tile, ls]
  simp only [Finset.sum_const, Finset.card_univ, Fintype.card_fin, one_smul]

end Cert.Kernel7Ideal.Head

end
-- ==== Proof.HeadOuts.lean ====
/- What one grid point of `Kernel7Ideal` leaves in each of its result blocks. -/
module

public import proofs.«01_k».proof.Proof.HeadBlocks

@[expose] public section

set_option maxRecDepth 16384

noncomputable section

namespace Cert.Kernel7Ideal.Head

open Idealize.ShloMosaic Idealize.ShloMosaic.TcCoe Idealize.SL.Sem
open Cert.Kernel7Ideal Cert.Kernel7Ideal.Gen Cert.Norm Cert.Head

/-! ## Stores to part of the first of eight rows -/

section
variable {n o : Nat} (inb : ∀ i, ![0, o] i + S1x2048.size i ≤ (⟨2, ![8, n]⟩ : Shape).size i)

theorem emb_part (j : (⟨2, ![8, n]⟩ : Shape).Idx) (h : (j 0 : Nat) = 0 ∧ o ≤ (j 1 : Nat) ∧ (j 1 : Nat) < o + 2048) :
    (Rect.unit (s := ⟨2, ![8, n]⟩) ![0, o] S1x2048.size inb).emb (ix2 0 ⟨(j 1 : Nat) - o, by omega⟩) = j := by
  funext i
  apply Fin.ext
  rw [Rect.emb_apply]
  fin_cases i
  · exact h.1.symm
  · show o + 1 * ((j 1 : Nat) - o) = (j 1 : Nat)
    omega

theorem not_mem_part (j : (⟨2, ![8, n]⟩ : Shape).Idx) (h : ¬((j 0 : Nat) = 0 ∧ o ≤ (j 1 : Nat) ∧ (j 1 : Nat) < o + 2048)) :
    j ∉ (Rect.unit (s := ⟨2, ![8, n]⟩) ![0, o] S1x2048.size inb).set := by
  rw [Rect.mem_set_unit]
  intro hm
  have h0 : 0 ≤ (j 0 : Nat) ∧ (j 0 : Nat) < 0 + 1 := hm 0
  have h1 : o ≤ (j 1 : Nat) ∧ (j 1 : Nat) < o + 2048 := hm 1
  exact h ⟨by omega, h1⟩

theorem canon_part (w : S1x2048.Idx → EReal) (L : List (View.Piece (Elt Ideal) ⟨2, ![8, n]⟩ .f32)) (j : (⟨2, ![8, n]⟩ : Shape).Idx) :
    View.canon ((⟨Rect.unit (s := ⟨2, ![8, n]⟩) ![0, o] S1x2048.size inb, w⟩ : View.Piece (Elt Ideal) ⟨2, ![8, n]⟩ .f32) :: L) j
      = if h : (j 0 : Nat) = 0 ∧ o ≤ (j 1 : Nat) ∧ (j 1 : Nat) < o + 2048 then w (ix2 0 ⟨(j 1 : Nat) - o, by omega⟩) else View.canon L j := by
  split
  · next h =>
    conv_lhs => rw [← emb_part inb j h]
    exact View.canon_cons_emb ..
  · next h => exact View.canon_cons_of_not_mem _ _ (not_mem_part inb j h)

theorem read_part {arg : Memref sig .tc .vmem ⟨2, ![8, n]⟩ .f32} (f : arg.view.ty.Contents (Elt Ideal)) (w : S1x2048.Idx → EReal)
    (L : List (View.Piece (Elt Ideal) ⟨2, ![8, n]⟩ .f32)) (j : (⟨2, ![8, n]⟩ : Shape).Idx) :
    arg.view.read (Elt Ideal) (arg.view.writes (Elt Ideal) f (⟨Rect.unit (s := ⟨2, ![8, n]⟩) ![0, o] S1x2048.size inb, w⟩ :: L)) j
      = if h : (j 0 : Nat) = 0 ∧ o ≤ (j 1 : Nat) ∧ (j 1 : Nat) < o + 2048 then w (ix2 0 ⟨(j 1 : Nat) - o, by omega⟩)
        else arg.view.read (Elt Ideal) (arg.view.writes (Elt Ideal) f L) j := by
  split
  · next h =>
    conv_lhs => rw [← emb_part inb j h]
    exact View.read_writes_cons_emb ..
  · next h => exact View.read_writes_cons_miss _ _ _ _ _ (not_mem_part inb j h)

/-- A load of the part, back at the index it came from. -/
theorem ld_part (base : (⟨2, ![8, n]⟩ : Shape).Idx → EReal) (j : (⟨2, ![8, n]⟩ : Shape).Idx)
    (h : (j 0 : Nat) = 0 ∧ o ≤ (j 1 : Nat) ∧ (j 1 : Nat) < o + 2048) :
    View.ld (Val := Elt Ideal) (e' := .f32) base (Rect.unit (s := ⟨2, ![8, n]⟩) ![0, o] S1x2048.size inb) (ix2 0 ⟨(j 1 : Nat) - o, by omega⟩) = base j :=
  congrArg base (emb_part inb j h)

end

/-! ## The two halves of the gates -/

variable (x0 : Vec Ideal S256x2048 .f32) (x1 x2 x3 x4 : Vec Ideal S256x2048 .bf16) (x5 : Vec Ideal S256x2048 .f32)
  (x6 : Vec Ideal S1x4096 .f32) (x7 : Vec Ideal S2048x2048 .bf16) (x8 : Vec Ideal S1x2048 .f32)

def lo6 : Vec Ideal S1x2048 .f32 := fun j => x6 (ix2 0 ⟨(j 1 : Nat), lt_trans (j 1).isLt (by decide)⟩)
def hi6 : Vec Ideal S1x2048 .f32 := fun j => x6 (ix2 0 ⟨2048 + (j 1 : Nat), by have h : (j 1 : Nat) < 2048 := (j 1).isLt; omega⟩)

theorem lo6_eq (inb : ∀ i, ![0, 0] i + S1x2048.size i ≤ S1x4096.size i) : View.ld (Val := Elt Ideal) (e' := .f32) x6 (Rect.unit (s := S1x4096) ![0, 0] ![1, 2048] inb) = lo6 x6 := by
  funext j
  refine congrArg x6 (funext fun a => Fin.ext ?_)
  have b0 : (j 0 : Nat) < 1 := (j 0).isLt
  fin_cases a
  · show 0 + 1 * (j 0 : Nat) = 0; omega
  · show 0 + 1 * (j 1 : Nat) = (j 1 : Nat); omega

theorem hi6_eq (inb : ∀ i, ![0, 2048] i + S1x2048.size i ≤ S1x4096.size i) : View.ld (Val := Elt Ideal) (e' := .f32) x6 (Rect.unit (s := S1x4096) ![0, 2048] ![1, 2048] inb) = hi6 x6 := by
  funext j
  refine congrArg x6 (funext fun a => Fin.ext ?_)
  have b0 : (j 0 : Nat) < 1 := (j 0).isLt
  fin_cases a
  · show 0 + 1 * (j 0 : Nat) = 0; omega
  · show 2048 + 1 * (j 1 : Nat) = 2048 + (j 1 : Nat); omega

section
variable (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1x4096 .f32) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S256x2048 .f32) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x4096 .bf16) (harg15 : arg15.IsWhole) (arg16 : Memref sig .tc .vmem S8x128 .f32) (harg16 : arg16.IsWhole) (arg17 : Memref sig .tc .vmem S8x2048 .f32) (harg17 : arg17.IsWhole) (arg18 : Memref sig .tc .vmem S8x4096 .f32) (harg18 : arg18.IsWhole)

/-! ## The values a point computes -/

theorem b_r2 : kernelRun0_B.sl.r_2 (F := Ideal) c arg4 harg4 arg7 harg7 x3 x6 = tile (trow x0 x1 x2 x3 x4 x5) (twts (lo6 x6) (hi6 x6) x7 x8) g0 := by
  unfold kernelRun0_B.sl.r_2
  simp only [View.readAt_eq_ld, harg4.read_unread, harg7.read_unread, View.ld_unit_zero (S := S256x2048) hz2, lo6_eq]
  exact pay12_eq x0 x1 x2 x3 x4 x5 (lo6 x6) (hi6 x6) x7 x8

theorem b_r3 : kernelRun0_B.sl.r_3 (F := Ideal) c arg5 harg5 arg7 harg7 x4 x6 = tile (trow x0 x1 x2 x3 x4 x5) (twts (lo6 x6) (hi6 x6) x7 x8) g1 := by
  unfold kernelRun0_B.sl.r_3
  simp only [View.readAt_eq_ld, harg5.read_unread, harg7.read_unread, View.ld_unit_zero (S := S256x2048) hz2, hi6_eq]
  exact pay13_eq x0 x1 x2 x3 x4 x5 (lo6 x6) (hi6 x6) x7 x8

theorem b_r4 : kernelRun0_B.sl.r_4 (F := Ideal) c arg2 harg2 arg3 harg3 arg4 harg4 arg5 harg5 arg7 harg7 x1 x2 x3 x4 x6 = tile (trow x0 x1 x2 x3 x4 x5) (twts (lo6 x6) (hi6 x6) x7 x8) mb := by
  unfold kernelRun0_B.sl.r_4
  simp only [View.readAt_eq_ld, harg2.read_unread, harg3.read_unread, harg4.read_unread, harg5.read_unread, harg7.read_unread, View.ld_unit_zero (S := S256x2048) hz2, lo6_eq, hi6_eq]
  exact pay14_eq x0 x1 x2 x3 x4 x5 (lo6 x6) (hi6 x6) x7 x8

theorem b_r5 : kernelRun0_B.sl.r_5 (F := Ideal) c arg1 harg1 arg2 harg2 arg3 harg3 arg4 harg4 arg5 harg5 arg7 harg7 arg8 harg8 x0 x1 x2 x3 x4 x6 x7 = fun j => rr (h ((trow x0 x1 x2 x3 x4 x5) (j 0)) (twts (lo6 x6) (hi6 x6) x7 x8)) := by
  unfold kernelRun0_B.sl.r_5
  rw [b_r4 x0 x1 x2 x3 x4 x5 x6 x7 x8]
  simp only [View.readAt_eq_ld, harg1.read_unread, harg8.read_unread, View.ld_unit_zero (S := S256x2048) hz2, View.ld_unit_zero (S := S2048x2048) hz2]
  exact pay16_eq x0 x1 x2 x3 x4 x5 (lo6 x6) (hi6 x6) x7 x8

theorem b_r6 : kernelRun0_B.sl.r_6 (F := Ideal) c arg1 harg1 arg2 harg2 arg3 harg3 arg4 harg4 arg5 harg5 arg7 harg7 arg8 harg8 x0 x1 x2 x3 x4 x6 x7 = tile (trow x0 x1 x2 x3 x4 x5) (twts (lo6 x6) (hi6 x6) x7 x8) hn := by
  unfold kernelRun0_B.sl.r_6
  rw [b_r4 x0 x1 x2 x3 x4 x5 x6 x7 x8]
  simp only [View.readAt_eq_ld, harg1.read_unread, harg8.read_unread, View.ld_unit_zero (S := S256x2048) hz2, View.ld_unit_zero (S := S2048x2048) hz2]
  exact pay17_eq x0 x1 x2 x3 x4 x5 (lo6 x6) (hi6 x6) x7 x8

theorem b_r7 : kernelRun0_B.sl.r_7 (F := Ideal) c arg1 harg1 arg2 harg2 arg3 harg3 arg4 harg4 arg5 harg5 arg6 harg6 arg7 harg7 arg8 harg8 arg9 harg9 x0 x1 x2 x3 x4 x5 x6 x7 x8 = tile (trow x0 x1 x2 x3 x4 x5) (twts (lo6 x6) (hi6 x6) x7 x8) df := by
  unfold kernelRun0_B.sl.r_7
  rw [b_r4 x0 x1 x2 x3 x4 x5 x6 x7 x8]
  simp only [View.readAt_eq_ld, harg1.read_unread, harg6.read_unread, harg8.read_unread, harg9.read_unread, View.ld_unit_zero (S := S256x2048) hz2, View.ld_unit_zero (S := S2048x2048) hz2, View.ld_unit_zero (S := S1x2048) hz2]
  exact pay20_eq x0 x1 x2 x3 x4 x5 (lo6 x6) (hi6 x6) x7 x8

theorem b_r8 : kernelRun0_B.sl.r_8 (F := Ideal) c arg1 harg1 arg2 harg2 arg3 harg3 arg4 harg4 arg5 harg5 arg6 harg6 arg7 harg7 arg8 harg8 arg9 harg9 x0 x1 x2 x3 x4 x5 x6 x7 x8 = tile (trow x0 x1 x2 x3 x4 x5) (twts (lo6 x6) (hi6 x6) x7 x8) dm := by
  unfold kernelRun0_B.sl.r_8
  rw [b_r5 x0 x1 x2 x3 x4 x5 x6 x7 x8, b_r6 x0 x1 x2 x3 x4 x5 x6 x7 x8, b_r7]
  simp only [View.readAt_eq_ld, harg8.read_unread, harg9.read_unread, View.ld_unit_zero (S := S2048x2048) hz2, View.ld_unit_zero (S := S1x2048) hz2]
  exact pay24_eq x0 x1 x2 x3 x4 x5 (lo6 x6) (hi6 x6) x7 x8

theorem b_r9 : kernelRun0_B.sl.r_9 (F := Ideal) c arg1 harg1 arg2 harg2 arg3 harg3 arg4 harg4 arg5 harg5 arg6 harg6 arg7 harg7 arg8 harg8 arg9 harg9 x0 x1 x2 x3 x4 x5 x6 x7 x8
    = fun j => dm ((trow x0 x1 x2 x3 x4 x5) (j 0)) (twts (lo6 x6) (hi6 x6) x7 x8) (j 1) * x1 j * g0 ((trow x0 x1 x2 x3 x4 x5) (j 0)) (twts (lo6 x6) (hi6 x6) x7 x8) (j 1) := by
  unfold kernelRun0_B.sl.r_9
  rw [b_r5 x0 x1 x2 x3 x4 x5 x6 x7 x8, b_r6 x0 x1 x2 x3 x4 x5 x6 x7 x8, b_r7, b_r2 x0 x1 x2 x3 x4 x5 x6 x7 x8]
  unfold kernelRun0_B.sl.r
  simp only [View.readAt_eq_ld, harg2.read_unread, harg8.read_unread, harg9.read_unread, View.ld_unit_zero (S := S256x2048) hz2, View.ld_unit_zero (S := S2048x2048) hz2, View.ld_unit_zero (S := S1x2048) hz2]
  exact pay27_eq x0 x1 x2 x3 x4 x5 (lo6 x6) (hi6 x6) x7 x8

theorem b_g0 : k0_pay1 (F := Ideal) (kernelRun0_B.sl.r_2 c arg4 harg4 arg7 harg7 x3 x6) (kernelRun0_B.sl.r_9 c arg1 harg1 arg2 harg2 arg3 harg3 arg4 harg4 arg5 harg5 arg6 harg6 arg7 harg7 arg8 harg8 arg9 harg9 x0 x1 x2 x3 x4 x5 x6 x7 x8) kernelRun0_B.sl.cst_59 = tile (trow x0 x1 x2 x3 x4 x5) (twts (lo6 x6) (hi6 x6) x7 x8) dl0 := by
  rw [b_r2 x0 x1 x2 x3 x4 x5 x6 x7 x8, b_r9]
  funext j
  pointwise [k0_pay1, kernelRun0_B.sl.cst_59, tile, dl0, trow]

theorem b_g1 : k0_pay2 (F := Ideal) (kernelRun0_B.sl.r_1 c arg3 harg3 x2) (kernelRun0_B.sl.r_3 c arg5 harg5 arg7 harg7 x4 x6) (kernelRun0_B.sl.r_8 c arg1 harg1 arg2 harg2 arg3 harg3 arg4 harg4 arg5 harg5 arg6 harg6 arg7 harg7 arg8 harg8 arg9 harg9 x0 x1 x2 x3 x4 x5 x6 x7 x8) = tile (trow x0 x1 x2 x3 x4 x5) (twts (lo6 x6) (hi6 x6) x7 x8) dl1 := by
  rw [b_r3 x0 x1 x2 x3 x4 x5 x6 x7 x8, b_r8]
  unfold kernelRun0_B.sl.r_1
  simp only [View.readAt_eq_ld, harg3.read_unread, View.ld_unit_zero (S := S256x2048) hz2]
  funext j
  pointwise [k0_pay2, k0_pay11, tile, dl1, trow]

theorem b_dh : k0_pay22 (F := Ideal) (kernelRun0_B.sl.r_5 c arg1 harg1 arg2 harg2 arg3 harg3 arg4 harg4 arg5 harg5 arg7 harg7 arg8 harg8 x0 x1 x2 x3 x4 x6 x7) (kernelRun0_B.sl.r_6 c arg1 harg1 arg2 harg2 arg3 harg3 arg4 harg4 arg5 harg5 arg7 harg7 arg8 harg8 x0 x1 x2 x3 x4 x6 x7) (kernelRun0_B.sl.r_7 c arg1 harg1 arg2 harg2 arg3 harg3 arg4 harg4 arg5 harg5 arg6 harg6 arg7 harg7 arg8 harg8 arg9 harg9 x0 x1 x2 x3 x4 x5 x6 x7 x8)
    (View.readAt (Elt Ideal) arg9.view (Rect.unit ![0, 0] S1x2048.size inb_S1x2048_S1x2048_0_0).toLoadRect (harg9.unread x8)) = tile (trow x0 x1 x2 x3 x4 x5) (twts (lo6 x6) (hi6 x6) x7 x8) dh := by
  rw [b_r5 x0 x1 x2 x3 x4 x5 x6 x7 x8, b_r6 x0 x1 x2 x3 x4 x5 x6 x7 x8, b_r7]
  simp only [View.readAt_eq_ld, harg9.read_unread, View.ld_unit_zero (S := S1x2048) hz2]
  exact pay22_eq x0 x1 x2 x3 x4 x5 (lo6 x6) (hi6 x6) x7 x8

theorem b_dm : k0_pay24 (F := Ideal) (kernelRun0_B.sl.r_5 c arg1 harg1 arg2 harg2 arg3 harg3 arg4 harg4 arg5 harg5 arg7 harg7 arg8 harg8 x0 x1 x2 x3 x4 x6 x7) (kernelRun0_B.sl.r_6 c arg1 harg1 arg2 harg2 arg3 harg3 arg4 harg4 arg5 harg5 arg7 harg7 arg8 harg8 x0 x1 x2 x3 x4 x6 x7) (kernelRun0_B.sl.r_7 c arg1 harg1 arg2 harg2 arg3 harg3 arg4 harg4 arg5 harg5 arg6 harg6 arg7 harg7 arg8 harg8 arg9 harg9 x0 x1 x2 x3 x4 x5 x6 x7 x8)
    (View.readAt (Elt Ideal) arg9.view (Rect.unit ![0, 0] S1x2048.size inb_S1x2048_S1x2048_0_0).toLoadRect (harg9.unread x8))
    (View.readAt (Elt Ideal) arg8.view (Rect.unit ![0, 0] S2048x2048.size inb_S2048x2048_S2048x2048_0_0).toLoadRect (harg8.unread x7)) = tile (trow x0 x1 x2 x3 x4 x5) (twts (lo6 x6) (hi6 x6) x7 x8) dm := by
  exact b_r8 x0 x1 x2 x3 x4 x5 x6 x7 x8 c arg1 harg1 arg2 harg2 arg3 harg3 arg4 harg4 arg5 harg5 arg6 harg6 arg7 harg7 arg8 harg8 arg9 harg9

theorem b_dya : k0_pay25 (F := Ideal) (kernelRun0_B.sl.r_2 c arg4 harg4 arg7 harg7 x3 x6) (kernelRun0_B.sl.r_5 c arg1 harg1 arg2 harg2 arg3 harg3 arg4 harg4 arg5 harg5 arg7 harg7 arg8 harg8 x0 x1 x2 x3 x4 x6 x7) (kernelRun0_B.sl.r_6 c arg1 harg1 arg2 harg2 arg3 harg3 arg4 harg4 arg5 harg5 arg7 harg7 arg8 harg8 x0 x1 x2 x3 x4 x6 x7) (kernelRun0_B.sl.r_7 c arg1 harg1 arg2 harg2 arg3 harg3 arg4 harg4 arg5 harg5 arg6 harg6 arg7 harg7 arg8 harg8 arg9 harg9 x0 x1 x2 x3 x4 x5 x6 x7 x8)
    (View.readAt (Elt Ideal) arg9.view (Rect.unit ![0, 0] S1x2048.size inb_S1x2048_S1x2048_0_0).toLoadRect (harg9.unread x8))
    (View.readAt (Elt Ideal) arg8.view (Rect.unit ![0, 0] S2048x2048.size inb_S2048x2048_S2048x2048_0_0).toLoadRect (harg8.unread x7)) = tile (trow x0 x1 x2 x3 x4 x5) (twts (lo6 x6) (hi6 x6) x7 x8) dya := by
  unfold k0_pay25
  rw [b_dm, b_r2 x0 x1 x2 x3 x4 x5 x6 x7 x8]
  rfl

theorem b_dyb : k0_pay26 (F := Ideal) (kernelRun0_B.sl.r_3 c arg5 harg5 arg7 harg7 x4 x6) (kernelRun0_B.sl.r_5 c arg1 harg1 arg2 harg2 arg3 harg3 arg4 harg4 arg5 harg5 arg7 harg7 arg8 harg8 x0 x1 x2 x3 x4 x6 x7) (kernelRun0_B.sl.r_6 c arg1 harg1 arg2 harg2 arg3 harg3 arg4 harg4 arg5 harg5 arg7 harg7 arg8 harg8 x0 x1 x2 x3 x4 x6 x7) (kernelRun0_B.sl.r_7 c arg1 harg1 arg2 harg2 arg3 harg3 arg4 harg4 arg5 harg5 arg6 harg6 arg7 harg7 arg8 harg8 arg9 harg9 x0 x1 x2 x3 x4 x5 x6 x7 x8)
    (View.readAt (Elt Ideal) arg9.view (Rect.unit ![0, 0] S1x2048.size inb_S1x2048_S1x2048_0_0).toLoadRect (harg9.unread x8))
    (View.readAt (Elt Ideal) arg8.view (Rect.unit ![0, 0] S2048x2048.size inb_S2048x2048_S2048x2048_0_0).toLoadRect (harg8.unread x7)) = tile (trow x0 x1 x2 x3 x4 x5) (twts (lo6 x6) (hi6 x6) x7 x8) dyb := by
  unfold k0_pay26
  rw [b_dm, b_r3 x0 x1 x2 x3 x4 x5 x6 x7 x8]
  rfl

theorem b_loss (v : Vec Ideal S8x128 .f32) : k0_pay19 (F := Ideal) (kernelRun0_B.sl.r_4 c arg2 harg2 arg3 harg3 arg4 harg4 arg5 harg5 arg7 harg7 x1 x2 x3 x4 x6)
    (View.readAt (Elt Ideal) arg1.view (Rect.unit ![0, 0] S256x2048.size inb_S256x2048_S256x2048_0_0).toLoadRect (harg1.unread x0))
    (View.readAt (Elt Ideal) arg8.view (Rect.unit ![0, 0] S2048x2048.size inb_S2048x2048_S2048x2048_0_0).toLoadRect (harg8.unread x7))
    (View.readAt (Elt Ideal) arg9.view (Rect.unit ![0, 0] S1x2048.size inb_S1x2048_S1x2048_0_0).toLoadRect (harg9.unread x8))
    (View.readAt (Elt Ideal) arg6.view (Rect.unit ![0, 0] S256x2048.size inb_S256x2048_S256x2048_0_0).toLoadRect (harg6.unread x5)) v
    = fun j => v j + Ideal.ofBits .f32 0x3F000000#32 * ∑ r, ls (trow x0 x1 x2 x3 x4 x5 r) (twts (lo6 x6) (hi6 x6) x7 x8) := by
  rw [b_r4 x0 x1 x2 x3 x4 x5 x6 x7 x8]
  simp only [View.readAt_eq_ld, harg1.read_unread, harg6.read_unread, harg8.read_unread, harg9.read_unread, View.ld_unit_zero (S := S256x2048) hz2, View.ld_unit_zero (S := S2048x2048) hz2, View.ld_unit_zero (S := S1x2048) hz2]
  exact pay19_eq x0 x1 x2 x3 x4 x5 (lo6 x6) (hi6 x6) x7 x8 v

theorem b_dfw (v : Vec Ideal S1x2048 .f32) : k0_pay21 (F := Ideal) (kernelRun0_B.sl.r_6 c arg1 harg1 arg2 harg2 arg3 harg3 arg4 harg4 arg5 harg5 arg7 harg7 arg8 harg8 x0 x1 x2 x3 x4 x6 x7) (kernelRun0_B.sl.r_7 c arg1 harg1 arg2 harg2 arg3 harg3 arg4 harg4 arg5 harg5 arg6 harg6 arg7 harg7 arg8 harg8 arg9 harg9 x0 x1 x2 x3 x4 x5 x6 x7 x8) v
    = fun j => v j + ∑ r, dfw (trow x0 x1 x2 x3 x4 x5 r) (twts (lo6 x6) (hi6 x6) x7 x8) (j 1) := by
  rw [b_r6 x0 x1 x2 x3 x4 x5 x6 x7 x8, b_r7]
  exact pay21_eq x0 x1 x2 x3 x4 x5 (lo6 x6) (hi6 x6) x7 x8 v

theorem b_dgb0 (v : Vec Ideal S1x2048 .f32) : k0_pay5 (F := Ideal) (kernelRun0_B.sl.r_2 c arg4 harg4 arg7 harg7 x3 x6) (kernelRun0_B.sl.r_9 c arg1 harg1 arg2 harg2 arg3 harg3 arg4 harg4 arg5 harg5 arg6 harg6 arg7 harg7 arg8 harg8 arg9 harg9 x0 x1 x2 x3 x4 x5 x6 x7 x8) kernelRun0_B.sl.cst_59 v
    = fun j => v j + ∑ r, dl0 (trow x0 x1 x2 x3 x4 x5 r) (twts (lo6 x6) (hi6 x6) x7 x8) (j 1) := by
  unfold k0_pay5
  rw [b_g0]
  funext j
  pointwise [tile]

theorem b_dgb1 (v : Vec Ideal S1x2048 .f32) : k0_pay6 (F := Ideal) (kernelRun0_B.sl.r_1 c arg3 harg3 x2) (kernelRun0_B.sl.r_3 c arg5 harg5 arg7 harg7 x4 x6) (kernelRun0_B.sl.r_8 c arg1 harg1 arg2 harg2 arg3 harg3 arg4 harg4 arg5 harg5 arg6 harg6 arg7 harg7 arg8 harg8 arg9 harg9 x0 x1 x2 x3 x4 x5 x6 x7 x8) v
    = fun j => v j + ∑ r, dl1 (trow x0 x1 x2 x3 x4 x5 r) (twts (lo6 x6) (hi6 x6) x7 x8) (j 1) := by
  unfold k0_pay6
  rw [b_g1]
  funext j
  pointwise [tile]

/-- The gates' gradient over the tile. -/
def DLT (R : Fin 256 → Row) (W : Wts) : S256x4096.Idx → EReal := fun j => dl (R (j 0)) W (j 1)

/-- The gates' gradient, from its two stores. -/
theorem dl_eq (w0 w1 : S256x2048.Idx → EReal) (h0 : w0 = tile (trow x0 x1 x2 x3 x4 x5) (twts (lo6 x6) (hi6 x6) x7 x8) dl0) (h1 : w1 = tile (trow x0 x1 x2 x3 x4 x5) (twts (lo6 x6) (hi6 x6) x7 x8) dl1) :
    View.canon ([⟨Rect.unit (s := S256x4096) ![0, 2048] S256x2048.size inb_S256x4096_S256x2048_0_2048, w1⟩,
      ⟨Rect.unit (s := S256x4096) ![0, 0] S256x2048.size inb_S256x4096_S256x2048_0_0, w0⟩] : List (View.Piece (Elt Ideal) S256x4096 .bf16))
      = DLT (trow x0 x1 x2 x3 x4 x5) (twts (lo6 x6) (hi6 x6) x7 x8) := by
  subst h0 h1
  have hP : View.PiecesOf (DLT (trow x0 x1 x2 x3 x4 x5) (twts (lo6 x6) (hi6 x6) x7 x8)) ([⟨Rect.unit (s := S256x4096) ![0, 2048] S256x2048.size inb_S256x4096_S256x2048_0_2048, tile (trow x0 x1 x2 x3 x4 x5) (twts (lo6 x6) (hi6 x6) x7 x8) dl1⟩,
      ⟨Rect.unit (s := S256x4096) ![0, 0] S256x2048.size inb_S256x4096_S256x2048_0_0, tile (trow x0 x1 x2 x3 x4 x5) (twts (lo6 x6) (hi6 x6) x7 x8) dl0⟩] : List (View.Piece (Elt Ideal) S256x4096 .bf16)) := by
    refine ⟨fun x => ?_, fun x => ?_, trivial⟩ <;> have b0 : (x 0 : Nat) < 256 := (x 0).isLt <;> have b1 : (x 1 : Nat) < 2048 := (x 1).isLt
    · have e0 : ((Rect.unit (s := S256x4096) ![0, 2048] S256x2048.size inb_S256x4096_S256x2048_0_2048).emb x 0 : Fin 256) = x 0 := Fin.ext (by rw [Rect.emb_apply]; simp)
      have e1 : ((Rect.unit (s := S256x4096) ![0, 2048] S256x2048.size inb_S256x4096_S256x2048_0_2048).emb x 1 : Nat) = 2048 + (x 1 : Nat) := by rw [Rect.emb_apply]; simp
      show (tile (trow x0 x1 x2 x3 x4 x5) (twts (lo6 x6) (hi6 x6) x7 x8) dl1) x = DLT (trow x0 x1 x2 x3 x4 x5) (twts (lo6 x6) (hi6 x6) x7 x8) ((Rect.unit (s := S256x4096) ![0, 2048] S256x2048.size (by decide)).emb x)
      unfold DLT dl
      rw [dif_neg (by omega), e0]
      exact congrArg (dl1 _ _) (Fin.ext (by show (x 1 : Nat) = _ - 2048; omega))
    · have e0 : ((Rect.unit (s := S256x4096) ![0, 0] S256x2048.size inb_S256x4096_S256x2048_0_0).emb x 0 : Fin 256) = x 0 := Fin.ext (by rw [Rect.emb_apply]; simp)
      have e1 : ((Rect.unit (s := S256x4096) ![0, 0] S256x2048.size inb_S256x4096_S256x2048_0_0).emb x 1 : Nat) = (x 1 : Nat) := by rw [Rect.emb_apply]; simp
      show (tile (trow x0 x1 x2 x3 x4 x5) (twts (lo6 x6) (hi6 x6) x7 x8) dl0) x = DLT (trow x0 x1 x2 x3 x4 x5) (twts (lo6 x6) (hi6 x6) x7 x8) ((Rect.unit (s := S256x4096) ![0, 0] S256x2048.size (by decide)).emb x)
      unfold DLT dl
      rw [dif_pos (by omega), e0]
      exact congrArg (dl0 _ _) (Fin.ext e1.symm)
  exact funext fun y => View.canon_apply_of_pieces _ _ hP.mem y (View.cover_of_tiledL _ ![256, 2048] rfl y)

/-! ## The result blocks -/

/-- Sums added to the first of eight rows. -/
def addRow {n : Nat} (base : (⟨2, ![8, n]⟩ : Shape).Idx → EReal) (s : Fin n → EReal) : (⟨2, ![8, n]⟩ : Shape).Idx → EReal :=
  fun j => if (j 0 : Nat) = 0 then base j + s (j 1) else base j

section
variable (hc0 : cond0_0 i)

theorem out9_A : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 = tile (trow x0 x1 x2 x3 x4 x5) (twts (lo6 x6) (hi6 x6) x7 x8) dh := by
  unfold out0_A_9
  rw [View.read_writes_junk_eq_canon]
  refine (View.canon_unit_zero hz2 _ _).trans ?_
  exact b_dh x0 x1 x2 x3 x4 x5 x6 x7 x8 c arg1 harg1 arg2 harg2 arg3 harg3 arg4 harg4 arg5 harg5 arg6 harg6 arg7 harg7 arg8 harg8 arg9 harg9

theorem out10_A : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 = tile (trow x0 x1 x2 x3 x4 x5) (twts (lo6 x6) (hi6 x6) x7 x8) dh := by
  unfold out0_A_10
  rw [View.read_writes_junk_eq_canon]
  refine (View.canon_unit_zero hz2 _ _).trans ?_
  exact b_dh x0 x1 x2 x3 x4 x5 x6 x7 x8 c arg1 harg1 arg2 harg2 arg3 harg3 arg4 harg4 arg5 harg5 arg6 harg6 arg7 harg7 arg8 harg8 arg9 harg9

theorem out11_A : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 = tile (trow x0 x1 x2 x3 x4 x5) (twts (lo6 x6) (hi6 x6) x7 x8) mb := by
  unfold out0_A_11
  rw [View.read_writes_junk_eq_canon]
  refine (View.canon_unit_zero hz2 _ _).trans ?_
  exact b_r4 x0 x1 x2 x3 x4 x5 x6 x7 x8 c arg2 harg2 arg3 harg3 arg4 harg4 arg5 harg5 arg7 harg7

theorem out12_A : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 = tile (trow x0 x1 x2 x3 x4 x5) (twts (lo6 x6) (hi6 x6) x7 x8) dya := by
  unfold out0_A_12
  rw [View.read_writes_junk_eq_canon]
  refine (View.canon_unit_zero hz2 _ _).trans ?_
  exact b_dya x0 x1 x2 x3 x4 x5 x6 x7 x8 c arg1 harg1 arg2 harg2 arg3 harg3 arg4 harg4 arg5 harg5 arg6 harg6 arg7 harg7 arg8 harg8 arg9 harg9

theorem out13_A : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 = tile (trow x0 x1 x2 x3 x4 x5) (twts (lo6 x6) (hi6 x6) x7 x8) dyb := by
  unfold out0_A_13
  rw [View.read_writes_junk_eq_canon]
  refine (View.canon_unit_zero hz2 _ _).trans ?_
  exact b_dyb x0 x1 x2 x3 x4 x5 x6 x7 x8 c arg1 harg1 arg2 harg2 arg3 harg3 arg4 harg4 arg5 harg5 arg6 harg6 arg7 harg7 arg8 harg8 arg9 harg9

theorem out14_A : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 = DLT (trow x0 x1 x2 x3 x4 x5) (twts (lo6 x6) (hi6 x6) x7 x8) := by
  unfold out0_A_14
  rw [View.read_writes_junk_eq_canon]
  exact dl_eq x0 x1 x2 x3 x4 x5 x6 x7 x8 _ _ (b_g0 x0 x1 x2 x3 x4 x5 x6 x7 x8 c arg1 harg1 arg2 harg2 arg3 harg3 arg4 harg4 arg5 harg5 arg6 harg6 arg7 harg7 arg8 harg8 arg9 harg9) (b_g1 x0 x1 x2 x3 x4 x5 x6 x7 x8 c arg1 harg1 arg2 harg2 arg3 harg3 arg4 harg4 arg5 harg5 arg6 harg6 arg7 harg7 arg8 harg8 arg9 harg9)

theorem out15_A : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 = fun _ => 0 + Ideal.ofBits .f32 0x3F000000#32 * ∑ r, ls (trow x0 x1 x2 x3 x4 x5 r) (twts (lo6 x6) (hi6 x6) x7 x8) := by
  unfold out0_A_15
  rw [View.read_writes_junk_eq_canon]
  refine (View.canon_cons_unit_zero hz2 _ _ _).trans ?_
  refine (b_loss x0 x1 x2 x3 x4 x5 x6 x7 x8 c arg1 harg1 arg2 harg2 arg3 harg3 arg4 harg4 arg5 harg5 arg6 harg6 arg7 harg7 arg8 harg8 arg9 harg9 _).trans (funext fun j => ?_)
  unfold kernelRun0_A.sl.v56 kernelRun0_A.sl.H15_1
  rw [View.readCov_cons_toLoadRect]
  pointwise [k0_pay7]

theorem out16_A : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 = addRow (fun _ => 0) fun k => ∑ r, dfw (trow x0 x1 x2 x3 x4 x5 r) (twts (lo6 x6) (hi6 x6) x7 x8) k := by
  unfold out0_A_16
  rw [View.read_writes_junk_eq_canon]
  funext j
  refine (canon_part (n := 2048) (o := 0) _ _ _ j).trans ?_
  have b1 : (j 1 : Nat) < 2048 := (j 1).isLt
  have zz : ∀ y : S8x2048.Idx, View.canon (kernelRun0_A.sl.H16_1 (F := Ideal)) y = 0 := fun y => by
    unfold kernelRun0_A.sl.H16_1
    rw [View.canon_unit_zero hz2]
    pointwise [k0_pay8]
  unfold addRow
  split
  · next hj =>
    rw [if_pos hj.1]
    refine (congrFun (b_dfw x0 x1 x2 x3 x4 x5 x6 x7 x8 c arg1 harg1 arg2 harg2 arg3 harg3 arg4 harg4 arg5 harg5 arg6 harg6 arg7 harg7 arg8 harg8 arg9 harg9 _) _).trans ?_
    unfold kernelRun0_A.sl.v73
    rw [View.readCov_eq_canon']
    exact congrArg (· + _) (zz _)
  · next hj =>
    rw [if_neg (by omega)]
    exact zz j

theorem out17_A : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 = addRow (fun _ => 0) fun k => ∑ r, dl (trow x0 x1 x2 x3 x4 x5 r) (twts (lo6 x6) (hi6 x6) x7 x8) k := by
  unfold out0_A_17
  rw [View.read_writes_junk_eq_canon]
  funext j
  refine (canon_part (n := 4096) (o := 2048) _ _ _ j).trans ?_
  have b1 : (j 1 : Nat) < 4096 := (j 1).isLt
  have zz : ∀ y : S8x4096.Idx, View.canon (kernelRun0_A.sl.H17_1 (F := Ideal)) y = 0 := fun y => by
    unfold kernelRun0_A.sl.H17_1
    rw [View.canon_unit_zero hz2]
    pointwise [k0_pay9]
  unfold addRow
  split
  · next hj =>
    rw [if_pos hj.1]
    refine (congrFun (b_dgb1 x0 x1 x2 x3 x4 x5 x6 x7 x8 c arg1 harg1 arg2 harg2 arg3 harg3 arg4 harg4 arg5 harg5 arg6 harg6 arg7 harg7 arg8 harg8 arg9 harg9 _) _).trans ?_
    unfold kernelRun0_A.sl.v125
    rw [View.readCov_eq_canon']
    refine congrArg₂ (· + ·) ?_ (Finset.sum_congr rfl fun r _ => ?_)
    · refine (ld_part (n := 4096) (o := 2048) _ _ j hj).trans ?_
      unfold kernelRun0_A.sl.H17_2
      refine (canon_part (n := 4096) (o := 0) _ _ _ j).trans ?_
      rw [dif_neg (by omega)]
      exact zz j
    · unfold dl
      rw [dif_neg (by omega)]
      rfl
  · next hj =>
    unfold kernelRun0_A.sl.H17_2
    refine (canon_part (n := 4096) (o := 0) _ _ _ j).trans ?_
    split
    · next hk =>
      rw [if_pos hk.1]
      refine (congrFun (b_dgb0 x0 x1 x2 x3 x4 x5 x6 x7 x8 c arg1 harg1 arg2 harg2 arg3 harg3 arg4 harg4 arg5 harg5 arg6 harg6 arg7 harg7 arg8 harg8 arg9 harg9 _) _).trans ?_
      unfold kernelRun0_A.sl.v119
      rw [View.readCov_eq_canon']
      refine congrArg₂ (· + ·) ((ld_part (n := 4096) (o := 0) _ _ j hk).trans (zz j)) (Finset.sum_congr rfl fun r _ => ?_)
      unfold dl
      rw [dif_pos (by omega)]
      rfl
    · next hk =>
      rw [if_neg (by omega)]
      exact zz j

end

section
variable (hc0 : ¬cond0_0 i) (xo15 : Vec Ideal S8x128 .f32) (xo16 : Vec Ideal S8x2048 .f32) (xo17 : Vec Ideal S8x4096 .f32)

theorem out9_B : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo15 xo16 xo17 = tile (trow x0 x1 x2 x3 x4 x5) (twts (lo6 x6) (hi6 x6) x7 x8) dh := by
  unfold out0_B_9
  rw [View.read_writes_junk_eq_canon]
  refine (View.canon_unit_zero hz2 _ _).trans ?_
  exact b_dh x0 x1 x2 x3 x4 x5 x6 x7 x8 c arg1 harg1 arg2 harg2 arg3 harg3 arg4 harg4 arg5 harg5 arg6 harg6 arg7 harg7 arg8 harg8 arg9 harg9

theorem out10_B : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo15 xo16 xo17 = tile (trow x0 x1 x2 x3 x4 x5) (twts (lo6 x6) (hi6 x6) x7 x8) dh := by
  unfold out0_B_10
  rw [View.read_writes_junk_eq_canon]
  refine (View.canon_unit_zero hz2 _ _).trans ?_
  exact b_dh x0 x1 x2 x3 x4 x5 x6 x7 x8 c arg1 harg1 arg2 harg2 arg3 harg3 arg4 harg4 arg5 harg5 arg6 harg6 arg7 harg7 arg8 harg8 arg9 harg9

theorem out11_B : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo15 xo16 xo17 = tile (trow x0 x1 x2 x3 x4 x5) (twts (lo6 x6) (hi6 x6) x7 x8) mb := by
  unfold out0_B_11
  rw [View.read_writes_junk_eq_canon]
  refine (View.canon_unit_zero hz2 _ _).trans ?_
  exact b_r4 x0 x1 x2 x3 x4 x5 x6 x7 x8 c arg2 harg2 arg3 harg3 arg4 harg4 arg5 harg5 arg7 harg7

theorem out12_B : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo15 xo16 xo17 = tile (trow x0 x1 x2 x3 x4 x5) (twts (lo6 x6) (hi6 x6) x7 x8) dya := by
  unfold out0_B_12
  rw [View.read_writes_junk_eq_canon]
  refine (View.canon_unit_zero hz2 _ _).trans ?_
  exact b_dya x0 x1 x2 x3 x4 x5 x6 x7 x8 c arg1 harg1 arg2 harg2 arg3 harg3 arg4 harg4 arg5 harg5 arg6 harg6 arg7 harg7 arg8 harg8 arg9 harg9

theorem out13_B : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo15 xo16 xo17 = tile (trow x0 x1 x2 x3 x4 x5) (twts (lo6 x6) (hi6 x6) x7 x8) dyb := by
  unfold out0_B_13
  rw [View.read_writes_junk_eq_canon]
  refine (View.canon_unit_zero hz2 _ _).trans ?_
  exact b_dyb x0 x1 x2 x3 x4 x5 x6 x7 x8 c arg1 harg1 arg2 harg2 arg3 harg3 arg4 harg4 arg5 harg5 arg6 harg6 arg7 harg7 arg8 harg8 arg9 harg9

theorem out14_B : out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo15 xo16 xo17 = DLT (trow x0 x1 x2 x3 x4 x5) (twts (lo6 x6) (hi6 x6) x7 x8) := by
  unfold out0_B_14
  rw [View.read_writes_junk_eq_canon]
  exact dl_eq x0 x1 x2 x3 x4 x5 x6 x7 x8 _ _ (b_g0 x0 x1 x2 x3 x4 x5 x6 x7 x8 c arg1 harg1 arg2 harg2 arg3 harg3 arg4 harg4 arg5 harg5 arg6 harg6 arg7 harg7 arg8 harg8 arg9 harg9) (b_g1 x0 x1 x2 x3 x4 x5 x6 x7 x8 c arg1 harg1 arg2 harg2 arg3 harg3 arg4 harg4 arg5 harg5 arg6 harg6 arg7 harg7 arg8 harg8 arg9 harg9)

theorem out15_B : out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo15 xo16 xo17 = fun j => xo15 j + Ideal.ofBits .f32 0x3F000000#32 * ∑ r, ls (trow x0 x1 x2 x3 x4 x5 r) (twts (lo6 x6) (hi6 x6) x7 x8) := by
  unfold out0_B_15
  rw [View.read_writes_junk_eq_canon]
  refine (View.canon_unit_zero hz2 _ _).trans ?_
  refine (b_loss x0 x1 x2 x3 x4 x5 x6 x7 x8 c arg1 harg1 arg2 harg2 arg3 harg3 arg4 harg4 arg5 harg5 arg6 harg6 arg7 harg7 arg8 harg8 arg9 harg9 _).trans (funext fun j => ?_)
  rw [View.readAt_eq_ld, harg16.read_unread]
  exact congrArg (· + _) (congrFun (View.ld_unit_zero (S := S8x128) (Val := Elt Ideal) (e := .f32) hz2 _ xo15) j)

theorem out16_B : out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo15 xo16 xo17 = addRow xo16 fun k => ∑ r, dfw (trow x0 x1 x2 x3 x4 x5 r) (twts (lo6 x6) (hi6 x6) x7 x8) k := by
  unfold out0_B_16
  funext j
  refine (read_part (n := 2048) (o := 0) _ _ _ _ j).trans ?_
  have b1 : (j 1 : Nat) < 2048 := (j 1).isLt
  unfold addRow
  split
  · next hj =>
    rw [if_pos hj.1]
    refine (congrFun (b_dfw x0 x1 x2 x3 x4 x5 x6 x7 x8 c arg1 harg1 arg2 harg2 arg3 harg3 arg4 harg4 arg5 harg5 arg6 harg6 arg7 harg7 arg8 harg8 arg9 harg9 _) _).trans ?_
    rw [View.readAt_eq_ld, harg17.read_unread]
    exact congrArg (· + _) (ld_part (n := 2048) (o := 0) _ xo16 j hj)
  · next hj =>
    rw [if_neg (by omega), View.writes_nil, harg17.read_unread]

theorem out17_B : out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo15 xo16 xo17 = addRow xo17 fun k => ∑ r, dl (trow x0 x1 x2 x3 x4 x5 r) (twts (lo6 x6) (hi6 x6) x7 x8) k := by
  unfold out0_B_17
  funext j
  refine (read_part (n := 4096) (o := 2048) _ _ _ _ j).trans ?_
  have b1 : (j 1 : Nat) < 4096 := (j 1).isLt
  unfold addRow
  split
  · next hj =>
    rw [if_pos hj.1]
    refine (congrFun (b_dgb1 x0 x1 x2 x3 x4 x5 x6 x7 x8 c arg1 harg1 arg2 harg2 arg3 harg3 arg4 harg4 arg5 harg5 arg6 harg6 arg7 harg7 arg8 harg8 arg9 harg9 _) _).trans ?_
    unfold kernelRun0_B.sl.v125
    rw [View.readAt_eq_ld, harg18.read_unread]
    refine congrArg₂ (· + ·) (ld_part (n := 4096) (o := 2048) _ xo17 j hj) (Finset.sum_congr rfl fun r _ => ?_)
    unfold dl
    rw [dif_neg (by omega)]
    rfl
  · next hj =>
    refine (read_part (n := 4096) (o := 0) _ _ _ _ j).trans ?_
    split
    · next hk =>
      rw [if_pos hk.1]
      refine (congrFun (b_dgb0 x0 x1 x2 x3 x4 x5 x6 x7 x8 c arg1 harg1 arg2 harg2 arg3 harg3 arg4 harg4 arg5 harg5 arg6 harg6 arg7 harg7 arg8 harg8 arg9 harg9 _) _).trans ?_
      rw [View.readAt_eq_ld, harg18.read_unread]
      refine congrArg₂ (· + ·) (ld_part (n := 4096) (o := 0) _ xo17 j hk) (Finset.sum_congr rfl fun r _ => ?_)
      unfold dl
      rw [dif_pos (by omega)]
      rfl
    · next hk =>
      rw [if_neg (by omega), View.writes_nil, harg18.read_unread]

end

end

end Cert.Kernel7Ideal.Head

end
-- ==== Proof.HeadFold.lean ====
/- The results of the last layer's kernel: the rows each point computes, and the sums the points build up. -/
module

public import proofs.«01_k».proof.Proof.Gen.Kernel7Ideal.Value
public import proofs.«01_k».proof.Proof.HeadOuts

@[expose] public section

set_option maxRecDepth 16384

noncomputable section

namespace Cert.Kernel7Ideal.Head

open Idealize.ShloMosaic Idealize.ShloMosaic.TcCoe Idealize.SL.Sem
open Cert.Kernel7Ideal Cert.Kernel7Ideal.Gen Cert.Norm Cert.Head

variable (m : (ℓ : Loc nD τ sig) → Buf (Elt Ideal) ℓ) (c : Dev nD)

/-- The kernel's operands as tables. -/
def ops : Ops where
  x r k := (m ((c : Thread nD τ).loc main_arg0) : Vec Ideal S8192x2048 .f32) (ix2 r k)
  ya r k := (m ((c : Thread nD τ).loc main_arg1) : Vec Ideal S8192x2048 .bf16) (ix2 r k)
  yb r k := (m ((c : Thread nD τ).loc main_arg2) : Vec Ideal S8192x2048 .bf16) (ix2 r k)
  p r k := (m ((c : Thread nD τ).loc main_arg3) : Vec Ideal S8192x16384 .bf16) (ix2 r k)
  t r k := (m ((c : Thread nD τ).loc main_arg4) : Vec Ideal S8192x2048 .f32) (ix2 r k)
  b k := (m ((c : Thread nD τ).loc main_arg5) : Vec Ideal S1x4096 .f32) (ix2 0 k)
  w k j := (m ((c : Thread nD τ).loc main_arg6) : Vec Ideal S2048x2048 .bf16) (ix2 k j)
  f k := (m ((c : Thread nD τ).loc main_arg7) : Vec Ideal S2048 .f32) (ix1 k)

/-! ## The blocks a point reads -/

theorem V_args : V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3)
    ∧ V m c main_arg4 = m ((c : Thread nD τ).loc main_arg4) ∧ V m c main_arg5 = m ((c : Thread nD τ).loc main_arg5)
    ∧ V m c main_arg6 = m ((c : Thread nD τ).loc main_arg6) := by
  refine ⟨?_, ?_, ?_, ?_, ?_, ?_, ?_⟩ <;> (unfold V; simp only [hostOps0]; after_results_simp)

theorem V_gain : V m c main_v0 = fun j : S1x2048.Idx => (ops m c).f (j 1) := by
  unfold V
  simp only [hostOps0]
  after_results_simp
  funext j
  pointwise [ops]

theorem idx_in (t : Fin cfg0.N) : win0_0.index t = ![(t : Nat), 0] ∧ win0_1.index t = ![(t : Nat), 0] ∧ win0_2.index t = ![(t : Nat), 0]
    ∧ win0_3.index t = ![(t : Nat), 3] ∧ win0_4.index t = ![(t : Nat), 4] ∧ win0_5.index t = ![(t : Nat), 0]
    ∧ win0_6.index t = ![0, 0] ∧ win0_7.index t = ![0, 0] ∧ win0_8.index t = ![0, 0] :=
  (by decide +kernel : ∀ t : Fin grid0.N, win0_0.index t = ![(t : Nat), 0] ∧ win0_1.index t = ![(t : Nat), 0] ∧ win0_2.index t = ![(t : Nat), 0]
    ∧ win0_3.index t = ![(t : Nat), 3] ∧ win0_4.index t = ![(t : Nat), 4] ∧ win0_5.index t = ![(t : Nat), 0]
    ∧ win0_6.index t = ![0, 0] ∧ win0_7.index t = ![0, 0] ∧ win0_8.index t = ![0, 0]) t

theorem idx_out (t : Fin cfg0.N) : win0_9.index t = ![(t : Nat), 0] ∧ win0_10.index t = ![(t : Nat), 0] ∧ win0_11.index t = ![(t : Nat), 0]
    ∧ win0_12.index t = ![(t : Nat), 0] ∧ win0_13.index t = ![(t : Nat), 0] ∧ win0_14.index t = ![(t : Nat), 0]
    ∧ win0_15.index t = ![0, 0] ∧ win0_16.index t = ![0, 0] ∧ win0_17.index t = ![0, 0] :=
  (by decide +kernel : ∀ t : Fin grid0.N, win0_9.index t = ![(t : Nat), 0] ∧ win0_10.index t = ![(t : Nat), 0] ∧ win0_11.index t = ![(t : Nat), 0]
    ∧ win0_12.index t = ![(t : Nat), 0] ∧ win0_13.index t = ![(t : Nat), 0] ∧ win0_14.index t = ![(t : Nat), 0]
    ∧ win0_15.index t = ![0, 0] ∧ win0_16.index t = ![0, 0] ∧ win0_17.index t = ![0, 0]) t

theorem t_lt (t : Fin cfg0.N) : (t : Nat) < 32 := lt_of_lt_of_eq t.isLt N_0

/-- A block's index in its array, from the block's place. -/
theorem place {R C : Nat} {e : (⟨2, ![R, C]⟩ : Shape).Idx} (r : Fin R) (q : Fin C) (h0 : (e 0 : Nat) = r) (h1 : (e 1 : Nat) = q) : e = ix2 r q := by
  funext a; apply Fin.ext
  match a with
  | ⟨0, _⟩ => exact h0
  | ⟨1, _⟩ => exact h1

variable (t : Fin cfg0.N)

section
variable (j : S256x2048.Idx)

theorem row_place (n : Nat) (hn : n = (t : Nat)) : n * 256 + 1 * (j 0 : Nat) = (256 * (t : Nat) + (j 0 : Nat)) % 8192 := by
  have := t_lt t
  have h0 : (j 0 : Nat) < 256 := (j 0).isLt
  omega

theorem blk0 : iblk m c 0 t j = (ops m c).x (prow t (j 0)) (j 1) :=
  (congrFun (V_args m c).1 _).trans (congrArg (m ((c : Thread nD τ).loc main_arg0)) (place (R := 8192) (C := 2048) (prow t (j 0)) (j 1)
    (row_place t j _ (by rw [(idx_in t).1]; rfl)) (by show win0_0.index t 1 * 2048 + 1 * (j 1 : Nat) = _; rw [(idx_in t).1]; simp)))

theorem blk1 : iblk m c 1 t j = (ops m c).ya (prow t (j 0)) (j 1) :=
  (congrFun (V_args m c).2.1 _).trans (congrArg (m ((c : Thread nD τ).loc main_arg1)) (place (R := 8192) (C := 2048) (prow t (j 0)) (j 1)
    (row_place t j _ (by rw [(idx_in t).2.1]; rfl)) (by show win0_1.index t 1 * 2048 + 1 * (j 1 : Nat) = _; rw [(idx_in t).2.1]; simp)))

theorem blk2 : iblk m c 2 t j = (ops m c).yb (prow t (j 0)) (j 1) :=
  (congrFun (V_args m c).2.2.1 _).trans (congrArg (m ((c : Thread nD τ).loc main_arg2)) (place (R := 8192) (C := 2048) (prow t (j 0)) (j 1)
    (row_place t j _ (by rw [(idx_in t).2.2.1]; rfl)) (by show win0_2.index t 1 * 2048 + 1 * (j 1 : Nat) = _; rw [(idx_in t).2.2.1]; simp)))

theorem blk3 (q : Fin 16384) (hq : (q : Nat) = 6144 + (j 1 : Nat)) : iblk m c 3 t j = (ops m c).p (prow t (j 0)) q :=
  (congrFun (V_args m c).2.2.2.1 _).trans (congrArg (m ((c : Thread nD τ).loc main_arg3)) (place (R := 8192) (C := 16384) (prow t (j 0)) q
    (row_place t j _ (by rw [(idx_in t).2.2.2.1]; rfl)) (by show win0_3.index t 1 * 2048 + 1 * (j 1 : Nat) = _; rw [(idx_in t).2.2.2.1, hq]; simp)))

theorem blk4 (q : Fin 16384) (hq : (q : Nat) = 8192 + (j 1 : Nat)) : iblk m c 4 t j = (ops m c).p (prow t (j 0)) q :=
  (congrFun (V_args m c).2.2.2.1 _).trans (congrArg (m ((c : Thread nD τ).loc main_arg3)) (place (R := 8192) (C := 16384) (prow t (j 0)) q
    (row_place t j _ (by rw [(idx_in t).2.2.2.2.1]; rfl)) (by show win0_4.index t 1 * 2048 + 1 * (j 1 : Nat) = _; rw [(idx_in t).2.2.2.2.1, hq]; simp)))

theorem blk5 : iblk m c 5 t j = (ops m c).t (prow t (j 0)) (j 1) :=
  (congrFun (V_args m c).2.2.2.2.1 _).trans (congrArg (m ((c : Thread nD τ).loc main_arg4)) (place (R := 8192) (C := 2048) (prow t (j 0)) (j 1)
    (row_place t j _ (by rw [(idx_in t).2.2.2.2.2.1]; rfl)) (by show win0_5.index t 1 * 2048 + 1 * (j 1 : Nat) = _; rw [(idx_in t).2.2.2.2.2.1]; simp)))
end

theorem blk6 (q : Fin 4096) : iblk m c 6 t (ix2 (0 : Fin 1) q) = (ops m c).b q :=
  (congrFun (V_args m c).2.2.2.2.2.1 _).trans (congrArg (m ((c : Thread nD τ).loc main_arg5)) (place (R := 1) (C := 4096) 0 q
    (by show win0_6.index t 0 * 1 + 1 * 0 = 0; rw [(idx_in t).2.2.2.2.2.2.1]; rfl)
    (by show win0_6.index t 1 * 4096 + 1 * (q : Nat) = _; rw [(idx_in t).2.2.2.2.2.2.1]; simp)))

theorem blk7 (a b : Fin 2048) : iblk m c 7 t (ix2 a b) = (ops m c).w a b :=
  (congrFun (V_args m c).2.2.2.2.2.2 _).trans (congrArg (m ((c : Thread nD τ).loc main_arg6)) (place (R := 2048) (C := 2048) a b
    (by show win0_7.index t 0 * 2048 + 1 * (a : Nat) = _; rw [(idx_in t).2.2.2.2.2.2.2.1]; simp)
    (by show win0_7.index t 1 * 2048 + 1 * (b : Nat) = _; rw [(idx_in t).2.2.2.2.2.2.2.1]; simp)))

theorem blk8 (q : Fin 2048) : iblk m c 8 t (ix2 (0 : Fin 1) q) = (ops m c).f q :=
  (congrFun (V_gain m c) _).trans (congrArg (ops m c).f (Fin.ext
    (by show win0_8.index t 1 * 2048 + 1 * (q : Nat) = _; rw [(idx_in t).2.2.2.2.2.2.2.2]; simp)))

/-- The rows a point reads are its rows of the operands. -/
theorem rows_eq : trow (iblk m c 0 t) (iblk m c 1 t) (iblk m c 2 t) (iblk m c 3 t) (iblk m c 4 t) (iblk m c 5 t) = fun r => (ops m c).row (prow t r) := by
  funext r
  unfold trow Ops.row
  congr 1 <;> funext k
  · exact blk0 m c t (ix2 r k)
  · exact blk1 m c t (ix2 r k)
  · exact blk2 m c t (ix2 r k)
  · exact blk3 m c t (ix2 r k) _ rfl
  · exact blk4 m c t (ix2 r k) _ rfl
  · exact blk5 m c t (ix2 r k)

theorem wts_eq : twts (lo6 (iblk m c 6 t)) (hi6 (iblk m c 6 t)) (iblk m c 7 t) (iblk m c 8 t) = (ops m c).wts := by
  unfold twts Ops.wts
  congr 1 <;> funext k
  · exact blk6 m c t _
  · exact blk6 m c t _
  · exact blk8 m c t k
  · funext b; exact blk7 m c t k b

/-! ## What each point leaves -/

/-- A row function's tile at a point. -/
def pt (f : Row → Wts → Fin 2048 → EReal) : S256x2048.Idx → EReal := tile (fun r => (ops m c).row (prow t r)) (ops m c).wts f

theorem rows_at : (outsAt0 m c t.val t.isLt).1 = pt m c t dh ∧ (outsAt0 m c t.val t.isLt).2.1 = pt m c t dh
    ∧ (outsAt0 m c t.val t.isLt).2.2.1 = pt m c t mb ∧ (outsAt0 m c t.val t.isLt).2.2.2.1 = pt m c t dya
    ∧ (outsAt0 m c t.val t.isLt).2.2.2.2.1 = pt m c t dyb
    ∧ (outsAt0 m c t.val t.isLt).2.2.2.2.2.1 = fun j => dl ((ops m c).row (prow t (j 0))) (ops m c).wts (j 1) := by
  unfold pt
  by_cases h0 : t.val % 32 = 0
  · rw [outsAt0_A m c t h0]
    dsimp only
    rw [out9_A, out10_A, out11_A, out12_A, out13_A, out14_A, rows_eq, wts_eq]
    exact ⟨rfl, rfl, rfl, rfl, rfl, rfl⟩
  · rw [outsAt0_B m c t h0]
    dsimp only
    rw [out9_B, out10_B, out11_B, out12_B, out13_B, out14_B, rows_eq, wts_eq]
    exact ⟨rfl, rfl, rfl, rfl, rfl, rfl⟩

/-- A point's part of the loss. -/
def lpart (s : Nat) : EReal := Ideal.ofBits .f32 0x3F000000#32 * ∑ r, ls ((ops m c).row (prow s r)) (ops m c).wts
/-- The sums after the first `n` points. -/
def accL (n : Nat) : S8x128.Idx → EReal := fun _ => ∑ s ∈ Finset.range n, lpart m c s
def acc {w : Nat} (f : Row → Wts → Fin w → EReal) (n : Nat) : (⟨2, ![8, w]⟩ : Shape).Idx → EReal := fun j =>
  if (j 0 : Nat) = 0 then ∑ s ∈ Finset.range n, ∑ r, f ((ops m c).row (prow s r)) (ops m c).wts (j 1) else 0

theorem acc_zero {w : Nat} (f : Row → Wts → Fin w → EReal) : acc m c f 0 = fun _ => 0 := by funext j; simp [acc]
theorem acc_step {w : Nat} (f : Row → Wts → Fin w → EReal) (n : Nat) :
    addRow (acc m c f n) (fun k => ∑ r, f ((ops m c).row (prow n r)) (ops m c).wts k) = acc m c f (n + 1) := by
  funext j
  simp only [addRow, acc]
  split
  · rw [Finset.sum_range_succ]
  · rfl
theorem accL_zero : accL m c 0 = fun _ => 0 := by funext j; simp [accL]
theorem accL_step (n : Nat) : (fun j => accL m c n j + lpart m c n) = accL m c (n + 1) := by
  funext j
  simp only [accL]
  rw [Finset.sum_range_succ]

theorem first_point (h0 : t.val % 32 = 0) (ht : t.val = 0) : (outsAt0 m c t.val t.isLt).2.2.2.2.2.2.1 = accL m c 1
    ∧ (outsAt0 m c t.val t.isLt).2.2.2.2.2.2.2.1 = acc m c dfw 1 ∧ (outsAt0 m c t.val t.isLt).2.2.2.2.2.2.2.2 = acc m c dl 1 := by
  rw [outsAt0_A m c t h0]
  dsimp only
  rw [out15_A, out16_A, out17_A, rows_eq, wts_eq, ht]
  exact ⟨by rw [← accL_step, accL_zero]; rfl, by rw [← acc_step, acc_zero], by rw [← acc_step, acc_zero]⟩

theorem later_point (h0 : ¬t.val % 32 = 0) (n : Nat) (hn : n < cfg0.N) (ht : t.val = n + 1)
    (hL : (outsAt0 m c n hn).2.2.2.2.2.2.1 = accL m c (n + 1)) (hF : (outsAt0 m c n hn).2.2.2.2.2.2.2.1 = acc m c dfw (n + 1))
    (hD : (outsAt0 m c n hn).2.2.2.2.2.2.2.2 = acc m c dl (n + 1)) :
    (outsAt0 m c t.val t.isLt).2.2.2.2.2.2.1 = accL m c (n + 2)
    ∧ (outsAt0 m c t.val t.isLt).2.2.2.2.2.2.2.1 = acc m c dfw (n + 2) ∧ (outsAt0 m c t.val t.isLt).2.2.2.2.2.2.2.2 = acc m c dl (n + 2) := by
  have e : ∀ h, outsAt0 m c (t.val - 1) h = outsAt0 m c n hn := fun h => by congr 1; omega
  rw [outsAt0_B m c t h0]
  dsimp only
  rw [out15_B, out16_B, out17_B, rows_eq, wts_eq, e, hL, hF, hD, ht]
  exact ⟨accL_step m c _, acc_step m c _ _, acc_step m c _ _⟩

theorem sums_at : ∀ (n : Nat) (h : n < cfg0.N), (outsAt0 m c n h).2.2.2.2.2.2.1 = accL m c (n + 1)
    ∧ (outsAt0 m c n h).2.2.2.2.2.2.2.1 = acc m c dfw (n + 1) ∧ (outsAt0 m c n h).2.2.2.2.2.2.2.2 = acc m c dl (n + 1)
  | 0, h => first_point m c ⟨0, h⟩ rfl rfl
  | n + 1, h => by
    have hN : cfg0.N = 32 := N_0
    obtain ⟨a, b, d⟩ := sums_at n (Nat.lt_of_succ_lt h)
    exact later_point m c ⟨n + 1, h⟩ (by show ¬(n + 1) % 32 = 0; omega) n _ rfl a b d

/-! ## The results -/

/-- A row function over all the rows. -/
def whole {w : Nat} (f : Row → Wts → Fin w → EReal) : (⟨2, ![8192, w]⟩ : Shape).Idx → EReal := fun i => f ((ops m c).row (i 0)) (ops m c).wts (i 1)

theorem pt_whole (f : Row → Wts → Fin 2048 → EReal) (j : S256x2048.Idx) (e : S8192x2048.Idx) (h0 : (e 0 : Nat) = (256 * (t : Nat) + (j 0 : Nat)) % 8192)
    (h1 : (e 1 : Nat) = (j 1 : Nat)) : pt m c t f j = whole m c f e := by
  rw [place (R := 8192) (C := 2048) (prow t (j 0)) (j 1) h0 h1]
  rfl

/-- The point that writes row `i`. -/
theorem writer (i : Fin 8192) : ∃ t : Fin cfg0.N, t.val = (i : Nat) / 256 :=
  ⟨⟨(i : Nat) / 256, lt_of_lt_of_eq (by omega) N_0.symm⟩, rfl⟩
/-- An index of the result is within the block of its writer, and within the only block of the sums. -/
theorem inside {C : Nat} (i : (⟨2, ![8192, C]⟩ : Shape).Idx) (n : Nat) (hn : n = (i 0 : Nat) / 256) (ix : Fin 2 → Nat) (e : ix = ![n, 0]) :
    ∀ a : Fin 2, ix a * ![256, C] a ≤ (i a : Nat) ∧ (i a : Nat) < ix a * ![256, C] a + ![256, C] a := by
  intro a
  have h1 : (i 1 : Nat) < C := (i 1).isLt
  rw [e]
  match a with
  | ⟨0, _⟩ => show n * 256 ≤ (i 0 : Nat) ∧ (i 0 : Nat) < n * 256 + 256; omega
  | ⟨1, _⟩ => show 0 * C ≤ (i 1 : Nat) ∧ (i 1 : Nat) < 0 * C + C; omega
theorem inside_sum {C : Nat} (i : (⟨2, ![8, C]⟩ : Shape).Idx) (ix : Fin 2 → Nat) (e : ix = ![0, 0]) :
    ∀ a : Fin 2, ix a * ![8, C] a ≤ (i a : Nat) ∧ (i a : Nat) < ix a * ![8, C] a + ![8, C] a := by
  intro a
  have h0 : (i 0 : Nat) < 8 := (i 0).isLt
  have h1 : (i 1 : Nat) < C := (i 1).isLt
  rw [e]
  match a with
  | ⟨0, _⟩ => show 0 * 8 ≤ (i 0 : Nat) ∧ (i 0 : Nat) < 0 * 8 + 8; omega
  | ⟨1, _⟩ => show 0 * C ≤ (i 1 : Nat) ∧ (i 1 : Nat) < 0 * C + C; omega
/-- The last point. -/
theorem last : ∃ t : Fin cfg0.N, t.val = 31 := ⟨⟨31, lt_of_lt_of_eq (by omega) N_0.symm⟩, rfl⟩

theorem final9 : (dats m 0 c).arrAt 9 cfg0.N = whole m c dh := by
  refine (dats m 0 c).arrAt_eq_of_cover 9 _ (fun t _ => ?_) fun (i : S8192x2048.Idx) => ?_
  · rw [Value.flushed9 m c t]
    funext y
    show ((outsAt0 m c t.val t.isLt).1 : S256x2048.Idx → EReal) y = _
    rw [(rows_at m c t).1]
    exact pt_whole m c t dh y _ (row_place t y _ (by rw [(idx_out t).1]; rfl)) (by show win0_9.index t 1 * 2048 + 1 * (y 1 : Nat) = _; rw [(idx_out t).1]; simp)
  · obtain ⟨t, ht⟩ := writer (i 0)
    refine ⟨t, flush0_9 t, ?_⟩
    show i ∈ ((View.whole main_v1_0).slice (win0_9.rect t)).set
    rw [View.set_slice_whole, Rect.mem_set_unit]
    exact inside i _ ht _ (idx_out t).1

theorem final10 : (dats m 0 c).arrAt 10 cfg0.N = whole m c dh := by
  refine (dats m 0 c).arrAt_eq_of_cover 10 _ (fun t _ => ?_) fun (i : S8192x2048.Idx) => ?_
  · rw [Value.flushed10 m c t]
    funext y
    show ((outsAt0 m c t.val t.isLt).2.1 : S256x2048.Idx → EReal) y = _
    rw [(rows_at m c t).2.1]
    exact pt_whole m c t dh y _ (row_place t y _ (by rw [(idx_out t).2.1]; rfl)) (by show win0_10.index t 1 * 2048 + 1 * (y 1 : Nat) = _; rw [(idx_out t).2.1]; simp)
  · obtain ⟨t, ht⟩ := writer (i 0)
    refine ⟨t, flush0_10 t, ?_⟩
    show i ∈ ((View.whole main_v1_1).slice (win0_10.rect t)).set
    rw [View.set_slice_whole, Rect.mem_set_unit]
    exact inside i _ ht _ (idx_out t).2.1

theorem final11 : (dats m 0 c).arrAt 11 cfg0.N = whole m c mb := by
  refine (dats m 0 c).arrAt_eq_of_cover 11 _ (fun t _ => ?_) fun (i : S8192x2048.Idx) => ?_
  · rw [Value.flushed11 m c t]
    funext y
    show ((outsAt0 m c t.val t.isLt).2.2.1 : S256x2048.Idx → EReal) y = _
    rw [(rows_at m c t).2.2.1]
    exact pt_whole m c t mb y _ (row_place t y _ (by rw [(idx_out t).2.2.1]; rfl)) (by show win0_11.index t 1 * 2048 + 1 * (y 1 : Nat) = _; rw [(idx_out t).2.2.1]; simp)
  · obtain ⟨t, ht⟩ := writer (i 0)
    refine ⟨t, flush0_11 t, ?_⟩
    show i ∈ ((View.whole main_v1_2).slice (win0_11.rect t)).set
    rw [View.set_slice_whole, Rect.mem_set_unit]
    exact inside i _ ht _ (idx_out t).2.2.1

theorem final12 : (dats m 0 c).arrAt 12 cfg0.N = whole m c dya := by
  refine (dats m 0 c).arrAt_eq_of_cover 12 _ (fun t _ => ?_) fun (i : S8192x2048.Idx) => ?_
  · rw [Value.flushed12 m c t]
    funext y
    show ((outsAt0 m c t.val t.isLt).2.2.2.1 : S256x2048.Idx → EReal) y = _
    rw [(rows_at m c t).2.2.2.1]
    exact pt_whole m c t dya y _ (row_place t y _ (by rw [(idx_out t).2.2.2.1]; rfl)) (by show win0_12.index t 1 * 2048 + 1 * (y 1 : Nat) = _; rw [(idx_out t).2.2.2.1]; simp)
  · obtain ⟨t, ht⟩ := writer (i 0)
    refine ⟨t, flush0_12 t, ?_⟩
    show i ∈ ((View.whole main_v1_3).slice (win0_12.rect t)).set
    rw [View.set_slice_whole, Rect.mem_set_unit]
    exact inside i _ ht _ (idx_out t).2.2.2.1

theorem final13 : (dats m 0 c).arrAt 13 cfg0.N = whole m c dyb := by
  refine (dats m 0 c).arrAt_eq_of_cover 13 _ (fun t _ => ?_) fun (i : S8192x2048.Idx) => ?_
  · rw [Value.flushed13 m c t]
    funext y
    show ((outsAt0 m c t.val t.isLt).2.2.2.2.1 : S256x2048.Idx → EReal) y = _
    rw [(rows_at m c t).2.2.2.2.1]
    exact pt_whole m c t dyb y _ (row_place t y _ (by rw [(idx_out t).2.2.2.2.1]; rfl)) (by show win0_13.index t 1 * 2048 + 1 * (y 1 : Nat) = _; rw [(idx_out t).2.2.2.2.1]; simp)
  · obtain ⟨t, ht⟩ := writer (i 0)
    refine ⟨t, flush0_13 t, ?_⟩
    show i ∈ ((View.whole main_v1_4).slice (win0_13.rect t)).set
    rw [View.set_slice_whole, Rect.mem_set_unit]
    exact inside i _ ht _ (idx_out t).2.2.2.2.1

theorem final14 : (dats m 0 c).arrAt 14 cfg0.N = whole m c dl := by
  refine (dats m 0 c).arrAt_eq_of_cover 14 _ (fun t _ => ?_) fun (i : S8192x4096.Idx) => ?_
  · rw [Value.flushed14 m c t]
    funext y
    show ((outsAt0 m c t.val t.isLt).2.2.2.2.2.1 : S256x4096.Idx → EReal) y = _
    rw [(rows_at m c t).2.2.2.2.2]
    exact congrArg (whole m c dl) (place (R := 8192) (C := 4096) (prow t (y 0)) (y 1)
      (row_place t (ix2 (y 0) 0) _ (by rw [(idx_out t).2.2.2.2.2.1]; rfl)) (by show win0_14.index t 1 * 4096 + 1 * (y 1 : Nat) = _; rw [(idx_out t).2.2.2.2.2.1]; simp)).symm
  · obtain ⟨t, ht⟩ := writer (i 0)
    refine ⟨t, flush0_14 t, ?_⟩
    show i ∈ ((View.whole main_v1_5).slice (win0_14.rect t)).set
    rw [View.set_slice_whole, Rect.mem_set_unit]
    exact inside i _ ht _ (idx_out t).2.2.2.2.2.1

theorem final15 : (dats m 0 c).arrAt 15 cfg0.N = accL m c 32 := by
  refine (dats m 0 c).arrAt_eq_of_cover 15 _ (fun t hf => ?_) fun (i : S8x128.Idx) => ?_
  · have ht : t.val = 31 := by have := (flush0_15 t).1 hf; have := t_lt t; omega
    rw [Value.flushed15 m c t]
    funext y
    show ((outsAt0 m c t.val t.isLt).2.2.2.2.2.2.1 : S8x128.Idx → EReal) y = _
    rw [(sums_at m c t.val t.isLt).1, ht]
    refine congrArg (accL m c 32) ((place (R := 8) (C := 128) (e := y) (y 0) (y 1) rfl rfl).trans (place (R := 8) (C := 128) (e := ((cfg0.win 15).blk t).view.emb y) (y 0) (y 1) ?_ ?_).symm)
    · show win0_15.index t 0 * 8 + 1 * (y 0 : Nat) = _; rw [(idx_out t).2.2.2.2.2.2.1]; simp
    · show win0_15.index t 1 * 128 + 1 * (y 1 : Nat) = _; rw [(idx_out t).2.2.2.2.2.2.1]; simp
  · obtain ⟨t, ht⟩ := last
    refine ⟨t, (flush0_15 t).2 (by rw [ht]), ?_⟩
    show i ∈ ((View.whole main_v1_6).slice (win0_15.rect t)).set
    rw [View.set_slice_whole, Rect.mem_set_unit]
    exact inside_sum i _ (idx_out t).2.2.2.2.2.2.1

theorem final16 : (dats m 0 c).arrAt 16 cfg0.N = acc m c dfw 32 := by
  refine (dats m 0 c).arrAt_eq_of_cover 16 _ (fun t hf => ?_) fun (i : S8x2048.Idx) => ?_
  · have ht : t.val = 31 := by have := (flush0_16 t).1 hf; have := t_lt t; omega
    rw [Value.flushed16 m c t]
    funext y
    show ((outsAt0 m c t.val t.isLt).2.2.2.2.2.2.2.1 : S8x2048.Idx → EReal) y = _
    rw [(sums_at m c t.val t.isLt).2.1, ht]
    refine congrArg (acc m c dfw 32) ((place (R := 8) (C := 2048) (e := y) (y 0) (y 1) rfl rfl).trans (place (R := 8) (C := 2048) (e := ((cfg0.win 16).blk t).view.emb y) (y 0) (y 1) ?_ ?_).symm)
    · show win0_16.index t 0 * 8 + 1 * (y 0 : Nat) = _; rw [(idx_out t).2.2.2.2.2.2.2.1]; simp
    · show win0_16.index t 1 * 2048 + 1 * (y 1 : Nat) = _; rw [(idx_out t).2.2.2.2.2.2.2.1]; simp
  · obtain ⟨t, ht⟩ := last
    refine ⟨t, (flush0_16 t).2 (by rw [ht]), ?_⟩
    show i ∈ ((View.whole main_v1_7).slice (win0_16.rect t)).set
    rw [View.set_slice_whole, Rect.mem_set_unit]
    exact inside_sum i _ (idx_out t).2.2.2.2.2.2.2.1

theorem final17 : (dats m 0 c).arrAt 17 cfg0.N = acc m c dl 32 := by
  refine (dats m 0 c).arrAt_eq_of_cover 17 _ (fun t hf => ?_) fun (i : S8x4096.Idx) => ?_
  · have ht : t.val = 31 := by have := (flush0_17 t).1 hf; have := t_lt t; omega
    rw [Value.flushed17 m c t]
    funext y
    show ((outsAt0 m c t.val t.isLt).2.2.2.2.2.2.2.2 : S8x4096.Idx → EReal) y = _
    rw [(sums_at m c t.val t.isLt).2.2, ht]
    refine congrArg (acc m c dl 32) ((place (R := 8) (C := 4096) (e := y) (y 0) (y 1) rfl rfl).trans (place (R := 8) (C := 4096) (e := ((cfg0.win 17).blk t).view.emb y) (y 0) (y 1) ?_ ?_).symm)
    · show win0_17.index t 0 * 8 + 1 * (y 0 : Nat) = _; rw [(idx_out t).2.2.2.2.2.2.2.2]; simp
    · show win0_17.index t 1 * 4096 + 1 * (y 1 : Nat) = _; rw [(idx_out t).2.2.2.2.2.2.2.2]; simp
  · obtain ⟨t, ht⟩ := last
    refine ⟨t, (flush0_17 t).2 (by rw [ht]), ?_⟩
    show i ∈ ((View.whole main_v1_8).slice (win0_17.rect t)).set
    rw [View.set_slice_whole, Rect.mem_set_unit]
    exact inside_sum i _ (idx_out t).2.2.2.2.2.2.2.2

end Cert.Kernel7Ideal.Head

end
-- ==== Proof.HeadRef.lean ====
/- What the reference of the last layer computes, stage by stage, read at an index: the kernel's row functions. -/
module

public import proofs.«01_k».proof.Proof.HeadMath
public import proofs.«01_k».proof.Proof.Gen.Reference7Ideal.Run

@[expose] public section

set_option maxRecDepth 16384

noncomputable section

namespace Cert.Reference7Ideal.Head

open Idealize.ShloMosaic Idealize.ShloMosaic.TcCoe Idealize.SL.Sem
open Cert.Reference7Ideal Cert.Reference7Ideal.Gen Cert.Norm Cert.Head

/-! ## The stages -/

section
variable (X T : FVec Ideal S8192x2048 .f32) (YA YB : FVec Ideal S8192x2048 .bf16) (P : FVec Ideal S8192x16384 .bf16)
  (B : FVec Ideal S1x4096 .f32) (Wm : FVec Ideal S2048x2048 .bf16) (Fw : FVec Ideal S2048 .f32)

/-- The gates. -/
def tG : FVec Ideal S8192x4096 .f32 :=
  Host.divf (broadcastInDim S8192x4096 ![] bcast_S_S8192x4096 (constant S_ .f32 0x3F800000#32))
    (addf (broadcastInDim S8192x4096 ![] bcast_S_S8192x4096 (constant S_ .f32 0x3F800000#32))
      (Host.exp (Host.negf (addf (extf .f32 (extractStridedSlice S8192x4096 ![0, 6144] P slices_S8192x16384_S8192x4096_0_6144) bitsLt_bf16_f32)
        (broadcastInDim S8192x4096 ![0, 1] bcast_S1x4096_S8192x4096_0_1 (broadcastInDim S1x4096 ![1] bcast_S4096_S1x4096_1 (shapeCast _ B shapeCasts_S1x4096_S4096)))))))

/-- The gates of the first branch, and of the second. -/
def tG0 (G : FVec Ideal S8192x4096 .f32) : FVec Ideal S8192x2048 .f32 :=
  shapeCast _ (extractStridedSlice S8192x1x2048 ![0, 0, 0] (shapeCast _ G shapeCasts_S8192x4096_S8192x2x2048) slices_S8192x2x2048_S8192x1x2048_0_0_0) shapeCasts_S8192x1x2048_S8192x2048
def tG1 (G : FVec Ideal S8192x4096 .f32) : FVec Ideal S8192x2048 .f32 :=
  shapeCast _ (extractStridedSlice S8192x1x2048 ![0, 1, 0] (shapeCast _ G shapeCasts_S8192x4096_S8192x2x2048) slices_S8192x2x2048_S8192x1x2048_0_1_0) shapeCasts_S8192x1x2048_S8192x2048

/-- The gated sum of the branches. -/
def tM (G : FVec Ideal S8192x4096 .f32) : FVec Ideal S8192x2048 .f32 :=
  addf (mulf (tG0 G) (extf .f32 YA bitsLt_bf16_f32)) (mulf (tG1 G) (extf .f32 YB bitsLt_bf16_f32))

/-- The residual stream. -/
def tH (M : FVec Ideal S8192x2048 .f32) : FVec Ideal S8192x2048 .f32 :=
  addf X (Host.dotGeneral dot_S8192x2048_S2048x2048_S8192x2048_1_0_0_1_n_n none M (extf .f32 Wm bitsLt_bf16_f32))

/-- Its rows' mean squares, and their reciprocal roots. -/
def tMs (H : FVec Ideal S8192x2048 .f32) : FVec Ideal S8192x1 .f32 :=
  addf (Host.divf (broadcastInDim S8192x1 ![0] bcast_S8192_S8192x1_0 (Host.reduceAdd (mulf H H) (constant S_ .f32 0x00000000#32) reducesTo_S8192x2048_S8192_d1 h_S_))
    (broadcastInDim S8192x1 ![] bcast_S_S8192x1 (constant S_ .f32 0x45000000#32))) (broadcastInDim S8192x1 ![] bcast_S_S8192x1 (constant S_ .f32 0x3727C5AC#32))
def tHn (H : FVec Ideal S8192x2048 .f32) : FVec Ideal S8192x2048 .f32 :=
  mulf H (broadcastInDim S8192x2048 ![0, 1] bcast_S8192x1_S8192x2048_0_1 (Host.rsqrt (tMs H)))

/-- The error. -/
def tE (N : FVec Ideal S8192x2048 .f32) : FVec Ideal S8192x2048 .f32 :=
  subf (mulf N (broadcastInDim S8192x2048 ![0, 1] bcast_S1x2048_S8192x2048_0_1 (broadcastInDim S1x2048 ![1] bcast_S2048_S1x2048_1 Fw))) T

/-- The loss. -/
def tL (E : FVec Ideal S8192x2048 .f32) : FVec Ideal S8x128 .f32 :=
  broadcastInDim S8x128 ![] bcast_S_S8x128 (mulf (constant S_ .f32 0x3F000000#32) (Host.reduceAdd (Host.divf
    (Host.reduceAdd (mulf E E) (constant S_ .f32 0x00000000#32) reducesTo_S8192x2048_S8192_d1 h_S_)
    (broadcastInDim S8192 ![] bcast_S_S8192 (constant S_ .f32 0x45000000#32))) (constant S_ .f32 0x00000000#32) reducesTo_S8192_S_d0 h_S_))

/-- The scaled row's gradient. -/
def tD (E : FVec Ideal S8192x2048 .f32) : FVec Ideal S8192x2048 .f32 :=
  mulf (broadcastInDim S8192x2048 ![0] bcast_S8192_S8192x2048_0 (Host.divf (broadcastInDim S8192 ![] bcast_S_S8192 (mulf (constant S_ .f32 0x3F000000#32) (constant S_ .f32 0x3F800000#32)))
    (broadcastInDim S8192 ![] bcast_S_S8192 (constant S_ .f32 0x45000000#32)))) (mulf (broadcastInDim S8192x2048 ![] bcast_S_S8192x2048 (constant S_ .f32 0x40000000#32)) E)

/-- The last gain's gradient. -/
def tF (N D : FVec Ideal S8192x2048 .f32) : FVec Ideal S8x2048 .f32 :=
  pad S8x2048 ![0, 0] ![7, 0] ![0, 0] (broadcastInDim S1x2048 ![1] bcast_S2048_S1x2048_1 (Host.reduceAdd (shapeCast _
    (Host.reduceAdd (mulf N D) (constant S_ .f32 0x00000000#32) reducesTo_S8192x2048_S2048_d0 h_S_) shapeCasts_S2048_S1x2048)
    (constant S_ .f32 0x00000000#32) reducesTo_S1x2048_S2048_d0 h_S_)) (sitofp .f32 (constantI S_ 32 0#32)) pads_S1x2048_S8x2048_070_000 h_S_

/-- The normalised row's gradient. -/
def tDn (D : FVec Ideal S8192x2048 .f32) : FVec Ideal S8192x2048 .f32 :=
  mulf D (broadcastInDim S8192x2048 ![0, 1] bcast_S1x2048_S8192x2048_0_1 (broadcastInDim S1x2048 ![1] bcast_S2048_S1x2048_1 Fw))

/-- The mean square's gradient. -/
def tQ (H N : FVec Ideal S8192x2048 .f32) : FVec Ideal S8192 .f32 :=
  Host.reduceAdd (Host.divf (mulf (shapeCast _ (Host.reduceAdd (mulf H N) (constant S_ .f32 0x00000000#32) reducesTo_S8192x2048_S8192_d1 h_S_) shapeCasts_S8192_S8192x1)
    (mulf (broadcastInDim S8192x1 ![] bcast_S_S8192x1 (constant S_ .f32 0xBF000000#32)) (Host.divf (Host.rsqrt (tMs H)) (tMs H))))
    (broadcastInDim S8192x1 ![] bcast_S_S8192x1 (constant S_ .f32 0x45000000#32))) (constant S_ .f32 0x00000000#32) reducesTo_S8192x1_S8192_d1 h_S_

/-- The residual stream's gradient. -/
def tDh (H N : FVec Ideal S8192x2048 .f32) : FVec Ideal S8192x2048 .f32 :=
  addf (addf (mulf N (broadcastInDim S8192x2048 ![0, 1] bcast_S8192x1_S8192x2048_0_1 (Host.rsqrt (tMs H))))
    (mulf H (broadcastInDim S8192x2048 ![0] bcast_S8192_S8192x2048_0 (tQ H N)))) (mulf (broadcastInDim S8192x2048 ![0] bcast_S8192_S8192x2048_0 (tQ H N)) H)

/-- The gated sum's gradient. -/
def tDm (D : FVec Ideal S8192x2048 .f32) : FVec Ideal S8192x2048 .f32 :=
  Host.dotGeneral dot_S8192x2048_S2048x2048_S8192x2048_1_1_0_0_n_n none D (extf .f32 Wm bitsLt_bf16_f32)

/-- The gates' gradient. -/
def tDl (D : FVec Ideal S8192x2048 .f32) (G : FVec Ideal S8192x4096 .f32) : FVec Ideal S8192x4096 .f32 :=
  mulf (shapeCast _ (addf
    (pad S8192x2x2048 ![0, 1, 0] ![0, 0, 0] ![0, 0, 0] (broadcastInDim S8192x1x2048 ![0, 2] bcast_S8192x2048_S8192x1x2048_0_2 (mulf D (extf .f32 YB bitsLt_bf16_f32)))
      (constant S_ .f32 0x00000000#32) pads_S8192x1x2048_S8192x2x2048_000_100_000 h_S_)
    (pad S8192x2x2048 ![0, 0, 0] ![0, 1, 0] ![0, 0, 0] (broadcastInDim S8192x1x2048 ![0, 2] bcast_S8192x2048_S8192x1x2048_0_2 (mulf D (extf .f32 YA bitsLt_bf16_f32)))
      (constant S_ .f32 0x00000000#32) pads_S8192x1x2048_S8192x2x2048_000_010_000 h_S_)) shapeCasts_S8192x2x2048_S8192x4096)
    (mulf G (subf (broadcastInDim S8192x4096 ![] bcast_S_S8192x4096 (constant S_ .f32 0x3F800000#32)) G))

/-- The gates' biases' gradient. -/
def tDb (L : FVec Ideal S8192x4096 .f32) : FVec Ideal S8x4096 .f32 :=
  pad S8x4096 ![0, 0] ![7, 0] ![0, 0] (broadcastInDim S1x4096 ![1] bcast_S4096_S1x4096_1 (Host.reduceAdd (shapeCast _
    (Host.reduceAdd L (constant S_ .f32 0x00000000#32) reducesTo_S8192x4096_S4096_d0 h_S_) shapeCasts_S4096_S1x4096)
    (constant S_ .f32 0x00000000#32) reducesTo_S1x4096_S4096_d0 h_S_)) (sitofp .f32 (constantI S_ 32 0#32)) pads_S1x4096_S8x4096_070_000 h_S_

/-! ## Each stage at an index -/

/-- Two tables laid side by side, as a sum of two padded ones. -/
theorem two_pads (n : Nat) (hn : n < 4096) (f g : Fin 2048 → EReal) (q : EReal) :
    ((if h : (1 ≤ n / 2048 ∧ n / 2048 - 1 < 1) ∧ n % 2048 < 2048 then f ⟨n % 2048, h.2⟩ else 0)
      + if h : n / 2048 < 1 ∧ n % 2048 < 2048 then g ⟨n % 2048, h.2⟩ else 0) * q
    = if h : n < 2048 then g ⟨n, h⟩ * q else f ⟨n - 2048, by omega⟩ * q := by
  by_cases h : n < 2048
  · rw [dif_neg (by omega), dif_pos (by omega), dif_pos h, zero_add]
    simp only [Nat.mod_eq_of_lt h]
  · have e : n % 2048 = n - 2048 := by omega
    rw [dif_pos (by omega), dif_neg (by omega), dif_neg h, add_zero]
    simp only [e]

theorem pad_zero : FloatOps.sitofp (F := Ideal) FTy.f32 (0#32) = (0 : EReal) := by
  show (((0#32 : BitVec 32).toInt : ℝ) : EReal) = 0; simp

theorem tG_eq : tG P B = fun j : S8192x4096.Idx => sg (P (ix2 (j 0) ⟨6144 + (j 1 : Nat), by have h : (j 1 : Nat) < 4096 := (j 1).isLt; omega⟩) + B (ix2 0 (j 1))) := by
  funext j; pointwise [tG, sg, zero_sub]
theorem tG0_eq (G : FVec Ideal S8192x4096 .f32) : tG0 G = fun j : S8192x2048.Idx => G (ix2 (j 0) ⟨(j 1 : Nat), by have h : (j 1 : Nat) < 2048 := (j 1).isLt; omega⟩) := by
  funext j; pointwise [tG0]
theorem tG1_eq (G : FVec Ideal S8192x4096 .f32) : tG1 G = fun j : S8192x2048.Idx => G (ix2 (j 0) ⟨2048 + (j 1 : Nat), by have h : (j 1 : Nat) < 2048 := (j 1).isLt; omega⟩) := by
  funext j; pointwise [tG1]
theorem tM_eq (G : FVec Ideal S8192x4096 .f32) : tM YA YB G = fun j : S8192x2048.Idx => tG0 G j * YA j + tG1 G j * YB j := by
  funext j; pointwise [tM]
theorem tH_eq (M : FVec Ideal S8192x2048 .f32) : tH X Wm M = fun j : S8192x2048.Idx => X j + ∑ k, M (ix2 (j 0) k) * Wm (ix2 k (j 1)) := by
  funext j; pointwise [tH]
theorem tMs_eq (H : FVec Ideal S8192x2048 .f32) : tMs H = fun j : S8192x1.Idx => ms fun k => H (ix2 (j 0) k) := by
  funext j; pointwise [tMs, ms]
theorem tHn_eq (H : FVec Ideal S8192x2048 .f32) : tHn H = fun j : S8192x2048.Idx => nrm (fun k => H (ix2 (j 0) k)) (j 1) := by
  funext j; unfold tHn; rw [tMs_eq]; pointwise [nrm, rr]
theorem tE_eq (N : FVec Ideal S8192x2048 .f32) : tE T Fw N = fun j : S8192x2048.Idx => N j * Fw (ix1 (j 1)) - T j := by
  funext j; pointwise [tE]
theorem tL_eq (E : FVec Ideal S8192x2048 .f32) : tL E = fun _ : S8x128.Idx => Ideal.ofBits .f32 0x3F000000#32 *
    ∑ r : Fin 8192, Ideal.div (∑ k, E (ix2 r k) * E (ix2 r k)) (Ideal.ofBits .f32 0x45000000#32) := by
  funext j; pointwise [tL]
theorem tD_eq (E : FVec Ideal S8192x2048 .f32) : tD E = fun j : S8192x2048.Idx => E j * Ideal.ofBits .f32 0x3A000000#32 := by
  funext j; pointwise [tD]
  rw [div_2048, ch, c2, cinv, ← EReal.coe_mul, ← mul_assoc, ← EReal.coe_mul, mul_comm]
  norm_num
theorem tF_eq (N D : FVec Ideal S8192x2048 .f32) : tF N D = fun j : S8x2048.Idx => if (j 0 : Nat) = 0 then ∑ r : Fin 8192, N (ix2 r (j 1)) * D (ix2 r (j 1)) else 0 := by
  funext j; pointwise [tF]
  rw [pad_zero, Fin.sum_univ_one]
  simp only [Nat.lt_one_iff, dite_eq_ite]
theorem tDn_eq (D : FVec Ideal S8192x2048 .f32) : tDn Fw D = fun j : S8192x2048.Idx => D j * Fw (ix1 (j 1)) := by
  funext j; pointwise [tDn]
theorem tQ_eq (H N : FVec Ideal S8192x2048 .f32) : tQ H N = fun j : S8192.Idx => refq (fun k => H (ix2 (j 0) k)) (fun k => N (ix2 (j 0) k)) := by
  funext j; unfold tQ; rw [tMs_eq]; pointwise [refq, rr]
  exact Fin.sum_univ_one _
theorem tDh_eq (H N : FVec Ideal S8192x2048 .f32) : tDh H N = fun j : S8192x2048.Idx => back (fun k => H (ix2 (j 0) k)) (fun k => N (ix2 (j 0) k)) (j 1) := by
  funext j; refine Eq.trans ?_ (back_eq (fun k => H (ix2 (j 0) k)) (fun k => N (ix2 (j 0) k)) (j 1)); unfold tDh; rw [tQ_eq, tMs_eq]; pointwise [rr]
theorem tDm_eq (D : FVec Ideal S8192x2048 .f32) : tDm Wm D = fun j : S8192x2048.Idx => ∑ k, D (ix2 (j 0) k) * Wm (ix2 (j 1) k) := by
  funext j; pointwise [tDm]
theorem tDl_eq (D : FVec Ideal S8192x2048 .f32) (G : FVec Ideal S8192x4096 .f32) : tDl YA YB D G = fun j : S8192x4096.Idx =>
    if h : (j 1 : Nat) < 2048 then D (ix2 (j 0) ⟨j 1, h⟩) * YA (ix2 (j 0) ⟨j 1, h⟩) * G j * (1 - G j)
    else D (ix2 (j 0) ⟨(j 1 : Nat) - 2048, by have h : (j 1 : Nat) < 4096 := (j 1).isLt; omega⟩)
      * YB (ix2 (j 0) ⟨(j 1 : Nat) - 2048, by have h : (j 1 : Nat) < 4096 := (j 1).isLt; omega⟩) * G j * (1 - G j) := by
  funext j; pointwise [tDl]
  have h1 : (j 1 : Nat) < 4096 := (j 1).isLt
  refine (two_pads (j 1) h1 (fun k => D (ix2 (j 0) k) * YB (ix2 (j 0) k)) (fun k => D (ix2 (j 0) k) * YA (ix2 (j 0) k)) _).trans ?_
  split <;> exact (mul_assoc _ _ _).symm
theorem tDb_eq (L : FVec Ideal S8192x4096 .f32) : tDb L = fun j : S8x4096.Idx => if (j 0 : Nat) = 0 then ∑ r : Fin 8192, L (ix2 r (j 1)) else 0 := by
  funext j; pointwise [tDb]
  rw [pad_zero, Fin.sum_univ_one]
  simp only [Nat.lt_one_iff, dite_eq_ite]

/-! ## The results, over the operands -/

/-- The reference's operands as tables. -/
def rops : Ops where
  x r k := X (ix2 r k)
  ya r k := YA (ix2 r k)
  yb r k := YB (ix2 r k)
  p r k := P (ix2 r k)
  t r k := T (ix2 r k)
  b k := B (ix2 0 k)
  w k j := Wm (ix2 k j)
  f k := Fw (ix1 k)

/-- A row function over all the rows. -/
def rows {w : Nat} (a : Ops) (f : Row → Wts → Fin w → EReal) : (⟨2, ![8192, w]⟩ : Shape).Idx → EReal := fun i => f (a.row (i 0)) a.wts (i 1)

variable {X T YA YB P B Wm Fw}

theorem g0_at (j : S8192x2048.Idx) : tG0 (tG P B) j = g0 ((rops X T YA YB P B Wm Fw).row (j 0)) (rops X T YA YB P B Wm Fw).wts (j 1) := by
  rw [tG0_eq, tG_eq]; rfl
theorem g1_at (j : S8192x2048.Idx) : tG1 (tG P B) j = g1 ((rops X T YA YB P B Wm Fw).row (j 0)) (rops X T YA YB P B Wm Fw).wts (j 1) := by
  rw [tG1_eq, tG_eq]
  refine congrArg sg (congrArg (· + _) (congrArg P (congrArg (ix2 (j 0)) (Fin.ext ?_))))
  show 6144 + (2048 + (j 1 : Nat)) = 8192 + (j 1 : Nat)
  omega
theorem M_eq : tM YA YB (tG P B) = rows (rops X T YA YB P B Wm Fw) mb := by
  rw [tM_eq]; funext j
  exact congrArg₂ (· + ·) (congrArg₂ (· * ·) (g0_at j) (congrArg YA (ix2_eta j).symm)) (congrArg₂ (· * ·) (g1_at j) (congrArg YB (ix2_eta j).symm))
theorem H_eq : tH X Wm (rows (rops X T YA YB P B Wm Fw) mb) = rows (rops X T YA YB P B Wm Fw) h := by
  rw [tH_eq]; funext j; exact congrArg (· + _) (congrArg X (ix2_eta j).symm)
theorem N_eq : tHn (rows (rops X T YA YB P B Wm Fw) h) = rows (rops X T YA YB P B Wm Fw) hn := by
  rw [tHn_eq]; rfl
theorem E_eq : tE T Fw (rows (rops X T YA YB P B Wm Fw) hn) = rows (rops X T YA YB P B Wm Fw) err := by
  rw [tE_eq]; funext j; exact congrArg (_ - ·) (congrArg T (ix2_eta j).symm)
theorem L_eq : tL (rows (rops X T YA YB P B Wm Fw) err) = fun _ : S8x128.Idx => ∑ s ∈ Finset.range 32, Ideal.ofBits .f32 0x3F000000#32 * ∑ r, ls ((rops X T YA YB P B Wm Fw).row (prow s r)) (rops X T YA YB P B Wm Fw).wts := by
  rw [tL_eq]; funext j
  rw [ch, real_mul_sum _ (by norm_num), ← sum_rows fun r => ls ((rops X T YA YB P B Wm Fw).row r) (rops X T YA YB P B Wm Fw).wts]
  rfl
theorem D_eq : tD (rows (rops X T YA YB P B Wm Fw) err) = rows (rops X T YA YB P B Wm Fw) df := by
  rw [tD_eq]; rfl
theorem F_eq : tF (rows (rops X T YA YB P B Wm Fw) hn) (rows (rops X T YA YB P B Wm Fw) df) = fun j : S8x2048.Idx =>
    if (j 0 : Nat) = 0 then ∑ s ∈ Finset.range 32, ∑ r, dfw ((rops X T YA YB P B Wm Fw).row (prow s r)) (rops X T YA YB P B Wm Fw).wts (j 1) else 0 := by
  rw [tF_eq]; funext j
  rw [← sum_rows fun r => dfw ((rops X T YA YB P B Wm Fw).row r) (rops X T YA YB P B Wm Fw).wts (j 1)]
  refine congrArg (fun q : EReal => if (j 0 : Nat) = 0 then q else 0) (Finset.sum_congr rfl fun r _ => ?_)
  exact mul_comm _ _
theorem Dn_eq : tDn Fw (rows (rops X T YA YB P B Wm Fw) df) = rows (rops X T YA YB P B Wm Fw) dhn := by
  rw [tDn_eq]; rfl
theorem Dh_eq : tDh (rows (rops X T YA YB P B Wm Fw) h) (rows (rops X T YA YB P B Wm Fw) dhn) = rows (rops X T YA YB P B Wm Fw) dh := by
  rw [tDh_eq]; rfl
theorem Dm_eq : tDm Wm (rows (rops X T YA YB P B Wm Fw) dh) = rows (rops X T YA YB P B Wm Fw) dm := by
  rw [tDm_eq]; rfl
theorem Dl_eq : tDl YA YB (rows (rops X T YA YB P B Wm Fw) dm) (tG P B) = rows (rops X T YA YB P B Wm Fw) dl := by
  rw [tDl_eq, tG_eq]; funext j
  show _ = dl _ _ (j 1)
  unfold dl
  have h1 : (j 1 : Nat) < 4096 := (j 1).isLt
  by_cases h : (j 1 : Nat) < 2048
  · rw [dif_pos h, dif_pos h]; rfl
  · rw [dif_neg h, dif_neg h]
    have e : sg (P (ix2 (j 0) ⟨6144 + (j 1 : Nat), by omega⟩) + B (ix2 0 (j 1))) = g1 ((rops X T YA YB P B Wm Fw).row (j 0)) (rops X T YA YB P B Wm Fw).wts ⟨(j 1 : Nat) - 2048, by omega⟩ := by
      unfold g1
      refine congrArg sg (congrArg₂ (· + ·) (congrArg P (congrArg (ix2 (j 0)) (Fin.ext ?_))) (congrArg B (congrArg (ix2 0) (Fin.ext ?_))))
      · show 6144 + (j 1 : Nat) = 8192 + ((j 1 : Nat) - 2048); omega
      · show (j 1 : Nat) = 2048 + ((j 1 : Nat) - 2048); omega
    exact congrArg₂ (fun a b : EReal => a * (1 - b)) (congrArg (_ * ·) e) e
theorem Db_eq : tDb (rows (rops X T YA YB P B Wm Fw) dl) = fun j : S8x4096.Idx =>
    if (j 0 : Nat) = 0 then ∑ s ∈ Finset.range 32, ∑ r, dl ((rops X T YA YB P B Wm Fw).row (prow s r)) (rops X T YA YB P B Wm Fw).wts (j 1) else 0 := by
  rw [tDb_eq]; funext j
  rw [← sum_rows fun r => dl ((rops X T YA YB P B Wm Fw).row r) (rops X T YA YB P B Wm Fw).wts (j 1)]
  rfl
end

end Cert.Reference7Ideal.Head

end
-- ==== Proof.HeadClaim.lean ====
/- The last layer's claim: its kernel and the plain reference leave the same arrays. -/
module

public import proofs.«01_k».proof.Defs
public import proofs.«01_k».proof.Proof.HeadFold
public import proofs.«01_k».proof.Proof.HeadRef

@[expose] public section

set_option maxRecDepth 16384

noncomputable section

namespace Cert.Reference7Ideal.Head

open Idealize.ShloMosaic Idealize.ShloMosaic.TcCoe Idealize.SL.Sem
open Cert.Reference7Ideal Cert.Reference7Ideal.Gen Cert.Norm Cert.Head

section
variable (m : (ℓ : Loc nD τ sig) → Buf (Elt Ideal) ℓ) (c : Dev nD)

/-- The operands in memory as tables. -/
def mops : Ops := rops (m ((c.tc : Thread nD τ).loc main_arg0)) (m ((c.tc : Thread nD τ).loc main_arg4)) (m ((c.tc : Thread nD τ).loc main_arg1))
  (m ((c.tc : Thread nD τ).loc main_arg2)) (m ((c.tc : Thread nD τ).loc main_arg3)) (m ((c.tc : Thread nD τ).loc main_arg5))
  (m ((c.tc : Thread nD τ).loc main_arg6)) (m ((c.tc : Thread nD τ).loc main_arg7))

/-- The stages over the operands in memory. -/
def mG : FVec Ideal S8192x4096 .f32 := tG (m ((c.tc : Thread nD τ).loc main_arg3)) (m ((c.tc : Thread nD τ).loc main_arg5))
def mM : FVec Ideal S8192x2048 .f32 := tM (m ((c.tc : Thread nD τ).loc main_arg1)) (m ((c.tc : Thread nD τ).loc main_arg2)) (mG m c)
def mH : FVec Ideal S8192x2048 .f32 := tH (m ((c.tc : Thread nD τ).loc main_arg0)) (m ((c.tc : Thread nD τ).loc main_arg6)) (mM m c)
def mN : FVec Ideal S8192x2048 .f32 := tHn (mH m c)
def mE : FVec Ideal S8192x2048 .f32 := tE (m ((c.tc : Thread nD τ).loc main_arg4)) (m ((c.tc : Thread nD τ).loc main_arg7)) (mN m c)
def mD : FVec Ideal S8192x2048 .f32 := tD (mE m c)
def mDh : FVec Ideal S8192x2048 .f32 := tDh (mH m c) (tDn (m ((c.tc : Thread nD τ).loc main_arg7)) (mD m c))
def mDm : FVec Ideal S8192x2048 .f32 := tDm (m ((c.tc : Thread nD τ).loc main_arg6)) (mDh m c)
def mDl : FVec Ideal S8192x4096 .f32 := tDl (m ((c.tc : Thread nD τ).loc main_arg1)) (m ((c.tc : Thread nD τ).loc main_arg2)) (mDm m c) (mG m c)

theorem mM_eq : mM m c = rows (mops m c) mb := M_eq
theorem mH_eq : mH m c = rows (mops m c) h := (congrArg (tH _ _) (mM_eq m c)).trans H_eq
theorem mN_eq : mN m c = rows (mops m c) hn := (congrArg tHn (mH_eq m c)).trans N_eq
theorem mE_eq : mE m c = rows (mops m c) err := (congrArg (tE _ _) (mN_eq m c)).trans E_eq
theorem mD_eq : mD m c = rows (mops m c) df := (congrArg tD (mE_eq m c)).trans D_eq
theorem mDh_eq : mDh m c = rows (mops m c) dh :=
  (congrArg₂ tDh (mH_eq m c) ((congrArg (tDn _) (mD_eq m c)).trans Dn_eq)).trans Dh_eq
theorem mDm_eq : mDm m c = rows (mops m c) dm := (congrArg (tDm _) (mDh_eq m c)).trans Dm_eq
theorem mDl_eq : mDl m c = rows (mops m c) dl := (congrArg (tDl _ _ · (mG m c)) (mDm_eq m c)).trans Dl_eq

theorem dya_eq : mulf (tG0 (mG m c)) (mDm m c) = rows (mops m c) dya := by
  rw [mDm_eq]; funext j
  exact (congrArg (· * _) (g0_at j)).trans (mul_comm _ _)
theorem dyb_eq : mulf (tG1 (mG m c)) (mDm m c) = rows (mops m c) dyb := by
  rw [mDm_eq]; funext j
  exact (congrArg (· * _) (g1_at j)).trans (mul_comm _ _)

/-- The sums over all the rows. -/
def sumL (a : Ops) : S8x128.Idx → EReal := fun _ => ∑ s ∈ Finset.range 32, Ideal.ofBits .f32 0x3F000000#32 * ∑ r, ls (a.row (prow s r)) a.wts
def sums {w : Nat} (a : Ops) (f : Row → Wts → Fin w → EReal) : (⟨2, ![8, w]⟩ : Shape).Idx → EReal := fun j =>
  if (j 0 : Nat) = 0 then ∑ s ∈ Finset.range 32, ∑ r, f (a.row (prow s r)) a.wts (j 1) else 0

theorem loss_eq : tL (mE m c) = sumL (mops m c) := (congrArg tL (mE_eq m c)).trans L_eq
theorem dfw_eq : tF (mN m c) (mD m c) = sums (mops m c) dfw := (congrArg₂ tF (mN_eq m c) (mD_eq m c)).trans F_eq
theorem dgb_eq : tDb (mDl m c) = sums (mops m c) dl := (congrArg tDb (mDl_eq m c)).trans Db_eq
end

end Cert.Reference7Ideal.Head

namespace Cert.Head

open Idealize.ShloMosaic Idealize.ShloMosaic.TcCoe Idealize.SL.Sem
open Cert.Kernel7Ideal.Head Cert.Reference7Ideal.Head

theorem frameR : Cert.quiescent_Reference7Ideal (hReference7Ideal := Cert.Reference7Ideal.Gen.facts) := fun m ρ _ =>
  (θ_run Cert.Reference7Ideal.defs _ _).mono (fun r h => ⟨fun c => (h c).2.2.2.2.2.2.2.2.2, sem_eq_zero_of_no_sems (by decide) r.2⟩)
    (Cert.Reference7Ideal.Value.run (F := Ideal) m ρ)

theorem algebraic : Cert.algebraic_Kernel7Ideal_Reference7Ideal (hKernel7Ideal := Cert.Kernel7Ideal.Gen.facts)
    (hReference7Ideal := Cert.Reference7Ideal.Gen.facts) := by
  intro m g m' g' _ hagree
  refine ⟨fun c => rows (ops m c) dh, fun c => rows (ops m c) dh, fun c => rows (ops m c) mb, fun c => rows (ops m c) dya, fun c => rows (ops m c) dyb,
    fun c => rows (ops m c) dl, fun c => sumL (ops m c), fun c => sums (ops m c) dfw, fun c => sums (ops m c) dl,
    (θ_run Cert.Kernel7Ideal.defs _ _).mono (fun r h c => ?_) (Cert.Kernel7Ideal.Value.run_blocks m g), ?_⟩
  · obtain ⟨h0, h1, h2, h3, h4, h5, h6, h7, h8, hk⟩ := h c
    exact ⟨h0.trans (final9 m c), h1.trans (final10 m c), h2.trans (final11 m c), h3.trans (final12 m c), h4.trans (final13 m c),
      h5.trans (final14 m c), h6.trans (final15 m c), h7.trans (final16 m c), h8.trans (final17 m c), hk⟩
  refine (θ_run Cert.Reference7Ideal.defs _ _).mono (fun r h c => ?_) (Cert.Reference7Ideal.Value.run (F := Ideal) m' g')
  obtain ⟨h0, h1, h2, h3, h4, h5, h6, h7, h8, hk⟩ := h c
  have e : mops m' c = ops m c := by
    obtain ⟨e0, e1, e2, e3, e4, e5, e6, e7⟩ := hagree c
    unfold mops
    rw [e0, e1, e2, e3, e4, e5, e6, e7]
    rfl
  dsimp only
  rw [← e]
  exact ⟨h0.trans (mDh_eq m' c), h1.trans (mDh_eq m' c), h2.trans (mM_eq m' c), h3.trans (dya_eq m' c), h4.trans (dyb_eq m' c),
    h5.trans (mDl_eq m' c), h6.trans (loss_eq m' c), h7.trans (dfw_eq m' c), h8.trans (dgb_eq m' c), hk⟩

end Cert.Head

end
-- ==== Proof.DxnLast.lean ====
/- The gradient at the layer's input: `Kernel8Ideal`'s run, over any float values. -/
module

public import proofs.«01_k».proof.Defs
public import proofs.«01_k».proof.Proof.Gen.Kernel8Ideal.Skeleton
public import proofs.«01_k».proof.Proof.Gen.Kernel8Ideal.Launch
public import proofs.«01_k».proof.Proof.Gen.Kernel8Ideal.Points
public import Idealize.ShloMosaic.Lib.Pipeline.KitQuiescent
public import Idealize.ShloMosaic.Lib.Ring.Trips
public import Idealize.ShloMosaic.Lib.DeliveryRep
public import Idealize.ShloMosaic.Lib.VecWindow
public import Idealize.ShloMosaic.Lib.Claim
public import Idealize.ShloMosaic.Lib.Pipeline.Frame

@[expose] public section

set_option maxRecDepth 16384

noncomputable section

namespace Cert.Kernel8Ideal.DxnLast

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)
open Idealize.ShloMosaic.Ring (sl bk sl_add homeSet homeSet_out homeSet_succ homeSet_succ_tail bkL_not_mem_erase bk_not_mem_erase bk_not_mem_homeSet roleAt roleAt_of_lt roleAt_of_le roleBAt roleBAt_of_le roleBAt_of_lt aheadSet behindSet aheadSet_open bk_not_mem_aheadSet_succ behindSet_close behindSet_boot bk_not_mem_behindSet bigSep_put bk_eq_mk bk_val mem_homeSet mem_behindSet aheadSet_zero aheadSet_end homeSet_last free3_of_roles)
open Cert.Kernel8Ideal Cert.Kernel8Ideal.Gen

variable {F : FTy → Type} [FloatOps F]

local notation "𝕄" => MT nD τ sig Unit (Elt F) ℕ (UD sig nD τ) ℕ

/-! ## What a block's results are -/

abbrev up1 (x : Vec F S256x2048 .f32) : Vec F S1x256x2048 .f32 := shapeCast S1x256x2048 x (by decide)
/-- The gradient at the normalised input, on a block of rows: what arrived, and the product of the fourth segment with its rows of the weights. -/
abbrev dxn (a : Vec F S256x6144 .bf16) (p : Vec F S256x2048 .f32) (w : Vec F S6144x2048 .bf16) : Vec F S256x2048 .f32 :=
  k0_pay2 (up1 p) (shapeCast S1x256x6144 a (by decide)) w
/-- The rows of the first result. -/
abbrev res (a : Vec F S256x6144 .bf16) (p x h : Vec F S256x2048 .f32) (w : Vec F S6144x2048 .bf16) (n : Vec F S1x2048 .f32) : Vec F S256x2048 .f32 :=
  shapeCast S256x2048 (k0_pay7 (dxn a p w) (k0_pay4 (up1 x)) (k0_pay5 (up1 x)) n (up1 h)) (by decide)
/-- The second result, after a block of rows. -/
abbrev accStep (acc : Vec F S8x2048 .f32) (a : Vec F S256x6144 .bf16) (p x : Vec F S256x2048 .f32) (w : Vec F S6144x2048 .bf16) : Vec F S8x2048 .f32 :=
  VecWindow.put acc ![0, 0] S1x2048.size
    (k0_pay6 (dxn a p w) (k0_pay5 (up1 x)) (VecWindow.window acc ![0, 0] S1x2048.size inb_S8x2048_S1x2048_0_0))

/-- A view held by exactly its own elements. -/
abbrev own {sp : Space} {s : Shape} {e : EltTy} (c : Dev nD) (M : Memref sig .tc sp s e) (f : Buf (Elt F) (M.view.loc (c : Thread nD τ))) : sProp 𝕄 :=
  M.view.loc (c : Thread nD τ) ↦[M.view.set]{fullShare} f

/-- A slot of the buffer of the segment's rows, as the copies into it spell it. -/
abbrev slotA (M : Memref sig .tc .vmem S2x256x6144 .bf16) (o : Fin 3 → ℕ) (h : ∀ a, o a + S1x256x6144.size a ≤ S2x256x6144.size a) :
    Memref sig .tc .vmem S256x6144 .bf16 :=
  (M.slice (Rect.unit (s := S2x256x6144) o S1x256x6144.size h) (fun _ => rfl)).squeeze S256x6144 squeezes_S1x256x6144_S256x6144

/-- A slot of a buffer of rows. -/
abbrev slotF (M : Memref sig .tc .vmem S2x256x2048 .f32) (o : Fin 3 → ℕ) (h : ∀ a, o a + S1x256x2048.size a ≤ S2x256x2048.size a) :
    Memref sig .tc .vmem S256x2048 .f32 :=
  (M.slice (Rect.unit (s := S2x256x2048) o S1x256x2048.size h) (fun _ => rfl)).squeeze S256x2048 squeezes_S1x256x2048_S256x2048

/-- The copy of `src` into `dst` on `sm`, in flight: it delivers both views holding `X`. -/
abbrev flies {sp sp' : Space} {s : Shape} {e : EltTy} (c : Dev nD) (sm : DmaSem sig) (src : Memref sig .tc sp s e) (dst : Memref sig .tc sp' s e)
    (X : s.Idx → Elt F e) : sProp 𝕄 :=
  Transfers.Flight (countersEmb (U := UD sig nD τ)) (c : Thread nD τ) (.dma sm) () (dst.view.amount (SemLoc.dma (sig := sig) sm))
    iprop(own c dst (dst.view.rep X) ∗ own c src (src.view.rep X))

theorem slotA_sub (M : Memref sig .tc .vmem S2x256x6144 .bf16) (o : Fin 3 → ℕ) (h h' : ∀ a, o a + S1x256x6144.size a ≤ S2x256x6144.size a) :
    (M.access (Rect.unit (s := S2x256x6144) o S1x256x6144.size h')).set ⊆ (slotA M o h).view.set := by
  exact (View.set_reshape (M.view.slice (Rect.unit (s := S2x256x6144) o S1x256x6144.size h)) squeezes_S1x256x6144_S256x6144.numel_eq).ge

theorem slotF_sub (M : Memref sig .tc .vmem S2x256x2048 .f32) (o : Fin 3 → ℕ) (h h' : ∀ a, o a + S1x256x2048.size a ≤ S2x256x2048.size a) :
    (M.access (Rect.unit (s := S2x256x2048) o S1x256x2048.size h')).set ⊆ (slotF M o h).view.set := by
  exact (View.set_reshape (M.view.slice (Rect.unit (s := S2x256x2048) o S1x256x2048.size h)) squeezes_S1x256x2048_S256x2048.numel_eq).ge

/-- A slot read at the buffer's rank. -/
theorem readAt_slotA (M : Memref sig .tc .vmem S2x256x6144 .bf16) (o : Fin 3 → ℕ) (h h' : ∀ a, o a + S1x256x6144.size a ≤ S2x256x6144.size a)
    (X : Vec F S256x6144 .bf16) :
    M.view.readAt (Elt F) (Rect.unit (s := S2x256x6144) o S1x256x6144.size h').toLoadRect ((slotA M o h).view.rep X) = shapeCast S1x256x6144 X (by decide) := by
  rw [← View.read_rep (Val := Elt F) (slotA M o h).view X]
  funext j
  show _ = M.view.read (Elt F) _ ((Rect.unit (s := S2x256x6144) o S1x256x6144.size h).emb (Shape.reshapeEquiv _ (Shape.reshapeEquiv _ j)))
  rw [Shape.reshapeEquiv_reshapeEquiv, Shape.reshapeEquiv_self, View.read_rep]
  rfl

theorem readAt_slotF (M : Memref sig .tc .vmem S2x256x2048 .f32) (o : Fin 3 → ℕ) (h h' : ∀ a, o a + S1x256x2048.size a ≤ S2x256x2048.size a)
    (X : Vec F S256x2048 .f32) :
    M.view.readAt (Elt F) (Rect.unit (s := S2x256x2048) o S1x256x2048.size h').toLoadRect ((slotF M o h).view.rep X) = up1 X := by
  rw [← View.read_rep (Val := Elt F) (slotF M o h).view X]
  funext j
  show _ = M.view.read (Elt F) _ ((Rect.unit (s := S2x256x2048) o S1x256x2048.size h).emb (Shape.reshapeEquiv _ (Shape.reshapeEquiv _ j)))
  rw [Shape.reshapeEquiv_reshapeEquiv, Shape.reshapeEquiv_self, View.read_rep]
  rfl

/-- A slot written at the buffer's rank. -/
theorem read_slotF (M : Memref sig .tc .vmem S2x256x2048 .f32) (o : Fin 3 → ℕ) (h h' : ∀ a, o a + S1x256x2048.size a ≤ S2x256x2048.size a)
    (g : M.view.ty.Contents (Elt F)) (w : Vec F S1x256x2048 .f32) :
    (slotF M o h).view.read (Elt F) (M.view.writes (Elt F) g [⟨Rect.unit (s := S2x256x2048) o S1x256x2048.size h', w⟩])
      = shapeCast S256x2048 w (by decide) := by
  funext j
  show M.view.read (Elt F) (M.view.writes (Elt F) g _) ((Rect.unit (s := S2x256x2048) o S1x256x2048.size h).emb (Shape.reshapeEquiv _ j)) = _
  exact View.read_slice_write_emb (v := M.view) (Rect.unit (s := S2x256x2048) o S1x256x2048.size h') g w (Finset.mem_univ _)

/-- A store of a slot at the buffer's rank leaves the slot holding what was stored. -/
theorem store_slotF (c : Dev nD) (M : Memref sig .tc .vmem S2x256x2048 .f32) (o : Fin 3 → ℕ) (h h' : ∀ a, o a + S1x256x2048.size a ≤ S2x256x2048.size a)
    (w : Vec F S1x256x2048 .f32) (hx) (hm) (f : Buf (Elt F) ((slotF M o h).view.loc (c : Thread nD τ)))
    (k : PUnit → Prog (TpuEff nD τ sig (Elt F) Λ₀ .tc) Unit) (Q : Unit → sProp 𝕄) :
    iprop(own c (slotF M o h) f ∗ (own c (slotF M o h) ((slotF M o h).view.rep (shapeCast S256x2048 w (by decide)))
        -∗ wp frame (wpE (defs₀ (F := F)) Variants.none c none) Set.univ (k ⟨⟩) Q))
      ⊢ wp frame (wpE (defs₀ (F := F)) Variants.none c none) Set.univ
          (Prog.lift (.store M (Rect.unit (s := S2x256x2048) o S1x256x2048.size h') w Finset.univ hx hm) >>= k) Q := by
  iintro ⟨H, Hk⟩
  iapply (wp_store Variants.none (c : Thread nD τ) none Set.univ (m := M) (r := Rect.unit (s := S2x256x2048) o S1x256x2048.size h')
    (S := (slotF M o h).view.set) (by rw [View.setOn_univ]; exact slotF_sub M o h h')) $$ H
  iintro H
  iapply Hk
  iapply (pointsTo_rep_of_read (c : Thread nD τ) (slotF M o h) _ fullShare _ (read_slotF M o h h' f w))
  iexact H

/-- The second result set to zero. -/
theorem store_zero (c : Dev nD) (M : Memref sig .tc .vmem S8x2048 .f32) (w : Vec F S8x2048 .f32) (hx) (hm) (f : Buf (Elt F) (M.view.loc (c : Thread nD τ)))
    (k : PUnit → Prog (TpuEff nD τ sig (Elt F) Λ₀ .tc) Unit) (Q : Unit → sProp 𝕄) :
    iprop(own c M f ∗ (own c M (M.view.rep w) -∗ wp frame (wpE (defs₀ (F := F)) Variants.none c none) Set.univ (k ⟨⟩) Q))
      ⊢ wp frame (wpE (defs₀ (F := F)) Variants.none c none) Set.univ
          (Prog.lift (.store M (Rect.unit (s := S8x2048) ![0, 0] S8x2048.size inb_S8x2048_S8x2048_0_0) w Finset.univ hx hm) >>= k) Q := by
  iintro ⟨H, Hk⟩
  iapply (wp_store Variants.none (c : Thread nD τ) none Set.univ (m := M) (r := Rect.unit (s := S8x2048) ![0, 0] S8x2048.size inb_S8x2048_S8x2048_0_0)
    (S := M.view.set) (by rw [View.setOn_univ]; exact View.set_slice_subset _ _)) $$ H
  iintro H
  iapply Hk
  iapply (pointsTo_rep_of_read (c : Thread nD τ) M _ fullShare _ (View.read_writes_full M.view f inb_S8x2048_S8x2048_0_0 w []))
  iexact H

/-- A step, then the rest. -/
theorem seq_run {β : Type} {p : Prog (TpuEff nD τ sig (Elt F) Λ₀ .tc) PUnit} {k : PUnit → Prog (TpuEff nD τ sig (Elt F) Λ₀ .tc) β} {P R : sProp 𝕄} {Q : β → sProp 𝕄}
    {c : Dev nD} (h : P ⊢ wp frame (wpE (defs₀ (F := F)) Variants.none c none) Set.univ p (fun _ => R)) :
    iprop(P ∗ (R -∗ wp frame (wpE (defs₀ (F := F)) Variants.none c none) Set.univ (k ⟨⟩) Q))
      ⊢ wp frame (wpE (defs₀ (F := F)) Variants.none c none) Set.univ (p >>= k) Q := by
  rw [wp_bind]
  iintro ⟨HP, Hk⟩
  iapply (wp_wand_r Idealize.ShloMosaic.frame (wpE (defs₀ (F := F)) Variants.none c none) Set.univ)
  isplitl [HP]; · iapply h; iexact HP
  iintro %_ H
  iapply Hk; iexact H

section Copies
variable {s : Shape} {e : EltTy} (c : Dev nD) (A : Memref sig .tc .hbm s e) (B : Memref sig .tc .vmem s e) (S : DmaSem sig)
  (wA : A.view.WordExact) (wB : B.view.WordExact) (hn : 0 < s.numel) (X : s.Idx → Elt F e)

/-- A copy in, started. -/
abbrev askP : Prog (TpuEff nD τ sig (Elt F) Λ₀ .tc) PUnit := Prog.lift (.enqueueDma A (.here B) (.dma S) wA wB ⟨Or.inl rfl, trivial⟩)
/-- A copy in, waited for. -/
abbrev gotP : Prog (TpuEff nD τ sig (Elt F) Λ₀ .tc) PUnit := Prog.lift (.waitDma2 S A B wA wB)
/-- A copy out, waited for. -/
abbrev putP : Prog (TpuEff nD τ sig (Elt F) Λ₀ .tc) PUnit := Prog.lift (.waitDma2 S B A wB wA)

/-- A semaphore at rest and a slot free. -/
abbrev spare : sProp 𝕄 := iprop(semVal ((c : Thread nD τ), SemLoc.dma S) 0 ∗ ∃ f, own (F := F) c B f)

include hn in
theorem ask_run : iprop(own c A (A.view.rep X) ∗ spare (F := F) c B S)
    ⊢ wp frame (wpE (defs₀ (F := F)) Variants.none c none) Set.univ (askP A B S wA wB) (fun _ => flies c S A B X) := by
  iintro ⟨Hb, Hs, ⟨%f, H8⟩⟩
  have hp := B.view.amount_pos (SemLoc.dma S) hn
  sl_exec
  sl_step
  ihave Hs := (Transfers.Flight_mono (countersEmb (U := UD sig nD τ)) (c : Thread nD τ)
    (delivery_rep (c : Thread nD τ) A B fullShare fullShare _ f _ _ rfl (View.read_rep _ _))) $$ [Hs]
  · iexact Hs
  iexact Hs

include hn in
theorem got_run : iprop(flies c S A B X ∗ ∃ W, owes (c : Thread nD τ) 0 W)
    ⊢ wp frame (wpE (defs₀ (F := F)) Variants.none c none) Set.univ (gotP A B S wA wB)
      (fun _ => iprop(semVal ((c : Thread nD τ), SemLoc.dma S) 0 ∗ own c B (B.view.rep X) ∗ own c A (A.view.rep X) ∗ ∃ W, owes (c : Thread nD τ) 0 W)) := by
  iintro ⟨Hf, ⟨%W, Hw⟩⟩
  have hp := B.view.amount_pos (SemLoc.dma S) hn
  sl_exec
  sl_step
  isplitl [Hf]; · iexact Hf
  isplitl [Hf_dst]; · iexact Hf_dst
  isplitl [Hf_src]; · iexact Hf_src
  iexists _; iexact Hw

include hn in
theorem put_run : iprop(flies c S B A X ∗ ∃ W, owes (c : Thread nD τ) 0 W)
    ⊢ wp frame (wpE (defs₀ (F := F)) Variants.none c none) Set.univ (putP A B S wA wB)
      (fun _ => iprop(own c A (A.view.rep X) ∗ spare (F := F) c B S ∗ ∃ W, owes (c : Thread nD τ) 0 W)) := by
  iintro ⟨Hf, ⟨%W, Hw⟩⟩
  have hp := A.view.amount_pos (SemLoc.dma S) hn
  sl_exec
  sl_step
  isplitl [Hf_dst]; · iexact Hf_dst
  isplitl [Hf Hf_src]
  · isplitl [Hf]; · iexact Hf
    iexists _; iexact Hf_src
  iexists _; iexact Hw

end Copies

/-! ## One block of rows -/

section Trip
variable (c : Dev nD) (bA : Memref sig .tc .hbm S256x6144 .bf16) (bP bX bH bO : Memref sig .tc .hbm S256x2048 .f32)
  (M5 : Memref sig .tc .vmem S1x2048 .f32) (M7 : Memref sig .tc .vmem S8x2048 .f32) (M8 : Memref sig .tc .vmem S6144x2048 .bf16)
  (M9 : Memref sig .tc .vmem S2x256x6144 .bf16) (M10 M11 M12 M13 : Memref sig .tc .vmem S2x256x2048 .f32) (sA sP sX sH sO : DmaSem sig)
  (oA oA' : Fin 3 → ℕ) (hA : ∀ a, oA a + S1x256x6144.size a ≤ S2x256x6144.size a) (hA' : ∀ a, oA' a + S1x256x6144.size a ≤ S2x256x6144.size a)
  (oF oF' : Fin 3 → ℕ) (hF : ∀ a, oF a + S1x256x2048.size a ≤ S2x256x2048.size a) (hF' : ∀ a, oF' a + S1x256x2048.size a ≤ S2x256x2048.size a)
  (w1 : bA.view.WordExact) (w2 : (slotA M9 oA hA).view.WordExact)
  (fetch drain : Prog (TpuEff nD τ sig (Elt F) Λ₀ .tc) PUnit)
  (a : Vec F S256x6144 .bf16) (p x h : Vec F S256x2048 .f32) (w : Vec F S6144x2048 .bf16) (n : Vec F S1x2048 .f32) (acc : Vec F S8x2048 .f32)

theorem wf {sp : Space} (M : Memref sig .tc sp S256x2048 .f32) : M.view.WordExact := View.wordExact_bits rfl
theorem pos2048 : 0 < S256x2048.numel := by decide
theorem pos6144 : 0 < S256x6144.numel := by decide
theorem posW : 0 < S6144x2048.numel := by decide +kernel

/-- The four copies in of a block, started. -/
abbrev ask4 : Prog (TpuEff nD τ sig (Elt F) Λ₀ .tc) PUnit :=
  askP bA (slotA M9 oA hA) sA w1 w2 >>= fun _ => askP bP (slotF M10 oF hF) sP (wf _) (wf _) >>= fun _ =>
    askP bX (slotF M11 oF hF) sX (wf _) (wf _) >>= fun _ => askP bH (slotF M12 oF hF) sH (wf _) (wf _)

/-- The four blocks, at home. -/
abbrev home4 : sProp 𝕄 := iprop(own c bA (bA.view.rep a) ∗ own c bP (bP.view.rep p) ∗ own c bX (bX.view.rep x) ∗ own c bH (bH.view.rep h))
/-- The four slots, free. -/
abbrev spare4 : sProp 𝕄 := iprop(spare (F := F) c (slotA M9 oA hA) sA ∗ spare (F := F) c (slotF M10 oF hF) sP ∗ spare (F := F) c (slotF M11 oF hF) sX
  ∗ spare (F := F) c (slotF M12 oF hF) sH)
/-- The four copies in, in flight. -/
abbrev flies4 : sProp 𝕄 := iprop(flies c sA bA (slotA M9 oA hA) a ∗ flies c sP bP (slotF M10 oF hF) p ∗ flies c sX bX (slotF M11 oF hF) x
  ∗ flies c sH bH (slotF M12 oF hF) h)

theorem ask4_run : iprop(home4 c bA bP bX bH a p x h ∗ spare4 (F := F) c M9 M10 M11 M12 sA sP sX sH oA hA oF hF)
    ⊢ wp frame (wpE (defs₀ (F := F)) Variants.none c none) Set.univ (ask4 bA bP bX bH M9 M10 M11 M12 sA sP sX sH oA hA oF hF w1 w2)
      (fun _ => flies4 c bA bP bX bH M9 M10 M11 M12 sA sP sX sH oA hA oF hF a p x h) := by
  unfold ask4
  iintro ⟨⟨A, P, X, H⟩, SA, SP, SX, SH⟩
  iapply (seq_run (ask_run c bA (slotA M9 oA hA) sA w1 w2 pos6144 a))
  isplitl [A SA]; · isplitl [A] <;> iassumption
  iintro A
  iapply (seq_run (ask_run c bP (slotF M10 oF hF) sP (wf _) (wf _) pos2048 p))
  isplitl [P SP]; · isplitl [P] <;> iassumption
  iintro P
  iapply (seq_run (ask_run c bX (slotF M11 oF hF) sX (wf _) (wf _) pos2048 x))
  isplitl [X SX]; · isplitl [X] <;> iassumption
  iintro X
  iapply (wp_wand_r Idealize.ShloMosaic.frame (wpE (defs₀ (F := F)) Variants.none c none) Set.univ)
  isplitl [H SH]
  · iapply (ask_run c bH (slotF M12 oF hF) sH (wf _) (wf _) pos2048 h)
    isplitl [H] <;> iassumption
  iintro %_ H
  isplitl [A]; · iexact A
  isplitl [P]; · iexact P
  isplitl [X] <;> iassumption

/-- One block of rows: it is waited for, the next one asked for, the results' share taken and stored, and the copy out started. -/
def trip : Prog (TpuEff nD τ sig (Elt F) Λ₀ .tc) Unit := do
  gotP bA (slotA M9 oA hA) sA w1 w2
  gotP bP (slotF M10 oF hF) sP (wf _) (wf _)
  gotP bX (slotF M11 oF hF) sX (wf _) (wf _)
  gotP bH (slotF M12 oF hF) sH (wf _) (wf _)
  fetch
  let v86 : Vec F S1x256x2048 .f32 ← Prog.lift (.load M10 (Rect.unit (s := S2x256x2048) oF' S1x256x2048.size hF').toLoadRect (View.loadsAt_vmem h_S1x256x2048))
  let v89 : Vec F S1x256x6144 .bf16 ← Prog.lift (.load M9 (Rect.unit (s := S2x256x6144) oA' S1x256x6144.size hA').toLoadRect (View.loadsAt_vmem h_S1x256x6144))
  let v91 : Vec F S6144x2048 .bf16 ← Prog.lift (.load M8 (Rect.unit (s := S6144x2048) ![0, 0] S6144x2048.size inb_S6144x2048_S6144x2048_0_0).toLoadRect (View.loadsAt_vmem h_S6144x2048))
  let v95 : Vec F S1x256x2048 .f32 ← Prog.lift (.load M11 (Rect.unit (s := S2x256x2048) oF' S1x256x2048.size hF').toLoadRect (View.loadsAt_vmem h_S1x256x2048))
  let v107 : Vec F S1x2048 .f32 ← Prog.lift (.load M5 (Rect.unit (s := S1x2048) ![0, 0] S1x2048.size inb_S1x2048_S1x2048_0_0).toLoadRect (View.loadsAt_vmem h_S1x2048))
  let v111 : Vec F S1x256x2048 .f32 ← Prog.lift (.load M12 (Rect.unit (s := S2x256x2048) oF' S1x256x2048.size hF').toLoadRect (View.loadsAt_vmem h_S1x256x2048))
  let v124 : Vec F S1x2048 .f32 ← Prog.lift (.load M7 (Rect.unit (s := S8x2048) ![0, 0] S1x2048.size inb_S8x2048_S1x2048_0_0).toLoadRect (View.loadsAt_vmem h_S1x2048))
  let v130 : Vec F S1x2048 .f32 ← Prog.lift (.load M7 (Rect.unit (s := S8x2048) ![0, 0] S1x2048.size inb_S8x2048_S1x2048_0_0).toLoadRect (View.loadsAt_vmem h_S1x2048))
  Prog.lift (.store M7 (Rect.unit (s := S8x2048) ![0, 0] S1x2048.size inb_S8x2048_S1x2048_0_0) (k0_pay6 (k0_pay2 v86 v89 v91) (k0_pay5 v95) v124) Finset.univ
    (View.stores_vmem_bits_univ h_S1x2048 rfl) (.inl rfl))
  drain
  let v135 : Vec F S1x256x2048 .f32 ← Prog.lift (.load M13 (Rect.unit (s := S2x256x2048) oF' S1x256x2048.size hF').toLoadRect (View.loadsAt_vmem h_S1x256x2048))
  Prog.lift (.store M13 (Rect.unit (s := S2x256x2048) oF' S1x256x2048.size hF') (k0_pay7 (k0_pay2 v86 v89 v91) (k0_pay4 v95) (k0_pay5 v95) v107 v111) Finset.univ
    (View.stores_vmem_bits_univ h_S1x256x2048 rfl) (.inl rfl))
  Prog.lift (.enqueueDma (slotF M13 oF hF) (.here bO) (.dma sO) (wf _) (wf _) ⟨Or.inl rfl, trivial⟩)
  pure ⟨⟩

set_option maxHeartbeats 3200000 in
theorem trip_run (eA : oA' = oA) (eF : oF' = oF) (fO : Buf (Elt F) (bO.view.loc (c : Thread nD τ))) {Pf Qf Pd Qd : sProp 𝕄}
    (hf : Pf ⊢ wp frame (wpE (defs₀ (F := F)) Variants.none c none) Set.univ fetch (fun _ => Qf))
    (hd : iprop(Pd ∗ ∃ W, owes (c : Thread nD τ) 0 W) ⊢ wp frame (wpE (defs₀ (F := F)) Variants.none c none) Set.univ drain
      (fun _ => iprop(Qd ∗ spare (F := F) c (slotF M13 oF hF) sO ∗ ∃ W, owes (c : Thread nD τ) 0 W)))
    (K : Unit → sProp 𝕄) :
    iprop(flies4 c bA bP bX bH M9 M10 M11 M12 sA sP sX sH oA hA oF hF a p x h ∗ own c M5 (M5.view.rep n) ∗ own c M7 (M7.view.rep acc) ∗ own c M8 (M8.view.rep w)
        ∗ own c bO fO ∗ Pf ∗ Pd ∗ (∃ W, owes (c : Thread nD τ) 0 W)
        ∗ (iprop(home4 c bA bP bX bH a p x h ∗ spare4 (F := F) c M9 M10 M11 M12 sA sP sX sH oA hA oF hF ∗ own c M5 (M5.view.rep n)
            ∗ own c M7 (M7.view.rep (accStep acc a p x w)) ∗ own c M8 (M8.view.rep w)
            ∗ flies c sO (slotF M13 oF hF) bO (res a p x h w n) ∗ Qf ∗ Qd ∗ ∃ W, owes (c : Thread nD τ) 0 W) -∗ K ⟨⟩))
      ⊢ wp frame (wpE (defs₀ (F := F)) Variants.none c none) Set.univ
          (trip bA bP bX bH bO M5 M7 M8 M9 M10 M11 M12 M13 sA sP sX sH sO oA oA' hA hA' oF oF' hF hF' w1 w2 fetch drain) K := by
  subst eA; subst eF
  have hinA := slotA_sub M9 oA' hA hA'
  have hinP := slotF_sub M10 oF' hF hF'
  have hinX := slotF_sub M11 oF' hF hF'
  have hinH := slotF_sub M12 oF' hF hF'
  have hinO := slotF_sub M13 oF' hF hF'
  unfold trip
  iintro ⟨⟨FA, FP, FX, FH⟩, H5, H7, H8, HO, Hf, Hd, Hw, Hk⟩
  iapply (seq_run (got_run c bA (slotA M9 oA' hA) sA w1 w2 pos6144 a))
  isplitl [FA Hw]; · isplitl [FA] <;> iassumption
  iintro ⟨SA, DA, BA, Hw⟩
  iapply (seq_run (got_run c bP (slotF M10 oF' hF) sP (wf _) (wf _) pos2048 p))
  isplitl [FP Hw]; · isplitl [FP] <;> iassumption
  iintro ⟨SP, DP, BP, Hw⟩
  iapply (seq_run (got_run c bX (slotF M11 oF' hF) sX (wf _) (wf _) pos2048 x))
  isplitl [FX Hw]; · isplitl [FX] <;> iassumption
  iintro ⟨SX, DX, BX, Hw⟩
  iapply (seq_run (got_run c bH (slotF M12 oF' hF) sH (wf _) (wf _) pos2048 h))
  isplitl [FH Hw]; · isplitl [FH] <;> iassumption
  iintro ⟨SH, DH, BH, Hw⟩
  iapply (seq_run hf)
  isplitl [Hf]; · iexact Hf
  iintro Hf
  sl_exec
  rw [show trip_run.sl.v86 M10 oF' hF' p hF = up1 p from readAt_slotF M10 oF' hF hF' p,
    show trip_run.sl.v89 M9 oA' hA' a hA = shapeCast S1x256x6144 a (by decide) from readAt_slotA M9 oA' hA hA' a,
    show trip_run.sl.v95 M11 oF' hF' x hF = up1 x from readAt_slotF M11 oF' hF hF' x,
    show trip_run.sl.v111 M12 oF' hF' h hF = up1 h from readAt_slotF M12 oF' hF hF' h,
    View.readAt_rep_full M8.view w, View.readAt_rep_full M5.view n,
    View.readAt_rep_unit M7.view acc inb_S8x2048_S1x2048_0_0 rfl inb_S8x2048_S1x2048_0_0]
  ihave H7 := (pointsTo_rep_of_read (c : Thread nD τ) M7 _ fullShare _ (View.read_writes_rep_unit M7.view acc inb_S8x2048_S1x2048_0_0 _ rfl)) $$ H7
  iapply (seq_run hd)
  isplitl [Hd Hw]; · isplitl [Hd] <;> iassumption
  iintro ⟨Hd, ⟨HsO, ⟨%f9, H9⟩⟩, ⟨%W', Hw⟩⟩
  sl_exec
  iapply (store_slotF c M13 oF' hF hF' _ _ _ f9)
  isplitl [H9]; · iexact H9
  iintro H9
  sl_exec
  ihave HsO := (Transfers.Flight_mono (countersEmb (U := UD sig nD τ)) (c : Thread nD τ)
    (delivery_rep (c : Thread nD τ) (slotF M13 oF' hF) bO fullShare fullShare _ fO _ _ rfl (View.read_rep _ _))) $$ [HsO]
  · iexact HsO
  rw [show ∀ p : Prog (TpuEff nD τ sig (Elt F) Λ₀ .tc) Unit, (Prog.ret PUnit.unit).bind (fun _ => p) = p from fun _ => rfl]
  sl_step
  iapply Hk
  isplitl [BA BP BX BH]
  · isplitl [BA]; · iexact BA
    isplitl [BP]; · iexact BP
    isplitl [BX] <;> iassumption
  isplitl [SA DA SP DP SX DX SH DH]
  · isplitl [SA DA]
    · isplitl [SA]; · iexact SA
      iexists _; iexact DA
    isplitl [SP DP]
    · isplitl [SP]; · iexact SP
      iexists _; iexact DP
    isplitl [SX DX]
    · isplitl [SX]; · iexact SX
      iexists _; iexact DX
    isplitl [SH]; · iexact SH
    iexists _; iexact DH
  isplitl [H5]; · iexact H5
  isplitl [H7]; · iexact H7
  isplitl [H8]; · iexact H8
  isplitl [HsO]; · iexact HsO
  isplitl [Hf]; · iexact Hf
  isplitl [Hd]; · iexact Hd
  iexists _; iexact Hw

end Trip

/-! ## The blocks in turn -/

abbrev offS (s : Fin 2) : Fin 3 → ℕ := ![s.val, 0, 0]
theorem inbA : ∀ s a, offS s a + S1x256x6144.size a ≤ S2x256x6144.size a := by decide +kernel
theorem inbF : ∀ s a, offS s a + S1x256x2048.size a ≤ S2x256x2048.size a := by decide +kernel

/-- The arrays by blocks, the buffers and the semaphores. -/
structure Env where
  bA : Fin 32 → Memref sig .tc .hbm S256x6144 .bf16
  (bP bX bH bO : Fin 32 → Memref sig .tc .hbm S256x2048 .f32)
  M5 : Memref sig .tc .vmem S1x2048 .f32
  M7 : Memref sig .tc .vmem S8x2048 .f32
  M8 : Memref sig .tc .vmem S6144x2048 .bf16
  M9 : Memref sig .tc .vmem S2x256x6144 .bf16
  (M10 M11 M12 M13 : Memref sig .tc .vmem S2x256x2048 .f32)
  (sA sP sX sH sO : Fin 2 → DmaSem sig)
  w1 : ∀ b, (bA b).view.WordExact
  w2 : ∀ s, (slotA M9 (offS s) (inbA s)).view.WordExact

/-- The operands' values, block by block. -/
structure Vals (F : FTy → Type) [FloatOps F] where
  A : Fin 32 → Vec F S256x6144 .bf16
  (P X H : Fin 32 → Vec F S256x2048 .f32)
  W : Vec F S6144x2048 .bf16
  N : Vec F S1x2048 .f32

/-- The zero the second result starts from. -/
abbrev acc0 : Vec F S8x2048 .f32 := k0_pay1 (Scalar.ofBits .f32 0x00000000#32)
/-- The second result before trip `k`. -/
def accAt (V : Vals F) : ℕ → Vec F S8x2048 .f32
  | 0 => acc0
  | k + 1 => accStep (accAt V k) (V.A (bk 32 k)) (V.P (bk 32 k)) (V.X (bk 32 k)) V.W

section Ring
variable (E : Env) (c : Dev nD) (V : Vals F)

abbrev askE (b : Fin 32) (s : Fin 2) : Prog (TpuEff nD τ sig (Elt F) Λ₀ .tc) PUnit :=
  ask4 (E.bA b) (E.bP b) (E.bX b) (E.bH b) E.M9 E.M10 E.M11 E.M12 (E.sA s) (E.sP s) (E.sX s) (E.sH s) (offS s) (inbA s) (offS s) (inbF s) (E.w1 b) (E.w2 s)
abbrev settleE (b : Fin 32) (s : Fin 2) : Prog (TpuEff nD τ sig (Elt F) Λ₀ .tc) PUnit :=
  putP (E.bO b) (slotF E.M13 (offS s) (inbF s)) (E.sO s) (wf _) (wf _)
/-- The trip of block `k`. -/
abbrev tripE (k : ℕ) : Prog (TpuEff nD τ sig (Elt F) Λ₀ .tc) Unit :=
  trip (E.bA (bk 32 k)) (E.bP (bk 32 k)) (E.bX (bk 32 k)) (E.bH (bk 32 k)) (E.bO (bk 32 k)) E.M5 E.M7 E.M8 E.M9 E.M10 E.M11 E.M12 E.M13
    (E.sA (sl 2 k)) (E.sP (sl 2 k)) (E.sX (sl 2 k)) (E.sH (sl 2 k)) (E.sO (sl 2 k)) (offS (sl 2 k)) (offS (sl 2 k)) (inbA _) (inbA _) (offS (sl 2 k)) (offS (sl 2 k)) (inbF _) (inbF _)
    (E.w1 _) (E.w2 _) (if k + 1 < 32 then askE E (bk 32 (k + 1)) (sl 2 (k + 1)) else pure ⟨⟩) (if 2 ≤ k then settleE E (bk 32 (k - 2)) (sl 2 k) else pure ⟨⟩)

abbrev freeI (s : Fin 2) : sProp 𝕄 :=
  spare4 (F := F) c E.M9 E.M10 E.M11 E.M12 (E.sA s) (E.sP s) (E.sX s) (E.sH s) (offS s) (inbA s) (offS s) (inbF s)
abbrev inflI (s : Fin 2) (b : Fin 32) : sProp 𝕄 :=
  flies4 c (E.bA b) (E.bP b) (E.bX b) (E.bH b) E.M9 E.M10 E.M11 E.M12 (E.sA s) (E.sP s) (E.sX s) (E.sH s) (offS s) (inbA s) (offS s) (inbF s)
    (V.A b) (V.P b) (V.X b) (V.H b)
abbrev homeI (b : Fin 32) : sProp 𝕄 := home4 c (E.bA b) (E.bP b) (E.bX b) (E.bH b) (V.A b) (V.P b) (V.X b) (V.H b)
abbrev resE (b : Fin 32) : Vec F S256x2048 .f32 := res (V.A b) (V.P b) (V.X b) (V.H b) V.W V.N
abbrev freeO (s : Fin 2) : sProp 𝕄 := spare (F := F) c (slotF E.M13 (offS s) (inbF s)) (E.sO s)
abbrev inflO (s : Fin 2) (b : Fin 32) : sProp 𝕄 := flies c (E.sO s) (slotF E.M13 (offS s) (inbF s)) (E.bO b) (resE V b)
abbrev aheadO (b : Fin 32) : sProp 𝕄 := iprop(∃ f, own (F := F) c (E.bO b) f)
abbrev behindO (b : Fin 32) : sProp 𝕄 := own c (E.bO b) ((E.bO b).view.rep (resE V b))

/-- Before trip `p`. -/
def inv (p : ℕ) : sProp 𝕄 :=
  iprop(bigSep (homeSet 1 p) (homeI E c V)
    ∗ roleAt (freeI (F := F) E c (sl 2 p)) (inflI E c V (sl 2 p)) p
    ∗ freeI (F := F) E c (sl 2 (p + 1))
    ∗ bigSep (aheadSet p) (aheadO (F := F) E c) ∗ bigSep (behindSet 2 p) (behindO E c V)
    ∗ roleBAt 2 (freeO (F := F) E c (sl 2 p)) (inflO E c V (sl 2 p)) p
    ∗ roleBAt 1 (freeO (F := F) E c (sl 2 (p + 1))) (inflO E c V (sl 2 (p + 1))) p
    ∗ own c E.M5 (E.M5.view.rep V.N) ∗ own c E.M7 (E.M7.view.rep (accAt V p)) ∗ own c E.M8 (E.M8.view.rep V.W) ∗ ∃ W, owes (c : Thread nD τ) 0 W)

theorem role_next (fr : sProp 𝕄) (infl : Fin 32 → sProp 𝕄) (k : ℕ) : roleBAt 2 fr infl (k + 1) = roleBAt 1 fr infl k := by
  by_cases h : 1 ≤ k
  · rw [roleBAt_of_le _ _ _ _ h, roleBAt_of_le _ _ _ _ (by omega), show k + 1 - 2 = k - 1 by omega]
  · rw [roleBAt_of_lt _ _ _ _ (by omega), roleBAt_of_lt _ _ _ _ (by omega)]

theorem home_here (p : ℕ) : bigSep (homeSet (NB := 32) 1 p) (homeI E c V)
    = iprop((if p + 1 < 32 then homeI E c V (bk 32 (p + 1)) else emp) ∗ bigSep (if p + 1 < 32 then (homeSet 1 p).erase (bk 32 (p + 1)) else homeSet 1 p) (homeI E c V)) := by
  split
  · conv_lhs => rw [homeSet_out 1 p ‹_›, BI.bigSep_insert (bkL_not_mem_erase 1 p)]
    rfl
  · exact (BI.equiv_iff.mp BI.emp_sep).symm

theorem home_next (p : ℕ) (hp : p < 32) : bigSep (homeSet (NB := 32) 1 (p + 1)) (homeI E c V)
    = iprop(homeI E c V (bk 32 p) ∗ bigSep (if p + 1 < 32 then (homeSet 1 p).erase (bk 32 (p + 1)) else homeSet 1 p) (homeI E c V)) := by
  split
  · rw [homeSet_succ 1 p ‹_›, BI.bigSep_insert (bk_not_mem_erase 1 p (by omega) (by decide))]; rfl
  · rw [homeSet_succ_tail 1 p (by omega) hp, BI.bigSep_insert (bk_not_mem_homeSet 1 p hp (by decide))]; rfl

theorem behind_next (p : ℕ) (hp : p < 32) : bigSep (behindSet (NB := 32) 2 (p + 1)) (behindO E c V)
    = iprop((if 2 ≤ p then behindO E c V (bk 32 (p - 2)) else emp) ∗ bigSep (behindSet 2 p) (behindO E c V)) := by
  split
  · rw [behindSet_close 2 p ‹_› hp, BI.bigSep_insert (bk_not_mem_behindSet 2 p ‹_› hp)]; rfl
  · rw [behindSet_boot 2 (p + 1) (by omega), behindSet_boot 2 p (by omega)]; exact (BI.equiv_iff.mp BI.emp_sep).symm

set_option maxHeartbeats 1600000 in
theorem step (k : ℕ) (hk : k < 32) :
    inv E c V k ⊢ wp frame (wpE (defs₀ (F := F)) Variants.none c none) Set.univ (tripE E k) (fun _ => inv E c V (k + 1)) := by
  unfold inv
  rw [home_here, home_next _ _ _ _ hk, behind_next _ _ _ _ hk, aheadSet_open k hk, bigSep_put (bk_not_mem_aheadSet_succ k hk),
    roleAt_of_lt _ _ k hk, roleBAt_of_le 1 _ _ (k + 1) (by omega), show sl 2 (k + 1 + 1) = sl 2 k from sl_add 2 k,
    Nat.add_sub_cancel, role_next]
  iintro ⟨⟨Hh, HA⟩, Hf0, Hf1, ⟨⟨%fO, Ha⟩, Has⟩, Hb, Hg0, Hg1, H5, H7, H8, Hw⟩
  unfold tripE
  iapply (trip_run (hA := inbA _) (hA' := inbA _) (hF := inbF _) (hF' := inbF _) (w1 := E.w1 _) (w2 := E.w2 _) (c := c) (eA := rfl) (eF := rfl)
    (a := V.A (bk 32 k)) (p := V.P (bk 32 k)) (x := V.X (bk 32 k)) (h := V.H (bk 32 k)) (w := V.W) (n := V.N) (acc := accAt V k)
    (Pf := iprop((if k + 1 < 32 then homeI E c V (bk 32 (k + 1)) else emp) ∗ freeI (F := F) E c (sl 2 (k + 1))))
    (Qf := roleAt (freeI (F := F) E c (sl 2 (k + 1))) (inflI E c V (sl 2 (k + 1))) (k + 1))
    (Pd := roleBAt 2 (freeO (F := F) E c (sl 2 k)) (inflO E c V (sl 2 k)) k)
    (Qd := iprop(if 2 ≤ k then behindO E c V (bk 32 (k - 2)) else emp))
    (hf := by
      split
      · rw [roleAt_of_lt _ _ _ ‹_›]; exact ask4_run c _ _ _ _ _ _ _ _ _ _ _ _ _ _ _ _ (E.w1 _) (E.w2 _) _ _ _ _
      · rw [roleAt_of_le _ _ _ (by omega)]
        iintro ⟨_, H⟩
        sl_step
        iexact H)
    (hd := by
      split
      · rw [roleBAt_of_le _ _ _ _ ‹_›]; exact put_run c (E.bO _) (slotF E.M13 (offS _) (inbF _)) (E.sO _) (wf _) (wf _) pos2048 _
      · rw [roleBAt_of_lt _ _ _ _ (by omega)]
        iintro ⟨⟨Hs, H9⟩, Hw⟩
        sl_step
        isplitr; · exact .rfl
        isplitl [Hs H9]
        · isplitl [Hs] <;> iassumption
        iexact Hw)
    (fO := fO) (K := _))
  isplitl [Hf0]; · iexact Hf0
  isplitl [H5]; · iexact H5
  isplitl [H7]; · iexact H7
  isplitl [H8]; · iexact H8
  isplitl [Ha]; · iexact Ha
  isplitl [Hh Hf1]; · isplitl [Hh] <;> iassumption
  isplitl [Hg0]; · iexact Hg0
  isplitl [Hw]; · iexact Hw
  iintro ⟨Hb0, Hs, H5, H7, H8, HO, Hf, Hd, Hw⟩
  isplitl [Hb0 HA]; · isplitl [Hb0] <;> iassumption
  isplitl [Hf]; · iexact Hf
  isplitl [Hs]; · iexact Hs
  isplitl [Has]; · iexact Has
  isplitl [Hd Hb]; · isplitl [Hd] <;> iassumption
  isplitl [Hg1]; · iexact Hg1
  isplitl [HO]; · iexact HO
  isplitl [H5]; · iexact H5
  isplitl [H7]; · iexact H7
  isplitl [H8]; · iexact H8
  iexact Hw

theorem home_open : bigSep Finset.univ (homeI E c V) = iprop(homeI E c V (bk 32 0) ∗ bigSep (homeSet 1 0) (homeI E c V)) := by
  have e : (Finset.univ : Finset (Fin 32)) = insert (bk 32 0) (homeSet 1 0) := by decide +kernel
  rw [e, bigSep_put (by decide +kernel)]

theorem behind_close : bigSep Finset.univ (behindO E c V)
    = iprop(behindO E c V (bk 32 30) ∗ behindO E c V (bk 32 31) ∗ bigSep (behindSet 2 32) (behindO E c V)) := by
  have e : (Finset.univ : Finset (Fin 32)) = insert (bk 32 30) (insert (bk 32 31) (behindSet 2 32)) := by decide +kernel
  rw [e, bigSep_put (by decide +kernel), bigSep_put (by decide +kernel)]

/-- The loop: the first block is on its way in, the last two results are on their way out. -/
theorem loop_run (lp : Scf.Loop 32) (hok : lp.OK) (body : Fin lp.trips → PUnit → Prog (TpuEff nD τ sig (Elt F) Λ₀ .tc) PUnit)
    (htr : lp.trips = 32) (hb : ∀ k, body k ⟨⟩ = tripE E k.val) :
    iprop(inflI E c V 0 (bk 32 0) ∗ freeI (F := F) E c 1 ∗ bigSep (homeSet 1 0) (homeI E c V)
        ∗ bigSep Finset.univ (aheadO (F := F) E c) ∗ freeO (F := F) E c 0 ∗ freeO (F := F) E c 1
        ∗ own c E.M5 (E.M5.view.rep V.N) ∗ own c E.M7 (E.M7.view.rep acc0) ∗ own c E.M8 (E.M8.view.rep V.W) ∗ ∃ W, owes (c : Thread nD τ) 0 W)
      ⊢ wp frame (wpE (defs₀ (F := F)) Variants.none c none) Set.univ (Scf.Loop.for lp hok ⟨⟩ body)
        (fun _ => iprop((freeI (F := F) E c 0 ∗ freeI (F := F) E c 1) ∗ bigSep Finset.univ (homeI E c V)
          ∗ bigSep (behindSet 2 32) (behindO E c V) ∗ inflO E c V 0 (bk 32 30) ∗ inflO E c V 1 (bk 32 31)
          ∗ own c E.M5 (E.M5.view.rep V.N) ∗ own c E.M7 (E.M7.view.rep (accAt V 32)) ∗ own c E.M8 (E.M8.view.rep V.W) ∗ ∃ W, owes (c : Thread nD τ) 0 W)) := by
  have hstep : ∀ k : Fin lp.trips, inv E c V k.val
      ⊢ wp frame (wpE (defs₀ (F := F)) Variants.none c none) Set.univ (body k ⟨⟩) (fun _ => inv E c V (k.val + 1)) := by
    intro k; rw [hb k]; exact step (F := F) E c V k.val (by have := k.isLt; omega)
  have h := exec_loop_last (M := 𝕄) frame (wpE (defs₀ (F := F)) Variants.none c none) Set.univ lp.lb lp.ub lp.st hok ⟨⟩ body
    ⟨fun k _ => inv E c V k, fun k _ => hstep k⟩ (Q := fun _ => inv E c V lp.trips)
  have h' : inv E c V 0
      ⊢ iprop((∀ acc : PUnit, inv E c V lp.trips -∗ inv E c V lp.trips)
        -∗ wp frame (wpE (defs₀ (F := F)) Variants.none c none) Set.univ (Scf.Loop.for lp hok ⟨⟩ body) (fun _ => inv E c V lp.trips)) := h
  iintro ⟨Hi0, Hf, Hh, Ha, Hg0, Hg1, H5, H7, H8, Hw⟩
  iapply (wp_wand_r Idealize.ShloMosaic.frame (wpE (defs₀ (F := F)) Variants.none c none) Set.univ)
  isplitl [Hi0 Hf Hh Ha Hg0 Hg1 H5 H7 H8 Hw]
  · iapply h' $$ [Hi0 Hf Hh Ha Hg0 Hg1 H5 H7 H8 Hw]
    · unfold inv
      rw [roleAt_of_lt _ _ 0 (by omega), roleBAt_of_lt _ _ _ 0 (by omega), roleBAt_of_lt _ _ _ 0 (by omega),
        aheadSet_zero, behindSet_boot 2 0 (by omega), BI.bigSep_empty]
      isplitl [Hh]; · iexact Hh
      isplitl [Hi0]; · iexact Hi0
      isplitl [Hf]; · iexact Hf
      isplitl [Ha]; · iexact Ha
      isplitr; · exact .rfl
      isplitl [Hg0]; · iexact Hg0
      isplitl [Hg1]; · iexact Hg1
      isplitl [H5]; · iexact H5
      isplitl [H7]; · iexact H7
      isplitl [H8]; · iexact H8
      iexact Hw
    iintro %acc H
    iexact H
  iintro %_ H
  rw [htr]
  unfold inv
  rw [roleAt_of_le _ _ 32 le_rfl, roleBAt_of_le _ _ _ 32 (by omega), roleBAt_of_le _ _ _ 32 (by omega),
    aheadSet_end 32 le_rfl, homeSet_last 1 32 le_rfl, BI.bigSep_empty, show sl 2 32 = 0 from rfl, show sl 2 (32 + 1) = 1 from rfl]
  icases H with ⟨Hh, Hf0, Hf1, _, Hb, Hg0, Hg1, H5, H7, H8, Hw⟩
  isplitl [Hf0 Hf1]; · isplitl [Hf0] <;> iassumption
  isplitl [Hh]; · iexact Hh
  isplitl [Hb]; · iexact Hb
  isplitl [Hg0]; · iexact Hg0
  isplitl [Hg1]; · iexact Hg1
  isplitl [H5]; · iexact H5
  isplitl [H7]; · iexact H7
  isplitl [H8]; · iexact H8
  iexact Hw

/-- The whole body: the weights and the first block are asked for, the second result set to zero, the loop run and the last two results waited for. -/
theorem prog_run (A : Memref sig .tc .hbm S6144x2048 .bf16) (S : DmaSem sig) (wA : A.view.WordExact) (w8 : E.M8.view.WordExact) (hx1) (hx) (hm)
    (lp : Scf.Loop 32) (hok : lp.OK) (body : Fin lp.trips → PUnit → Prog (TpuEff nD τ sig (Elt F) Λ₀ .tc) PUnit) (htr : lp.trips = 32)
    (hb : ∀ k, body k ⟨⟩ = tripE E k.val) :
    iprop((freeI (F := F) E c 0 ∗ freeI (F := F) E c 1) ∗ (freeO (F := F) E c 0 ∗ freeO (F := F) E c 1)
        ∗ spare (F := F) c E.M8 S ∗ own c A (A.view.rep V.W) ∗ own c E.M5 (E.M5.view.rep V.N) ∗ (∃ f, own c E.M7 f)
        ∗ bigSep Finset.univ (homeI E c V) ∗ bigSep Finset.univ (aheadO (F := F) E c) ∗ ∃ W, owes (c : Thread nD τ) 0 W)
      ⊢ wp frame (wpE (defs₀ (F := F)) Variants.none c none) Set.univ (do
          askP A E.M8 S wA w8
          askE (F := F) E (bk 32 0) 0
          let v24 : Vec F S8x2048 .f32 ← Prog.lift (.load E.M7 (Rect.unit (s := S8x2048) ![0, 0] S8x2048.size inb_S8x2048_S8x2048_0_0).toLoadRect hx1)
          Prog.lift (.store E.M7 (Rect.unit (s := S8x2048) ![0, 0] S8x2048.size inb_S8x2048_S8x2048_0_0) acc0 Finset.univ hx hm)
          gotP A E.M8 S wA w8
          Scf.Loop.for lp hok ⟨⟩ body
          settleE (F := F) E (bk 32 30) 0
          settleE (F := F) E (bk 32 31) 1
          (pure PUnit.unit : Prog (TpuEff nD τ sig (Elt F) Λ₀ .tc) PUnit))
        (fun _ => iprop((freeI (F := F) E c 0 ∗ freeI (F := F) E c 1) ∗ (freeO (F := F) E c 0 ∗ freeO (F := F) E c 1)
          ∗ spare (F := F) c E.M8 S ∗ own c A (A.view.rep V.W) ∗ own c E.M5 (E.M5.view.rep V.N) ∗ own c E.M7 (E.M7.view.rep (accAt V 32))
          ∗ bigSep Finset.univ (homeI E c V) ∗ bigSep Finset.univ (behindO E c V) ∗ ∃ W, owes (c : Thread nD τ) 0 W)) := by
  rw [home_open E c V]
  iintro ⟨⟨F0, F1⟩, ⟨G0, G1⟩, ⟨Hs, H8⟩, HA, H5, ⟨%f7, H7⟩, ⟨Hb, Hh⟩, Ha, Hw⟩
  iapply (seq_run (ask_run c A E.M8 S wA w8 posW V.W))
  isplitl [HA Hs H8]
  · isplitl [HA]; · iexact HA
    isplitl [Hs] <;> iassumption
  iintro HA
  iapply (seq_run (ask4_run c (E.bA (bk 32 0)) (E.bP (bk 32 0)) (E.bX (bk 32 0)) (E.bH (bk 32 0)) E.M9 E.M10 E.M11 E.M12 (E.sA 0) (E.sP 0) (E.sX 0) (E.sH 0)
    (offS 0) (inbA 0) (offS 0) (inbF 0) (E.w1 _) (E.w2 _) (V.A (bk 32 0)) (V.P (bk 32 0)) (V.X (bk 32 0)) (V.H (bk 32 0))))
  isplitl [Hb F0]; · isplitl [Hb] <;> iassumption
  iintro F0
  sl_exec
  ihave H7 := (pointsTo_rep_of_read (c : Thread nD τ) E.M7 _ fullShare _ (View.read_writes_full E.M7.view f7 inb_S8x2048_S8x2048_0_0 acc0 [])) $$ [H7]
  · iexact H7
  iapply (wp_wand_r Idealize.ShloMosaic.frame (wpE (defs₀ (F := F)) Variants.none c none) Set.univ)
  isplitl [HA Hw]
  · iapply (got_run c A E.M8 S wA w8 posW V.W)
    isplitl [HA] <;> iassumption
  iintro %_ ⟨Hs, H8, HA, Hw⟩
  iapply (seq_run (loop_run E c V lp hok body htr hb))
  isplitl [F0 F1 Hh Ha G0 G1 H5 H7 H8 Hw]
  · isplitl [F0]; · iexact F0
    isplitl [F1]; · iexact F1
    isplitl [Hh]; · iexact Hh
    isplitl [Ha]; · iexact Ha
    isplitl [G0]; · iexact G0
    isplitl [G1]; · iexact G1
    isplitl [H5]; · iexact H5
    isplitl [H7]; · iexact H7
    isplitl [H8] <;> iassumption
  iintro ⟨HF, Hh, Hr, G0, G1, H5, H7, H8, Hw⟩
  iapply (seq_run (put_run c (E.bO (bk 32 30)) (slotF E.M13 (offS 0) (inbF 0)) (E.sO 0) (wf _) (wf _) pos2048 (resE V (bk 32 30))))
  isplitl [G0 Hw]; · isplitl [G0] <;> iassumption
  iintro ⟨R0, G0, Hw⟩
  iapply (seq_run (put_run c (E.bO (bk 32 31)) (slotF E.M13 (offS 1) (inbF 1)) (E.sO 1) (wf _) (wf _) pos2048 (resE V (bk 32 31))))
  isplitl [G1 Hw]; · isplitl [G1] <;> iassumption
  iintro ⟨R1, G1, Hw⟩
  sl_step
  rw [behind_close E c V]
  isplitl [HF]; · iexact HF
  isplitl [G0 G1]; · isplitl [G0] <;> iassumption
  isplitl [Hs H8]
  · isplitl [Hs]; · iexact Hs
    iexists _; iexact H8
  isplitl [HA]; · iexact HA
  isplitl [H5]; · iexact H5
  isplitl [H7]; · iexact H7
  isplitl [Hh]; · rw [← home_open E c V]; iexact Hh
  isplitl [R0 R1 Hr]
  · isplitl [R0]; · iexact R0
    isplitl [R1] <;> iassumption
  iexact Hw

end Ring

/-! ## The offsets, read at each trip -/

theorem inRA : ∀ (b : Fin 32) a, (![256 * b.val, 0] : Fin 2 → ℕ) a + S256x6144.size a ≤ S8192x6144.size a := by decide +kernel
theorem inRF : ∀ (b : Fin 32) a, (![256 * b.val, 0] : Fin 2 → ℕ) a + S256x2048.size a ≤ S8192x2048.size a := by decide +kernel

/-- Block `b` of the rows of an array 6144 (2048) wide. -/
abbrev rowA (A : Memref sig .tc .hbm S8192x6144 .bf16) (b : Fin 32) : Memref sig .tc .hbm S256x6144 .bf16 :=
  A.slice (Rect.unit (s := S8192x6144) ![256 * b.val, 0] S256x6144.size (inRA b)) (fun _ => rfl)
abbrev rowF (A : Memref sig .tc .hbm S8192x2048 .f32) (b : Fin 32) : Memref sig .tc .hbm S256x2048 .f32 :=
  A.slice (Rect.unit (s := S8192x2048) ![256 * b.val, 0] S256x2048.size (inRF b)) (fun _ => rfl)

abbrev semAt (S : DmaSems sig S3) (o : Fin 1 → ℕ) (h : ∀ a, o a + S1.size a ≤ S3.size a) : DmaSem sig :=
  ((S.slice (Rect.unit (s := S3) o S1.size h)).squeeze S_ squeezes_S1_S_).sem
abbrev sem2At (S : DmaSems sig S2x4) (o : Fin 2 → ℕ) (h : ∀ a, o a + S1x1.size a ≤ S2x4.size a) : DmaSem sig :=
  ((S.slice (Rect.unit (s := S2x4) o S1x1.size h)).squeeze S_ squeezes_S1x1_S_).sem
theorem inbSO : ∀ (s : Fin 2) a, (![s.val] : Fin 1 → ℕ) a + S1.size a ≤ S3.size a := by decide +kernel
theorem inbSI : ∀ (j : Fin 4) (s : Fin 2) a, (![s.val, j.val] : Fin 2 → ℕ) a + S1x1.size a ≤ S2x4.size a := by decide +kernel
abbrev semO (S : DmaSems sig S3) (s : Fin 2) : DmaSem sig := semAt S ![s.val] (inbSO s)
abbrev semI (S : DmaSems sig S2x4) (j : Fin 4) (s : Fin 2) : DmaSem sig := sem2At S ![s.val, j.val] (inbSI j s)

theorem semAt_congr (S : DmaSems sig S3) {o o' : Fin 1 → ℕ} (h h') (e : o = o') : semAt S o h = semAt S o' h' := by subst e; rfl
theorem sem2At_congr (S : DmaSems sig S2x4) {o o' : Fin 2 → ℕ} (h h') (e : o = o') : sem2At S o h = sem2At S o' h' := by subst e; rfl
theorem slice_congr {sp : Space} {s : Shape} {e : EltTy} (A : Memref sig .tc sp s e) {o o' : Fin s.rank → ℕ} {sz : Fin s.rank → ℕ} (h h') (e : o = o') :
    A.slice (Rect.unit (s := s) o sz h) (fun _ => rfl) = A.slice (Rect.unit (s := s) o' sz h') (fun _ => rfl) := by subst e; rfl
theorem words_congr {s : Shape} {o o' : Fin s.rank → ℕ} {sz : Fin s.rank → ℕ} {n : ℕ} {h} (h') (e : o = o')
    (w : (Rect.unit (s := s) o sz h).WholeWords n) : (Rect.unit (s := s) o' sz h').WholeWords n := by subst e; exact w

/-- A guarded step, its guard read as a fact of the trip's number. -/
theorem guard_eq {b : BitVec 1} {P : Prop} [Decidable P] (hc : b = 1#1 ↔ P) {p : b = 1#1 → Prog (TpuEff nD τ sig (Elt F) Λ₀ .tc) PUnit}
    {q : Prog (TpuEff nD τ sig (Elt F) Λ₀ .tc) PUnit} (h : P → ∀ c, p c = q) :
    (if c : b = 1#1 then p c else pure ⟨⟩) = if P then q else pure ⟨⟩ := by
  by_cases c : P
  · rw [dif_pos (hc.2 c), if_pos c, h c]
  · rw [dif_neg (mt hc.1 c), if_neg c]

theorem ask4_congr {bA bA' : Memref sig .tc .hbm S256x6144 .bf16} {bP bP' bX bX' bH bH' : Memref sig .tc .hbm S256x2048 .f32}
    (M9 : Memref sig .tc .vmem S2x256x6144 .bf16) (M10 M11 M12 : Memref sig .tc .vmem S2x256x2048 .f32) {sA sA' sP sP' sX sX' sH sH' : DmaSem sig}
    {oA oA' oF oF' : Fin 3 → ℕ} {hA hA' hF hF'} {w1 w1' w2 w2'} (e1 : bA = bA') (e2 : bP = bP') (e3 : bX = bX') (e4 : bH = bH')
    (e5 : sA = sA') (e6 : sP = sP') (e7 : sX = sX') (e8 : sH = sH') (e9 : oA = oA') (e10 : oF = oF') :
    ask4 (F := F) bA bP bX bH M9 M10 M11 M12 sA sP sX sH oA hA oF hF w1 w2 = ask4 bA' bP' bX' bH' M9 M10 M11 M12 sA' sP' sX' sH' oA' hA' oF' hF' w1' w2' := by
  subst e1 e2 e3 e4 e5 e6 e7 e8 e9 e10; rfl

theorem putP_congr (M : Memref sig .tc .vmem S2x256x2048 .f32) {bO bO' : Memref sig .tc .hbm S256x2048 .f32} {s s' : DmaSem sig} {o o' : Fin 3 → ℕ} {h h'} {w1 w2 w1' w2'}
    (e1 : bO = bO') (e2 : s = s') (e3 : o = o') : putP (F := F) bO (slotF M o h) s w1 w2 = putP bO' (slotF M o' h') s' w1' w2' := by
  subst e1 e2 e3; rfl

theorem trip_congr {bA bA' : Memref sig .tc .hbm S256x6144 .bf16} {bP bP' bX bX' bH bH' bO bO' : Memref sig .tc .hbm S256x2048 .f32}
    (M5 : Memref sig .tc .vmem S1x2048 .f32) (M7 : Memref sig .tc .vmem S8x2048 .f32) (M8 : Memref sig .tc .vmem S6144x2048 .bf16)
    (M9 : Memref sig .tc .vmem S2x256x6144 .bf16) (M10 M11 M12 M13 : Memref sig .tc .vmem S2x256x2048 .f32) {sA sA' sP sP' sX sX' sH sH' sO sO' : DmaSem sig}
    {oA pA oA' oF pF oF' : Fin 3 → ℕ} {hA hpA hA' hF hpF hF'} {w1 w1' w2 w2'} {fetch fetch' drain drain' : Prog (TpuEff nD τ sig (Elt F) Λ₀ .tc) PUnit}
    (e1 : bA = bA') (e2 : bP = bP') (e3 : bX = bX') (e4 : bH = bH') (e0 : bO = bO')
    (e5 : sA = sA') (e6 : sP = sP') (e7 : sX = sX') (e8 : sH = sH') (e9 : sO = sO') (e10 : oA = oA') (e11 : pA = oA') (e12 : oF = oF') (e13 : pF = oF')
    (e14 : fetch = fetch') (e15 : drain = drain') :
    trip bA bP bX bH bO M5 M7 M8 M9 M10 M11 M12 M13 sA sP sX sH sO oA pA hA hpA oF pF hF hpF w1 w2 fetch drain
      = trip bA' bP' bX' bH' bO' M5 M7 M8 M9 M10 M11 M12 M13 sA' sP' sX' sH' sO' oA' oA' hA' hA' oF' oF' hF' hF' w1' w2' fetch' drain' := by
  subst e1 e2 e3 e4 e0 e5 e6 e7 e8 e9 e10 e11 e12 e13 e14 e15; rfl

theorem t1_here : ∀ k : Fin k0_t1_loop.trips, (k0_off3 k = ![256 * (bk 32 k.val).val, 0] ∧ k0_off6 k = ![256 * (bk 32 k.val).val, 0])
    ∧ (k0_off2 k = offS (sl 2 k.val) ∧ k0_off18 k = offS (sl 2 k.val) ∧ k0_off5 k = offS (sl 2 k.val) ∧ k0_off17 k = offS (sl 2 k.val))
    ∧ k0_off1 k = ![(sl 2 k.val).val, 0] ∧ k0_off4 k = ![(sl 2 k.val).val, 1] ∧ k0_off7 k = ![(sl 2 k.val).val, 2] ∧ k0_off8 k = ![(sl 2 k.val).val, 3]
    ∧ k0_off22 k = ![(sl 2 k.val).val] := by decide +kernel
theorem t1_fetch : ∀ k : Fin k0_t1_loop.trips, (k0_cond1 k = 1#1 ↔ k.val + 1 < 32) ∧ (k.val + 1 < 32 →
    (k0_off11 k = ![256 * (bk 32 (k.val + 1)).val, 0] ∧ k0_off14 k = ![256 * (bk 32 (k.val + 1)).val, 0])
    ∧ (k0_off10 k = offS (sl 2 (k.val + 1)) ∧ k0_off13 k = offS (sl 2 (k.val + 1)))
    ∧ k0_off9 k = ![(sl 2 (k.val + 1)).val, 0] ∧ k0_off12 k = ![(sl 2 (k.val + 1)).val, 1] ∧ k0_off15 k = ![(sl 2 (k.val + 1)).val, 2]
    ∧ k0_off16 k = ![(sl 2 (k.val + 1)).val, 3]) := by decide +kernel
theorem t1_drain : ∀ k : Fin k0_t1_loop.trips, (k0_cond2 k = 1#1 ↔ 2 ≤ k.val) ∧ (2 ≤ k.val →
    k0_off20 k = ![256 * (bk 32 (k.val - 2)).val, 0] ∧ k0_off19 k = ![(sl 2 k.val).val] ∧ k0_off21 k = offS (sl 2 k.val)) := by decide +kernel

section Body
variable (arg0 : Memref sig .tc .hbm S8192x6144 .bf16) (harg0 : arg0.IsWhole) (arg1 : Memref sig .tc .hbm S16384x2048 .bf16) (harg1 : arg1.IsWhole)
  (arg2 : Memref sig .tc .hbm S8192x2048 .f32) (harg2 : arg2.IsWhole) (arg3 : Memref sig .tc .hbm S8192x2048 .f32) (harg3 : arg3.IsWhole)
  (arg4 : Memref sig .tc .hbm S8192x2048 .f32) (harg4 : arg4.IsWhole) (arg5 : Memref sig .tc .vmem S1x2048 .f32) (harg5 : arg5.IsWhole)
  (arg6 : Memref sig .tc .hbm S8192x2048 .f32) (harg6 : arg6.IsWhole) (arg7 : Memref sig .tc .vmem S8x2048 .f32) (harg7 : arg7.IsWhole)
  (arg8 : Memref sig .tc .vmem S6144x2048 .bf16) (harg8 : arg8.IsWhole) (arg9 : Memref sig .tc .vmem S2x256x6144 .bf16) (harg9 : arg9.IsWhole)
  (arg10 : Memref sig .tc .vmem S2x256x2048 .f32) (harg10 : arg10.IsWhole) (arg11 : Memref sig .tc .vmem S2x256x2048 .f32) (harg11 : arg11.IsWhole)
  (arg12 : Memref sig .tc .vmem S2x256x2048 .f32) (harg12 : arg12.IsWhole) (arg13 : Memref sig .tc .vmem S2x256x2048 .f32) (harg13 : arg13.IsWhole)
  (arg14 : DmaSems sig S2x4) (arg15 : DmaSems sig S3)

include harg0 in
theorem wRA (b : Fin 32) : (rowA arg0 b).view.WordExact :=
  harg0.wordExact_slice rfl _ (words_congr (inRA b) ((t1_here b).1.1.trans (by rw [bk_eq_mk b.isLt])) (k0_off3_wordsbf16 b))
theorem t1_slotA : ∀ s : Fin 2, k0_off2 (s.castLE (by decide)) = offS s := by decide +kernel
include harg9 in
theorem wSA (s : Fin 2) : (slotA arg9 (offS s) (inbA s)).view.WordExact :=
  (harg9.wordExact_slice rfl _ (words_congr (inbA s) (t1_slotA s) (k0_off2_wordsbf16 _))).reshape _ _

/-- The body's arrays by blocks, its buffers and its semaphores. -/
abbrev env : Env where
  bA := rowA arg0
  bP := rowF arg2
  bX := rowF arg3
  bH := rowF arg4
  bO := rowF arg6
  M5 := arg5
  M7 := arg7
  M8 := arg8
  M9 := arg9
  M10 := arg10
  M11 := arg11
  M12 := arg12
  M13 := arg13
  sA := semI arg14 0
  sP := semI arg14 1
  sX := semI arg14 2
  sH := semI arg14 3
  sO := semO arg15
  w1 := wRA arg0 harg0
  w2 := wSA arg9 harg9

set_option maxHeartbeats 1600000 in
theorem t1_trip (k : Fin k0_t1_loop.trips) :
    k0_t1_body arg0 harg0 arg1 harg1 arg2 harg2 arg3 harg3 arg4 harg4 arg5 harg5 arg6 harg6 arg7 harg7 arg8 harg8 arg9 harg9 arg10 harg10 arg11 harg11
        arg12 harg12 arg13 harg13 arg14 arg15 k ⟨⟩
      = tripE (F := F) (env arg0 harg0 arg2 arg3 arg4 arg5 arg6 arg7 arg8 arg9 harg9 arg10 arg11 arg12 arg13 arg14 arg15) k.val := by
  obtain ⟨⟨r3, r6⟩, ⟨o2, o18, o5, o17⟩, s1, s4, s7, s8, s22⟩ := t1_here k
  refine Eq.trans ?_ (trip_congr arg5 arg7 arg8 arg9 arg10 arg11 arg12 arg13
    (hA := k0_off2_inb k) (hpA := k0_off18_inb k) (hF := k0_off5_inb k) (hpF := k0_off17_inb k)
    (w1 := harg0.wordExact_slice rfl _ (k0_off3_wordsbf16 k)) (w2 := (harg9.wordExact_slice rfl _ (k0_off2_wordsbf16 k)).reshape _ _)
    (slice_congr arg0 (k0_off3_inb k) _ r3) (slice_congr arg2 (k0_off6_inb k) _ r6) (slice_congr arg3 (k0_off6_inb k) _ r6)
    (slice_congr arg4 (k0_off6_inb k) _ r6) (slice_congr arg6 (k0_off6_inb k) _ r6) (sem2At_congr arg14 (k0_off1_inb k) _ s1)
    (sem2At_congr arg14 (k0_off4_inb k) _ s4) (sem2At_congr arg14 (k0_off7_inb k) _ s7) (sem2At_congr arg14 (k0_off8_inb k) _ s8)
    (semAt_congr arg15 (k0_off22_inb k) _ s22) o2 o18 o5 o17
    (guard_eq (t1_fetch k).1 fun h hc => have ⟨⟨r11, r14⟩, ⟨o10, o13⟩, s9, s12, s15, s16⟩ := (t1_fetch k).2 h
      ask4_congr arg9 arg10 arg11 arg12 (hA := k0_off10_inb k hc) (hF := k0_off13_inb k hc)
        (w1 := harg0.wordExact_slice rfl _ (k0_off11_wordsbf16 k hc)) (w2 := (harg9.wordExact_slice rfl _ (k0_off10_wordsbf16 k hc)).reshape _ _)
        (slice_congr arg0 (k0_off11_inb k hc) _ r11) (slice_congr arg2 (k0_off14_inb k hc) _ r14) (slice_congr arg3 (k0_off14_inb k hc) _ r14)
        (slice_congr arg4 (k0_off14_inb k hc) _ r14) (sem2At_congr arg14 (k0_off9_inb k hc) _ s9) (sem2At_congr arg14 (k0_off12_inb k hc) _ s12)
        (sem2At_congr arg14 (k0_off15_inb k hc) _ s15) (sem2At_congr arg14 (k0_off16_inb k hc) _ s16) o10 o13)
    (guard_eq (t1_drain k).1 fun h hc => have ⟨r20, s19, o21⟩ := (t1_drain k).2 h
      putP_congr arg13 (h := k0_off21_inb k hc) (w1 := wf _) (w2 := wf _) (slice_congr arg6 (k0_off20_inb k hc) _ r20) (semAt_congr arg15 (k0_off19_inb k hc) _ s19) o21))
  unfold k0_t1_body
  rw [k0_part2_eq_skeleton, k0_part3_eq_skeleton, k0_part4_eq_skeleton]
  unfold k0_part2_skel k0_part3_skel k0_part4_skel trip
  rw [k0_part1_eq_skeleton]
  unfold k0_part1_skel
  by_cases c1 : k0_cond1 k = 1#1 <;> by_cases c2 : k0_cond2 k = 1#1 <;> simp only [c1, c2, dite_true, dite_false] <;> rfl

/-- The rows of the weights the segment was multiplied by. -/
abbrev wRows : Memref sig .tc .hbm S6144x2048 .bf16 :=
  arg1.slice (Rect.unit (s := S16384x2048) ![10240, 0] S6144x2048.size inb_S16384x2048_S6144x2048_10240_0) (fun _ => rfl)
include harg1 in
theorem wW : (wRows arg1).view.WordExact := harg1.wordExact_slice rfl _ wordsbf16_S16384x2048_S6144x2048_10240_0

theorem body_eq :
    cc0_dxn_last_norm arg0 harg0 arg1 harg1 arg2 harg2 arg3 harg3 arg4 harg4 arg5 harg5 arg6 harg6 arg7 harg7 arg8 harg8 arg9 harg9 arg10 harg10 arg11 harg11
        arg12 harg12 arg13 harg13 arg14 arg15
      = (do
        askP (wRows arg1) arg8 (semAt arg15 ![2] inb_S3_S1_2) (wW arg1 harg1) harg8.wordExact
        askE (F := F) (env arg0 harg0 arg2 arg3 arg4 arg5 arg6 arg7 arg8 arg9 harg9 arg10 arg11 arg12 arg13 arg14 arg15) (bk 32 0) 0
        let v24 : Vec F S8x2048 .f32 ← Prog.lift (.load arg7 (Rect.unit (s := S8x2048) ![0, 0] S8x2048.size inb_S8x2048_S8x2048_0_0).toLoadRect (View.loadsAt_vmem h_S8x2048))
        Prog.lift (.store arg7 (Rect.unit (s := S8x2048) ![0, 0] S8x2048.size inb_S8x2048_S8x2048_0_0) acc0 Finset.univ (View.stores_vmem_bits_univ h_S8x2048 rfl) (.inl rfl))
        gotP (wRows arg1) arg8 (semAt arg15 ![2] inb_S3_S1_2) (wW arg1 harg1) harg8.wordExact
        Scf.Loop.for k0_t1_loop k0_t1_ok ⟨⟩ (k0_t1_body arg0 harg0 arg1 harg1 arg2 harg2 arg3 harg3 arg4 harg4 arg5 harg5 arg6 harg6 arg7 harg7 arg8 harg8
          arg9 harg9 arg10 harg10 arg11 harg11 arg12 harg12 arg13 harg13 arg14 arg15)
        settleE (F := F) (env arg0 harg0 arg2 arg3 arg4 arg5 arg6 arg7 arg8 arg9 harg9 arg10 arg11 arg12 arg13 arg14 arg15) (bk 32 30) 0
        settleE (F := F) (env arg0 harg0 arg2 arg3 arg4 arg5 arg6 arg7 arg8 arg9 harg9 arg10 arg11 arg12 arg13 arg14 arg15) (bk 32 31) 1
        pure ⟨⟩) := rfl

end Body

end Cert.Kernel8Ideal.DxnLast

end
-- ==== Proof.DxnLastRun.lean ====
/- The gradient at the layer's input: the launch of `Kernel8Ideal` and what it leaves, over any float values. -/
module

public import proofs.«01_k».proof.Defs
public import proofs.«01_k».proof.Proof.DxnLast
public import proofs.«01_k».proof.Proof.Gen.Kernel8Ideal.Skeleton
public import proofs.«01_k».proof.Proof.Gen.Kernel8Ideal.Launch
public import proofs.«01_k».proof.Proof.Gen.Kernel8Ideal.Points
public import Idealize.ShloMosaic.Lib.Pipeline.KitQuiescent
public import Idealize.ShloMosaic.Lib.Ring.Trips
public import Idealize.ShloMosaic.Lib.DeliveryRep
public import Idealize.ShloMosaic.Lib.VecWindow
public import Idealize.ShloMosaic.Lib.Claim
public import Idealize.ShloMosaic.Lib.Pipeline.Frame
public import Idealize.ShloMosaic.Lib.Pipeline.Value

@[expose] public section

set_option maxRecDepth 16384

noncomputable section

namespace Cert.Kernel8Ideal.DxnLast

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)
open Idealize.ShloMosaic.Ring (sl bk sl_add homeSet homeSet_out homeSet_succ homeSet_succ_tail bkL_not_mem_erase bk_not_mem_erase bk_not_mem_homeSet roleAt roleAt_of_lt roleAt_of_le roleBAt roleBAt_of_le roleBAt_of_lt aheadSet behindSet aheadSet_open bk_not_mem_aheadSet_succ behindSet_close behindSet_boot bk_not_mem_behindSet bigSep_put bk_eq_mk bk_val mem_homeSet mem_behindSet aheadSet_zero aheadSet_end homeSet_last free3_of_roles)
open Cert.Kernel8Ideal Cert.Kernel8Ideal.Gen

variable {F : FTy → Type} [FloatOps F]

local notation "𝕄" => MT nD τ sig Unit (Elt F) ℕ (UD sig nD τ) ℕ

/-! ## Arrays by blocks of rows -/

section Blocks
variable (c : Dev nD)

theorem of_eq {P Q : sProp 𝕄} (e : P = Q) : P ⊢ Q := e ▸ .rfl

/-- Pieces of a shape that make it up, without overlap. -/
structure Tiles {s : Shape} {NB : ℕ} (R : Fin NB → Rect s) : Prop where
  disj : ∀ b b', b ≠ b' → Disjoint (R b).set (R b').set
  cover : Finset.univ.biUnion (fun b => (R b).set) = Finset.univ

variable (r : Ref sig .tc) {NB : ℕ} (R : Fin NB → Rect r.ty.shape)

/-- A buffer is its pieces, -/
theorem tiles_split (h : Tiles R) (f : Buf (Elt F) ((c : Thread nD τ).loc r)) :
    ((c : Thread nD τ).loc r ↦{fullShare} f : sProp 𝕄)
      = bigSep Finset.univ fun b => (c : Thread nD τ).loc r ↦[((View.whole r).slice (R b)).set]{fullShare} f := by
  rw [Ring.pointsTo_blocks (fun b => (R b).set) h.disj h.cover f]
  exact BI.bigSep_congr fun b _ => by rw [View.set_slice_whole]

/-- and pieces held apart are the buffer, which reads as each of them there. -/
theorem tiles_join (h : Tiles R) (fs : Fin NB → Buf (Elt F) ((c : Thread nD τ).loc r)) (f₀ : Buf (Elt F) ((c : Thread nD τ).loc r)) :
    bigSep Finset.univ (fun b => ((c : Thread nD τ).loc r ↦[((View.whole r).slice (R b)).set]{fullShare} fs b : sProp 𝕄))
      ⊢ iprop(∃ g, ⌜∀ b, ∀ i ∈ ((View.whole r).slice (R b)).set, g i = fs b i⌝ ∗ (c : Thread nD τ).loc r ↦{fullShare} g) := by
  have hs : ∀ b, ((View.whole r).slice (R b)).set = (R b).set := fun b => View.set_slice_whole _ _
  have e : bigSep Finset.univ (fun b => ((c : Thread nD τ).loc r ↦[((View.whole r).slice (R b)).set]{fullShare} fs b : sProp 𝕄))
      = bigSep Finset.univ (fun b => ((c : Thread nD τ).loc r ↦[(R b).set]{fullShare} fs b : sProp 𝕄)) :=
    BI.bigSep_congr fun b _ => by rw [hs b]
  rw [e]
  refine (pointsTo_biUnion_join (ℓ := (c : Thread nD τ).loc r) Finset.univ (fun b => (R b).set) fs f₀ fun b _ b' _ hb => h.disj b b' hb).trans ?_
  rw [h.cover]
  iintro ⟨%g, %hg, H⟩
  iexists g
  isplitr
  · ipureintro; exact fun b i hi => hg b (Finset.mem_univ _) i (hs b ▸ hi)
  iexact H

theorem tiles_rowA : Tiles fun b => Rect.unit (s := S8192x6144) ![256 * b.val, 0] S256x6144.size (inRA b) where
  disj := Ring.lead_disjoint (s := S8192x6144) (0 : Fin 2) 256 (fun b : Fin 32 => ![256 * b.val, 0]) S256x6144.size inRA (fun _ => rfl) rfl
  cover := Ring.lead_cover (s := S8192x6144) (0 : Fin 2) 256 (fun b : Fin 32 => ![256 * b.val, 0]) S256x6144.size inRA (fun _ => rfl) (by decide +kernel) rfl (by decide +kernel) (by decide +kernel)
theorem tiles_rowF : Tiles fun b => Rect.unit (s := S8192x2048) ![256 * b.val, 0] S256x2048.size (inRF b) where
  disj := Ring.lead_disjoint (s := S8192x2048) (0 : Fin 2) 256 (fun b : Fin 32 => ![256 * b.val, 0]) S256x2048.size inRF (fun _ => rfl) rfl
  cover := Ring.lead_cover (s := S8192x2048) (0 : Fin 2) 256 (fun b : Fin 32 => ![256 * b.val, 0]) S256x2048.size inRF (fun _ => rfl) (by decide +kernel) rfl (by decide +kernel) (by decide +kernel)
theorem tiles_slotA : Tiles fun b => Rect.unit (s := S2x256x6144) (offS b) S1x256x6144.size (inbA b) where
  disj := Ring.lead_disjoint (s := S2x256x6144) (0 : Fin 3) 1 offS S1x256x6144.size inbA (fun b => (Nat.one_mul b.val).symm) rfl
  cover := Ring.lead_cover (s := S2x256x6144) (0 : Fin 3) 1 offS S1x256x6144.size inbA (fun b => (Nat.one_mul b.val).symm) (by decide +kernel) rfl (by decide +kernel) (by decide +kernel)
theorem tiles_slotF : Tiles fun b => Rect.unit (s := S2x256x2048) (offS b) S1x256x2048.size (inbF b) where
  disj := Ring.lead_disjoint (s := S2x256x2048) (0 : Fin 3) 1 offS S1x256x2048.size inbF (fun b => (Nat.one_mul b.val).symm) rfl
  cover := Ring.lead_cover (s := S2x256x2048) (0 : Fin 3) 1 offS S1x256x2048.size inbF (fun b => (Nat.one_mul b.val).symm) (by decide +kernel) rfl (by decide +kernel) (by decide +kernel)

/-- An operand, held whole, is its blocks of rows, each at what it reads as. -/
theorem rows_eq {s : Shape} {e : EltTy} (bA : Fin 32 → Memref sig .tc .hbm s e) (r : Ref sig .tc) (R : Fin 32 → Rect r.ty.shape) (h : Tiles R)
    (f : Buf (Elt F) ((c : Thread nD τ).loc r)) (g : (b : Fin 32) → Buf (Elt F) ((bA b).view.loc (c : Thread nD τ)))
    (e : ∀ b, ((c : Thread nD τ).loc r ↦[((View.whole r).slice (R b)).set]{fullShare} f : sProp 𝕄) = own c (bA b) (g b)) :
    ((c : Thread nD τ).loc r ↦{fullShare} f : sProp 𝕄)
      = bigSep Finset.univ fun b => own c (bA b) ((bA b).view.rep ((bA b).view.read (Elt F) (g b))) := by
  rw [tiles_split c r R h f]
  exact BI.bigSep_congr fun b _ => (e b).trans (pointsTo_rep (c : Thread nD τ) (bA b) (g b) fullShare)

theorem rows0 (f : Buf (Elt F) ((c : Thread nD τ).loc main_arg0)) : ((c : Thread nD τ).loc main_arg0 ↦{fullShare} f : sProp 𝕄)
    = bigSep Finset.univ fun b => own c (rowA (Memref.whole main_arg0) b) ((rowA (Memref.whole main_arg0) b).view.rep ((rowA (Memref.whole main_arg0) b).view.read (Elt F) f)) :=
  rows_eq c (rowA (Memref.whole main_arg0)) main_arg0 _ tiles_rowA f (fun _ => f) fun _ => rfl
theorem rows2 (f : Buf (Elt F) ((c : Thread nD τ).loc main_arg2)) : ((c : Thread nD τ).loc main_arg2 ↦{fullShare} f : sProp 𝕄)
    = bigSep Finset.univ fun b => own c (rowF (Memref.whole main_arg2) b) ((rowF (Memref.whole main_arg2) b).view.rep ((rowF (Memref.whole main_arg2) b).view.read (Elt F) f)) :=
  rows_eq c (rowF (Memref.whole main_arg2)) main_arg2 _ tiles_rowF f (fun _ => f) fun _ => rfl
theorem rows3 (f : Buf (Elt F) ((c : Thread nD τ).loc main_arg3)) : ((c : Thread nD τ).loc main_arg3 ↦{fullShare} f : sProp 𝕄)
    = bigSep Finset.univ fun b => own c (rowF (Memref.whole main_arg3) b) ((rowF (Memref.whole main_arg3) b).view.rep ((rowF (Memref.whole main_arg3) b).view.read (Elt F) f)) :=
  rows_eq c (rowF (Memref.whole main_arg3)) main_arg3 _ tiles_rowF f (fun _ => f) fun _ => rfl
theorem rows4 (f : Buf (Elt F) ((c : Thread nD τ).loc main_arg4)) : ((c : Thread nD τ).loc main_arg4 ↦{fullShare} f : sProp 𝕄)
    = bigSep Finset.univ fun b => own c (rowF (Memref.whole main_arg4) b) ((rowF (Memref.whole main_arg4) b).view.rep ((rowF (Memref.whole main_arg4) b).view.read (Elt F) f)) :=
  rows_eq c (rowF (Memref.whole main_arg4)) main_arg4 _ tiles_rowF f (fun _ => f) fun _ => rfl

/-- The result held whole gives its blocks of rows, -/
theorem ahead_of (f : Buf (Elt F) ((c : Thread nD τ).loc main_v0_0)) : ((c : Thread nD τ).loc main_v0_0 ↦{fullShare} f : sProp 𝕄)
    ⊢ bigSep Finset.univ fun b => iprop(∃ f, own (F := F) c (rowF (Memref.whole main_v0_0) b) f) := by
  rw [tiles_split c main_v0_0 _ tiles_rowF f]
  refine BI.bigSep_mono fun b _ => ?_
  show own c (rowF (Memref.whole main_v0_0) b) f ⊢ iprop(∃ f, own c (rowF (Memref.whole main_v0_0) b) f)
  iintro H
  iexists f
  iexact H

/-- and its blocks, each holding its value, are the result, which reads as each of them there. -/
theorem done_of (X : Fin 32 → Vec F S256x2048 .f32) (f₀ : Buf (Elt F) ((c : Thread nD τ).loc main_v0_0)) :
    bigSep Finset.univ (fun b => own c (rowF (Memref.whole main_v0_0) b) ((rowF (Memref.whole main_v0_0) b).view.rep (X b)))
      ⊢ (iprop(∃ g : Buf (Elt F) ((c : Thread nD τ).loc main_v0_0), ⌜∀ b, (rowF (Memref.whole main_v0_0) b).view.read (Elt F) g = X b⌝
          ∗ (c : Thread nD τ).loc main_v0_0 ↦{fullShare} g) : sProp 𝕄) := by
  refine (tiles_join c main_v0_0 _ tiles_rowF (fun b => (rowF (Memref.whole main_v0_0) b).view.rep (X b)) f₀).trans ?_
  iintro ⟨%g, %hg, H⟩
  iexists g
  isplitr
  · ipureintro; exact fun b => (View.read_congr (hg b)).trans (View.read_rep _ _)
  iexact H

/-- The weights' rows, carved out of the whole array and put back. -/
theorem weights_eq (f : Buf (Elt F) ((c : Thread nD τ).loc main_arg1)) : ((c : Thread nD τ).loc main_arg1 ↦{fullShare} f : sProp 𝕄)
    ⊣⊢ iprop(own c (wRows (Memref.whole main_arg1)) ((wRows (Memref.whole main_arg1)).view.rep ((wRows (Memref.whole main_arg1)).view.read (Elt F) f))
        ∗ ((c : Thread nD τ).loc main_arg1 ↦[Finset.univ \ (wRows (Memref.whole main_arg1)).view.set]{fullShare} f)) := by
  rw [show (own c (wRows (Memref.whole main_arg1)) ((wRows (Memref.whole main_arg1)).view.rep ((wRows (Memref.whole main_arg1)).view.read (Elt F) f)) : sProp 𝕄)
    = ((c : Thread nD τ).loc main_arg1 ↦[(wRows (Memref.whole main_arg1)).view.set]{fullShare} f)
    from (pointsTo_rep (c : Thread nD τ) (wRows (Memref.whole main_arg1)) f fullShare).symm]
  exact pointsTo_split_subset (Finset.subset_univ _)

end Blocks

/-! ## The scratch buffers and the semaphores -/

section Scratch
variable (c : Dev nD)

theorem own_scratch0 (f : Buf (Elt F) ((c : Thread nD τ).loc cc0_scratch0)) :
    ((c : Thread nD τ).loc cc0_scratch0 ↦{fullShare} f : sProp 𝕄) = own c (Memref.whole cc0_scratch0) f :=
  congrArg (fun S => ((c : Thread nD τ).loc cc0_scratch0 ↦[S]{fullShare} f : sProp 𝕄)) (View.set_whole cc0_scratch0).symm
theorem own_slotA (s : Fin 2) (f : Buf (Elt F) ((c : Thread nD τ).loc cc0_scratch1)) : (own c (slotA (Memref.whole cc0_scratch1) (offS s) (inbA s)) f : sProp 𝕄)
    = ((c : Thread nD τ).loc cc0_scratch1 ↦[(Rect.unit (s := S2x256x6144) (offS s) S1x256x6144.size (inbA s)).set]{fullShare} f) :=
  congrArg (fun S => ((c : Thread nD τ).loc cc0_scratch1 ↦[S]{fullShare} f : sProp 𝕄)) ((View.set_reshape _ _).trans (View.set_slice_whole cc0_scratch1 _))
theorem own_slot2 (s : Fin 2) (f : Buf (Elt F) ((c : Thread nD τ).loc cc0_scratch2)) : (own c (slotF (Memref.whole cc0_scratch2) (offS s) (inbF s)) f : sProp 𝕄)
    = ((c : Thread nD τ).loc cc0_scratch2 ↦[(Rect.unit (s := S2x256x2048) (offS s) S1x256x2048.size (inbF s)).set]{fullShare} f) :=
  congrArg (fun S => ((c : Thread nD τ).loc cc0_scratch2 ↦[S]{fullShare} f : sProp 𝕄)) ((View.set_reshape _ _).trans (View.set_slice_whole cc0_scratch2 _))
theorem own_slot3 (s : Fin 2) (f : Buf (Elt F) ((c : Thread nD τ).loc cc0_scratch3)) : (own c (slotF (Memref.whole cc0_scratch3) (offS s) (inbF s)) f : sProp 𝕄)
    = ((c : Thread nD τ).loc cc0_scratch3 ↦[(Rect.unit (s := S2x256x2048) (offS s) S1x256x2048.size (inbF s)).set]{fullShare} f) :=
  congrArg (fun S => ((c : Thread nD τ).loc cc0_scratch3 ↦[S]{fullShare} f : sProp 𝕄)) ((View.set_reshape _ _).trans (View.set_slice_whole cc0_scratch3 _))
theorem own_slot4 (s : Fin 2) (f : Buf (Elt F) ((c : Thread nD τ).loc cc0_scratch4)) : (own c (slotF (Memref.whole cc0_scratch4) (offS s) (inbF s)) f : sProp 𝕄)
    = ((c : Thread nD τ).loc cc0_scratch4 ↦[(Rect.unit (s := S2x256x2048) (offS s) S1x256x2048.size (inbF s)).set]{fullShare} f) :=
  congrArg (fun S => ((c : Thread nD τ).loc cc0_scratch4 ↦[S]{fullShare} f : sProp 𝕄)) ((View.set_reshape _ _).trans (View.set_slice_whole cc0_scratch4 _))
theorem own_slot5 (s : Fin 2) (f : Buf (Elt F) ((c : Thread nD τ).loc cc0_scratch5)) : (own c (slotF (Memref.whole cc0_scratch5) (offS s) (inbF s)) f : sProp 𝕄)
    = ((c : Thread nD τ).loc cc0_scratch5 ↦[(Rect.unit (s := S2x256x2048) (offS s) S1x256x2048.size (inbF s)).set]{fullShare} f) :=
  congrArg (fun S => ((c : Thread nD τ).loc cc0_scratch5 ↦[S]{fullShare} f : sProp 𝕄)) ((View.set_reshape _ _).trans (View.set_slice_whole cc0_scratch5 _))

/-- A buffer is its two slots. -/
theorem slots_eq (r : Ref sig .tc) (R : Fin 2 → Rect r.ty.shape) (h : Tiles R) (P : Fin 2 → Buf (Elt F) ((c : Thread nD τ).loc r) → sProp 𝕄)
    (e : ∀ s f, P s f = ((c : Thread nD τ).loc r ↦[(R s).set]{fullShare} f : sProp 𝕄)) :
    iprop(∃ f : Buf (Elt F) ((c : Thread nD τ).loc r), (c : Thread nD τ).loc r ↦{fullShare} f) ⊣⊢ iprop((∃ f, P 0 f) ∗ ∃ f, P 1 f) :=
  ⟨Ring.slots2_split (ℓ := (c : Thread nD τ).loc r) (q := fullShare) (fun s => (R s).set) h.disj h.cover (P 0) (P 1) (e 0) (e 1),
    Ring.slots2_join (ℓ := (c : Thread nD τ).loc r) (q := fullShare) (fun s => (R s).set) h.disj h.cover (P 0) (P 1) (e 0) (e 1)⟩

theorem slots1 : iprop(∃ f : Buf (Elt F) ((c : Thread nD τ).loc cc0_scratch1), ((c : Thread nD τ).loc cc0_scratch1 ↦{fullShare} f : sProp 𝕄))
    ⊣⊢ iprop((∃ f, own c (slotA (Memref.whole cc0_scratch1) (offS 0) (inbA 0)) f) ∗ ∃ f, own c (slotA (Memref.whole cc0_scratch1) (offS 1) (inbA 1)) f) :=
  slots_eq c cc0_scratch1 _ tiles_slotA (fun s f => own c (slotA (Memref.whole cc0_scratch1) (offS s) (inbA s)) f) (own_slotA c)
theorem slots2 : iprop(∃ f : Buf (Elt F) ((c : Thread nD τ).loc cc0_scratch2), ((c : Thread nD τ).loc cc0_scratch2 ↦{fullShare} f : sProp 𝕄))
    ⊣⊢ iprop((∃ f, own c (slotF (Memref.whole cc0_scratch2) (offS 0) (inbF 0)) f) ∗ ∃ f, own c (slotF (Memref.whole cc0_scratch2) (offS 1) (inbF 1)) f) :=
  slots_eq c cc0_scratch2 _ tiles_slotF (fun s f => own c (slotF (Memref.whole cc0_scratch2) (offS s) (inbF s)) f) (own_slot2 c)
theorem slots3 : iprop(∃ f : Buf (Elt F) ((c : Thread nD τ).loc cc0_scratch3), ((c : Thread nD τ).loc cc0_scratch3 ↦{fullShare} f : sProp 𝕄))
    ⊣⊢ iprop((∃ f, own c (slotF (Memref.whole cc0_scratch3) (offS 0) (inbF 0)) f) ∗ ∃ f, own c (slotF (Memref.whole cc0_scratch3) (offS 1) (inbF 1)) f) :=
  slots_eq c cc0_scratch3 _ tiles_slotF (fun s f => own c (slotF (Memref.whole cc0_scratch3) (offS s) (inbF s)) f) (own_slot3 c)
theorem slots4 : iprop(∃ f : Buf (Elt F) ((c : Thread nD τ).loc cc0_scratch4), ((c : Thread nD τ).loc cc0_scratch4 ↦{fullShare} f : sProp 𝕄))
    ⊣⊢ iprop((∃ f, own c (slotF (Memref.whole cc0_scratch4) (offS 0) (inbF 0)) f) ∗ ∃ f, own c (slotF (Memref.whole cc0_scratch4) (offS 1) (inbF 1)) f) :=
  slots_eq c cc0_scratch4 _ tiles_slotF (fun s f => own c (slotF (Memref.whole cc0_scratch4) (offS s) (inbF s)) f) (own_slot4 c)
theorem slots5 : iprop(∃ f : Buf (Elt F) ((c : Thread nD τ).loc cc0_scratch5), ((c : Thread nD τ).loc cc0_scratch5 ↦{fullShare} f : sProp 𝕄))
    ⊣⊢ iprop((∃ f, own c (slotF (Memref.whole cc0_scratch5) (offS 0) (inbF 0)) f) ∗ ∃ f, own c (slotF (Memref.whole cc0_scratch5) (offS 1) (inbF 1)) f) :=
  slots_eq c cc0_scratch5 _ tiles_slotF (fun s f => own c (slotF (Memref.whole cc0_scratch5) (offS s) (inbF s)) f) (own_slot5 c)

/-- The kernel's own semaphores: of the copies in, by slot, of the copies out, and of the weights. -/
abbrev osem : Fin 11 → SemLoc sig :=
  ![.dma (semI cc0_scratch6 0 0), .dma (semI cc0_scratch6 1 0), .dma (semI cc0_scratch6 2 0), .dma (semI cc0_scratch6 3 0), .dma (semI cc0_scratch6 0 1), .dma (semI cc0_scratch6 1 1), .dma (semI cc0_scratch6 2 1), .dma (semI cc0_scratch6 3 1), .dma (semO cc0_scratch7 0), .dma (semO cc0_scratch7 1), .dma (semAt cc0_scratch7 ![2] inb_S3_S1_2)]

theorem ownSemFacts : Pipeline.OwnSemFacts cfg0.spec osem := by decide

/-- A semaphore at rest. -/
abbrev z (s : DmaSem sig) : sProp 𝕄 := semVal ((c : Thread nD τ), SemLoc.dma s) 0

theorem ownSems0_eq : (Pipeline.ownSems0 (Ix := Unit) (Name := ℕ) (U := UD sig nD τ) (Lvl := ℕ) (Val := Elt F) (τ := τ) osem c : sProp 𝕄)
    = iprop(z c (semI cc0_scratch6 0 0) ∗ z c (semI cc0_scratch6 1 0) ∗ z c (semI cc0_scratch6 2 0) ∗ z c (semI cc0_scratch6 3 0) ∗ z c (semI cc0_scratch6 0 1) ∗ z c (semI cc0_scratch6 1 1) ∗ z c (semI cc0_scratch6 2 1) ∗ z c (semI cc0_scratch6 3 1) ∗ z c (semO cc0_scratch7 0) ∗ z c (semO cc0_scratch7 1) ∗ z c (semAt cc0_scratch7 ![2] inb_S3_S1_2)) := by
  rw [Pipeline.ownSems0_eq_of_list c osem [0, 1, 2, 3, 4, 5, 6, 7, 8, 9, 10] (by decide) (by decide)]; rfl

/-- The body's arrays by blocks, its buffers and its semaphores, as the launch names them. -/
abbrev E (t : Fin cfg0.N) : Env :=
  env (Memref.whole main_arg0) (Memref.isWhole_whole _) (Memref.whole main_arg2) (Memref.whole main_arg3) (Memref.whole main_arg4) (st0_0 t) (Memref.whole main_v0_0)
    (st0_1 t) (Memref.whole cc0_scratch0) (Memref.whole cc0_scratch1) (Memref.isWhole_whole _) (Memref.whole cc0_scratch2) (Memref.whole cc0_scratch3)
    (Memref.whole cc0_scratch4) (Memref.whole cc0_scratch5) cc0_scratch6 cc0_scratch7

/-- The slots and their semaphores, before and after the body. -/
abbrev rest (t : Fin cfg0.N) : sProp 𝕄 :=
  iprop((freeI (F := F) (E t) c 0 ∗ freeI (F := F) (E t) c 1) ∗ (freeO (F := F) (E t) c 0 ∗ freeO (F := F) (E t) c 1)
    ∗ spare (F := F) c (Memref.whole cc0_scratch0) (semAt cc0_scratch7 ![2] inb_S3_S1_2))

set_option maxHeartbeats 1600000 in
theorem rest_open (t : Fin cfg0.N) : iprop((Pipeline.ownSems0 (Ix := Unit) (Name := ℕ) (U := UD sig nD τ) (Lvl := ℕ) (Val := Elt F) (τ := τ) osem c : sProp 𝕄)
      ∗ Pipeline.scopedRest (Ix := Unit) (Name := ℕ) (U := UD sig nD τ) (Lvl := ℕ) (Val := Elt F) cfg0.spec c) ⊢ rest (F := F) c t := by
  rw [ownSems0_eq, scopedRest0_eq]
  iintro ⟨⟨A0, P0, X0, H0, A1, P1, X1, H1, O0, O1, W⟩, ⟨%f, HW⟩, BA, BP, BX, BH, BO⟩
  ihave BA := (slots1 (F := F) c).mp $$ BA
  icases BA with ⟨BA0, BA1⟩
  ihave BP := (slots2 (F := F) c).mp $$ BP
  icases BP with ⟨BP0, BP1⟩
  ihave BX := (slots3 (F := F) c).mp $$ BX
  icases BX with ⟨BX0, BX1⟩
  ihave BH := (slots4 (F := F) c).mp $$ BH
  icases BH with ⟨BH0, BH1⟩
  ihave BO := (slots5 (F := F) c).mp $$ BO
  icases BO with ⟨BO0, BO1⟩
  isplitl [A0 P0 X0 H0 A1 P1 X1 H1 BA0 BP0 BX0 BH0 BA1 BP1 BX1 BH1]
  · isplitl [A0 P0 X0 H0 BA0 BP0 BX0 BH0]
    · isplitl [A0 BA0]; · isplitl [A0] <;> iassumption
      isplitl [P0 BP0]; · isplitl [P0] <;> iassumption
      isplitl [X0 BX0]; · isplitl [X0] <;> iassumption
      isplitl [H0] <;> iassumption
    · isplitl [A1 BA1]; · isplitl [A1] <;> iassumption
      isplitl [P1 BP1]; · isplitl [P1] <;> iassumption
      isplitl [X1 BX1]; · isplitl [X1] <;> iassumption
      isplitl [H1] <;> iassumption
  isplitl [O0 O1 BO0 BO1]
  · isplitl [O0 BO0]; · isplitl [O0] <;> iassumption
    isplitl [O1] <;> iassumption
  isplitl [W]; · iexact W
  iexists f
  iapply (of_eq (own_scratch0 c f)); iexact HW

set_option maxHeartbeats 1600000 in
theorem rest_close (t : Fin cfg0.N) : rest (F := F) c t
    ⊢ iprop((Pipeline.ownSems0 (Ix := Unit) (Name := ℕ) (U := UD sig nD τ) (Lvl := ℕ) (Val := Elt F) (τ := τ) osem c : sProp 𝕄)
      ∗ Pipeline.scopedRest (Ix := Unit) (Name := ℕ) (U := UD sig nD τ) (Lvl := ℕ) (Val := Elt F) cfg0.spec c) := by
  rw [ownSems0_eq, scopedRest0_eq]
  iintro ⟨⟨⟨⟨A0, BA0⟩, ⟨P0, BP0⟩, ⟨X0, BX0⟩, ⟨H0, BH0⟩⟩, ⟨A1, BA1⟩, ⟨P1, BP1⟩, ⟨X1, BX1⟩, ⟨H1, BH1⟩⟩, ⟨⟨O0, BO0⟩, ⟨O1, BO1⟩⟩, ⟨W, ⟨%f, HW⟩⟩⟩
  isplitl [A0 P0 X0 H0 A1 P1 X1 H1 O0 O1 W]
  · isplitl [A0]; · iexact A0
    isplitl [P0]; · iexact P0
    isplitl [X0]; · iexact X0
    isplitl [H0]; · iexact H0
    isplitl [A1]; · iexact A1
    isplitl [P1]; · iexact P1
    isplitl [X1]; · iexact X1
    isplitl [H1]; · iexact H1
    isplitl [O0]; · iexact O0
    isplitl [O1] <;> iassumption
  isplitl [HW]
  · iexists f
    iapply (of_eq (own_scratch0 c f).symm); iexact HW
  isplitl [BA0 BA1]
  · iapply (slots1 (F := F) c).mpr
    isplitl [BA0] <;> iassumption
  isplitl [BP0 BP1]
  · iapply (slots2 (F := F) c).mpr
    isplitl [BP0] <;> iassumption
  isplitl [BX0 BX1]
  · iapply (slots3 (F := F) c).mpr
    isplitl [BX0] <;> iassumption
  isplitl [BH0 BH1]
  · iapply (slots4 (F := F) c).mpr
    isplitl [BH0] <;> iassumption
  iapply (slots5 (F := F) c).mpr
  isplitl [BO0] <;> iassumption

end Scratch

/-! ## What the launch hands the body, what the body hands back -/

variable (m : (ℓ : Loc nD τ sig) → Buf (Elt F) ℓ) (ρ : Dev nD → PrngReg)

/-- A window's block at the one point, read off its array. -/
def blkAt (c : Dev nD) (w : Fin cfg0.W) (t : Fin cfg0.N) : ((cfg0.win w).xblock (cfg0.grid.coords t)).Idx → Elt F (cfg0.win w).elt :=
  ((cfg0.win w).blk t).view.read (Elt F) (m ((c : Thread nD τ).loc (Pipeline.arrRef spec0 w)))

/-- The operands' values, block by block. -/
def vals (c : Dev nD) (t : Fin cfg0.N) : Vals F where
  A b := (rowA (Memref.whole main_arg0) b).view.read (Elt F) (m ((c : Thread nD τ).loc main_arg0))
  P b := (rowF (Memref.whole main_arg2) b).view.read (Elt F) (m ((c : Thread nD τ).loc main_arg2))
  X b := (rowF (Memref.whole main_arg3) b).view.read (Elt F) (m ((c : Thread nD τ).loc main_arg3))
  H b := (rowF (Memref.whole main_arg4) b).view.read (Elt F) (m ((c : Thread nD τ).loc main_arg4))
  W := (wRows (Memref.whole main_arg1)).view.read (Elt F) (m ((c : Thread nD τ).loc main_arg1))
  N := blkAt m c 0 t

/-- The first result holds, block of rows by block of rows, what the body computes from the operands' blocks. -/
def Good (c : Dev nD) (t : Fin cfg0.N) (g : Buf (Elt F) ((c : Thread nD τ).loc main_v0_0)) : Prop :=
  ∀ b, (rowF (Memref.whole main_v0_0) b).view.read (Elt F) g = resE (vals m c t) b

/-- The operands no window stages, unchanged. -/
def kept (c : Dev nD) : sProp 𝕄 :=
  iprop(((c : Thread nD τ).loc main_arg0 ↦{fullShare} m ((c : Thread nD τ).loc main_arg0)) ∗ ((c : Thread nD τ).loc main_arg1 ↦{fullShare} m ((c : Thread nD τ).loc main_arg1))
    ∗ ((c : Thread nD τ).loc main_arg2 ↦{fullShare} m ((c : Thread nD τ).loc main_arg2)) ∗ ((c : Thread nD τ).loc main_arg3 ↦{fullShare} m ((c : Thread nD τ).loc main_arg3))
    ∗ ((c : Thread nD τ).loc main_arg4 ↦{fullShare} m ((c : Thread nD τ).loc main_arg4)))
/-- The first result, done. -/
def dones (c : Dev nD) (t : Fin cfg0.N) : sProp 𝕄 := iprop(∃ g, ⌜Good m c t g⌝ ∗ ((c : Thread nD τ).loc main_v0_0 ↦{fullShare} g))

abbrev sems (c : Dev nD) : sProp 𝕄 := Pipeline.ownSems0 (Ix := Unit) (Name := ℕ) (U := UD sig nD τ) (Lvl := ℕ) (Val := Elt F) (τ := τ) osem c
abbrev scr (c : Dev nD) : sProp 𝕄 := Pipeline.scopedRest (Ix := Unit) (Name := ℕ) (U := UD sig nD τ) (Lvl := ℕ) (Val := Elt F) cfg0.spec c
abbrev mem (c : Dev nD) : sProp 𝕄 :=
  Pipeline.unscopedRest (Ix := Unit) (Name := ℕ) (U := UD sig nD τ) (Lvl := ℕ) cfg0.spec c fun b => m ((c : Thread nD τ).loc b)

def before (c : Dev nD) : sProp 𝕄 := iprop((mem m c ∗ sems c) ∗ scr c)
def after (c : Dev nD) (t : Fin cfg0.N) : sProp 𝕄 := iprop((kept m c ∗ dones m c t) ∗ sems c ∗ scr c)

/-- The weights' other rows. -/
abbrev others (c : Dev nD) : sProp 𝕄 :=
  (c : Thread nD τ).loc main_arg1 ↦[Finset.univ \ (wRows (Memref.whole main_arg1)).view.set]{fullShare} m ((c : Thread nD τ).loc main_arg1)

theorem sep4 (A P X H : Fin 32 → sProp 𝕄) : bigSep Finset.univ (fun b => iprop(A b ∗ P b ∗ X b ∗ H b))
    = iprop(bigSep Finset.univ A ∗ bigSep Finset.univ P ∗ bigSep Finset.univ X ∗ bigSep Finset.univ H) :=
  (BI.bigSep_sep Finset.univ A fun b => iprop(P b ∗ X b ∗ H b)).trans (congrArg (fun Q => iprop(bigSep Finset.univ A ∗ Q))
    ((BI.bigSep_sep Finset.univ P fun b => iprop(X b ∗ H b)).trans (congrArg (fun Q => iprop(bigSep Finset.univ P ∗ Q)) (BI.bigSep_sep Finset.univ X H))))

/-- The operands' blocks at home are the operands. -/
theorem homes_eq (c : Dev nD) (t : Fin cfg0.N) : bigSep Finset.univ (homeI (E t) c (vals m c t))
    = iprop(((c : Thread nD τ).loc main_arg0 ↦{fullShare} m ((c : Thread nD τ).loc main_arg0)) ∗ ((c : Thread nD τ).loc main_arg2 ↦{fullShare} m ((c : Thread nD τ).loc main_arg2))
        ∗ ((c : Thread nD τ).loc main_arg3 ↦{fullShare} m ((c : Thread nD τ).loc main_arg3)) ∗ ((c : Thread nD τ).loc main_arg4 ↦{fullShare} m ((c : Thread nD τ).loc main_arg4))) := by
  rw [rows0 c, rows2 c, rows3 c, rows4 c]
  exact sep4 _ _ _ _

set_option maxHeartbeats 1600000 in
theorem point_run (c : Dev nD) (t : Fin cfg0.N) :
    iprop(before m c ∗ (∃ W, owes (c : Thread nD τ) 0 W) ∗ owns (c : Thread nD τ) (st0_0 t) fullShare (blkAt m c 0 t) ∗ ∃ d, owns (c : Thread nD τ) (st0_1 t) fullShare d)
    ⊢ wp frame (wpE (defs₀ (F := F)) Variants.none c none) Set.univ (bodyAt0 t) (fun _ => iprop(after m c t ∗ (∃ W, owes (c : Thread nD τ) 0 W)
        ∗ owns (c : Thread nD τ) (st0_0 t) fullShare (blkAt m c 0 t) ∗ owns (c : Thread nD τ) (st0_1 t) fullShare (accAt (vals m c t) 32))) := by
  unfold bodyAt0 before mem owns
  rw [unscopedRest0_eq, body_eq]
  iintro ⟨⟨⟨⟨H0, H1, H2, H3, H4, R⟩, HS⟩, HB⟩, HW, ⟨%f5, %e5, H5⟩, ⟨%d7, %f7, -, H7⟩⟩
  ihave Hr := (rest_open (F := F) c t) $$ [HS HB]
  · isplitl [HS] <;> iassumption
  icases Hr with ⟨HF, HG, H8⟩
  ihave H1 := (weights_eq c _).mp $$ H1
  icases H1 with ⟨H1, Hx⟩
  iapply (wp_wand_r Idealize.ShloMosaic.frame (wpE (defs₀ (F := F)) Variants.none c none) Set.univ)
  isplitr [Hx]
  · iapply (prog_run (E t) c (vals m c t) (wRows (Memref.whole main_arg1)) (semAt cc0_scratch7 ![2] inb_S3_S1_2) _ _ _ _ _ k0_t1_loop k0_t1_ok _ (by decide)
      fun k => t1_trip (F := F) _ _ _ _ _ _ _ _ _ _ _ _ _ _ _ _ _ _ _ _ _ _ _ _ _ _ _ _ _ _ k)
    isplitl [HF]; · iexact HF
    isplitl [HG]; · iexact HG
    isplitl [H8]; · iexact H8
    isplitl [H1]; · iexact H1
    isplitl [H5]
    · iapply (pointsTo_rep_of_read (c : Thread nD τ) (st0_0 t) _ fullShare _ e5); iexact H5
    isplitl [H7]; · iexists f7; iexact H7
    isplitl [H0 H2 H3 H4]
    · rw [homes_eq m c t]
      isplitl [H0]; · iexact H0
      isplitl [H2]; · iexact H2
      isplitl [H3] <;> iassumption
    isplitl [R]; · iapply (ahead_of c _); iexact R
    iexact HW
  iintro %_ ⟨HF, HG, H8, H1, H5, H7, HH, R, HW⟩
  ihave HH := (of_eq (homes_eq m c t)) $$ HH
  icases HH with ⟨H0, H2, H3, H4⟩
  isplitr [HW H5 H7]
  · unfold after kept dones
    isplitr [HF HG H8]
    · isplitr [R]
      · isplitl [H0]; · iexact H0
        isplitl [H1 Hx]
        · iapply (weights_eq c (m ((c : Thread nD τ).loc main_arg1))).mpr
          isplitl [H1]; · iexact H1
          iexact Hx
        isplitl [H2]; · iexact H2
        isplitl [H3] <;> iassumption
      iapply (done_of c (resE (vals m c t)) (m _)); iexact R
    iapply (rest_close (F := F) c t)
    isplitl [HF]; · iexact HF
    isplitl [HG] <;> iassumption
  isplitl [HW]; · iexact HW
  isplitl [H5]
  · iexists _
    isplitr
    · ipureintro; exact View.read_rep (st0_0 t).view (blkAt m c 0 t)
    iexact H5
  iexists _
  isplitr
  · ipureintro; exact View.read_rep (st0_1 t).view (accAt (vals m c t) 32)
  iexact H7

/-! ## The launch -/

/-- The proof data: the two windows' blocks, and everything else handed over before the one point and handed back after it. -/
def dats (_ : Fin 1) (c : Dev nD) : Dat τ (Elt F) Unit ℕ (UD sig nD τ) ℕ cfg0 c where
  A w := m ((c : Thread nD τ).loc (Pipeline.arrRef spec0 w))
  after w t := match w with
    | ⟨0, _⟩ => blkAt m c 0 t
    | ⟨1, _⟩ => accAt (vals m c t) 32
  Φ t := if t.val = 0 then before m c else after m c t0_0
  q _ := fullShare
  owed _ := 0

theorem after0 (c : Dev nD) (t : Fin cfg0.N) : (dats m 0 c).after 0 t = blkAt m c 0 t := by dsimp only [dats]
theorem after1 (c : Dev nD) (t : Fin cfg0.N) : (dats m 0 c).after 1 t = accAt (vals m c t) 32 := by dsimp only [dats]

theorem before0 (c : Dev nD) (t : Fin cfg0.N) (d) : (dats m 0 c).before 0 t d = blkAt m c 0 t :=
  ((dats m 0 c).before_in_eq_fetched 0 rfl (fun _ => rfl) (fun _ _ _ => rfl) (fun t => by rw [after0]; rfl) t d).trans rfl

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

theorem defs₀_row (t : Fin cfg0.N) : defs₀ (F := F) .tc cfg0.body (cfg0.bodyArgs t (cfg0.slots t)) = bodyAt0 t := by
  unfold defs₀; rw [Defs.onTc_tc]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t)

theorem sound_body (c : Dev nD) (t : Fin cfg0.N) :
    bodyPre m c t ⊢ wp frame (wpE (defs₀ (F := F)) Variants.none c none) Set.univ (bodyAt0 t) (fun _ => bodyPost m c t) := by
  have h0 : (dats m 0 c).Φ t.castSucc = before m c := by
    rw [fin_N0 t]; rfl
  have h1 : (dats m 0 c).Φ t.succ = after m c t := by
    rw [fin_N0 t]; rfl
  unfold bodyPre bodyPost
  rw [h0, h1, leaves_live m c 0 t rfl, leaves_live m c 1 t rfl, after0, after1]
  simp only [before0]
  unfold Dat.owesAt Pipeline.owesWithin
  rw [show (dats m 0 c).owed t.castSucc = 0 from rfl, show (dats m 0 c).owed t.succ = 0 from rfl]
  iintro ⟨H, ⟨%W, -, HW⟩, ⟨%d0, H0⟩, ⟨%d1, H1⟩⟩
  iapply (wp_wand_r Idealize.ShloMosaic.frame (wpE (defs₀ (F := F)) Variants.none c none) Set.univ)
  isplitl
  · iapply (point_run m c t)
    isplitl [H]; · iexact H
    isplitl [HW]; · iexists W; iexact HW
    isplitl [H0]; · iexact H0
    iexists _; iexact H1
  iintro %_ ⟨H, ⟨%W', HW⟩, H0, H1⟩
  isplitl [H]; · iexact H
  isplitl [HW]
  · iexists W'
    isplitr; · ipureintro; exact fun _ _ => Or.inl trivial
    iexact HW
  isplitl [H0] <;> iassumption

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What a final memory holds. -/
def Final (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4) ∧ s.mem ((c : Thread nD τ).loc main_arg5) = m ((c : Thread nD τ).loc main_arg5))
  ∧ Good m c t0_0 (s.mem ((c : Thread nD τ).loc main_v0_0)) ∧ s.mem ((c : Thread nD τ).loc main_v0_1) = (dats m 0 c).arrAt 1 cfg0.N

set_option backward.isDefEq.respectTransparency.types false in
/-- From any memory with zero counters, every execution ends with the operands unchanged, the results done and every counter at zero. -/
theorem run : θ_run defs (onTc (τ := τ) (main (F := F))) ⟨m, fun _ => 0, ρ⟩ (fun r => (∀ c, Final m c r.2) ∧ r.2.sem = fun _ => 0) :=
  Pipeline.θ_run_region_kit_quiescent cfgs (dats m) () (0 : Fin 1) launch0 ownSemFacts embL defs₀ Variants.none m ρ main
    (hbody := fun c => (body_obligation m c).loose) (hshare := fun c => (dats m 0 c).share_full fun _ => rfl) (howed := fun _ _ => rfl)
    (G := fun _ => iprop(emp)) (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := Pipeline.hmain_region cfgs 0 defs₀ Variants.none m main fun c => (main_chain c).trans rfl)
    (hA := fun _ _ => rfl)
    (X := fun c => iprop(mem m c ∗ sems c)) (Y := fun c => iprop(kept m c ∗ dones m c t0_0)) (Z := fun _ => iprop(emp))
    (hX := fun c => by
      iintro ⟨H0, HS, -, -, -⟩; imodintro
      isplitl [H0 HS]
      · isplitl [H0] <;> iassumption
      iempintro)
    (hin := fun c => .rfl)
    (hout := fun c => by
      rw [show (dats m 0 c).Φ (Fin.last cfg0.N) = after m c t0_0 from by
        show (if (Fin.last cfg0.N).val = 0 then before m c else after m c t0_0) = after m c t0_0
        exact if_neg (by decide)]
      exact .rfl)
    (QY := fun c s => (s.mem ((c : Thread nD τ).loc main_arg0) = m ((c : Thread nD τ).loc main_arg0) ∧ s.mem ((c : Thread nD τ).loc main_arg1) = m ((c : Thread nD τ).loc main_arg1)
      ∧ s.mem ((c : Thread nD τ).loc main_arg2) = m ((c : Thread nD τ).loc main_arg2) ∧ s.mem ((c : Thread nD τ).loc main_arg3) = m ((c : Thread nD τ).loc main_arg3)
      ∧ s.mem ((c : Thread nD τ).loc main_arg4) = m ((c : Thread nD τ).loc main_arg4)) ∧ Good m c t0_0 (s.mem ((c : Thread nD τ).loc main_v0_0)))
    (hY := fun c s' => by
      unfold kept dones
      iintro ⟨⟨⟨H0, H1, H2, H3, H4⟩, ⟨%g0, %e0, R0⟩⟩, -, HSI⟩
      icombine HSI H0 gives %h0
      icombine HSI H1 gives %h1
      icombine HSI H2 gives %h2
      icombine HSI H3 gives %h3
      icombine HSI H4 gives %h4
      icombine HSI R0 gives %r0
      imodintro
      isplitr
      · ipureintro
        have r0 := Buf.eq_of_forall_mem_univ r0
        exact ⟨⟨Buf.eq_of_forall_mem_univ h0, Buf.eq_of_forall_mem_univ h1, Buf.eq_of_forall_mem_univ h2, Buf.eq_of_forall_mem_univ h3,
          Buf.eq_of_forall_mem_univ h4⟩, r0 ▸ e0⟩
      iexact HSI)
    (hQ := fun s h hz => ⟨fun c => ⟨⟨(h c).2.1.1, (h c).2.1.2.1, (h c).2.1.2.2.1, (h c).2.1.2.2.2.1, (h c).2.1.2.2.2.2,
      ((h c).1 0).trans ((dats m 0 c).arrAt_in 0 rfl _)⟩, (h c).2.2, (h c).1 1⟩, hz⟩)

/-- The second result is what the last block of rows left. -/
theorem second (c : Dev nD) : (dats m 0 c).arrAt 1 cfg0.N = accAt (vals m c t0_0) 32 := by
  refine (dats m 0 c).arrAt_eq_of_cover 1 _ (fun t _ => ?_) fun (i : S8x2048.Idx) => ?_
  · rw [fin_N0 t]
    funext y
    refine congrArg (accAt (vals m c t0_0) 32) ?_
    funext a; apply Fin.ext
    match a with
    | ⟨0, _⟩ => show (y 0 : ℕ) = 0 * 8 + 1 * (y 0 : ℕ); omega
    | ⟨1, _⟩ => show (y 1 : ℕ) = 0 * 2048 + 1 * (y 1 : ℕ); omega
  · have h0 : (i 0 : ℕ) < 8 := (i 0).isLt
    have h1 : (i 1 : ℕ) < 2048 := (i 1).isLt
    refine ⟨t0_0, flush0_1 t0_0, ?_⟩
    show i ∈ ((View.whole main_v0_1).slice (win0_1.rect t0_0)).set
    rw [View.set_slice_whole, Rect.mem_set_unit]
    intro a
    match a with
    | ⟨0, _⟩ => exact ⟨(show 0 * 8 ≤ (i 0 : ℕ) by omega), (show (i 0 : ℕ) < 0 * 8 + 8 by omega)⟩
    | ⟨1, _⟩ => exact ⟨(show 0 * 2048 ≤ (i 1 : ℕ) by omega), (show (i 1 : ℕ) < 0 * 2048 + 2048 by omega)⟩

end Cert.Kernel8Ideal.DxnLast

end
-- ==== Proof.DxnLastValue.lean ====
/- The gradient at the layer's input: the results `Kernel8Ideal`'s run leaves are the residual's gradient plus the gradient
   through the normalisation, and the gain's gradient summed over the rows, which is what the reference's derivative is. -/
module

public import proofs.«01_k».proof.Proof.DxnLastRun
public import proofs.«01_k».proof.Proof.HeadRef
public import proofs.«01_k».proof.Proof.Gen.Reference8Ideal.Run
public import proofs.«01_k».proof.Proof.Gen.Kernel8
public import Idealize.ShloMosaic.Lib.Pointwise
public import Idealize.ShloMosaic.Lib.WholeRead
public import Idealize.ShloMosaic.Lib.Tactic

@[expose] public section

set_option maxRecDepth 16384

noncomputable section

namespace Cert.Kernel8Ideal.DxnLast

open Idealize.ShloMosaic Idealize.ShloMosaic.TcCoe Idealize.SL.Sem
open Idealize.ShloMosaic.Ring (bk)
open Cert.Kernel8Ideal Cert.Kernel8Ideal.Gen Cert.Norm
open Cert.Head (prow sum_rows)

/-! ## The results, over the operands -/

/-- The gradient at the normalised input: what arrived, and the last segment's part of it. -/
def gy (A : S8192x6144.Idx → EReal) (B : S16384x2048.Idx → EReal) (P : S8192x2048.Idx → EReal) : S8192x2048.Idx → EReal := fun i =>
  P i + ∑ j : Fin 6144, A (ix2 (i 0) j) * B (ix2 ⟨10240 + j, by omega⟩ (i 1))
/-- The gradient at the input. -/
def gx (A : S8192x6144.Idx → EReal) (B : S16384x2048.Idx → EReal) (P X H : S8192x2048.Idx → EReal) (N : S1x2048.Idx → EReal) : S8192x2048.Idx → EReal :=
  fun i => H i + back (fun k => X (ix2 (i 0) k)) (fun k => gy A B P (ix2 (i 0) k) * N (ix2 0 k)) (i 1)
/-- The gradient of the gain, after the first `n` blocks of rows. -/
def gwAt (A : S8192x6144.Idx → EReal) (B : S16384x2048.Idx → EReal) (P X : S8192x2048.Idx → EReal) (n : ℕ) : S8x2048.Idx → EReal := fun j =>
  if (j 0 : ℕ) = 0 then ∑ s ∈ Finset.range n, ∑ r, gy A B P (ix2 (prow s r) (j 1)) * nrm (fun k => X (ix2 (prow s r) k)) (j 1) else 0

/-! ## The body's values at an index -/

theorem dxn_at (a : Vec Ideal S256x6144 .bf16) (p : Vec Ideal S256x2048 .f32) (w : Vec Ideal S6144x2048 .bf16) (y : S256x2048.Idx) :
    dxn (F := Ideal) a p w y = p y + ∑ j : Fin 6144, a (ix2 (y 0) j) * w (ix2 j (y 1)) := by
  pointwise [dxn, k0_pay2, up1]

theorem pay4_eq (x : Vec Ideal S256x2048 .f32) : k0_pay4 (F := Ideal) (up1 x) = fun j : S256x1.Idx => rr fun k => x (ix2 (j 0) k) := by
  funext j; pointwise [k0_pay4, k0_pay3, up1, rr, ms]

theorem pay5_eq (x : Vec Ideal S256x2048 .f32) : k0_pay5 (F := Ideal) (up1 x) = fun j : S256x2048.Idx => nrm (fun k => x (ix2 (j 0) k)) (j 1) := by
  funext j; unfold k0_pay5; rw [pay4_eq]; pointwise [k0_pay3, up1, nrm]

theorem pay6_at (D N : Vec Ideal S256x2048 .f32) (v : Vec Ideal S1x2048 .f32) (y : S1x2048.Idx) :
    k0_pay6 (F := Ideal) D N v y = v y + ∑ r : Fin 256, D (ix2 r (y 1)) * N (ix2 r (y 1)) := by
  pointwise [k0_pay6]

theorem pay7_at (D x h : Vec Ideal S256x2048 .f32) (n : Vec Ideal S1x2048 .f32) (y : S256x2048.Idx) :
    shapeCast S256x2048 (k0_pay7 (F := Ideal) D (k0_pay4 (up1 x)) (k0_pay5 (up1 x)) n (up1 h)) (by decide) y
    = h y + back (fun k => x (ix2 (y 0) k)) (fun k => D (ix2 (y 0) k) * n (ix2 0 k)) (y 1) := by
  rw [pay4_eq, pay5_eq]
  pointwise [k0_pay7, up1, back]

theorem step_at (acc : Vec Ideal S8x2048 .f32) (a : Vec Ideal S256x6144 .bf16) (p x : Vec Ideal S256x2048 .f32) (w : Vec Ideal S6144x2048 .bf16) (y : S8x2048.Idx) :
    accStep (F := Ideal) acc a p x w y
    = if (y 0 : ℕ) = 0 then acc y + ∑ r : Fin 256, dxn (F := Ideal) a p w (ix2 r (y 1)) * nrm (fun k => x (ix2 r k)) (y 1) else acc y := by
  have h0 : (y 0 : ℕ) < 8 := (y 0).isLt
  have h1 : (y 1 : ℕ) < 2048 := (y 1).isLt
  unfold accStep VecWindow.put
  by_cases e : (y 0 : ℕ) = 0
  · rw [if_pos e, dif_pos (fun a => by match a with
      | ⟨0, _⟩ => exact ⟨(show 0 ≤ (y 0 : ℕ) by omega), (show (y 0 : ℕ) < 0 + 1 by omega)⟩
      | ⟨1, _⟩ => exact ⟨(show 0 ≤ (y 1 : ℕ) by omega), (show (y 1 : ℕ) < 0 + 2048 by omega)⟩), pay6_at, pay5_eq]
    refine congrArg₂ (· + ·) (congrArg acc ?_) rfl
    funext a; apply Fin.ext
    match a with
    | ⟨0, _⟩ => show 0 + 1 * ((y 0 : ℕ) - 0) = (y 0 : ℕ); omega
    | ⟨1, _⟩ => show 0 + 1 * ((y 1 : ℕ) - 0) = (y 1 : ℕ); omega
  · rw [if_neg e, dif_neg]
    intro h
    have := (h 0).2
    exact e (Nat.lt_one_iff.1 (lt_of_lt_of_eq this (show 0 + 1 = 1 from rfl)))

/-! ## The blocks the body works on -/

variable (m : (ℓ : Loc nD τ sig) → Buf (Elt Ideal) ℓ) (ρ : Dev nD → PrngReg)

/-- Where an index of a block of rows lies. -/
theorem rowF_place (b : Fin 32) (y : S256x2048.Idx) (l : 256 * b.val + (y 0).val < 8192) :
    (Rect.unit (s := S8192x2048) ![256 * b.val, 0] S256x2048.size (inRF b)).emb y = ix2 ⟨256 * b.val + (y 0).val, l⟩ (y 1) := by
  funext a; apply Fin.ext
  match a with
  | ⟨0, _⟩ => show 256 * b.val + 1 * (y 0).val = 256 * b.val + (y 0).val; omega
  | ⟨1, _⟩ => show 0 + 1 * (y 1).val = (y 1).val; omega
theorem rowA_place (b : Fin 32) (y : S256x6144.Idx) (l : 256 * b.val + (y 0).val < 8192) :
    (Rect.unit (s := S8192x6144) ![256 * b.val, 0] S256x6144.size (inRA b)).emb y = ix2 ⟨256 * b.val + (y 0).val, l⟩ (y 1) := by
  funext a; apply Fin.ext
  match a with
  | ⟨0, _⟩ => show 256 * b.val + 1 * (y 0).val = 256 * b.val + (y 0).val; omega
  | ⟨1, _⟩ => show 0 + 1 * (y 1).val = (y 1).val; omega
theorem wRows_place (y : S6144x2048.Idx) (l : 10240 + (y 0).val < 16384) :
    (Rect.unit (s := S16384x2048) ![10240, 0] S6144x2048.size inb_S16384x2048_S6144x2048_10240_0).emb y = ix2 ⟨10240 + (y 0).val, l⟩ (y 1) := by
  funext a; apply Fin.ext
  match a with
  | ⟨0, _⟩ => show 10240 + 1 * (y 0).val = 10240 + (y 0).val; omega
  | ⟨1, _⟩ => show 0 + 1 * (y 1).val = (y 1).val; omega

section
variable (c : Dev nD)

abbrev a0 : S8192x6144.Idx → EReal := m ((c : Thread nD τ).loc main_arg0)
abbrev a1 : S16384x2048.Idx → EReal := m ((c : Thread nD τ).loc main_arg1)
abbrev a2 : S8192x2048.Idx → EReal := m ((c : Thread nD τ).loc main_arg2)
abbrev a3 : S8192x2048.Idx → EReal := m ((c : Thread nD τ).loc main_arg3)
abbrev a4 : S8192x2048.Idx → EReal := m ((c : Thread nD τ).loc main_arg4)
abbrev a5 : S1x2048.Idx → EReal := m ((c : Thread nD τ).loc main_arg5)

theorem W_at (j : Fin 6144) (k : Fin 2048) : (vals m c t0_0).W (ix2 j k) = a1 m c (ix2 ⟨10240 + j, by omega⟩ k) :=
  congrArg (a1 m c) (wRows_place (ix2 j k) (by show 10240 + (j : ℕ) < 16384; omega))
theorem N_at (k : Fin 2048) : (vals m c t0_0).N (ix2 0 k) = a5 m c (ix2 0 k) := by
  refine congrArg (a5 m c) ?_
  funext a; apply Fin.ext
  match a with
  | ⟨0, _⟩ => rfl
  | ⟨1, _⟩ => show 0 * 2048 + 1 * (k : ℕ) = (k : ℕ); omega

variable (b : Fin 32) (r : Fin 256) (l : 256 * b.val + r.val < 8192)

theorem A_at (k : Fin 6144) : (vals m c t0_0).A b (ix2 r k) = a0 m c (ix2 ⟨256 * b.val + r.val, l⟩ k) := congrArg (a0 m c) (rowA_place b (ix2 r k) l)
theorem P_at (k : Fin 2048) : (vals m c t0_0).P b (ix2 r k) = a2 m c (ix2 ⟨256 * b.val + r.val, l⟩ k) := congrArg (a2 m c) (rowF_place b (ix2 r k) l)
theorem X_at (k : Fin 2048) : (vals m c t0_0).X b (ix2 r k) = a3 m c (ix2 ⟨256 * b.val + r.val, l⟩ k) := congrArg (a3 m c) (rowF_place b (ix2 r k) l)
theorem H_at (k : Fin 2048) : (vals m c t0_0).H b (ix2 r k) = a4 m c (ix2 ⟨256 * b.val + r.val, l⟩ k) := congrArg (a4 m c) (rowF_place b (ix2 r k) l)
theorem D_at (k : Fin 2048) : dxn (F := Ideal) ((vals m c t0_0).A b) ((vals m c t0_0).P b) (vals m c t0_0).W (ix2 r k)
    = gy (a0 m c) (a1 m c) (a2 m c) (ix2 ⟨256 * b.val + r.val, l⟩ k) :=
  (dxn_at _ _ _ _).trans (congrArg₂ (· + ·) (P_at m c b r l k) (Finset.sum_congr rfl fun j _ => congrArg₂ (· * ·) (A_at m c b r l j) (W_at m c j k)))
end

/-! ## The first result -/

theorem final0 (c : Dev nD) (g : Buf (Elt Ideal) ((c : Thread nD τ).loc main_v0_0)) (h : Good m c t0_0 g) :
    g = gx (a0 m c) (a1 m c) (a2 m c) (a3 m c) (a4 m c) (a5 m c) := by
  funext i
  have hi : ((i : S8192x2048.Idx) 0 : ℕ) < 8192 := (i 0).isLt
  obtain ⟨b, r, l, e⟩ : ∃ (b : Fin 32) (r : Fin 256) (l : 256 * b.val + r.val < 8192), (i : S8192x2048.Idx) = ix2 ⟨256 * b.val + r.val, l⟩ (i 1) := by
    have e : 256 * ((i 0 : ℕ) / 256) + (i 0 : ℕ) % 256 = (i 0 : ℕ) := Nat.div_add_mod _ _
    refine ⟨⟨(i 0 : ℕ) / 256, by omega⟩, ⟨(i 0 : ℕ) % 256, Nat.mod_lt _ (by decide)⟩, lt_of_eq_of_lt e hi, ?_⟩
    funext a; apply Fin.ext
    match a with
    | ⟨0, _⟩ => exact e.symm
    | ⟨1, _⟩ => rfl
  generalize (i : S8192x2048.Idx) 1 = k at e
  subst e
  refine ((congrArg g (rowF_place b (ix2 r k) l)).symm.trans (congrFun (h b) (ix2 r k))).trans ((pay7_at _ _ _ _ _).trans ?_)
  refine congrArg₂ (· + ·) (H_at m c b r l k) (congrArg₂ (fun x y => back x y k) (funext fun q => X_at m c b r l q) (funext fun q => ?_))
  exact congrArg₂ (· * ·) (D_at m c b r l q) (N_at m c q)

/-! ## The second result -/

theorem acc_at (c : Dev nD) (n : ℕ) (hn : n ≤ 32) : accAt (vals m c t0_0) n = gwAt (a0 m c) (a1 m c) (a2 m c) (a3 m c) n := by
  induction n with
  | zero =>
    funext y
    show acc0 (F := Ideal) y = gwAt _ _ _ _ 0 y
    refine (show acc0 (F := Ideal) y = 0 by pointwise [k0_pay1]).trans ?_
    unfold gwAt
    rw [Finset.range_zero, Finset.sum_empty, ite_self]
  | succ n ih =>
    funext y
    refine (step_at _ _ _ _ _ y).trans ?_
    rw [ih (by omega)]
    unfold gwAt
    by_cases e : (y 0 : ℕ) = 0
    · rw [if_pos e, if_pos e, if_pos e, Finset.sum_range_succ]
      refine congrArg (_ + ·) (Finset.sum_congr rfl fun r _ => ?_)
      have hr : (r : ℕ) < 256 := r.isLt
      have hb : (bk 32 n : Fin 32).val = n := Ring.bk_val (by omega)
      have l : 256 * (bk 32 n : Fin 32).val + r.val < 8192 := by omega
      have ep : (⟨256 * (bk 32 n : Fin 32).val + r.val, l⟩ : Fin 8192) = prow n r := Fin.ext (by
        show 256 * (bk 32 n : Fin 32).val + r.val = (256 * n + r) % 8192
        rw [hb, Nat.mod_eq_of_lt (by omega)])
      rw [← ep]
      exact congrArg₂ (· * ·) (D_at m c (bk 32 n) r l (y 1)) (congrArg (fun x => nrm x (y 1)) (funext fun q => X_at m c (bk 32 n) r l q))
    · rw [if_neg e, if_neg e, if_neg e]

/-- The whole results. -/
abbrev G0 (c : Dev nD) : S8192x2048.Idx → EReal := gx (a0 m c) (a1 m c) (a2 m c) (a3 m c) (a4 m c) (a5 m c)
abbrev G1 (c : Dev nD) : S8x2048.Idx → EReal := gwAt (a0 m c) (a1 m c) (a2 m c) (a3 m c) 32

theorem run_value : θ_run defs (onTc (τ := τ) (main (F := Ideal))) ⟨m, fun _ => 0, ρ⟩ fun r => ∀ c : Dev nD,
      r.2.mem ((c : Thread nD τ).loc main_v0_0) = G0 m c
      ∧ r.2.mem ((c : Thread nD τ).loc main_v0_1) = G1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨final0 m c _ (h.1 c).2.1, (h.1 c).2.2.trans ((second m c).trans (acc_at m c 32 le_rfl)), (h.1 c).1⟩) (run m ρ)

end Cert.Kernel8Ideal.DxnLast

namespace Cert.Reference8Ideal.DxnLast

open Idealize.ShloMosaic Idealize.ShloMosaic.TcCoe Idealize.SL.Sem
open Cert.Reference8Ideal Cert.Reference8Ideal.Gen Cert.Norm
open Cert.Kernel8Ideal.DxnLast (gy gx gwAt)
open Cert.Reference7Ideal.Head (tMs tMs_eq tHn tHn_eq tQ tQ_eq tF tF_eq)

variable (A : FVec Ideal S8192x6144 .bf16) (B : FVec Ideal S16384x2048 .bf16) (P X H : FVec Ideal S8192x2048 .f32) (N : FVec Ideal S1x2048 .f32)

/-- The gradient at the normalised input, at the scaled row's end, and at the row's. -/
def tY : FVec Ideal S8192x2048 .f32 :=
  addf P (Host.dotGeneral dot_S8192x6144_S2048x6144_S8192x2048_1_1_0_0_n_n none (extf .f32 A bitsLt_bf16_f32)
    (transpose S2048x6144 [1, 0] (extf .f32 (extractStridedSlice S6144x2048 ![10240, 0] B slices_S16384x2048_S6144x2048_10240_0) bitsLt_bf16_f32) transposes_S6144x2048_S2048x6144_1_0))
def tG (Y : FVec Ideal S8192x2048 .f32) : FVec Ideal S8192x2048 .f32 :=
  mulf Y (broadcastInDim S8192x2048 ![0, 1] bcast_S1x2048_S8192x2048_0_1 (broadcastInDim S1x2048 ![1] bcast_S2048_S1x2048_1 (shapeCast _ N shapeCasts_S1x2048_S2048)))
def tX (G : FVec Ideal S8192x2048 .f32) : FVec Ideal S8192x2048 .f32 :=
  addf (addf (addf H (mulf G (broadcastInDim S8192x2048 ![0, 1] bcast_S8192x1_S8192x2048_0_1 (Host.rsqrt (tMs X)))))
    (mulf X (broadcastInDim S8192x2048 ![0] bcast_S8192_S8192x2048_0 (tQ X G)))) (mulf (broadcastInDim S8192x2048 ![0] bcast_S8192_S8192x2048_0 (tQ X G)) X)

theorem tY_eq : tY A B P = gy A B P := by
  funext j; pointwise [tY, gy]
theorem tG_eq (Y : FVec Ideal S8192x2048 .f32) : tG N Y = fun j : S8192x2048.Idx => Y j * N (ix2 0 (j 1)) := by
  funext j; pointwise [tG]
theorem tX_eq (G : FVec Ideal S8192x2048 .f32) : tX X H G = fun j : S8192x2048.Idx => H j + back (fun k => X (ix2 (j 0) k)) (fun k => G (ix2 (j 0) k)) (j 1) := by
  funext j
  refine Eq.trans ?_ (congrArg (H j + ·) (back_eq (fun k => X (ix2 (j 0) k)) (fun k => G (ix2 (j 0) k)) (j 1)))
  rw [← add_assoc, ← add_assoc]
  unfold tX; rw [tQ_eq, tMs_eq]; pointwise [rr]

theorem ref0 : tX X H (tG N (tY A B P)) = gx A B P X H N := by
  rw [tX_eq, tG_eq, tY_eq]; rfl
theorem ref1 : tF (tHn X) (tY A B P) = gwAt A B P X 32 := by
  rw [tF_eq, tHn_eq, tY_eq]
  funext j
  unfold gwAt
  rw [← Cert.Head.sum_rows fun r => gy A B P (ix2 r (j 1)) * nrm (fun k => X (ix2 r k)) (j 1)]
  exact congrArg (fun q : EReal => if (j 0 : ℕ) = 0 then q else 0) (Finset.sum_congr rfl fun r _ => mul_comm _ _)

end Cert.Reference8Ideal.DxnLast

namespace Cert.DxnLast

open Idealize.ShloMosaic Idealize.ShloMosaic.TcCoe Idealize.SL.Sem

theorem frameI : Cert.quiescent_Kernel8Ideal (hKernel8Ideal := Cert.Kernel8Ideal.Gen.facts) := fun m ρ _ =>
  (θ_run Cert.Kernel8Ideal.defs _ _).mono (fun r h => ⟨fun c => (h.1 c).1, h.2⟩) (Cert.Kernel8Ideal.DxnLast.run m ρ)

section
attribute [local instance] Cert.Kernel8.Gen.facts Cert.Kernel8Ideal.Gen.facts

/-- The two programs have the same text: their body tables are equal, -/
theorem defs₀_eq : Cert.Kernel8.defs₀ (F := Bits) = Cert.Kernel8Ideal.defs₀ (F := Bits) := by
  unfold Cert.Kernel8.defs₀ Cert.Kernel8Ideal.defs₀
  refine congrArg Defs.onTc ?_
  funext l a
  match l, a with
  | ⟨0, _⟩, (t, s) => rfl

theorem defs_eq : Cert.Kernel8.defs (F := Bits) = Cert.Kernel8Ideal.defs (F := Bits) := by
  unfold Cert.Kernel8.defs Cert.Kernel8Ideal.defs
  rw [defs₀_eq]
  rfl
end

/-- so the run of the one is the run of the other. -/
theorem frame : Cert.quiescent_Kernel8 (hKernel8 := Cert.Kernel8.Gen.facts) := fun m ρ _ => by
  rw [defs_eq]
  exact (θ_run Cert.Kernel8Ideal.defs _ _).mono (fun r h => ⟨fun c => (h.1 c).1, h.2⟩) (Cert.Kernel8Ideal.DxnLast.run (F := Bits) m ρ)

theorem frameR : Cert.quiescent_Reference8Ideal (hReference8Ideal := Cert.Reference8Ideal.Gen.facts) := fun m ρ _ =>
  (θ_run Cert.Reference8Ideal.defs _ _).mono (fun r h => ⟨fun c => (h c).2.2, sem_eq_zero_of_no_sems (by decide) r.2⟩)
    (Cert.Reference8Ideal.Value.run (F := Ideal) m ρ)

theorem algebraic : Cert.algebraic_Kernel8Ideal_Reference8Ideal (hKernel8Ideal := Cert.Kernel8Ideal.Gen.facts)
    (hReference8Ideal := Cert.Reference8Ideal.Gen.facts) := by
  intro m g m' g' _ hagree
  refine ⟨fun c => Cert.Kernel8Ideal.DxnLast.G0 m c, fun c => Cert.Kernel8Ideal.DxnLast.G1 m c, Cert.Kernel8Ideal.DxnLast.run_value m g, ?_⟩
  refine (θ_run Cert.Reference8Ideal.defs _ _).mono (fun r h c => ?_) (Cert.Reference8Ideal.Value.run (F := Ideal) m' g')
  obtain ⟨h0, h1, hk⟩ := h c
  obtain ⟨e0, e1, e2, e3, e4, e5⟩ := hagree c
  unfold Cert.Reference8Ideal.Value.res_main_v44 at h0
  rw [e0, e1, e2, e3, e4, e5] at h0
  rw [e0, e1, e2, e3] at h1
  exact ⟨h0.trans (Cert.Reference8Ideal.DxnLast.ref0 _ _ _ _ _ _), h1.trans (Cert.Reference8Ideal.DxnLast.ref1 _ _ _ _), hk⟩

end Cert.DxnLast

end
-- ==== Proof.SguBlocks.lean ====
/- The block values of the gradient of the spatial gating unit: what one grid point of `KernelIdeal` leaves in each
   of its buffers, as plain functions of the point's input blocks. -/
module

public import proofs.«01_k».proof.Proof.Gen.KernelIdeal.Frame
public import Idealize.ShloMosaic.Lib.Pointwise
public import Idealize.ShloMosaic.Lib.WholeRead
public import Idealize.ShloMosaic.Lib.Pipeline.Value
public import Idealize.ShloMosaic.Lib.Pipeline.ReadBack
public import Idealize.ShloMosaic.Lib.Pipeline.ValueKit.Acc
public import Idealize.ShloMosaic.Lib.Tactic

@[expose] public section

set_option maxRecDepth 16384

noncomputable section

namespace Cert.KernelIdeal.Sgu

open Idealize.ShloMosaic Idealize.ShloMosaic.TcCoe Idealize.SL.Sem
open Cert.KernelIdeal Cert.KernelIdeal.Gen

/-! ## The mathematics of one row, over the extended reals -/

/-- The mean of a row. -/
def mu (x : Fin 2048 → EReal) : EReal := Ideal.div (∑ k, x k) (Ideal.ofBits .f32 0x45000000#32)
/-- The row less its mean. -/
def cen (x : Fin 2048 → EReal) (c : Fin 2048) : EReal := x c - mu x
/-- The reciprocal of the row's standard deviation. -/
def rs (x : Fin 2048 → EReal) : EReal :=
  Ideal.rsqrt (Ideal.div (∑ k, cen x k * cen x k) (Ideal.ofBits .f32 0x45000000#32) + Ideal.ofBits .f32 0x3727C5AC#32)
/-- The normalised row. -/
def hat (x : Fin 2048 → EReal) (c : Fin 2048) : EReal := cen x c * rs x
/-- The sigmoid. -/
def sg (z : EReal) : EReal := Ideal.div 1 (1 + Ideal.exp (0 - z))
/-- The gate `z · sigmoid z`. -/
def silu (z : EReal) : EReal := z * sg z

/-- The channel group of a column. -/
def grp (c : Fin 2048) : Fin 16 := ⟨c / 128, by omega⟩
/-- A row's place in its token block. -/
def pos (r : Fin 512) : Fin 128 := ⟨r % 128, by omega⟩
/-- Place `k` of the token block that holds row `r`. -/
def row (r : Fin 512) (k : Fin 128) : Fin 512 := ⟨128 * (r / 128) + k, by omega⟩

variable (x0 x1 x2 x3 : Vec Ideal S512x2048 .bf16) (x4 x5 : Vec Ideal S1x2048 .f32) (x6 x7 : Vec Ideal S16x128x128 .bf16)
  (x8 : Vec Ideal S128x2048 .f32) (x9 : Vec Ideal S128x128 .f32) (x10 : Vec Ideal S2048x128 .f32)

/-- The normalised values scaled and shifted. -/
def VN : S512x2048.Idx → EReal := fun j =>
  hat (fun k => x1 (ix2 (j 0) k)) (j 1) * x4 (ix2 0 (j 1)) + x5 (ix2 0 (j 1))
/-- The gradient reaching the mixed values. -/
def DM : S512x2048.Idx → EReal := fun j => x3 j * x0 j * silu (x2 j)
/-- The mixed values: each group's matrix over the token block, and the bias. -/
def MX : S512x2048.Idx → EReal := fun j =>
  (∑ k, x6 (ix3 (grp (j 1)) (pos (j 0)) k) * VN x1 x4 x5 (ix2 (row (j 0) k) (j 1))) + x8 (ix2 (pos (j 0)) (j 1))
/-- The gradient reaching the normalised values: the transposed matrices over the token block. -/
def DV : S512x2048.Idx → EReal := fun j =>
  ∑ k, x7 (ix3 (grp (j 1)) (pos (j 0)) k) * DM x0 x2 x3 (ix2 (row (j 0) k) (j 1))

theorem hz2 : (![0, 0] : Fin 2 → Nat) = fun _ => 0 := funext fun a => by fin_cases a <;> rfl
theorem hz3 : (![0, 0, 0] : Fin 3 → Nat) = fun _ => 0 := funext fun a => by fin_cases a <;> rfl

theorem pay29_eq : k0_pay29 (F := Ideal) x1 x4 x5 = VN x1 x4 x5 := by
  funext j
  pointwise [k0_pay29, k0_pay28, k0_pay27, k0_pay26, VN, hat, rs, cen, mu]

theorem pay122_eq : k0_pay122 (F := Ideal) (k0_pay114 x0) (k0_pay116 x3) (k0_pay118 x2) = DM x0 x2 x3 := by
  funext j
  pointwise [k0_pay122, k0_pay121, k0_pay114, k0_pay115, k0_pay116, k0_pay117, k0_pay118, DM, silu, sg]

/-! ## One store of each kind -/

/-- A mixing product at an index. -/
theorem pay32_at (w : Vec Ideal S1x128x128 .bf16) (v : Vec Ideal S128x128 .bf16) (b : Vec Ideal S128x128 .f32) (x : S128x128.Idx) :
    k0_pay32 (F := Ideal) w v b x = (∑ k, w (ix3 0 (x 0) k) * v (ix2 k (x 1))) + b x := by
  pointwise [k0_pay32]

/-- A transposed mixing product at an index. -/
theorem pay272_at (w : Vec Ideal S1x128x128 .bf16) (v : Vec Ideal S128x128 .bf16) (x : S128x128.Idx) :
    k0_pay272 (F := Ideal) v w x = ∑ k, w (ix3 0 (x 0) k) * v (ix2 k (x 1)) := by
  pointwise [k0_pay272]

section
variable {c : Dev nD} {arg7 : Memref sig .tc .vmem S16x128x128 .bf16} (harg7 : arg7.IsWhole) {arg9 : Memref sig .tc .vmem S128x2048 .f32} (harg9 : arg9.IsWhole)
  (arg17 : Memref sig .tc .vmem S512x2048 .bf16)

/-- The index of the array under a tile's index. -/
theorem emb_tile (a b : Nat) (inb : ∀ i, ![a, b] i + S128x128.size i ≤ S512x2048.size i) (x : S128x128.Idx)
    (h0 : a + (x 0 : Nat) < 512) (h1 : b + (x 1 : Nat) < 2048) :
    (Rect.unit (s := S512x2048) ![a, b] S128x128.size inb).emb x = ix2 ⟨a + x 0, h0⟩ ⟨b + x 1, h1⟩ := by
  funext i
  apply Fin.ext
  rw [Rect.emb_apply]
  fin_cases i <;> simp

/-- A store of one block of the values' gradient: the block of `DV` its rectangle names. -/
theorem dvn_piece {arg8 : Memref sig .tc .vmem S16x128x128 .bf16} (harg8 : arg8.IsWhole) (arg19 : Memref sig .tc .vmem S512x2048 .bf16)
    {L0 : List (View.Piece (Elt Ideal) S512x2048 .bf16)} (hL : View.canon L0 = DM x0 x2 x3)
    (o1 o2 g : Nat) (h1 : o1 % 128 = 0) (h2 : o2 = 128 * g)
    (inb : ∀ a, ![o1, o2] a + S128x128.size a ≤ S512x2048.size a) (inb7 : ∀ a, ![g, 0, 0] a + S1x128x128.size a ≤ S16x128x128.size a)
    (x : S128x128.Idx) :
    k0_pay272 (F := Ideal) (arg19.view.readCov L0 (Rect.unit (s := S512x2048) ![o1, o2] S128x128.size inb).toLoadRect)
      (View.readAt (Elt Ideal) arg8.view (Rect.unit (s := S16x128x128) ![g, 0, 0] S1x128x128.size inb7).toLoadRect (harg8.unread x7)) x
    = DV x0 x2 x3 x7 ((Rect.unit (s := S512x2048) ![o1, o2] S128x128.size inb).emb x) := by
  subst h2
  rw [pay272_at, View.readCov_eq_canon', hL]
  simp only [View.readAt_eq_ld, harg8.read_unread]
  have a0 := inb 0; have a1 := inb 1
  have b0 := (x 0).isLt; have b1 := (x 1).isLt
  simp at a0 a1 b0 b1
  rw [emb_tile o1 (128 * g) inb x (by omega) (by omega)]
  pointwise [DV, View.ld]
  have e1 : grp ⟨128 * g + (x 1 : Nat), by omega⟩ = ⟨g, by omega⟩ := Fin.ext (by simp only [grp]; omega)
  have e2 : pos ⟨o1 + (x 0 : Nat), by omega⟩ = x 0 := Fin.ext (by simp only [pos]; omega)
  have e3 : ∀ k, row ⟨o1 + (x 0 : Nat), by omega⟩ k = ⟨o1 + k, by omega⟩ := fun k => Fin.ext (by simp only [row]; omega)
  rw [e1, e2]
  simp only [e3]

/-- A store of one block of mixed values: the block of `MX` its rectangle names. -/
theorem mix_piece {L0 : List (View.Piece (Elt Ideal) S512x2048 .bf16)} (hL : View.canon L0 = VN x1 x4 x5)
    (o1 o2 g : Nat) (h1 : o1 % 128 = 0) (h2 : o2 = 128 * g)
    (inb : ∀ a, ![o1, o2] a + S128x128.size a ≤ S512x2048.size a) (inb7 : ∀ a, ![g, 0, 0] a + S1x128x128.size a ≤ S16x128x128.size a)
    (inb9 : ∀ a, ![0, o2] a + S128x128.size a ≤ S128x2048.size a) (x : S128x128.Idx) :
    k0_pay32 (F := Ideal) (View.readAt (Elt Ideal) arg7.view (Rect.unit (s := S16x128x128) ![g, 0, 0] S1x128x128.size inb7).toLoadRect (harg7.unread x6))
      (arg17.view.readCov L0 (Rect.unit (s := S512x2048) ![o1, o2] S128x128.size inb).toLoadRect)
      (View.readAt (Elt Ideal) arg9.view (Rect.unit (s := S128x2048) ![0, o2] S128x128.size inb9).toLoadRect (harg9.unread x8)) x
    = MX x1 x4 x5 x6 x8 ((Rect.unit (s := S512x2048) ![o1, o2] S128x128.size inb).emb x) := by
  subst h2
  rw [pay32_at, View.readCov_eq_canon', hL]
  simp only [View.readAt_eq_ld, harg7.read_unread, harg9.read_unread]
  have a0 := inb 0; have a1 := inb 1
  have b0 := (x 0).isLt; have b1 := (x 1).isLt
  simp at a0 a1 b0 b1
  rw [emb_tile o1 (128 * g) inb x (by omega) (by omega)]
  pointwise [MX, View.ld]
  have e1 : grp ⟨128 * g + (x 1 : Nat), by omega⟩ = ⟨g, by omega⟩ := Fin.ext (by simp only [grp]; omega)
  have e2 : pos ⟨o1 + (x 0 : Nat), by omega⟩ = x 0 := Fin.ext (by simp only [pos]; omega)
  have e3 : ∀ k, row ⟨o1 + (x 0 : Nat), by omega⟩ k = ⟨o1 + k, by omega⟩ := fun k => Fin.ext (by simp only [row]; omega)
  rw [e1, e2]
  simp only [e3]

end

section
variable (c : Dev nD) (arg1 : Memref sig .tc .vmem S512x2048 .bf16) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x128x128 .bf16) (harg7 : arg7.IsWhole) (arg8 : Memref sig .tc .vmem S16x128x128 .bf16) (harg8 : arg8.IsWhole) (arg9 : Memref sig .tc .vmem S128x2048 .f32) (harg9 : arg9.IsWhole)
  (arg17 : Memref sig .tc .vmem S512x2048 .bf16) (arg18 : Memref sig .tc .vmem S512x2048 .f32)

theorem HS0_A : View.canon (kernelRun0_A.sl.HS0_1 (F := Ideal) c arg2 harg2 arg5 harg5 arg6 harg6 x1 x4 x5) = VN x1 x4 x5 := by
  unfold kernelRun0_A.sl.HS0_1
  rw [View.canon_unit_zero hz2]
  simp only [View.readAt_eq_ld, harg2.read_unread, harg5.read_unread, harg6.read_unread, View.ld_unit_zero (S := S512x2048) hz2, View.ld_unit_zero (S := S1x2048) hz2]
  exact pay29_eq x1 x4 x5

theorem HS1_A : View.PiecesOf (MX x1 x4 x5 x6 x8) (kernelRun0_A.sl.HS1_64 (F := Ideal) c arg2 harg2 arg5 harg5 arg6 harg6 arg7 harg7 arg9 harg9 arg17 x1 x4 x5 x6 x8) := by
  unfold kernelRun0_A.sl.HS1_64
  have h := HS0_A (x1 := x1) (x4 := x4) (x5 := x5) c arg2 harg2 arg5 harg5 arg6 harg6
  have hp := @mix_piece x1 x4 x5 x6 x8 arg7 harg7 arg9 harg9 arg17 _ h
  repeat (refine ⟨fun x => hp _ _ _ rfl rfl _ _ _ x, ?_⟩)
  trivial

theorem MX_A : View.canon (kernelRun0_A.sl.HS1_64 (F := Ideal) c arg2 harg2 arg5 harg5 arg6 harg6 arg7 harg7 arg9 harg9 arg17 x1 x4 x5 x6 x8) = MX x1 x4 x5 x6 x8 :=
  funext fun y => View.canon_apply_of_pieces _ _ (HS1_A ..).mem y (View.cover_of_tiledL _ ![128, 128] rfl y)

variable (arg19 : Memref sig .tc .vmem S512x2048 .bf16)

theorem HS2_A : View.canon (kernelRun0_A.sl.HS2_1 (F := Ideal) c arg1 harg1 arg3 harg3 arg4 harg4 x0 x2 x3) = DM x0 x2 x3 := by
  unfold kernelRun0_A.sl.HS2_1
  rw [View.canon_unit_zero hz2]
  simp only [kernelRun0_A.sl.r_25, kernelRun0_A.sl.r_26, kernelRun0_A.sl.r_27, View.readAt_eq_ld, harg1.read_unread, harg3.read_unread, harg4.read_unread, View.ld_unit_zero (S := S512x2048) hz2]
  exact pay122_eq x0 x2 x3

theorem HS3_A : View.PiecesOf (DV x0 x2 x3 x7) (kernelRun0_A.sl.HS3_64 (F := Ideal) c arg1 harg1 arg3 harg3 arg4 harg4 arg8 harg8 arg19 x0 x2 x3 x7) := by
  unfold kernelRun0_A.sl.HS3_64
  have h := HS2_A (x0 := x0) (x2 := x2) (x3 := x3) c arg1 harg1 arg3 harg3 arg4 harg4
  have hp := @dvn_piece x0 x2 x3 x7 arg8 harg8 arg19 _ h
  repeat (refine ⟨fun x => hp _ _ _ rfl rfl _ _ x, ?_⟩)
  trivial

theorem DV_A : View.canon (kernelRun0_A.sl.HS3_64 (F := Ideal) c arg1 harg1 arg3 harg3 arg4 harg4 arg8 harg8 arg19 x0 x2 x3 x7) = DV x0 x2 x3 x7 :=
  funext fun y => View.canon_apply_of_pieces _ _ (HS3_A ..).mem y (View.cover_of_tiledL _ ![128, 128] rfl y)

theorem BA0 : @kernelRun0_B.sl.HS0_1 = @kernelRun0_A.sl.HS0_1 := rfl
theorem BA1 : @kernelRun0_B.sl.HS1_64 = @kernelRun0_A.sl.HS1_64 := rfl
theorem BA2 : @kernelRun0_B.sl.HS2_1 = @kernelRun0_A.sl.HS2_1 := rfl
theorem BA3 : @kernelRun0_B.sl.HS3_64 = @kernelRun0_A.sl.HS3_64 := rfl
theorem CA0 : @kernelRun0_C.sl.HS0_1 = @kernelRun0_A.sl.HS0_1 := rfl
theorem CA1 : @kernelRun0_C.sl.HS1_64 = @kernelRun0_A.sl.HS1_64 := rfl
theorem CA2 : @kernelRun0_C.sl.HS2_1 = @kernelRun0_A.sl.HS2_1 := rfl
theorem CA3 : @kernelRun0_C.sl.HS3_64 = @kernelRun0_A.sl.HS3_64 := rfl

end

end Cert.KernelIdeal.Sgu
end
-- ==== Proof.SguAcc.lean ====
/- What one grid point of `KernelIdeal` adds to the sums it carries (the matrices' gradient, the biases', the scale's and the
   shift's), and what it writes of the gradient of the projection, for each of the body's three cases. -/
module

public import proofs.«01_k».proof.Proof.SguBlocks

@[expose] public section

set_option maxRecDepth 16384

noncomputable section

namespace Cert.KernelIdeal.Sgu

open Idealize.ShloMosaic Idealize.ShloMosaic.TcCoe Idealize.SL.Sem
open Cert.KernelIdeal Cert.KernelIdeal.Gen

variable (x0 x1 x2 x3 : Vec Ideal S512x2048 .bf16) (x4 x5 : Vec Ideal S1x2048 .f32) (x6 x7 : Vec Ideal S16x128x128 .bf16)
  (x8 : Vec Ideal S128x2048 .f32) (x9 : Vec Ideal S128x128 .f32) (x10 : Vec Ideal S2048x128 .f32)

/-! ## The matrices' gradient: sixty-four additions to sixteen matrices -/

/-- Row `a` of token block `q` of a point's rows. -/
def trow (q : Nat) (a : Fin 128) : Fin 512 := ⟨(128 * q + a) % 512, Nat.mod_lt _ (by decide)⟩
/-- Channel `k` of group `g`. -/
def gcol (g : Fin 16) (k : Fin 128) : Fin 2048 := ⟨128 * g + k, by omega⟩

/-- What token block `q` adds to the gradient of the matrices. -/
def PW (q : Nat) : S16x128x128.Idx → EReal := fun j =>
  ∑ k, DM x0 x2 x3 (ix2 (trow q (j 1)) (gcol (j 0) k)) * VN x1 x4 x5 (ix2 (trow q (j 2)) (gcol (j 0) k))

/-- The matrices' gradient after the first `n` additions: blocks in order, and the groups in order in a block. -/
def TW (base : S16x128x128.Idx → EReal) : Nat → S16x128x128.Idx → EReal
  | 0 => base
  | n + 1 => fun j => if (j 0 : Nat) = n % 16 then TW base n j + PW x0 x1 x2 x3 x4 x5 (n / 16) j else TW base n j

theorem TW_succ (base : S16x128x128.Idx → EReal) (n : Nat) (j : S16x128x128.Idx) : TW x0 x1 x2 x3 x4 x5 base (n + 1) j
    = if (j 0 : Nat) = n % 16 then TW x0 x1 x2 x3 x4 x5 base n j + PW x0 x1 x2 x3 x4 x5 (n / 16) j else TW x0 x1 x2 x3 x4 x5 base n j := rfl

theorem TW_block (base : S16x128x128.Idx → EReal) (q : Nat) (j : S16x128x128.Idx) : ∀ m, m ≤ 16 →
    TW x0 x1 x2 x3 x4 x5 base (16 * q + m) j = if (j 0 : Nat) < m then TW x0 x1 x2 x3 x4 x5 base (16 * q) j + PW x0 x1 x2 x3 x4 x5 q j
      else TW x0 x1 x2 x3 x4 x5 base (16 * q) j := by
  intro m
  induction m with
  | zero => intro _; simp
  | succ m ih =>
    intro hm
    have h1 : (16 * q + m) % 16 = m := by omega
    have h2 : (16 * q + m) / 16 = q := by omega
    rw [← Nat.add_assoc, TW_succ, h1, h2, ih (by omega)]
    rcases Nat.lt_trichotomy (j 0 : Nat) m with h | h | h
    · rw [if_neg (by omega), if_pos h, if_pos (by omega)]
    · rw [if_pos h, if_neg (by omega), if_pos (by omega)]
    · rw [if_neg (by omega), if_neg (by omega), if_neg (by omega)]

/-- After all sixty-four additions. -/
theorem TW_all (base : S16x128x128.Idx → EReal) (j : S16x128x128.Idx) :
    TW x0 x1 x2 x3 x4 x5 base 64 j = base j + PW x0 x1 x2 x3 x4 x5 0 j + PW x0 x1 x2 x3 x4 x5 1 j + PW x0 x1 x2 x3 x4 x5 2 j + PW x0 x1 x2 x3 x4 x5 3 j := by
  have hj : (j 0 : Nat) < 16 := (j 0).isLt
  have h := fun q => TW_block x0 x1 x2 x3 x4 x5 base q j 16 le_rfl
  simp only [if_pos hj] at h
  rw [show 64 = 16 * 3 + 16 from rfl, h 3, show 16 * 3 = 16 * 2 + 16 from rfl, h 2, show 16 * 2 = 16 * 1 + 16 from rfl, h 1,
    show 16 * 1 = 16 * 0 + 16 from rfl, h 0]
  rfl

/-- One addition to a group's matrix, at an index. -/
theorem pay128_at (d : Vec Ideal S128x128 .bf16) (w : Vec Ideal S1x128x128 .f32) (v : Vec Ideal S128x128 .bf16) (x : S1x128x128.Idx) :
    k0_pay128 (F := Ideal) d w v x = w (ix3 0 (x 1) (x 2)) + ∑ k, d (ix2 (x 1) k) * v (ix2 (x 2) k) := by
  pointwise [k0_pay128]
  have b0 : (x 0 : Nat) < 1 := (x 0).isLt
  congr 2
  funext i; fin_cases i
  · exact Fin.ext (by show (x 0 : Nat) = 0; omega)
  · rfl
  · rfl

section
variable {arg13 : Memref sig .tc .vmem S16x128x128 .f32} (arg17 arg19 : Memref sig .tc .vmem S512x2048 .bf16)

/-- The index of the array under an index of one group's matrix. -/
theorem emb_mat (g : Nat) (inb : ∀ i, ![g, 0, 0] i + S1x128x128.size i ≤ S16x128x128.size i) (x : S1x128x128.Idx) (hg : g < 16) :
    (Rect.unit (s := S16x128x128) ![g, 0, 0] S1x128x128.size inb).emb x = ix3 ⟨g, hg⟩ (x 1) (x 2) := by
  have b0 : (x 0 : Nat) < 1 := (x 0).isLt
  funext i
  apply Fin.ext
  rw [Rect.emb_apply]
  fin_cases i <;> simp <;> omega

/-- An index of the sixteen matrices is in group `g`'s rectangle exactly when its group is `g`. -/
theorem mem_mat (g : Nat) (inb : ∀ i, ![g, 0, 0] i + S1x128x128.size i ≤ S16x128x128.size i) (j : S16x128x128.Idx) :
    j ∈ (Rect.unit (s := S16x128x128) ![g, 0, 0] S1x128x128.size inb).set ↔ (j 0 : Nat) = g := by
  rw [Rect.mem_set_unit]
  have b1 : (j 1 : Nat) < 128 := (j 1).isLt
  have b2 : (j 2 : Nat) < 128 := (j 2).isLt
  constructor
  · intro h; have := h 0; simp at this; omega
  · intro h a; fin_cases a <;> simp <;> omega

/-- A store to one group's matrix over earlier stores. -/
theorem canon_mat (g : Nat) (inb : ∀ i, ![g, 0, 0] i + S1x128x128.size i ≤ S16x128x128.size i) (w : S1x128x128.Idx → EReal)
    (L : List (View.Piece (Elt Ideal) S16x128x128 .f32)) (j : S16x128x128.Idx) :
    View.canon ((⟨Rect.unit (s := S16x128x128) ![g, 0, 0] S1x128x128.size inb, w⟩ : View.Piece (Elt Ideal) S16x128x128 .f32) :: L) j
      = if (j 0 : Nat) = g then w (ix3 0 (j 1) (j 2)) else View.canon L j := by
  split
  · next h =>
    have hg : g < 16 := by have := (j 0).isLt; simp at this; omega
    have e : j = (Rect.unit (s := S16x128x128) ![g, 0, 0] S1x128x128.size inb).emb (ix3 0 (j 1) (j 2)) := by
      rw [emb_mat g inb _ hg]; funext i; fin_cases i
      · exact Fin.ext h
      · rfl
      · rfl
    conv_lhs => rw [e]
    exact View.canon_cons_emb ..
  · next h => exact View.canon_cons_of_not_mem _ _ (fun hm => h ((mem_mat g inb j).1 hm))

/-- One addition over what the earlier ones left, at an index. -/
theorem dws_add {L19 : List (View.Piece (Elt Ideal) S512x2048 .bf16)} (h19 : View.canon L19 = DM x0 x2 x3)
    {L17 : List (View.Piece (Elt Ideal) S512x2048 .bf16)} (h17 : View.canon L17 = VN x1 x4 x5)
    (base : S16x128x128.Idx → EReal) (n g o1 o2 : Nat) (hg : g = n % 16) (h1 : o1 = 128 * (n / 16)) (h2 : o2 = 128 * g)
    (inb : ∀ i, ![g, 0, 0] i + S1x128x128.size i ≤ S16x128x128.size i)
    (inb' : ∀ a, ![o1, o2] a + S128x128.size a ≤ S512x2048.size a)
    (acc : Vec Ideal S1x128x128 .f32) (L : List (View.Piece (Elt Ideal) S16x128x128 .f32)) (j : S16x128x128.Idx)
    (hacc : (j 0 : Nat) = g → acc (ix3 0 (j 1) (j 2)) = TW x0 x1 x2 x3 x4 x5 base n j)
    (hL : (j 0 : Nat) ≠ g → View.canon L j = TW x0 x1 x2 x3 x4 x5 base n j) :
    View.canon ((⟨Rect.unit (s := S16x128x128) ![g, 0, 0] S1x128x128.size inb,
      k0_pay128 (F := Ideal) (arg19.view.readCov L19 (Rect.unit (s := S512x2048) ![o1, o2] S128x128.size inb').toLoadRect) acc
        (arg17.view.readCov L17 (Rect.unit (s := S512x2048) ![o1, o2] S128x128.size inb').toLoadRect)⟩ : View.Piece (Elt Ideal) S16x128x128 .f32) :: L) j
      = TW x0 x1 x2 x3 x4 x5 base (n + 1) j := by
  subst hg h1 h2
  rw [canon_mat, TW_succ]
  split
  · next h =>
    rw [pay128_at, View.readCov_eq_canon', View.readCov_eq_canon', h19, h17, PW]
    have a0 := inb' 0; have a1 := inb' 1
    simp at a0 a1
    rw [show acc (ix3 0 ((ix3 0 (j 1) (j 2) : S1x128x128.Idx) 1) ((ix3 0 (j 1) (j 2) : S1x128x128.Idx) 2)) = _ from hacc h]
    congr 1
    refine Finset.sum_congr rfl fun k _ => ?_
    have b1 : (j 1 : Nat) < 128 := (j 1).isLt
    have b2 : (j 2 : Nat) < 128 := (j 2).isLt
    congr 1
    · refine congrArg _ ?_
      show (Rect.unit (s := S512x2048) ![128 * (n / 16), 128 * (n % 16)] S128x128.size inb').emb (ix2 (j 1) k) = _
      rw [emb_tile _ _ inb' _ (by show 128 * (n / 16) + (j 1 : Nat) < 512; omega) (by show 128 * (n % 16) + (k : Nat) < 2048; omega)]
      funext i; fin_cases i
      · exact Fin.ext (by simp [trow]; omega)
      · exact Fin.ext (by simp [gcol, h])
    · refine congrArg _ ?_
      show (Rect.unit (s := S512x2048) ![128 * (n / 16), 128 * (n % 16)] S128x128.size inb').emb (ix2 (j 2) k) = _
      rw [emb_tile _ _ inb' _ (by show 128 * (n / 16) + (j 2 : Nat) < 512; omega) (by show 128 * (n % 16) + (k : Nat) < 2048; omega)]
      funext i; fin_cases i
      · exact Fin.ext (by simp [trow]; omega)
      · exact Fin.ext (by simp [gcol, h])
  · next h => exact hL h

/-- One addition reading what the earlier additions left. -/
theorem dws_step {L19 : List (View.Piece (Elt Ideal) S512x2048 .bf16)} (h19 : View.canon L19 = DM x0 x2 x3)
    {L17 : List (View.Piece (Elt Ideal) S512x2048 .bf16)} (h17 : View.canon L17 = VN x1 x4 x5)
    (base : S16x128x128.Idx → EReal) (n g o1 o2 : Nat) (hg : g = n % 16) (h1 : o1 = 128 * (n / 16)) (h2 : o2 = 128 * g)
    (inb : ∀ i, ![g, 0, 0] i + S1x128x128.size i ≤ S16x128x128.size i)
    (inb' : ∀ a, ![o1, o2] a + S128x128.size a ≤ S512x2048.size a)
    (L : List (View.Piece (Elt Ideal) S16x128x128 .f32)) (hL : View.canon L = TW x0 x1 x2 x3 x4 x5 base n) :
    View.canon ((⟨Rect.unit (s := S16x128x128) ![g, 0, 0] S1x128x128.size inb,
      k0_pay128 (F := Ideal) (arg19.view.readCov L19 (Rect.unit (s := S512x2048) ![o1, o2] S128x128.size inb').toLoadRect)
        (arg13.view.readCov L (Rect.unit (s := S16x128x128) ![g, 0, 0] S1x128x128.size inb).toLoadRect)
        (arg17.view.readCov L17 (Rect.unit (s := S512x2048) ![o1, o2] S128x128.size inb').toLoadRect)⟩ : View.Piece (Elt Ideal) S16x128x128 .f32) :: L)
      = TW x0 x1 x2 x3 x4 x5 base (n + 1) := by
  funext j
  refine dws_add x0 x1 x2 x3 x4 x5 arg17 arg19 h19 h17 base n g o1 o2 hg h1 h2 inb inb' _ L j (fun h => ?_) fun _ => congrFun hL j
  rw [View.readCov_eq_canon', hL]
  refine congrArg _ ?_
  show (Rect.unit (s := S16x128x128) ![g, 0, 0] S1x128x128.size inb).emb (ix3 0 (j 1) (j 2)) = j
  rw [emb_mat g inb _ (by have := (j 0).isLt; simp at this; omega)]
  funext i; fin_cases i
  · exact Fin.ext h.symm
  · rfl
  · rfl

/-- One of the first sixteen additions, reading what the point before left: the group's matrix of `TW` after sixteen. -/
theorem dws_first (harg13 : arg13.IsWhole) {L19 : List (View.Piece (Elt Ideal) S512x2048 .bf16)} (h19 : View.canon L19 = DM x0 x2 x3)
    {L17 : List (View.Piece (Elt Ideal) S512x2048 .bf16)} (h17 : View.canon L17 = VN x1 x4 x5)
    (base : Vec Ideal S16x128x128 .f32) (n o2 : Nat) (h2 : o2 = 128 * n)
    (inb : ∀ i, ![n, 0, 0] i + S1x128x128.size i ≤ S16x128x128.size i)
    (inb' : ∀ a, ![0, o2] a + S128x128.size a ≤ S512x2048.size a) (x : S1x128x128.Idx) :
    k0_pay128 (F := Ideal) (arg19.view.readCov L19 (Rect.unit (s := S512x2048) ![0, o2] S128x128.size inb').toLoadRect)
        (View.readAt (Elt Ideal) arg13.view (Rect.unit (s := S16x128x128) ![n, 0, 0] S1x128x128.size inb).toLoadRect (harg13.unread base))
        (arg17.view.readCov L17 (Rect.unit (s := S512x2048) ![0, o2] S128x128.size inb').toLoadRect) x
      = TW x0 x1 x2 x3 x4 x5 base 16 ((Rect.unit (s := S16x128x128) ![n, 0, 0] S1x128x128.size inb).emb x) := by
  have hn : n < 16 := by have := inb 0; simp at this; omega
  have hj : (((Rect.unit (s := S16x128x128) ![n, 0, 0] S1x128x128.size inb).emb x) 0 : Nat) = n := by rw [emb_mat n inb x hn]; rfl
  have e := fun m => TW_block x0 x1 x2 x3 x4 x5 base 0 ((Rect.unit (s := S16x128x128) ![n, 0, 0] S1x128x128.size inb).emb x) m
  have e0 := e n (by omega)
  have e1 := e (n + 1) (by omega)
  have e2 := e 16 (by omega)
  rw [hj, if_neg (by omega), Nat.mul_zero, Nat.zero_add] at e0
  rw [hj, if_pos (by omega), Nat.mul_zero, Nat.zero_add] at e1
  rw [hj, if_pos hn, Nat.mul_zero, Nat.zero_add] at e2
  rw [e2, ← e1, ← dws_add x0 x1 x2 x3 x4 x5 arg17 arg19 h19 h17 base n n 0 o2 (by omega) (by omega) h2 inb inb'
    (View.readAt (Elt Ideal) arg13.view (Rect.unit (s := S16x128x128) ![n, 0, 0] S1x128x128.size inb).toLoadRect (harg13.unread base)) [] _ ?_ (fun h => absurd hj h)]
  · symm
    exact View.canon_cons_emb ..
  · intro _
    rw [e0, View.readAt_eq_ld, harg13.read_unread]
    refine congrArg base ?_
    show (Rect.unit (s := S16x128x128) ![n, 0, 0] S1x128x128.size inb).emb _ = _
    rw [emb_mat n inb _ hn, emb_mat n inb _ hn]
    rfl

end

/-! ## The last point multiplies each group's matrix by the mask -/

/-- The matrices with the first `n` groups masked. -/
def TM (T : S16x128x128.Idx → EReal) (n : Nat) : S16x128x128.Idx → EReal := fun j =>
  if (j 0 : Nat) < n then T j * x9 (ix2 (j 1) (j 2)) else T j

theorem pay5_at (w : Vec Ideal S1x128x128 .f32) (v : Vec Ideal S128x128 .f32) (x : S1x128x128.Idx) :
    k0_pay5 (F := Ideal) w v x = w (ix3 0 (x 1) (x 2)) * v (ix2 (x 1) (x 2)) := by
  pointwise [k0_pay5]
  have b0 : (x 0 : Nat) < 1 := (x 0).isLt
  congr 2
  funext i; fin_cases i
  · exact Fin.ext (by show (x 0 : Nat) = 0; omega)
  · rfl
  · rfl

theorem mask_step {arg13 : Memref sig .tc .vmem S16x128x128 .f32} {arg10 : Memref sig .tc .vmem S128x128 .f32} (harg10 : arg10.IsWhole)
    (T : S16x128x128.Idx → EReal) (n : Nat) (hn : n < 16)
    (inb : ∀ i, ![n, 0, 0] i + S1x128x128.size i ≤ S16x128x128.size i) (inb' : ∀ a, ![0, 0] a + S128x128.size a ≤ S128x128.size a)
    (L : List (View.Piece (Elt Ideal) S16x128x128 .f32)) (hL : View.canon L = TM x9 T n) :
    View.canon ((⟨Rect.unit (s := S16x128x128) ![n, 0, 0] S1x128x128.size inb,
      k0_pay5 (F := Ideal) (arg13.view.readCov L (Rect.unit (s := S16x128x128) ![n, 0, 0] S1x128x128.size inb).toLoadRect)
        (View.readAt (Elt Ideal) arg10.view (Rect.unit (s := S128x128) ![0, 0] S128x128.size inb').toLoadRect (harg10.unread x9))⟩ : View.Piece (Elt Ideal) S16x128x128 .f32) :: L)
      = TM x9 T (n + 1) := by
  funext j
  rw [canon_mat, pay5_at, View.readCov_eq_canon', hL, View.readAt_eq_ld, harg10.read_unread, View.ld_unit_zero (S := S128x128) hz2]
  have e : (j 0 : Nat) = n → (Rect.unit (s := S16x128x128) ![n, 0, 0] S1x128x128.size inb).toLoadRect.idx (ix3 0 (j 1) (j 2)) = j := fun h => by
    show (Rect.unit (s := S16x128x128) ![n, 0, 0] S1x128x128.size inb).emb (ix3 0 (j 1) (j 2)) = j
    rw [emb_mat n inb _ hn]
    funext i; fin_cases i
    · exact Fin.ext h.symm
    · rfl
    · rfl
  split
  · next h =>
    show TM x9 T n ((Rect.unit (s := S16x128x128) ![n, 0, 0] S1x128x128.size inb).toLoadRect.idx (ix3 0 (j 1) (j 2))) * x9 (ix2 (j 1) (j 2)) = _
    rw [e h, TM, TM, if_neg (by omega), if_pos (by omega)]
  · next h =>
    simp only [TM]
    by_cases h' : (j 0 : Nat) < n
    · rw [if_pos h', if_pos (by omega)]
    · rw [if_neg h', if_neg (by omega)]

/-! ## The biases' gradient, before the channels of a group are summed -/

/-- After the first `n` token blocks. -/
def TB (base : S128x2048.Idx → EReal) : Nat → S128x2048.Idx → EReal
  | 0 => base
  | n + 1 => fun j => TB base n j + DM x0 x2 x3 (ix2 (trow n (j 0)) (j 1))

/-- The gradient reaching the mixed values, before it is rounded. -/
theorem pay121_eq : k0_pay121 (F := Ideal) (k0_pay114 x0) (k0_pay116 x3) (k0_pay118 x2) = DM x0 x2 x3 := by
  funext j
  pointwise [k0_pay121, k0_pay114, k0_pay115, k0_pay116, k0_pay117, k0_pay118, DM, silu, sg]

theorem trow_eq (q : Nat) (a : Fin 128) (r : Fin 512) (hq : q < 4) (h : (r : Nat) = 128 * q + a) : r = trow q a :=
  Fin.ext (by simp only [trow]; omega)

/-! Each token block's rows added, at an index. -/

theorem pay123_at (w : Vec Ideal S128x2048 .f32) (j : S128x2048.Idx) : k0_pay123 (F := Ideal) (k0_pay114 x0) (k0_pay116 x3) (k0_pay118 x2) w j
    = w j + DM x0 x2 x3 (ix2 (trow 0 (j 0)) (j 1)) := by
  pointwise [k0_pay123, pay121_eq]
  exact congrArg (fun r => w j + DM x0 x2 x3 (ix2 r (j 1))) (trow_eq 0 (j 0) _ (by decide) (by simp))

theorem pay124_at (w : Vec Ideal S128x2048 .f32) (j : S128x2048.Idx) : k0_pay124 (F := Ideal) (k0_pay114 x0) (k0_pay116 x3) (k0_pay118 x2) w j
    = w j + DM x0 x2 x3 (ix2 (trow 1 (j 0)) (j 1)) := by
  pointwise [k0_pay124, pay121_eq]
  exact congrArg (fun r => w j + DM x0 x2 x3 (ix2 r (j 1))) (trow_eq 1 (j 0) _ (by decide) (by simp))

theorem pay125_at (w : Vec Ideal S128x2048 .f32) (j : S128x2048.Idx) : k0_pay125 (F := Ideal) (k0_pay114 x0) (k0_pay116 x3) (k0_pay118 x2) w j
    = w j + DM x0 x2 x3 (ix2 (trow 2 (j 0)) (j 1)) := by
  pointwise [k0_pay125, pay121_eq]
  exact congrArg (fun r => w j + DM x0 x2 x3 (ix2 r (j 1))) (trow_eq 2 (j 0) _ (by decide) (by simp))

theorem pay126_at (w : Vec Ideal S128x2048 .f32) (j : S128x2048.Idx) : k0_pay126 (F := Ideal) (k0_pay114 x0) (k0_pay116 x3) (k0_pay118 x2) w j
    = w j + DM x0 x2 x3 (ix2 (trow 3 (j 0)) (j 1)) := by
  pointwise [k0_pay126, pay121_eq]
  exact congrArg (fun r => w j + DM x0 x2 x3 (ix2 r (j 1))) (trow_eq 3 (j 0) _ (by decide) (by simp))

/-! ## The sums over a point's rows, the outputs' blocks -/

/-- One row of sums over a point's rows added into the first row of the eight. -/
def GG (base : S8x2048.Idx → EReal) (h : S512x2048.Idx → EReal) : S8x2048.Idx → EReal := fun j =>
  if (j 0 : Nat) = 0 then base j + ∑ r, h (ix2 r (j 1)) else base j

/-- The normalised rows of a point's values. -/
def HT : S512x2048.Idx → EReal := fun j => hat (fun k => x1 (ix2 (j 0) k)) (j 1)

theorem pay28_eq : k0_pay28 (F := Ideal) x1 = HT x1 := by
  funext j
  pointwise [k0_pay28, k0_pay27, k0_pay26, HT, hat, rs, cen, mu]

theorem pay275_at (h d : Vec Ideal S512x2048 .f32) (w : Vec Ideal S1x2048 .f32) (x : S1x2048.Idx) :
    k0_pay275 (F := Ideal) h d w x = w x + ∑ r, d (ix2 r (x 1)) * h (ix2 r (x 1)) := by
  pointwise [k0_pay275]

theorem pay276_at (d : Vec Ideal S512x2048 .f32) (w : Vec Ideal S1x2048 .f32) (x : S1x2048.Idx) :
    k0_pay276 (F := Ideal) d w x = w x + ∑ r, d (ix2 r (x 1)) := by
  pointwise [k0_pay276]

theorem pay4_at (w : Vec Ideal S128x2048 .f32) (x : S128x128.Idx) :
    k0_pay4 (F := Ideal) w x10 x = ∑ k, w (ix2 (x 0) k) * x10 (ix2 k (x 1)) := by
  pointwise [k0_pay4]

/-- The values' gradient, scaled. -/
def DVH : S512x2048.Idx → EReal := fun j => DV x0 x2 x3 x7 j * x4 (ix2 0 (j 1))

/-- The gradient of a point's values. -/
def DVX : S512x2048.Idx → EReal := fun j =>
  rs (fun k => x1 (ix2 (j 0) k)) * (DVH x0 x2 x3 x4 x7 j - Ideal.div (∑ k, DVH x0 x2 x3 x4 x7 (ix2 (j 0) k)) (Ideal.ofBits .f32 0x45000000#32)
    - HT x1 j * Ideal.div (∑ k, DVH x0 x2 x3 x4 x7 (ix2 (j 0) k) * HT x1 (ix2 (j 0) k)) (Ideal.ofBits .f32 0x45000000#32))
/-- The gradient of a point's multiplicands. -/
def DUX : S512x2048.Idx → EReal := fun j => x3 j * MX x1 x4 x5 x6 x8 j * silu (x2 j)
/-- The gradient of a point's gates. -/
def DZX : S512x2048.Idx → EReal := fun j =>
  x3 j * x0 j * MX x1 x4 x5 x6 x8 j * (sg (x2 j) * (1 + x2 j * (1 - sg (x2 j))))

theorem pay1_eq (d : Vec Ideal S512x2048 .f32) (hd : d = DV x0 x2 x3 x7) : k0_pay1 (F := Ideal) (k0_pay27 x1) (k0_pay28 x1) (k0_pay278 d x4) (k0_pay279 (k0_pay28 x1) d x4)
    = DVX x0 x1 x2 x3 x4 x7 := by
  subst hd
  rw [pay28_eq]
  funext j
  pointwise [k0_pay1, k0_pay278, k0_pay279, k0_pay277, k0_pay27, k0_pay26, DVX, DVH, rs, cen, mu]

theorem pay119_eq (m : Vec Ideal S512x2048 .f32) (hm : m = MX x1 x4 x5 x6 x8) : k0_pay119 (F := Ideal) x2 x3 m = DUX x1 x2 x3 x4 x5 x6 x8 := by
  subst hm
  funext j
  pointwise [k0_pay119, k0_pay115, k0_pay116, k0_pay117, k0_pay118, DUX, silu, sg]

theorem pay120_eq (m : Vec Ideal S512x2048 .f32) (hm : m = MX x1 x4 x5 x6 x8) : k0_pay120 (F := Ideal) x0 x2 x3 m = DZX x0 x1 x2 x3 x4 x5 x6 x8 := by
  subst hm
  funext j
  pointwise [k0_pay120, k0_pay114, k0_pay115, k0_pay116, k0_pay117, DZX, sg]

/-- The three gradients side by side. -/
def DP : S512x6144.Idx → EReal := fun j =>
  if h : (j 1 : Nat) < 2048 then DUX x1 x2 x3 x4 x5 x6 x8 (ix2 (j 0) ⟨j 1, h⟩)
  else if h : (j 1 : Nat) < 4096 then DVX x0 x1 x2 x3 x4 x7 (ix2 (j 0) ⟨j 1 - 2048, by omega⟩)
  else DZX x0 x1 x2 x3 x4 x5 x6 x8 (ix2 (j 0) ⟨j 1 - 4096, by have := (j 1).isLt; simp at this; omega⟩)

theorem emb_third (o : Nat) (inb : ∀ i, ![0, o] i + S512x2048.size i ≤ S512x6144.size i) (x : S512x2048.Idx) (h : o + (x 1 : Nat) < 6144) :
    (Rect.unit (s := S512x6144) ![0, o] S512x2048.size inb).emb x = ix2 (x 0) ⟨o + x 1, h⟩ := by
  funext i
  apply Fin.ext
  rw [Rect.emb_apply]
  fin_cases i <;> simp

/-- The index of the first row under an index of one row. -/
theorem emb_row (inb : ∀ i, ![0, 0] i + S1x2048.size i ≤ S8x2048.size i) (j : S8x2048.Idx) (h : (j 0 : Nat) = 0) :
    (Rect.unit (s := S8x2048) ![0, 0] S1x2048.size inb).emb (ix2 0 (j 1)) = j := by
  funext i
  apply Fin.ext
  rw [Rect.emb_apply]
  fin_cases i
  · exact h.symm
  · simp

theorem not_mem_row (inb : ∀ i, ![0, 0] i + S1x2048.size i ≤ S8x2048.size i) (j : S8x2048.Idx) (h : ¬(j 0 : Nat) = 0) :
    j ∉ (Rect.unit (s := S8x2048) ![0, 0] S1x2048.size inb).set := by
  rw [Rect.mem_set_unit]
  intro hm
  have := hm 0
  simp at this
  omega

/-- A store to the first of eight rows over earlier stores. -/
theorem canon_row (inb : ∀ i, ![0, 0] i + S1x2048.size i ≤ S8x2048.size i) (w : S1x2048.Idx → EReal)
    (L : List (View.Piece (Elt Ideal) S8x2048 .f32)) (j : S8x2048.Idx) :
    View.canon ((⟨Rect.unit (s := S8x2048) ![0, 0] S1x2048.size inb, w⟩ : View.Piece (Elt Ideal) S8x2048 .f32) :: L) j
      = if (j 0 : Nat) = 0 then w (ix2 0 (j 1)) else View.canon L j := by
  split
  · next h =>
    conv_lhs => rw [← emb_row inb j h]
    exact View.canon_cons_emb ..
  · next h => exact View.canon_cons_of_not_mem _ _ (not_mem_row inb j h)

/-- A store to the first of eight rows over what the buffer held. -/
theorem read_row {arg : Memref sig .tc .vmem S8x2048 .f32} (harg : arg.IsWhole) (base : Vec Ideal S8x2048 .f32)
    (inb : ∀ i, ![0, 0] i + S1x2048.size i ≤ S8x2048.size i) (w : S1x2048.Idx → EReal) :
    arg.view.read (Elt Ideal) (arg.view.writes (Elt Ideal) (harg.unread base) [⟨Rect.unit (s := S8x2048) ![0, 0] S1x2048.size inb, w⟩])
      = fun j => if (j 0 : Nat) = 0 then w (ix2 0 (j 1)) else base j := by
  funext j
  split
  · next h =>
    conv_lhs => rw [← emb_row inb j h]
    exact View.read_writes_cons_emb ..
  · next h =>
    have hm : j ∉ (⟨Rect.unit (s := S8x2048) ![0, 0] S1x2048.size inb, w⟩ : View.Piece (Elt Ideal) S8x2048 .f32).1.set := not_mem_row inb j h
    rw [View.read_writes_cons_miss _ _ _ _ _ hm, View.writes_nil, harg.read_unread]

theorem idx_ext2 {x y : S512x2048.Idx} (h0 : x 0 = y 0) (h1 : x 1 = y 1) : x = y :=
  funext fun a => by fin_cases a <;> assumption

/-- The three stores of the projection's gradient, side by side. -/
theorem dp_eq (w1 w2 w3 : S512x2048.Idx → EReal) (h1 : w1 = DVX x0 x1 x2 x3 x4 x7) (h2 : w2 = DZX x0 x1 x2 x3 x4 x5 x6 x8) (h3 : w3 = DUX x1 x2 x3 x4 x5 x6 x8) :
    View.canon ([⟨Rect.unit (s := S512x6144) ![0, 2048] S512x2048.size inb_S512x6144_S512x2048_0_2048, w1⟩,
      ⟨Rect.unit (s := S512x6144) ![0, 4096] S512x2048.size inb_S512x6144_S512x2048_0_4096, w2⟩,
      ⟨Rect.unit (s := S512x6144) ![0, 0] S512x2048.size inb_S512x6144_S512x2048_0_0, w3⟩] : List (View.Piece (Elt Ideal) S512x6144 .bf16))
      = DP x0 x1 x2 x3 x4 x5 x6 x7 x8 := by
  subst h1 h2 h3
  have hP : View.PiecesOf (DP x0 x1 x2 x3 x4 x5 x6 x7 x8) ([⟨Rect.unit (s := S512x6144) ![0, 2048] S512x2048.size inb_S512x6144_S512x2048_0_2048, DVX x0 x1 x2 x3 x4 x7⟩,
      ⟨Rect.unit (s := S512x6144) ![0, 4096] S512x2048.size inb_S512x6144_S512x2048_0_4096, DZX x0 x1 x2 x3 x4 x5 x6 x8⟩,
      ⟨Rect.unit (s := S512x6144) ![0, 0] S512x2048.size inb_S512x6144_S512x2048_0_0, DUX x1 x2 x3 x4 x5 x6 x8⟩] : List (View.Piece (Elt Ideal) S512x6144 .bf16)) := by
    refine ⟨fun x => ?_, fun x => ?_, fun x => ?_, trivial⟩ <;> have b1 : (x 1 : Nat) < 2048 := (x 1).isLt
    · refine Eq.trans ?_ (congrArg (DP x0 x1 x2 x3 x4 x5 x6 x7 x8) (emb_third 2048 inb_S512x6144_S512x2048_0_2048 x (by omega)).symm)
      unfold DP
      rw [dif_neg (by simp), dif_pos (by simp; omega)]
      exact congrArg _ (idx_ext2 rfl (Fin.ext (by simp)))
    · refine Eq.trans ?_ (congrArg (DP x0 x1 x2 x3 x4 x5 x6 x7 x8) (emb_third 4096 inb_S512x6144_S512x2048_0_4096 x (by omega)).symm)
      unfold DP
      rw [dif_neg (by simp; omega), dif_neg (by simp)]
      exact congrArg _ (idx_ext2 rfl (Fin.ext (by simp)))
    · refine Eq.trans ?_ (congrArg (DP x0 x1 x2 x3 x4 x5 x6 x7 x8) (emb_third 0 inb_S512x6144_S512x2048_0_0 x (by omega)).symm)
      unfold DP
      rw [dif_pos (by simp; omega)]
      exact congrArg _ (idx_ext2 rfl (Fin.ext (by simp)))
  exact funext fun y => View.canon_apply_of_pieces _ _ hP.mem y (View.cover_of_tiledL _ ![512, 2048] rfl y)

theorem ld_row (base : S8x2048.Idx → EReal) (inb : ∀ i, ![0, 0] i + S1x2048.size i ≤ S8x2048.size i) (x : S1x2048.Idx) :
    base ((Rect.unit (s := S8x2048) ![0, 0] S1x2048.size inb).emb x) = base (ix2 0 (x 1)) := by
  refine congrArg base ?_
  have b0 : (x 0 : Nat) < 1 := (x 0).isLt
  funext i
  apply Fin.ext
  rw [Rect.emb_apply]
  fin_cases i
  · show 0 + 1 * (x 0 : Nat) = 0; omega
  · simp

/-- The scale's sums after a later point. -/
theorem dg_later {arg : Memref sig .tc .vmem S8x2048 .f32} (harg : arg.IsWhole) (base : Vec Ideal S8x2048 .f32) (h d : Vec Ideal S512x2048 .f32)
    (hh : h = HT x1) (hd : d = DV x0 x2 x3 x7) (inb : ∀ i, ![0, 0] i + S1x2048.size i ≤ S8x2048.size i) :
    arg.view.read (Elt Ideal) (arg.view.writes (Elt Ideal) (harg.unread base) [⟨Rect.unit (s := S8x2048) ![0, 0] S1x2048.size inb,
      k0_pay275 (F := Ideal) h d (View.readAt (Elt Ideal) arg.view (Rect.unit (s := S8x2048) ![0, 0] S1x2048.size inb).toLoadRect (harg.unread base))⟩])
      = GG base fun j => DV x0 x2 x3 x7 j * HT x1 j := by
  subst hh hd
  refine (read_row harg base inb _).trans (funext fun j => ?_)
  unfold GG
  split
  · next hj =>
    rw [pay275_at, View.readAt_eq_ld, harg.read_unread]
    congr 1
    refine (ld_row base inb _).trans (congrArg base ?_)
    funext a; fin_cases a
    · exact Fin.ext hj.symm
    · rfl
  · rfl

/-- The shift's sums after a later point. -/
theorem db_later {arg : Memref sig .tc .vmem S8x2048 .f32} (harg : arg.IsWhole) (base : Vec Ideal S8x2048 .f32) (d : Vec Ideal S512x2048 .f32)
    (hd : d = DV x0 x2 x3 x7) (inb : ∀ i, ![0, 0] i + S1x2048.size i ≤ S8x2048.size i) :
    arg.view.read (Elt Ideal) (arg.view.writes (Elt Ideal) (harg.unread base) [⟨Rect.unit (s := S8x2048) ![0, 0] S1x2048.size inb,
      k0_pay276 (F := Ideal) d (View.readAt (Elt Ideal) arg.view (Rect.unit (s := S8x2048) ![0, 0] S1x2048.size inb).toLoadRect (harg.unread base))⟩])
      = GG base (DV x0 x2 x3 x7) := by
  subst hd
  refine (read_row harg base inb _).trans (funext fun j => ?_)
  unfold GG
  split
  · next hj =>
    rw [pay276_at, View.readAt_eq_ld, harg.read_unread]
    congr 1
    refine (ld_row base inb _).trans (congrArg base ?_)
    funext a; fin_cases a
    · exact Fin.ext hj.symm
    · rfl
  · rfl

section
variable (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x128x128 .bf16) (harg7 : arg7.IsWhole) (arg8 : Memref sig .tc .vmem S16x128x128 .bf16) (harg8 : arg8.IsWhole) (arg9 : Memref sig .tc .vmem S128x2048 .f32) (harg9 : arg9.IsWhole) (arg10 : Memref sig .tc .vmem S128x128 .f32) (harg10 : arg10.IsWhole) (arg11 : Memref sig .tc .vmem S2048x128 .f32) (harg11 : arg11.IsWhole) (arg12 : Memref sig .tc .vmem S512x6144 .bf16) (harg12 : arg12.IsWhole) (arg13 : Memref sig .tc .vmem S16x128x128 .f32) (harg13 : arg13.IsWhole) (arg14 : Memref sig .tc .vmem S128x128 .f32) (harg14 : arg14.IsWhole) (arg15 : Memref sig .tc .vmem S8x2048 .f32) (harg15 : arg15.IsWhole) (arg16 : Memref sig .tc .vmem S8x2048 .f32) (harg16 : arg16.IsWhole) (arg17 : Memref sig .tc .vmem S512x2048 .bf16) (harg17 : arg17.IsWhole) (arg18 : Memref sig .tc .vmem S512x2048 .f32) (harg18 : arg18.IsWhole) (arg19 : Memref sig .tc .vmem S512x2048 .bf16) (harg19 : arg19.IsWhole) (arg20 : Memref sig .tc .vmem S512x2048 .f32) (harg20 : arg20.IsWhole) (arg21 : Memref sig .tc .vmem S128x2048 .f32) (harg21 : arg21.IsWhole)

theorem mixed_A : kernelRun0_A.sl.v677 (F := Ideal) c arg2 harg2 arg5 harg5 arg6 harg6 arg7 harg7 arg9 harg9 arg17 arg18 x1 x4 x5 x6 x8 = MX x1 x4 x5 x6 x8 := by
  unfold kernelRun0_A.sl.v677
  rw [View.readCov_eq_canon', MX_A]
  exact View.ld_unit_zero (S := S512x2048) hz2 ..

theorem dvn_A : kernelRun0_A.sl.v1691 (F := Ideal) c arg1 harg1 arg3 harg3 arg4 harg4 arg8 harg8 arg19 arg20 x0 x2 x3 x7 = DV x0 x2 x3 x7 := by
  unfold kernelRun0_A.sl.v1691
  rw [View.readCov_eq_canon', DV_A]
  exact View.ld_unit_zero (S := S512x2048) (e := .f32) (Val := Elt Ideal) hz2 inb_S512x2048_S512x2048_0_0 (DV x0 x2 x3 x7)

theorem ht_A : kernelRun0_A.sl.r_1 (F := Ideal) c arg2 harg2 x1 = HT x1 := by
  unfold kernelRun0_A.sl.r_1
  simp only [View.readAt_eq_ld, harg2.read_unread, View.ld_unit_zero (S := S512x2048) hz2]
  exact pay28_eq x1

theorem dv_A : k0_pay1 (kernelRun0_A.sl.r (F := Ideal) c arg2 harg2 x1) (kernelRun0_A.sl.r_1 c arg2 harg2 x1)
        (kernelRun0_A.sl.r_55 c arg1 harg1 arg3 harg3 arg4 harg4 arg5 harg5 arg8 harg8 arg19 arg20 x0 x2 x3 x4 x7)
        (kernelRun0_A.sl.r_56 c arg1 harg1 arg2 harg2 arg3 harg3 arg4 harg4 arg5 harg5 arg8 harg8 arg19 arg20 x0 x1 x2 x3 x4 x7) = DVX x0 x1 x2 x3 x4 x7 := by
  unfold kernelRun0_A.sl.r kernelRun0_A.sl.r_55 kernelRun0_A.sl.r_56 kernelRun0_A.sl.r_1
  simp only [View.readAt_eq_ld, harg2.read_unread, harg5.read_unread, View.ld_unit_zero (S := S512x2048) hz2, View.ld_unit_zero (S := S1x2048) hz2]
  exact pay1_eq x0 x1 x2 x3 x4 x7 _ (dvn_A ..)

theorem dz_A : kernelRun0_A.sl.r_28 (F := Ideal) c arg1 harg1 arg2 harg2 arg3 harg3 arg4 harg4 arg5 harg5 arg6 harg6 arg7 harg7 arg9 harg9 arg17 arg18 x0 x1 x2 x3 x4 x5 x6 x8
    = DZX x0 x1 x2 x3 x4 x5 x6 x8 := by
  unfold kernelRun0_A.sl.r_28
  simp only [View.readAt_eq_ld, harg1.read_unread, harg3.read_unread, harg4.read_unread, View.ld_unit_zero (S := S512x2048) hz2]
  exact pay120_eq x0 x1 x2 x3 x4 x5 x6 x8 _ (mixed_A ..)

theorem du_A : k0_pay119 (View.readAt (Elt Ideal) arg3.view (Rect.unit ![0, 0] S512x2048.size inb_S512x2048_S512x2048_0_0).toLoadRect (harg3.unread x2))
        (View.readAt (Elt Ideal) arg4.view (Rect.unit ![0, 0] S512x2048.size inb_S512x2048_S512x2048_0_0).toLoadRect (harg4.unread x3))
        (kernelRun0_A.sl.v677 (F := Ideal) c arg2 harg2 arg5 harg5 arg6 harg6 arg7 harg7 arg9 harg9 arg17 arg18 x1 x4 x5 x6 x8)
    = DUX x1 x2 x3 x4 x5 x6 x8 := by
  simp only [View.readAt_eq_ld, harg3.read_unread, harg4.read_unread, View.ld_unit_zero (S := S512x2048) hz2]
  exact pay119_eq x1 x2 x3 x4 x5 x6 x8 _ (mixed_A ..)

/-- The biases' sums after a point of the first case. -/
theorem db_A : View.canon (kernelRun0_A.sl.HS4_4 (F := Ideal) c arg1 harg1 arg3 harg3 arg4 harg4 arg21 x0 x2 x3) = TB x0 x2 x3 (fun _ => 0) 3 := by
  unfold kernelRun0_A.sl.HS4_4
  rw [View.canon_cons_unit_zero hz2]
  funext j
  simp only [kernelRun0_A.sl.HS4_1, kernelRun0_A.sl.HS4_2, kernelRun0_A.sl.HS4_3, kernelRun0_A.sl.v707, kernelRun0_A.sl.v713, kernelRun0_A.sl.v719,
    kernelRun0_A.sl.r_25, kernelRun0_A.sl.r_26, kernelRun0_A.sl.r_27, View.readAt_eq_ld, harg1.read_unread, harg3.read_unread, harg4.read_unread,
    View.ld_unit_zero (S := S512x2048) hz2, View.readCov_cons_toLoadRect, pay123_at, pay124_at, pay125_at, TB]
  pointwise [k0_pay25]

/-- The biases' sums after a later point. -/
theorem db_B (xs4 : Vec Ideal S128x2048 .f32) : View.canon (kernelRun0_C.sl.HS4_4 (F := Ideal) c arg1 harg1 arg3 harg3 arg4 harg4 arg21 harg21 x0 x2 x3 xs4) = TB x0 x2 x3 xs4 4 := by
  unfold kernelRun0_C.sl.HS4_4
  rw [View.canon_cons_unit_zero hz2]
  funext j
  simp only [kernelRun0_C.sl.HS4_1, kernelRun0_C.sl.HS4_2, kernelRun0_C.sl.HS4_3, kernelRun0_C.sl.v713, kernelRun0_C.sl.v719, kernelRun0_C.sl.v725,
    kernelRun0_C.sl.r_25, kernelRun0_C.sl.r_26, kernelRun0_C.sl.r_27, View.readAt_eq_ld, harg1.read_unread, harg3.read_unread, harg4.read_unread, harg21.read_unread,
    View.ld_unit_zero (S := S512x2048) hz2, View.ld_unit_zero (S := S128x2048) hz2, View.readCov_cons_toLoadRect, pay123_at, pay124_at, pay125_at, pay126_at, TB]

/-- The first sixteen additions of a later point, over what the point before left. -/
theorem H12_B16 (xo12 : Vec Ideal S16x128x128 .f32) : View.canon (kernelRun0_B.sl.H12_16 (F := Ideal) c arg1 harg1 arg2 harg2 arg3 harg3 arg4 harg4 arg5 harg5 arg6 harg6 arg13 harg13 arg17 arg19 x0 x1 x2 x3 x4 x5 xo12)
    = TW x0 x1 x2 x3 x4 x5 xo12 16 := by
  have h17 := HS0_A (x1 := x1) (x4 := x4) (x5 := x5) c arg2 harg2 arg5 harg5 arg6 harg6
  have h19 := HS2_A (x0 := x0) (x2 := x2) (x3 := x3) c arg1 harg1 arg3 harg3 arg4 harg4
  have hp := @dws_first x0 x1 x2 x3 x4 x5 arg13 arg17 arg19 harg13 _ h19 _ h17 xo12
  have hP : View.PiecesOf (TW x0 x1 x2 x3 x4 x5 xo12 16) (kernelRun0_B.sl.H12_16 (F := Ideal) c arg1 harg1 arg2 harg2 arg3 harg3 arg4 harg4 arg5 harg5 arg6 harg6 arg13 harg13 arg17 arg19 x0 x1 x2 x3 x4 x5 xo12) := by
    unfold kernelRun0_B.sl.H12_16
    repeat (refine ⟨fun x => hp _ _ rfl _ _ x, ?_⟩)
    trivial
  exact funext fun y => View.canon_apply_of_pieces _ _ hP.mem y (View.cover_of_tiledL _ ![1, 128, 128] rfl y)

/-- All but the last addition of a later point. -/
theorem H12_B63 (xo12 : Vec Ideal S16x128x128 .f32) : View.canon (kernelRun0_B.sl.H12_63 (F := Ideal) c arg1 harg1 arg2 harg2 arg3 harg3 arg4 harg4 arg5 harg5 arg6 harg6 arg13 harg13 arg17 arg19 x0 x1 x2 x3 x4 x5 xo12)
    = TW x0 x1 x2 x3 x4 x5 xo12 63 := by
  have h17 := HS0_A (x1 := x1) (x4 := x4) (x5 := x5) c arg2 harg2 arg5 harg5 arg6 harg6
  have h19 := HS2_A (x0 := x0) (x2 := x2) (x3 := x3) c arg1 harg1 arg3 harg3 arg4 harg4
  have st := @dws_step x0 x1 x2 x3 x4 x5 arg13 arg17 arg19 _ h19 _ h17 xo12
  iterate 47 refine st _ _ _ _ (by rfl) (by rfl) (by rfl) _ _ _ ?_
  exact H12_B16 ..

theorem CB12 : @kernelRun0_C.sl.H12_63 = @kernelRun0_B.sl.H12_63 := rfl

section
variable (hc0 : cond0_0 i) (hc1 : ¬cond0_1 i)

theorem out11_A : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 = DP x0 x1 x2 x3 x4 x5 x6 x7 x8 := by
  unfold out0_A_11
  rw [View.read_writes_junk_eq_canon]
  exact dp_eq x0 x1 x2 x3 x4 x5 x6 x7 x8 _ _ _ (dv_A x0 x1 x2 x3 x4 x7 c arg1 harg1 arg2 harg2 arg3 harg3 arg4 harg4 arg5 harg5 arg8 harg8 arg19 arg20)
    (dz_A x0 x1 x2 x3 x4 x5 x6 x8 c arg1 harg1 arg2 harg2 arg3 harg3 arg4 harg4 arg5 harg5 arg6 harg6 arg7 harg7 arg9 harg9 arg17 arg18)
    (du_A x1 x2 x3 x4 x5 x6 x8 c arg2 harg2 arg3 harg3 arg4 harg4 arg5 harg5 arg6 harg6 arg7 harg7 arg9 harg9 arg17 arg18)

theorem out14_A : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 = GG (fun _ => 0) fun j => DV x0 x2 x3 x7 j * HT x1 j := by
  unfold out0_A_14
  rw [View.read_writes_junk_eq_canon]
  funext j
  refine (canon_row _ _ _ j).trans ?_
  have hz : View.canon (kernelRun0_A.sl.H14_1 (F := Ideal)) = fun _ => 0 := by
    unfold kernelRun0_A.sl.H14_1
    rw [View.canon_unit_zero hz2]
    funext j
    pointwise [k0_pay23]
  rw [hz, pay275_at, ht_A, dvn_A]
  unfold kernelRun0_A.sl.v1692
  rw [View.readCov_eq_canon', hz]
  rfl

theorem out15_A : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 = GG (fun _ => 0) (DV x0 x2 x3 x7) := by
  unfold out0_A_15
  rw [View.read_writes_junk_eq_canon]
  funext j
  refine (canon_row _ _ _ j).trans ?_
  have hz : View.canon (kernelRun0_A.sl.H15_1 (F := Ideal)) = fun _ => 0 := by
    unfold kernelRun0_A.sl.H15_1
    rw [View.canon_unit_zero hz2]
    funext j
    pointwise [k0_pay24]
  rw [hz, pay276_at, dvn_A]
  unfold kernelRun0_A.sl.v1699
  rw [View.readCov_eq_canon', hz]
  rfl

theorem sout_A : sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 = TB x0 x2 x3 (fun _ => 0) 4 := by
  unfold sout0_A_4
  rw [View.read_writes_junk_eq_canon]
  refine (View.canon_cons_unit_zero hz2 _ _ _).trans (funext fun j => ?_)
  unfold kernelRun0_A.sl.r_25 kernelRun0_A.sl.r_26 kernelRun0_A.sl.r_27
  simp only [View.readAt_eq_ld, harg1.read_unread, harg3.read_unread, harg4.read_unread, View.ld_unit_zero (S := S512x2048) hz2, pay126_at]
  unfold kernelRun0_A.sl.v725
  rw [View.readCov_eq_canon', db_A, TB]
  congr 1
  exact congrFun (View.ld_unit_zero (S := S128x2048) (e := .f32) (Val := Elt Ideal) hz2 inb_S128x2048_S128x2048_0_0 (TB x0 x2 x3 (fun _ => 0) 3)) j

/-- The matrices' gradient after a point of the first case. -/
theorem out12_A : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10
    = TW x0 x1 x2 x3 x4 x5 (fun _ => 0) 64 := by
  unfold out0_A_12
  rw [View.read_writes_junk_eq_canon]
  have h17 := HS0_A (x1 := x1) (x4 := x4) (x5 := x5) c arg2 harg2 arg5 harg5 arg6 harg6
  have h19 := HS2_A (x0 := x0) (x2 := x2) (x3 := x3) c arg1 harg1 arg3 harg3 arg4 harg4
  have st := @dws_step x0 x1 x2 x3 x4 x5 arg13 arg17 arg19 _ h19 _ h17 (fun _ => 0)
  iterate 64 refine st _ _ _ _ (by rfl) (by rfl) (by rfl) _ _ _ ?_
  unfold kernelRun0_A.sl.H12_1
  rw [View.canon_unit_zero hz3]
  funext j
  pointwise [k0_pay22, TW]

end

section
variable (hc0 : ¬cond0_0 i) (hc1 : ¬cond0_1 i) (xo12 : Vec Ideal S16x128x128 .f32) (xo14 xo15 : Vec Ideal S8x2048 .f32) (xs4 : Vec Ideal S128x2048 .f32)

theorem out11_B : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo12 xo14 xo15 xs4 = DP x0 x1 x2 x3 x4 x5 x6 x7 x8 := by
  unfold out0_B_11
  rw [View.read_writes_junk_eq_canon]
  exact dp_eq x0 x1 x2 x3 x4 x5 x6 x7 x8 _ _ _ (dv_A x0 x1 x2 x3 x4 x7 c arg1 harg1 arg2 harg2 arg3 harg3 arg4 harg4 arg5 harg5 arg8 harg8 arg19 arg20)
    (dz_A x0 x1 x2 x3 x4 x5 x6 x8 c arg1 harg1 arg2 harg2 arg3 harg3 arg4 harg4 arg5 harg5 arg6 harg6 arg7 harg7 arg9 harg9 arg17 arg18)
    (du_A x1 x2 x3 x4 x5 x6 x8 c arg2 harg2 arg3 harg3 arg4 harg4 arg5 harg5 arg6 harg6 arg7 harg7 arg9 harg9 arg17 arg18)

theorem out14_B : out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo12 xo14 xo15 xs4 = GG xo14 fun j => DV x0 x2 x3 x7 j * HT x1 j := by
  unfold out0_B_14
  exact dg_later x0 x1 x2 x3 x7 harg15 xo14 _ _ (ht_A x1 c arg2 harg2) (dvn_A x0 x2 x3 x7 c arg1 harg1 arg3 harg3 arg4 harg4 arg8 harg8 arg19 arg20) _

theorem out15_B : out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo12 xo14 xo15 xs4 = GG xo15 (DV x0 x2 x3 x7) := by
  unfold out0_B_15
  exact db_later x0 x2 x3 x7 harg16 xo15 _ (dvn_A x0 x2 x3 x7 c arg1 harg1 arg3 harg3 arg4 harg4 arg8 harg8 arg19 arg20) _

theorem sout_B : sout0_B_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo12 xo14 xo15 xs4 = TB x0 x2 x3 xs4 4 := by
  unfold sout0_B_4
  rw [View.read_writes_junk_eq_canon]
  exact db_B x0 x2 x3 c arg1 harg1 arg3 harg3 arg4 harg4 arg21 harg21 xs4

/-- The matrices' gradient after a point of the middle case, over what the point before left. -/
theorem out12_B : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo12 xo14 xo15 xs4
    = TW x0 x1 x2 x3 x4 x5 xo12 64 := by
  unfold out0_B_12
  rw [View.read_writes_junk_eq_canon]
  have h17 := HS0_A (x1 := x1) (x4 := x4) (x5 := x5) c arg2 harg2 arg5 harg5 arg6 harg6
  have h19 := HS2_A (x0 := x0) (x2 := x2) (x3 := x3) c arg1 harg1 arg3 harg3 arg4 harg4
  have st := @dws_step x0 x1 x2 x3 x4 x5 arg13 arg17 arg19 _ h19 _ h17 xo12
  refine st _ _ _ _ (by rfl) (by rfl) (by rfl) _ _ _ ?_
  exact H12_B63 ..

end

section
variable (hc0 : ¬cond0_0 i) (hc1 : cond0_1 i) (xo12 : Vec Ideal S16x128x128 .f32) (xo14 xo15 : Vec Ideal S8x2048 .f32) (xs4 : Vec Ideal S128x2048 .f32)

theorem out11_C : out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo12 xo14 xo15 xs4 = DP x0 x1 x2 x3 x4 x5 x6 x7 x8 := by
  unfold out0_C_11
  rw [View.read_writes_junk_eq_canon]
  exact dp_eq x0 x1 x2 x3 x4 x5 x6 x7 x8 _ _ _ (dv_A x0 x1 x2 x3 x4 x7 c arg1 harg1 arg2 harg2 arg3 harg3 arg4 harg4 arg5 harg5 arg8 harg8 arg19 arg20)
    (dz_A x0 x1 x2 x3 x4 x5 x6 x8 c arg1 harg1 arg2 harg2 arg3 harg3 arg4 harg4 arg5 harg5 arg6 harg6 arg7 harg7 arg9 harg9 arg17 arg18)
    (du_A x1 x2 x3 x4 x5 x6 x8 c arg2 harg2 arg3 harg3 arg4 harg4 arg5 harg5 arg6 harg6 arg7 harg7 arg9 harg9 arg17 arg18)

theorem out14_C : out0_C_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo12 xo14 xo15 xs4 = GG xo14 fun j => DV x0 x2 x3 x7 j * HT x1 j := by
  unfold out0_C_14
  exact dg_later x0 x1 x2 x3 x7 harg15 xo14 _ _ (ht_A x1 c arg2 harg2) (dvn_A x0 x2 x3 x7 c arg1 harg1 arg3 harg3 arg4 harg4 arg8 harg8 arg19 arg20) _

theorem out15_C : out0_C_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo12 xo14 xo15 xs4 = GG xo15 (DV x0 x2 x3 x7) := by
  unfold out0_C_15
  exact db_later x0 x2 x3 x7 harg16 xo15 _ (dvn_A x0 x2 x3 x7 c arg1 harg1 arg3 harg3 arg4 harg4 arg8 harg8 arg19 arg20) _

theorem sout_C : sout0_C_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo12 xo14 xo15 xs4 = TB x0 x2 x3 xs4 4 := by
  unfold sout0_C_4
  rw [View.read_writes_junk_eq_canon]
  exact db_B x0 x2 x3 c arg1 harg1 arg3 harg3 arg4 harg4 arg21 harg21 xs4

theorem out13_C : out0_C_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo12 xo14 xo15 xs4
    = fun j => ∑ k, TB x0 x2 x3 xs4 4 (ix2 (j 0) k) * x10 (ix2 k (j 1)) := by
  unfold out0_C_13
  rw [View.read_writes_junk_eq_canon]
  refine (View.canon_cons_unit_zero hz2 _ _ _).trans (funext fun j => ?_)
  have hr : kernelRun0_C.sl.v1857 (F := Ideal) c arg1 harg1 arg3 harg3 arg4 harg4 arg21 harg21 x0 x2 x3 xs4 = TB x0 x2 x3 xs4 4 := by
    unfold kernelRun0_C.sl.v1857
    rw [View.readCov_eq_canon', db_B]
    exact View.ld_unit_zero (S := S128x2048) (e := .f32) (Val := Elt Ideal) hz2 inb_S128x2048_S128x2048_0_0 (TB x0 x2 x3 xs4 4)
  rw [hr, View.readAt_eq_ld, harg11.read_unread]
  refine (congrArg (fun w => k0_pay4 (F := Ideal) (TB x0 x2 x3 xs4 4) w j) (View.ld_unit_zero (S := S2048x128) (e := .f32) (Val := Elt Ideal) hz2 inb_S2048x128_S2048x128_0_0 x10)).trans ?_
  exact pay4_at x10 _ j

/-- The matrices' gradient after the last point: as after the others, then masked. -/
theorem out12_C : out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo12 xo14 xo15 xs4
    = TM x9 (TW x0 x1 x2 x3 x4 x5 xo12 64) 16 := by
  unfold out0_C_12
  rw [View.read_writes_junk_eq_canon]
  have h17 := HS0_A (x1 := x1) (x4 := x4) (x5 := x5) c arg2 harg2 arg5 harg5 arg6 harg6
  have h19 := HS2_A (x0 := x0) (x2 := x2) (x3 := x3) c arg1 harg1 arg3 harg3 arg4 harg4
  have st := @dws_step x0 x1 x2 x3 x4 x5 arg13 arg17 arg19 _ h19 _ h17 xo12
  have sm := @mask_step x9 arg13 arg10 harg10 (TW x0 x1 x2 x3 x4 x5 xo12 64)
  iterate 16 refine sm _ (by decide) _ _ _ ?_
  refine Eq.trans ?_ (show TW x0 x1 x2 x3 x4 x5 xo12 64 = TM x9 (TW x0 x1 x2 x3 x4 x5 xo12 64) 0 from rfl)
  refine st _ _ _ _ (by rfl) (by rfl) (by rfl) _ _ _ ?_
  rw [CB12]
  exact H12_B63 ..

end

end

end Cert.KernelIdeal.Sgu
end
-- ==== Proof.SguHost.lean ====
/- The gradient of the spatial gating unit on whole arrays, as mathematics; and what the host prepares for the kernel:
   the masked matrices, their transposes, the biases spread over their channels, the mask and the channel groups. -/
module

public import proofs.«01_k».proof.Proof.SguAcc
public import proofs.«01_k».proof.Proof.Gen.KernelIdeal.Value
public import Idealize.ShloMosaic.Lib.StableHlo.Run

@[expose] public section

set_option maxRecDepth 16384

noncomputable section

namespace Cert.KernelIdeal.Sgu

open Idealize.ShloMosaic Idealize.ShloMosaic.TcCoe Idealize.SL.Sem
open Cert.KernelIdeal Cert.KernelIdeal.Gen

/-- The operands, read as tables of extended reals. -/
structure Args where
  U : Fin 8192 → Fin 2048 → EReal
  V : Fin 8192 → Fin 2048 → EReal
  Z : Fin 8192 → Fin 2048 → EReal
  C : Fin 8192 → Fin 2048 → EReal
  g : Fin 2048 → EReal
  b : Fin 2048 → EReal
  W : Fin 16 → Fin 128 → Fin 128 → EReal
  B : Fin 16 → Fin 128 → EReal

/-- Row `a` of token block `n` of the sequence. -/
def grow (n : Nat) (a : Fin 128) : Fin 8192 := ⟨(128 * n + a) % 8192, Nat.mod_lt _ (by decide)⟩
/-- A row's place in its token block. -/
def gpos (r : Fin 8192) : Fin 128 := ⟨r % 128, by omega⟩
/-- Row `r` of point `t`. -/
def prow (t : Nat) (r : Fin 512) : Fin 8192 := ⟨(512 * t + r) % 8192, Nat.mod_lt _ (by decide)⟩

namespace Args
variable (a : Args)

/-- The matrix of a group, kept where the column's chunk is not after the row's. -/
def w (g : Fin 16) (i j : Fin 128) : EReal := if (j : Nat) / 64 ≤ (i : Nat) / 64 then a.W g i j else 0
/-- The normalised values, scaled and shifted. -/
def vn (r : Fin 8192) (c : Fin 2048) : EReal := hat (a.V r) c * a.g c + a.b c
/-- The gradient reaching the mixed values. -/
def dm (r : Fin 8192) (c : Fin 2048) : EReal := a.C r c * a.U r c * silu (a.Z r c)
/-- The mixed values. -/
def mx (r : Fin 8192) (c : Fin 2048) : EReal :=
  (∑ k, a.w (grp c) (gpos r) k * a.vn (grow (r / 128) k) c) + a.B (grp c) (gpos r)
/-- The gradient reaching the normalised values. -/
def dvn (r : Fin 8192) (c : Fin 2048) : EReal := ∑ k, a.w (grp c) k (gpos r) * a.dm (grow (r / 128) k) c
/-- It, times the scale. -/
def dvh (r : Fin 8192) (c : Fin 2048) : EReal := a.dvn r c * a.g c
/-- The values' gradient as the kernel spells it. -/
def dv (r : Fin 8192) (c : Fin 2048) : EReal :=
  rs (a.V r) * (a.dvh r c - Ideal.div (∑ k, a.dvh r k) (Ideal.ofBits .f32 0x45000000#32)
    - hat (a.V r) c * Ideal.div (∑ k, a.dvh r k * hat (a.V r) k) (Ideal.ofBits .f32 0x45000000#32))
def du (r : Fin 8192) (c : Fin 2048) : EReal := a.C r c * a.mx r c * silu (a.Z r c)
def dz (r : Fin 8192) (c : Fin 2048) : EReal :=
  a.C r c * a.U r c * a.mx r c * (sg (a.Z r c) * (1 + a.Z r c * (1 - sg (a.Z r c))))
/-- What token block `n` adds to the gradient of a group's matrix. -/
def pw (n : Nat) (g : Fin 16) (i j : Fin 128) : EReal := ∑ k, a.dm (grow n i) (gcol g k) * a.vn (grow n j) (gcol g k)
/-- The matrices' gradient. -/
def dw (g : Fin 16) (i j : Fin 128) : EReal :=
  if (j : Nat) / 64 ≤ (i : Nat) / 64 then ∑ n ∈ Finset.range 64, a.pw n g i j else 0
/-- The biases' gradient. -/
def dbs (i : Fin 128) (g : Fin 16) : EReal := ∑ k, ∑ n ∈ Finset.range 64, a.dm (grow n i) (gcol g k)
/-- The scale's gradient and the shift's. -/
def dg (c : Fin 2048) : EReal := ∑ t ∈ Finset.range 16, ∑ r, a.dvn (prow t r) c * hat (a.V (prow t r)) c
def db (c : Fin 2048) : EReal := ∑ t ∈ Finset.range 16, ∑ r, a.dvn (prow t r) c
end Args

variable (m : (ℓ : Loc nD τ sig) → Buf (Elt Ideal) ℓ) (c : Dev nD)

/-- The kernel's operands as tables. -/
def args : Args where
  U r k := (m ((c : Thread nD τ).loc main_arg0) : Vec Ideal S8192x16384 .bf16) (ix2 r ⟨k, by omega⟩)
  V r k := (m ((c : Thread nD τ).loc main_arg0) : Vec Ideal S8192x16384 .bf16) (ix2 r ⟨2048 + k, by omega⟩)
  Z r k := (m ((c : Thread nD τ).loc main_arg0) : Vec Ideal S8192x16384 .bf16) (ix2 r ⟨4096 + k, by omega⟩)
  C r k := (m ((c : Thread nD τ).loc main_arg1) : Vec Ideal S8192x2048 .bf16) (ix2 r k)
  g k := (m ((c : Thread nD τ).loc main_arg2) : Vec Ideal S1x2048 .f32) (ix2 0 k)
  b k := (m ((c : Thread nD τ).loc main_arg3) : Vec Ideal S1x2048 .f32) (ix2 0 k)
  W g i j := (m ((c : Thread nD τ).loc main_arg4) : Vec Ideal S1x16x128x128 .f32) (ix4 0 g i j)
  B g i := (m ((c : Thread nD τ).loc main_arg5) : Vec Ideal S1x16x128 .f32) (ix3 0 g i)

/-! ## What the host prepares -/

theorem after_app {l₁ l₂ : List (HloOp τ sig (Elt Ideal))} (W : Valuation τ sig (Elt Ideal)) :
    StableHlo.after (l₁ ++ l₂) W = StableHlo.after l₂ (StableHlo.after l₁ W) := by
  induction l₁ generalizing W with
  | nil => rfl
  | cons op l ih => exact ih _

/-- The memory after the chunk numbers are made. -/
def W1 : Valuation τ sig (Elt Ideal) := StableHlo.after (hostOps0 (F := Ideal) ++ hostOps0_1) fun b => m (c, b)

theorem V_eq (b : Ref sig .tc) : V m c b = StableHlo.after (hostOps0_2 (F := Ideal)) (W1 m c) b := by
  unfold V W1
  rw [show List.flatten [hostOps0 (F := Ideal), hostOps0_1, hostOps0_2] = (hostOps0 ++ hostOps0_1) ++ hostOps0_2 from by simp, after_app]

/-- The chunk of each place of a token block. -/
theorem W1_v9 : (W1 m c main_v9 : IVec S128 32) = fun j => BitVec.ofNat 32 ((j 0 : Nat) / 64) := by
  unfold W1
  simp only [List.cons_append, List.nil_append, hostOps0, hostOps0_1]
  after_results_simp
  simp only [StableHlo.TRef.ofBuf_toBuf]
  funext j
  rw [← ix1_eta j]
  generalize j 0 = k
  revert k
  decide +kernel

theorem W1_arg4 : W1 m c main_arg4 = m ((c : Thread nD τ).loc main_arg4) := by
  unfold W1
  simp only [List.cons_append, List.nil_append, hostOps0, hostOps0_1]
  after_results_simp

theorem W1_arg5 : W1 m c main_arg5 = m ((c : Thread nD τ).loc main_arg5) := by
  unfold W1
  simp only [List.cons_append, List.nil_append, hostOps0, hostOps0_1]
  after_results_simp

/-- A bit as a number. -/
theorem uitofp_bit (p : Prop) [Decidable p] : FloatOps.uitofp (F := Ideal) FTy.f32 (if p then 1#1 else 0#1) = if p then (1 : EReal) else 0 := by
  split
  · show (((1#1 : BitVec 1).toNat : ℝ) : EReal) = 1; simp
  · show (((0#1 : BitVec 1).toNat : ℝ) : EReal) = 0; simp

/-- The bit of the mask. -/
theorem mask_bit : ∀ i j : Fin 128, IntOp.cmpi .sle (BitVec.ofNat 32 ((j : Nat) / 64)) (BitVec.ofNat 32 ((i : Nat) / 64))
    = if (j : Nat) / 64 ≤ (i : Nat) / 64 then 1#1 else 0#1 := by
  decide +kernel

theorem mask_num (i j : Fin 128) : FloatOps.uitofp (F := Ideal) FTy.f32
    (IntOp.cmpi .sle (BitVec.ofNat 32 ((j : Nat) / 64)) (BitVec.ofNat 32 ((i : Nat) / 64)))
    = if (j : Nat) / 64 ≤ (i : Nat) / 64 then (1 : EReal) else 0 := by
  rw [mask_bit, uitofp_bit]

theorem group_bit : ∀ i j : Fin 128, IntOp.cmpi .eq (IntOp.addi (BitVec.ofNat 32 i) 0#32) (BitVec.ofNat 32 j)
    = if (i : Nat) = j then 1#1 else 0#1 := by
  decide +kernel

theorem host_v15 : V m c main_v15 = fun j : S128x128.Idx => if (j 1 : Nat) / 64 ≤ (j 0 : Nat) / 64 then (1 : EReal) else 0 := by
  rw [V_eq]
  simp only [hostOps0_2]
  after_results_simp
  erw [W1_v9]
  funext j
  pointwise
  exact mask_num (j 0) (j 1)

theorem masked (x : EReal) (p : Prop) [Decidable p] : x * (if p then (1 : EReal) else 0) = if p then x else 0 := by
  split <;> simp

theorem host_v20 : V m c main_v20 = fun j : S16x128x128.Idx => (args m c).w (j 0) (j 1) (j 2) := by
  rw [V_eq]
  simp only [hostOps0_2]
  after_results_simp
  erw [W1_v9, W1_arg4]
  funext j
  pointwise
  erw [mask_num (j 1) (j 2), masked]
  rfl

theorem host_v22 : V m c main_v22 = fun j : S16x128x128.Idx => (args m c).w (j 0) (j 2) (j 1) := by
  rw [V_eq]
  simp only [hostOps0_2]
  after_results_simp
  erw [W1_v9, W1_arg4]
  funext j
  pointwise
  erw [mask_num (j 2) (j 1), masked]
  rfl

theorem host_v26 : V m c main_v26 = fun j : S128x2048.Idx => (args m c).B (grp (j 1)) (j 0) := by
  rw [V_eq]
  simp only [hostOps0_2]
  after_results_simp
  erw [W1_arg5]
  funext j
  pointwise
  rfl

theorem host_v7 : V m c main_v7 = fun j : S2048x128.Idx => if (j 0 : Nat) / 128 = j 1 then (1 : EReal) else 0 := by
  rw [V_eq]
  simp only [hostOps0_2]
  after_results_simp
  unfold W1
  simp only [List.cons_append, List.nil_append, hostOps0, hostOps0_1]
  after_results_simp
  funext j
  pointwise
  have h0 : (j 0 : Nat) < 2048 := (j 0).isLt
  erw [group_bit ⟨(j 0 : Nat) / 128, by omega⟩ (j 1), uitofp_bit]

/-! ## The blocks a point reads -/

/-- The window index maps over the grid. -/
theorem win_index : ∀ t : Fin cfg0.N, win0_0.index t = ![(t : Nat), 0] ∧ win0_1.index t = ![(t : Nat), 1] ∧ win0_2.index t = ![(t : Nat), 2] ∧ win0_3.index t = ![(t : Nat), 0]
    ∧ win0_4.index t = ![0, 0] ∧ win0_5.index t = ![0, 0] ∧ win0_6.index t = ![0, 0, 0] ∧ win0_7.index t = ![0, 0, 0]
    ∧ win0_8.index t = ![0, 0] ∧ win0_9.index t = ![0, 0] ∧ win0_10.index t = ![0, 0] := by
  intro t
  rcases fin_N0 t with h | h | h | h | h | h | h | h | h | h | h | h | h | h | h | h <;> subst h <;> decide

/-- An argument is not written by the host. -/
theorem V_arg0 : V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3) := by
  refine ⟨?_, ?_, ?_, ?_⟩ <;>
  · rw [V_eq]; simp only [hostOps0_2]; after_results_simp
    unfold W1
    simp only [List.cons_append, List.nil_append, hostOps0, hostOps0_1]
    after_results_simp

variable (t : Fin cfg0.N)

theorem t_lt : (t : Nat) < 16 := lt_of_lt_of_eq t.isLt N_0

theorem blk0 : (iblk m c 0 t : Vec Ideal S512x2048 .bf16) = fun j : S512x2048.Idx => (args m c).U (prow t (j 0)) (j 1) := by
  funext j
  have ht := t_lt t
  obtain ⟨h, -⟩ := win_index t
  unfold iblk
  rw [View.read_apply]
  show V m c main_arg0 _ = _
  rw [(V_arg0 m c).1]
  refine congrArg (m (c.tc.loc main_arg0)) ?_
  have h0 : (j 0 : Nat) < 512 := (j 0).isLt
  funext a; apply Fin.ext
  match a with
  | ⟨0, _⟩ => show win0_0.index t 0 * 512 + 1 * (j 0).val = (512 * t + (j 0).val) % 8192; rw [h]; simp; omega
  | ⟨1, _⟩ => show win0_0.index t 1 * 2048 + 1 * (j 1).val = (j 1).val; rw [h]; simp

theorem blk1 : (iblk m c 1 t : Vec Ideal S512x2048 .bf16) = fun j : S512x2048.Idx => (args m c).V (prow t (j 0)) (j 1) := by
  funext j
  have ht := t_lt t
  obtain ⟨-, h, -⟩ := win_index t
  unfold iblk
  rw [View.read_apply]
  show V m c main_arg0 _ = _
  rw [(V_arg0 m c).1]
  refine congrArg (m (c.tc.loc main_arg0)) ?_
  have h0 : (j 0 : Nat) < 512 := (j 0).isLt
  funext a; apply Fin.ext
  match a with
  | ⟨0, _⟩ => show win0_1.index t 0 * 512 + 1 * (j 0).val = (512 * t + (j 0).val) % 8192; rw [h]; simp; omega
  | ⟨1, _⟩ => show win0_1.index t 1 * 2048 + 1 * (j 1).val = 2048 + (j 1).val; rw [h]; simp

theorem blk2 : (iblk m c 2 t : Vec Ideal S512x2048 .bf16) = fun j : S512x2048.Idx => (args m c).Z (prow t (j 0)) (j 1) := by
  funext j
  have ht := t_lt t
  obtain ⟨-, -, h, -⟩ := win_index t
  unfold iblk
  rw [View.read_apply]
  show V m c main_arg0 _ = _
  rw [(V_arg0 m c).1]
  refine congrArg (m (c.tc.loc main_arg0)) ?_
  have h0 : (j 0 : Nat) < 512 := (j 0).isLt
  funext a; apply Fin.ext
  match a with
  | ⟨0, _⟩ => show win0_2.index t 0 * 512 + 1 * (j 0).val = (512 * t + (j 0).val) % 8192; rw [h]; simp; omega
  | ⟨1, _⟩ => show win0_2.index t 1 * 2048 + 1 * (j 1).val = 4096 + (j 1).val; rw [h]; simp

theorem blk3 : (iblk m c 3 t : Vec Ideal S512x2048 .bf16) = fun j : S512x2048.Idx => (args m c).C (prow t (j 0)) (j 1) := by
  funext j
  have ht := t_lt t
  obtain ⟨-, -, -, h, -⟩ := win_index t
  unfold iblk
  rw [View.read_apply]
  show V m c main_arg1 _ = _
  rw [(V_arg0 m c).2.1]
  refine congrArg (m (c.tc.loc main_arg1)) ?_
  have h0 : (j 0 : Nat) < 512 := (j 0).isLt
  funext a; apply Fin.ext
  match a with
  | ⟨0, _⟩ => show win0_3.index t 0 * 512 + 1 * (j 0).val = (512 * t + (j 0).val) % 8192; rw [h]; simp; omega
  | ⟨1, _⟩ => show win0_3.index t 1 * 2048 + 1 * (j 1).val = (j 1).val; rw [h]; simp

theorem blk4 : (iblk m c 4 t : Vec Ideal S1x2048 .f32) = fun j : S1x2048.Idx => (args m c).g (j 1) := by
  funext j
  obtain ⟨-, -, -, -, h, -⟩ := win_index t
  unfold iblk
  rw [View.read_apply]
  show V m c main_arg2 _ = _
  rw [(V_arg0 m c).2.2.1]
  refine congrArg (m (c.tc.loc main_arg2)) ?_
  have h0 : (j 0 : Nat) < 1 := (j 0).isLt
  funext a; apply Fin.ext
  match a with
  | ⟨0, _⟩ => show win0_4.index t 0 * 1 + 1 * (j 0).val = 0; rw [h]; simp; omega
  | ⟨1, _⟩ => show win0_4.index t 1 * 2048 + 1 * (j 1).val = (j 1).val; rw [h]; simp

theorem blk5 : (iblk m c 5 t : Vec Ideal S1x2048 .f32) = fun j : S1x2048.Idx => (args m c).b (j 1) := by
  funext j
  obtain ⟨-, -, -, -, -, h, -⟩ := win_index t
  unfold iblk
  rw [View.read_apply]
  show V m c main_arg3 _ = _
  rw [(V_arg0 m c).2.2.2]
  refine congrArg (m (c.tc.loc main_arg3)) ?_
  have h0 : (j 0 : Nat) < 1 := (j 0).isLt
  funext a; apply Fin.ext
  match a with
  | ⟨0, _⟩ => show win0_5.index t 0 * 1 + 1 * (j 0).val = 0; rw [h]; simp; omega
  | ⟨1, _⟩ => show win0_5.index t 1 * 2048 + 1 * (j 1).val = (j 1).val; rw [h]; simp

theorem blk6 : (iblk m c 6 t : Vec Ideal S16x128x128 .bf16) = fun j : S16x128x128.Idx => (args m c).w (j 0) (j 1) (j 2) := by
  refine Eq.trans ?_ (host_v20 m c)
  funext j
  obtain ⟨-, -, -, -, -, -, h, -⟩ := win_index t
  unfold iblk
  rw [View.read_apply]
  show V m c main_v20 _ = _
  refine congrArg (V m c main_v20) ?_
  funext a; apply Fin.ext
  match a with
  | ⟨0, _⟩ => show win0_6.index t 0 * 16 + 1 * (j 0).val = (j 0).val; rw [h]; simp
  | ⟨1, _⟩ => show win0_6.index t 1 * 128 + 1 * (j 1).val = (j 1).val; rw [h]; simp
  | ⟨2, _⟩ => show win0_6.index t 2 * 128 + 1 * (j 2).val = (j 2).val; rw [h]; simp

theorem blk7 : (iblk m c 7 t : Vec Ideal S16x128x128 .bf16) = fun j : S16x128x128.Idx => (args m c).w (j 0) (j 2) (j 1) := by
  refine Eq.trans ?_ (host_v22 m c)
  funext j
  obtain ⟨-, -, -, -, -, -, -, h, -⟩ := win_index t
  unfold iblk
  rw [View.read_apply]
  show V m c main_v22 _ = _
  refine congrArg (V m c main_v22) ?_
  funext a; apply Fin.ext
  match a with
  | ⟨0, _⟩ => show win0_7.index t 0 * 16 + 1 * (j 0).val = (j 0).val; rw [h]; simp
  | ⟨1, _⟩ => show win0_7.index t 1 * 128 + 1 * (j 1).val = (j 1).val; rw [h]; simp
  | ⟨2, _⟩ => show win0_7.index t 2 * 128 + 1 * (j 2).val = (j 2).val; rw [h]; simp

theorem blk8 : (iblk m c 8 t : Vec Ideal S128x2048 .f32) = fun j : S128x2048.Idx => (args m c).B (grp (j 1)) (j 0) := by
  refine Eq.trans ?_ (host_v26 m c)
  funext j
  obtain ⟨-, -, -, -, -, -, -, -, h, -⟩ := win_index t
  unfold iblk
  rw [View.read_apply]
  show V m c main_v26 _ = _
  refine congrArg (V m c main_v26) ?_
  funext a; apply Fin.ext
  match a with
  | ⟨0, _⟩ => show win0_8.index t 0 * 128 + 1 * (j 0).val = (j 0).val; rw [h]; simp
  | ⟨1, _⟩ => show win0_8.index t 1 * 2048 + 1 * (j 1).val = (j 1).val; rw [h]; simp

theorem blk9 : (iblk m c 9 t : Vec Ideal S128x128 .f32) = fun j : S128x128.Idx => if (j 1 : Nat) / 64 ≤ (j 0 : Nat) / 64 then (1 : EReal) else 0 := by
  refine Eq.trans ?_ (host_v15 m c)
  funext j
  obtain ⟨-, -, -, -, -, -, -, -, -, h, -⟩ := win_index t
  unfold iblk
  rw [View.read_apply]
  show V m c main_v15 _ = _
  refine congrArg (V m c main_v15) ?_
  funext a; apply Fin.ext
  match a with
  | ⟨0, _⟩ => show win0_9.index t 0 * 128 + 1 * (j 0).val = (j 0).val; rw [h]; simp
  | ⟨1, _⟩ => show win0_9.index t 1 * 128 + 1 * (j 1).val = (j 1).val; rw [h]; simp

theorem blk10 : (iblk m c 10 t : Vec Ideal S2048x128 .f32) = fun j : S2048x128.Idx => if (j 0 : Nat) / 128 = j 1 then (1 : EReal) else 0 := by
  refine Eq.trans ?_ (host_v7 m c)
  funext j
  obtain ⟨-, -, -, -, -, -, -, -, -, -, h⟩ := win_index t
  unfold iblk
  rw [View.read_apply]
  show V m c main_v7 _ = _
  refine congrArg (V m c main_v7) ?_
  funext a; apply Fin.ext
  match a with
  | ⟨0, _⟩ => show win0_10.index t 0 * 2048 + 1 * (j 0).val = (j 0).val; rw [h]; simp
  | ⟨1, _⟩ => show win0_10.index t 1 * 128 + 1 * (j 1).val = (j 1).val; rw [h]; simp

end Cert.KernelIdeal.Sgu

end
-- ==== Proof.SguFold.lean ====
/- What the run of `KernelIdeal` leaves in its five results, as mathematics: the fold over the sixteen points, each point's
   blocks read as rows of the whole arrays. -/
module

public import proofs.«01_k».proof.Proof.SguHost

@[expose] public section

set_option maxRecDepth 16384

noncomputable section

namespace Cert.KernelIdeal.Sgu

open Idealize.ShloMosaic Idealize.ShloMosaic.TcCoe Idealize.SL.Sem
open Cert.KernelIdeal Cert.KernelIdeal.Gen

/-! ## A point's blocks as rows of the arrays -/

/-- The projection's gradient: `du`, `dv`, `dz` side by side. -/
def Args.dp (a : Args) (r : Fin 8192) (k : Fin 6144) : EReal :=
  if h : (k : Nat) < 2048 then a.du r ⟨k, h⟩ else if h : (k : Nat) < 4096 then a.dv r ⟨k - 2048, by omega⟩ else a.dz r ⟨k - 4096, by omega⟩

section
variable (a : Args) (t : Nat)

/-- Row blocks of tables. -/
def rowsOf (T : Fin 8192 → Fin 2048 → EReal) (t : Nat) : S512x2048.Idx → EReal := fun j => T (prow t (j 0)) (j 1)
def vecOf (v : Fin 2048 → EReal) : S1x2048.Idx → EReal := fun j => v (j 1)
def wOf : S16x128x128.Idx → EReal := fun j => a.w (j 0) (j 1) (j 2)
def wtOf : S16x128x128.Idx → EReal := fun j => a.w (j 0) (j 2) (j 1)
def biasOf : S128x2048.Idx → EReal := fun j => a.B (grp (j 1)) (j 0)
def maskOf : S128x128.Idx → EReal := fun j => if (j 1 : Nat) / 64 ≤ (j 0 : Nat) / 64 then (1 : EReal) else 0
def selOf : S2048x128.Idx → EReal := fun j => if (j 0 : Nat) / 128 = j 1 then (1 : EReal) else 0

theorem prow_row (r : Fin 512) (k : Fin 128) : prow t (row r k) = grow ((prow t r : Nat) / 128) k := by
  apply Fin.ext; simp only [prow, row, grow]; omega

theorem gpos_prow (r : Fin 512) : gpos (prow t r) = pos r := by
  apply Fin.ext; simp only [prow, gpos, pos]; omega

theorem prow_trow (q : Nat) (hq : q < 4) (i : Fin 128) : prow t (trow q i) = grow (4 * t + q) i := by
  apply Fin.ext; simp only [prow, trow, grow]; omega

theorem DM_rows : DM (rowsOf a.U t) (rowsOf a.Z t) (rowsOf a.C t) = rowsOf a.dm t := rfl
theorem VN_rows : VN (rowsOf a.V t) (vecOf a.g) (vecOf a.b) = rowsOf a.vn t := rfl
theorem HT_rows : HT (rowsOf a.V t) = rowsOf (fun r => hat (a.V r)) t := rfl

theorem DV_rows : DV (rowsOf a.U t) (rowsOf a.Z t) (rowsOf a.C t) (wtOf a) = rowsOf a.dvn t := by
  funext j
  simp only [DV, DM_rows, rowsOf, Args.dvn, wtOf]
  refine Finset.sum_congr rfl fun k _ => ?_
  show a.w (grp (j 1)) k (pos (j 0)) * a.dm (prow t (row (j 0) k)) (j 1) = _
  rw [gpos_prow t (j 0), prow_row t (j 0)]

theorem MX_rows : MX (rowsOf a.V t) (vecOf a.g) (vecOf a.b) (wOf a) (biasOf a) = rowsOf a.mx t := by
  funext j
  simp only [MX, VN_rows, rowsOf, Args.mx, wOf, biasOf]
  congr 1
  · refine Finset.sum_congr rfl fun k _ => ?_
    show a.w (grp (j 1)) (pos (j 0)) k * a.vn (prow t (row (j 0) k)) (j 1) = _
    rw [gpos_prow t (j 0), prow_row t (j 0)]
  · show a.B (grp (j 1)) (pos (j 0)) = _
    rw [gpos_prow t (j 0)]

theorem PW_rows (q : Nat) (hq : q < 4) (j : S16x128x128.Idx) :
    PW (rowsOf a.U t) (rowsOf a.V t) (rowsOf a.Z t) (rowsOf a.C t) (vecOf a.g) (vecOf a.b) q j = a.pw (4 * t + q) (j 0) (j 1) (j 2) := by
  simp only [PW, DM_rows, VN_rows, Args.pw]
  refine Finset.sum_congr rfl fun k _ => ?_
  show a.dm (prow t (trow q (j 1))) (gcol (j 0) k) * a.vn (prow t (trow q (j 2))) (gcol (j 0) k) = _
  rw [prow_trow t q hq (j 1), prow_trow t q hq (j 2)]

theorem DP_rows (j : S512x6144.Idx) : DP (rowsOf a.U t) (rowsOf a.V t) (rowsOf a.Z t) (rowsOf a.C t) (vecOf a.g) (vecOf a.b) (wOf a) (wtOf a) (biasOf a) j
    = a.dp (prow t (j 0)) (j 1) := by
  unfold DP Args.dp
  split
  · unfold DUX; rw [MX_rows]; rfl
  · split
    · unfold DVX DVH; rw [DV_rows, HT_rows]; rfl
    · unfold DZX; rw [MX_rows]; rfl

/-- Four more blocks. -/
theorem sum4 (f : Nat → EReal) (n : Nat) : (∑ k ∈ Finset.range (4 * (n + 1)), f k)
    = (∑ k ∈ Finset.range (4 * n), f k) + f (4 * n + 0) + f (4 * n + 1) + f (4 * n + 2) + f (4 * n + 3) := by
  rw [show 4 * (n + 1) = 4 * n + 0 + 1 + 1 + 1 + 1 from by omega, Finset.sum_range_succ, Finset.sum_range_succ, Finset.sum_range_succ,
    Finset.sum_range_succ]
  rfl

/-- The sums after the first `n` points. -/
def accW (n : Nat) : S16x128x128.Idx → EReal := fun j => ∑ k ∈ Finset.range (4 * n), a.pw k (j 0) (j 1) (j 2)
def accB (n : Nat) : S128x2048.Idx → EReal := fun j => ∑ k ∈ Finset.range (4 * n), a.dm (grow k (j 0)) (j 1)
def accG (f : Fin 8192 → Fin 2048 → EReal) (n : Nat) : S8x2048.Idx → EReal := fun j =>
  if (j 0 : Nat) = 0 then ∑ s ∈ Finset.range n, ∑ r, f (prow s r) (j 1) else 0

theorem TW_acc : TW (rowsOf a.U t) (rowsOf a.V t) (rowsOf a.Z t) (rowsOf a.C t) (vecOf a.g) (vecOf a.b) (accW a t) 64 = accW a (t + 1) := by
  funext j
  rw [TW_all, PW_rows a t 0 (by decide), PW_rows a t 1 (by decide), PW_rows a t 2 (by decide), PW_rows a t 3 (by decide)]
  simp only [accW]
  rw [sum4]

theorem TB_acc : TB (rowsOf a.U t) (rowsOf a.Z t) (rowsOf a.C t) (accB a t) 4 = accB a (t + 1) := by
  funext j
  simp only [TB, DM_rows, accB]
  rw [sum4]
  show _ + a.dm (prow t (trow 0 (j 0))) (j 1) + a.dm (prow t (trow 1 (j 0))) (j 1) + a.dm (prow t (trow 2 (j 0))) (j 1)
    + a.dm (prow t (trow 3 (j 0))) (j 1) = _
  rw [prow_trow t 0 (by decide) (j 0), prow_trow t 1 (by decide) (j 0), prow_trow t 2 (by decide) (j 0), prow_trow t 3 (by decide) (j 0)]

theorem GG_acc (f : Fin 8192 → Fin 2048 → EReal) : GG (accG f t) (rowsOf f t) = accG f (t + 1) := by
  funext j
  simp only [GG, accG, rowsOf]
  split
  · rw [Finset.sum_range_succ]; rfl
  · rfl

theorem accW_zero : accW a 0 = fun _ => 0 := by funext j; simp [accW]
theorem accB_zero : accB a 0 = fun _ => 0 := by funext j; simp [accB]
theorem accG_zero (f : Fin 8192 → Fin 2048 → EReal) : accG f 0 = fun _ => 0 := by funext j; simp [accG]
end

/-! ## The state after each point -/

variable (m : (ℓ : Loc nD τ sig) → Buf (Elt Ideal) ℓ) (c : Dev nD)

/-- The state after `n` points, the biases' result apart. -/
structure After (a : Args) (n : Nat) (s : Vec Ideal S512x6144 .bf16 × Vec Ideal S16x128x128 .f32 × Vec Ideal S128x128 .f32 × Vec Ideal S8x2048 .f32
    × Vec Ideal S8x2048 .f32 × Vec Ideal S128x2048 .f32) : Prop where
  w : s.2.1 = accW a n
  dg : s.2.2.2.1 = accG (fun r k => a.dvn r k * hat (a.V r) k) n
  db : s.2.2.2.2.1 = accG a.dvn n
  sb : s.2.2.2.2.2 = accB a n

theorem HTg (a : Args) (t : Nat) : (fun j => DV (rowsOf a.U t) (rowsOf a.Z t) (rowsOf a.C t) (wtOf a) j * HT (rowsOf a.V t) j)
    = rowsOf (fun r k => a.dvn r k * hat (a.V r) k) t := by
  funext j; rw [DV_rows, HT_rows]; rfl

theorem blks (t : Fin cfg0.N) : (iblk m c 0 t : Vec Ideal S512x2048 .bf16) = rowsOf (args m c).U t ∧ (iblk m c 1 t : Vec Ideal S512x2048 .bf16) = rowsOf (args m c).V t
    ∧ (iblk m c 2 t : Vec Ideal S512x2048 .bf16) = rowsOf (args m c).Z t ∧ (iblk m c 3 t : Vec Ideal S512x2048 .bf16) = rowsOf (args m c).C t
    ∧ (iblk m c 4 t : Vec Ideal S1x2048 .f32) = vecOf (args m c).g ∧ (iblk m c 5 t : Vec Ideal S1x2048 .f32) = vecOf (args m c).b
    ∧ (iblk m c 6 t : Vec Ideal S16x128x128 .bf16) = wOf (args m c) ∧ (iblk m c 7 t : Vec Ideal S16x128x128 .bf16) = wtOf (args m c)
    ∧ (iblk m c 8 t : Vec Ideal S128x2048 .f32) = biasOf (args m c) ∧ (iblk m c 9 t : Vec Ideal S128x128 .f32) = maskOf
    ∧ (iblk m c 10 t : Vec Ideal S2048x128 .f32) = selOf :=
  ⟨blk0 m c t, blk1 m c t, blk2 m c t, blk3 m c t, blk4 m c t, blk5 m c t, blk6 m c t, blk7 m c t, blk8 m c t, blk9 m c t, blk10 m c t⟩

theorem after_A (t : Fin cfg0.N) (s) (h0 : t.val % 16 = 0) (h1 : ¬t.val % 16 = 15) : After (args m c) 1 (Value.stAt0 m c t.val t.isLt s) := by
  obtain ⟨e0, e1, e2, e3, e4, e5, e6, e7, e8, e9, e10⟩ := blks m c t
  have ht : (t : Nat) = 0 := by have := t_lt t; omega
  rw [Value.stAt0_A m c t s h0 h1]
  constructor
  · dsimp only
    rw [out12_A, e0, e1, e2, e3, e4, e5, ht, ← accW_zero (args m c), TW_acc]
  · dsimp only
    rw [out14_A, e0, e1, e2, e3, e7, ht, HTg, ← accG_zero (fun r k => (args m c).dvn r k * hat ((args m c).V r) k), GG_acc]
  · dsimp only
    rw [out15_A, e0, e2, e3, e7, ht, DV_rows, ← accG_zero (args m c).dvn, GG_acc]
  · dsimp only
    rw [sout_A, e0, e2, e3, ht, ← accB_zero (args m c), TB_acc]

theorem after_B (t : Fin cfg0.N) (s) (h0 : ¬t.val % 16 = 0) (h1 : ¬t.val % 16 = 15) (hs : After (args m c) t s) :
    After (args m c) (t + 1) (Value.stAt0 m c t.val t.isLt s) := by
  obtain ⟨e0, e1, e2, e3, e4, e5, e6, e7, e8, e9, e10⟩ := blks m c t
  rw [Value.stAt0_B m c t s h0 h1]
  constructor
  · dsimp only
    rw [out12_B, e0, e1, e2, e3, e4, e5, hs.w, TW_acc]
  · dsimp only
    rw [out14_B, e0, e1, e2, e3, e7, hs.dg, HTg, GG_acc]
  · dsimp only
    rw [out15_B, e0, e2, e3, e7, hs.db, DV_rows, GG_acc]
  · dsimp only
    rw [sout_B, e0, e2, e3, hs.sb, TB_acc]

theorem dp_pt (t : Fin cfg0.N) (s) : (Value.stAt0 m c t.val t.isLt s).1 = fun j : S512x6144.Idx => (args m c).dp (prow t (j 0)) (j 1) := by
  obtain ⟨e0, e1, e2, e3, e4, e5, e6, e7, e8, e9, e10⟩ := blks m c t
  by_cases h0 : t.val % 16 = 0
  · have h1 : ¬t.val % 16 = 15 := by omega
    rw [Value.stAt0_A m c t s h0 h1]
    dsimp only
    rw [out11_A, e0, e1, e2, e3, e4, e5, e6, e7, e8]
    funext j; exact DP_rows _ _ j
  · by_cases h1 : t.val % 16 = 15
    · rw [Value.stAt0_C m c t s h0 h1]
      dsimp only
      rw [out11_C, e0, e1, e2, e3, e4, e5, e6, e7, e8]
      funext j; exact DP_rows _ _ j
    · rw [Value.stAt0_B m c t s h0 h1]
      dsimp only
      rw [out11_B, e0, e1, e2, e3, e4, e5, e6, e7, e8]
      funext j; exact DP_rows _ _ j

/-- The state after the first `n + 1` points. -/
abbrev st (n : Nat) (h : 0 + n < cfg0.N) := Pipeline.accAt (fun n h => Value.stAt0 m c n h Value.junk0) (Value.stAt0 m c) 0 n h

theorem after_st : ∀ (n : Nat) (h : 0 + n < cfg0.N), n < 15 → After (args m c) (n + 1) (st m c n h)
  | 0, h, _ => after_A m c ⟨0, h⟩ _ rfl (show ¬(0 % 16 = 15) by decide)
  | n + 1, h, hn => by
    have e : 0 + (n + 1) = n + 1 := Nat.zero_add _
    have := after_B m c ⟨n + 1, e ▸ h⟩ (st m c n (Nat.lt_of_succ_lt h)) (by show ¬(n + 1) % 16 = 0; omega) (by show ¬(n + 1) % 16 = 15; omega)
      (after_st n _ (by omega))
    unfold st
    rw [Pipeline.accAt_succ]
    simp only [e]
    exact this

theorem dp_st (n : Nat) (h : 0 + n < cfg0.N) : (st m c n h).1 = fun j : S512x6144.Idx => (args m c).dp (prow n (j 0)) (j 1) := by
  cases n with
  | zero => exact dp_pt m c ⟨0, h⟩ _
  | succ n =>
    have e : 0 + (n + 1) = n + 1 := Nat.zero_add _
    have := dp_pt m c ⟨n + 1, e ▸ h⟩ (st m c n (Nat.lt_of_succ_lt h))
    unfold st
    rw [Pipeline.accAt_succ]
    simp only [e]
    exact this

/-- What the last point leaves. -/
theorem last_C (t : Fin cfg0.N) (s) (h0 : ¬t.val % 16 = 0) (h1 : t.val % 16 = 15) (hs : After (args m c) t s) :
    (Value.stAt0 m c t.val t.isLt s).2.1 = TM maskOf (accW (args m c) 16) 16
    ∧ (Value.stAt0 m c t.val t.isLt s).2.2.1 = (fun j : S128x128.Idx => ∑ k : Fin 2048, accB (args m c) 16 (ix2 (j 0) k) * selOf (ix2 k (j 1)))
    ∧ (Value.stAt0 m c t.val t.isLt s).2.2.2.1 = accG (fun r k => (args m c).dvn r k * hat ((args m c).V r) k) 16
    ∧ (Value.stAt0 m c t.val t.isLt s).2.2.2.2.1 = accG (args m c).dvn 16 := by
  obtain ⟨e0, e1, e2, e3, e4, e5, e6, e7, e8, e9, e10⟩ := blks m c t
  have ht : (t : Nat) + 1 = 16 := by have := t_lt t; omega
  rw [Value.stAt0_C m c t s h0 h1]
  refine ⟨?_, ?_, ?_, ?_⟩
  · dsimp only
    rw [out12_C, e0, e1, e2, e3, e4, e5, e9, hs.w, TW_acc, ht]
  · dsimp only
    rw [out13_C, e0, e2, e3, e10, hs.sb, TB_acc, ht]
  · dsimp only
    rw [out14_C, e0, e1, e2, e3, e7, hs.dg, HTg, GG_acc, ht]
  · dsimp only
    rw [out15_C, e0, e2, e3, e7, hs.db, DV_rows, GG_acc, ht]

theorem last_st (h : 0 + 15 < cfg0.N) : (st m c 15 h).2.1 = TM maskOf (accW (args m c) 16) 16
    ∧ (st m c 15 h).2.2.1 = (fun j : S128x128.Idx => ∑ k : Fin 2048, accB (args m c) 16 (ix2 (j 0) k) * selOf (ix2 k (j 1)))
    ∧ (st m c 15 h).2.2.2.1 = accG (fun r k => (args m c).dvn r k * hat ((args m c).V r) k) 16
    ∧ (st m c 15 h).2.2.2.2.1 = accG (args m c).dvn 16 := by
  have := last_C m c ⟨15, h⟩ (st m c 14 (Nat.lt_of_succ_lt h)) (show ¬(15 % 16 = 0) by decide) (show 15 % 16 = 15 by decide) (after_st m c 14 _ (by decide))
  unfold st
  rw [Pipeline.accAt_succ]
  exact this

/-! ## The five results -/

theorem res11 : Value.G11 m c = fun i : S8192x6144.Idx => (args m c).dp (i 0) (i 1) := by
  funext i
  have h0 : (i 0 : Nat) < 8192 := (i 0).isLt
  have h1 : (i 1 : Nat) < 6144 := (i 1).isLt
  have hp : Value.pt11Of i = (i 0 : Nat) / 512 := by
    show 1 * ((i 0 : Nat) / 512 - 0) + 1 * ((i 1 : Nat) / 6144 - 0) = _
    omega
  have hn : Value.pt11Of i < cfg0.N := by
    rw [hp]; exact lt_of_lt_of_eq (by omega) N_0.symm
  unfold Value.G11
  rw [dif_pos hn]
  refine (congrFun (dp_st m c (Value.pt11Of i) _) _).trans ?_
  refine congrArg₂ (args m c).dp ?_ ?_
  · apply Fin.ext
    show (512 * Value.pt11Of i + (i 0 : Nat) % 512) % 8192 = _
    rw [hp]; omega
  · apply Fin.ext
    show (i 1 : Nat) % 6144 = _
    omega

theorem res12 : Value.G12 m c = fun j : S16x128x128.Idx => (args m c).dw (j 0) (j 1) (j 2) := by
  rw [Value.G12_last]
  refine (last_st m c _).1.trans ?_
  funext j
  have h0 : (j 0 : Nat) < 16 := (j 0).isLt
  unfold TM
  rw [if_pos h0]
  exact masked _ _

theorem res14 : Value.G14 m c = fun j : S8x2048.Idx => if (j 0 : Nat) = 0 then (args m c).dg (j 1) else 0 := by
  rw [Value.G14_last]
  exact (last_st m c _).2.2.1

theorem res15 : Value.G15 m c = fun j : S8x2048.Idx => if (j 0 : Nat) = 0 then (args m c).db (j 1) else 0 := by
  rw [Value.G15_last]
  exact (last_st m c _).2.2.2

/-- A sum over the channels of one group, picked out of all the channels. -/
theorem sum_group (f : Fin 2048 → EReal) (n : Nat) :
    (∑ k : Fin 2048, f k * (if (k : Nat) / 128 = n then (1 : EReal) else 0)) = if h : n < 16 then ∑ k : Fin 128, f (gcol ⟨n, h⟩ k) else 0 := by
  simp only [masked]
  split
  next h =>
    rw [← Finset.sum_filter]
    symm
    refine Finset.sum_bij (fun k _ => gcol ⟨n, h⟩ k) ?_ ?_ ?_ ?_
    · intro k _; simp only [Finset.mem_filter, Finset.mem_univ, true_and, gcol]; omega
    · intro a _ b _ e; apply Fin.ext; have := congrArg Fin.val e; simp only [gcol] at this; omega
    · intro k hk
      simp only [Finset.mem_filter, Finset.mem_univ, true_and] at hk
      exact ⟨⟨(k : Nat) % 128, by omega⟩, Finset.mem_univ _, by apply Fin.ext; simp only [gcol]; omega⟩
    · intro k _; rfl
  next h =>
    refine Finset.sum_eq_zero fun k _ => if_neg ?_
    have := k.isLt
    omega

theorem res13 : Value.G13 m c = fun j : S128x128.Idx => if h : (j 1 : Nat) < 16 then (args m c).dbs (j 0) ⟨j 1, h⟩ else 0 := by
  rw [Value.G13_last]
  refine (last_st m c _).2.1.trans ?_
  funext j
  exact sum_group (fun k => accB (args m c) 16 (ix2 (j 0) k)) (j 1)

end Cert.KernelIdeal.Sgu

end
-- ==== Proof.SguFwd.lean ====
/- The spatial gating unit itself: `Kernel9Ideal`'s run leaves, block by block, the product of the first part, the mixed
   values and the gate, which is what the reference is. -/
module

public import proofs.«01_k».proof.Proof.SguFold
public import proofs.«01_k».proof.Proof.Gen.Kernel9Ideal.Value
public import proofs.«01_k».proof.Proof.Gen.Reference9Ideal.Run
public import proofs.«01_k».proof.Defs
public import Idealize.ShloMosaic.Lib.Quiescent

@[expose] public section

set_option maxRecDepth 16384

noncomputable section

namespace Cert.Kernel9Ideal.SguFwd

open Idealize.ShloMosaic Idealize.ShloMosaic.TcCoe Idealize.SL.Sem
open Cert.Kernel9Ideal Cert.Kernel9Ideal.Gen
open Cert.KernelIdeal.Sgu (Args mu cen rs hat sg silu grp pos row gcol grow gpos prow VN MX emb_tile hz2 rowsOf vecOf wOf biasOf MX_rows after_app mask_num masked)

/-! ## One point -/

section
variable (x0 x1 x2 : Vec Ideal S512x2048 .bf16) (x3 x4 : Vec Ideal S1x2048 .f32) (x5 : Vec Ideal S16x128x128 .bf16) (x6 : Vec Ideal S128x2048 .f32)

theorem pay3_eq : k0_pay3 (F := Ideal) x1 x3 x4 = VN x1 x3 x4 := by
  funext j
  pointwise [k0_pay3, VN, hat, rs, cen, mu]

/-- A mixing product at an index. -/
theorem pay6_at (w : Vec Ideal S1x128x128 .bf16) (v : Vec Ideal S128x128 .bf16) (b : Vec Ideal S128x128 .f32) (x : S128x128.Idx) :
    k0_pay6 (F := Ideal) w v b x = (∑ k, w (ix3 0 (x 0) k) * v (ix2 k (x 1))) + b x := by
  pointwise [k0_pay6]

/-- The product of the three factors at an index. -/
theorem pay2_at (z u : Vec Ideal S512x2048 .bf16) (w : Vec Ideal S512x2048 .f32) (y : S512x2048.Idx) :
    k0_pay2 (F := Ideal) z u w y = u y * w y * silu (z y) := by
  pointwise [k0_pay2, silu, sg]

variable (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S16x128x128 .bf16) (harg6 : arg6.IsWhole) (arg7 : Memref sig .tc .vmem S128x2048 .f32) (harg7 : arg7.IsWhole) (arg8 : Memref sig .tc .vmem S512x2048 .bf16) (harg8 : arg8.IsWhole) (arg9 : Memref sig .tc .vmem S512x2048 .bf16) (harg9 : arg9.IsWhole) (arg10 : Memref sig .tc .vmem S512x2048 .f32) (harg10 : arg10.IsWhole)

/-- A store of one block of mixed values: the block of `MX` its rectangle names. -/
theorem mix_piece {L0 : List (View.Piece (Elt Ideal) S512x2048 .bf16)} (hL : View.canon L0 = VN x1 x3 x4)
    (o1 o2 g : Nat) (h1 : o1 % 128 = 0) (h2 : o2 = 128 * g)
    (inb : ∀ a, ![o1, o2] a + S128x128.size a ≤ S512x2048.size a) (inb6 : ∀ a, ![g, 0, 0] a + S1x128x128.size a ≤ S16x128x128.size a)
    (inb7 : ∀ a, ![0, o2] a + S128x128.size a ≤ S128x2048.size a) (x : S128x128.Idx) :
    k0_pay6 (F := Ideal) (View.readAt (Elt Ideal) arg6.view (Rect.unit (s := S16x128x128) ![g, 0, 0] S1x128x128.size inb6).toLoadRect (harg6.unread x5))
      (arg9.view.readCov L0 (Rect.unit (s := S512x2048) ![o1, o2] S128x128.size inb).toLoadRect)
      (View.readAt (Elt Ideal) arg7.view (Rect.unit (s := S128x2048) ![0, o2] S128x128.size inb7).toLoadRect (harg7.unread x6)) x
    = MX x1 x3 x4 x5 x6 ((Rect.unit (s := S512x2048) ![o1, o2] S128x128.size inb).emb x) := by
  subst h2
  rw [pay6_at, View.readCov_eq_canon', hL]
  simp only [View.readAt_eq_ld, harg6.read_unread, harg7.read_unread]
  have a0 := inb 0; have a1 := inb 1
  have b0 := (x 0).isLt; have b1 := (x 1).isLt
  simp at a0 a1 b0 b1
  erw [emb_tile o1 (128 * g) inb x (by omega) (by omega)]
  pointwise [MX, View.ld]
  have e1 : grp ⟨128 * g + (x 1 : Nat), by omega⟩ = ⟨g, by omega⟩ := Fin.ext (by simp only [grp]; omega)
  have e2 : pos ⟨o1 + (x 0 : Nat), by omega⟩ = x 0 := Fin.ext (by simp only [pos]; omega)
  have e3 : ∀ k, row ⟨o1 + (x 0 : Nat), by omega⟩ k = ⟨o1 + k, by omega⟩ := fun k => Fin.ext (by simp only [row]; omega)
  rw [e1, e2]
  simp only [e3]

theorem HS0_A : View.canon (kernelRun0_A.sl.HS0_1 (F := Ideal) c arg2 harg2 arg4 harg4 arg5 harg5 x1 x3 x4) = VN x1 x3 x4 := by
  unfold kernelRun0_A.sl.HS0_1
  rw [View.canon_unit_zero hz2]
  simp only [View.readAt_eq_ld, harg2.read_unread, harg4.read_unread, harg5.read_unread, View.ld_unit_zero (S := S512x2048) hz2, View.ld_unit_zero (S := S1x2048) hz2]
  exact pay3_eq x1 x3 x4

theorem HS1_A : View.PiecesOf (MX x1 x3 x4 x5 x6) (kernelRun0_A.sl.HS1_64 (F := Ideal) c arg2 harg2 arg4 harg4 arg5 harg5 arg6 harg6 arg7 harg7 arg9 x1 x3 x4 x5 x6) := by
  unfold kernelRun0_A.sl.HS1_64
  have h := HS0_A x1 x3 x4 c arg2 harg2 arg4 harg4 arg5 harg5
  have hp := @mix_piece x1 x3 x4 x5 x6 arg6 harg6 arg7 harg7 arg9 _ h
  repeat (refine ⟨fun x => hp _ _ _ rfl rfl _ _ _ x, ?_⟩)
  trivial

theorem MX_A : View.canon (kernelRun0_A.sl.HS1_64 (F := Ideal) c arg2 harg2 arg4 harg4 arg5 harg5 arg6 harg6 arg7 harg7 arg9 x1 x3 x4 x5 x6) = MX x1 x3 x4 x5 x6 :=
  funext fun y => View.canon_apply_of_pieces _ _ (HS1_A ..).mem y (View.cover_of_tiledL _ ![128, 128] rfl y)

/-- What a point leaves in its output block. -/
theorem out_at (y : S512x2048.Idx) :
    out0_A_7 (F := Ideal) c i arg1 harg1 arg2 harg2 arg3 harg3 arg4 harg4 arg5 harg5 arg6 harg6 arg7 harg7 arg8 harg8 arg9 harg9 arg10 harg10 x0 x1 x2 x3 x4 x5 x6 y
    = x0 y * MX x1 x3 x4 x5 x6 y * silu (x2 y) := by
  unfold out0_A_7
  rw [View.read_writes_junk_eq_canon]
  show View.canon (_ :: []) y = _
  rw [View.canon_unit_zero hz2]
  refine (pay2_at _ _ _ y).trans ?_
  refine congrArg₂ (· * ·) (congrArg₂ (· * ·) ?_ ?_) (congrArg silu ?_)
  · simp only [View.readAt_eq_ld, harg1.read_unread]
    exact congrFun (View.ld_unit_zero (S := S512x2048) hz2 _ x0) y
  · rw [← MX_A x1 x3 x4 x5 x6 c arg2 harg2 arg4 harg4 arg5 harg5 arg6 harg6 arg7 harg7 arg9]
    refine congrFun ?_ y
    exact (View.readCov_eq_canon' ..).trans (View.ld_unit_zero (S := S512x2048) hz2 _ _)
  · simp only [View.readAt_eq_ld, harg3.read_unread]
    exact congrFun (View.ld_unit_zero (S := S512x2048) hz2 _ x2) y
end

/-! ## The operands, and what the host prepares -/

variable (m : (ℓ : Loc nD τ sig) → Buf (Elt Ideal) ℓ) (ρ : Dev nD → PrngReg) (c : Dev nD)

/-- Operands read as tables; the forward pass has no gradient among them. -/
def tables (p : S8192x16384.Idx → EReal) (g b : S1x2048.Idx → EReal) (w : S1x16x128x128.Idx → EReal) (s : S1x16x128.Idx → EReal) : Args where
  U r k := p (ix2 r ⟨k, by omega⟩)
  V r k := p (ix2 r ⟨2048 + k, by omega⟩)
  Z r k := p (ix2 r ⟨4096 + k, by omega⟩)
  C _ _ := 0
  g k := g (ix2 0 k)
  b k := b (ix2 0 k)
  W n i j := w (ix4 0 n i j)
  B n i := s (ix3 0 n i)

/-- The gating unit's result at an index. -/
def gate (a : Args) : S8192x2048.Idx → EReal := fun j => a.U (j 0) (j 1) * a.mx (j 0) (j 1) * silu (a.Z (j 0) (j 1))

abbrev args : Args := tables (m ((c : Thread nD τ).loc main_arg0)) (m ((c : Thread nD τ).loc main_arg1)) (m ((c : Thread nD τ).loc main_arg2))
  (m ((c : Thread nD τ).loc main_arg3)) (m ((c : Thread nD τ).loc main_arg4))

/-- The memory after the chunk numbers are made. -/
def W1 : Valuation τ sig (Elt Ideal) := StableHlo.after (hostOps0 (F := Ideal) ++ hostOps0_1) fun b => m (c, b)

theorem V_eq (b : Ref sig .tc) : V m c b = StableHlo.after (hostOps0_2 (F := Ideal)) (W1 m c) b := by
  unfold V W1
  rw [show List.flatten [hostOps0 (F := Ideal), hostOps0_1, hostOps0_2] = (hostOps0 ++ hostOps0_1) ++ hostOps0_2 from by simp]
  generalize hostOps0 (F := Ideal) ++ hostOps0_1 = l₁
  generalize (fun b => m (c, b) : Valuation τ sig (Elt Ideal)) = W
  induction l₁ generalizing W with
  | nil => rfl
  | cons op l ih => exact ih _

/-- The chunk of each place of a token block. -/
theorem W1_v10 : (W1 m c main_v10 : IVec S128 32) = fun j => BitVec.ofNat 32 ((j 0 : Nat) / 64) := by
  unfold W1
  simp only [List.cons_append, List.nil_append, hostOps0, hostOps0_1]
  after_results_simp
  simp only [StableHlo.TRef.ofBuf_toBuf]
  funext j
  rw [← ix1_eta j]
  generalize j 0 = k
  revert k
  decide +kernel

theorem W1_v0 : (W1 m c main_v0 : Vec Ideal S16x128x128 .f32) = fun j => (args m c).W (j 0) (j 1) (j 2) := by
  unfold W1
  simp only [List.cons_append, List.nil_append, hostOps0, hostOps0_1]
  after_results_simp
  funext j
  pointwise
  rfl

theorem W1_arg4 : W1 m c main_arg4 = m ((c : Thread nD τ).loc main_arg4) := by
  unfold W1
  simp only [List.cons_append, List.nil_append, hostOps0, hostOps0_1]
  after_results_simp

theorem host_v20 : V m c main_v20 = wOf (args m c) := by
  rw [V_eq]
  simp only [hostOps0_2]
  after_results_simp
  erw [W1_v10, W1_v0]
  funext j
  pointwise
  erw [mask_num (j 1) (j 2), masked]
  rfl

theorem host_v24 : V m c main_v24 = biasOf (args m c) := by
  rw [V_eq]
  simp only [hostOps0_2]
  after_results_simp
  erw [W1_arg4]
  funext j
  pointwise
  rfl

/-! ## The blocks a point reads -/

theorem win_index : ∀ t : Fin cfg0.N, win0_0.index t = ![(t : Nat), 0] ∧ win0_1.index t = ![(t : Nat), 1] ∧ win0_2.index t = ![(t : Nat), 2]
    ∧ win0_3.index t = ![0, 0] ∧ win0_4.index t = ![0, 0] ∧ win0_5.index t = ![0, 0, 0] ∧ win0_6.index t = ![0, 0] ∧ win0_7.index t = ![(t : Nat), 0] := by
  intro t
  rcases fin_N0 t with h | h | h | h | h | h | h | h | h | h | h | h | h | h | h | h <;> subst h <;> decide

variable (t : Fin cfg0.N)

theorem t_lt : (t : Nat) < 16 := lt_of_lt_of_eq t.isLt N_0

theorem blk0 : (iblk m c 0 t : Vec Ideal S512x2048 .bf16) = rowsOf (args m c).U t := by
  funext j
  have ht := t_lt t
  obtain ⟨h, -⟩ := win_index t
  unfold iblk
  rw [View.read_apply]
  show V m c main_arg0 _ = _
  rw [V_main_arg0]
  refine congrArg (m (c.tc.loc main_arg0)) ?_
  have h0 : (j 0 : Nat) < 512 := (j 0).isLt
  funext a; apply Fin.ext
  match a with
  | ⟨0, _⟩ => show win0_0.index t 0 * 512 + 1 * (j 0).val = (512 * t + (j 0).val) % 8192; rw [h]; simp; omega
  | ⟨1, _⟩ => show win0_0.index t 1 * 2048 + 1 * (j 1).val = (j 1).val; rw [h]; simp

theorem blk1 : (iblk m c 1 t : Vec Ideal S512x2048 .bf16) = rowsOf (args m c).V t := by
  funext j
  have ht := t_lt t
  obtain ⟨-, h, -⟩ := win_index t
  unfold iblk
  rw [View.read_apply]
  show V m c main_arg0 _ = _
  rw [V_main_arg0]
  refine congrArg (m (c.tc.loc main_arg0)) ?_
  have h0 : (j 0 : Nat) < 512 := (j 0).isLt
  funext a; apply Fin.ext
  match a with
  | ⟨0, _⟩ => show win0_1.index t 0 * 512 + 1 * (j 0).val = (512 * t + (j 0).val) % 8192; rw [h]; simp; omega
  | ⟨1, _⟩ => show win0_1.index t 1 * 2048 + 1 * (j 1).val = 2048 + (j 1).val; rw [h]; simp

theorem blk2 : (iblk m c 2 t : Vec Ideal S512x2048 .bf16) = rowsOf (args m c).Z t := by
  funext j
  have ht := t_lt t
  obtain ⟨-, -, h, -⟩ := win_index t
  unfold iblk
  rw [View.read_apply]
  show V m c main_arg0 _ = _
  rw [V_main_arg0]
  refine congrArg (m (c.tc.loc main_arg0)) ?_
  have h0 : (j 0 : Nat) < 512 := (j 0).isLt
  funext a; apply Fin.ext
  match a with
  | ⟨0, _⟩ => show win0_2.index t 0 * 512 + 1 * (j 0).val = (512 * t + (j 0).val) % 8192; rw [h]; simp; omega
  | ⟨1, _⟩ => show win0_2.index t 1 * 2048 + 1 * (j 1).val = 4096 + (j 1).val; rw [h]; simp

theorem blk3 : (iblk m c 3 t : Vec Ideal S1x2048 .f32) = vecOf (args m c).g := by
  funext j
  obtain ⟨-, -, -, h, -⟩ := win_index t
  unfold iblk
  rw [View.read_apply]
  show V m c main_arg1 _ = _
  rw [V_main_arg1]
  refine congrArg (m (c.tc.loc main_arg1)) ?_
  have h0 : (j 0 : Nat) < 1 := (j 0).isLt
  funext a; apply Fin.ext
  match a with
  | ⟨0, _⟩ => show win0_3.index t 0 * 1 + 1 * (j 0).val = 0; rw [h]; simp; omega
  | ⟨1, _⟩ => show win0_3.index t 1 * 2048 + 1 * (j 1).val = (j 1).val; rw [h]; simp

theorem blk4 : (iblk m c 4 t : Vec Ideal S1x2048 .f32) = vecOf (args m c).b := by
  funext j
  obtain ⟨-, -, -, -, h, -⟩ := win_index t
  unfold iblk
  rw [View.read_apply]
  show V m c main_arg2 _ = _
  rw [V_main_arg2]
  refine congrArg (m (c.tc.loc main_arg2)) ?_
  have h0 : (j 0 : Nat) < 1 := (j 0).isLt
  funext a; apply Fin.ext
  match a with
  | ⟨0, _⟩ => show win0_4.index t 0 * 1 + 1 * (j 0).val = 0; rw [h]; simp; omega
  | ⟨1, _⟩ => show win0_4.index t 1 * 2048 + 1 * (j 1).val = (j 1).val; rw [h]; simp

theorem blk5 : (iblk m c 5 t : Vec Ideal S16x128x128 .bf16) = wOf (args m c) := by
  refine Eq.trans ?_ (host_v20 m c)
  funext j
  obtain ⟨-, -, -, -, -, h, -⟩ := win_index t
  unfold iblk
  rw [View.read_apply]
  show V m c main_v20 _ = _
  refine congrArg (V m c main_v20) ?_
  funext a; apply Fin.ext
  match a with
  | ⟨0, _⟩ => show win0_5.index t 0 * 16 + 1 * (j 0).val = (j 0).val; rw [h]; simp
  | ⟨1, _⟩ => show win0_5.index t 1 * 128 + 1 * (j 1).val = (j 1).val; rw [h]; simp
  | ⟨2, _⟩ => show win0_5.index t 2 * 128 + 1 * (j 2).val = (j 2).val; rw [h]; simp

theorem blk6 : (iblk m c 6 t : Vec Ideal S128x2048 .f32) = biasOf (args m c) := by
  refine Eq.trans ?_ (host_v24 m c)
  funext j
  obtain ⟨-, -, -, -, -, -, h, -⟩ := win_index t
  unfold iblk
  rw [View.read_apply]
  show V m c main_v24 _ = _
  refine congrArg (V m c main_v24) ?_
  funext a; apply Fin.ext
  match a with
  | ⟨0, _⟩ => show win0_6.index t 0 * 128 + 1 * (j 0).val = (j 0).val; rw [h]; simp
  | ⟨1, _⟩ => show win0_6.index t 1 * 2048 + 1 * (j 1).val = (j 1).val; rw [h]; simp

/-! ## The whole result -/

theorem flushed_eq : (Gen.dats m 0 c).flushed 7 t = ((cfg0.win 7).blk t).view.read (Elt Ideal) (gate (args m c)) := by
  rw [Value.flushed7_A m c t]
  funext y
  have ht := t_lt t
  obtain ⟨-, -, -, -, -, -, -, h⟩ := win_index t
  have hy0 : (y 0 : Nat) < 512 := (y 0).isLt
  have hy1 : (y 1 : Nat) < 2048 := (y 1).isLt
  have hi : ((cfg0.win 7).blk t).view.emb y = ix2 (prow t (y 0)) (y 1) := by
    funext a; apply Fin.ext
    match a with
    | ⟨0, _⟩ => show win0_7.index t 0 * 512 + 1 * (y 0).val = (512 * t + (y 0).val) % 8192; rw [h]; simp; omega
    | ⟨1, _⟩ => show win0_7.index t 1 * 2048 + 1 * (y 1).val = (y 1).val; rw [h]; simp
  show out0_A_7 (F := Ideal) c (grid0.coords t) _ _ _ _ _ _ _ _ _ _ _ _ _ _ _ _ _ _ _ _ _ _ _ _ _ _ _ ((cfg0.win 7).xinj (grid0.coords t) y)
    = gate (args m c) (((cfg0.win 7).blk t).view.emb y)
  rw [out_at, hi, blk0, blk1, blk2, blk3, blk4, blk5, blk6]
  erw [MX_rows (args m c) t]
  rfl

theorem cover (i : S8192x2048.Idx) : ∃ t : Fin cfg0.N, (cfg0.win 7).flush t = true ∧ i ∈ ((cfg0.win 7).blk t).view.set := by
  have h0 : (i 0 : Nat) < 8192 := (i 0).isLt
  have h1 : (i 1 : Nat) < 2048 := (i 1).isLt
  obtain ⟨t, ht⟩ : ∃ t : Fin cfg0.N, (t : Nat) = (i 0 : Nat) / 512 := ⟨⟨(i 0 : Nat) / 512, lt_of_lt_of_eq (by omega) N_0.symm⟩, rfl⟩
  obtain ⟨-, -, -, -, -, -, -, h⟩ := win_index t
  refine ⟨t, (by decide +kernel : ∀ t : Fin grid0.N, (cfg0.win 7).flush t = true) t, ?_⟩
  show i ∈ ((View.whole main_v25).slice (win0_7.rect t)).set
  rw [View.set_slice_whole, Rect.mem_set_unit]
  intro a
  match a with
  | ⟨0, _⟩ => show win0_7.index t 0 * 512 ≤ (i 0 : Nat) ∧ (i 0 : Nat) < win0_7.index t 0 * 512 + 512; rw [h]; simp; omega
  | ⟨1, _⟩ => show win0_7.index t 1 * 2048 ≤ (i 1 : Nat) ∧ (i 1 : Nat) < win0_7.index t 1 * 2048 + 2048; rw [h]; simp; omega

/-- The result array after the run. -/
theorem final : (Gen.dats m 0 c).arrAt 7 cfg0.N = gate (args m c) :=
  (Gen.dats m 0 c).arrAt_eq_of_cover 7 _ (fun t _ => flushed_eq m c t) cover

end Cert.Kernel9Ideal.SguFwd

namespace Cert.Reference9Ideal.SguFwd

open Idealize.ShloMosaic Idealize.ShloMosaic.TcCoe Idealize.SL.Sem
open Cert.Reference9Ideal Cert.Reference9Ideal.Gen
open Cert.Kernel9Ideal.SguFwd (tables gate)
open Cert.KernelIdeal.Sgu (Args mu cen rs hat sg silu grp gcol grow gpos mask_bit)

/-- The chunk of each place of a token block. -/
theorem chunk_eq : (select (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32)))) (broadcastInDim S128 ![] bcast_S_S128 (constantI S_ 32 0#32))))
      (subi (Host.divsi (iotaInDim S128 32 0) (broadcastInDim S128 ![] bcast_S_S128 (id (constantI S_ 32 64#32)))) (broadcastInDim S128 ![] bcast_S_S128 (constantI S_ 32 1#32)))
      (Host.divsi (iotaInDim S128 32 0) (broadcastInDim S128 ![] bcast_S_S128 (id (constantI S_ 32 64#32)))) : Vec Ideal S128 .i32)
    = fun j : S128.Idx => BitVec.ofNat 32 ((j 0 : Nat) / 64) := by
  funext j
  rw [← ix1_eta j]
  generalize j 0 = k
  revert k
  decide +kernel

variable (m : (ℓ : Loc nD τ sig) → Buf (Elt Ideal) ℓ) (c : Dev nD)

abbrev rargs : Args := tables (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4))

theorem grow_eq (n : Fin 64) (a : Fin 128) (h : (n : Nat) * 128 + a < 8192) : (⟨(n : Nat) * 128 + a, h⟩ : Fin 8192) = grow n a := by
  apply Fin.ext; simp only [grow]; omega
theorem gcol_eq (g : Fin 16) (k : Fin 128) (h : (g : Nat) * 128 + k < 2048) : (⟨(g : Nat) * 128 + k, h⟩ : Fin 2048) = gcol g k := by
  apply Fin.ext; simp only [gcol]; omega
theorem gcol_grp (k : Fin 2048) (h : (k : Nat) / 128 < 16) (h' : (k : Nat) % 128 < 128) : gcol ⟨(k : Nat) / 128, h⟩ ⟨(k : Nat) % 128, h'⟩ = k := by
  apply Fin.ext; simp only [gcol]; omega

section
variable (T : Fin 8192 → Fin 2048 → EReal)

/-- A table as an array. -/
abbrev arr : FVec Ideal S8192x2048 .f32 := fun j => T (j 0) (j 1)

theorem mean_eq : (Host.divf (broadcastInDim S8192x1 ![0] bcast_S8192_S8192x1_0 (Host.reduceAdd (arr T) (constant S_ .f32 0x00000000#32) reducesTo_S8192x2048_S8192_d1 h_S_))
      (broadcastInDim S8192x1 ![] bcast_S_S8192x1 (constant S_ .f32 0x45000000#32)) : FVec Ideal S8192x1 .f32) = fun j => mu (T (j 0)) := by
  funext j; pointwise [arr, mu]

theorem cen_eq : (subf (arr T) (broadcastInDim S8192x2048 ![0, 1] bcast_S8192x1_S8192x2048_0_1 (fun j : S8192x1.Idx => mu (T (j 0)))) : FVec Ideal S8192x2048 .f32)
    = arr fun r => cen (T r) := by
  funext j; pointwise [arr, cen]

theorem rs_eq : (Host.rsqrt (addf (Host.divf (broadcastInDim S8192x1 ![0] bcast_S8192_S8192x1_0
        (Host.reduceAdd (mulf (arr fun r => cen (T r)) (arr fun r => cen (T r))) (constant S_ .f32 0x00000000#32) reducesTo_S8192x2048_S8192_d1 h_S_))
      (broadcastInDim S8192x1 ![] bcast_S_S8192x1 (constant S_ .f32 0x45000000#32))) (broadcastInDim S8192x1 ![] bcast_S_S8192x1 (constant S_ .f32 0x3727C5AC#32)))
      : FVec Ideal S8192x1 .f32) = fun j => rs (T (j 0)) := by
  funext j; pointwise [arr, rs]

theorem hat_eq : (mulf (arr fun r => cen (T r)) (broadcastInDim S8192x2048 ![0, 1] bcast_S8192x1_S8192x2048_0_1 (fun j : S8192x1.Idx => rs (T (j 0)))) : FVec Ideal S8192x2048 .f32)
    = arr fun r => hat (T r) := by
  funext j; pointwise [arr, hat]
end

section
variable (p : FVec Ideal S8192x16384 .bf16) (g b : FVec Ideal S1x2048 .f32) (w : FVec Ideal S1x16x128x128 .f32) (s : FVec Ideal S1x16x128 .f32)

/-- The values normalised, scaled and shifted, by token blocks and groups. -/
theorem vn_eq : (shapeCast S64x128x16x128 (addf (mulf (arr fun r => hat ((tables p g b w s).V r))
        (broadcastInDim S8192x2048 ![0, 1] bcast_S1x2048_S8192x2048_0_1 (broadcastInDim S1x2048 ![1] bcast_S2048_S1x2048_1 (shapeCast S2048 g shapeCasts_S1x2048_S2048))))
      (broadcastInDim S8192x2048 ![0, 1] bcast_S1x2048_S8192x2048_0_1 (broadcastInDim S1x2048 ![1] bcast_S2048_S1x2048_1 (shapeCast S2048 b shapeCasts_S1x2048_S2048))))
      shapeCasts_S8192x2048_S64x128x16x128 : FVec Ideal S64x128x16x128 .f32)
    = fun j => (tables p g b w s).vn (grow (j 0) (j 1)) (gcol (j 2) (j 3)) := by
  funext j; pointwise [arr, Args.vn]
  erw [grow_eq (j 0) (j 1), gcol_eq (j 2) (j 3)]
  rfl

/-- The matrices, masked. -/
theorem w_eq : (select (broadcastInDim S16x128x128 ![0, 1, 2] bcast_S1x128x128_S16x128x128_0_1_2 (broadcastInDim S1x128x128 ![1, 2] bcast_S128x128_S1x128x128_1_2
        (cmpi .sle (broadcastInDim S128x128 ![0, 1] bcast_S1x128_S128x128_0_1 (broadcastInDim S1x128 ![1] bcast_S128_S1x128_1 (fun j : S128.Idx => BitVec.ofNat 32 ((j 0 : Nat) / 64))))
          (broadcastInDim S128x128 ![0, 1] bcast_S128x1_S128x128_0_1 (broadcastInDim S128x1 ![0] bcast_S128_S128x1_0 (fun j : S128.Idx => BitVec.ofNat 32 ((j 0 : Nat) / 64)))))))
      (shapeCast S16x128x128 w shapeCasts_S1x16x128x128_S16x128x128)
      (broadcastInDim S16x128x128 ![] bcast_S_S16x128x128 (constant S_ .f32 0x00000000#32)) : FVec Ideal S16x128x128 .f32)
    = fun j => (tables p g b w s).w (j 0) (j 1) (j 2) := by
  funext j; pointwise [Args.w]
  erw [mask_bit (j 1) (j 2)]
  split
  · rfl
  · rfl

/-- The mixed values. -/
theorem mx_eq : (shapeCast S8192x2048 (addf (transpose S64x128x16x128 [1, 3, 0, 2] (Host.dotGeneral (F := Ideal) (φ₁ := .f32) (φ₂ := .f32) dot_S64x128x16x128_S16x128x128_S16x64x128x128_1_2_03_1_2_0 none
        ((fun j => (tables p g b w s).vn (grow (j 0) (j 1)) (gcol (j 2) (j 3))) : FVec Ideal S64x128x16x128 .f32) ((fun j => (tables p g b w s).w (j 0) (j 1) (j 2)) : FVec Ideal S16x128x128 .f32))
        transposes_S16x64x128x128_S64x128x16x128_1_3_0_2)
      (broadcastInDim S64x128x16x128 ![0, 1, 2, 3] bcast_S1x128x16x1_S64x128x16x128_0_1_2_3 (broadcastInDim S1x128x16x1 ![1, 2] bcast_S128x16_S1x128x16x1_1_2
        (transpose S128x16 [1, 0] (shapeCast S16x128 s shapeCasts_S1x16x128_S16x128) transposes_S16x128_S128x16_1_0))))
      shapeCasts_S64x128x16x128_S8192x2048 : FVec Ideal S8192x2048 .f32) = arr (tables p g b w s).mx := by
  funext j; pointwise [arr, Args.mx]
  refine congrArg₂ (· + ·) (Finset.sum_congr rfl fun k _ => ?_) rfl
  erw [gcol_grp (j 1), mul_comm]
  rfl

theorem u_eq : (extf .f32 (extractStridedSlice S8192x2048 ![0, 0] p slices_S8192x16384_S8192x2048_0_0) bitsLt_bf16_f32
    : FVec Ideal S8192x2048 .f32) = arr (tables p g b w s).U := by
  funext j; pointwise [arr]; rfl
theorem v_eq : (extf .f32 (extractStridedSlice S8192x2048 ![0, 2048] p slices_S8192x16384_S8192x2048_0_2048) bitsLt_bf16_f32
    : FVec Ideal S8192x2048 .f32) = arr (tables p g b w s).V := by
  funext j; pointwise [arr]; rfl
theorem z_eq : (extf .f32 (extractStridedSlice S8192x2048 ![0, 4096] p slices_S8192x16384_S8192x2048_0_4096) bitsLt_bf16_f32
    : FVec Ideal S8192x2048 .f32) = arr (tables p g b w s).Z := by
  funext j; pointwise [arr]; rfl

/-- The three factors' product. -/
theorem gate_eq (a : Args) : (truncf .bf16 (mulf (mulf (arr a.U) (arr a.mx)) (mulf (arr a.Z)
      (Host.divf (broadcastInDim S8192x2048 ![] bcast_S_S8192x2048 (constant S_ .f32 0x3F800000#32))
        (addf (broadcastInDim S8192x2048 ![] bcast_S_S8192x2048 (constant S_ .f32 0x3F800000#32)) (Host.exp (Host.negf (arr a.Z))))))) bitsLt_bf16_f32 : FVec Ideal S8192x2048 .bf16)
    = gate a := by
  funext j; pointwise [arr, gate, silu, sg]; rw [zero_sub]
end

theorem ref_eq : Value.res_main_v55 m c = gate (rargs m c) := by
  unfold Value.res_main_v55 rargs
  generalize m ((c.tc : Thread nD τ).loc main_arg0) = p, m ((c.tc : Thread nD τ).loc main_arg1) = g, m ((c.tc : Thread nD τ).loc main_arg2) = b,
    m ((c.tc : Thread nD τ).loc main_arg3) = w, m ((c.tc : Thread nD τ).loc main_arg4) = s
  erw [u_eq p g b w s, v_eq p g b w s, z_eq p g b w s, mean_eq (tables p g b w s).V, cen_eq (tables p g b w s).V, rs_eq (tables p g b w s).V, hat_eq (tables p g b w s).V,
    vn_eq p g b w s, chunk_eq, w_eq p g b w s, mx_eq p g b w s]
  exact gate_eq _

end Cert.Reference9Ideal.SguFwd

namespace Cert.SguFwd

open Idealize.ShloMosaic Idealize.ShloMosaic.TcCoe Idealize.SL.Sem

theorem frameR : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic : Cert.algebraic_Kernel9Ideal_Reference9Ideal (hKernel9Ideal := Cert.Kernel9Ideal.Gen.facts)
    (hReference9Ideal := Cert.Reference9Ideal.Gen.facts) := by
  intro m g m' g' _ hagree
  refine ⟨fun c => Cert.Kernel9Ideal.SguFwd.gate (Cert.Kernel9Ideal.SguFwd.args m c), (θ_run Cert.Kernel9Ideal.defs _ _).mono
    (fun r h c => ⟨(h c).1.trans (Cert.Kernel9Ideal.SguFwd.final m c), (h c).2⟩) (Cert.Kernel9Ideal.Value.run_blocks m g), ?_⟩
  refine (θ_run Cert.Reference9Ideal.defs _ _).mono (fun r h c => ?_) (Cert.Reference9Ideal.Value.run (F := Ideal) m' g')
  obtain ⟨h0, hk⟩ := h c
  obtain ⟨e0, e1, e2, e3, e4⟩ := hagree c
  refine ⟨(h0.trans (Cert.Reference9Ideal.SguFwd.ref_eq m' c)).trans ?_, hk⟩
  unfold Cert.Reference9Ideal.SguFwd.rargs
  rw [e0, e1, e2, e3, e4]

end Cert.SguFwd
-- ==== Proof.AdamNorm.lean ====
/- AdamW's step on the input norm's gain: `Kernel10Ideal` leaves the sum of the devices' gradients and the step on it,
   which is what the reference is. -/
module

public import proofs.«01_k».proof.Defs
public import proofs.«01_k».proof.Proof.Gen.Kernel10Ideal.Value
public import proofs.«01_k».proof.Proof.Gen.Reference10Ideal.Run
public import Idealize.ShloMosaic.Lib.Pointwise
public import Idealize.ShloMosaic.Lib.KernelVsHost
public import Idealize.ShloMosaic.Lib.WholeRead
public import Idealize.ShloMosaic.Lib.Pipeline.Value
public import Idealize.ShloMosaic.Lib.Pipeline.ReadBack
public import Idealize.ShloMosaic.Lib.Quiescent
public import Idealize.ShloMosaic.Lib.Tactic

@[expose] public section

set_option maxRecDepth 16384

noncomputable section

namespace Cert.Adam

open Idealize.ShloMosaic

/-- The new first moment of one entry, from the old one and the gradient. -/
def first (μ g : EReal) : EReal := Ideal.ofBits .f32 0x3F666666#32 * μ + Ideal.ofBits .f32 0x3DCCCCCD#32 * g
/-- The new second moment of one entry. -/
def second (ν g : EReal) : EReal := Ideal.ofBits .f32 0x3F7FBE77#32 * ν + Ideal.ofBits .f32 0x3A83126F#32 * (g * g)
/-- The weight's change, from the weight, the old moments and the gradient. -/
def delta (w μ ν g : EReal) : EReal := Ideal.ofBits .f32 0xBA83126F#32
  * (Ideal.div (Ideal.div (first μ g) (Ideal.ofBits .f32 0x3F26BD02#32))
      (Ideal.sqrt (Ideal.div (second ν g) (Ideal.ofBits .f32 0x3C231ACC#32)) + Ideal.ofBits .f32 0x322BCC77#32)
    + Ideal.ofBits .f32 0x3C23D70A#32 * w)

/-- The gradients of the eight devices, in rows of 128, summed. -/
def G {n : Nat} (p : (⟨3, ![8, n, 128]⟩ : Shape).Idx → EReal) : (⟨2, ![n, 128]⟩ : Shape).Idx → EReal := fun i => ∑ k : Fin 8, p (ix3 k (i 0) (i 1))
/-- An array of new first moments. -/
def M1 {ι : Type} (g μ : ι → EReal) : ι → EReal := fun i => first (μ i) (g i)
/-- An array of new second moments. -/
def M2 {ι : Type} (g ν : ι → EReal) : ι → EReal := fun i => second (ν i) (g i)
/-- An array of changes. -/
def Dl {ι : Type} (g w μ ν : ι → EReal) : ι → EReal := fun i => delta (w i) (μ i) (ν i) (g i)

theorem hz : (![0, 0] : Fin 2 → Nat) = fun _ => 0 := funext fun a => by fin_cases a <;> rfl

/-- One device's gradient at an index. -/
theorem part_at {n : Nat} (x : Vec Ideal (⟨3, ![8, n, 128]⟩ : Shape) .f32) (k : Nat) (hk : k < 8)
    (inb : ∀ a, ![k, 0, 0] a + (⟨3, ![1, n, 128]⟩ : Shape).size a ≤ (⟨3, ![8, n, 128]⟩ : Shape).size a) (i : (⟨3, ![1, n, 128]⟩ : Shape).Idx) :
    View.ld x (Rect.unit (s := ⟨3, ![8, n, 128]⟩) ![k, 0, 0] (⟨3, ![1, n, 128]⟩ : Shape).size inb) i = x (ix3 ⟨k, hk⟩ (i 1) (i 2)) := by
  refine congrArg x ?_
  funext a; apply Fin.ext
  match a with
  | ⟨0, _⟩ => show k + 1 * (i 0 : Nat) = k; have := (i 0).isLt; simp at this ⊢; omega
  | ⟨1, _⟩ => show 0 + 1 * (i 1 : Nat) = (i 1 : Nat); omega
  | ⟨2, _⟩ => show 0 + 1 * (i 2 : Nat) = (i 2 : Nat); omega

/-- A block at the origin has the array's own indices. -/
theorem at_zero {o : Fin 2 → Nat} (h : o = ![0, 0]) (n : Fin 2 → Nat) (a : Fin 2) (y : Nat) : o a * n a + 1 * y = y := by
  subst h; match a with
  | ⟨0, _⟩ => simp
  | ⟨1, _⟩ => simp
/-- If it is as large as the array, it covers it. -/
theorem in_zero {o : Fin 2 → Nat} (h : o = ![0, 0]) (n : Fin 2 → Nat) (a : Fin 2) {y : Nat} (hy : y < n a) : o a * n a ≤ y ∧ y < o a * n a + n a := by
  subst h; match a with
  | ⟨0, _⟩ => simpa using hy
  | ⟨1, _⟩ => simpa using hy

/-! The reference's three expressions, at any shape. -/

section
variable {S : Shape} (h : (⟨0, ![]⟩ : Shape).BroadcastsInDim S (![] : Fin 0 → Fin S.rank)) (g w μ ν : FVec Ideal S .f32)

/-- A number at every index. -/
abbrev all (b : BitVec 32) : FVec Ideal S .f32 := broadcastInDim S ![] h (constant (⟨0, ![]⟩ : Shape) .f32 b)

theorem first_eq : (addf (mulf (all h 0x3F666666#32) μ) (mulf (all h 0x3DCCCCCD#32) g) : FVec Ideal S .f32) = M1 g μ := by
  funext i
  pointwise [M1, first]
theorem second_eq : (addf (mulf (all h 0x3F7FBE77#32) ν) (mulf (all h 0x3A83126F#32) (mulf g g)) : FVec Ideal S .f32) = M2 g ν := by
  funext i
  pointwise [M2, second]
theorem delta_eq : (mulf (all h 0xBA83126F#32) (addf (Host.divf (Host.divf (M1 g μ) (all h 0x3F26BD02#32))
      (addf (Host.sqrt (Host.divf (M2 g ν) (all h 0x3C231ACC#32))) (all h 0x322BCC77#32))) (mulf (all h 0x3C23D70A#32) w)) : FVec Ideal S .f32) = Dl g w μ ν := by
  funext i
  pointwise [M1, M2, Dl, delta]
end

end Cert.Adam

namespace Cert.Kernel10Ideal.Adam

open Idealize.ShloMosaic Idealize.ShloMosaic.TcCoe Idealize.SL.Sem
open Cert.Kernel10Ideal Cert.Kernel10Ideal.Gen
open Cert.Adam (first second delta G M1 M2 Dl hz part_at at_zero in_zero)

section
variable (x0 : Vec Ideal S8x16x128 .f32) (x1 x2 x3 : Vec Ideal S16x128 .f32)

theorem sum_eq : k0_pay5 (F := Ideal) x0 x1 x2 x3 = G x0 := by
  funext i
  unfold k0_pay5
  pointwise [k0_pay3, G]
  simp only [part_at x0 0 (by omega), part_at x0 1 (by omega), part_at x0 2 (by omega), part_at x0 3 (by omega), part_at x0 4 (by omega),
    part_at x0 5 (by omega), part_at x0 6 (by omega), part_at x0 7 (by omega), Fin.sum_univ_eight]

theorem first_eq : k0_pay6 (F := Ideal) x0 x1 x2 x3 = M1 (G x0) x2 := by
  funext i
  have h : k0_pay6 (F := Ideal) x0 x1 x2 x3 i = first (View.ld x2 r0_8 i) (k0_pay5 (F := Ideal) x0 x1 x2 x3 i) := by
    unfold k0_pay6 k0_pay5
    pointwise [k0_pay4, first]
  rw [h, sum_eq, View.ld_unit_zero (S := S16x128) hz]
  rfl

theorem second_eq : k0_pay1 (F := Ideal) (G x0) x3 = M2 (G x0) x3 := by
  funext i
  pointwise [k0_pay1, M2, second]

theorem delta_eq : k0_pay2 (F := Ideal) (G x0) (M1 (G x0) x2) x3 x1 = Dl (G x0) x1 x2 x3 := by
  funext i
  pointwise [k0_pay2, k0_pay1, M1, Dl, delta, second]

theorem out4 : out0_4 (F := Ideal) x0 x1 x2 x3 = G x0 := by
  unfold out0_4
  rw [View.canon_unit_zero hz, sum_eq]
theorem out5 : out0_5 (F := Ideal) x0 x1 x2 x3 = Dl (G x0) x1 x2 x3 := by
  unfold out0_5
  rw [View.canon_unit_zero hz, sum_eq, first_eq, View.ld_unit_zero (S := S16x128) hz, View.ld_unit_zero (S := S16x128) hz, delta_eq]
theorem out6 : out0_6 (F := Ideal) x0 x1 x2 x3 = M1 (G x0) x2 := by
  unfold out0_6
  rw [View.canon_unit_zero hz, first_eq]
theorem out7 : out0_7 (F := Ideal) x0 x1 x2 x3 = M2 (G x0) x3 := by
  unfold out0_7
  rw [View.canon_unit_zero hz, sum_eq, View.ld_unit_zero (S := S16x128) hz, second_eq]
end

variable (m : (ℓ : Loc nD τ sig) → Buf (Elt Ideal) ℓ) (c : Dev nD) (t : Fin cfg0.N)

/-- The grid has one point, whose blocks are the arrays. -/
theorem win_index : win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]) t

/-- A row laid out in packed rows of 128. -/
def pk (x : S1x2048.Idx → EReal) : S16x128.Idx → EReal := shapeCast S16x128 x (shapeCasts_S2048_S16x128.trans shapeCasts_S1x2048_S2048)

/-- A row padded by nothing, flattened and laid out again. -/
theorem packed (x : S1x2048.Idx → EReal) (z : S_.Idx → EReal) :
    shapeCast S16x128 (pad S2048 ![0] ![0] ![0] (shapeCast S2048 x shapeCasts_S1x2048_S2048) z pads_S2048_S2048_000 h_S_) shapeCasts_S2048_S16x128 = pk x := by
  have h : pad S2048 ![0] ![0] ![0] (shapeCast S2048 x shapeCasts_S1x2048_S2048) z pads_S2048_S2048_000 h_S_ = shapeCast S2048 x shapeCasts_S1x2048_S2048 :=
    funext fun j => pad_apply_of_inside _ _ _ _ _ _ _ j j fun a => by fin_cases a; simp
  rw [h, shapeCast_comp]
  rfl

/-- What the host makes of the weights and the moments. -/
theorem host : V m c main_v2 = pk (m ((c : Thread nD τ).loc main_arg1)) ∧ V m c main_v5 = pk (m ((c : Thread nD τ).loc main_arg2))
    ∧ V m c main_v8 = pk (m ((c : Thread nD τ).loc main_arg3)) := by
  unfold V
  simp only [hostOps0, hostOps0_1, hostOps0_2, hostOps0_3, hostOps0_4, hostOps0_5, hostOps0_6, List.flatten_cons, List.flatten_nil, List.cons_append, List.nil_append]
  refine ⟨?_, ?_, ?_⟩
  all_goals
    after_results_simp
    simp only [StableHlo.TRef.ofBuf_toBuf]
    exact packed _ _

theorem blk0 : (iblk m c 0 t : Vec Ideal S8x16x128 .f32) = m ((c : Thread nD τ).loc main_arg0) := by
  obtain ⟨h, -⟩ := win_index t
  funext j
  rw [← V_main_arg0 m c]
  show V m c main_arg0 _ = V m c main_arg0 j
  refine congrArg (V m c main_arg0) ?_
  funext a; apply Fin.ext
  match a with
  | ⟨0, _⟩ => show win0_0.index t 0 * 8 + 1 * (j 0).val = (j 0).val; rw [h]; simp
  | ⟨1, _⟩ => show win0_0.index t 1 * 16 + 1 * (j 1).val = (j 1).val; rw [h]; simp
  | ⟨2, _⟩ => show win0_0.index t 2 * 128 + 1 * (j 2).val = (j 2).val; rw [h]; simp

theorem blk1 : (iblk m c 1 t : Vec Ideal S16x128 .f32) = pk (m ((c : Thread nD τ).loc main_arg1)) := by
  obtain ⟨-, h, -⟩ := win_index t
  rw [← (host m c).1]
  exact funext fun j => congrArg (V m c main_v2) (funext fun a => Fin.ext (at_zero h S16x128.size a (j a)))

theorem blk2 : (iblk m c 2 t : Vec Ideal S16x128 .f32) = pk (m ((c : Thread nD τ).loc main_arg2)) := by
  obtain ⟨-, -, h, -⟩ := win_index t
  rw [← (host m c).2.1]
  exact funext fun j => congrArg (V m c main_v5) (funext fun a => Fin.ext (at_zero h S16x128.size a (j a)))

theorem blk3 : (iblk m c 3 t : Vec Ideal S16x128 .f32) = pk (m ((c : Thread nD τ).loc main_arg3)) := by
  obtain ⟨-, -, -, h, -⟩ := win_index t
  rw [← (host m c).2.2]
  exact funext fun j => congrArg (V m c main_v8) (funext fun a => Fin.ext (at_zero h S16x128.size a (j a)))

/-- The grid's point. -/
abbrev t0 : Fin cfg0.N := ⟨0, lt_of_lt_of_eq (by omega) N_0.symm⟩

/-! The four arrays after the run. -/

theorem final4 : (Gen.dats m 0 c).arrAt 4 cfg0.N = G (m ((c : Thread nD τ).loc main_arg0)) := by
  refine (Gen.dats m 0 c).arrAt_eq_of_cover 4 _ (fun t _ => ?_) (fun (i : S16x128.Idx) => ⟨t0, by decide +kernel, ?_⟩)
  · rw [Value.flushed4, out4, blk0]
    exact funext fun y => congrArg (G (m ((c : Thread nD τ).loc main_arg0))) (funext fun a => Fin.ext (at_zero ((win_index t).2.2.2.2.1) S16x128.size a (y a)).symm)
  · show i ∈ ((View.whole main_v9_0).slice (win0_4.rect t0)).set
    rw [View.set_slice_whole, Rect.mem_set_unit]
    exact fun a => in_zero ((win_index t0).2.2.2.2.1) S16x128.size a (i a).isLt

theorem final5 : (Gen.dats m 0 c).arrAt 5 cfg0.N = Dl (G (m ((c : Thread nD τ).loc main_arg0))) (pk (m ((c : Thread nD τ).loc main_arg1))) (pk (m ((c : Thread nD τ).loc main_arg2))) (pk (m ((c : Thread nD τ).loc main_arg3))) := by
  refine (Gen.dats m 0 c).arrAt_eq_of_cover 5 _ (fun t _ => ?_) (fun (i : S16x128.Idx) => ⟨t0, by decide +kernel, ?_⟩)
  · rw [Value.flushed5, out5, blk0, blk1, blk2, blk3]
    exact funext fun y => congrArg (Dl (G (m ((c : Thread nD τ).loc main_arg0))) (pk (m ((c : Thread nD τ).loc main_arg1))) (pk (m ((c : Thread nD τ).loc main_arg2))) (pk (m ((c : Thread nD τ).loc main_arg3)))) (funext fun a => Fin.ext (at_zero ((win_index t).2.2.2.2.2.1) S16x128.size a (y a)).symm)
  · show i ∈ ((View.whole main_v9_1).slice (win0_5.rect t0)).set
    rw [View.set_slice_whole, Rect.mem_set_unit]
    exact fun a => in_zero ((win_index t0).2.2.2.2.2.1) S16x128.size a (i a).isLt

theorem final6 : (Gen.dats m 0 c).arrAt 6 cfg0.N = M1 (G (m ((c : Thread nD τ).loc main_arg0))) (pk (m ((c : Thread nD τ).loc main_arg2))) := by
  refine (Gen.dats m 0 c).arrAt_eq_of_cover 6 _ (fun t _ => ?_) (fun (i : S16x128.Idx) => ⟨t0, by decide +kernel, ?_⟩)
  · rw [Value.flushed6, out6, blk0, blk2]
    exact funext fun y => congrArg (M1 (G (m ((c : Thread nD τ).loc main_arg0))) (pk (m ((c : Thread nD τ).loc main_arg2)))) (funext fun a => Fin.ext (at_zero ((win_index t).2.2.2.2.2.2.1) S16x128.size a (y a)).symm)
  · show i ∈ ((View.whole main_v9_2).slice (win0_6.rect t0)).set
    rw [View.set_slice_whole, Rect.mem_set_unit]
    exact fun a => in_zero ((win_index t0).2.2.2.2.2.2.1) S16x128.size a (i a).isLt

theorem final7 : (Gen.dats m 0 c).arrAt 7 cfg0.N = M2 (G (m ((c : Thread nD τ).loc main_arg0))) (pk (m ((c : Thread nD τ).loc main_arg3))) := by
  refine (Gen.dats m 0 c).arrAt_eq_of_cover 7 _ (fun t _ => ?_) (fun (i : S16x128.Idx) => ⟨t0, by decide +kernel, ?_⟩)
  · rw [Value.flushed7, out7, blk0, blk3]
    exact funext fun y => congrArg (M2 (G (m ((c : Thread nD τ).loc main_arg0))) (pk (m ((c : Thread nD τ).loc main_arg3)))) (funext fun a => Fin.ext (at_zero ((win_index t).2.2.2.2.2.2.2) S16x128.size a (y a)).symm)
  · show i ∈ ((View.whole main_v9_3).slice (win0_7.rect t0)).set
    rw [View.set_slice_whole, Rect.mem_set_unit]
    exact fun a => in_zero ((win_index t0).2.2.2.2.2.2.2) S16x128.size a (i a).isLt

end Cert.Kernel10Ideal.Adam

namespace Cert.Reference10Ideal.Adam

open Idealize.ShloMosaic Idealize.ShloMosaic.TcCoe Idealize.SL.Sem
open Cert.Reference10Ideal Cert.Reference10Ideal.Gen
open Cert.Kernel10Ideal.Adam (pk)
open Cert.Adam (first second delta G M1 M2 Dl)

section
variable (p : FVec Ideal S8x16x128 .f32) (w μ ν : FVec Ideal S1x2048 .f32)

theorem sum_eq : (Host.reduceAdd p (constant S_ .f32 0x00000000#32) reducesTo_S8x16x128_S16x128_d0 h_S_ : FVec Ideal S16x128 .f32) = G p := by
  funext i
  pointwise [G]
/-- The sum laid out as a row. -/
def row : S1x2048.Idx → EReal := shapeCast S1x2048 (G p) shapeCasts_S16x128_S1x2048
theorem packed_row : shapeCast S16x128 (row p) shapeCasts_S1x2048_S16x128 = G p := shapeCast_shapeCast _ _ _
theorem row_at (i : S16x128.Idx) : row p (Shape.reshapeEquiv shapeCasts_S1x2048_S16x128 i) = G p i := congrFun (packed_row p) i
theorem packed_first : shapeCast S16x128 (M1 (row p) μ) shapeCasts_S1x2048_S16x128 = M1 (G p) (pk μ) :=
  funext fun i => congrArg (first (pk μ i)) (row_at p i)
theorem packed_second : shapeCast S16x128 (M2 (row p) ν) shapeCasts_S1x2048_S16x128 = M2 (G p) (pk ν) :=
  funext fun i => congrArg (second (pk ν i)) (row_at p i)
theorem packed_delta : shapeCast S16x128 (Dl (row p) w μ ν) shapeCasts_S1x2048_S16x128 = Dl (G p) (pk w) (pk μ) (pk ν) :=
  funext fun i => congrArg (delta (pk w i) (pk μ i) (pk ν i)) (row_at p i)
end

end Cert.Reference10Ideal.Adam

namespace Cert.AdamNorm

open Idealize.ShloMosaic Idealize.ShloMosaic.TcCoe Idealize.SL.Sem
open Cert.Kernel10Ideal.Adam

theorem frameR : Cert.quiescent_Reference10Ideal (hReference10Ideal := Cert.Reference10Ideal.Gen.facts) := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)

theorem algebraic : Cert.algebraic_Kernel10Ideal_Reference10Ideal (hKernel10Ideal := Cert.Kernel10Ideal.Gen.facts)
    (hReference10Ideal := Cert.Reference10Ideal.Gen.facts) := by
  intro m g m' g' _ hagree
  refine ⟨_, _, _, _, (θ_run Cert.Kernel10Ideal.defs _ _).mono (fun r h c => ⟨(h c).1.trans (final4 m c), (h c).2.1.trans (final5 m c),
    (h c).2.2.1.trans (final6 m c), (h c).2.2.2.1.trans (final7 m c), (h c).2.2.2.2⟩) (Cert.Kernel10Ideal.Value.run_blocks m g), ?_⟩
  refine (θ_run Cert.Reference10Ideal.defs _ _).mono (fun r h c => ?_) (Cert.Reference10Ideal.Value.run (F := Ideal) m' g')
  obtain ⟨h0, h1, h2, h3, hk⟩ := h c
  obtain ⟨e0, e1, e2, e3⟩ := hagree c
  erw [e0, Cert.Reference10Ideal.Adam.sum_eq] at h0 h1 h2 h3
  change _ = shapeCast Cert.Reference10Ideal.S16x128 (Cert.Reference10Ideal.Adam.row _) _ at h0
  erw [Cert.Reference10Ideal.Adam.packed_row] at h0
  erw [e2, Cert.Adam.first_eq] at h1 h2
  erw [e3, Cert.Adam.second_eq] at h1 h3
  erw [e1, Cert.Adam.delta_eq] at h1
  exact ⟨h0, h1.trans (Cert.Reference10Ideal.Adam.packed_delta _ _ _ _), h2.trans (Cert.Reference10Ideal.Adam.packed_first _ _),
    h3.trans (Cert.Reference10Ideal.Adam.packed_second _ _), hk⟩

end Cert.AdamNorm
-- ==== Proof.AdamSmall.lean ====
/- AdamW's step on the packed small weights: `Kernel11Ideal` leaves the sum of the devices' gradients and the step on it,
   which is what the reference is. -/
module

public import proofs.«01_k».proof.Defs
public import proofs.«01_k».proof.Proof.Gen.Kernel11Ideal.Value
public import proofs.«01_k».proof.Proof.AdamNorm
public import proofs.«01_k».proof.Proof.Gen.Reference11Ideal.Run
public import Idealize.ShloMosaic.Lib.Pointwise
public import Idealize.ShloMosaic.Lib.WholeRead
public import Idealize.ShloMosaic.Lib.Pipeline.Value
public import Idealize.ShloMosaic.Lib.Pipeline.ReadBack
public import Idealize.ShloMosaic.Lib.Quiescent
public import Idealize.ShloMosaic.Lib.Tactic

@[expose] public section

set_option maxRecDepth 16384

noncomputable section

namespace Cert.Kernel11Ideal.Adam

open Idealize.ShloMosaic Idealize.ShloMosaic.TcCoe Idealize.SL.Sem
open Cert.Kernel11Ideal Cert.Kernel11Ideal.Gen
open Cert.Adam (first second delta G M1 M2 Dl hz part_at at_zero in_zero)

section
variable (x0 : Vec Ideal S8x2232x128 .f32) (x1 x2 x3 : Vec Ideal S2232x128 .f32)

theorem sum_eq : k0_pay5 (F := Ideal) x0 x1 x2 x3 = G x0 := by
  funext i
  unfold k0_pay5
  pointwise [k0_pay3, G]
  simp only [part_at x0 0 (by omega), part_at x0 1 (by omega), part_at x0 2 (by omega), part_at x0 3 (by omega), part_at x0 4 (by omega),
    part_at x0 5 (by omega), part_at x0 6 (by omega), part_at x0 7 (by omega), Fin.sum_univ_eight]

theorem first_eq : k0_pay6 (F := Ideal) x0 x1 x2 x3 = M1 (G x0) x2 := by
  funext i
  have h : k0_pay6 (F := Ideal) x0 x1 x2 x3 i = first (View.ld x2 r0_8 i) (k0_pay5 (F := Ideal) x0 x1 x2 x3 i) := by
    unfold k0_pay6 k0_pay5
    pointwise [k0_pay4, first]
  rw [h, sum_eq, View.ld_unit_zero (S := S2232x128) hz]
  rfl

theorem second_eq : k0_pay1 (F := Ideal) (G x0) x3 = M2 (G x0) x3 := by
  funext i
  pointwise [k0_pay1, M2, second]

theorem delta_eq : k0_pay2 (F := Ideal) (G x0) (M1 (G x0) x2) x3 x1 = Dl (G x0) x1 x2 x3 := by
  funext i
  pointwise [k0_pay2, k0_pay1, M1, Dl, delta, second]

theorem out4 : out0_4 (F := Ideal) x0 x1 x2 x3 = G x0 := by
  unfold out0_4
  rw [View.canon_unit_zero hz, sum_eq]
theorem out5 : out0_5 (F := Ideal) x0 x1 x2 x3 = Dl (G x0) x1 x2 x3 := by
  unfold out0_5
  rw [View.canon_unit_zero hz, sum_eq, first_eq, View.ld_unit_zero (S := S2232x128) hz, View.ld_unit_zero (S := S2232x128) hz, delta_eq]
theorem out6 : out0_6 (F := Ideal) x0 x1 x2 x3 = M1 (G x0) x2 := by
  unfold out0_6
  rw [View.canon_unit_zero hz, first_eq]
theorem out7 : out0_7 (F := Ideal) x0 x1 x2 x3 = M2 (G x0) x3 := by
  unfold out0_7
  rw [View.canon_unit_zero hz, sum_eq, View.ld_unit_zero (S := S2232x128) hz, second_eq]
end

variable (m : (ℓ : Loc nD τ sig) → Buf (Elt Ideal) ℓ) (c : Dev nD) (t : Fin cfg0.N)

/-- The grid has one point, whose blocks are the arrays. -/
theorem win_index : win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]) t

theorem blk0 : (iblk m c 0 t : Vec Ideal S8x2232x128 .f32) = m ((c : Thread nD τ).loc main_arg0) := by
  obtain ⟨h, -⟩ := win_index t
  funext j
  show m ((c : Thread nD τ).loc main_arg0) _ = m ((c : Thread nD τ).loc main_arg0) j
  refine congrArg (m ((c : Thread nD τ).loc main_arg0)) ?_
  funext a; apply Fin.ext
  match a with
  | ⟨0, _⟩ => show win0_0.index t 0 * 8 + 1 * (j 0).val = (j 0).val; rw [h]; simp
  | ⟨1, _⟩ => show win0_0.index t 1 * 2232 + 1 * (j 1).val = (j 1).val; rw [h]; simp
  | ⟨2, _⟩ => show win0_0.index t 2 * 128 + 1 * (j 2).val = (j 2).val; rw [h]; simp

theorem blk1 : (iblk m c 1 t : Vec Ideal S2232x128 .f32) = m ((c : Thread nD τ).loc main_arg1) := by
  obtain ⟨-, h, -⟩ := win_index t
  exact funext fun j => congrArg (m ((c : Thread nD τ).loc main_arg1)) (funext fun a => Fin.ext (at_zero h S2232x128.size a (j a)))

theorem blk2 : (iblk m c 2 t : Vec Ideal S2232x128 .f32) = m ((c : Thread nD τ).loc main_arg2) := by
  obtain ⟨-, -, h, -⟩ := win_index t
  exact funext fun j => congrArg (m ((c : Thread nD τ).loc main_arg2)) (funext fun a => Fin.ext (at_zero h S2232x128.size a (j a)))

theorem blk3 : (iblk m c 3 t : Vec Ideal S2232x128 .f32) = m ((c : Thread nD τ).loc main_arg3) := by
  obtain ⟨-, -, -, h, -⟩ := win_index t
  exact funext fun j => congrArg (m ((c : Thread nD τ).loc main_arg3)) (funext fun a => Fin.ext (at_zero h S2232x128.size a (j a)))

/-- The grid's point. -/
abbrev t0 : Fin cfg0.N := ⟨0, lt_of_lt_of_eq (by omega) N_0.symm⟩

/-! The four arrays after the run. -/

theorem final4 : (Gen.dats m 0 c).arrAt 4 cfg0.N = G (m ((c : Thread nD τ).loc main_arg0)) := by
  refine (Gen.dats m 0 c).arrAt_eq_of_cover 4 _ (fun t _ => ?_) (fun (i : S2232x128.Idx) => ⟨t0, by decide +kernel, ?_⟩)
  · rw [Value.flushed4, out4, blk0]
    exact funext fun y => congrArg (G (m ((c : Thread nD τ).loc main_arg0))) (funext fun a => Fin.ext (at_zero ((win_index t).2.2.2.2.1) S2232x128.size a (y a)).symm)
  · show i ∈ ((View.whole main_v0_0).slice (win0_4.rect t0)).set
    rw [View.set_slice_whole, Rect.mem_set_unit]
    exact fun a => in_zero ((win_index t0).2.2.2.2.1) S2232x128.size a (i a).isLt

theorem final5 : (Gen.dats m 0 c).arrAt 5 cfg0.N = Dl (G (m ((c : Thread nD τ).loc main_arg0))) (m ((c : Thread nD τ).loc main_arg1)) (m ((c : Thread nD τ).loc main_arg2)) (m ((c : Thread nD τ).loc main_arg3)) := by
  refine (Gen.dats m 0 c).arrAt_eq_of_cover 5 _ (fun t _ => ?_) (fun (i : S2232x128.Idx) => ⟨t0, by decide +kernel, ?_⟩)
  · rw [Value.flushed5, out5, blk0, blk1, blk2, blk3]
    exact funext fun y => congrArg (Dl (G (m ((c : Thread nD τ).loc main_arg0))) (m ((c : Thread nD τ).loc main_arg1)) (m ((c : Thread nD τ).loc main_arg2)) (m ((c : Thread nD τ).loc main_arg3))) (funext fun a => Fin.ext (at_zero ((win_index t).2.2.2.2.2.1) S2232x128.size a (y a)).symm)
  · show i ∈ ((View.whole main_v0_1).slice (win0_5.rect t0)).set
    rw [View.set_slice_whole, Rect.mem_set_unit]
    exact fun a => in_zero ((win_index t0).2.2.2.2.2.1) S2232x128.size a (i a).isLt

theorem final6 : (Gen.dats m 0 c).arrAt 6 cfg0.N = M1 (G (m ((c : Thread nD τ).loc main_arg0))) (m ((c : Thread nD τ).loc main_arg2)) := by
  refine (Gen.dats m 0 c).arrAt_eq_of_cover 6 _ (fun t _ => ?_) (fun (i : S2232x128.Idx) => ⟨t0, by decide +kernel, ?_⟩)
  · rw [Value.flushed6, out6, blk0, blk2]
    exact funext fun y => congrArg (M1 (G (m ((c : Thread nD τ).loc main_arg0))) (m ((c : Thread nD τ).loc main_arg2))) (funext fun a => Fin.ext (at_zero ((win_index t).2.2.2.2.2.2.1) S2232x128.size a (y a)).symm)
  · show i ∈ ((View.whole main_v0_2).slice (win0_6.rect t0)).set
    rw [View.set_slice_whole, Rect.mem_set_unit]
    exact fun a => in_zero ((win_index t0).2.2.2.2.2.2.1) S2232x128.size a (i a).isLt

theorem final7 : (Gen.dats m 0 c).arrAt 7 cfg0.N = M2 (G (m ((c : Thread nD τ).loc main_arg0))) (m ((c : Thread nD τ).loc main_arg3)) := by
  refine (Gen.dats m 0 c).arrAt_eq_of_cover 7 _ (fun t _ => ?_) (fun (i : S2232x128.Idx) => ⟨t0, by decide +kernel, ?_⟩)
  · rw [Value.flushed7, out7, blk0, blk3]
    exact funext fun y => congrArg (M2 (G (m ((c : Thread nD τ).loc main_arg0))) (m ((c : Thread nD τ).loc main_arg3))) (funext fun a => Fin.ext (at_zero ((win_index t).2.2.2.2.2.2.2) S2232x128.size a (y a)).symm)
  · show i ∈ ((View.whole main_v0_3).slice (win0_7.rect t0)).set
    rw [View.set_slice_whole, Rect.mem_set_unit]
    exact fun a => in_zero ((win_index t0).2.2.2.2.2.2.2) S2232x128.size a (i a).isLt

end Cert.Kernel11Ideal.Adam

namespace Cert.Reference11Ideal.Adam

open Idealize.ShloMosaic Idealize.ShloMosaic.TcCoe Idealize.SL.Sem
open Cert.Reference11Ideal Cert.Reference11Ideal.Gen
open Cert.Adam (G)

theorem sum_eq (p : FVec Ideal S8x2232x128 .f32) :
    (Host.reduceAdd p (constant S_ .f32 0x00000000#32) reducesTo_S8x2232x128_S2232x128_d0 h_S_ : FVec Ideal S2232x128 .f32) = G p := by
  funext i
  pointwise [G]

end Cert.Reference11Ideal.Adam

namespace Cert.AdamSmall

open Idealize.ShloMosaic Idealize.ShloMosaic.TcCoe Idealize.SL.Sem
open Cert.Kernel11Ideal.Adam

theorem frameR : Cert.quiescent_Reference11Ideal (hReference11Ideal := Cert.Reference11Ideal.Gen.facts) := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

theorem algebraic : Cert.algebraic_Kernel11Ideal_Reference11Ideal (hKernel11Ideal := Cert.Kernel11Ideal.Gen.facts)
    (hReference11Ideal := Cert.Reference11Ideal.Gen.facts) := by
  intro m g m' g' _ hagree
  refine ⟨_, _, _, _, (θ_run Cert.Kernel11Ideal.defs _ _).mono (fun r h c => ⟨(h c).1.trans (final4 m c), (h c).2.1.trans (final5 m c),
    (h c).2.2.1.trans (final6 m c), (h c).2.2.2.1.trans (final7 m c), (h c).2.2.2.2⟩) (Cert.Kernel11Ideal.Value.run_blocks m g), ?_⟩
  refine (θ_run Cert.Reference11Ideal.defs _ _).mono (fun r h c => ?_) (Cert.Reference11Ideal.Value.run (F := Ideal) m' g')
  obtain ⟨h0, h1, h2, h3, hk⟩ := h c
  obtain ⟨e0, e1, e2, e3⟩ := hagree c
  erw [e0, Cert.Reference11Ideal.Adam.sum_eq] at h0 h1 h2 h3
  erw [e2, Cert.Adam.first_eq] at h1 h2
  erw [e3, Cert.Adam.second_eq] at h1 h3
  erw [e1, Cert.Adam.delta_eq] at h1
  exact ⟨h0, h1, h2, h3, hk⟩

end Cert.AdamSmall
-- ==== Proof.SguRef.lean ====
/- What the reference's run computes, read at an index: the same tables as the kernel's, up to the order of factors, but for
   the gradients of `z` and of the values, which the two programs spell differently. -/
module

public import proofs.«01_k».proof.Proof.SguHost
public import proofs.«01_k».proof.Proof.Gen.ReferenceIdeal.Run

@[expose] public section

set_option maxRecDepth 16384

noncomputable section

namespace Cert.ReferenceIdeal.Sgu

open Idealize.ShloMosaic Idealize.ShloMosaic.TcCoe Idealize.SL.Sem Idealize.ShloMosaic.StableHlo
open Cert.ReferenceIdeal Cert.ReferenceIdeal.Gen Cert.ReferenceIdeal.Value
open Cert.KernelIdeal.Sgu (Args mu cen rs hat sg silu grp gcol grow gpos prow)

variable (V0 : Valuation τ sig (Elt Ideal))

/-- The reference's operands as tables. -/
def rargs : Args where
  U r k := (V0 (Proc.devRef .tc main_arg0) : Vec Ideal S8192x16384 .bf16) (ix2 r ⟨k, by omega⟩)
  V r k := (V0 (Proc.devRef .tc main_arg0) : Vec Ideal S8192x16384 .bf16) (ix2 r ⟨2048 + k, by omega⟩)
  Z r k := (V0 (Proc.devRef .tc main_arg0) : Vec Ideal S8192x16384 .bf16) (ix2 r ⟨4096 + k, by omega⟩)
  C r k := (V0 (Proc.devRef .tc main_arg1) : Vec Ideal S8192x2048 .bf16) (ix2 r k)
  g k := (V0 (Proc.devRef .tc main_arg2) : Vec Ideal S1x2048 .f32) (ix2 0 k)
  b k := (V0 (Proc.devRef .tc main_arg3) : Vec Ideal S1x2048 .f32) (ix2 0 k)
  W g i j := (V0 (Proc.devRef .tc main_arg4) : Vec Ideal S1x16x128x128 .f32) (ix4 0 g i j)
  B g i := (V0 (Proc.devRef .tc main_arg5) : Vec Ideal S1x16x128 .f32) (ix3 0 g i)

theorem v1_eq : (res_main_v1 V0 : Vec Ideal S8192x2048 .f32) = fun j : S8192x2048.Idx => (rargs V0).U (j 0) (j 1) := by
  funext j; pointwise [res_main_v1]; rfl
theorem v3_eq : (res_main_v3 V0 : Vec Ideal S8192x2048 .f32) = fun j : S8192x2048.Idx => (rargs V0).V (j 0) (j 1) := by
  funext j; pointwise [res_main_v3]; rfl
theorem v5_eq : (res_main_v5 V0 : Vec Ideal S8192x2048 .f32) = fun j : S8192x2048.Idx => (rargs V0).Z (j 0) (j 1) := by
  funext j; pointwise [res_main_v5]; rfl
theorem v60_eq : (res_main_v60 V0 : Vec Ideal S8192x2048 .f32) = fun j : S8192x2048.Idx => (rargs V0).C (j 0) (j 1) := by
  funext j; pointwise [res_main_v60]; exact congrArg _ (ix2_eta j).symm

theorem v13_eq : (res_main_v13 V0 : Vec Ideal S8192x1 .f32) = fun j : S8192x1.Idx => mu ((rargs V0).V (j 0)) := by
  funext j; unfold res_main_v13; rw [v3_eq]; pointwise [mu]
theorem v15_eq : (res_main_v15 V0 : Vec Ideal S8192x2048 .f32) = fun j : S8192x2048.Idx => cen ((rargs V0).V (j 0)) (j 1) := by
  funext j; unfold res_main_v15; rw [v3_eq, v13_eq]; pointwise [cen]
theorem v24_eq : (res_main_v24 V0 : Vec Ideal S8192x2048 .f32) = fun j : S8192x2048.Idx => cen ((rargs V0).V (j 0)) (j 1) := by
  funext j; unfold res_main_v24; rw [v3_eq, v13_eq]; pointwise [cen]
/-- The variance of a row, and the small number. -/
def vr (x : Fin 2048 → EReal) : EReal :=
  Ideal.div (∑ k, cen x k * cen x k) (Ideal.ofBits .f32 0x45000000#32) + Ideal.ofBits .f32 0x3727C5AC#32
theorem v26_eq : (res_main_v26 V0 : Vec Ideal S8192x1 .f32) = fun j : S8192x1.Idx => vr ((rargs V0).V (j 0)) := by
  funext j; unfold res_main_v26; rw [v15_eq]; pointwise [vr]
theorem v27_eq : (res_main_v27 V0 : Vec Ideal S8192x1 .f32) = fun j : S8192x1.Idx => rs ((rargs V0).V (j 0)) := by
  funext j; unfold res_main_v27; rw [v26_eq]; pointwise [rs, vr]
theorem v32_eq : (res_main_v32 V0 : Vec Ideal S8192x2048 .f32) = fun j : S8192x2048.Idx => hat ((rargs V0).V (j 0)) (j 1) := by
  funext j; unfold res_main_v32; rw [v24_eq, v27_eq]; pointwise [hat]
theorem v33_eq : (res_main_v33 V0 : Vec Ideal S1x2048 .f32) = fun j : S1x2048.Idx => (rargs V0).g (j 1) := by
  funext j; pointwise [res_main_v33]
  refine congrArg (V0 (Proc.devRef .tc main_arg2)) ?_
  have h0 : (j 0 : Nat) < 1 := (j 0).isLt
  rw [← ix2_eta j]
  refine congrArg (fun a => ix2 a (j 1)) (Fin.ext (by show (j 0 : Nat) = 0; omega))
theorem grow_eq (n : Fin 64) (a : Fin 128) (h : (n : Nat) * 128 + a < 8192) : (⟨(n : Nat) * 128 + a, h⟩ : Fin 8192) = grow n a := by
  apply Fin.ext; simp only [grow]; omega
theorem gcol_eq (g : Fin 16) (k : Fin 128) (h : (g : Nat) * 128 + k < 2048) : (⟨(g : Nat) * 128 + k, h⟩ : Fin 2048) = gcol g k := by
  apply Fin.ext; simp only [gcol]; omega
theorem v39_eq : (res_main_v39 V0 : Vec Ideal S64x128x16x128 .f32) = fun j : S64x128x16x128.Idx => (rargs V0).vn (grow (j 0) (j 1)) (gcol (j 2) (j 3)) := by
  funext j; unfold res_main_v39; rw [v32_eq, v33_eq]; pointwise [Args.vn]
  erw [grow_eq (j 0) (j 1), gcol_eq (j 2) (j 3)]
  rfl
theorem v41_eq : (res_main_v41 V0 : IVec S128 32) = fun j : S128.Idx => BitVec.ofNat 32 ((j 0 : Nat) / 64) := by
  funext j
  unfold res_main_v41 res_main_call0_v2 res_main_call0_v0 res_main_v40
  rw [← ix1_eta j]
  generalize j 0 = k
  revert k
  decide +kernel
theorem v49_1_eq : (res_main_v49_1 V0 : IVec S16x128x128 1) = fun j : S16x128x128.Idx => if (j 2 : Nat) / 64 ≤ (j 1 : Nat) / 64 then 1#1 else 0#1 := by
  funext j; unfold res_main_v49_1; rw [v41_eq]; pointwise
  exact Cert.KernelIdeal.Sgu.mask_bit (j 1) (j 2)
theorem v49_0_eq : (res_main_v49_0 V0 : Vec Ideal S16x128x128 .f32) = fun j : S16x128x128.Idx => (rargs V0).w (j 0) (j 1) (j 2) := by
  funext j; unfold res_main_v49_0; rw [v49_1_eq]; pointwise [Args.w]
  split
  · rfl
  · rfl
theorem gcol_grp (k : Fin 2048) (h : (k : Nat) / 128 < 16) (h' : (k : Nat) % 128 < 128) : gcol ⟨(k : Nat) / 128, h⟩ ⟨(k : Nat) % 128, h'⟩ = k := by
  apply Fin.ext; simp only [gcol]; omega
theorem v56_eq : (res_main_v56 V0 : Vec Ideal S8192x2048 .f32) = fun j : S8192x2048.Idx => (rargs V0).mx (j 0) (j 1) := by
  funext j; unfold res_main_v56; rw [v39_eq, v49_0_eq]; pointwise [Args.mx]
  refine congrArg₂ (· + ·) (Finset.sum_congr rfl fun k _ => ?_) rfl
  erw [gcol_grp (j 1), mul_comm]
  rfl
theorem v58_2_eq : (res_main_v58_2 V0 : Vec Ideal S8192x2048 .f32) = fun j : S8192x2048.Idx => sg ((rargs V0).Z (j 0) (j 1)) := by
  funext j; unfold res_main_v58_2; rw [v5_eq]; pointwise [sg]; rw [zero_sub]
theorem v58_0_eq : (res_main_v58_0 V0 : Vec Ideal S8192x2048 .f32) = fun j : S8192x2048.Idx => silu ((rargs V0).Z (j 0) (j 1)) := by
  funext j; unfold res_main_v58_0; rw [v5_eq, v58_2_eq]; pointwise [silu]
theorem v61_eq : (res_main_v61 V0 : Vec Ideal S8192x2048 .f32) = fun j : S8192x2048.Idx => (rargs V0).C (j 0) (j 1) * (rargs V0).U (j 0) (j 1) * (rargs V0).mx (j 0) (j 1) := by
  funext j; unfold res_main_v61 res_main_v57; rw [v1_eq, v56_eq, v60_eq]; pointwise
  ac_rfl
theorem v62_eq : (res_main_v62 V0 : Vec Ideal S8192x2048 .f32) = fun j : S8192x2048.Idx => (rargs V0).C (j 0) (j 1) * silu ((rargs V0).Z (j 0) (j 1)) := by
  funext j; unfold res_main_v62; rw [v58_0_eq, v60_eq]; pointwise
theorem v66_eq : (res_main_v66 V0 : Vec Ideal S64x128x16x128 .f32) = fun j : S64x128x16x128.Idx => (rargs V0).dm (grow (j 0) (j 1)) (gcol (j 2) (j 3)) := by
  funext j; unfold res_main_v66; rw [v1_eq, v62_eq]; pointwise [Args.dm]
  erw [grow_eq (j 0) (j 1), gcol_eq (j 2) (j 3)]
  ac_rfl
theorem v71_eq : (res_main_v71 V0 : Vec Ideal S16x64x128x128 .f32) = fun j : S16x64x128x128.Idx => (rargs V0).dm (grow (j 1) (j 3)) (gcol (j 0) (j 2)) := by
  funext j; unfold res_main_v71; rw [v66_eq]; pointwise
theorem v76_eq : (res_main_v76 V0 : Vec Ideal S8192x2048 .f32) = fun j : S8192x2048.Idx => (rargs V0).dvn (j 0) (j 1) := by
  funext j; unfold res_main_v76; rw [v71_eq, v49_0_eq]; pointwise [Args.dvn]
  refine Finset.sum_congr (M := EReal) rfl fun k _ => ?_
  erw [gcol_grp (j 1), mul_comm]
  rfl
theorem v84_eq : (res_main_v84 V0 : Vec Ideal S8192x2048 .f32) = fun j : S8192x2048.Idx => (rargs V0).dvh (j 0) (j 1) := by
  funext j; unfold res_main_v84; rw [v76_eq, v33_eq]; pointwise [Args.dvh]
theorem v90_eq : (res_main_v90 V0 : Vec Ideal S8192x2048 .f32) = fun j : S8192x2048.Idx => (rargs V0).dvh (j 0) (j 1) * rs ((rargs V0).V (j 0)) := by
  funext j; unfold res_main_v90; rw [v84_eq, v27_eq]; pointwise
/-- What the variance's gradient adds to the values'. -/
def dvar (a : Args) (r : Fin 8192) (k : Fin 2048) : EReal :=
  Ideal.div ((∑ x, cen (a.V r) x * a.dvh r x) * (Ideal.ofBits .f32 0xBF000000#32 * Ideal.div (rs (a.V r)) (vr (a.V r)))) (Ideal.ofBits .f32 0x45000000#32)
    * (Ideal.ofBits .f32 0x40000000#32 * cen (a.V r) k)
/-- The values' gradient as the reference spells it. -/
def rdv (a : Args) (r : Fin 8192) (k : Fin 2048) : EReal :=
  a.dvh r k * rs (a.V r) + dvar a r k
    + Ideal.div ((∑ x, -(a.dvh r x * rs (a.V r))) + ∑ x, -dvar a r x) (Ideal.ofBits .f32 0x45000000#32)
/-- The gradient of `z` as the reference spells it. -/
def rdz (a : Args) (r : Fin 8192) (k : Fin 2048) : EReal :=
  a.C r k * a.U r k * a.mx r k * sg (a.Z r k) + a.Z r k * (a.C r k * a.U r k * a.mx r k) * (sg (a.Z r k) * (1 - sg (a.Z r k)))
/-- The projection's gradient as the reference spells it. -/
def rdp (a : Args) (r : Fin 8192) (k : Fin 6144) : EReal :=
  if h : (k : Nat) < 2048 then a.du r ⟨k, h⟩ else if h : (k : Nat) < 4096 then rdv a r ⟨k - 2048, by omega⟩ else rdz a r ⟨k - 4096, by omega⟩

theorem v99_eq : (res_main_v99 V0 : Vec Ideal S8192x2048 .f32) = fun j : S8192x2048.Idx => dvar (rargs V0) (j 0) (j 1) := by
  funext j; unfold res_main_v99; rw [v84_eq, v27_eq, v26_eq, v24_eq, v15_eq]; pointwise
  rw [Fin.sum_univ_one]
  rfl

/-! ## The five results -/

/-- The sum over the first and the last axis of four. -/
theorem sum_first_last {n0 n1 n2 n3 : Nat} (h : (⟨4, ![n0, n1, n2, n3]⟩ : Shape).ReducesTo [0, 3] (⟨2, ![n1, n2]⟩ : Shape))
    (v : (⟨4, ![n0, n1, n2, n3]⟩ : Shape).Idx → EReal) (init : EReal) (j : (⟨2, ![n1, n2]⟩ : Shape).Idx) :
    Ideal.hostReduceAdd h v init j = init + ∑ d : Fin n3, ∑ a : Fin n0, v (ix4 a (j 0) (j 1) d) := by
  unfold Ideal.hostReduceAdd
  refine congrArg (init + ·) ?_
  rw [← Fintype.sum_prod_type' (f := fun (d : Fin n3) (a : Fin n0) => v (ix4 a (j 0) (j 1) d))]
  symm
  refine Finset.sum_bij (fun k _ => ix4 k.2 (j 0) (j 1) k.1) ?_ ?_ ?_ ?_
  · intro k _
    refine Finset.mem_filter.2 ⟨Finset.mem_univ _, ?_⟩
    funext b; apply Fin.ext
    rw [Shape.ReducesTo.drop_apply_val]
    match b with
    | ⟨0, _⟩ => rfl
    | ⟨1, _⟩ => rfl
  · intro a _ b _ e
    exact Prod.ext (congrFun e 3) (congrFun e 0)
  · intro i hi
    have e := (Finset.mem_filter.1 hi).2
    refine ⟨(i 3, i 0), Finset.mem_univ _, ?_⟩
    funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · intro k _; rfl

/-- A sum over the rows, a point's rows at a time. -/
theorem sum_rows (f : Fin 8192 → EReal) : (∑ r, f r) = ∑ t ∈ Finset.range 16, ∑ r, f (prow t r) := by
  rw [Finset.sum_range (f := fun t => ∑ r, f (prow t r)), ← Fintype.sum_prod_type' (f := fun (t : Fin 16) (r : Fin 512) => f (prow t r))]
  refine (Fintype.sum_equiv (finProdFinEquiv (m := 16) (n := 512)) _ _ fun k => congrArg f (Fin.ext ?_)).symm
  have := k.1.isLt; have := k.2.isLt
  simp only [prow, finProdFinEquiv_apply_val]
  omega

theorem pad_zero : FloatOps.sitofp (F := Ideal) FTy.f32 (0#32) = (0 : EReal) := by
  show (((0#32 : BitVec 32).toInt : ℝ) : EReal) = 0; simp

theorem run_tables (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v115) = (fun i : S8192x6144.Idx => rdp (rargs (launchContents m c)) (i 0) (i 1))
      ∧ r.2.mem ((c.tc : Thread nD τ).loc main_v116) = (fun j : S16x128x128.Idx => (rargs (launchContents m c)).dw (j 0) (j 1) (j 2))
      ∧ r.2.mem ((c.tc : Thread nD τ).loc main_v119) = (fun j : S128x128.Idx => if h : (j 1 : Nat) < 16 then (rargs (launchContents m c)).dbs (j 0) ⟨j 1, h⟩ else (0 : EReal))
      ∧ r.2.mem ((c.tc : Thread nD τ).loc main_v120) = (fun j : S8x2048.Idx => if (j 0 : Nat) = 0 then (rargs (launchContents m c)).dg (j 1) else (0 : EReal))
      ∧ r.2.mem ((c.tc : Thread nD τ).loc main_v121) = (fun j : S8x2048.Idx => if (j 0 : Nat) = 0 then (rargs (launchContents m c)).db (j 1) else (0 : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Value.run m ρ)
  obtain ⟨h0, h1, h2, h3, h4, hk⟩ := h c
  clear h
  refine ⟨h0.trans ?_, h1.trans ?_, h2.trans ?_, h3.trans ?_, h4.trans ?_, hk⟩ <;> clear h0 h1 h2 h3 h4 hk
  · funext j; rw [v90_eq, v99_eq, v62_eq, v56_eq, v61_eq, v58_2_eq, v5_eq]; pointwise [rdp]
    have h2 : ((j 1 : Nat) - 2048 < 2048) = ((j 1 : Nat) < 4096) := by simp only [eq_iff_iff]; omega
    simp only [Fin.sum_univ_one, Nat.sub_sub, h2]
    split
    · exact mul_right_comm _ _ _
    · rfl
  · funext j; rw [v49_1_eq, v71_eq, v39_eq]; pointwise [Args.dw, Args.pw]
    rw [Finset.sum_range]
    split
    · rfl
    · rfl
  · funext j; rw [v66_eq]; pointwise [Args.dbs]
    rw [pad_zero]
    split
    next h =>
      erw [sum_first_last]
      pointwise
      erw [sum_first_last]
      simp only [Finset.sum_range]
      refine (Fin.sum_univ_one _).trans ((Fin.sum_univ_one _).trans ((zero_add _).trans ?_))
      rfl
    next h => rfl
  · funext j; rw [v32_eq, v76_eq]; pointwise [Args.dg]
    rw [pad_zero, Fin.sum_univ_one]
    simp only [Nat.lt_one_iff, dite_eq_ite]
    rw [sum_rows]
    simp only [mul_comm]
  · funext j; rw [v76_eq]; pointwise [Args.db]
    rw [pad_zero, Fin.sum_univ_one]
    simp only [Nat.lt_one_iff, dite_eq_ite]
    rw [sum_rows]

end Cert.ReferenceIdeal.Sgu

end
-- ==== Proof.SguReal.lean ====
/- The two spellings of the gradients of `z` and of the values agree where the operands are real numbers. -/
module

public import proofs.«01_k».proof.Proof.SguRef
public import proofs.«01_k».proof.Proof.SguFold

@[expose] public section

noncomputable section

namespace Cert.ReferenceIdeal.Sgu

open Idealize.ShloMosaic
open Cert.KernelIdeal.Sgu (Args mu cen rs hat sg silu grp gcol grow gpos prow)

/-! ## Real numbers among the extended reals -/

/-- An extended real that is a real number. -/
def Re (x : EReal) : Prop := ∃ y : ℝ, x = y

theorem Re.add {x y : EReal} : Re x → Re y → Re (x + y) := fun ⟨a, ha⟩ ⟨b, hb⟩ => ⟨a + b, by rw [ha, hb, EReal.coe_add]⟩
theorem Re.mul {x y : EReal} : Re x → Re y → Re (x * y) := fun ⟨a, ha⟩ ⟨b, hb⟩ => ⟨a * b, by rw [ha, hb, EReal.coe_mul]⟩

theorem coe_sum {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

theorem Re.sum {ι : Type*} (s : Finset ι) (f : ι → EReal) (h : ∀ k, Re (f k)) : Re (∑ k ∈ s, f k) := by
  choose g hg using h
  exact ⟨∑ k ∈ s, g k, by rw [← coe_sum]; exact Finset.sum_congr rfl fun k _ => hg k⟩

/-! ## The constants -/

theorem c2048 : Ideal.ofBits .f32 0x45000000#32 = ((2048 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num
theorem cmh : Ideal.ofBits .f32 0xBF000000#32 = ((-1 / 2 : ℝ) : EReal) := by
  simp [Ideal.ofBits, Ideal.ieee, -EReal.coe_mul]; norm_num
theorem ceps : ∃ e : ℝ, 0 < e ∧ Ideal.ofBits .f32 0x3727C5AC#32 = (e : EReal) := by
  refine ⟨10995116 / 2 ^ 40, by norm_num, ?_⟩
  simp [Ideal.ofBits, Ideal.ieee, -EReal.coe_mul]; norm_num

theorem div_real (x : ℝ) {y : ℝ} (hy : y ≠ 0) : Ideal.div (x : EReal) (y : EReal) = ((x / y : ℝ) : EReal) := by
  rw [Ideal.div_coe hy, ← EReal.coe_mul]; congr 1; ring

/-! ## The sigmoid -/

theorem sg_real (z : ℝ) : sg (z : EReal) = ((1 / (1 + Real.exp (-z)) : ℝ) : EReal) := by
  unfold sg
  rw [← EReal.coe_zero, ← EReal.coe_sub, Ideal.exp_coe, ← EReal.coe_one, ← EReal.coe_add, zero_sub,
    div_real _ (by positivity)]

theorem Re.silu {z : EReal} : Re z → Re (silu z) := fun ⟨a, ha⟩ => by
  subst ha
  exact Re.mul ⟨a, rfl⟩ ⟨_, sg_real a⟩

/-! ## Normalisation of a row -/

section
variable (x : Fin 2048 → ℝ)
def rmu : ℝ := (∑ k, x k) / 2048
def rcen (c : Fin 2048) : ℝ := x c - rmu x
theorem mu_real : mu (fun k => (x k : EReal)) = (rmu x : EReal) := by
  unfold mu rmu; rw [c2048, coe_sum, div_real _ (by norm_num)]
theorem cen_real (c : Fin 2048) : cen (fun k => (x k : EReal)) c = (rcen x c : EReal) := by
  unfold cen rcen; rw [mu_real, EReal.coe_sub]
theorem rcen_sum : ∑ c, rcen x c = 0 := by
  unfold rcen rmu
  rw [Finset.sum_sub_distrib, Finset.sum_const, Finset.card_univ, Fintype.card_fin, nsmul_eq_mul]
  push_cast; ring

/-- The reciprocal deviation and the variance, as real numbers. -/
theorem rs_real : ∃ v s : ℝ, 0 < v ∧ s * s = v⁻¹ ∧ vr (fun k => (x k : EReal)) = (v : EReal) ∧ rs (fun k => (x k : EReal)) = (s : EReal) := by
  obtain ⟨e, he, hw⟩ := ceps
  have hv : 0 < (∑ k, rcen x k * rcen x k) / 2048 + e := by
    have : 0 ≤ ∑ k, rcen x k * rcen x k := Finset.sum_nonneg fun k _ => mul_self_nonneg _
    positivity
  have h : vr (fun k => (x k : EReal)) = (((∑ k, rcen x k * rcen x k) / 2048 + e : ℝ) : EReal) := by
    unfold vr
    simp only [cen_real, ← EReal.coe_mul]
    rw [coe_sum, c2048, div_real _ (by norm_num), hw, ← EReal.coe_add]
  refine ⟨_, (Real.sqrt ((∑ k, rcen x k * rcen x k) / 2048 + e))⁻¹, hv, ?_, h, ?_⟩
  · rw [← mul_inv, Real.mul_self_sqrt hv.le]
  · show Ideal.rsqrt (vr fun k => (x k : EReal)) = _
    rw [h, Ideal.rsqrt_coe, if_neg (not_lt.2 hv.le), if_neg hv.ne']
end

/-! ## The operands real, the two spellings agree -/

/-- Every operand real. -/
structure Fin' (a : Args) : Prop where
  U : ∀ r k, Re (a.U r k)
  V : ∀ r k, Re (a.V r k)
  Z : ∀ r k, Re (a.Z r k)
  C : ∀ r k, Re (a.C r k)
  g : ∀ k, Re (a.g k)
  b : ∀ k, Re (a.b k)
  W : ∀ g i j, Re (a.W g i j)
  B : ∀ g i, Re (a.B g i)

variable {a : Args} (ha : Fin' a)
include ha

theorem re_w (g i j) : Re (a.w g i j) := by
  unfold Args.w; split
  · exact ha.W _ _ _
  · exact ⟨0, EReal.coe_zero.symm⟩

theorem re_hat (r k) : Re (hat (a.V r) k) := by
  choose x hx using ha.V r
  obtain ⟨v, s, -, -, -, es⟩ := rs_real x
  rw [show a.V r = fun k => (x k : EReal) from funext hx]
  exact Re.mul ⟨_, cen_real x k⟩ ⟨_, es⟩
theorem re_vn (r k) : Re (a.vn r k) := ((re_hat ha r k).mul (ha.g k)).add (ha.b k)
theorem re_dm (r k) : Re (a.dm r k) := ((ha.C r k).mul (ha.U r k)).mul (ha.Z r k).silu
theorem re_mx (r k) : Re (a.mx r k) := (Re.sum _ _ fun _ => (re_w ha _ _ _).mul (re_vn ha _ _)).add (ha.B _ _)
theorem re_dvn (r k) : Re (a.dvn r k) := Re.sum _ _ fun _ => (re_w ha _ _ _).mul (re_dm ha _ _)
theorem re_dvh (r k) : Re (a.dvh r k) := (re_dvn ha r k).mul (ha.g k)

theorem dz_eq (r k) : a.dz r k = rdz a r k := by
  unfold Args.dz rdz
  obtain ⟨z, hz⟩ := ha.Z r k
  obtain ⟨p, hp⟩ := ((ha.C r k).mul (ha.U r k)).mul (re_mx ha r k)
  rw [hp, hz, sg_real]
  simp only [← EReal.coe_one, ← EReal.coe_sub, ← EReal.coe_mul, ← EReal.coe_add]
  congr 1; ring

theorem dv_eq (r k) : a.dv r k = rdv a r k := by
  choose x hx using ha.V r
  choose G hG using re_dvh ha r
  have hV : a.V r = fun k => (x k : EReal) := funext hx
  obtain ⟨v, s, hv, hs, ev, es⟩ := rs_real x
  have ht : ∀ k, dvar a r k = (((∑ i, rcen x i * G i) * (-1 / 2 * (s / v)) / 2048 * (2 * rcen x k) : ℝ) : EReal) := by
    intro k
    unfold dvar
    simp only [hV, cen_real, hG, ev, es, c2048, c2, cmh, ← EReal.coe_mul, coe_sum, div_real _ hv.ne', div_real _ (show (2048 : ℝ) ≠ 0 by norm_num)]
  unfold rdv Args.dv hat
  simp only [ht]
  simp only [hV, cen_real, hG, es, c2048, ← EReal.coe_mul, ← EReal.coe_neg, coe_sum, ← EReal.coe_add, ← EReal.coe_sub, div_real _ (show (2048 : ℝ) ≠ 0 by norm_num)]
  congr 1
  have e1 : ∑ i, -((∑ i, rcen x i * G i) * (-1 / 2 * (s / v)) / 2048 * (2 * rcen x i)) = 0 := by
    rw [Finset.sum_neg_distrib, ← Finset.mul_sum, ← Finset.mul_sum, rcen_sum]; ring
  have e2 : ∑ i, -(G i * s) = -((∑ i, G i) * s) := by
    rw [Finset.sum_neg_distrib, Finset.sum_mul]
  have e3 : ∑ i, G i * (rcen x i * s) = (∑ i, rcen x i * G i) * s := by
    rw [Finset.sum_mul]; exact Finset.sum_congr rfl fun i _ => by ring
  rw [e1, e2, e3, div_eq_mul_inv s v, ← hs]
  ring

theorem dp_eq : a.dp = rdp a := by
  funext r k
  unfold Args.dp rdp
  split
  · rfl
  · split
    · exact dv_eq ha _ _
    · exact dz_eq ha _ _

end Cert.ReferenceIdeal.Sgu

end
-- ==== Proof.SguClaim.lean ====
/- The claims of the gating unit's backward call: what the precondition says of the arrays, and the two runs side by side. -/
module

public import proofs.«01_k».proof.Defs
public import proofs.«01_k».proof.Proof.SguReal

@[expose] public section

noncomputable section

namespace Cert.Sgu

open Idealize.ShloMosaic Idealize.ShloMosaic.StableHlo Idealize.SL.Sem
open Cert.ReferenceIdeal.Sgu (Re Fin' rargs run_tables dp_eq)
open Cert.KernelIdeal.Sgu (args res11 res12 res13 res14 res15)

/-- The shape relations of the precondition. -/
theorem preFacts : Cert.Pre_finite.Facts := by constructor <;> decide

/-! ## The precondition, read at an index -/

/-- An extended real whose absolute value is below infinity is a real number. -/
theorem re_of_abs {x y : EReal} (hy : y = ⊤) (h : BitVec.ofBool (decide (max x (-x) < y)) = 1#1) : Re x := by
  have h' : max x (-x) < ⊤ := by
    by_contra hn
    simp [hy, hn] at h
  rw [max_lt_iff] at h'
  induction x using EReal.rec with
  | bot => exact absurd h'.2 (by simp)
  | top => exact absurd h'.1 (by simp)
  | coe y => exact ⟨y, rfl⟩

theorem inf16 : Ideal.ofBits .bf16 0x7F80#16 = ⊤ := by simp [Ideal.ofBits, Ideal.ieee]
theorem inf32 : Ideal.ofBits .f32 0x7F800000#32 = ⊤ := by simp [Ideal.ofBits, Ideal.ieee]

theorem finite_of (m : (ℓ : Loc Cert.KernelIdeal.nD Cert.KernelIdeal.τ Cert.KernelIdeal.sig) → Buf (Elt Ideal) ℓ)
    (h : Cert.Pre_KernelIdeal_finite (hPre_finite := preFacts) m) (c : Dev Cert.KernelIdeal.nD) : Fin' (args m c) := by
  obtain ⟨h0, h1, h2, h3, h4, h5⟩ := h c
  have a0 := fun (r : Fin 8192) (k : Fin 6144) => congrFun h0 (ix2 r k)
  have a1 := fun (r : Fin 8192) (k : Fin 2048) => congrFun h1 (ix2 r k)
  have a2 := fun (k : Fin 2048) => congrFun h2 (ix2 (0 : Fin 1) k)
  have a3 := fun (k : Fin 2048) => congrFun h3 (ix2 (0 : Fin 1) k)
  have a4 := fun (g : Fin 16) (i j : Fin 128) => congrFun h4 (ix4 (0 : Fin 1) g i j)
  have a5 := fun (g : Fin 16) (i : Fin 128) => congrFun h5 (ix3 (0 : Fin 1) g i)
  clear h0 h1 h2 h3 h4 h5
  simp only [Cert.Pre_finite.fn, Cert.Pre_finite.fn_part1] at a0 a1 a2 a3 a4 a5
  constructor
  · intro r k
    have := a0 r ⟨k, by omega⟩
    pointwise at this
    exact re_of_abs inf16 this
  · intro r k
    have := a0 r ⟨2048 + k, by omega⟩
    pointwise at this
    exact re_of_abs inf16 this
  · intro r k
    have := a0 r ⟨4096 + k, by omega⟩
    pointwise at this
    exact re_of_abs inf16 this
  · intro r k
    have := a1 r k
    pointwise at this
    exact re_of_abs inf16 this
  · intro k
    have := a2 k
    pointwise at this
    exact re_of_abs inf32 this
  · intro k
    have := a3 k
    pointwise at this
    exact re_of_abs inf32 this
  · intro g i j
    have := a4 g i j
    pointwise at this
    exact re_of_abs inf32 this
  · intro g i
    have := a5 g i
    pointwise at this
    exact re_of_abs inf32 this

theorem rargs_eq {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    rargs (launchContents m' c) = args m c := by
  have g0 : launchContents m' c (Proc.devRef .tc Cert.ReferenceIdeal.main_arg0) = m ((c.tc : Thread Cert.KernelIdeal.nD Cert.KernelIdeal.τ).loc Cert.KernelIdeal.main_arg0) := h0
  have g1 : launchContents m' c (Proc.devRef .tc Cert.ReferenceIdeal.main_arg1) = m ((c.tc : Thread Cert.KernelIdeal.nD Cert.KernelIdeal.τ).loc Cert.KernelIdeal.main_arg1) := h1
  have g2 : launchContents m' c (Proc.devRef .tc Cert.ReferenceIdeal.main_arg2) = m ((c.tc : Thread Cert.KernelIdeal.nD Cert.KernelIdeal.τ).loc Cert.KernelIdeal.main_arg2) := h2
  have g3 : launchContents m' c (Proc.devRef .tc Cert.ReferenceIdeal.main_arg3) = m ((c.tc : Thread Cert.KernelIdeal.nD Cert.KernelIdeal.τ).loc Cert.KernelIdeal.main_arg3) := h3
  have g4 : launchContents m' c (Proc.devRef .tc Cert.ReferenceIdeal.main_arg4) = m ((c.tc : Thread Cert.KernelIdeal.nD Cert.KernelIdeal.τ).loc Cert.KernelIdeal.main_arg4) := h4
  have g5 : launchContents m' c (Proc.devRef .tc Cert.ReferenceIdeal.main_arg5) = m ((c.tc : Thread Cert.KernelIdeal.nD Cert.KernelIdeal.τ).loc Cert.KernelIdeal.main_arg5) := h5
  unfold rargs args
  rw [g0, g1, g2, g3, g4, g5]

/-! ## The claims -/

theorem frameR : Cert.quiescent_ReferenceIdeal (hReferenceIdeal := Cert.ReferenceIdeal.Gen.facts) := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

theorem algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hagree
  refine ⟨fun c => Cert.KernelIdeal.Value.G11 m c, fun c => Cert.KernelIdeal.Value.G12 m c, fun c => Cert.KernelIdeal.Value.G13 m c,
    fun c => Cert.KernelIdeal.Value.G14 m c, fun c => Cert.KernelIdeal.Value.G15 m c, Cert.KernelIdeal.Value.run m g, ?_⟩
  refine (θ_run Cert.ReferenceIdeal.defs _ _).mono (fun r h c => ?_) (run_tables m' g')
  obtain ⟨h0, h1, h2, h3, h4, hk⟩ := h c
  obtain ⟨e0, e1, e2, e3, e4, e5⟩ := hagree c
  have he := rargs_eq e0 e1 e2 e3 e4 e5
  rw [he] at h0 h1 h2 h3 h4
  rw [← dp_eq (finite_of m hpre c)] at h0
  exact ⟨h0.trans (res11 m c).symm, h1.trans (res12 m c).symm, h2.trans (res13 m c).symm, h3.trans (res14 m c).symm,
    h4.trans (res15 m c).symm, hk⟩

end Cert.Sgu

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.DxnSgu
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.DxnGate
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.DwOut
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.InProjValue
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.DwInValue
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.HeadClaim
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.DxnLastValue
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.SguFwd
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.AdamNorm
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.AdamSmall
public import proofs.«01_k».proof.Proof.SguClaim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Sgu.preFacts,
    fun m ρ _ => Cert.Kernel.Gen.frame m ρ, fun m ρ _ => Cert.KernelIdeal.Gen.frame m ρ, fun m ρ _ => Cert.KernelIdeal.Gen.frame m ρ,
    Cert.Sgu.frameR, fun m ρ _ => Cert.Sgu.frameR m ρ trivial,
    fun m ρ _ => Cert.Kernel2.Gen.frame m ρ, fun m ρ _ => Cert.Kernel2Ideal.Gen.frame m ρ, Cert.DxnSgu.frameR,
    fun m ρ _ => Cert.Kernel3.Gen.frame m ρ, fun m ρ _ => Cert.Kernel3Ideal.Gen.frame m ρ, Cert.DxnGate.frameR,
    fun m ρ _ => Cert.Kernel4.Gen.frame m ρ, fun m ρ _ => Cert.Kernel4Ideal.Gen.frame m ρ, Cert.DwOut.frameR,
    Cert.InProj.frame, Cert.InProj.frameI, Cert.InProj.frameR,
    Cert.DwIn.frame, Cert.DwIn.frameI, Cert.DwIn.frameR,
    fun m ρ _ => Cert.Kernel7.Gen.frame m ρ, fun m ρ _ => Cert.Kernel7Ideal.Gen.frame m ρ, Cert.Head.frameR,
    Cert.DxnLast.frame, Cert.DxnLast.frameI, Cert.DxnLast.frameR,
    fun m ρ _ => Cert.Kernel9.Gen.frame m ρ, fun m ρ _ => Cert.Kernel9Ideal.Gen.frame m ρ, Cert.SguFwd.frameR,
    fun m ρ _ => Cert.Kernel10.Gen.frame m ρ, fun m ρ _ => Cert.Kernel10Ideal.Gen.frame m ρ, Cert.AdamNorm.frameR,
    fun m ρ _ => Cert.Kernel11.Gen.frame m ρ, fun m ρ _ => Cert.Kernel11Ideal.Gen.frame m ρ, Cert.AdamSmall.frameR,
    trivial, Cert.Sgu.algebraic, trivial, Cert.DxnSgu.algebraic, trivial, Cert.DxnGate.algebraic, trivial, Cert.DwOut.algebraic, trivial, Cert.InProj.algebraic, trivial, Cert.DwIn.algebraic, trivial, Cert.Head.algebraic, trivial, Cert.DxnLast.algebraic, trivial, Cert.SguFwd.algebraic, trivial, Cert.AdamNorm.algebraic, trivial, Cert.AdamSmall.algebraic⟩

end Cert.Proof

end
